-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelNormP (m : (ℓ : Loc Cert.KernelNormP.nD Cert.KernelNormP.τ Cert.KernelNormP.sig) → Buf (Elt Bits) ℓ) : Prop :=
  True

def Pre_KernelNormPIdeal (m : (ℓ : Loc Cert.KernelNormPIdeal.nD Cert.KernelNormPIdeal.τ Cert.KernelNormPIdeal.sig) → Buf (Elt Ideal) ℓ) : Prop :=
  True

def Pre_ReferenceNormPIdeal (m : (ℓ : Loc Cert.ReferenceNormPIdeal.nD Cert.ReferenceNormPIdeal.τ Cert.ReferenceNormPIdeal.sig) → Buf (Elt Ideal) ℓ) : Prop :=
  True

def Pre_KernelNormS (m : (ℓ : Loc Cert.KernelNormS.nD Cert.KernelNormS.τ Cert.KernelNormS.sig) → Buf (Elt Bits) ℓ) : Prop :=
  True

def Pre_KernelNormSIdeal (m : (ℓ : Loc Cert.KernelNormSIdeal.nD Cert.KernelNormSIdeal.τ Cert.KernelNormSIdeal.sig) → Buf (Elt Ideal) ℓ) : Prop :=
  True

def Pre_ReferenceNormSIdeal (m : (ℓ : Loc Cert.ReferenceNormSIdeal.nD Cert.ReferenceNormSIdeal.τ Cert.ReferenceNormSIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_KernelQueryIdeal_finite_query [hPre_finite_query : Cert.Pre_finite_query.Facts] (m : (ℓ : Loc Cert.KernelQueryIdeal.nD Cert.KernelQueryIdeal.τ Cert.KernelQueryIdeal.sig) → Buf (Elt Ideal) ℓ) : Prop :=
  ∀ c : Dev Cert.KernelQueryIdeal.nD,
    (Cert.Pre_finite_query.fn (F := Ideal) (m ((c.tc : Thread Cert.KernelQueryIdeal.nD Cert.KernelQueryIdeal.τ).loc Cert.KernelQueryIdeal.main_arg0)) (m ((c.tc : Thread Cert.KernelQueryIdeal.nD Cert.KernelQueryIdeal.τ).loc Cert.KernelQueryIdeal.main_arg1)) (m ((c.tc : Thread Cert.KernelQueryIdeal.nD Cert.KernelQueryIdeal.τ).loc Cert.KernelQueryIdeal.main_arg2))) = (fun _ => 1#1)

def Pre_ReferenceQueryIdeal (m : (ℓ : Loc Cert.ReferenceQueryIdeal.nD Cert.ReferenceQueryIdeal.τ Cert.ReferenceQueryIdeal.sig) → Buf (Elt Ideal) ℓ) : Prop :=
  True

def Pre_ReferenceQueryIdeal_finite_query [hPre_finite_query : Cert.Pre_finite_query.Facts] (m : (ℓ : Loc Cert.ReferenceQueryIdeal.nD Cert.ReferenceQueryIdeal.τ Cert.ReferenceQueryIdeal.sig) → Buf (Elt Ideal) ℓ) : Prop :=
  ∀ c : Dev Cert.ReferenceQueryIdeal.nD,
    (Cert.Pre_finite_query.fn (F := Ideal) (m ((c.tc : Thread Cert.ReferenceQueryIdeal.nD Cert.ReferenceQueryIdeal.τ).loc Cert.ReferenceQueryIdeal.main_arg0)) (m ((c.tc : Thread Cert.ReferenceQueryIdeal.nD Cert.ReferenceQueryIdeal.τ).loc Cert.ReferenceQueryIdeal.main_arg1)) (m ((c.tc : Thread Cert.ReferenceQueryIdeal.nD Cert.ReferenceQueryIdeal.τ).loc Cert.ReferenceQueryIdeal.main_arg2))) = (fun _ => 1#1)

def Pre_KernelModPeer (m : (ℓ : Loc Cert.KernelModPeer.nD Cert.KernelModPeer.τ Cert.KernelModPeer.sig) → Buf (Elt Bits) ℓ) : Prop :=
  True

def Pre_KernelModPeerIdeal (m : (ℓ : Loc Cert.KernelModPeerIdeal.nD Cert.KernelModPeerIdeal.τ Cert.KernelModPeerIdeal.sig) → Buf (Elt Ideal) ℓ) : Prop :=
  True

def Pre_ReferenceModPeerIdeal (m : (ℓ : Loc Cert.ReferenceModPeerIdeal.nD Cert.ReferenceModPeerIdeal.τ Cert.ReferenceModPeerIdeal.sig) → Buf (Elt Ideal) ℓ) : Prop :=
  True

def Pre_KernelModGates (m : (ℓ : Loc Cert.KernelModGates.nD Cert.KernelModGates.τ Cert.KernelModGates.sig) → Buf (Elt Bits) ℓ) : Prop :=
  True

def Pre_KernelModGatesIdeal (m : (ℓ : Loc Cert.KernelModGatesIdeal.nD Cert.KernelModGatesIdeal.τ Cert.KernelModGatesIdeal.sig) → Buf (Elt Ideal) ℓ) : Prop :=
  True

def Pre_KernelModGatesIdeal_finite_gates [hPre_finite_gates : Cert.Pre_finite_gates.Facts] (m : (ℓ : Loc Cert.KernelModGatesIdeal.nD Cert.KernelModGatesIdeal.τ Cert.KernelModGatesIdeal.sig) → Buf (Elt Ideal) ℓ) : Prop :=
  ∀ c : Dev Cert.KernelModGatesIdeal.nD,
    (Cert.Pre_finite_gates.fn (F := Ideal) (m ((c.tc : Thread Cert.KernelModGatesIdeal.nD Cert.KernelModGatesIdeal.τ).loc Cert.KernelModGatesIdeal.main_arg0)) (m ((c.tc : Thread Cert.KernelModGatesIdeal.nD Cert.KernelModGatesIdeal.τ).loc Cert.KernelModGatesIdeal.main_arg1)) (m ((c.tc : Thread Cert.KernelModGatesIdeal.nD Cert.KernelModGatesIdeal.τ).loc Cert.KernelModGatesIdeal.main_arg2)) (m ((c.tc : Thread Cert.KernelModGatesIdeal.nD Cert.KernelModGatesIdeal.τ).loc Cert.KernelModGatesIdeal.main_arg3)) (m ((c.tc : Thread Cert.KernelModGatesIdeal.nD Cert.KernelModGatesIdeal.τ).loc Cert.KernelModGatesIdeal.main_arg4))) = (fun _ => 1#1)

def Pre_ReferenceModGatesIdeal (m : (ℓ : Loc Cert.ReferenceModGatesIdeal.nD Cert.ReferenceModGatesIdeal.τ Cert.ReferenceModGatesIdeal.sig) → Buf (Elt Ideal) ℓ) : Prop :=
  True

def Pre_ReferenceModGatesIdeal_finite_gates [hPre_finite_gates : Cert.Pre_finite_gates.Facts] (m : (ℓ : Loc Cert.ReferenceModGatesIdeal.nD Cert.ReferenceModGatesIdeal.τ Cert.ReferenceModGatesIdeal.sig) → Buf (Elt Ideal) ℓ) : Prop :=
  ∀ c : Dev Cert.ReferenceModGatesIdeal.nD,
    (Cert.Pre_finite_gates.fn (F := Ideal) (m ((c.tc : Thread Cert.ReferenceModGatesIdeal.nD Cert.ReferenceModGatesIdeal.τ).loc Cert.ReferenceModGatesIdeal.main_arg0)) (m ((c.tc : Thread Cert.ReferenceModGatesIdeal.nD Cert.ReferenceModGatesIdeal.τ).loc Cert.ReferenceModGatesIdeal.main_arg1)) (m ((c.tc : Thread Cert.ReferenceModGatesIdeal.nD Cert.ReferenceModGatesIdeal.τ).loc Cert.ReferenceModGatesIdeal.main_arg2)) (m ((c.tc : Thread Cert.ReferenceModGatesIdeal.nD Cert.ReferenceModGatesIdeal.τ).loc Cert.ReferenceModGatesIdeal.main_arg3)) (m ((c.tc : Thread Cert.ReferenceModGatesIdeal.nD Cert.ReferenceModGatesIdeal.τ).loc Cert.ReferenceModGatesIdeal.main_arg4))) = (fun _ => 1#1)

def Pre_KernelTable (m : (ℓ : Loc Cert.KernelTable.nD Cert.KernelTable.τ Cert.KernelTable.sig) → Buf (Elt Bits) ℓ) : Prop :=
  True

def Pre_KernelTableIdeal (m : (ℓ : Loc Cert.KernelTableIdeal.nD Cert.KernelTableIdeal.τ Cert.KernelTableIdeal.sig) → Buf (Elt Ideal) ℓ) : Prop :=
  True

def Pre_KernelTableIdeal_finite_table [hPre_finite_table : Cert.Pre_finite_table.Facts] (m : (ℓ : Loc Cert.KernelTableIdeal.nD Cert.KernelTableIdeal.τ Cert.KernelTableIdeal.sig) → Buf (Elt Ideal) ℓ) : Prop :=
  ∀ c : Dev Cert.KernelTableIdeal.nD,
    (Cert.Pre_finite_table.fn (F := Ideal) (m ((c.tc : Thread Cert.KernelTableIdeal.nD Cert.KernelTableIdeal.τ).loc Cert.KernelTableIdeal.main_arg0)) (m ((c.tc : Thread Cert.KernelTableIdeal.nD Cert.KernelTableIdeal.τ).loc Cert.KernelTableIdeal.main_arg1)) (m ((c.tc : Thread Cert.KernelTableIdeal.nD Cert.KernelTableIdeal.τ).loc Cert.KernelTableIdeal.main_arg2))) = (fun _ => 1#1)

def Pre_ReferenceTableIdeal (m : (ℓ : Loc Cert.ReferenceTableIdeal.nD Cert.ReferenceTableIdeal.τ Cert.ReferenceTableIdeal.sig) → Buf (Elt Ideal) ℓ) : Prop :=
  True

def Pre_ReferenceTableIdeal_finite_table [hPre_finite_table : Cert.Pre_finite_table.Facts] (m : (ℓ : Loc Cert.ReferenceTableIdeal.nD Cert.ReferenceTableIdeal.τ Cert.ReferenceTableIdeal.sig) → Buf (Elt Ideal) ℓ) : Prop :=
  ∀ c : Dev Cert.ReferenceTableIdeal.nD,
    (Cert.Pre_finite_table.fn (F := Ideal) (m ((c.tc : Thread Cert.ReferenceTableIdeal.nD Cert.ReferenceTableIdeal.τ).loc Cert.ReferenceTableIdeal.main_arg0)) (m ((c.tc : Thread Cert.ReferenceTableIdeal.nD Cert.ReferenceTableIdeal.τ).loc Cert.ReferenceTableIdeal.main_arg1)) (m ((c.tc : Thread Cert.ReferenceTableIdeal.nD Cert.ReferenceTableIdeal.τ).loc Cert.ReferenceTableIdeal.main_arg2))) = (fun _ => 1#1)

def Pre_KernelSpectrum (m : (ℓ : Loc Cert.KernelSpectrum.nD Cert.KernelSpectrum.τ Cert.KernelSpectrum.sig) → Buf (Elt Bits) ℓ) : Prop :=
  True

def Pre_KernelSpectrumIdeal (m : (ℓ : Loc Cert.KernelSpectrumIdeal.nD Cert.KernelSpectrumIdeal.τ Cert.KernelSpectrumIdeal.sig) → Buf (Elt Ideal) ℓ) : Prop :=
  True

def Pre_KernelSpectrumIdeal_finite_spectrum [hPre_finite_spectrum : Cert.Pre_finite_spectrum.Facts] (m : (ℓ : Loc Cert.KernelSpectrumIdeal.nD Cert.KernelSpectrumIdeal.τ Cert.KernelSpectrumIdeal.sig) → Buf (Elt Ideal) ℓ) : Prop :=
  ∀ c : Dev Cert.KernelSpectrumIdeal.nD,
    (Cert.Pre_finite_spectrum.fn (F := Ideal) (m ((c.tc : Thread Cert.KernelSpectrumIdeal.nD Cert.KernelSpectrumIdeal.τ).loc Cert.KernelSpectrumIdeal.main_arg0)) (m ((c.tc : Thread Cert.KernelSpectrumIdeal.nD Cert.KernelSpectrumIdeal.τ).loc Cert.KernelSpectrumIdeal.main_arg1)) (m ((c.tc : Thread Cert.KernelSpectrumIdeal.nD Cert.KernelSpectrumIdeal.τ).loc Cert.KernelSpectrumIdeal.main_arg2)) (m ((c.tc : Thread Cert.KernelSpectrumIdeal.nD Cert.KernelSpectrumIdeal.τ).loc Cert.KernelSpectrumIdeal.main_arg3)) (m ((c.tc : Thread Cert.KernelSpectrumIdeal.nD Cert.KernelSpectrumIdeal.τ).loc Cert.KernelSpectrumIdeal.main_arg4)) (m ((c.tc : Thread Cert.KernelSpectrumIdeal.nD Cert.KernelSpectrumIdeal.τ).loc Cert.KernelSpectrumIdeal.main_arg5)) (m ((c.tc : Thread Cert.KernelSpectrumIdeal.nD Cert.KernelSpectrumIdeal.τ).loc Cert.KernelSpectrumIdeal.main_arg6)) (m ((c.tc : Thread Cert.KernelSpectrumIdeal.nD Cert.KernelSpectrumIdeal.τ).loc Cert.KernelSpectrumIdeal.main_arg7)) (m ((c.tc : Thread Cert.KernelSpectrumIdeal.nD Cert.KernelSpectrumIdeal.τ).loc Cert.KernelSpectrumIdeal.main_arg8))) = (fun _ => 1#1)

def Pre_ReferenceSpectrumIdeal (m : (ℓ : Loc Cert.ReferenceSpectrumIdeal.nD Cert.ReferenceSpectrumIdeal.τ Cert.ReferenceSpectrumIdeal.sig) → Buf (Elt Ideal) ℓ) : Prop :=
  True

def Pre_ReferenceSpectrumIdeal_finite_spectrum [hPre_finite_spectrum : Cert.Pre_finite_spectrum.Facts] (m : (ℓ : Loc Cert.ReferenceSpectrumIdeal.nD Cert.ReferenceSpectrumIdeal.τ Cert.ReferenceSpectrumIdeal.sig) → Buf (Elt Ideal) ℓ) : Prop :=
  ∀ c : Dev Cert.ReferenceSpectrumIdeal.nD,
    (Cert.Pre_finite_spectrum.fn (F := Ideal) (m ((c.tc : Thread Cert.ReferenceSpectrumIdeal.nD Cert.ReferenceSpectrumIdeal.τ).loc Cert.ReferenceSpectrumIdeal.main_arg0)) (m ((c.tc : Thread Cert.ReferenceSpectrumIdeal.nD Cert.ReferenceSpectrumIdeal.τ).loc Cert.ReferenceSpectrumIdeal.main_arg1)) (m ((c.tc : Thread Cert.ReferenceSpectrumIdeal.nD Cert.ReferenceSpectrumIdeal.τ).loc Cert.ReferenceSpectrumIdeal.main_arg2)) (m ((c.tc : Thread Cert.ReferenceSpectrumIdeal.nD Cert.ReferenceSpectrumIdeal.τ).loc Cert.ReferenceSpectrumIdeal.main_arg3)) (m ((c.tc : Thread Cert.ReferenceSpectrumIdeal.nD Cert.ReferenceSpectrumIdeal.τ).loc Cert.ReferenceSpectrumIdeal.main_arg4)) (m ((c.tc : Thread Cert.ReferenceSpectrumIdeal.nD Cert.ReferenceSpectrumIdeal.τ).loc Cert.ReferenceSpectrumIdeal.main_arg5)) (m ((c.tc : Thread Cert.ReferenceSpectrumIdeal.nD Cert.ReferenceSpectrumIdeal.τ).loc Cert.ReferenceSpectrumIdeal.main_arg6)) (m ((c.tc : Thread Cert.ReferenceSpectrumIdeal.nD Cert.ReferenceSpectrumIdeal.τ).loc Cert.ReferenceSpectrumIdeal.main_arg7)) (m ((c.tc : Thread Cert.ReferenceSpectrumIdeal.nD Cert.ReferenceSpectrumIdeal.τ).loc Cert.ReferenceSpectrumIdeal.main_arg8))) = (fun _ => 1#1)

def Pre_KernelChunks (m : (ℓ : Loc Cert.KernelChunks.nD Cert.KernelChunks.τ Cert.KernelChunks.sig) → Buf (Elt Bits) ℓ) : Prop :=
  True

def Pre_KernelChunksIdeal (m : (ℓ : Loc Cert.KernelChunksIdeal.nD Cert.KernelChunksIdeal.τ Cert.KernelChunksIdeal.sig) → Buf (Elt Ideal) ℓ) : Prop :=
  True

def Pre_ReferenceChunksIdeal (m : (ℓ : Loc Cert.ReferenceChunksIdeal.nD Cert.ReferenceChunksIdeal.τ Cert.ReferenceChunksIdeal.sig) → Buf (Elt Ideal) ℓ) : Prop :=
  True

def Pre_KernelFilterP (m : (ℓ : Loc Cert.KernelFilterP.nD Cert.KernelFilterP.τ Cert.KernelFilterP.sig) → Buf (Elt Bits) ℓ) : Prop :=
  True

def Pre_KernelFilterPIdeal (m : (ℓ : Loc Cert.KernelFilterPIdeal.nD Cert.KernelFilterPIdeal.τ Cert.KernelFilterPIdeal.sig) → Buf (Elt Ideal) ℓ) : Prop :=
  True

def Pre_KernelFilterPIdeal_finite_filters [hPre_finite_filters : Cert.Pre_finite_filters.Facts] (m : (ℓ : Loc Cert.KernelFilterPIdeal.nD Cert.KernelFilterPIdeal.τ Cert.KernelFilterPIdeal.sig) → Buf (Elt Ideal) ℓ) : Prop :=
  ∀ c : Dev Cert.KernelFilterPIdeal.nD,
    (Cert.Pre_finite_filters.fn (F := Ideal) (m ((c.tc : Thread Cert.KernelFilterPIdeal.nD Cert.KernelFilterPIdeal.τ).loc Cert.KernelFilterPIdeal.main_arg0)) (m ((c.tc : Thread Cert.KernelFilterPIdeal.nD Cert.KernelFilterPIdeal.τ).loc Cert.KernelFilterPIdeal.main_arg1)) (m ((c.tc : Thread Cert.KernelFilterPIdeal.nD Cert.KernelFilterPIdeal.τ).loc Cert.KernelFilterPIdeal.main_arg2)) (m ((c.tc : Thread Cert.KernelFilterPIdeal.nD Cert.KernelFilterPIdeal.τ).loc Cert.KernelFilterPIdeal.main_arg3)) (m ((c.tc : Thread Cert.KernelFilterPIdeal.nD Cert.KernelFilterPIdeal.τ).loc Cert.KernelFilterPIdeal.main_arg4)) (m ((c.tc : Thread Cert.KernelFilterPIdeal.nD Cert.KernelFilterPIdeal.τ).loc Cert.KernelFilterPIdeal.main_arg5)) (m ((c.tc : Thread Cert.KernelFilterPIdeal.nD Cert.KernelFilterPIdeal.τ).loc Cert.KernelFilterPIdeal.main_arg6)) (m ((c.tc : Thread Cert.KernelFilterPIdeal.nD Cert.KernelFilterPIdeal.τ).loc Cert.KernelFilterPIdeal.main_arg7)) (m ((c.tc : Thread Cert.KernelFilterPIdeal.nD Cert.KernelFilterPIdeal.τ).loc Cert.KernelFilterPIdeal.main_arg8))) = (fun _ => 1#1)

def Pre_ReferenceFilterPIdeal (m : (ℓ : Loc Cert.ReferenceFilterPIdeal.nD Cert.ReferenceFilterPIdeal.τ Cert.ReferenceFilterPIdeal.sig) → Buf (Elt Ideal) ℓ) : Prop :=
  True

def Pre_ReferenceFilterPIdeal_finite_filters [hPre_finite_filters : Cert.Pre_finite_filters.Facts] (m : (ℓ : Loc Cert.ReferenceFilterPIdeal.nD Cert.ReferenceFilterPIdeal.τ Cert.ReferenceFilterPIdeal.sig) → Buf (Elt Ideal) ℓ) : Prop :=
  ∀ c : Dev Cert.ReferenceFilterPIdeal.nD,
    (Cert.Pre_finite_filters.fn (F := Ideal) (m ((c.tc : Thread Cert.ReferenceFilterPIdeal.nD Cert.ReferenceFilterPIdeal.τ).loc Cert.ReferenceFilterPIdeal.main_arg0)) (m ((c.tc : Thread Cert.ReferenceFilterPIdeal.nD Cert.ReferenceFilterPIdeal.τ).loc Cert.ReferenceFilterPIdeal.main_arg1)) (m ((c.tc : Thread Cert.ReferenceFilterPIdeal.nD Cert.ReferenceFilterPIdeal.τ).loc Cert.ReferenceFilterPIdeal.main_arg2)) (m ((c.tc : Thread Cert.ReferenceFilterPIdeal.nD Cert.ReferenceFilterPIdeal.τ).loc Cert.ReferenceFilterPIdeal.main_arg3)) (m ((c.tc : Thread Cert.ReferenceFilterPIdeal.nD Cert.ReferenceFilterPIdeal.τ).loc Cert.ReferenceFilterPIdeal.main_arg4)) (m ((c.tc : Thread Cert.ReferenceFilterPIdeal.nD Cert.ReferenceFilterPIdeal.τ).loc Cert.ReferenceFilterPIdeal.main_arg5)) (m ((c.tc : Thread Cert.ReferenceFilterPIdeal.nD Cert.ReferenceFilterPIdeal.τ).loc Cert.ReferenceFilterPIdeal.main_arg6)) (m ((c.tc : Thread Cert.ReferenceFilterPIdeal.nD Cert.ReferenceFilterPIdeal.τ).loc Cert.ReferenceFilterPIdeal.main_arg7)) (m ((c.tc : Thread Cert.ReferenceFilterPIdeal.nD Cert.ReferenceFilterPIdeal.τ).loc Cert.ReferenceFilterPIdeal.main_arg8))) = (fun _ => 1#1)

def Pre_KernelHyenaP (m : (ℓ : Loc Cert.KernelHyenaP.nD Cert.KernelHyenaP.τ Cert.KernelHyenaP.sig) → Buf (Elt Bits) ℓ) : Prop :=
  True

def Pre_KernelHyenaPIdeal (m : (ℓ : Loc Cert.KernelHyenaPIdeal.nD Cert.KernelHyenaPIdeal.τ Cert.KernelHyenaPIdeal.sig) → Buf (Elt Ideal) ℓ) : Prop :=
  True

def Pre_ReferenceHyenaPIdeal (m : (ℓ : Loc Cert.ReferenceHyenaPIdeal.nD Cert.ReferenceHyenaPIdeal.τ Cert.ReferenceHyenaPIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1)
      ∧ r.2.mem ((c.tc : Thread Cert.KernelInProj.nD Cert.KernelInProj.τ).loc Cert.KernelInProj.main_arg2) = m ((c.tc : Thread Cert.KernelInProj.nD Cert.KernelInProj.τ).loc Cert.KernelInProj.main_arg2))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1)
      ∧ r.2.mem ((c.tc : Thread Cert.ReferenceInProjIdeal.nD Cert.ReferenceInProjIdeal.τ).loc Cert.ReferenceInProjIdeal.main_arg2) = m ((c.tc : Thread Cert.ReferenceInProjIdeal.nD Cert.ReferenceInProjIdeal.τ).loc Cert.ReferenceInProjIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2)
      ∧ r.2.mem ((c.tc : Thread Cert.KernelOutProj.nD Cert.KernelOutProj.τ).loc Cert.KernelOutProj.main_arg3) = m ((c.tc : Thread Cert.KernelOutProj.nD Cert.KernelOutProj.τ).loc Cert.KernelOutProj.main_arg3))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
      ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2)
      ∧ r.2.mem ((c.tc : Thread Cert.ReferenceOutProjIdeal.nD Cert.ReferenceOutProjIdeal.τ).loc Cert.ReferenceOutProjIdeal.main_arg3) = m ((c.tc : Thread Cert.ReferenceOutProjIdeal.nD Cert.ReferenceOutProjIdeal.τ).loc Cert.ReferenceOutProjIdeal.main_arg3))
      ∧ r.2.sem = fun _ => 0)

def quiescent_KernelNormP [hKernelNormP : Cert.KernelNormP.Facts] : Prop :=
  ∀ (m : (ℓ : Loc Cert.KernelNormP.nD Cert.KernelNormP.τ Cert.KernelNormP.sig) → Buf (Elt Bits) ℓ) (g : Dev Cert.KernelNormP.nD → PrngReg), Pre_KernelNormP m →
    θ_run (Cert.KernelNormP.defs (F := Bits)) (onTc (τ := Cert.KernelNormP.τ) (Cert.KernelNormP.main (F := Bits))) ⟨m, fun _ => 0, g⟩ (fun r => (∀ c : Dev Cert.KernelNormP.nD,
      r.2.mem ((c.tc : Thread Cert.KernelNormP.nD Cert.KernelNormP.τ).loc Cert.KernelNormP.main_arg0) = m ((c.tc : Thread Cert.KernelNormP.nD Cert.KernelNormP.τ).loc Cert.KernelNormP.main_arg0)
      ∧ r.2.mem ((c.tc : Thread Cert.KernelNormP.nD Cert.KernelNormP.τ).loc Cert.KernelNormP.main_arg1) = m ((c.tc : Thread Cert.KernelNormP.nD Cert.KernelNormP.τ).loc Cert.KernelNormP.main_arg1))
      ∧ r.2.sem = fun _ => 0)

def quiescent_KernelNormPIdeal [hKernelNormPIdeal : Cert.KernelNormPIdeal.Facts] : Prop :=
  ∀ (m : (ℓ : Loc Cert.KernelNormPIdeal.nD Cert.KernelNormPIdeal.τ Cert.KernelNormPIdeal.sig) → Buf (Elt Ideal) ℓ) (g : Dev Cert.KernelNormPIdeal.nD → PrngReg), Pre_KernelNormPIdeal m →
    θ_run (Cert.KernelNormPIdeal.defs (F := Ideal)) (onTc (τ := Cert.KernelNormPIdeal.τ) (Cert.KernelNormPIdeal.main (F := Ideal))) ⟨m, fun _ => 0, g⟩ (fun r => (∀ c : Dev Cert.KernelNormPIdeal.nD,
      r.2.mem ((c.tc : Thread Cert.KernelNormPIdeal.nD Cert.KernelNormPIdeal.τ).loc Cert.KernelNormPIdeal.main_arg0) = m ((c.tc : Thread Cert.KernelNormPIdeal.nD Cert.KernelNormPIdeal.τ).loc Cert.KernelNormPIdeal.main_arg0)
      ∧ r.2.mem ((c.tc : Thread Cert.KernelNormPIdeal.nD Cert.KernelNormPIdeal.τ).loc Cert.KernelNormPIdeal.main_arg1) = m ((c.tc : Thread Cert.KernelNormPIdeal.nD Cert.KernelNormPIdeal.τ).loc Cert.KernelNormPIdeal.main_arg1))
      ∧ r.2.sem = fun _ => 0)

def quiescent_ReferenceNormPIdeal [hReferenceNormPIdeal : Cert.ReferenceNormPIdeal.Facts] : Prop :=
  ∀ (m : (ℓ : Loc Cert.ReferenceNormPIdeal.nD Cert.ReferenceNormPIdeal.τ Cert.ReferenceNormPIdeal.sig) → Buf (Elt Ideal) ℓ) (g : Dev Cert.ReferenceNormPIdeal.nD → PrngReg), Pre_ReferenceNormPIdeal m →
    θ_run (Cert.ReferenceNormPIdeal.defs (F := Ideal)) (onTc (τ := Cert.ReferenceNormPIdeal.τ) (Cert.ReferenceNormPIdeal.main (F := Ideal))) ⟨m, fun _ => 0, g⟩ (fun r => (∀ c : Dev Cert.ReferenceNormPIdeal.nD,
      r.2.mem ((c.tc : Thread Cert.ReferenceNormPIdeal.nD Cert.ReferenceNormPIdeal.τ).loc Cert.ReferenceNormPIdeal.main_arg0) = m ((c.tc : Thread Cert.ReferenceNormPIdeal.nD Cert.ReferenceNormPIdeal.τ).loc Cert.ReferenceNormPIdeal.main_arg0)
      ∧ r.2.mem ((c.tc : Thread Cert.ReferenceNormPIdeal.nD Cert.ReferenceNormPIdeal.τ).loc Cert.ReferenceNormPIdeal.main_arg1) = m ((c.tc : Thread Cert.ReferenceNormPIdeal.nD Cert.ReferenceNormPIdeal.τ).loc Cert.ReferenceNormPIdeal.main_arg1))
      ∧ r.2.sem = fun _ => 0)

def quiescent_KernelNormS [hKernelNormS : Cert.KernelNormS.Facts] : Prop :=
  ∀ (m : (ℓ : Loc Cert.KernelNormS.nD Cert.KernelNormS.τ Cert.KernelNormS.sig) → Buf (Elt Bits) ℓ) (g : Dev Cert.KernelNormS.nD → PrngReg), Pre_KernelNormS m →
    θ_run (Cert.KernelNormS.defs (F := Bits)) (onTc (τ := Cert.KernelNormS.τ) (Cert.KernelNormS.main (F := Bits))) ⟨m, fun _ => 0, g⟩ (fun r => (∀ c : Dev Cert.KernelNormS.nD,
      r.2.mem ((c.tc : Thread Cert.KernelNormS.nD Cert.KernelNormS.τ).loc Cert.KernelNormS.main_arg0) = m ((c.tc : Thread Cert.KernelNormS.nD Cert.KernelNormS.τ).loc Cert.KernelNormS.main_arg0)
      ∧ r.2.mem ((c.tc : Thread Cert.KernelNormS.nD Cert.KernelNormS.τ).loc Cert.KernelNormS.main_arg1) = m ((c.tc : Thread Cert.KernelNormS.nD Cert.KernelNormS.τ).loc Cert.KernelNormS.main_arg1))
      ∧ r.2.sem = fun _ => 0)

def quiescent_KernelNormSIdeal [hKernelNormSIdeal : Cert.KernelNormSIdeal.Facts] : Prop :=
  ∀ (m : (ℓ : Loc Cert.KernelNormSIdeal.nD Cert.KernelNormSIdeal.τ Cert.KernelNormSIdeal.sig) → Buf (Elt Ideal) ℓ) (g : Dev Cert.KernelNormSIdeal.nD → PrngReg), Pre_KernelNormSIdeal m →
    θ_run (Cert.KernelNormSIdeal.defs (F := Ideal)) (onTc (τ := Cert.KernelNormSIdeal.τ) (Cert.KernelNormSIdeal.main (F := Ideal))) ⟨m, fun _ => 0, g⟩ (fun r => (∀ c : Dev Cert.KernelNormSIdeal.nD,
      r.2.mem ((c.tc : Thread Cert.KernelNormSIdeal.nD Cert.KernelNormSIdeal.τ).loc Cert.KernelNormSIdeal.main_arg0) = m ((c.tc : Thread Cert.KernelNormSIdeal.nD Cert.KernelNormSIdeal.τ).loc Cert.KernelNormSIdeal.main_arg0)
      ∧ r.2.mem ((c.tc : Thread Cert.KernelNormSIdeal.nD Cert.KernelNormSIdeal.τ).loc Cert.KernelNormSIdeal.main_arg1) = m ((c.tc : Thread Cert.KernelNormSIdeal.nD Cert.KernelNormSIdeal.τ).loc Cert.KernelNormSIdeal.main_arg1))
      ∧ r.2.sem = fun _ => 0)

def quiescent_ReferenceNormSIdeal [hReferenceNormSIdeal : Cert.ReferenceNormSIdeal.Facts] : Prop :=
  ∀ (m : (ℓ : Loc Cert.ReferenceNormSIdeal.nD Cert.ReferenceNormSIdeal.τ Cert.ReferenceNormSIdeal.sig) → Buf (Elt Ideal) ℓ) (g : Dev Cert.ReferenceNormSIdeal.nD → PrngReg), Pre_ReferenceNormSIdeal m →
    θ_run (Cert.ReferenceNormSIdeal.defs (F := Ideal)) (onTc (τ := Cert.ReferenceNormSIdeal.τ) (Cert.ReferenceNormSIdeal.main (F := Ideal))) ⟨m, fun _ => 0, g⟩ (fun r => (∀ c : Dev Cert.ReferenceNormSIdeal.nD,
      r.2.mem ((c.tc : Thread Cert.ReferenceNormSIdeal.nD Cert.ReferenceNormSIdeal.τ).loc Cert.ReferenceNormSIdeal.main_arg0) = m ((c.tc : Thread Cert.ReferenceNormSIdeal.nD Cert.ReferenceNormSIdeal.τ).loc Cert.ReferenceNormSIdeal.main_arg0)
      ∧ r.2.mem ((c.tc : Thread Cert.ReferenceNormSIdeal.nD Cert.ReferenceNormSIdeal.τ).loc Cert.ReferenceNormSIdeal.main_arg1) = m ((c.tc : Thread Cert.ReferenceNormSIdeal.nD Cert.ReferenceNormSIdeal.τ).loc Cert.ReferenceNormSIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1)
      ∧ r.2.mem ((c.tc : Thread Cert.KernelQuery.nD Cert.KernelQuery.τ).loc Cert.KernelQuery.main_arg2) = m ((c.tc : Thread Cert.KernelQuery.nD Cert.KernelQuery.τ).loc Cert.KernelQuery.main_arg2))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_KernelQueryIdeal_pre_finite_query [hKernelQueryIdeal : Cert.KernelQueryIdeal.Facts] [hPre_finite_query : Cert.Pre_finite_query.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal_finite_query m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_ReferenceQueryIdeal_pre_finite_query [hReferenceQueryIdeal : Cert.ReferenceQueryIdeal.Facts] [hPre_finite_query : Cert.Pre_finite_query.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal_finite_query m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_KernelModPeer [hKernelModPeer : Cert.KernelModPeer.Facts] : Prop :=
  ∀ (m : (ℓ : Loc Cert.KernelModPeer.nD Cert.KernelModPeer.τ Cert.KernelModPeer.sig) → Buf (Elt Bits) ℓ) (g : Dev Cert.KernelModPeer.nD → PrngReg), Pre_KernelModPeer m →
    θ_run (Cert.KernelModPeer.defs (F := Bits)) (onTc (τ := Cert.KernelModPeer.τ) (Cert.KernelModPeer.main (F := Bits))) ⟨m, fun _ => 0, g⟩ (fun r => (∀ c : Dev Cert.KernelModPeer.nD,
      r.2.mem ((c.tc : Thread Cert.KernelModPeer.nD Cert.KernelModPeer.τ).loc Cert.KernelModPeer.main_arg0) = m ((c.tc : Thread Cert.KernelModPeer.nD Cert.KernelModPeer.τ).loc Cert.KernelModPeer.main_arg0)
      ∧ r.2.mem ((c.tc : Thread Cert.KernelModPeer.nD Cert.KernelModPeer.τ).loc Cert.KernelModPeer.main_arg1) = m ((c.tc : Thread Cert.KernelModPeer.nD Cert.KernelModPeer.τ).loc Cert.KernelModPeer.main_arg1)
      ∧ r.2.mem ((c.tc : Thread Cert.KernelModPeer.nD Cert.KernelModPeer.τ).loc Cert.KernelModPeer.main_arg2) = m ((c.tc : Thread Cert.KernelModPeer.nD Cert.KernelModPeer.τ).loc Cert.KernelModPeer.main_arg2))
      ∧ r.2.sem = fun _ => 0)

def quiescent_KernelModPeerIdeal [hKernelModPeerIdeal : Cert.KernelModPeerIdeal.Facts] : Prop :=
  ∀ (m : (ℓ : Loc Cert.KernelModPeerIdeal.nD Cert.KernelModPeerIdeal.τ Cert.KernelModPeerIdeal.sig) → Buf (Elt Ideal) ℓ) (g : Dev Cert.KernelModPeerIdeal.nD → PrngReg), Pre_KernelModPeerIdeal m →
    θ_run (Cert.KernelModPeerIdeal.defs (F := Ideal)) (onTc (τ := Cert.KernelModPeerIdeal.τ) (Cert.KernelModPeerIdeal.main (F := Ideal))) ⟨m, fun _ => 0, g⟩ (fun r => (∀ c : Dev Cert.KernelModPeerIdeal.nD,
      r.2.mem ((c.tc : Thread Cert.KernelModPeerIdeal.nD Cert.KernelModPeerIdeal.τ).loc Cert.KernelModPeerIdeal.main_arg0) = m ((c.tc : Thread Cert.KernelModPeerIdeal.nD Cert.KernelModPeerIdeal.τ).loc Cert.KernelModPeerIdeal.main_arg0)
      ∧ r.2.mem ((c.tc : Thread Cert.KernelModPeerIdeal.nD Cert.KernelModPeerIdeal.τ).loc Cert.KernelModPeerIdeal.main_arg1) = m ((c.tc : Thread Cert.KernelModPeerIdeal.nD Cert.KernelModPeerIdeal.τ).loc Cert.KernelModPeerIdeal.main_arg1)
      ∧ r.2.mem ((c.tc : Thread Cert.KernelModPeerIdeal.nD Cert.KernelModPeerIdeal.τ).loc Cert.KernelModPeerIdeal.main_arg2) = m ((c.tc : Thread Cert.KernelModPeerIdeal.nD Cert.KernelModPeerIdeal.τ).loc Cert.KernelModPeerIdeal.main_arg2))
      ∧ r.2.sem = fun _ => 0)

def quiescent_ReferenceModPeerIdeal [hReferenceModPeerIdeal : Cert.ReferenceModPeerIdeal.Facts] : Prop :=
  ∀ (m : (ℓ : Loc Cert.ReferenceModPeerIdeal.nD Cert.ReferenceModPeerIdeal.τ Cert.ReferenceModPeerIdeal.sig) → Buf (Elt Ideal) ℓ) (g : Dev Cert.ReferenceModPeerIdeal.nD → PrngReg), Pre_ReferenceModPeerIdeal m →
    θ_run (Cert.ReferenceModPeerIdeal.defs (F := Ideal)) (onTc (τ := Cert.ReferenceModPeerIdeal.τ) (Cert.ReferenceModPeerIdeal.main (F := Ideal))) ⟨m, fun _ => 0, g⟩ (fun r => (∀ c : Dev Cert.ReferenceModPeerIdeal.nD,
      r.2.mem ((c.tc : Thread Cert.ReferenceModPeerIdeal.nD Cert.ReferenceModPeerIdeal.τ).loc Cert.ReferenceModPeerIdeal.main_arg0) = m ((c.tc : Thread Cert.ReferenceModPeerIdeal.nD Cert.ReferenceModPeerIdeal.τ).loc Cert.ReferenceModPeerIdeal.main_arg0)
      ∧ r.2.mem ((c.tc : Thread Cert.ReferenceModPeerIdeal.nD Cert.ReferenceModPeerIdeal.τ).loc Cert.ReferenceModPeerIdeal.main_arg1) = m ((c.tc : Thread Cert.ReferenceModPeerIdeal.nD Cert.ReferenceModPeerIdeal.τ).loc Cert.ReferenceModPeerIdeal.main_arg1)
      ∧ r.2.mem ((c.tc : Thread Cert.ReferenceModPeerIdeal.nD Cert.ReferenceModPeerIdeal.τ).loc Cert.ReferenceModPeerIdeal.main_arg2) = m ((c.tc : Thread Cert.ReferenceModPeerIdeal.nD Cert.ReferenceModPeerIdeal.τ).loc Cert.ReferenceModPeerIdeal.main_arg2))
      ∧ r.2.sem = fun _ => 0)

def quiescent_KernelModGates [hKernelModGates : Cert.KernelModGates.Facts] : Prop :=
  ∀ (m : (ℓ : Loc Cert.KernelModGates.nD Cert.KernelModGates.τ Cert.KernelModGates.sig) → Buf (Elt Bits) ℓ) (g : Dev Cert.KernelModGates.nD → PrngReg), Pre_KernelModGates m →
    θ_run (Cert.KernelModGates.defs (F := Bits)) (onTc (τ := Cert.KernelModGates.τ) (Cert.KernelModGates.main (F := Bits))) ⟨m, fun _ => 0, g⟩ (fun r => (∀ c : Dev Cert.KernelModGates.nD,
      r.2.mem ((c.tc : Thread Cert.KernelModGates.nD Cert.KernelModGates.τ).loc Cert.KernelModGates.main_arg0) = m ((c.tc : Thread Cert.KernelModGates.nD Cert.KernelModGates.τ).loc Cert.KernelModGates.main_arg0)
      ∧ r.2.mem ((c.tc : Thread Cert.KernelModGates.nD Cert.KernelModGates.τ).loc Cert.KernelModGates.main_arg1) = m ((c.tc : Thread Cert.KernelModGates.nD Cert.KernelModGates.τ).loc Cert.KernelModGates.main_arg1)
      ∧ r.2.mem ((c.tc : Thread Cert.KernelModGates.nD Cert.KernelModGates.τ).loc Cert.KernelModGates.main_arg2) = m ((c.tc : Thread Cert.KernelModGates.nD Cert.KernelModGates.τ).loc Cert.KernelModGates.main_arg2)
      ∧ r.2.mem ((c.tc : Thread Cert.KernelModGates.nD Cert.KernelModGates.τ).loc Cert.KernelModGates.main_arg3) = m ((c.tc : Thread Cert.KernelModGates.nD Cert.KernelModGates.τ).loc Cert.KernelModGates.main_arg3)
      ∧ r.2.mem ((c.tc : Thread Cert.KernelModGates.nD Cert.KernelModGates.τ).loc Cert.KernelModGates.main_arg4) = m ((c.tc : Thread Cert.KernelModGates.nD Cert.KernelModGates.τ).loc Cert.KernelModGates.main_arg4))
      ∧ r.2.sem = fun _ => 0)

def quiescent_KernelModGatesIdeal [hKernelModGatesIdeal : Cert.KernelModGatesIdeal.Facts] : Prop :=
  ∀ (m : (ℓ : Loc Cert.KernelModGatesIdeal.nD Cert.KernelModGatesIdeal.τ Cert.KernelModGatesIdeal.sig) → Buf (Elt Ideal) ℓ) (g : Dev Cert.KernelModGatesIdeal.nD → PrngReg), Pre_KernelModGatesIdeal m →
    θ_run (Cert.KernelModGatesIdeal.defs (F := Ideal)) (onTc (τ := Cert.KernelModGatesIdeal.τ) (Cert.KernelModGatesIdeal.main (F := Ideal))) ⟨m, fun _ => 0, g⟩ (fun r => (∀ c : Dev Cert.KernelModGatesIdeal.nD,
      r.2.mem ((c.tc : Thread Cert.KernelModGatesIdeal.nD Cert.KernelModGatesIdeal.τ).loc Cert.KernelModGatesIdeal.main_arg0) = m ((c.tc : Thread Cert.KernelModGatesIdeal.nD Cert.KernelModGatesIdeal.τ).loc Cert.KernelModGatesIdeal.main_arg0)
      ∧ r.2.mem ((c.tc : Thread Cert.KernelModGatesIdeal.nD Cert.KernelModGatesIdeal.τ).loc Cert.KernelModGatesIdeal.main_arg1) = m ((c.tc : Thread Cert.KernelModGatesIdeal.nD Cert.KernelModGatesIdeal.τ).loc Cert.KernelModGatesIdeal.main_arg1)
      ∧ r.2.mem ((c.tc : Thread Cert.KernelModGatesIdeal.nD Cert.KernelModGatesIdeal.τ).loc Cert.KernelModGatesIdeal.main_arg2) = m ((c.tc : Thread Cert.KernelModGatesIdeal.nD Cert.KernelModGatesIdeal.τ).loc Cert.KernelModGatesIdeal.main_arg2)
      ∧ r.2.mem ((c.tc : Thread Cert.KernelModGatesIdeal.nD Cert.KernelModGatesIdeal.τ).loc Cert.KernelModGatesIdeal.main_arg3) = m ((c.tc : Thread Cert.KernelModGatesIdeal.nD Cert.KernelModGatesIdeal.τ).loc Cert.KernelModGatesIdeal.main_arg3)
      ∧ r.2.mem ((c.tc : Thread Cert.KernelModGatesIdeal.nD Cert.KernelModGatesIdeal.τ).loc Cert.KernelModGatesIdeal.main_arg4) = m ((c.tc : Thread Cert.KernelModGatesIdeal.nD Cert.KernelModGatesIdeal.τ).loc Cert.KernelModGatesIdeal.main_arg4))
      ∧ r.2.sem = fun _ => 0)

def quiescent_KernelModGatesIdeal_pre_finite_gates [hKernelModGatesIdeal : Cert.KernelModGatesIdeal.Facts] [hPre_finite_gates : Cert.Pre_finite_gates.Facts] : Prop :=
  ∀ (m : (ℓ : Loc Cert.KernelModGatesIdeal.nD Cert.KernelModGatesIdeal.τ Cert.KernelModGatesIdeal.sig) → Buf (Elt Ideal) ℓ) (g : Dev Cert.KernelModGatesIdeal.nD → PrngReg), Pre_KernelModGatesIdeal_finite_gates m →
    θ_run (Cert.KernelModGatesIdeal.defs (F := Ideal)) (onTc (τ := Cert.KernelModGatesIdeal.τ) (Cert.KernelModGatesIdeal.main (F := Ideal))) ⟨m, fun _ => 0, g⟩ (fun r => (∀ c : Dev Cert.KernelModGatesIdeal.nD,
      r.2.mem ((c.tc : Thread Cert.KernelModGatesIdeal.nD Cert.KernelModGatesIdeal.τ).loc Cert.KernelModGatesIdeal.main_arg0) = m ((c.tc : Thread Cert.KernelModGatesIdeal.nD Cert.KernelModGatesIdeal.τ).loc Cert.KernelModGatesIdeal.main_arg0)
      ∧ r.2.mem ((c.tc : Thread Cert.KernelModGatesIdeal.nD Cert.KernelModGatesIdeal.τ).loc Cert.KernelModGatesIdeal.main_arg1) = m ((c.tc : Thread Cert.KernelModGatesIdeal.nD Cert.KernelModGatesIdeal.τ).loc Cert.KernelModGatesIdeal.main_arg1)
      ∧ r.2.mem ((c.tc : Thread Cert.KernelModGatesIdeal.nD Cert.KernelModGatesIdeal.τ).loc Cert.KernelModGatesIdeal.main_arg2) = m ((c.tc : Thread Cert.KernelModGatesIdeal.nD Cert.KernelModGatesIdeal.τ).loc Cert.KernelModGatesIdeal.main_arg2)
      ∧ r.2.mem ((c.tc : Thread Cert.KernelModGatesIdeal.nD Cert.KernelModGatesIdeal.τ).loc Cert.KernelModGatesIdeal.main_arg3) = m ((c.tc : Thread Cert.KernelModGatesIdeal.nD Cert.KernelModGatesIdeal.τ).loc Cert.KernelModGatesIdeal.main_arg3)
      ∧ r.2.mem ((c.tc : Thread Cert.KernelModGatesIdeal.nD Cert.KernelModGatesIdeal.τ).loc Cert.KernelModGatesIdeal.main_arg4) = m ((c.tc : Thread Cert.KernelModGatesIdeal.nD Cert.KernelModGatesIdeal.τ).loc Cert.KernelModGatesIdeal.main_arg4))
      ∧ r.2.sem = fun _ => 0)

def quiescent_ReferenceModGatesIdeal [hReferenceModGatesIdeal : Cert.ReferenceModGatesIdeal.Facts] : Prop :=
  ∀ (m : (ℓ : Loc Cert.ReferenceModGatesIdeal.nD Cert.ReferenceModGatesIdeal.τ Cert.ReferenceModGatesIdeal.sig) → Buf (Elt Ideal) ℓ) (g : Dev Cert.ReferenceModGatesIdeal.nD → PrngReg), Pre_ReferenceModGatesIdeal m →
    θ_run (Cert.ReferenceModGatesIdeal.defs (F := Ideal)) (onTc (τ := Cert.ReferenceModGatesIdeal.τ) (Cert.ReferenceModGatesIdeal.main (F := Ideal))) ⟨m, fun _ => 0, g⟩ (fun r => (∀ c : Dev Cert.ReferenceModGatesIdeal.nD,
      r.2.mem ((c.tc : Thread Cert.ReferenceModGatesIdeal.nD Cert.ReferenceModGatesIdeal.τ).loc Cert.ReferenceModGatesIdeal.main_arg0) = m ((c.tc : Thread Cert.ReferenceModGatesIdeal.nD Cert.ReferenceModGatesIdeal.τ).loc Cert.ReferenceModGatesIdeal.main_arg0)
      ∧ r.2.mem ((c.tc : Thread Cert.ReferenceModGatesIdeal.nD Cert.ReferenceModGatesIdeal.τ).loc Cert.ReferenceModGatesIdeal.main_arg1) = m ((c.tc : Thread Cert.ReferenceModGatesIdeal.nD Cert.ReferenceModGatesIdeal.τ).loc Cert.ReferenceModGatesIdeal.main_arg1)
      ∧ r.2.mem ((c.tc : Thread Cert.ReferenceModGatesIdeal.nD Cert.ReferenceModGatesIdeal.τ).loc Cert.ReferenceModGatesIdeal.main_arg2) = m ((c.tc : Thread Cert.ReferenceModGatesIdeal.nD Cert.ReferenceModGatesIdeal.τ).loc Cert.ReferenceModGatesIdeal.main_arg2)
      ∧ r.2.mem ((c.tc : Thread Cert.ReferenceModGatesIdeal.nD Cert.ReferenceModGatesIdeal.τ).loc Cert.ReferenceModGatesIdeal.main_arg3) = m ((c.tc : Thread Cert.ReferenceModGatesIdeal.nD Cert.ReferenceModGatesIdeal.τ).loc Cert.ReferenceModGatesIdeal.main_arg3)
      ∧ r.2.mem ((c.tc : Thread Cert.ReferenceModGatesIdeal.nD Cert.ReferenceModGatesIdeal.τ).loc Cert.ReferenceModGatesIdeal.main_arg4) = m ((c.tc : Thread Cert.ReferenceModGatesIdeal.nD Cert.ReferenceModGatesIdeal.τ).loc Cert.ReferenceModGatesIdeal.main_arg4))
      ∧ r.2.sem = fun _ => 0)

def quiescent_ReferenceModGatesIdeal_pre_finite_gates [hReferenceModGatesIdeal : Cert.ReferenceModGatesIdeal.Facts] [hPre_finite_gates : Cert.Pre_finite_gates.Facts] : Prop :=
  ∀ (m : (ℓ : Loc Cert.ReferenceModGatesIdeal.nD Cert.ReferenceModGatesIdeal.τ Cert.ReferenceModGatesIdeal.sig) → Buf (Elt Ideal) ℓ) (g : Dev Cert.ReferenceModGatesIdeal.nD → PrngReg), Pre_ReferenceModGatesIdeal_finite_gates m →
    θ_run (Cert.ReferenceModGatesIdeal.defs (F := Ideal)) (onTc (τ := Cert.ReferenceModGatesIdeal.τ) (Cert.ReferenceModGatesIdeal.main (F := Ideal))) ⟨m, fun _ => 0, g⟩ (fun r => (∀ c : Dev Cert.ReferenceModGatesIdeal.nD,
      r.2.mem ((c.tc : Thread Cert.ReferenceModGatesIdeal.nD Cert.ReferenceModGatesIdeal.τ).loc Cert.ReferenceModGatesIdeal.main_arg0) = m ((c.tc : Thread Cert.ReferenceModGatesIdeal.nD Cert.ReferenceModGatesIdeal.τ).loc Cert.ReferenceModGatesIdeal.main_arg0)
      ∧ r.2.mem ((c.tc : Thread Cert.ReferenceModGatesIdeal.nD Cert.ReferenceModGatesIdeal.τ).loc Cert.ReferenceModGatesIdeal.main_arg1) = m ((c.tc : Thread Cert.ReferenceModGatesIdeal.nD Cert.ReferenceModGatesIdeal.τ).loc Cert.ReferenceModGatesIdeal.main_arg1)
      ∧ r.2.mem ((c.tc : Thread Cert.ReferenceModGatesIdeal.nD Cert.ReferenceModGatesIdeal.τ).loc Cert.ReferenceModGatesIdeal.main_arg2) = m ((c.tc : Thread Cert.ReferenceModGatesIdeal.nD Cert.ReferenceModGatesIdeal.τ).loc Cert.ReferenceModGatesIdeal.main_arg2)
      ∧ r.2.mem ((c.tc : Thread Cert.ReferenceModGatesIdeal.nD Cert.ReferenceModGatesIdeal.τ).loc Cert.ReferenceModGatesIdeal.main_arg3) = m ((c.tc : Thread Cert.ReferenceModGatesIdeal.nD Cert.ReferenceModGatesIdeal.τ).loc Cert.ReferenceModGatesIdeal.main_arg3)
      ∧ r.2.mem ((c.tc : Thread Cert.ReferenceModGatesIdeal.nD Cert.ReferenceModGatesIdeal.τ).loc Cert.ReferenceModGatesIdeal.main_arg4) = m ((c.tc : Thread Cert.ReferenceModGatesIdeal.nD Cert.ReferenceModGatesIdeal.τ).loc Cert.ReferenceModGatesIdeal.main_arg4))
      ∧ r.2.sem = fun _ => 0)

def quiescent_KernelTable [hKernelTable : Cert.KernelTable.Facts] : Prop :=
  ∀ (m : (ℓ : Loc Cert.KernelTable.nD Cert.KernelTable.τ Cert.KernelTable.sig) → Buf (Elt Bits) ℓ) (g : Dev Cert.KernelTable.nD → PrngReg), Pre_KernelTable m →
    θ_run (Cert.KernelTable.defs (F := Bits)) (onTc (τ := Cert.KernelTable.τ) (Cert.KernelTable.main (F := Bits))) ⟨m, fun _ => 0, g⟩ (fun r => (∀ c : Dev Cert.KernelTable.nD,
      r.2.mem ((c.tc : Thread Cert.KernelTable.nD Cert.KernelTable.τ).loc Cert.KernelTable.main_arg0) = m ((c.tc : Thread Cert.KernelTable.nD Cert.KernelTable.τ).loc Cert.KernelTable.main_arg0)
      ∧ r.2.mem ((c.tc : Thread Cert.KernelTable.nD Cert.KernelTable.τ).loc Cert.KernelTable.main_arg1) = m ((c.tc : Thread Cert.KernelTable.nD Cert.KernelTable.τ).loc Cert.KernelTable.main_arg1)
      ∧ r.2.mem ((c.tc : Thread Cert.KernelTable.nD Cert.KernelTable.τ).loc Cert.KernelTable.main_arg2) = m ((c.tc : Thread Cert.KernelTable.nD Cert.KernelTable.τ).loc Cert.KernelTable.main_arg2))
      ∧ r.2.sem = fun _ => 0)

def quiescent_KernelTableIdeal [hKernelTableIdeal : Cert.KernelTableIdeal.Facts] : Prop :=
  ∀ (m : (ℓ : Loc Cert.KernelTableIdeal.nD Cert.KernelTableIdeal.τ Cert.KernelTableIdeal.sig) → Buf (Elt Ideal) ℓ) (g : Dev Cert.KernelTableIdeal.nD → PrngReg), Pre_KernelTableIdeal m →
    θ_run (Cert.KernelTableIdeal.defs (F := Ideal)) (onTc (τ := Cert.KernelTableIdeal.τ) (Cert.KernelTableIdeal.main (F := Ideal))) ⟨m, fun _ => 0, g⟩ (fun r => (∀ c : Dev Cert.KernelTableIdeal.nD,
      r.2.mem ((c.tc : Thread Cert.KernelTableIdeal.nD Cert.KernelTableIdeal.τ).loc Cert.KernelTableIdeal.main_arg0) = m ((c.tc : Thread Cert.KernelTableIdeal.nD Cert.KernelTableIdeal.τ).loc Cert.KernelTableIdeal.main_arg0)
      ∧ r.2.mem ((c.tc : Thread Cert.KernelTableIdeal.nD Cert.KernelTableIdeal.τ).loc Cert.KernelTableIdeal.main_arg1) = m ((c.tc : Thread Cert.KernelTableIdeal.nD Cert.KernelTableIdeal.τ).loc Cert.KernelTableIdeal.main_arg1)
      ∧ r.2.mem ((c.tc : Thread Cert.KernelTableIdeal.nD Cert.KernelTableIdeal.τ).loc Cert.KernelTableIdeal.main_arg2) = m ((c.tc : Thread Cert.KernelTableIdeal.nD Cert.KernelTableIdeal.τ).loc Cert.KernelTableIdeal.main_arg2))
      ∧ r.2.sem = fun _ => 0)

def quiescent_KernelTableIdeal_pre_finite_table [hKernelTableIdeal : Cert.KernelTableIdeal.Facts] [hPre_finite_table : Cert.Pre_finite_table.Facts] : Prop :=
  ∀ (m : (ℓ : Loc Cert.KernelTableIdeal.nD Cert.KernelTableIdeal.τ Cert.KernelTableIdeal.sig) → Buf (Elt Ideal) ℓ) (g : Dev Cert.KernelTableIdeal.nD → PrngReg), Pre_KernelTableIdeal_finite_table m →
    θ_run (Cert.KernelTableIdeal.defs (F := Ideal)) (onTc (τ := Cert.KernelTableIdeal.τ) (Cert.KernelTableIdeal.main (F := Ideal))) ⟨m, fun _ => 0, g⟩ (fun r => (∀ c : Dev Cert.KernelTableIdeal.nD,
      r.2.mem ((c.tc : Thread Cert.KernelTableIdeal.nD Cert.KernelTableIdeal.τ).loc Cert.KernelTableIdeal.main_arg0) = m ((c.tc : Thread Cert.KernelTableIdeal.nD Cert.KernelTableIdeal.τ).loc Cert.KernelTableIdeal.main_arg0)
      ∧ r.2.mem ((c.tc : Thread Cert.KernelTableIdeal.nD Cert.KernelTableIdeal.τ).loc Cert.KernelTableIdeal.main_arg1) = m ((c.tc : Thread Cert.KernelTableIdeal.nD Cert.KernelTableIdeal.τ).loc Cert.KernelTableIdeal.main_arg1)
      ∧ r.2.mem ((c.tc : Thread Cert.KernelTableIdeal.nD Cert.KernelTableIdeal.τ).loc Cert.KernelTableIdeal.main_arg2) = m ((c.tc : Thread Cert.KernelTableIdeal.nD Cert.KernelTableIdeal.τ).loc Cert.KernelTableIdeal.main_arg2))
      ∧ r.2.sem = fun _ => 0)

def quiescent_ReferenceTableIdeal [hReferenceTableIdeal : Cert.ReferenceTableIdeal.Facts] : Prop :=
  ∀ (m : (ℓ : Loc Cert.ReferenceTableIdeal.nD Cert.ReferenceTableIdeal.τ Cert.ReferenceTableIdeal.sig) → Buf (Elt Ideal) ℓ) (g : Dev Cert.ReferenceTableIdeal.nD → PrngReg), Pre_ReferenceTableIdeal m →
    θ_run (Cert.ReferenceTableIdeal.defs (F := Ideal)) (onTc (τ := Cert.ReferenceTableIdeal.τ) (Cert.ReferenceTableIdeal.main (F := Ideal))) ⟨m, fun _ => 0, g⟩ (fun r => (∀ c : Dev Cert.ReferenceTableIdeal.nD,
      r.2.mem ((c.tc : Thread Cert.ReferenceTableIdeal.nD Cert.ReferenceTableIdeal.τ).loc Cert.ReferenceTableIdeal.main_arg0) = m ((c.tc : Thread Cert.ReferenceTableIdeal.nD Cert.ReferenceTableIdeal.τ).loc Cert.ReferenceTableIdeal.main_arg0)
      ∧ r.2.mem ((c.tc : Thread Cert.ReferenceTableIdeal.nD Cert.ReferenceTableIdeal.τ).loc Cert.ReferenceTableIdeal.main_arg1) = m ((c.tc : Thread Cert.ReferenceTableIdeal.nD Cert.ReferenceTableIdeal.τ).loc Cert.ReferenceTableIdeal.main_arg1)
      ∧ r.2.mem ((c.tc : Thread Cert.ReferenceTableIdeal.nD Cert.ReferenceTableIdeal.τ).loc Cert.ReferenceTableIdeal.main_arg2) = m ((c.tc : Thread Cert.ReferenceTableIdeal.nD Cert.ReferenceTableIdeal.τ).loc Cert.ReferenceTableIdeal.main_arg2))
      ∧ r.2.sem = fun _ => 0)

def quiescent_ReferenceTableIdeal_pre_finite_table [hReferenceTableIdeal : Cert.ReferenceTableIdeal.Facts] [hPre_finite_table : Cert.Pre_finite_table.Facts] : Prop :=
  ∀ (m : (ℓ : Loc Cert.ReferenceTableIdeal.nD Cert.ReferenceTableIdeal.τ Cert.ReferenceTableIdeal.sig) → Buf (Elt Ideal) ℓ) (g : Dev Cert.ReferenceTableIdeal.nD → PrngReg), Pre_ReferenceTableIdeal_finite_table m →
    θ_run (Cert.ReferenceTableIdeal.defs (F := Ideal)) (onTc (τ := Cert.ReferenceTableIdeal.τ) (Cert.ReferenceTableIdeal.main (F := Ideal))) ⟨m, fun _ => 0, g⟩ (fun r => (∀ c : Dev Cert.ReferenceTableIdeal.nD,
      r.2.mem ((c.tc : Thread Cert.ReferenceTableIdeal.nD Cert.ReferenceTableIdeal.τ).loc Cert.ReferenceTableIdeal.main_arg0) = m ((c.tc : Thread Cert.ReferenceTableIdeal.nD Cert.ReferenceTableIdeal.τ).loc Cert.ReferenceTableIdeal.main_arg0)
      ∧ r.2.mem ((c.tc : Thread Cert.ReferenceTableIdeal.nD Cert.ReferenceTableIdeal.τ).loc Cert.ReferenceTableIdeal.main_arg1) = m ((c.tc : Thread Cert.ReferenceTableIdeal.nD Cert.ReferenceTableIdeal.τ).loc Cert.ReferenceTableIdeal.main_arg1)
      ∧ r.2.mem ((c.tc : Thread Cert.ReferenceTableIdeal.nD Cert.ReferenceTableIdeal.τ).loc Cert.ReferenceTableIdeal.main_arg2) = m ((c.tc : Thread Cert.ReferenceTableIdeal.nD Cert.ReferenceTableIdeal.τ).loc Cert.ReferenceTableIdeal.main_arg2))
      ∧ r.2.sem = fun _ => 0)

def quiescent_KernelSpectrum [hKernelSpectrum : Cert.KernelSpectrum.Facts] : Prop :=
  ∀ (m : (ℓ : Loc Cert.KernelSpectrum.nD Cert.KernelSpectrum.τ Cert.KernelSpectrum.sig) → Buf (Elt Bits) ℓ) (g : Dev Cert.KernelSpectrum.nD → PrngReg), Pre_KernelSpectrum m →
    θ_run (Cert.KernelSpectrum.defs (F := Bits)) (onTc (τ := Cert.KernelSpectrum.τ) (Cert.KernelSpectrum.main (F := Bits))) ⟨m, fun _ => 0, g⟩ (fun r => (∀ c : Dev Cert.KernelSpectrum.nD,
      r.2.mem ((c.tc : Thread Cert.KernelSpectrum.nD Cert.KernelSpectrum.τ).loc Cert.KernelSpectrum.main_arg0) = m ((c.tc : Thread Cert.KernelSpectrum.nD Cert.KernelSpectrum.τ).loc Cert.KernelSpectrum.main_arg0)
      ∧ r.2.mem ((c.tc : Thread Cert.KernelSpectrum.nD Cert.KernelSpectrum.τ).loc Cert.KernelSpectrum.main_arg1) = m ((c.tc : Thread Cert.KernelSpectrum.nD Cert.KernelSpectrum.τ).loc Cert.KernelSpectrum.main_arg1)
      ∧ r.2.mem ((c.tc : Thread Cert.KernelSpectrum.nD Cert.KernelSpectrum.τ).loc Cert.KernelSpectrum.main_arg2) = m ((c.tc : Thread Cert.KernelSpectrum.nD Cert.KernelSpectrum.τ).loc Cert.KernelSpectrum.main_arg2)
      ∧ r.2.mem ((c.tc : Thread Cert.KernelSpectrum.nD Cert.KernelSpectrum.τ).loc Cert.KernelSpectrum.main_arg3) = m ((c.tc : Thread Cert.KernelSpectrum.nD Cert.KernelSpectrum.τ).loc Cert.KernelSpectrum.main_arg3)
      ∧ r.2.mem ((c.tc : Thread Cert.KernelSpectrum.nD Cert.KernelSpectrum.τ).loc Cert.KernelSpectrum.main_arg4) = m ((c.tc : Thread Cert.KernelSpectrum.nD Cert.KernelSpectrum.τ).loc Cert.KernelSpectrum.main_arg4)
      ∧ r.2.mem ((c.tc : Thread Cert.KernelSpectrum.nD Cert.KernelSpectrum.τ).loc Cert.KernelSpectrum.main_arg5) = m ((c.tc : Thread Cert.KernelSpectrum.nD Cert.KernelSpectrum.τ).loc Cert.KernelSpectrum.main_arg5)
      ∧ r.2.mem ((c.tc : Thread Cert.KernelSpectrum.nD Cert.KernelSpectrum.τ).loc Cert.KernelSpectrum.main_arg6) = m ((c.tc : Thread Cert.KernelSpectrum.nD Cert.KernelSpectrum.τ).loc Cert.KernelSpectrum.main_arg6)
      ∧ r.2.mem ((c.tc : Thread Cert.KernelSpectrum.nD Cert.KernelSpectrum.τ).loc Cert.KernelSpectrum.main_arg7) = m ((c.tc : Thread Cert.KernelSpectrum.nD Cert.KernelSpectrum.τ).loc Cert.KernelSpectrum.main_arg7)
      ∧ r.2.mem ((c.tc : Thread Cert.KernelSpectrum.nD Cert.KernelSpectrum.τ).loc Cert.KernelSpectrum.main_arg8) = m ((c.tc : Thread Cert.KernelSpectrum.nD Cert.KernelSpectrum.τ).loc Cert.KernelSpectrum.main_arg8))
      ∧ r.2.sem = fun _ => 0)

def quiescent_KernelSpectrumIdeal [hKernelSpectrumIdeal : Cert.KernelSpectrumIdeal.Facts] : Prop :=
  ∀ (m : (ℓ : Loc Cert.KernelSpectrumIdeal.nD Cert.KernelSpectrumIdeal.τ Cert.KernelSpectrumIdeal.sig) → Buf (Elt Ideal) ℓ) (g : Dev Cert.KernelSpectrumIdeal.nD → PrngReg), Pre_KernelSpectrumIdeal m →
    θ_run (Cert.KernelSpectrumIdeal.defs (F := Ideal)) (onTc (τ := Cert.KernelSpectrumIdeal.τ) (Cert.KernelSpectrumIdeal.main (F := Ideal))) ⟨m, fun _ => 0, g⟩ (fun r => (∀ c : Dev Cert.KernelSpectrumIdeal.nD,
      r.2.mem ((c.tc : Thread Cert.KernelSpectrumIdeal.nD Cert.KernelSpectrumIdeal.τ).loc Cert.KernelSpectrumIdeal.main_arg0) = m ((c.tc : Thread Cert.KernelSpectrumIdeal.nD Cert.KernelSpectrumIdeal.τ).loc Cert.KernelSpectrumIdeal.main_arg0)
      ∧ r.2.mem ((c.tc : Thread Cert.KernelSpectrumIdeal.nD Cert.KernelSpectrumIdeal.τ).loc Cert.KernelSpectrumIdeal.main_arg1) = m ((c.tc : Thread Cert.KernelSpectrumIdeal.nD Cert.KernelSpectrumIdeal.τ).loc Cert.KernelSpectrumIdeal.main_arg1)
      ∧ r.2.mem ((c.tc : Thread Cert.KernelSpectrumIdeal.nD Cert.KernelSpectrumIdeal.τ).loc Cert.KernelSpectrumIdeal.main_arg2) = m ((c.tc : Thread Cert.KernelSpectrumIdeal.nD Cert.KernelSpectrumIdeal.τ).loc Cert.KernelSpectrumIdeal.main_arg2)
      ∧ r.2.mem ((c.tc : Thread Cert.KernelSpectrumIdeal.nD Cert.KernelSpectrumIdeal.τ).loc Cert.KernelSpectrumIdeal.main_arg3) = m ((c.tc : Thread Cert.KernelSpectrumIdeal.nD Cert.KernelSpectrumIdeal.τ).loc Cert.KernelSpectrumIdeal.main_arg3)
      ∧ r.2.mem ((c.tc : Thread Cert.KernelSpectrumIdeal.nD Cert.KernelSpectrumIdeal.τ).loc Cert.KernelSpectrumIdeal.main_arg4) = m ((c.tc : Thread Cert.KernelSpectrumIdeal.nD Cert.KernelSpectrumIdeal.τ).loc Cert.KernelSpectrumIdeal.main_arg4)
      ∧ r.2.mem ((c.tc : Thread Cert.KernelSpectrumIdeal.nD Cert.KernelSpectrumIdeal.τ).loc Cert.KernelSpectrumIdeal.main_arg5) = m ((c.tc : Thread Cert.KernelSpectrumIdeal.nD Cert.KernelSpectrumIdeal.τ).loc Cert.KernelSpectrumIdeal.main_arg5)
      ∧ r.2.mem ((c.tc : Thread Cert.KernelSpectrumIdeal.nD Cert.KernelSpectrumIdeal.τ).loc Cert.KernelSpectrumIdeal.main_arg6) = m ((c.tc : Thread Cert.KernelSpectrumIdeal.nD Cert.KernelSpectrumIdeal.τ).loc Cert.KernelSpectrumIdeal.main_arg6)
      ∧ r.2.mem ((c.tc : Thread Cert.KernelSpectrumIdeal.nD Cert.KernelSpectrumIdeal.τ).loc Cert.KernelSpectrumIdeal.main_arg7) = m ((c.tc : Thread Cert.KernelSpectrumIdeal.nD Cert.KernelSpectrumIdeal.τ).loc Cert.KernelSpectrumIdeal.main_arg7)
      ∧ r.2.mem ((c.tc : Thread Cert.KernelSpectrumIdeal.nD Cert.KernelSpectrumIdeal.τ).loc Cert.KernelSpectrumIdeal.main_arg8) = m ((c.tc : Thread Cert.KernelSpectrumIdeal.nD Cert.KernelSpectrumIdeal.τ).loc Cert.KernelSpectrumIdeal.main_arg8))
      ∧ r.2.sem = fun _ => 0)

def quiescent_KernelSpectrumIdeal_pre_finite_spectrum [hKernelSpectrumIdeal : Cert.KernelSpectrumIdeal.Facts] [hPre_finite_spectrum : Cert.Pre_finite_spectrum.Facts] : Prop :=
  ∀ (m : (ℓ : Loc Cert.KernelSpectrumIdeal.nD Cert.KernelSpectrumIdeal.τ Cert.KernelSpectrumIdeal.sig) → Buf (Elt Ideal) ℓ) (g : Dev Cert.KernelSpectrumIdeal.nD → PrngReg), Pre_KernelSpectrumIdeal_finite_spectrum m →
    θ_run (Cert.KernelSpectrumIdeal.defs (F := Ideal)) (onTc (τ := Cert.KernelSpectrumIdeal.τ) (Cert.KernelSpectrumIdeal.main (F := Ideal))) ⟨m, fun _ => 0, g⟩ (fun r => (∀ c : Dev Cert.KernelSpectrumIdeal.nD,
      r.2.mem ((c.tc : Thread Cert.KernelSpectrumIdeal.nD Cert.KernelSpectrumIdeal.τ).loc Cert.KernelSpectrumIdeal.main_arg0) = m ((c.tc : Thread Cert.KernelSpectrumIdeal.nD Cert.KernelSpectrumIdeal.τ).loc Cert.KernelSpectrumIdeal.main_arg0)
      ∧ r.2.mem ((c.tc : Thread Cert.KernelSpectrumIdeal.nD Cert.KernelSpectrumIdeal.τ).loc Cert.KernelSpectrumIdeal.main_arg1) = m ((c.tc : Thread Cert.KernelSpectrumIdeal.nD Cert.KernelSpectrumIdeal.τ).loc Cert.KernelSpectrumIdeal.main_arg1)
      ∧ r.2.mem ((c.tc : Thread Cert.KernelSpectrumIdeal.nD Cert.KernelSpectrumIdeal.τ).loc Cert.KernelSpectrumIdeal.main_arg2) = m ((c.tc : Thread Cert.KernelSpectrumIdeal.nD Cert.KernelSpectrumIdeal.τ).loc Cert.KernelSpectrumIdeal.main_arg2)
      ∧ r.2.mem ((c.tc : Thread Cert.KernelSpectrumIdeal.nD Cert.KernelSpectrumIdeal.τ).loc Cert.KernelSpectrumIdeal.main_arg3) = m ((c.tc : Thread Cert.KernelSpectrumIdeal.nD Cert.KernelSpectrumIdeal.τ).loc Cert.KernelSpectrumIdeal.main_arg3)
      ∧ r.2.mem ((c.tc : Thread Cert.KernelSpectrumIdeal.nD Cert.KernelSpectrumIdeal.τ).loc Cert.KernelSpectrumIdeal.main_arg4) = m ((c.tc : Thread Cert.KernelSpectrumIdeal.nD Cert.KernelSpectrumIdeal.τ).loc Cert.KernelSpectrumIdeal.main_arg4)
      ∧ r.2.mem ((c.tc : Thread Cert.KernelSpectrumIdeal.nD Cert.KernelSpectrumIdeal.τ).loc Cert.KernelSpectrumIdeal.main_arg5) = m ((c.tc : Thread Cert.KernelSpectrumIdeal.nD Cert.KernelSpectrumIdeal.τ).loc Cert.KernelSpectrumIdeal.main_arg5)
      ∧ r.2.mem ((c.tc : Thread Cert.KernelSpectrumIdeal.nD Cert.KernelSpectrumIdeal.τ).loc Cert.KernelSpectrumIdeal.main_arg6) = m ((c.tc : Thread Cert.KernelSpectrumIdeal.nD Cert.KernelSpectrumIdeal.τ).loc Cert.KernelSpectrumIdeal.main_arg6)
      ∧ r.2.mem ((c.tc : Thread Cert.KernelSpectrumIdeal.nD Cert.KernelSpectrumIdeal.τ).loc Cert.KernelSpectrumIdeal.main_arg7) = m ((c.tc : Thread Cert.KernelSpectrumIdeal.nD Cert.KernelSpectrumIdeal.τ).loc Cert.KernelSpectrumIdeal.main_arg7)
      ∧ r.2.mem ((c.tc : Thread Cert.KernelSpectrumIdeal.nD Cert.KernelSpectrumIdeal.τ).loc Cert.KernelSpectrumIdeal.main_arg8) = m ((c.tc : Thread Cert.KernelSpectrumIdeal.nD Cert.KernelSpectrumIdeal.τ).loc Cert.KernelSpectrumIdeal.main_arg8))
      ∧ r.2.sem = fun _ => 0)

def quiescent_ReferenceSpectrumIdeal [hReferenceSpectrumIdeal : Cert.ReferenceSpectrumIdeal.Facts] : Prop :=
  ∀ (m : (ℓ : Loc Cert.ReferenceSpectrumIdeal.nD Cert.ReferenceSpectrumIdeal.τ Cert.ReferenceSpectrumIdeal.sig) → Buf (Elt Ideal) ℓ) (g : Dev Cert.ReferenceSpectrumIdeal.nD → PrngReg), Pre_ReferenceSpectrumIdeal m →
    θ_run (Cert.ReferenceSpectrumIdeal.defs (F := Ideal)) (onTc (τ := Cert.ReferenceSpectrumIdeal.τ) (Cert.ReferenceSpectrumIdeal.main (F := Ideal))) ⟨m, fun _ => 0, g⟩ (fun r => (∀ c : Dev Cert.ReferenceSpectrumIdeal.nD,
      r.2.mem ((c.tc : Thread Cert.ReferenceSpectrumIdeal.nD Cert.ReferenceSpectrumIdeal.τ).loc Cert.ReferenceSpectrumIdeal.main_arg0) = m ((c.tc : Thread Cert.ReferenceSpectrumIdeal.nD Cert.ReferenceSpectrumIdeal.τ).loc Cert.ReferenceSpectrumIdeal.main_arg0)
      ∧ r.2.mem ((c.tc : Thread Cert.ReferenceSpectrumIdeal.nD Cert.ReferenceSpectrumIdeal.τ).loc Cert.ReferenceSpectrumIdeal.main_arg1) = m ((c.tc : Thread Cert.ReferenceSpectrumIdeal.nD Cert.ReferenceSpectrumIdeal.τ).loc Cert.ReferenceSpectrumIdeal.main_arg1)
      ∧ r.2.mem ((c.tc : Thread Cert.ReferenceSpectrumIdeal.nD Cert.ReferenceSpectrumIdeal.τ).loc Cert.ReferenceSpectrumIdeal.main_arg2) = m ((c.tc : Thread Cert.ReferenceSpectrumIdeal.nD Cert.ReferenceSpectrumIdeal.τ).loc Cert.ReferenceSpectrumIdeal.main_arg2)
      ∧ r.2.mem ((c.tc : Thread Cert.ReferenceSpectrumIdeal.nD Cert.ReferenceSpectrumIdeal.τ).loc Cert.ReferenceSpectrumIdeal.main_arg3) = m ((c.tc : Thread Cert.ReferenceSpectrumIdeal.nD Cert.ReferenceSpectrumIdeal.τ).loc Cert.ReferenceSpectrumIdeal.main_arg3)
      ∧ r.2.mem ((c.tc : Thread Cert.ReferenceSpectrumIdeal.nD Cert.ReferenceSpectrumIdeal.τ).loc Cert.ReferenceSpectrumIdeal.main_arg4) = m ((c.tc : Thread Cert.ReferenceSpectrumIdeal.nD Cert.ReferenceSpectrumIdeal.τ).loc Cert.ReferenceSpectrumIdeal.main_arg4)
      ∧ r.2.mem ((c.tc : Thread Cert.ReferenceSpectrumIdeal.nD Cert.ReferenceSpectrumIdeal.τ).loc Cert.ReferenceSpectrumIdeal.main_arg5) = m ((c.tc : Thread Cert.ReferenceSpectrumIdeal.nD Cert.ReferenceSpectrumIdeal.τ).loc Cert.ReferenceSpectrumIdeal.main_arg5)
      ∧ r.2.mem ((c.tc : Thread Cert.ReferenceSpectrumIdeal.nD Cert.ReferenceSpectrumIdeal.τ).loc Cert.ReferenceSpectrumIdeal.main_arg6) = m ((c.tc : Thread Cert.ReferenceSpectrumIdeal.nD Cert.ReferenceSpectrumIdeal.τ).loc Cert.ReferenceSpectrumIdeal.main_arg6)
      ∧ r.2.mem ((c.tc : Thread Cert.ReferenceSpectrumIdeal.nD Cert.ReferenceSpectrumIdeal.τ).loc Cert.ReferenceSpectrumIdeal.main_arg7) = m ((c.tc : Thread Cert.ReferenceSpectrumIdeal.nD Cert.ReferenceSpectrumIdeal.τ).loc Cert.ReferenceSpectrumIdeal.main_arg7)
      ∧ r.2.mem ((c.tc : Thread Cert.ReferenceSpectrumIdeal.nD Cert.ReferenceSpectrumIdeal.τ).loc Cert.ReferenceSpectrumIdeal.main_arg8) = m ((c.tc : Thread Cert.ReferenceSpectrumIdeal.nD Cert.ReferenceSpectrumIdeal.τ).loc Cert.ReferenceSpectrumIdeal.main_arg8))
      ∧ r.2.sem = fun _ => 0)

def quiescent_ReferenceSpectrumIdeal_pre_finite_spectrum [hReferenceSpectrumIdeal : Cert.ReferenceSpectrumIdeal.Facts] [hPre_finite_spectrum : Cert.Pre_finite_spectrum.Facts] : Prop :=
  ∀ (m : (ℓ : Loc Cert.ReferenceSpectrumIdeal.nD Cert.ReferenceSpectrumIdeal.τ Cert.ReferenceSpectrumIdeal.sig) → Buf (Elt Ideal) ℓ) (g : Dev Cert.ReferenceSpectrumIdeal.nD → PrngReg), Pre_ReferenceSpectrumIdeal_finite_spectrum m →
    θ_run (Cert.ReferenceSpectrumIdeal.defs (F := Ideal)) (onTc (τ := Cert.ReferenceSpectrumIdeal.τ) (Cert.ReferenceSpectrumIdeal.main (F := Ideal))) ⟨m, fun _ => 0, g⟩ (fun r => (∀ c : Dev Cert.ReferenceSpectrumIdeal.nD,
      r.2.mem ((c.tc : Thread Cert.ReferenceSpectrumIdeal.nD Cert.ReferenceSpectrumIdeal.τ).loc Cert.ReferenceSpectrumIdeal.main_arg0) = m ((c.tc : Thread Cert.ReferenceSpectrumIdeal.nD Cert.ReferenceSpectrumIdeal.τ).loc Cert.ReferenceSpectrumIdeal.main_arg0)
      ∧ r.2.mem ((c.tc : Thread Cert.ReferenceSpectrumIdeal.nD Cert.ReferenceSpectrumIdeal.τ).loc Cert.ReferenceSpectrumIdeal.main_arg1) = m ((c.tc : Thread Cert.ReferenceSpectrumIdeal.nD Cert.ReferenceSpectrumIdeal.τ).loc Cert.ReferenceSpectrumIdeal.main_arg1)
      ∧ r.2.mem ((c.tc : Thread Cert.ReferenceSpectrumIdeal.nD Cert.ReferenceSpectrumIdeal.τ).loc Cert.ReferenceSpectrumIdeal.main_arg2) = m ((c.tc : Thread Cert.ReferenceSpectrumIdeal.nD Cert.ReferenceSpectrumIdeal.τ).loc Cert.ReferenceSpectrumIdeal.main_arg2)
      ∧ r.2.mem ((c.tc : Thread Cert.ReferenceSpectrumIdeal.nD Cert.ReferenceSpectrumIdeal.τ).loc Cert.ReferenceSpectrumIdeal.main_arg3) = m ((c.tc : Thread Cert.ReferenceSpectrumIdeal.nD Cert.ReferenceSpectrumIdeal.τ).loc Cert.ReferenceSpectrumIdeal.main_arg3)
      ∧ r.2.mem ((c.tc : Thread Cert.ReferenceSpectrumIdeal.nD Cert.ReferenceSpectrumIdeal.τ).loc Cert.ReferenceSpectrumIdeal.main_arg4) = m ((c.tc : Thread Cert.ReferenceSpectrumIdeal.nD Cert.ReferenceSpectrumIdeal.τ).loc Cert.ReferenceSpectrumIdeal.main_arg4)
      ∧ r.2.mem ((c.tc : Thread Cert.ReferenceSpectrumIdeal.nD Cert.ReferenceSpectrumIdeal.τ).loc Cert.ReferenceSpectrumIdeal.main_arg5) = m ((c.tc : Thread Cert.ReferenceSpectrumIdeal.nD Cert.ReferenceSpectrumIdeal.τ).loc Cert.ReferenceSpectrumIdeal.main_arg5)
      ∧ r.2.mem ((c.tc : Thread Cert.ReferenceSpectrumIdeal.nD Cert.ReferenceSpectrumIdeal.τ).loc Cert.ReferenceSpectrumIdeal.main_arg6) = m ((c.tc : Thread Cert.ReferenceSpectrumIdeal.nD Cert.ReferenceSpectrumIdeal.τ).loc Cert.ReferenceSpectrumIdeal.main_arg6)
      ∧ r.2.mem ((c.tc : Thread Cert.ReferenceSpectrumIdeal.nD Cert.ReferenceSpectrumIdeal.τ).loc Cert.ReferenceSpectrumIdeal.main_arg7) = m ((c.tc : Thread Cert.ReferenceSpectrumIdeal.nD Cert.ReferenceSpectrumIdeal.τ).loc Cert.ReferenceSpectrumIdeal.main_arg7)
      ∧ r.2.mem ((c.tc : Thread Cert.ReferenceSpectrumIdeal.nD Cert.ReferenceSpectrumIdeal.τ).loc Cert.ReferenceSpectrumIdeal.main_arg8) = m ((c.tc : Thread Cert.ReferenceSpectrumIdeal.nD Cert.ReferenceSpectrumIdeal.τ).loc Cert.ReferenceSpectrumIdeal.main_arg8))
      ∧ r.2.sem = fun _ => 0)

def quiescent_KernelChunks [hKernelChunks : Cert.KernelChunks.Facts] : Prop :=
  ∀ (m : (ℓ : Loc Cert.KernelChunks.nD Cert.KernelChunks.τ Cert.KernelChunks.sig) → Buf (Elt Bits) ℓ) (g : Dev Cert.KernelChunks.nD → PrngReg), Pre_KernelChunks m →
    θ_run (Cert.KernelChunks.defs (F := Bits)) (onTc (τ := Cert.KernelChunks.τ) (Cert.KernelChunks.main (F := Bits))) ⟨m, fun _ => 0, g⟩ (fun r => (∀ c : Dev Cert.KernelChunks.nD,
      r.2.mem ((c.tc : Thread Cert.KernelChunks.nD Cert.KernelChunks.τ).loc Cert.KernelChunks.main_arg0) = m ((c.tc : Thread Cert.KernelChunks.nD Cert.KernelChunks.τ).loc Cert.KernelChunks.main_arg0))
      ∧ r.2.sem = fun _ => 0)

def quiescent_KernelChunksIdeal [hKernelChunksIdeal : Cert.KernelChunksIdeal.Facts] : Prop :=
  ∀ (m : (ℓ : Loc Cert.KernelChunksIdeal.nD Cert.KernelChunksIdeal.τ Cert.KernelChunksIdeal.sig) → Buf (Elt Ideal) ℓ) (g : Dev Cert.KernelChunksIdeal.nD → PrngReg), Pre_KernelChunksIdeal m →
    θ_run (Cert.KernelChunksIdeal.defs (F := Ideal)) (onTc (τ := Cert.KernelChunksIdeal.τ) (Cert.KernelChunksIdeal.main (F := Ideal))) ⟨m, fun _ => 0, g⟩ (fun r => (∀ c : Dev Cert.KernelChunksIdeal.nD,
      r.2.mem ((c.tc : Thread Cert.KernelChunksIdeal.nD Cert.KernelChunksIdeal.τ).loc Cert.KernelChunksIdeal.main_arg0) = m ((c.tc : Thread Cert.KernelChunksIdeal.nD Cert.KernelChunksIdeal.τ).loc Cert.KernelChunksIdeal.main_arg0))
      ∧ r.2.sem = fun _ => 0)

def quiescent_ReferenceChunksIdeal [hReferenceChunksIdeal : Cert.ReferenceChunksIdeal.Facts] : Prop :=
  ∀ (m : (ℓ : Loc Cert.ReferenceChunksIdeal.nD Cert.ReferenceChunksIdeal.τ Cert.ReferenceChunksIdeal.sig) → Buf (Elt Ideal) ℓ) (g : Dev Cert.ReferenceChunksIdeal.nD → PrngReg), Pre_ReferenceChunksIdeal m →
    θ_run (Cert.ReferenceChunksIdeal.defs (F := Ideal)) (onTc (τ := Cert.ReferenceChunksIdeal.τ) (Cert.ReferenceChunksIdeal.main (F := Ideal))) ⟨m, fun _ => 0, g⟩ (fun r => (∀ c : Dev Cert.ReferenceChunksIdeal.nD,
      r.2.mem ((c.tc : Thread Cert.ReferenceChunksIdeal.nD Cert.ReferenceChunksIdeal.τ).loc Cert.ReferenceChunksIdeal.main_arg0) = m ((c.tc : Thread Cert.ReferenceChunksIdeal.nD Cert.ReferenceChunksIdeal.τ).loc Cert.ReferenceChunksIdeal.main_arg0))
      ∧ r.2.sem = fun _ => 0)

def quiescent_KernelFilterP [hKernelFilterP : Cert.KernelFilterP.Facts] : Prop :=
  ∀ (m : (ℓ : Loc Cert.KernelFilterP.nD Cert.KernelFilterP.τ Cert.KernelFilterP.sig) → Buf (Elt Bits) ℓ) (g : Dev Cert.KernelFilterP.nD → PrngReg), Pre_KernelFilterP m →
    θ_run (Cert.KernelFilterP.defs (F := Bits)) (onTc (τ := Cert.KernelFilterP.τ) (Cert.KernelFilterP.main (F := Bits))) ⟨m, fun _ => 0, g⟩ (fun r => (∀ c : Dev Cert.KernelFilterP.nD,
      r.2.mem ((c.tc : Thread Cert.KernelFilterP.nD Cert.KernelFilterP.τ).loc Cert.KernelFilterP.main_arg0) = m ((c.tc : Thread Cert.KernelFilterP.nD Cert.KernelFilterP.τ).loc Cert.KernelFilterP.main_arg0)
      ∧ r.2.mem ((c.tc : Thread Cert.KernelFilterP.nD Cert.KernelFilterP.τ).loc Cert.KernelFilterP.main_arg1) = m ((c.tc : Thread Cert.KernelFilterP.nD Cert.KernelFilterP.τ).loc Cert.KernelFilterP.main_arg1)
      ∧ r.2.mem ((c.tc : Thread Cert.KernelFilterP.nD Cert.KernelFilterP.τ).loc Cert.KernelFilterP.main_arg2) = m ((c.tc : Thread Cert.KernelFilterP.nD Cert.KernelFilterP.τ).loc Cert.KernelFilterP.main_arg2)
      ∧ r.2.mem ((c.tc : Thread Cert.KernelFilterP.nD Cert.KernelFilterP.τ).loc Cert.KernelFilterP.main_arg3) = m ((c.tc : Thread Cert.KernelFilterP.nD Cert.KernelFilterP.τ).loc Cert.KernelFilterP.main_arg3)
      ∧ r.2.mem ((c.tc : Thread Cert.KernelFilterP.nD Cert.KernelFilterP.τ).loc Cert.KernelFilterP.main_arg4) = m ((c.tc : Thread Cert.KernelFilterP.nD Cert.KernelFilterP.τ).loc Cert.KernelFilterP.main_arg4)
      ∧ r.2.mem ((c.tc : Thread Cert.KernelFilterP.nD Cert.KernelFilterP.τ).loc Cert.KernelFilterP.main_arg5) = m ((c.tc : Thread Cert.KernelFilterP.nD Cert.KernelFilterP.τ).loc Cert.KernelFilterP.main_arg5)
      ∧ r.2.mem ((c.tc : Thread Cert.KernelFilterP.nD Cert.KernelFilterP.τ).loc Cert.KernelFilterP.main_arg6) = m ((c.tc : Thread Cert.KernelFilterP.nD Cert.KernelFilterP.τ).loc Cert.KernelFilterP.main_arg6)
      ∧ r.2.mem ((c.tc : Thread Cert.KernelFilterP.nD Cert.KernelFilterP.τ).loc Cert.KernelFilterP.main_arg7) = m ((c.tc : Thread Cert.KernelFilterP.nD Cert.KernelFilterP.τ).loc Cert.KernelFilterP.main_arg7)
      ∧ r.2.mem ((c.tc : Thread Cert.KernelFilterP.nD Cert.KernelFilterP.τ).loc Cert.KernelFilterP.main_arg8) = m ((c.tc : Thread Cert.KernelFilterP.nD Cert.KernelFilterP.τ).loc Cert.KernelFilterP.main_arg8))
      ∧ r.2.sem = fun _ => 0)

def quiescent_KernelFilterPIdeal [hKernelFilterPIdeal : Cert.KernelFilterPIdeal.Facts] : Prop :=
  ∀ (m : (ℓ : Loc Cert.KernelFilterPIdeal.nD Cert.KernelFilterPIdeal.τ Cert.KernelFilterPIdeal.sig) → Buf (Elt Ideal) ℓ) (g : Dev Cert.KernelFilterPIdeal.nD → PrngReg), Pre_KernelFilterPIdeal m →
    θ_run (Cert.KernelFilterPIdeal.defs (F := Ideal)) (onTc (τ := Cert.KernelFilterPIdeal.τ) (Cert.KernelFilterPIdeal.main (F := Ideal))) ⟨m, fun _ => 0, g⟩ (fun r => (∀ c : Dev Cert.KernelFilterPIdeal.nD,
      r.2.mem ((c.tc : Thread Cert.KernelFilterPIdeal.nD Cert.KernelFilterPIdeal.τ).loc Cert.KernelFilterPIdeal.main_arg0) = m ((c.tc : Thread Cert.KernelFilterPIdeal.nD Cert.KernelFilterPIdeal.τ).loc Cert.KernelFilterPIdeal.main_arg0)
      ∧ r.2.mem ((c.tc : Thread Cert.KernelFilterPIdeal.nD Cert.KernelFilterPIdeal.τ).loc Cert.KernelFilterPIdeal.main_arg1) = m ((c.tc : Thread Cert.KernelFilterPIdeal.nD Cert.KernelFilterPIdeal.τ).loc Cert.KernelFilterPIdeal.main_arg1)
      ∧ r.2.mem ((c.tc : Thread Cert.KernelFilterPIdeal.nD Cert.KernelFilterPIdeal.τ).loc Cert.KernelFilterPIdeal.main_arg2) = m ((c.tc : Thread Cert.KernelFilterPIdeal.nD Cert.KernelFilterPIdeal.τ).loc Cert.KernelFilterPIdeal.main_arg2)
      ∧ r.2.mem ((c.tc : Thread Cert.KernelFilterPIdeal.nD Cert.KernelFilterPIdeal.τ).loc Cert.KernelFilterPIdeal.main_arg3) = m ((c.tc : Thread Cert.KernelFilterPIdeal.nD Cert.KernelFilterPIdeal.τ).loc Cert.KernelFilterPIdeal.main_arg3)
      ∧ r.2.mem ((c.tc : Thread Cert.KernelFilterPIdeal.nD Cert.KernelFilterPIdeal.τ).loc Cert.KernelFilterPIdeal.main_arg4) = m ((c.tc : Thread Cert.KernelFilterPIdeal.nD Cert.KernelFilterPIdeal.τ).loc Cert.KernelFilterPIdeal.main_arg4)
      ∧ r.2.mem ((c.tc : Thread Cert.KernelFilterPIdeal.nD Cert.KernelFilterPIdeal.τ).loc Cert.KernelFilterPIdeal.main_arg5) = m ((c.tc : Thread Cert.KernelFilterPIdeal.nD Cert.KernelFilterPIdeal.τ).loc Cert.KernelFilterPIdeal.main_arg5)
      ∧ r.2.mem ((c.tc : Thread Cert.KernelFilterPIdeal.nD Cert.KernelFilterPIdeal.τ).loc Cert.KernelFilterPIdeal.main_arg6) = m ((c.tc : Thread Cert.KernelFilterPIdeal.nD Cert.KernelFilterPIdeal.τ).loc Cert.KernelFilterPIdeal.main_arg6)
      ∧ r.2.mem ((c.tc : Thread Cert.KernelFilterPIdeal.nD Cert.KernelFilterPIdeal.τ).loc Cert.KernelFilterPIdeal.main_arg7) = m ((c.tc : Thread Cert.KernelFilterPIdeal.nD Cert.KernelFilterPIdeal.τ).loc Cert.KernelFilterPIdeal.main_arg7)
      ∧ r.2.mem ((c.tc : Thread Cert.KernelFilterPIdeal.nD Cert.KernelFilterPIdeal.τ).loc Cert.KernelFilterPIdeal.main_arg8) = m ((c.tc : Thread Cert.KernelFilterPIdeal.nD Cert.KernelFilterPIdeal.τ).loc Cert.KernelFilterPIdeal.main_arg8))
      ∧ r.2.sem = fun _ => 0)

def quiescent_KernelFilterPIdeal_pre_finite_filters [hKernelFilterPIdeal : Cert.KernelFilterPIdeal.Facts] [hPre_finite_filters : Cert.Pre_finite_filters.Facts] : Prop :=
  ∀ (m : (ℓ : Loc Cert.KernelFilterPIdeal.nD Cert.KernelFilterPIdeal.τ Cert.KernelFilterPIdeal.sig) → Buf (Elt Ideal) ℓ) (g : Dev Cert.KernelFilterPIdeal.nD → PrngReg), Pre_KernelFilterPIdeal_finite_filters m →
    θ_run (Cert.KernelFilterPIdeal.defs (F := Ideal)) (onTc (τ := Cert.KernelFilterPIdeal.τ) (Cert.KernelFilterPIdeal.main (F := Ideal))) ⟨m, fun _ => 0, g⟩ (fun r => (∀ c : Dev Cert.KernelFilterPIdeal.nD,
      r.2.mem ((c.tc : Thread Cert.KernelFilterPIdeal.nD Cert.KernelFilterPIdeal.τ).loc Cert.KernelFilterPIdeal.main_arg0) = m ((c.tc : Thread Cert.KernelFilterPIdeal.nD Cert.KernelFilterPIdeal.τ).loc Cert.KernelFilterPIdeal.main_arg0)
      ∧ r.2.mem ((c.tc : Thread Cert.KernelFilterPIdeal.nD Cert.KernelFilterPIdeal.τ).loc Cert.KernelFilterPIdeal.main_arg1) = m ((c.tc : Thread Cert.KernelFilterPIdeal.nD Cert.KernelFilterPIdeal.τ).loc Cert.KernelFilterPIdeal.main_arg1)
      ∧ r.2.mem ((c.tc : Thread Cert.KernelFilterPIdeal.nD Cert.KernelFilterPIdeal.τ).loc Cert.KernelFilterPIdeal.main_arg2) = m ((c.tc : Thread Cert.KernelFilterPIdeal.nD Cert.KernelFilterPIdeal.τ).loc Cert.KernelFilterPIdeal.main_arg2)
      ∧ r.2.mem ((c.tc : Thread Cert.KernelFilterPIdeal.nD Cert.KernelFilterPIdeal.τ).loc Cert.KernelFilterPIdeal.main_arg3) = m ((c.tc : Thread Cert.KernelFilterPIdeal.nD Cert.KernelFilterPIdeal.τ).loc Cert.KernelFilterPIdeal.main_arg3)
      ∧ r.2.mem ((c.tc : Thread Cert.KernelFilterPIdeal.nD Cert.KernelFilterPIdeal.τ).loc Cert.KernelFilterPIdeal.main_arg4) = m ((c.tc : Thread Cert.KernelFilterPIdeal.nD Cert.KernelFilterPIdeal.τ).loc Cert.KernelFilterPIdeal.main_arg4)
      ∧ r.2.mem ((c.tc : Thread Cert.KernelFilterPIdeal.nD Cert.KernelFilterPIdeal.τ).loc Cert.KernelFilterPIdeal.main_arg5) = m ((c.tc : Thread Cert.KernelFilterPIdeal.nD Cert.KernelFilterPIdeal.τ).loc Cert.KernelFilterPIdeal.main_arg5)
      ∧ r.2.mem ((c.tc : Thread Cert.KernelFilterPIdeal.nD Cert.KernelFilterPIdeal.τ).loc Cert.KernelFilterPIdeal.main_arg6) = m ((c.tc : Thread Cert.KernelFilterPIdeal.nD Cert.KernelFilterPIdeal.τ).loc Cert.KernelFilterPIdeal.main_arg6)
      ∧ r.2.mem ((c.tc : Thread Cert.KernelFilterPIdeal.nD Cert.KernelFilterPIdeal.τ).loc Cert.KernelFilterPIdeal.main_arg7) = m ((c.tc : Thread Cert.KernelFilterPIdeal.nD Cert.KernelFilterPIdeal.τ).loc Cert.KernelFilterPIdeal.main_arg7)
      ∧ r.2.mem ((c.tc : Thread Cert.KernelFilterPIdeal.nD Cert.KernelFilterPIdeal.τ).loc Cert.KernelFilterPIdeal.main_arg8) = m ((c.tc : Thread Cert.KernelFilterPIdeal.nD Cert.KernelFilterPIdeal.τ).loc Cert.KernelFilterPIdeal.main_arg8))
      ∧ r.2.sem = fun _ => 0)

def quiescent_ReferenceFilterPIdeal [hReferenceFilterPIdeal : Cert.ReferenceFilterPIdeal.Facts] : Prop :=
  ∀ (m : (ℓ : Loc Cert.ReferenceFilterPIdeal.nD Cert.ReferenceFilterPIdeal.τ Cert.ReferenceFilterPIdeal.sig) → Buf (Elt Ideal) ℓ) (g : Dev Cert.ReferenceFilterPIdeal.nD → PrngReg), Pre_ReferenceFilterPIdeal m →
    θ_run (Cert.ReferenceFilterPIdeal.defs (F := Ideal)) (onTc (τ := Cert.ReferenceFilterPIdeal.τ) (Cert.ReferenceFilterPIdeal.main (F := Ideal))) ⟨m, fun _ => 0, g⟩ (fun r => (∀ c : Dev Cert.ReferenceFilterPIdeal.nD,
      r.2.mem ((c.tc : Thread Cert.ReferenceFilterPIdeal.nD Cert.ReferenceFilterPIdeal.τ).loc Cert.ReferenceFilterPIdeal.main_arg0) = m ((c.tc : Thread Cert.ReferenceFilterPIdeal.nD Cert.ReferenceFilterPIdeal.τ).loc Cert.ReferenceFilterPIdeal.main_arg0)
      ∧ r.2.mem ((c.tc : Thread Cert.ReferenceFilterPIdeal.nD Cert.ReferenceFilterPIdeal.τ).loc Cert.ReferenceFilterPIdeal.main_arg1) = m ((c.tc : Thread Cert.ReferenceFilterPIdeal.nD Cert.ReferenceFilterPIdeal.τ).loc Cert.ReferenceFilterPIdeal.main_arg1)
      ∧ r.2.mem ((c.tc : Thread Cert.ReferenceFilterPIdeal.nD Cert.ReferenceFilterPIdeal.τ).loc Cert.ReferenceFilterPIdeal.main_arg2) = m ((c.tc : Thread Cert.ReferenceFilterPIdeal.nD Cert.ReferenceFilterPIdeal.τ).loc Cert.ReferenceFilterPIdeal.main_arg2)
      ∧ r.2.mem ((c.tc : Thread Cert.ReferenceFilterPIdeal.nD Cert.ReferenceFilterPIdeal.τ).loc Cert.ReferenceFilterPIdeal.main_arg3) = m ((c.tc : Thread Cert.ReferenceFilterPIdeal.nD Cert.ReferenceFilterPIdeal.τ).loc Cert.ReferenceFilterPIdeal.main_arg3)
      ∧ r.2.mem ((c.tc : Thread Cert.ReferenceFilterPIdeal.nD Cert.ReferenceFilterPIdeal.τ).loc Cert.ReferenceFilterPIdeal.main_arg4) = m ((c.tc : Thread Cert.ReferenceFilterPIdeal.nD Cert.ReferenceFilterPIdeal.τ).loc Cert.ReferenceFilterPIdeal.main_arg4)
      ∧ r.2.mem ((c.tc : Thread Cert.ReferenceFilterPIdeal.nD Cert.ReferenceFilterPIdeal.τ).loc Cert.ReferenceFilterPIdeal.main_arg5) = m ((c.tc : Thread Cert.ReferenceFilterPIdeal.nD Cert.ReferenceFilterPIdeal.τ).loc Cert.ReferenceFilterPIdeal.main_arg5)
      ∧ r.2.mem ((c.tc : Thread Cert.ReferenceFilterPIdeal.nD Cert.ReferenceFilterPIdeal.τ).loc Cert.ReferenceFilterPIdeal.main_arg6) = m ((c.tc : Thread Cert.ReferenceFilterPIdeal.nD Cert.ReferenceFilterPIdeal.τ).loc Cert.ReferenceFilterPIdeal.main_arg6)
      ∧ r.2.mem ((c.tc : Thread Cert.ReferenceFilterPIdeal.nD Cert.ReferenceFilterPIdeal.τ).loc Cert.ReferenceFilterPIdeal.main_arg7) = m ((c.tc : Thread Cert.ReferenceFilterPIdeal.nD Cert.ReferenceFilterPIdeal.τ).loc Cert.ReferenceFilterPIdeal.main_arg7)
      ∧ r.2.mem ((c.tc : Thread Cert.ReferenceFilterPIdeal.nD Cert.ReferenceFilterPIdeal.τ).loc Cert.ReferenceFilterPIdeal.main_arg8) = m ((c.tc : Thread Cert.ReferenceFilterPIdeal.nD Cert.ReferenceFilterPIdeal.τ).loc Cert.ReferenceFilterPIdeal.main_arg8))
      ∧ r.2.sem = fun _ => 0)

def quiescent_ReferenceFilterPIdeal_pre_finite_filters [hReferenceFilterPIdeal : Cert.ReferenceFilterPIdeal.Facts] [hPre_finite_filters : Cert.Pre_finite_filters.Facts] : Prop :=
  ∀ (m : (ℓ : Loc Cert.ReferenceFilterPIdeal.nD Cert.ReferenceFilterPIdeal.τ Cert.ReferenceFilterPIdeal.sig) → Buf (Elt Ideal) ℓ) (g : Dev Cert.ReferenceFilterPIdeal.nD → PrngReg), Pre_ReferenceFilterPIdeal_finite_filters m →
    θ_run (Cert.ReferenceFilterPIdeal.defs (F := Ideal)) (onTc (τ := Cert.ReferenceFilterPIdeal.τ) (Cert.ReferenceFilterPIdeal.main (F := Ideal))) ⟨m, fun _ => 0, g⟩ (fun r => (∀ c : Dev Cert.ReferenceFilterPIdeal.nD,
      r.2.mem ((c.tc : Thread Cert.ReferenceFilterPIdeal.nD Cert.ReferenceFilterPIdeal.τ).loc Cert.ReferenceFilterPIdeal.main_arg0) = m ((c.tc : Thread Cert.ReferenceFilterPIdeal.nD Cert.ReferenceFilterPIdeal.τ).loc Cert.ReferenceFilterPIdeal.main_arg0)
      ∧ r.2.mem ((c.tc : Thread Cert.ReferenceFilterPIdeal.nD Cert.ReferenceFilterPIdeal.τ).loc Cert.ReferenceFilterPIdeal.main_arg1) = m ((c.tc : Thread Cert.ReferenceFilterPIdeal.nD Cert.ReferenceFilterPIdeal.τ).loc Cert.ReferenceFilterPIdeal.main_arg1)
      ∧ r.2.mem ((c.tc : Thread Cert.ReferenceFilterPIdeal.nD Cert.ReferenceFilterPIdeal.τ).loc Cert.ReferenceFilterPIdeal.main_arg2) = m ((c.tc : Thread Cert.ReferenceFilterPIdeal.nD Cert.ReferenceFilterPIdeal.τ).loc Cert.ReferenceFilterPIdeal.main_arg2)
      ∧ r.2.mem ((c.tc : Thread Cert.ReferenceFilterPIdeal.nD Cert.ReferenceFilterPIdeal.τ).loc Cert.ReferenceFilterPIdeal.main_arg3) = m ((c.tc : Thread Cert.ReferenceFilterPIdeal.nD Cert.ReferenceFilterPIdeal.τ).loc Cert.ReferenceFilterPIdeal.main_arg3)
      ∧ r.2.mem ((c.tc : Thread Cert.ReferenceFilterPIdeal.nD Cert.ReferenceFilterPIdeal.τ).loc Cert.ReferenceFilterPIdeal.main_arg4) = m ((c.tc : Thread Cert.ReferenceFilterPIdeal.nD Cert.ReferenceFilterPIdeal.τ).loc Cert.ReferenceFilterPIdeal.main_arg4)
      ∧ r.2.mem ((c.tc : Thread Cert.ReferenceFilterPIdeal.nD Cert.ReferenceFilterPIdeal.τ).loc Cert.ReferenceFilterPIdeal.main_arg5) = m ((c.tc : Thread Cert.ReferenceFilterPIdeal.nD Cert.ReferenceFilterPIdeal.τ).loc Cert.ReferenceFilterPIdeal.main_arg5)
      ∧ r.2.mem ((c.tc : Thread Cert.ReferenceFilterPIdeal.nD Cert.ReferenceFilterPIdeal.τ).loc Cert.ReferenceFilterPIdeal.main_arg6) = m ((c.tc : Thread Cert.ReferenceFilterPIdeal.nD Cert.ReferenceFilterPIdeal.τ).loc Cert.ReferenceFilterPIdeal.main_arg6)
      ∧ r.2.mem ((c.tc : Thread Cert.ReferenceFilterPIdeal.nD Cert.ReferenceFilterPIdeal.τ).loc Cert.ReferenceFilterPIdeal.main_arg7) = m ((c.tc : Thread Cert.ReferenceFilterPIdeal.nD Cert.ReferenceFilterPIdeal.τ).loc Cert.ReferenceFilterPIdeal.main_arg7)
      ∧ r.2.mem ((c.tc : Thread Cert.ReferenceFilterPIdeal.nD Cert.ReferenceFilterPIdeal.τ).loc Cert.ReferenceFilterPIdeal.main_arg8) = m ((c.tc : Thread Cert.ReferenceFilterPIdeal.nD Cert.ReferenceFilterPIdeal.τ).loc Cert.ReferenceFilterPIdeal.main_arg8))
      ∧ r.2.sem = fun _ => 0)

def quiescent_KernelHyenaP [hKernelHyenaP : Cert.KernelHyenaP.Facts] : Prop :=
  ∀ (m : (ℓ : Loc Cert.KernelHyenaP.nD Cert.KernelHyenaP.τ Cert.KernelHyenaP.sig) → Buf (Elt Bits) ℓ) (g : Dev Cert.KernelHyenaP.nD → PrngReg), Pre_KernelHyenaP m →
    θ_run (Cert.KernelHyenaP.defs (F := Bits)) (onTc (τ := Cert.KernelHyenaP.τ) (Cert.KernelHyenaP.main (F := Bits))) ⟨m, fun _ => 0, g⟩ (fun r => (∀ c : Dev Cert.KernelHyenaP.nD,
      r.2.mem ((c.tc : Thread Cert.KernelHyenaP.nD Cert.KernelHyenaP.τ).loc Cert.KernelHyenaP.main_arg0) = m ((c.tc : Thread Cert.KernelHyenaP.nD Cert.KernelHyenaP.τ).loc Cert.KernelHyenaP.main_arg0)
      ∧ r.2.mem ((c.tc : Thread Cert.KernelHyenaP.nD Cert.KernelHyenaP.τ).loc Cert.KernelHyenaP.main_arg1) = m ((c.tc : Thread Cert.KernelHyenaP.nD Cert.KernelHyenaP.τ).loc Cert.KernelHyenaP.main_arg1)
      ∧ r.2.mem ((c.tc : Thread Cert.KernelHyenaP.nD Cert.KernelHyenaP.τ).loc Cert.KernelHyenaP.main_arg2) = m ((c.tc : Thread Cert.KernelHyenaP.nD Cert.KernelHyenaP.τ).loc Cert.KernelHyenaP.main_arg2)
      ∧ r.2.mem ((c.tc : Thread Cert.KernelHyenaP.nD Cert.KernelHyenaP.τ).loc Cert.KernelHyenaP.main_arg3) = m ((c.tc : Thread Cert.KernelHyenaP.nD Cert.KernelHyenaP.τ).loc Cert.KernelHyenaP.main_arg3)
      ∧ r.2.mem ((c.tc : Thread Cert.KernelHyenaP.nD Cert.KernelHyenaP.τ).loc Cert.KernelHyenaP.main_arg4) = m ((c.tc : Thread Cert.KernelHyenaP.nD Cert.KernelHyenaP.τ).loc Cert.KernelHyenaP.main_arg4))
      ∧ r.2.sem = fun _ => 0)

def quiescent_KernelHyenaPIdeal [hKernelHyenaPIdeal : Cert.KernelHyenaPIdeal.Facts] : Prop :=
  ∀ (m : (ℓ : Loc Cert.KernelHyenaPIdeal.nD Cert.KernelHyenaPIdeal.τ Cert.KernelHyenaPIdeal.sig) → Buf (Elt Ideal) ℓ) (g : Dev Cert.KernelHyenaPIdeal.nD → PrngReg), Pre_KernelHyenaPIdeal m →
    θ_run (Cert.KernelHyenaPIdeal.defs (F := Ideal)) (onTc (τ := Cert.KernelHyenaPIdeal.τ) (Cert.KernelHyenaPIdeal.main (F := Ideal))) ⟨m, fun _ => 0, g⟩ (fun r => (∀ c : Dev Cert.KernelHyenaPIdeal.nD,
      r.2.mem ((c.tc : Thread Cert.KernelHyenaPIdeal.nD Cert.KernelHyenaPIdeal.τ).loc Cert.KernelHyenaPIdeal.main_arg0) = m ((c.tc : Thread Cert.KernelHyenaPIdeal.nD Cert.KernelHyenaPIdeal.τ).loc Cert.KernelHyenaPIdeal.main_arg0)
      ∧ r.2.mem ((c.tc : Thread Cert.KernelHyenaPIdeal.nD Cert.KernelHyenaPIdeal.τ).loc Cert.KernelHyenaPIdeal.main_arg1) = m ((c.tc : Thread Cert.KernelHyenaPIdeal.nD Cert.KernelHyenaPIdeal.τ).loc Cert.KernelHyenaPIdeal.main_arg1)
      ∧ r.2.mem ((c.tc : Thread Cert.KernelHyenaPIdeal.nD Cert.KernelHyenaPIdeal.τ).loc Cert.KernelHyenaPIdeal.main_arg2) = m ((c.tc : Thread Cert.KernelHyenaPIdeal.nD Cert.KernelHyenaPIdeal.τ).loc Cert.KernelHyenaPIdeal.main_arg2)
      ∧ r.2.mem ((c.tc : Thread Cert.KernelHyenaPIdeal.nD Cert.KernelHyenaPIdeal.τ).loc Cert.KernelHyenaPIdeal.main_arg3) = m ((c.tc : Thread Cert.KernelHyenaPIdeal.nD Cert.KernelHyenaPIdeal.τ).loc Cert.KernelHyenaPIdeal.main_arg3)
      ∧ r.2.mem ((c.tc : Thread Cert.KernelHyenaPIdeal.nD Cert.KernelHyenaPIdeal.τ).loc Cert.KernelHyenaPIdeal.main_arg4) = m ((c.tc : Thread Cert.KernelHyenaPIdeal.nD Cert.KernelHyenaPIdeal.τ).loc Cert.KernelHyenaPIdeal.main_arg4))
      ∧ r.2.sem = fun _ => 0)

def quiescent_ReferenceHyenaPIdeal [hReferenceHyenaPIdeal : Cert.ReferenceHyenaPIdeal.Facts] : Prop :=
  ∀ (m : (ℓ : Loc Cert.ReferenceHyenaPIdeal.nD Cert.ReferenceHyenaPIdeal.τ Cert.ReferenceHyenaPIdeal.sig) → Buf (Elt Ideal) ℓ) (g : Dev Cert.ReferenceHyenaPIdeal.nD → PrngReg), Pre_ReferenceHyenaPIdeal m →
    θ_run (Cert.ReferenceHyenaPIdeal.defs (F := Ideal)) (onTc (τ := Cert.ReferenceHyenaPIdeal.τ) (Cert.ReferenceHyenaPIdeal.main (F := Ideal))) ⟨m, fun _ => 0, g⟩ (fun r => (∀ c : Dev Cert.ReferenceHyenaPIdeal.nD,
      r.2.mem ((c.tc : Thread Cert.ReferenceHyenaPIdeal.nD Cert.ReferenceHyenaPIdeal.τ).loc Cert.ReferenceHyenaPIdeal.main_arg0) = m ((c.tc : Thread Cert.ReferenceHyenaPIdeal.nD Cert.ReferenceHyenaPIdeal.τ).loc Cert.ReferenceHyenaPIdeal.main_arg0)
      ∧ r.2.mem ((c.tc : Thread Cert.ReferenceHyenaPIdeal.nD Cert.ReferenceHyenaPIdeal.τ).loc Cert.ReferenceHyenaPIdeal.main_arg1) = m ((c.tc : Thread Cert.ReferenceHyenaPIdeal.nD Cert.ReferenceHyenaPIdeal.τ).loc Cert.ReferenceHyenaPIdeal.main_arg1)
      ∧ r.2.mem ((c.tc : Thread Cert.ReferenceHyenaPIdeal.nD Cert.ReferenceHyenaPIdeal.τ).loc Cert.ReferenceHyenaPIdeal.main_arg2) = m ((c.tc : Thread Cert.ReferenceHyenaPIdeal.nD Cert.ReferenceHyenaPIdeal.τ).loc Cert.ReferenceHyenaPIdeal.main_arg2)
      ∧ r.2.mem ((c.tc : Thread Cert.ReferenceHyenaPIdeal.nD Cert.ReferenceHyenaPIdeal.τ).loc Cert.ReferenceHyenaPIdeal.main_arg3) = m ((c.tc : Thread Cert.ReferenceHyenaPIdeal.nD Cert.ReferenceHyenaPIdeal.τ).loc Cert.ReferenceHyenaPIdeal.main_arg3)
      ∧ r.2.mem ((c.tc : Thread Cert.ReferenceHyenaPIdeal.nD Cert.ReferenceHyenaPIdeal.τ).loc Cert.ReferenceHyenaPIdeal.main_arg4) = m ((c.tc : Thread Cert.ReferenceHyenaPIdeal.nD Cert.ReferenceHyenaPIdeal.τ).loc Cert.ReferenceHyenaPIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)
      ∧ m' ((c.tc : Thread Cert.ReferenceInProjIdeal.nD Cert.ReferenceInProjIdeal.τ).loc Cert.ReferenceInProjIdeal.main_arg2) = m ((c.tc : Thread Cert.KernelInProjIdeal.nD Cert.KernelInProjIdeal.τ).loc Cert.KernelInProjIdeal.main_arg2)) →
    ∃ (v0 : (c : Dev Cert.KernelInProjIdeal.nD) → Buf (Elt Ideal) ((c.tc : Thread Cert.KernelInProjIdeal.nD Cert.KernelInProjIdeal.τ).loc Cert.KernelInProjIdeal.main_v59)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v59) = v0 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
          ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v27) = v0 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1)
          ∧ r.2.mem ((c.tc : Thread Cert.ReferenceInProjIdeal.nD Cert.ReferenceInProjIdeal.τ).loc Cert.ReferenceInProjIdeal.main_arg2) = m' ((c.tc : Thread Cert.ReferenceInProjIdeal.nD Cert.ReferenceInProjIdeal.τ).loc Cert.ReferenceInProjIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v1) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v81) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)
      ∧ m' ((c.tc : Thread Cert.ReferenceOutProjIdeal.nD Cert.ReferenceOutProjIdeal.τ).loc Cert.ReferenceOutProjIdeal.main_arg3) = m ((c.tc : Thread Cert.KernelOutProjIdeal.nD Cert.KernelOutProjIdeal.τ).loc Cert.KernelOutProjIdeal.main_arg3)) →
    ∃ (v0 : (c : Dev Cert.KernelOutProjIdeal.nD) → Buf (Elt Ideal) ((c.tc : Thread Cert.KernelOutProjIdeal.nD Cert.KernelOutProjIdeal.τ).loc Cert.KernelOutProjIdeal.main_v1)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v1) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
          ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v23) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2)
          ∧ r.2.mem ((c.tc : Thread Cert.ReferenceOutProjIdeal.nD Cert.ReferenceOutProjIdeal.τ).loc Cert.ReferenceOutProjIdeal.main_arg3) = m' ((c.tc : Thread Cert.ReferenceOutProjIdeal.nD Cert.ReferenceOutProjIdeal.τ).loc Cert.ReferenceOutProjIdeal.main_arg3))

def preserves_KernelNormP_KernelNormPIdeal : Prop :=
  True

def algebraic_KernelNormPIdeal_ReferenceNormPIdeal [hKernelNormPIdeal : Cert.KernelNormPIdeal.Facts] [hReferenceNormPIdeal : Cert.ReferenceNormPIdeal.Facts] : Prop :=
  ∀ (m : (ℓ : Loc Cert.KernelNormPIdeal.nD Cert.KernelNormPIdeal.τ Cert.KernelNormPIdeal.sig) → Buf (Elt Ideal) ℓ) (g : Dev Cert.KernelNormPIdeal.nD → PrngReg)
    (m' : (ℓ : Loc Cert.ReferenceNormPIdeal.nD Cert.ReferenceNormPIdeal.τ Cert.ReferenceNormPIdeal.sig) → Buf (Elt Ideal) ℓ) (g' : Dev Cert.ReferenceNormPIdeal.nD → PrngReg), Pre_KernelNormPIdeal m →
    (∀ c : Dev Cert.KernelNormPIdeal.nD,
      m' ((c.tc : Thread Cert.ReferenceNormPIdeal.nD Cert.ReferenceNormPIdeal.τ).loc Cert.ReferenceNormPIdeal.main_arg0) = m ((c.tc : Thread Cert.KernelNormPIdeal.nD Cert.KernelNormPIdeal.τ).loc Cert.KernelNormPIdeal.main_arg0)
      ∧ m' ((c.tc : Thread Cert.ReferenceNormPIdeal.nD Cert.ReferenceNormPIdeal.τ).loc Cert.ReferenceNormPIdeal.main_arg1) = m ((c.tc : Thread Cert.KernelNormPIdeal.nD Cert.KernelNormPIdeal.τ).loc Cert.KernelNormPIdeal.main_arg1)) →
    ∃ (v0 : (c : Dev Cert.KernelNormPIdeal.nD) → Buf (Elt Ideal) ((c.tc : Thread Cert.KernelNormPIdeal.nD Cert.KernelNormPIdeal.τ).loc Cert.KernelNormPIdeal.main_v1)),
      θ_run (Cert.KernelNormPIdeal.defs (F := Ideal)) (onTc (τ := Cert.KernelNormPIdeal.τ) (Cert.KernelNormPIdeal.main (F := Ideal))) ⟨m, fun _ => 0, g⟩ (fun r => ∀ c : Dev Cert.KernelNormPIdeal.nD,
          r.2.mem ((c.tc : Thread Cert.KernelNormPIdeal.nD Cert.KernelNormPIdeal.τ).loc Cert.KernelNormPIdeal.main_v1) = v0 c
          ∧ r.2.mem ((c.tc : Thread Cert.KernelNormPIdeal.nD Cert.KernelNormPIdeal.τ).loc Cert.KernelNormPIdeal.main_arg0) = m ((c.tc : Thread Cert.KernelNormPIdeal.nD Cert.KernelNormPIdeal.τ).loc Cert.KernelNormPIdeal.main_arg0)
          ∧ r.2.mem ((c.tc : Thread Cert.KernelNormPIdeal.nD Cert.KernelNormPIdeal.τ).loc Cert.KernelNormPIdeal.main_arg1) = m ((c.tc : Thread Cert.KernelNormPIdeal.nD Cert.KernelNormPIdeal.τ).loc Cert.KernelNormPIdeal.main_arg1))
      ∧ θ_run (Cert.ReferenceNormPIdeal.defs (F := Ideal)) (onTc (τ := Cert.ReferenceNormPIdeal.τ) (Cert.ReferenceNormPIdeal.main (F := Ideal))) ⟨m', fun _ => 0, g'⟩ (fun r => ∀ c : Dev Cert.ReferenceNormPIdeal.nD,
          r.2.mem ((c.tc : Thread Cert.ReferenceNormPIdeal.nD Cert.ReferenceNormPIdeal.τ).loc Cert.ReferenceNormPIdeal.main_v13) = v0 c
          ∧ r.2.mem ((c.tc : Thread Cert.ReferenceNormPIdeal.nD Cert.ReferenceNormPIdeal.τ).loc Cert.ReferenceNormPIdeal.main_arg0) = m' ((c.tc : Thread Cert.ReferenceNormPIdeal.nD Cert.ReferenceNormPIdeal.τ).loc Cert.ReferenceNormPIdeal.main_arg0)
          ∧ r.2.mem ((c.tc : Thread Cert.ReferenceNormPIdeal.nD Cert.ReferenceNormPIdeal.τ).loc Cert.ReferenceNormPIdeal.main_arg1) = m' ((c.tc : Thread Cert.ReferenceNormPIdeal.nD Cert.ReferenceNormPIdeal.τ).loc Cert.ReferenceNormPIdeal.main_arg1))

def preserves_KernelNormS_KernelNormSIdeal : Prop :=
  True

def algebraic_KernelNormSIdeal_ReferenceNormSIdeal [hKernelNormSIdeal : Cert.KernelNormSIdeal.Facts] [hReferenceNormSIdeal : Cert.ReferenceNormSIdeal.Facts] : Prop :=
  ∀ (m : (ℓ : Loc Cert.KernelNormSIdeal.nD Cert.KernelNormSIdeal.τ Cert.KernelNormSIdeal.sig) → Buf (Elt Ideal) ℓ) (g : Dev Cert.KernelNormSIdeal.nD → PrngReg)
    (m' : (ℓ : Loc Cert.ReferenceNormSIdeal.nD Cert.ReferenceNormSIdeal.τ Cert.ReferenceNormSIdeal.sig) → Buf (Elt Ideal) ℓ) (g' : Dev Cert.ReferenceNormSIdeal.nD → PrngReg), Pre_KernelNormSIdeal m →
    (∀ c : Dev Cert.KernelNormSIdeal.nD,
      m' ((c.tc : Thread Cert.ReferenceNormSIdeal.nD Cert.ReferenceNormSIdeal.τ).loc Cert.ReferenceNormSIdeal.main_arg0) = m ((c.tc : Thread Cert.KernelNormSIdeal.nD Cert.KernelNormSIdeal.τ).loc Cert.KernelNormSIdeal.main_arg0)
      ∧ m' ((c.tc : Thread Cert.ReferenceNormSIdeal.nD Cert.ReferenceNormSIdeal.τ).loc Cert.ReferenceNormSIdeal.main_arg1) = m ((c.tc : Thread Cert.KernelNormSIdeal.nD Cert.KernelNormSIdeal.τ).loc Cert.KernelNormSIdeal.main_arg1)) →
    ∃ (v0 : (c : Dev Cert.KernelNormSIdeal.nD) → Buf (Elt Ideal) ((c.tc : Thread Cert.KernelNormSIdeal.nD Cert.KernelNormSIdeal.τ).loc Cert.KernelNormSIdeal.main_v1)),
      θ_run (Cert.KernelNormSIdeal.defs (F := Ideal)) (onTc (τ := Cert.KernelNormSIdeal.τ) (Cert.KernelNormSIdeal.main (F := Ideal))) ⟨m, fun _ => 0, g⟩ (fun r => ∀ c : Dev Cert.KernelNormSIdeal.nD,
          r.2.mem ((c.tc : Thread Cert.KernelNormSIdeal.nD Cert.KernelNormSIdeal.τ).loc Cert.KernelNormSIdeal.main_v1) = v0 c
          ∧ r.2.mem ((c.tc : Thread Cert.KernelNormSIdeal.nD Cert.KernelNormSIdeal.τ).loc Cert.KernelNormSIdeal.main_arg0) = m ((c.tc : Thread Cert.KernelNormSIdeal.nD Cert.KernelNormSIdeal.τ).loc Cert.KernelNormSIdeal.main_arg0)
          ∧ r.2.mem ((c.tc : Thread Cert.KernelNormSIdeal.nD Cert.KernelNormSIdeal.τ).loc Cert.KernelNormSIdeal.main_arg1) = m ((c.tc : Thread Cert.KernelNormSIdeal.nD Cert.KernelNormSIdeal.τ).loc Cert.KernelNormSIdeal.main_arg1))
      ∧ θ_run (Cert.ReferenceNormSIdeal.defs (F := Ideal)) (onTc (τ := Cert.ReferenceNormSIdeal.τ) (Cert.ReferenceNormSIdeal.main (F := Ideal))) ⟨m', fun _ => 0, g'⟩ (fun r => ∀ c : Dev Cert.ReferenceNormSIdeal.nD,
          r.2.mem ((c.tc : Thread Cert.ReferenceNormSIdeal.nD Cert.ReferenceNormSIdeal.τ).loc Cert.ReferenceNormSIdeal.main_v13) = v0 c
          ∧ r.2.mem ((c.tc : Thread Cert.ReferenceNormSIdeal.nD Cert.ReferenceNormSIdeal.τ).loc Cert.ReferenceNormSIdeal.main_arg0) = m' ((c.tc : Thread Cert.ReferenceNormSIdeal.nD Cert.ReferenceNormSIdeal.τ).loc Cert.ReferenceNormSIdeal.main_arg0)
          ∧ r.2.mem ((c.tc : Thread Cert.ReferenceNormSIdeal.nD Cert.ReferenceNormSIdeal.τ).loc Cert.ReferenceNormSIdeal.main_arg1) = m' ((c.tc : Thread Cert.ReferenceNormSIdeal.nD Cert.ReferenceNormSIdeal.τ).loc Cert.ReferenceNormSIdeal.main_arg1))

def preserves_KernelQuery_KernelQueryIdeal : Prop :=
  True

def algebraic_KernelQueryIdeal_ReferenceQueryIdeal_pre_finite_query [hKernelQueryIdeal : Cert.KernelQueryIdeal.Facts] [hReferenceQueryIdeal : Cert.ReferenceQueryIdeal.Facts] [hPre_finite_query : Cert.Pre_finite_query.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal_finite_query m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)
      ∧ m' ((c.tc : Thread Cert.ReferenceQueryIdeal.nD Cert.ReferenceQueryIdeal.τ).loc Cert.ReferenceQueryIdeal.main_arg2) = m ((c.tc : Thread Cert.KernelQueryIdeal.nD Cert.KernelQueryIdeal.τ).loc Cert.KernelQueryIdeal.main_arg2)) →
    ∃ (v0 : (c : Dev Cert.KernelQueryIdeal.nD) → Buf (Elt Ideal) ((c.tc : Thread Cert.KernelQueryIdeal.nD Cert.KernelQueryIdeal.τ).loc Cert.KernelQueryIdeal.main_v5)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v5) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
          ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v5) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1)
          ∧ r.2.mem ((c.tc : Thread Cert.ReferenceQueryIdeal.nD Cert.ReferenceQueryIdeal.τ).loc Cert.ReferenceQueryIdeal.main_arg2) = m' ((c.tc : Thread Cert.ReferenceQueryIdeal.nD Cert.ReferenceQueryIdeal.τ).loc Cert.ReferenceQueryIdeal.main_arg2))

def preserves_KernelModPeer_KernelModPeerIdeal : Prop :=
  True

def algebraic_KernelModPeerIdeal_ReferenceModPeerIdeal [hKernelModPeerIdeal : Cert.KernelModPeerIdeal.Facts] [hReferenceModPeerIdeal : Cert.ReferenceModPeerIdeal.Facts] : Prop :=
  ∀ (m : (ℓ : Loc Cert.KernelModPeerIdeal.nD Cert.KernelModPeerIdeal.τ Cert.KernelModPeerIdeal.sig) → Buf (Elt Ideal) ℓ) (g : Dev Cert.KernelModPeerIdeal.nD → PrngReg)
    (m' : (ℓ : Loc Cert.ReferenceModPeerIdeal.nD Cert.ReferenceModPeerIdeal.τ Cert.ReferenceModPeerIdeal.sig) → Buf (Elt Ideal) ℓ) (g' : Dev Cert.ReferenceModPeerIdeal.nD → PrngReg), Pre_KernelModPeerIdeal m →
    (∀ c : Dev Cert.KernelModPeerIdeal.nD,
      m' ((c.tc : Thread Cert.ReferenceModPeerIdeal.nD Cert.ReferenceModPeerIdeal.τ).loc Cert.ReferenceModPeerIdeal.main_arg0) = m ((c.tc : Thread Cert.KernelModPeerIdeal.nD Cert.KernelModPeerIdeal.τ).loc Cert.KernelModPeerIdeal.main_arg0)
      ∧ m' ((c.tc : Thread Cert.ReferenceModPeerIdeal.nD Cert.ReferenceModPeerIdeal.τ).loc Cert.ReferenceModPeerIdeal.main_arg1) = m ((c.tc : Thread Cert.KernelModPeerIdeal.nD Cert.KernelModPeerIdeal.τ).loc Cert.KernelModPeerIdeal.main_arg1)
      ∧ m' ((c.tc : Thread Cert.ReferenceModPeerIdeal.nD Cert.ReferenceModPeerIdeal.τ).loc Cert.ReferenceModPeerIdeal.main_arg2) = m ((c.tc : Thread Cert.KernelModPeerIdeal.nD Cert.KernelModPeerIdeal.τ).loc Cert.KernelModPeerIdeal.main_arg2)) →
    ∃ (v0 : (c : Dev Cert.KernelModPeerIdeal.nD) → Buf (Elt Ideal) ((c.tc : Thread Cert.KernelModPeerIdeal.nD Cert.KernelModPeerIdeal.τ).loc Cert.KernelModPeerIdeal.main_v3_0)) (v1 : (c : Dev Cert.KernelModPeerIdeal.nD) → Buf (Elt Ideal) ((c.tc : Thread Cert.KernelModPeerIdeal.nD Cert.KernelModPeerIdeal.τ).loc Cert.KernelModPeerIdeal.main_v3_1)) (v2 : (c : Dev Cert.KernelModPeerIdeal.nD) → Buf (Elt Ideal) ((c.tc : Thread Cert.KernelModPeerIdeal.nD Cert.KernelModPeerIdeal.τ).loc Cert.KernelModPeerIdeal.main_v3_2)),
      θ_run (Cert.KernelModPeerIdeal.defs (F := Ideal)) (onTc (τ := Cert.KernelModPeerIdeal.τ) (Cert.KernelModPeerIdeal.main (F := Ideal))) ⟨m, fun _ => 0, g⟩ (fun r => ∀ c : Dev Cert.KernelModPeerIdeal.nD,
          r.2.mem ((c.tc : Thread Cert.KernelModPeerIdeal.nD Cert.KernelModPeerIdeal.τ).loc Cert.KernelModPeerIdeal.main_v3_0) = v0 c
          ∧ r.2.mem ((c.tc : Thread Cert.KernelModPeerIdeal.nD Cert.KernelModPeerIdeal.τ).loc Cert.KernelModPeerIdeal.main_v3_1) = v1 c
          ∧ r.2.mem ((c.tc : Thread Cert.KernelModPeerIdeal.nD Cert.KernelModPeerIdeal.τ).loc Cert.KernelModPeerIdeal.main_v3_2) = v2 c
          ∧ r.2.mem ((c.tc : Thread Cert.KernelModPeerIdeal.nD Cert.KernelModPeerIdeal.τ).loc Cert.KernelModPeerIdeal.main_arg0) = m ((c.tc : Thread Cert.KernelModPeerIdeal.nD Cert.KernelModPeerIdeal.τ).loc Cert.KernelModPeerIdeal.main_arg0)
          ∧ r.2.mem ((c.tc : Thread Cert.KernelModPeerIdeal.nD Cert.KernelModPeerIdeal.τ).loc Cert.KernelModPeerIdeal.main_arg1) = m ((c.tc : Thread Cert.KernelModPeerIdeal.nD Cert.KernelModPeerIdeal.τ).loc Cert.KernelModPeerIdeal.main_arg1)
          ∧ r.2.mem ((c.tc : Thread Cert.KernelModPeerIdeal.nD Cert.KernelModPeerIdeal.τ).loc Cert.KernelModPeerIdeal.main_arg2) = m ((c.tc : Thread Cert.KernelModPeerIdeal.nD Cert.KernelModPeerIdeal.τ).loc Cert.KernelModPeerIdeal.main_arg2))
      ∧ θ_run (Cert.ReferenceModPeerIdeal.defs (F := Ideal)) (onTc (τ := Cert.ReferenceModPeerIdeal.τ) (Cert.ReferenceModPeerIdeal.main (F := Ideal))) ⟨m', fun _ => 0, g'⟩ (fun r => ∀ c : Dev Cert.ReferenceModPeerIdeal.nD,
          r.2.mem ((c.tc : Thread Cert.ReferenceModPeerIdeal.nD Cert.ReferenceModPeerIdeal.τ).loc Cert.ReferenceModPeerIdeal.main_v40) = v0 c
          ∧ r.2.mem ((c.tc : Thread Cert.ReferenceModPeerIdeal.nD Cert.ReferenceModPeerIdeal.τ).loc Cert.ReferenceModPeerIdeal.main_v43) = v1 c
          ∧ r.2.mem ((c.tc : Thread Cert.ReferenceModPeerIdeal.nD Cert.ReferenceModPeerIdeal.τ).loc Cert.ReferenceModPeerIdeal.main_v45) = v2 c
          ∧ r.2.mem ((c.tc : Thread Cert.ReferenceModPeerIdeal.nD Cert.ReferenceModPeerIdeal.τ).loc Cert.ReferenceModPeerIdeal.main_arg0) = m' ((c.tc : Thread Cert.ReferenceModPeerIdeal.nD Cert.ReferenceModPeerIdeal.τ).loc Cert.ReferenceModPeerIdeal.main_arg0)
          ∧ r.2.mem ((c.tc : Thread Cert.ReferenceModPeerIdeal.nD Cert.ReferenceModPeerIdeal.τ).loc Cert.ReferenceModPeerIdeal.main_arg1) = m' ((c.tc : Thread Cert.ReferenceModPeerIdeal.nD Cert.ReferenceModPeerIdeal.τ).loc Cert.ReferenceModPeerIdeal.main_arg1)
          ∧ r.2.mem ((c.tc : Thread Cert.ReferenceModPeerIdeal.nD Cert.ReferenceModPeerIdeal.τ).loc Cert.ReferenceModPeerIdeal.main_arg2) = m' ((c.tc : Thread Cert.ReferenceModPeerIdeal.nD Cert.ReferenceModPeerIdeal.τ).loc Cert.ReferenceModPeerIdeal.main_arg2))

def preserves_KernelModGates_KernelModGatesIdeal : Prop :=
  True

def algebraic_KernelModGatesIdeal_ReferenceModGatesIdeal_pre_finite_gates [hKernelModGatesIdeal : Cert.KernelModGatesIdeal.Facts] [hReferenceModGatesIdeal : Cert.ReferenceModGatesIdeal.Facts] [hPre_finite_gates : Cert.Pre_finite_gates.Facts] : Prop :=
  ∀ (m : (ℓ : Loc Cert.KernelModGatesIdeal.nD Cert.KernelModGatesIdeal.τ Cert.KernelModGatesIdeal.sig) → Buf (Elt Ideal) ℓ) (g : Dev Cert.KernelModGatesIdeal.nD → PrngReg)
    (m' : (ℓ : Loc Cert.ReferenceModGatesIdeal.nD Cert.ReferenceModGatesIdeal.τ Cert.ReferenceModGatesIdeal.sig) → Buf (Elt Ideal) ℓ) (g' : Dev Cert.ReferenceModGatesIdeal.nD → PrngReg), Pre_KernelModGatesIdeal_finite_gates m →
    (∀ c : Dev Cert.KernelModGatesIdeal.nD,
      m' ((c.tc : Thread Cert.ReferenceModGatesIdeal.nD Cert.ReferenceModGatesIdeal.τ).loc Cert.ReferenceModGatesIdeal.main_arg0) = m ((c.tc : Thread Cert.KernelModGatesIdeal.nD Cert.KernelModGatesIdeal.τ).loc Cert.KernelModGatesIdeal.main_arg0)
      ∧ m' ((c.tc : Thread Cert.ReferenceModGatesIdeal.nD Cert.ReferenceModGatesIdeal.τ).loc Cert.ReferenceModGatesIdeal.main_arg1) = m ((c.tc : Thread Cert.KernelModGatesIdeal.nD Cert.KernelModGatesIdeal.τ).loc Cert.KernelModGatesIdeal.main_arg1)
      ∧ m' ((c.tc : Thread Cert.ReferenceModGatesIdeal.nD Cert.ReferenceModGatesIdeal.τ).loc Cert.ReferenceModGatesIdeal.main_arg2) = m ((c.tc : Thread Cert.KernelModGatesIdeal.nD Cert.KernelModGatesIdeal.τ).loc Cert.KernelModGatesIdeal.main_arg2)
      ∧ m' ((c.tc : Thread Cert.ReferenceModGatesIdeal.nD Cert.ReferenceModGatesIdeal.τ).loc Cert.ReferenceModGatesIdeal.main_arg3) = m ((c.tc : Thread Cert.KernelModGatesIdeal.nD Cert.KernelModGatesIdeal.τ).loc Cert.KernelModGatesIdeal.main_arg3)
      ∧ m' ((c.tc : Thread Cert.ReferenceModGatesIdeal.nD Cert.ReferenceModGatesIdeal.τ).loc Cert.ReferenceModGatesIdeal.main_arg4) = m ((c.tc : Thread Cert.KernelModGatesIdeal.nD Cert.KernelModGatesIdeal.τ).loc Cert.KernelModGatesIdeal.main_arg4)) →
    ∃ (v0 : (c : Dev Cert.KernelModGatesIdeal.nD) → Buf (Elt Ideal) ((c.tc : Thread Cert.KernelModGatesIdeal.nD Cert.KernelModGatesIdeal.τ).loc Cert.KernelModGatesIdeal.main_v66_0)) (v1 : (c : Dev Cert.KernelModGatesIdeal.nD) → Buf (Elt Ideal) ((c.tc : Thread Cert.KernelModGatesIdeal.nD Cert.KernelModGatesIdeal.τ).loc Cert.KernelModGatesIdeal.main_v66_1)),
      θ_run (Cert.KernelModGatesIdeal.defs (F := Ideal)) (onTc (τ := Cert.KernelModGatesIdeal.τ) (Cert.KernelModGatesIdeal.main (F := Ideal))) ⟨m, fun _ => 0, g⟩ (fun r => ∀ c : Dev Cert.KernelModGatesIdeal.nD,
          r.2.mem ((c.tc : Thread Cert.KernelModGatesIdeal.nD Cert.KernelModGatesIdeal.τ).loc Cert.KernelModGatesIdeal.main_v66_0) = v0 c
          ∧ r.2.mem ((c.tc : Thread Cert.KernelModGatesIdeal.nD Cert.KernelModGatesIdeal.τ).loc Cert.KernelModGatesIdeal.main_v66_1) = v1 c
          ∧ r.2.mem ((c.tc : Thread Cert.KernelModGatesIdeal.nD Cert.KernelModGatesIdeal.τ).loc Cert.KernelModGatesIdeal.main_arg0) = m ((c.tc : Thread Cert.KernelModGatesIdeal.nD Cert.KernelModGatesIdeal.τ).loc Cert.KernelModGatesIdeal.main_arg0)
          ∧ r.2.mem ((c.tc : Thread Cert.KernelModGatesIdeal.nD Cert.KernelModGatesIdeal.τ).loc Cert.KernelModGatesIdeal.main_arg1) = m ((c.tc : Thread Cert.KernelModGatesIdeal.nD Cert.KernelModGatesIdeal.τ).loc Cert.KernelModGatesIdeal.main_arg1)
          ∧ r.2.mem ((c.tc : Thread Cert.KernelModGatesIdeal.nD Cert.KernelModGatesIdeal.τ).loc Cert.KernelModGatesIdeal.main_arg2) = m ((c.tc : Thread Cert.KernelModGatesIdeal.nD Cert.KernelModGatesIdeal.τ).loc Cert.KernelModGatesIdeal.main_arg2)
          ∧ r.2.mem ((c.tc : Thread Cert.KernelModGatesIdeal.nD Cert.KernelModGatesIdeal.τ).loc Cert.KernelModGatesIdeal.main_arg3) = m ((c.tc : Thread Cert.KernelModGatesIdeal.nD Cert.KernelModGatesIdeal.τ).loc Cert.KernelModGatesIdeal.main_arg3)
          ∧ r.2.mem ((c.tc : Thread Cert.KernelModGatesIdeal.nD Cert.KernelModGatesIdeal.τ).loc Cert.KernelModGatesIdeal.main_arg4) = m ((c.tc : Thread Cert.KernelModGatesIdeal.nD Cert.KernelModGatesIdeal.τ).loc Cert.KernelModGatesIdeal.main_arg4))
      ∧ θ_run (Cert.ReferenceModGatesIdeal.defs (F := Ideal)) (onTc (τ := Cert.ReferenceModGatesIdeal.τ) (Cert.ReferenceModGatesIdeal.main (F := Ideal))) ⟨m', fun _ => 0, g'⟩ (fun r => ∀ c : Dev Cert.ReferenceModGatesIdeal.nD,
          r.2.mem ((c.tc : Thread Cert.ReferenceModGatesIdeal.nD Cert.ReferenceModGatesIdeal.τ).loc Cert.ReferenceModGatesIdeal.main_v66) = v0 c
          ∧ r.2.mem ((c.tc : Thread Cert.ReferenceModGatesIdeal.nD Cert.ReferenceModGatesIdeal.τ).loc Cert.ReferenceModGatesIdeal.main_v68) = v1 c
          ∧ r.2.mem ((c.tc : Thread Cert.ReferenceModGatesIdeal.nD Cert.ReferenceModGatesIdeal.τ).loc Cert.ReferenceModGatesIdeal.main_arg0) = m' ((c.tc : Thread Cert.ReferenceModGatesIdeal.nD Cert.ReferenceModGatesIdeal.τ).loc Cert.ReferenceModGatesIdeal.main_arg0)
          ∧ r.2.mem ((c.tc : Thread Cert.ReferenceModGatesIdeal.nD Cert.ReferenceModGatesIdeal.τ).loc Cert.ReferenceModGatesIdeal.main_arg1) = m' ((c.tc : Thread Cert.ReferenceModGatesIdeal.nD Cert.ReferenceModGatesIdeal.τ).loc Cert.ReferenceModGatesIdeal.main_arg1)
          ∧ r.2.mem ((c.tc : Thread Cert.ReferenceModGatesIdeal.nD Cert.ReferenceModGatesIdeal.τ).loc Cert.ReferenceModGatesIdeal.main_arg2) = m' ((c.tc : Thread Cert.ReferenceModGatesIdeal.nD Cert.ReferenceModGatesIdeal.τ).loc Cert.ReferenceModGatesIdeal.main_arg2)
          ∧ r.2.mem ((c.tc : Thread Cert.ReferenceModGatesIdeal.nD Cert.ReferenceModGatesIdeal.τ).loc Cert.ReferenceModGatesIdeal.main_arg3) = m' ((c.tc : Thread Cert.ReferenceModGatesIdeal.nD Cert.ReferenceModGatesIdeal.τ).loc Cert.ReferenceModGatesIdeal.main_arg3)
          ∧ r.2.mem ((c.tc : Thread Cert.ReferenceModGatesIdeal.nD Cert.ReferenceModGatesIdeal.τ).loc Cert.ReferenceModGatesIdeal.main_arg4) = m' ((c.tc : Thread Cert.ReferenceModGatesIdeal.nD Cert.ReferenceModGatesIdeal.τ).loc Cert.ReferenceModGatesIdeal.main_arg4))

def preserves_KernelTable_KernelTableIdeal : Prop :=
  True

def algebraic_KernelTableIdeal_ReferenceTableIdeal_pre_finite_table [hKernelTableIdeal : Cert.KernelTableIdeal.Facts] [hReferenceTableIdeal : Cert.ReferenceTableIdeal.Facts] [hPre_finite_table : Cert.Pre_finite_table.Facts] : Prop :=
  ∀ (m : (ℓ : Loc Cert.KernelTableIdeal.nD Cert.KernelTableIdeal.τ Cert.KernelTableIdeal.sig) → Buf (Elt Ideal) ℓ) (g : Dev Cert.KernelTableIdeal.nD → PrngReg)
    (m' : (ℓ : Loc Cert.ReferenceTableIdeal.nD Cert.ReferenceTableIdeal.τ Cert.ReferenceTableIdeal.sig) → Buf (Elt Ideal) ℓ) (g' : Dev Cert.ReferenceTableIdeal.nD → PrngReg), Pre_KernelTableIdeal_finite_table m →
    (∀ c : Dev Cert.KernelTableIdeal.nD,
      m' ((c.tc : Thread Cert.ReferenceTableIdeal.nD Cert.ReferenceTableIdeal.τ).loc Cert.ReferenceTableIdeal.main_arg0) = m ((c.tc : Thread Cert.KernelTableIdeal.nD Cert.KernelTableIdeal.τ).loc Cert.KernelTableIdeal.main_arg0)
      ∧ m' ((c.tc : Thread Cert.ReferenceTableIdeal.nD Cert.ReferenceTableIdeal.τ).loc Cert.ReferenceTableIdeal.main_arg1) = m ((c.tc : Thread Cert.KernelTableIdeal.nD Cert.KernelTableIdeal.τ).loc Cert.KernelTableIdeal.main_arg1)
      ∧ m' ((c.tc : Thread Cert.ReferenceTableIdeal.nD Cert.ReferenceTableIdeal.τ).loc Cert.ReferenceTableIdeal.main_arg2) = m ((c.tc : Thread Cert.KernelTableIdeal.nD Cert.KernelTableIdeal.τ).loc Cert.KernelTableIdeal.main_arg2)) →
    ∃ (v0 : (c : Dev Cert.KernelTableIdeal.nD) → Buf (Elt Ideal) ((c.tc : Thread Cert.KernelTableIdeal.nD Cert.KernelTableIdeal.τ).loc Cert.KernelTableIdeal.main_v1)),
      θ_run (Cert.KernelTableIdeal.defs (F := Ideal)) (onTc (τ := Cert.KernelTableIdeal.τ) (Cert.KernelTableIdeal.main (F := Ideal))) ⟨m, fun _ => 0, g⟩ (fun r => ∀ c : Dev Cert.KernelTableIdeal.nD,
          r.2.mem ((c.tc : Thread Cert.KernelTableIdeal.nD Cert.KernelTableIdeal.τ).loc Cert.KernelTableIdeal.main_v1) = v0 c
          ∧ r.2.mem ((c.tc : Thread Cert.KernelTableIdeal.nD Cert.KernelTableIdeal.τ).loc Cert.KernelTableIdeal.main_arg0) = m ((c.tc : Thread Cert.KernelTableIdeal.nD Cert.KernelTableIdeal.τ).loc Cert.KernelTableIdeal.main_arg0)
          ∧ r.2.mem ((c.tc : Thread Cert.KernelTableIdeal.nD Cert.KernelTableIdeal.τ).loc Cert.KernelTableIdeal.main_arg1) = m ((c.tc : Thread Cert.KernelTableIdeal.nD Cert.KernelTableIdeal.τ).loc Cert.KernelTableIdeal.main_arg1)
          ∧ r.2.mem ((c.tc : Thread Cert.KernelTableIdeal.nD Cert.KernelTableIdeal.τ).loc Cert.KernelTableIdeal.main_arg2) = m ((c.tc : Thread Cert.KernelTableIdeal.nD Cert.KernelTableIdeal.τ).loc Cert.KernelTableIdeal.main_arg2))
      ∧ θ_run (Cert.ReferenceTableIdeal.defs (F := Ideal)) (onTc (τ := Cert.ReferenceTableIdeal.τ) (Cert.ReferenceTableIdeal.main (F := Ideal))) ⟨m', fun _ => 0, g'⟩ (fun r => ∀ c : Dev Cert.ReferenceTableIdeal.nD,
          r.2.mem ((c.tc : Thread Cert.ReferenceTableIdeal.nD Cert.ReferenceTableIdeal.τ).loc Cert.ReferenceTableIdeal.main_v40) = v0 c
          ∧ r.2.mem ((c.tc : Thread Cert.ReferenceTableIdeal.nD Cert.ReferenceTableIdeal.τ).loc Cert.ReferenceTableIdeal.main_arg0) = m' ((c.tc : Thread Cert.ReferenceTableIdeal.nD Cert.ReferenceTableIdeal.τ).loc Cert.ReferenceTableIdeal.main_arg0)
          ∧ r.2.mem ((c.tc : Thread Cert.ReferenceTableIdeal.nD Cert.ReferenceTableIdeal.τ).loc Cert.ReferenceTableIdeal.main_arg1) = m' ((c.tc : Thread Cert.ReferenceTableIdeal.nD Cert.ReferenceTableIdeal.τ).loc Cert.ReferenceTableIdeal.main_arg1)
          ∧ r.2.mem ((c.tc : Thread Cert.ReferenceTableIdeal.nD Cert.ReferenceTableIdeal.τ).loc Cert.ReferenceTableIdeal.main_arg2) = m' ((c.tc : Thread Cert.ReferenceTableIdeal.nD Cert.ReferenceTableIdeal.τ).loc Cert.ReferenceTableIdeal.main_arg2))

def preserves_KernelSpectrum_KernelSpectrumIdeal : Prop :=
  True

def algebraic_KernelSpectrumIdeal_ReferenceSpectrumIdeal_pre_finite_spectrum [hKernelSpectrumIdeal : Cert.KernelSpectrumIdeal.Facts] [hReferenceSpectrumIdeal : Cert.ReferenceSpectrumIdeal.Facts] [hPre_finite_spectrum : Cert.Pre_finite_spectrum.Facts] : Prop :=
  ∀ (m : (ℓ : Loc Cert.KernelSpectrumIdeal.nD Cert.KernelSpectrumIdeal.τ Cert.KernelSpectrumIdeal.sig) → Buf (Elt Ideal) ℓ) (g : Dev Cert.KernelSpectrumIdeal.nD → PrngReg)
    (m' : (ℓ : Loc Cert.ReferenceSpectrumIdeal.nD Cert.ReferenceSpectrumIdeal.τ Cert.ReferenceSpectrumIdeal.sig) → Buf (Elt Ideal) ℓ) (g' : Dev Cert.ReferenceSpectrumIdeal.nD → PrngReg), Pre_KernelSpectrumIdeal_finite_spectrum m →
    (∀ c : Dev Cert.KernelSpectrumIdeal.nD,
      m' ((c.tc : Thread Cert.ReferenceSpectrumIdeal.nD Cert.ReferenceSpectrumIdeal.τ).loc Cert.ReferenceSpectrumIdeal.main_arg0) = m ((c.tc : Thread Cert.KernelSpectrumIdeal.nD Cert.KernelSpectrumIdeal.τ).loc Cert.KernelSpectrumIdeal.main_arg0)
      ∧ m' ((c.tc : Thread Cert.ReferenceSpectrumIdeal.nD Cert.ReferenceSpectrumIdeal.τ).loc Cert.ReferenceSpectrumIdeal.main_arg1) = m ((c.tc : Thread Cert.KernelSpectrumIdeal.nD Cert.KernelSpectrumIdeal.τ).loc Cert.KernelSpectrumIdeal.main_arg1)
      ∧ m' ((c.tc : Thread Cert.ReferenceSpectrumIdeal.nD Cert.ReferenceSpectrumIdeal.τ).loc Cert.ReferenceSpectrumIdeal.main_arg2) = m ((c.tc : Thread Cert.KernelSpectrumIdeal.nD Cert.KernelSpectrumIdeal.τ).loc Cert.KernelSpectrumIdeal.main_arg2)
      ∧ m' ((c.tc : Thread Cert.ReferenceSpectrumIdeal.nD Cert.ReferenceSpectrumIdeal.τ).loc Cert.ReferenceSpectrumIdeal.main_arg3) = m ((c.tc : Thread Cert.KernelSpectrumIdeal.nD Cert.KernelSpectrumIdeal.τ).loc Cert.KernelSpectrumIdeal.main_arg3)
      ∧ m' ((c.tc : Thread Cert.ReferenceSpectrumIdeal.nD Cert.ReferenceSpectrumIdeal.τ).loc Cert.ReferenceSpectrumIdeal.main_arg4) = m ((c.tc : Thread Cert.KernelSpectrumIdeal.nD Cert.KernelSpectrumIdeal.τ).loc Cert.KernelSpectrumIdeal.main_arg4)
      ∧ m' ((c.tc : Thread Cert.ReferenceSpectrumIdeal.nD Cert.ReferenceSpectrumIdeal.τ).loc Cert.ReferenceSpectrumIdeal.main_arg5) = m ((c.tc : Thread Cert.KernelSpectrumIdeal.nD Cert.KernelSpectrumIdeal.τ).loc Cert.KernelSpectrumIdeal.main_arg5)
      ∧ m' ((c.tc : Thread Cert.ReferenceSpectrumIdeal.nD Cert.ReferenceSpectrumIdeal.τ).loc Cert.ReferenceSpectrumIdeal.main_arg6) = m ((c.tc : Thread Cert.KernelSpectrumIdeal.nD Cert.KernelSpectrumIdeal.τ).loc Cert.KernelSpectrumIdeal.main_arg6)
      ∧ m' ((c.tc : Thread Cert.ReferenceSpectrumIdeal.nD Cert.ReferenceSpectrumIdeal.τ).loc Cert.ReferenceSpectrumIdeal.main_arg7) = m ((c.tc : Thread Cert.KernelSpectrumIdeal.nD Cert.KernelSpectrumIdeal.τ).loc Cert.KernelSpectrumIdeal.main_arg7)
      ∧ m' ((c.tc : Thread Cert.ReferenceSpectrumIdeal.nD Cert.ReferenceSpectrumIdeal.τ).loc Cert.ReferenceSpectrumIdeal.main_arg8) = m ((c.tc : Thread Cert.KernelSpectrumIdeal.nD Cert.KernelSpectrumIdeal.τ).loc Cert.KernelSpectrumIdeal.main_arg8)) →
    ∃ (v0 : (c : Dev Cert.KernelSpectrumIdeal.nD) → Buf (Elt Ideal) ((c.tc : Thread Cert.KernelSpectrumIdeal.nD Cert.KernelSpectrumIdeal.τ).loc Cert.KernelSpectrumIdeal.main_v63_0)) (v1 : (c : Dev Cert.KernelSpectrumIdeal.nD) → Buf (Elt Ideal) ((c.tc : Thread Cert.KernelSpectrumIdeal.nD Cert.KernelSpectrumIdeal.τ).loc Cert.KernelSpectrumIdeal.main_v63_1)),
      θ_run (Cert.KernelSpectrumIdeal.defs (F := Ideal)) (onTc (τ := Cert.KernelSpectrumIdeal.τ) (Cert.KernelSpectrumIdeal.main (F := Ideal))) ⟨m, fun _ => 0, g⟩ (fun r => ∀ c : Dev Cert.KernelSpectrumIdeal.nD,
          r.2.mem ((c.tc : Thread Cert.KernelSpectrumIdeal.nD Cert.KernelSpectrumIdeal.τ).loc Cert.KernelSpectrumIdeal.main_v63_0) = v0 c
          ∧ r.2.mem ((c.tc : Thread Cert.KernelSpectrumIdeal.nD Cert.KernelSpectrumIdeal.τ).loc Cert.KernelSpectrumIdeal.main_v63_1) = v1 c
          ∧ r.2.mem ((c.tc : Thread Cert.KernelSpectrumIdeal.nD Cert.KernelSpectrumIdeal.τ).loc Cert.KernelSpectrumIdeal.main_arg0) = m ((c.tc : Thread Cert.KernelSpectrumIdeal.nD Cert.KernelSpectrumIdeal.τ).loc Cert.KernelSpectrumIdeal.main_arg0)
          ∧ r.2.mem ((c.tc : Thread Cert.KernelSpectrumIdeal.nD Cert.KernelSpectrumIdeal.τ).loc Cert.KernelSpectrumIdeal.main_arg1) = m ((c.tc : Thread Cert.KernelSpectrumIdeal.nD Cert.KernelSpectrumIdeal.τ).loc Cert.KernelSpectrumIdeal.main_arg1)
          ∧ r.2.mem ((c.tc : Thread Cert.KernelSpectrumIdeal.nD Cert.KernelSpectrumIdeal.τ).loc Cert.KernelSpectrumIdeal.main_arg2) = m ((c.tc : Thread Cert.KernelSpectrumIdeal.nD Cert.KernelSpectrumIdeal.τ).loc Cert.KernelSpectrumIdeal.main_arg2)
          ∧ r.2.mem ((c.tc : Thread Cert.KernelSpectrumIdeal.nD Cert.KernelSpectrumIdeal.τ).loc Cert.KernelSpectrumIdeal.main_arg3) = m ((c.tc : Thread Cert.KernelSpectrumIdeal.nD Cert.KernelSpectrumIdeal.τ).loc Cert.KernelSpectrumIdeal.main_arg3)
          ∧ r.2.mem ((c.tc : Thread Cert.KernelSpectrumIdeal.nD Cert.KernelSpectrumIdeal.τ).loc Cert.KernelSpectrumIdeal.main_arg4) = m ((c.tc : Thread Cert.KernelSpectrumIdeal.nD Cert.KernelSpectrumIdeal.τ).loc Cert.KernelSpectrumIdeal.main_arg4)
          ∧ r.2.mem ((c.tc : Thread Cert.KernelSpectrumIdeal.nD Cert.KernelSpectrumIdeal.τ).loc Cert.KernelSpectrumIdeal.main_arg5) = m ((c.tc : Thread Cert.KernelSpectrumIdeal.nD Cert.KernelSpectrumIdeal.τ).loc Cert.KernelSpectrumIdeal.main_arg5)
          ∧ r.2.mem ((c.tc : Thread Cert.KernelSpectrumIdeal.nD Cert.KernelSpectrumIdeal.τ).loc Cert.KernelSpectrumIdeal.main_arg6) = m ((c.tc : Thread Cert.KernelSpectrumIdeal.nD Cert.KernelSpectrumIdeal.τ).loc Cert.KernelSpectrumIdeal.main_arg6)
          ∧ r.2.mem ((c.tc : Thread Cert.KernelSpectrumIdeal.nD Cert.KernelSpectrumIdeal.τ).loc Cert.KernelSpectrumIdeal.main_arg7) = m ((c.tc : Thread Cert.KernelSpectrumIdeal.nD Cert.KernelSpectrumIdeal.τ).loc Cert.KernelSpectrumIdeal.main_arg7)
          ∧ r.2.mem ((c.tc : Thread Cert.KernelSpectrumIdeal.nD Cert.KernelSpectrumIdeal.τ).loc Cert.KernelSpectrumIdeal.main_arg8) = m ((c.tc : Thread Cert.KernelSpectrumIdeal.nD Cert.KernelSpectrumIdeal.τ).loc Cert.KernelSpectrumIdeal.main_arg8))
      ∧ θ_run (Cert.ReferenceSpectrumIdeal.defs (F := Ideal)) (onTc (τ := Cert.ReferenceSpectrumIdeal.τ) (Cert.ReferenceSpectrumIdeal.main (F := Ideal))) ⟨m', fun _ => 0, g'⟩ (fun r => ∀ c : Dev Cert.ReferenceSpectrumIdeal.nD,
          r.2.mem ((c.tc : Thread Cert.ReferenceSpectrumIdeal.nD Cert.ReferenceSpectrumIdeal.τ).loc Cert.ReferenceSpectrumIdeal.main_v61) = v0 c
          ∧ r.2.mem ((c.tc : Thread Cert.ReferenceSpectrumIdeal.nD Cert.ReferenceSpectrumIdeal.τ).loc Cert.ReferenceSpectrumIdeal.main_v62) = v1 c
          ∧ r.2.mem ((c.tc : Thread Cert.ReferenceSpectrumIdeal.nD Cert.ReferenceSpectrumIdeal.τ).loc Cert.ReferenceSpectrumIdeal.main_arg0) = m' ((c.tc : Thread Cert.ReferenceSpectrumIdeal.nD Cert.ReferenceSpectrumIdeal.τ).loc Cert.ReferenceSpectrumIdeal.main_arg0)
          ∧ r.2.mem ((c.tc : Thread Cert.ReferenceSpectrumIdeal.nD Cert.ReferenceSpectrumIdeal.τ).loc Cert.ReferenceSpectrumIdeal.main_arg1) = m' ((c.tc : Thread Cert.ReferenceSpectrumIdeal.nD Cert.ReferenceSpectrumIdeal.τ).loc Cert.ReferenceSpectrumIdeal.main_arg1)
          ∧ r.2.mem ((c.tc : Thread Cert.ReferenceSpectrumIdeal.nD Cert.ReferenceSpectrumIdeal.τ).loc Cert.ReferenceSpectrumIdeal.main_arg2) = m' ((c.tc : Thread Cert.ReferenceSpectrumIdeal.nD Cert.ReferenceSpectrumIdeal.τ).loc Cert.ReferenceSpectrumIdeal.main_arg2)
          ∧ r.2.mem ((c.tc : Thread Cert.ReferenceSpectrumIdeal.nD Cert.ReferenceSpectrumIdeal.τ).loc Cert.ReferenceSpectrumIdeal.main_arg3) = m' ((c.tc : Thread Cert.ReferenceSpectrumIdeal.nD Cert.ReferenceSpectrumIdeal.τ).loc Cert.ReferenceSpectrumIdeal.main_arg3)
          ∧ r.2.mem ((c.tc : Thread Cert.ReferenceSpectrumIdeal.nD Cert.ReferenceSpectrumIdeal.τ).loc Cert.ReferenceSpectrumIdeal.main_arg4) = m' ((c.tc : Thread Cert.ReferenceSpectrumIdeal.nD Cert.ReferenceSpectrumIdeal.τ).loc Cert.ReferenceSpectrumIdeal.main_arg4)
          ∧ r.2.mem ((c.tc : Thread Cert.ReferenceSpectrumIdeal.nD Cert.ReferenceSpectrumIdeal.τ).loc Cert.ReferenceSpectrumIdeal.main_arg5) = m' ((c.tc : Thread Cert.ReferenceSpectrumIdeal.nD Cert.ReferenceSpectrumIdeal.τ).loc Cert.ReferenceSpectrumIdeal.main_arg5)
          ∧ r.2.mem ((c.tc : Thread Cert.ReferenceSpectrumIdeal.nD Cert.ReferenceSpectrumIdeal.τ).loc Cert.ReferenceSpectrumIdeal.main_arg6) = m' ((c.tc : Thread Cert.ReferenceSpectrumIdeal.nD Cert.ReferenceSpectrumIdeal.τ).loc Cert.ReferenceSpectrumIdeal.main_arg6)
          ∧ r.2.mem ((c.tc : Thread Cert.ReferenceSpectrumIdeal.nD Cert.ReferenceSpectrumIdeal.τ).loc Cert.ReferenceSpectrumIdeal.main_arg7) = m' ((c.tc : Thread Cert.ReferenceSpectrumIdeal.nD Cert.ReferenceSpectrumIdeal.τ).loc Cert.ReferenceSpectrumIdeal.main_arg7)
          ∧ r.2.mem ((c.tc : Thread Cert.ReferenceSpectrumIdeal.nD Cert.ReferenceSpectrumIdeal.τ).loc Cert.ReferenceSpectrumIdeal.main_arg8) = m' ((c.tc : Thread Cert.ReferenceSpectrumIdeal.nD Cert.ReferenceSpectrumIdeal.τ).loc Cert.ReferenceSpectrumIdeal.main_arg8))

def preserves_KernelChunks_KernelChunksIdeal : Prop :=
  True

def algebraic_KernelChunksIdeal_ReferenceChunksIdeal [hKernelChunksIdeal : Cert.KernelChunksIdeal.Facts] [hReferenceChunksIdeal : Cert.ReferenceChunksIdeal.Facts] : Prop :=
  ∀ (m : (ℓ : Loc Cert.KernelChunksIdeal.nD Cert.KernelChunksIdeal.τ Cert.KernelChunksIdeal.sig) → Buf (Elt Ideal) ℓ) (g : Dev Cert.KernelChunksIdeal.nD → PrngReg)
    (m' : (ℓ : Loc Cert.ReferenceChunksIdeal.nD Cert.ReferenceChunksIdeal.τ Cert.ReferenceChunksIdeal.sig) → Buf (Elt Ideal) ℓ) (g' : Dev Cert.ReferenceChunksIdeal.nD → PrngReg), Pre_KernelChunksIdeal m →
    (∀ c : Dev Cert.KernelChunksIdeal.nD,
      m' ((c.tc : Thread Cert.ReferenceChunksIdeal.nD Cert.ReferenceChunksIdeal.τ).loc Cert.ReferenceChunksIdeal.main_arg0) = m ((c.tc : Thread Cert.KernelChunksIdeal.nD Cert.KernelChunksIdeal.τ).loc Cert.KernelChunksIdeal.main_arg0)) →
    ∃ (v0 : (c : Dev Cert.KernelChunksIdeal.nD) → Buf (Elt Ideal) ((c.tc : Thread Cert.KernelChunksIdeal.nD Cert.KernelChunksIdeal.τ).loc Cert.KernelChunksIdeal.main_v0)),
      θ_run (Cert.KernelChunksIdeal.defs (F := Ideal)) (onTc (τ := Cert.KernelChunksIdeal.τ) (Cert.KernelChunksIdeal.main (F := Ideal))) ⟨m, fun _ => 0, g⟩ (fun r => ∀ c : Dev Cert.KernelChunksIdeal.nD,
          r.2.mem ((c.tc : Thread Cert.KernelChunksIdeal.nD Cert.KernelChunksIdeal.τ).loc Cert.KernelChunksIdeal.main_v0) = v0 c
          ∧ r.2.mem ((c.tc : Thread Cert.KernelChunksIdeal.nD Cert.KernelChunksIdeal.τ).loc Cert.KernelChunksIdeal.main_arg0) = m ((c.tc : Thread Cert.KernelChunksIdeal.nD Cert.KernelChunksIdeal.τ).loc Cert.KernelChunksIdeal.main_arg0))
      ∧ θ_run (Cert.ReferenceChunksIdeal.defs (F := Ideal)) (onTc (τ := Cert.ReferenceChunksIdeal.τ) (Cert.ReferenceChunksIdeal.main (F := Ideal))) ⟨m', fun _ => 0, g'⟩ (fun r => ∀ c : Dev Cert.ReferenceChunksIdeal.nD,
          r.2.mem ((c.tc : Thread Cert.ReferenceChunksIdeal.nD Cert.ReferenceChunksIdeal.τ).loc Cert.ReferenceChunksIdeal.main_v2) = v0 c
          ∧ r.2.mem ((c.tc : Thread Cert.ReferenceChunksIdeal.nD Cert.ReferenceChunksIdeal.τ).loc Cert.ReferenceChunksIdeal.main_arg0) = m' ((c.tc : Thread Cert.ReferenceChunksIdeal.nD Cert.ReferenceChunksIdeal.τ).loc Cert.ReferenceChunksIdeal.main_arg0))

def preserves_KernelFilterP_KernelFilterPIdeal : Prop :=
  True

def algebraic_KernelFilterPIdeal_ReferenceFilterPIdeal_pre_finite_filters [hKernelFilterPIdeal : Cert.KernelFilterPIdeal.Facts] [hReferenceFilterPIdeal : Cert.ReferenceFilterPIdeal.Facts] [hPre_finite_filters : Cert.Pre_finite_filters.Facts] : Prop :=
  ∀ (m : (ℓ : Loc Cert.KernelFilterPIdeal.nD Cert.KernelFilterPIdeal.τ Cert.KernelFilterPIdeal.sig) → Buf (Elt Ideal) ℓ) (g : Dev Cert.KernelFilterPIdeal.nD → PrngReg)
    (m' : (ℓ : Loc Cert.ReferenceFilterPIdeal.nD Cert.ReferenceFilterPIdeal.τ Cert.ReferenceFilterPIdeal.sig) → Buf (Elt Ideal) ℓ) (g' : Dev Cert.ReferenceFilterPIdeal.nD → PrngReg), Pre_KernelFilterPIdeal_finite_filters m →
    (∀ c : Dev Cert.KernelFilterPIdeal.nD,
      m' ((c.tc : Thread Cert.ReferenceFilterPIdeal.nD Cert.ReferenceFilterPIdeal.τ).loc Cert.ReferenceFilterPIdeal.main_arg0) = m ((c.tc : Thread Cert.KernelFilterPIdeal.nD Cert.KernelFilterPIdeal.τ).loc Cert.KernelFilterPIdeal.main_arg0)
      ∧ m' ((c.tc : Thread Cert.ReferenceFilterPIdeal.nD Cert.ReferenceFilterPIdeal.τ).loc Cert.ReferenceFilterPIdeal.main_arg1) = m ((c.tc : Thread Cert.KernelFilterPIdeal.nD Cert.KernelFilterPIdeal.τ).loc Cert.KernelFilterPIdeal.main_arg1)
      ∧ m' ((c.tc : Thread Cert.ReferenceFilterPIdeal.nD Cert.ReferenceFilterPIdeal.τ).loc Cert.ReferenceFilterPIdeal.main_arg2) = m ((c.tc : Thread Cert.KernelFilterPIdeal.nD Cert.KernelFilterPIdeal.τ).loc Cert.KernelFilterPIdeal.main_arg2)
      ∧ m' ((c.tc : Thread Cert.ReferenceFilterPIdeal.nD Cert.ReferenceFilterPIdeal.τ).loc Cert.ReferenceFilterPIdeal.main_arg3) = m ((c.tc : Thread Cert.KernelFilterPIdeal.nD Cert.KernelFilterPIdeal.τ).loc Cert.KernelFilterPIdeal.main_arg3)
      ∧ m' ((c.tc : Thread Cert.ReferenceFilterPIdeal.nD Cert.ReferenceFilterPIdeal.τ).loc Cert.ReferenceFilterPIdeal.main_arg4) = m ((c.tc : Thread Cert.KernelFilterPIdeal.nD Cert.KernelFilterPIdeal.τ).loc Cert.KernelFilterPIdeal.main_arg4)
      ∧ m' ((c.tc : Thread Cert.ReferenceFilterPIdeal.nD Cert.ReferenceFilterPIdeal.τ).loc Cert.ReferenceFilterPIdeal.main_arg5) = m ((c.tc : Thread Cert.KernelFilterPIdeal.nD Cert.KernelFilterPIdeal.τ).loc Cert.KernelFilterPIdeal.main_arg5)
      ∧ m' ((c.tc : Thread Cert.ReferenceFilterPIdeal.nD Cert.ReferenceFilterPIdeal.τ).loc Cert.ReferenceFilterPIdeal.main_arg6) = m ((c.tc : Thread Cert.KernelFilterPIdeal.nD Cert.KernelFilterPIdeal.τ).loc Cert.KernelFilterPIdeal.main_arg6)
      ∧ m' ((c.tc : Thread Cert.ReferenceFilterPIdeal.nD Cert.ReferenceFilterPIdeal.τ).loc Cert.ReferenceFilterPIdeal.main_arg7) = m ((c.tc : Thread Cert.KernelFilterPIdeal.nD Cert.KernelFilterPIdeal.τ).loc Cert.KernelFilterPIdeal.main_arg7)
      ∧ m' ((c.tc : Thread Cert.ReferenceFilterPIdeal.nD Cert.ReferenceFilterPIdeal.τ).loc Cert.ReferenceFilterPIdeal.main_arg8) = m ((c.tc : Thread Cert.KernelFilterPIdeal.nD Cert.KernelFilterPIdeal.τ).loc Cert.KernelFilterPIdeal.main_arg8)) →
    ∃ (v0 : (c : Dev Cert.KernelFilterPIdeal.nD) → Buf (Elt Ideal) ((c.tc : Thread Cert.KernelFilterPIdeal.nD Cert.KernelFilterPIdeal.τ).loc Cert.KernelFilterPIdeal.main_v63_0)) (v1 : (c : Dev Cert.KernelFilterPIdeal.nD) → Buf (Elt Ideal) ((c.tc : Thread Cert.KernelFilterPIdeal.nD Cert.KernelFilterPIdeal.τ).loc Cert.KernelFilterPIdeal.main_v63_1)),
      θ_run (Cert.KernelFilterPIdeal.defs (F := Ideal)) (onTc (τ := Cert.KernelFilterPIdeal.τ) (Cert.KernelFilterPIdeal.main (F := Ideal))) ⟨m, fun _ => 0, g⟩ (fun r => ∀ c : Dev Cert.KernelFilterPIdeal.nD,
          r.2.mem ((c.tc : Thread Cert.KernelFilterPIdeal.nD Cert.KernelFilterPIdeal.τ).loc Cert.KernelFilterPIdeal.main_v63_0) = v0 c
          ∧ r.2.mem ((c.tc : Thread Cert.KernelFilterPIdeal.nD Cert.KernelFilterPIdeal.τ).loc Cert.KernelFilterPIdeal.main_v63_1) = v1 c
          ∧ r.2.mem ((c.tc : Thread Cert.KernelFilterPIdeal.nD Cert.KernelFilterPIdeal.τ).loc Cert.KernelFilterPIdeal.main_arg0) = m ((c.tc : Thread Cert.KernelFilterPIdeal.nD Cert.KernelFilterPIdeal.τ).loc Cert.KernelFilterPIdeal.main_arg0)
          ∧ r.2.mem ((c.tc : Thread Cert.KernelFilterPIdeal.nD Cert.KernelFilterPIdeal.τ).loc Cert.KernelFilterPIdeal.main_arg1) = m ((c.tc : Thread Cert.KernelFilterPIdeal.nD Cert.KernelFilterPIdeal.τ).loc Cert.KernelFilterPIdeal.main_arg1)
          ∧ r.2.mem ((c.tc : Thread Cert.KernelFilterPIdeal.nD Cert.KernelFilterPIdeal.τ).loc Cert.KernelFilterPIdeal.main_arg2) = m ((c.tc : Thread Cert.KernelFilterPIdeal.nD Cert.KernelFilterPIdeal.τ).loc Cert.KernelFilterPIdeal.main_arg2)
          ∧ r.2.mem ((c.tc : Thread Cert.KernelFilterPIdeal.nD Cert.KernelFilterPIdeal.τ).loc Cert.KernelFilterPIdeal.main_arg3) = m ((c.tc : Thread Cert.KernelFilterPIdeal.nD Cert.KernelFilterPIdeal.τ).loc Cert.KernelFilterPIdeal.main_arg3)
          ∧ r.2.mem ((c.tc : Thread Cert.KernelFilterPIdeal.nD Cert.KernelFilterPIdeal.τ).loc Cert.KernelFilterPIdeal.main_arg4) = m ((c.tc : Thread Cert.KernelFilterPIdeal.nD Cert.KernelFilterPIdeal.τ).loc Cert.KernelFilterPIdeal.main_arg4)
          ∧ r.2.mem ((c.tc : Thread Cert.KernelFilterPIdeal.nD Cert.KernelFilterPIdeal.τ).loc Cert.KernelFilterPIdeal.main_arg5) = m ((c.tc : Thread Cert.KernelFilterPIdeal.nD Cert.KernelFilterPIdeal.τ).loc Cert.KernelFilterPIdeal.main_arg5)
          ∧ r.2.mem ((c.tc : Thread Cert.KernelFilterPIdeal.nD Cert.KernelFilterPIdeal.τ).loc Cert.KernelFilterPIdeal.main_arg6) = m ((c.tc : Thread Cert.KernelFilterPIdeal.nD Cert.KernelFilterPIdeal.τ).loc Cert.KernelFilterPIdeal.main_arg6)
          ∧ r.2.mem ((c.tc : Thread Cert.KernelFilterPIdeal.nD Cert.KernelFilterPIdeal.τ).loc Cert.KernelFilterPIdeal.main_arg7) = m ((c.tc : Thread Cert.KernelFilterPIdeal.nD Cert.KernelFilterPIdeal.τ).loc Cert.KernelFilterPIdeal.main_arg7)
          ∧ r.2.mem ((c.tc : Thread Cert.KernelFilterPIdeal.nD Cert.KernelFilterPIdeal.τ).loc Cert.KernelFilterPIdeal.main_arg8) = m ((c.tc : Thread Cert.KernelFilterPIdeal.nD Cert.KernelFilterPIdeal.τ).loc Cert.KernelFilterPIdeal.main_arg8))
      ∧ θ_run (Cert.ReferenceFilterPIdeal.defs (F := Ideal)) (onTc (τ := Cert.ReferenceFilterPIdeal.τ) (Cert.ReferenceFilterPIdeal.main (F := Ideal))) ⟨m', fun _ => 0, g'⟩ (fun r => ∀ c : Dev Cert.ReferenceFilterPIdeal.nD,
          r.2.mem ((c.tc : Thread Cert.ReferenceFilterPIdeal.nD Cert.ReferenceFilterPIdeal.τ).loc Cert.ReferenceFilterPIdeal.main_v61) = v0 c
          ∧ r.2.mem ((c.tc : Thread Cert.ReferenceFilterPIdeal.nD Cert.ReferenceFilterPIdeal.τ).loc Cert.ReferenceFilterPIdeal.main_v62) = v1 c
          ∧ r.2.mem ((c.tc : Thread Cert.ReferenceFilterPIdeal.nD Cert.ReferenceFilterPIdeal.τ).loc Cert.ReferenceFilterPIdeal.main_arg0) = m' ((c.tc : Thread Cert.ReferenceFilterPIdeal.nD Cert.ReferenceFilterPIdeal.τ).loc Cert.ReferenceFilterPIdeal.main_arg0)
          ∧ r.2.mem ((c.tc : Thread Cert.ReferenceFilterPIdeal.nD Cert.ReferenceFilterPIdeal.τ).loc Cert.ReferenceFilterPIdeal.main_arg1) = m' ((c.tc : Thread Cert.ReferenceFilterPIdeal.nD Cert.ReferenceFilterPIdeal.τ).loc Cert.ReferenceFilterPIdeal.main_arg1)
          ∧ r.2.mem ((c.tc : Thread Cert.ReferenceFilterPIdeal.nD Cert.ReferenceFilterPIdeal.τ).loc Cert.ReferenceFilterPIdeal.main_arg2) = m' ((c.tc : Thread Cert.ReferenceFilterPIdeal.nD Cert.ReferenceFilterPIdeal.τ).loc Cert.ReferenceFilterPIdeal.main_arg2)
          ∧ r.2.mem ((c.tc : Thread Cert.ReferenceFilterPIdeal.nD Cert.ReferenceFilterPIdeal.τ).loc Cert.ReferenceFilterPIdeal.main_arg3) = m' ((c.tc : Thread Cert.ReferenceFilterPIdeal.nD Cert.ReferenceFilterPIdeal.τ).loc Cert.ReferenceFilterPIdeal.main_arg3)
          ∧ r.2.mem ((c.tc : Thread Cert.ReferenceFilterPIdeal.nD Cert.ReferenceFilterPIdeal.τ).loc Cert.ReferenceFilterPIdeal.main_arg4) = m' ((c.tc : Thread Cert.ReferenceFilterPIdeal.nD Cert.ReferenceFilterPIdeal.τ).loc Cert.ReferenceFilterPIdeal.main_arg4)
          ∧ r.2.mem ((c.tc : Thread Cert.ReferenceFilterPIdeal.nD Cert.ReferenceFilterPIdeal.τ).loc Cert.ReferenceFilterPIdeal.main_arg5) = m' ((c.tc : Thread Cert.ReferenceFilterPIdeal.nD Cert.ReferenceFilterPIdeal.τ).loc Cert.ReferenceFilterPIdeal.main_arg5)
          ∧ r.2.mem ((c.tc : Thread Cert.ReferenceFilterPIdeal.nD Cert.ReferenceFilterPIdeal.τ).loc Cert.ReferenceFilterPIdeal.main_arg6) = m' ((c.tc : Thread Cert.ReferenceFilterPIdeal.nD Cert.ReferenceFilterPIdeal.τ).loc Cert.ReferenceFilterPIdeal.main_arg6)
          ∧ r.2.mem ((c.tc : Thread Cert.ReferenceFilterPIdeal.nD Cert.ReferenceFilterPIdeal.τ).loc Cert.ReferenceFilterPIdeal.main_arg7) = m' ((c.tc : Thread Cert.ReferenceFilterPIdeal.nD Cert.ReferenceFilterPIdeal.τ).loc Cert.ReferenceFilterPIdeal.main_arg7)
          ∧ r.2.mem ((c.tc : Thread Cert.ReferenceFilterPIdeal.nD Cert.ReferenceFilterPIdeal.τ).loc Cert.ReferenceFilterPIdeal.main_arg8) = m' ((c.tc : Thread Cert.ReferenceFilterPIdeal.nD Cert.ReferenceFilterPIdeal.τ).loc Cert.ReferenceFilterPIdeal.main_arg8))

def preserves_KernelHyenaP_KernelHyenaPIdeal : Prop :=
  True

def algebraic_KernelHyenaPIdeal_ReferenceHyenaPIdeal [hKernelHyenaPIdeal : Cert.KernelHyenaPIdeal.Facts] [hReferenceHyenaPIdeal : Cert.ReferenceHyenaPIdeal.Facts] : Prop :=
  ∀ (m : (ℓ : Loc Cert.KernelHyenaPIdeal.nD Cert.KernelHyenaPIdeal.τ Cert.KernelHyenaPIdeal.sig) → Buf (Elt Ideal) ℓ) (g : Dev Cert.KernelHyenaPIdeal.nD → PrngReg)
    (m' : (ℓ : Loc Cert.ReferenceHyenaPIdeal.nD Cert.ReferenceHyenaPIdeal.τ Cert.ReferenceHyenaPIdeal.sig) → Buf (Elt Ideal) ℓ) (g' : Dev Cert.ReferenceHyenaPIdeal.nD → PrngReg), Pre_KernelHyenaPIdeal m →
    (∀ c : Dev Cert.KernelHyenaPIdeal.nD,
      m' ((c.tc : Thread Cert.ReferenceHyenaPIdeal.nD Cert.ReferenceHyenaPIdeal.τ).loc Cert.ReferenceHyenaPIdeal.main_arg0) = m ((c.tc : Thread Cert.KernelHyenaPIdeal.nD Cert.KernelHyenaPIdeal.τ).loc Cert.KernelHyenaPIdeal.main_arg0)
      ∧ m' ((c.tc : Thread Cert.ReferenceHyenaPIdeal.nD Cert.ReferenceHyenaPIdeal.τ).loc Cert.ReferenceHyenaPIdeal.main_arg1) = m ((c.tc : Thread Cert.KernelHyenaPIdeal.nD Cert.KernelHyenaPIdeal.τ).loc Cert.KernelHyenaPIdeal.main_arg1)
      ∧ m' ((c.tc : Thread Cert.ReferenceHyenaPIdeal.nD Cert.ReferenceHyenaPIdeal.τ).loc Cert.ReferenceHyenaPIdeal.main_arg2) = m ((c.tc : Thread Cert.KernelHyenaPIdeal.nD Cert.KernelHyenaPIdeal.τ).loc Cert.KernelHyenaPIdeal.main_arg2)
      ∧ m' ((c.tc : Thread Cert.ReferenceHyenaPIdeal.nD Cert.ReferenceHyenaPIdeal.τ).loc Cert.ReferenceHyenaPIdeal.main_arg3) = m ((c.tc : Thread Cert.KernelHyenaPIdeal.nD Cert.KernelHyenaPIdeal.τ).loc Cert.KernelHyenaPIdeal.main_arg3)
      ∧ m' ((c.tc : Thread Cert.ReferenceHyenaPIdeal.nD Cert.ReferenceHyenaPIdeal.τ).loc Cert.ReferenceHyenaPIdeal.main_arg4) = m ((c.tc : Thread Cert.KernelHyenaPIdeal.nD Cert.KernelHyenaPIdeal.τ).loc Cert.KernelHyenaPIdeal.main_arg4)) →
    ∃ (v0 : (c : Dev Cert.KernelHyenaPIdeal.nD) → Buf (Elt Ideal) ((c.tc : Thread Cert.KernelHyenaPIdeal.nD Cert.KernelHyenaPIdeal.τ).loc Cert.KernelHyenaPIdeal.main_v57)),
      θ_run (Cert.KernelHyenaPIdeal.defs (F := Ideal)) (onTc (τ := Cert.KernelHyenaPIdeal.τ) (Cert.KernelHyenaPIdeal.main (F := Ideal))) ⟨m, fun _ => 0, g⟩ (fun r => ∀ c : Dev Cert.KernelHyenaPIdeal.nD,
          r.2.mem ((c.tc : Thread Cert.KernelHyenaPIdeal.nD Cert.KernelHyenaPIdeal.τ).loc Cert.KernelHyenaPIdeal.main_v57) = v0 c
          ∧ r.2.mem ((c.tc : Thread Cert.KernelHyenaPIdeal.nD Cert.KernelHyenaPIdeal.τ).loc Cert.KernelHyenaPIdeal.main_arg0) = m ((c.tc : Thread Cert.KernelHyenaPIdeal.nD Cert.KernelHyenaPIdeal.τ).loc Cert.KernelHyenaPIdeal.main_arg0)
          ∧ r.2.mem ((c.tc : Thread Cert.KernelHyenaPIdeal.nD Cert.KernelHyenaPIdeal.τ).loc Cert.KernelHyenaPIdeal.main_arg1) = m ((c.tc : Thread Cert.KernelHyenaPIdeal.nD Cert.KernelHyenaPIdeal.τ).loc Cert.KernelHyenaPIdeal.main_arg1)
          ∧ r.2.mem ((c.tc : Thread Cert.KernelHyenaPIdeal.nD Cert.KernelHyenaPIdeal.τ).loc Cert.KernelHyenaPIdeal.main_arg2) = m ((c.tc : Thread Cert.KernelHyenaPIdeal.nD Cert.KernelHyenaPIdeal.τ).loc Cert.KernelHyenaPIdeal.main_arg2)
          ∧ r.2.mem ((c.tc : Thread Cert.KernelHyenaPIdeal.nD Cert.KernelHyenaPIdeal.τ).loc Cert.KernelHyenaPIdeal.main_arg3) = m ((c.tc : Thread Cert.KernelHyenaPIdeal.nD Cert.KernelHyenaPIdeal.τ).loc Cert.KernelHyenaPIdeal.main_arg3)
          ∧ r.2.mem ((c.tc : Thread Cert.KernelHyenaPIdeal.nD Cert.KernelHyenaPIdeal.τ).loc Cert.KernelHyenaPIdeal.main_arg4) = m ((c.tc : Thread Cert.KernelHyenaPIdeal.nD Cert.KernelHyenaPIdeal.τ).loc Cert.KernelHyenaPIdeal.main_arg4))
      ∧ θ_run (Cert.ReferenceHyenaPIdeal.defs (F := Ideal)) (onTc (τ := Cert.ReferenceHyenaPIdeal.τ) (Cert.ReferenceHyenaPIdeal.main (F := Ideal))) ⟨m', fun _ => 0, g'⟩ (fun r => ∀ c : Dev Cert.ReferenceHyenaPIdeal.nD,
          r.2.mem ((c.tc : Thread Cert.ReferenceHyenaPIdeal.nD Cert.ReferenceHyenaPIdeal.τ).loc Cert.ReferenceHyenaPIdeal.main_v216) = v0 c
          ∧ r.2.mem ((c.tc : Thread Cert.ReferenceHyenaPIdeal.nD Cert.ReferenceHyenaPIdeal.τ).loc Cert.ReferenceHyenaPIdeal.main_arg0) = m' ((c.tc : Thread Cert.ReferenceHyenaPIdeal.nD Cert.ReferenceHyenaPIdeal.τ).loc Cert.ReferenceHyenaPIdeal.main_arg0)
          ∧ r.2.mem ((c.tc : Thread Cert.ReferenceHyenaPIdeal.nD Cert.ReferenceHyenaPIdeal.τ).loc Cert.ReferenceHyenaPIdeal.main_arg1) = m' ((c.tc : Thread Cert.ReferenceHyenaPIdeal.nD Cert.ReferenceHyenaPIdeal.τ).loc Cert.ReferenceHyenaPIdeal.main_arg1)
          ∧ r.2.mem ((c.tc : Thread Cert.ReferenceHyenaPIdeal.nD Cert.ReferenceHyenaPIdeal.τ).loc Cert.ReferenceHyenaPIdeal.main_arg2) = m' ((c.tc : Thread Cert.ReferenceHyenaPIdeal.nD Cert.ReferenceHyenaPIdeal.τ).loc Cert.ReferenceHyenaPIdeal.main_arg2)
          ∧ r.2.mem ((c.tc : Thread Cert.ReferenceHyenaPIdeal.nD Cert.ReferenceHyenaPIdeal.τ).loc Cert.ReferenceHyenaPIdeal.main_arg3) = m' ((c.tc : Thread Cert.ReferenceHyenaPIdeal.nD Cert.ReferenceHyenaPIdeal.τ).loc Cert.ReferenceHyenaPIdeal.main_arg3)
          ∧ r.2.mem ((c.tc : Thread Cert.ReferenceHyenaPIdeal.nD Cert.ReferenceHyenaPIdeal.τ).loc Cert.ReferenceHyenaPIdeal.main_arg4) = m' ((c.tc : Thread Cert.ReferenceHyenaPIdeal.nD Cert.ReferenceHyenaPIdeal.τ).loc Cert.ReferenceHyenaPIdeal.main_arg4))

def Claim : Prop :=
  ∃ (hKernel : Cert.Kernel.Facts) (hKernelIdeal : Cert.KernelIdeal.Facts) (hReferenceIdeal : Cert.ReferenceIdeal.Facts) (hKernelInProj : Cert.KernelInProj.Facts) (hKernelInProjIdeal : Cert.KernelInProjIdeal.Facts) (hReferenceInProjIdeal : Cert.ReferenceInProjIdeal.Facts) (hKernelMerge : Cert.KernelMerge.Facts) (hKernelMergeIdeal : Cert.KernelMergeIdeal.Facts) (hReferenceMergeIdeal : Cert.ReferenceMergeIdeal.Facts) (hKernelOutProj : Cert.KernelOutProj.Facts) (hKernelOutProjIdeal : Cert.KernelOutProjIdeal.Facts) (hReferenceOutProjIdeal : Cert.ReferenceOutProjIdeal.Facts) (hKernelNormP : Cert.KernelNormP.Facts) (hKernelNormPIdeal : Cert.KernelNormPIdeal.Facts) (hReferenceNormPIdeal : Cert.ReferenceNormPIdeal.Facts) (hKernelNormS : Cert.KernelNormS.Facts) (hKernelNormSIdeal : Cert.KernelNormSIdeal.Facts) (hReferenceNormSIdeal : Cert.ReferenceNormSIdeal.Facts) (hKernelQuery : Cert.KernelQuery.Facts) (hKernelQueryIdeal : Cert.KernelQueryIdeal.Facts) (hReferenceQueryIdeal : Cert.ReferenceQueryIdeal.Facts) (hKernelModPeer : Cert.KernelModPeer.Facts) (hKernelModPeerIdeal : Cert.KernelModPeerIdeal.Facts) (hReferenceModPeerIdeal : Cert.ReferenceModPeerIdeal.Facts) (hKernelModGates : Cert.KernelModGates.Facts) (hKernelModGatesIdeal : Cert.KernelModGatesIdeal.Facts) (hReferenceModGatesIdeal : Cert.ReferenceModGatesIdeal.Facts) (hKernelTable : Cert.KernelTable.Facts) (hKernelTableIdeal : Cert.KernelTableIdeal.Facts) (hReferenceTableIdeal : Cert.ReferenceTableIdeal.Facts) (hKernelSpectrum : Cert.KernelSpectrum.Facts) (hKernelSpectrumIdeal : Cert.KernelSpectrumIdeal.Facts) (hReferenceSpectrumIdeal : Cert.ReferenceSpectrumIdeal.Facts) (hKernelChunks : Cert.KernelChunks.Facts) (hKernelChunksIdeal : Cert.KernelChunksIdeal.Facts) (hReferenceChunksIdeal : Cert.ReferenceChunksIdeal.Facts) (hKernelFilterP : Cert.KernelFilterP.Facts) (hKernelFilterPIdeal : Cert.KernelFilterPIdeal.Facts) (hReferenceFilterPIdeal : Cert.ReferenceFilterPIdeal.Facts) (hKernelHyenaP : Cert.KernelHyenaP.Facts) (hKernelHyenaPIdeal : Cert.KernelHyenaPIdeal.Facts) (hReferenceHyenaPIdeal : Cert.ReferenceHyenaPIdeal.Facts) (hPre_finite_query : Cert.Pre_finite_query.Facts) (hPre_finite_gates : Cert.Pre_finite_gates.Facts) (hPre_finite_table : Cert.Pre_finite_table.Facts) (hPre_finite_spectrum : Cert.Pre_finite_spectrum.Facts) (hPre_finite_filters : Cert.Pre_finite_filters.Facts),
    quiescent_Kernel (hKernel := hKernel)
    ∧ quiescent_KernelIdeal (hKernelIdeal := hKernelIdeal)
    ∧ quiescent_ReferenceIdeal (hReferenceIdeal := hReferenceIdeal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelNormP (hKernelNormP := hKernelNormP)
    ∧ quiescent_KernelNormPIdeal (hKernelNormPIdeal := hKernelNormPIdeal)
    ∧ quiescent_ReferenceNormPIdeal (hReferenceNormPIdeal := hReferenceNormPIdeal)
    ∧ quiescent_KernelNormS (hKernelNormS := hKernelNormS)
    ∧ quiescent_KernelNormSIdeal (hKernelNormSIdeal := hKernelNormSIdeal)
    ∧ quiescent_ReferenceNormSIdeal (hReferenceNormSIdeal := hReferenceNormSIdeal)
    ∧ quiescent_KernelQuery (hKernelQuery := hKernelQuery)
    ∧ quiescent_KernelQueryIdeal (hKernelQueryIdeal := hKernelQueryIdeal)
    ∧ quiescent_KernelQueryIdeal_pre_finite_query (hKernelQueryIdeal := hKernelQueryIdeal) (hPre_finite_query := hPre_finite_query)
    ∧ quiescent_ReferenceQueryIdeal (hReferenceQueryIdeal := hReferenceQueryIdeal)
    ∧ quiescent_ReferenceQueryIdeal_pre_finite_query (hReferenceQueryIdeal := hReferenceQueryIdeal) (hPre_finite_query := hPre_finite_query)
    ∧ quiescent_KernelModPeer (hKernelModPeer := hKernelModPeer)
    ∧ quiescent_KernelModPeerIdeal (hKernelModPeerIdeal := hKernelModPeerIdeal)
    ∧ quiescent_ReferenceModPeerIdeal (hReferenceModPeerIdeal := hReferenceModPeerIdeal)
    ∧ quiescent_KernelModGates (hKernelModGates := hKernelModGates)
    ∧ quiescent_KernelModGatesIdeal (hKernelModGatesIdeal := hKernelModGatesIdeal)
    ∧ quiescent_KernelModGatesIdeal_pre_finite_gates (hKernelModGatesIdeal := hKernelModGatesIdeal) (hPre_finite_gates := hPre_finite_gates)
    ∧ quiescent_ReferenceModGatesIdeal (hReferenceModGatesIdeal := hReferenceModGatesIdeal)
    ∧ quiescent_ReferenceModGatesIdeal_pre_finite_gates (hReferenceModGatesIdeal := hReferenceModGatesIdeal) (hPre_finite_gates := hPre_finite_gates)
    ∧ quiescent_KernelTable (hKernelTable := hKernelTable)
    ∧ quiescent_KernelTableIdeal (hKernelTableIdeal := hKernelTableIdeal)
    ∧ quiescent_KernelTableIdeal_pre_finite_table (hKernelTableIdeal := hKernelTableIdeal) (hPre_finite_table := hPre_finite_table)
    ∧ quiescent_ReferenceTableIdeal (hReferenceTableIdeal := hReferenceTableIdeal)
    ∧ quiescent_ReferenceTableIdeal_pre_finite_table (hReferenceTableIdeal := hReferenceTableIdeal) (hPre_finite_table := hPre_finite_table)
    ∧ quiescent_KernelSpectrum (hKernelSpectrum := hKernelSpectrum)
    ∧ quiescent_KernelSpectrumIdeal (hKernelSpectrumIdeal := hKernelSpectrumIdeal)
    ∧ quiescent_KernelSpectrumIdeal_pre_finite_spectrum (hKernelSpectrumIdeal := hKernelSpectrumIdeal) (hPre_finite_spectrum := hPre_finite_spectrum)
    ∧ quiescent_ReferenceSpectrumIdeal (hReferenceSpectrumIdeal := hReferenceSpectrumIdeal)
    ∧ quiescent_ReferenceSpectrumIdeal_pre_finite_spectrum (hReferenceSpectrumIdeal := hReferenceSpectrumIdeal) (hPre_finite_spectrum := hPre_finite_spectrum)
    ∧ quiescent_KernelChunks (hKernelChunks := hKernelChunks)
    ∧ quiescent_KernelChunksIdeal (hKernelChunksIdeal := hKernelChunksIdeal)
    ∧ quiescent_ReferenceChunksIdeal (hReferenceChunksIdeal := hReferenceChunksIdeal)
    ∧ quiescent_KernelFilterP (hKernelFilterP := hKernelFilterP)
    ∧ quiescent_KernelFilterPIdeal (hKernelFilterPIdeal := hKernelFilterPIdeal)
    ∧ quiescent_KernelFilterPIdeal_pre_finite_filters (hKernelFilterPIdeal := hKernelFilterPIdeal) (hPre_finite_filters := hPre_finite_filters)
    ∧ quiescent_ReferenceFilterPIdeal (hReferenceFilterPIdeal := hReferenceFilterPIdeal)
    ∧ quiescent_ReferenceFilterPIdeal_pre_finite_filters (hReferenceFilterPIdeal := hReferenceFilterPIdeal) (hPre_finite_filters := hPre_finite_filters)
    ∧ quiescent_KernelHyenaP (hKernelHyenaP := hKernelHyenaP)
    ∧ quiescent_KernelHyenaPIdeal (hKernelHyenaPIdeal := hKernelHyenaPIdeal)
    ∧ quiescent_ReferenceHyenaPIdeal (hReferenceHyenaPIdeal := hReferenceHyenaPIdeal)
    ∧ preserves_Kernel_KernelIdeal
    ∧ algebraic_KernelIdeal_ReferenceIdeal (hKernelIdeal := hKernelIdeal) (hReferenceIdeal := hReferenceIdeal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelNormP_KernelNormPIdeal
    ∧ algebraic_KernelNormPIdeal_ReferenceNormPIdeal (hKernelNormPIdeal := hKernelNormPIdeal) (hReferenceNormPIdeal := hReferenceNormPIdeal)
    ∧ preserves_KernelNormS_KernelNormSIdeal
    ∧ algebraic_KernelNormSIdeal_ReferenceNormSIdeal (hKernelNormSIdeal := hKernelNormSIdeal) (hReferenceNormSIdeal := hReferenceNormSIdeal)
    ∧ preserves_KernelQuery_KernelQueryIdeal
    ∧ algebraic_KernelQueryIdeal_ReferenceQueryIdeal_pre_finite_query (hKernelQueryIdeal := hKernelQueryIdeal) (hReferenceQueryIdeal := hReferenceQueryIdeal) (hPre_finite_query := hPre_finite_query)
    ∧ preserves_KernelModPeer_KernelModPeerIdeal
    ∧ algebraic_KernelModPeerIdeal_ReferenceModPeerIdeal (hKernelModPeerIdeal := hKernelModPeerIdeal) (hReferenceModPeerIdeal := hReferenceModPeerIdeal)
    ∧ preserves_KernelModGates_KernelModGatesIdeal
    ∧ algebraic_KernelModGatesIdeal_ReferenceModGatesIdeal_pre_finite_gates (hKernelModGatesIdeal := hKernelModGatesIdeal) (hReferenceModGatesIdeal := hReferenceModGatesIdeal) (hPre_finite_gates := hPre_finite_gates)
    ∧ preserves_KernelTable_KernelTableIdeal
    ∧ algebraic_KernelTableIdeal_ReferenceTableIdeal_pre_finite_table (hKernelTableIdeal := hKernelTableIdeal) (hReferenceTableIdeal := hReferenceTableIdeal) (hPre_finite_table := hPre_finite_table)
    ∧ preserves_KernelSpectrum_KernelSpectrumIdeal
    ∧ algebraic_KernelSpectrumIdeal_ReferenceSpectrumIdeal_pre_finite_spectrum (hKernelSpectrumIdeal := hKernelSpectrumIdeal) (hReferenceSpectrumIdeal := hReferenceSpectrumIdeal) (hPre_finite_spectrum := hPre_finite_spectrum)
    ∧ preserves_KernelChunks_KernelChunksIdeal
    ∧ algebraic_KernelChunksIdeal_ReferenceChunksIdeal (hKernelChunksIdeal := hKernelChunksIdeal) (hReferenceChunksIdeal := hReferenceChunksIdeal)
    ∧ preserves_KernelFilterP_KernelFilterPIdeal
    ∧ algebraic_KernelFilterPIdeal_ReferenceFilterPIdeal_pre_finite_filters (hKernelFilterPIdeal := hKernelFilterPIdeal) (hReferenceFilterPIdeal := hReferenceFilterPIdeal) (hPre_finite_filters := hPre_finite_filters)
    ∧ preserves_KernelHyenaP_KernelHyenaPIdeal
    ∧ algebraic_KernelHyenaPIdeal_ReferenceHyenaPIdeal (hKernelHyenaPIdeal := hKernelHyenaPIdeal) (hReferenceHyenaPIdeal := hReferenceHyenaPIdeal)
-- ==== Pre_finite_filters.lean ====
abbrev S256x33 : Shape := ⟨2, ![256, 33]⟩
abbrev S256 : Shape := ⟨1, ![256]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S_ : Shape := ⟨0, ![]⟩

class Facts : Prop where
  bcast_S_S256x33 : S_.BroadcastsInDim S256x33 (![] : Fin 0 → Fin S256x33.rank)
  reducesTo_S256x33_S_d0_1 : S256x33.ReducesTo [0, 1] S_
  h_S_ : 0 < S_.numel
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_
  bcast_S_S33x64 : S_.BroadcastsInDim S33x64 (![] : Fin 0 → Fin S33x64.rank)
  reducesTo_S33x64_S_d0_1 : S33x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4096 : S_.BroadcastsInDim S64x4096 (![] : Fin 0 → Fin S64x4096.rank)
  reducesTo_S64x4096_S_d0_1 : S64x4096.ReducesTo [0, 1] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg7 : FVec F S64x4096 .f32) (main_arg8 : FVec F S2x64 .f32) (main_v33 : IVec S_ 1) : IVec S_ 1 :=
  let main_v34 : FVec F S64x4096 .f32 := Host.absf main_arg7
  let main_cst_12 : FVec F S_ .f32 := constant S_ .f32 0x7F800000#32
  let main_v35 : FVec F S64x4096 .f32 := broadcastInDim S64x4096 ![] bcast_S_S64x4096 main_cst_12
  let main_v36 : IVec S64x4096 1 := cmpf .olt main_v34 main_v35
  let main_c_13 : IVec S_ 1 := constantI S_ 1 1#1
  let main_v37 : IVec S_ 1 := (fun x v => Host.reduce IntOp.andi x v reducesTo_S64x4096_S_d0_1 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x4096 .f32) (main_arg8 : FVec F S2x64 .f32) (main_v13 : IVec S_ 1) (main_v16 : IVec S33x64 1) : IVec S_ 1 :=
  let main_c_5 : IVec S_ 1 := constantI S_ 1 1#1
  let main_v17 : IVec S_ 1 := (fun x v => Host.reduce IntOp.andi x v reducesTo_S33x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S256x33 .f32) (main_arg1 : FVec F S256 .f32) (main_arg2 : FVec F S1024 .f32) (main_arg3 : FVec F S33x64 .f32) (main_arg4 : FVec F S64 .f32) (main_arg5 : FVec F S64x64 .f32) (main_arg6 : FVec F S64 .f32) (main_arg7 : FVec F S64x4096 .f32) (main_arg8 : FVec F S2x64 .f32) : IVec S_ 1 :=
  let main_v0 : FVec F S256x33 .f32 := Host.absf main_arg0
  let main_cst : FVec F S_ .f32 := constant S_ .f32 0x7F800000#32
  let main_v1 : FVec F S256x33 .f32 := broadcastInDim S256x33 ![] bcast_S_S256x33 main_cst
  let main_v2 : IVec S256x33 1 := cmpf .olt main_v0 main_v1
  let main_c : IVec S_ 1 := constantI S_ 1 1#1
  let main_v3 : IVec S_ 1 := (fun x v => Host.reduce IntOp.andi x v reducesTo_S256x33_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S33x64 .f32 := Host.absf main_arg3
  let main_cst_4 : FVec F S_ .f32 := constant S_ .f32 0x7F800000#32
  let main_v15 : FVec F S33x64 .f32 := broadcastInDim S33x64 ![] bcast_S_S33x64 main_cst_4
  let main_v16 : IVec S33x64 1 := cmpf .olt main_v14 main_v15
  fn_part1 (F := F) main_arg4 main_arg5 main_arg6 main_arg7 main_arg8 main_v13 main_v16
-- ==== Pre_finite_gates.lean ====
abbrev S8192x2048 : Shape := ⟨2, ![8192, 2048]⟩
abbrev S4x2048 : Shape := ⟨2, ![4, 2048]⟩
abbrev S8x1x12288 : Shape := ⟨3, ![8, 1, 12288]⟩
abbrev S4x2048x16432 : Shape := ⟨3, ![4, 2048, 16432]⟩
abbrev S4x16432 : Shape := ⟨2, ![4, 16432]⟩
abbrev S_ : Shape := ⟨0, ![]⟩
abbrev S1x2048 : Shape := ⟨2, ![1, 2048]⟩
abbrev S2048 : Shape := ⟨1, ![2048]⟩
abbrev S1x2048x16432 : Shape := ⟨3, ![1, 2048, 16432]⟩
abbrev S2048x16432 : Shape := ⟨2, ![2048, 16432]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S4x2048_S1x2048_0_0 : S4x2048.Slices ![0, 0] S1x2048
  shapeCasts_S1x2048_S2048 : S1x2048.ShapeCasts S2048
  bcast_S_S2048 : S_.BroadcastsInDim S2048 (![] : Fin 0 → Fin S2048.rank)
  reducesTo_S2048_S_d0 : S2048.ReducesTo [0] S_
  bcast_S_S8x1x12288 : S_.BroadcastsInDim S8x1x12288 (![] : Fin 0 → Fin S8x1x12288.rank)
  reducesTo_S8x1x12288_S_d0_1_2 : S8x1x12288.ReducesTo [0, 1, 2] S_
  slices_S4x2048x16432_S1x2048x16432_0_0_0 : S4x2048x16432.Slices ![0, 0, 0] S1x2048x16432
  shapeCasts_S1x2048x16432_S2048x16432 : S1x2048x16432.ShapeCasts S2048x16432
  bcast_S_S2048x16432 : S_.BroadcastsInDim S2048x16432 (![] : Fin 0 → Fin S2048x16432.rank)
  reducesTo_S2048x16432_S_d0_1 : S2048x16432.ReducesTo [0, 1] S_

variable [Facts]

def fn_part1 {F : FTy → Type} [FloatOps F] (main_v15 : IVec S_ 1) (main_v17 : FVec F S2048x16432 .f32) : IVec S_ 1 :=
  let main_v18 : FVec F S2048x16432 .f32 := Host.absf main_v17
  let main_cst_4 : FVec F S_ .f32 := constant S_ .f32 0x7F800000#32
  let main_v19 : FVec F S2048x16432 .f32 := broadcastInDim S2048x16432 ![] bcast_S_S2048x16432 main_cst_4
  let main_v20 : IVec S2048x16432 1 := cmpf .olt main_v18 main_v19
  let main_c_5 : IVec S_ 1 := constantI S_ 1 1#1
  let main_v21 : IVec S_ 1 := (fun x v => Host.reduce IntOp.andi x v reducesTo_S2048x16432_S_d0_1 h_S_) main_v20 main_c_5
  let main_v22 : IVec S_ 1 := andi main_v15 main_v21
  main_v22

def fn {F : FTy → Type} [FloatOps F] (main_arg0 : FVec F S8192x2048 .f32) (main_arg1 : FVec F S4x2048 .f32) (main_arg2 : FVec F S8x1x12288 .f32) (main_arg3 : FVec F S4x2048x16432 .f32) (main_arg4 : FVec F S4x16432 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := (extractStridedSlice S1x2048 ![0, 0] · slices_S4x2048_S1x2048_0_0) main_arg1
  let main_v5 : FVec F S2048 .f32 := shapeCast S2048 main_v4 shapeCasts_S1x2048_S2048
  let main_v6 : FVec F S2048 .f32 := Host.absf main_v5
  let main_cst_0 : FVec F S_ .f32 := constant S_ .f32 0x7F800000#32
  let main_v7 : FVec F S2048 .f32 := broadcastInDim S2048 ![] bcast_S_S2048 main_cst_0
  let main_v8 : IVec S2048 1 := cmpf .olt main_v6 main_v7
  let main_c_1 : IVec S_ 1 := constantI S_ 1 1#1
  let main_v9 : IVec S_ 1 := (fun x v => Host.reduce IntOp.andi x v reducesTo_S2048_S_d0 h_S_) main_v8 main_c_1
  let main_v10 : IVec S_ 1 := andi main_v3 main_v9
  let main_v11 : FVec F S8x1x12288 .f32 := Host.absf main_arg2
  let main_cst_2 : FVec F S_ .f32 := constant S_ .f32 0x7F800000#32
  let main_v12 : FVec F S8x1x12288 .f32 := broadcastInDim S8x1x12288 ![] bcast_S_S8x1x12288 main_cst_2
  let main_v13 : IVec S8x1x12288 1 := cmpf .olt main_v11 main_v12
  let main_c_3 : IVec S_ 1 := constantI S_ 1 1#1
  let main_v14 : IVec S_ 1 := (fun x v => Host.reduce IntOp.andi x v reducesTo_S8x1x12288_S_d0_1_2 h_S_) main_v13 main_c_3
  let main_v15 : IVec S_ 1 := andi main_v10 main_v14
  let main_v16 : FVec F S1x2048x16432 .f32 := (extractStridedSlice S1x2048x16432 ![0, 0, 0] · slices_S4x2048x16432_S1x2048x16432_0_0_0) main_arg3
  let main_v17 : FVec F S2048x16432 .f32 := shapeCast S2048x16432 main_v16 shapeCasts_S1x2048x16432_S2048x16432
  fn_part1 (F := F) main_v15 main_v17
-- ==== Pre_finite_query.lean ====
abbrev S8192x2048 : Shape := ⟨2, ![8192, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S4x2048x2048_S1x2048x2048_0_0_0 : S4x2048x2048.Slices ![0, 0, 0] S1x2048x2048
  shapeCasts_S1x2048x2048_S2048x2048 : S1x2048x2048.ShapeCasts S2048x2048
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .bf16) (main_arg1 : FVec F S8192x2048 .bf16) (main_arg2 : FVec F S4x2048x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S1x2048x2048 .f32 := (extractStridedSlice S1x2048x2048 ![0, 0, 0] · slices_S4x2048x2048_S1x2048x2048_0_0_0) main_arg2
  let main_v12 : FVec F S2048x2048 .f32 := shapeCast S2048x2048 main_v11 shapeCasts_S1x2048x2048_S2048x2048
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_c_3 : IVec S_ 1 := constantI S_ 1 1#1
  let main_v16 : IVec S_ 1 := (fun x v => Host.reduce IntOp.andi x v reducesTo_S2048x2048_S_d0_1 h_S_) main_v15 main_c_3
  let main_v17 : IVec S_ 1 := andi main_v10 main_v16
  main_v17
-- ==== Pre_finite_spectrum.lean ====
abbrev S1024x33 : Shape := ⟨2, ![1024, 33]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S_ : Shape := ⟨0, ![]⟩

class Facts : Prop where
  bcast_S_S1024x33 : S_.BroadcastsInDim S1024x33 (![] : Fin 0 → Fin S1024x33.rank)
  reducesTo_S1024x33_S_d0_1 : S1024x33.ReducesTo [0, 1] S_
  h_S_ : 0 < S_.numel
  bcast_S_S1024 : S_.BroadcastsInDim S1024 (![] : Fin 0 → Fin S1024.rank)
  reducesTo_S1024_S_d0 : S1024.ReducesTo [0] S_
  bcast_S_S33x64 : S_.BroadcastsInDim S33x64 (![] : Fin 0 → Fin S33x64.rank)
  reducesTo_S33x64_S_d0_1 : S33x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4096 : S_.BroadcastsInDim S64x4096 (![] : Fin 0 → Fin S64x4096.rank)
  reducesTo_S64x4096_S_d0_1 : S64x4096.ReducesTo [0, 1] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg7 : FVec F S64x4096 .f32) (main_arg8 : FVec F S2x64 .f32) (main_v33 : IVec S_ 1) : IVec S_ 1 :=
  let main_v34 : FVec F S64x4096 .f32 := Host.absf main_arg7
  let main_cst_12 : FVec F S_ .f32 := constant S_ .f32 0x7F800000#32
  let main_v35 : FVec F S64x4096 .f32 := broadcastInDim S64x4096 ![] bcast_S_S64x4096 main_cst_12
  let main_v36 : IVec S64x4096 1 := cmpf .olt main_v34 main_v35
  let main_c_13 : IVec S_ 1 := constantI S_ 1 1#1
  let main_v37 : IVec S_ 1 := (fun x v => Host.reduce IntOp.andi x v reducesTo_S64x4096_S_d0_1 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x4096 .f32) (main_arg8 : FVec F S2x64 .f32) (main_v13 : IVec S_ 1) (main_v16 : IVec S33x64 1) : IVec S_ 1 :=
  let main_c_5 : IVec S_ 1 := constantI S_ 1 1#1
  let main_v17 : IVec S_ 1 := (fun x v => Host.reduce IntOp.andi x v reducesTo_S33x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1024x33 .f32) (main_arg1 : FVec F S1024 .f32) (main_arg2 : FVec F S1024 .f32) (main_arg3 : FVec F S33x64 .f32) (main_arg4 : FVec F S64 .f32) (main_arg5 : FVec F S64x64 .f32) (main_arg6 : FVec F S64 .f32) (main_arg7 : FVec F S64x4096 .f32) (main_arg8 : FVec F S2x64 .f32) : IVec S_ 1 :=
  let main_v0 : FVec F S1024x33 .f32 := Host.absf main_arg0
  let main_cst : FVec F S_ .f32 := constant S_ .f32 0x7F800000#32
  let main_v1 : FVec F S1024x33 .f32 := broadcastInDim S1024x33 ![] bcast_S_S1024x33 main_cst
  let main_v2 : IVec S1024x33 1 := cmpf .olt main_v0 main_v1
  let main_c : IVec S_ 1 := constantI S_ 1 1#1
  let main_v3 : IVec S_ 1 := (fun x v => Host.reduce IntOp.andi x v reducesTo_S1024x33_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S33x64 .f32 := Host.absf main_arg3
  let main_cst_4 : FVec F S_ .f32 := constant S_ .f32 0x7F800000#32
  let main_v15 : FVec F S33x64 .f32 := broadcastInDim S33x64 ![] bcast_S_S33x64 main_cst_4
  let main_v16 : IVec S33x64 1 := cmpf .olt main_v14 main_v15
  fn_part1 (F := F) main_arg4 main_arg5 main_arg6 main_arg7 main_arg8 main_v13 main_v16
-- ==== Pre_finite_table.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S4x2048x12288 : S_.BroadcastsInDim S4x2048x12288 (![] : Fin 0 → Fin S4x2048x12288.rank)
  reducesTo_S4x2048x12288_S_d0_1_2 : S4x2048x12288.ReducesTo [0, 1, 2] S_

variable [Facts]

def fn {F : FTy → Type} [FloatOps F] (main_arg0 : FVec F S8x2048 .f32) (main_arg1 : FVec F S4x2048x12288 .f32) (main_arg2 : FVec F S4x12288 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S4x2048x12288 .f32 := Host.absf main_arg1
  let main_cst_0 : FVec F S_ .f32 := constant S_ .f32 0x7F800000#32
  let main_v5 : FVec F S4x2048x12288 .f32 := broadcastInDim S4x2048x12288 ![] bcast_S_S4x2048x12288 main_cst_0
  let main_v6 : IVec S4x2048x12288 1 := cmpf .olt main_v4 main_v5
  let main_c_1 : IVec S_ 1 := constantI S_ 1 1#1
  let main_v7 : IVec S_ 1 := (fun x v => Host.reduce IntOp.andi x v reducesTo_S4x2048x12288_S_d0_1_2 h_S_) main_v6 main_c_1
  let main_v8 : IVec S_ 1 := andi main_v3 main_v7
  main_v8
-- ==== Kernel.lean ====
abbrev S8192x16384 : Shape := ⟨2, ![8192, 16384]⟩
abbrev S3x3x1024 : Shape := ⟨3, ![3, 3, 1024]⟩
abbrev S2x1024x1024 : Shape := ⟨3, ![2, 1024, 1024]⟩
abbrev S2x1024 : Shape := ⟨2, ![2, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1024x2048 : Shape := ⟨2, ![1024, 2048]⟩
abbrev S2048x1024 : Shape := ⟨2, ![2048, 1024]⟩
abbrev S4096x1024 : Shape := ⟨2, ![4096, 1024]⟩
abbrev S1024x512 : Shape := ⟨2, ![1024, 512]⟩
abbrev S3x3x512 : Shape := ⟨3, ![3, 3, 512]⟩
abbrev S2x1024x512 : Shape := ⟨3, ![2, 1024, 512]⟩
abbrev S2x512 : Shape := ⟨2, ![2, 512]⟩
abbrev S1024x256 : Shape := ⟨2, ![1024, 256]⟩
abbrev S1x3x256 : Shape := ⟨3, ![1, 3, 256]⟩
abbrev S3x256 : Shape := ⟨2, ![3, 256]⟩
abbrev S1x256 : Shape := ⟨2, ![1, 256]⟩
abbrev S2048x256 : Shape := ⟨2, ![2048, 256]⟩
abbrev S1x1024x256 : Shape := ⟨3, ![1, 1024, 256]⟩

abbrev nBuf : Space → Nat
  | .hbm => 127
  | .vmem => 16
  | .smem => 0
  | _ => 0

abbrev bufTy : (tb : Table) → Fin (tcTables nBuf tb) → BufTy
  | .hbm, ⟨0, _⟩ => ⟨S8192x16384, .f32⟩
  | .hbm, ⟨1, _⟩ => ⟨S3x3x1024, .f32⟩
  | .hbm, ⟨2, _⟩ => ⟨S2x1024x1024, .f32⟩
  | .hbm, ⟨3, _⟩ => ⟨S2x1024x1024, .f32⟩
  | .hbm, ⟨4, _⟩ => ⟨S2x1024, .f32⟩
  | .hbm, ⟨5, _⟩ => ⟨S1024, .i32⟩
  | .hbm, ⟨6, _⟩ => ⟨S1024x1, .i32⟩
  | .hbm, ⟨7, _⟩ => ⟨S1x1024, .i32⟩
  | .hbm, ⟨8, _⟩ => ⟨S1024x1024, .i32⟩
  | .hbm, ⟨9, _⟩ => ⟨S1024x1024, .i32⟩
  | .hbm, ⟨10, _⟩ => ⟨S1024x1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S_, .i32⟩
  | .hbm, ⟨20, _⟩ => ⟨S1024x1024, .i32⟩
  | .hbm, ⟨21, _⟩ => ⟨S1024x1024, .i1⟩
  | .hbm, ⟨22, _⟩ => ⟨S_, .i32⟩
  | .hbm, ⟨23, _⟩ => ⟨S1024x1024, .i32⟩
  | .hbm, ⟨24, _⟩ => ⟨S1024x1024, .i1⟩
  | .hbm, ⟨25, _⟩ => ⟨S_, .i32⟩
  | .hbm, ⟨26, _⟩ => ⟨S_, .i1⟩
  | .hbm, ⟨27, _⟩ => ⟨S1024x1024, .i1⟩
  | .hbm, ⟨28, _⟩ => ⟨S1024x1024, .i1⟩
  | .hbm, ⟨29, _⟩ => ⟨S1024x1024, .i1⟩
  | .hbm, ⟨30, _⟩ => ⟨S1024x1024, .i32⟩
  | .hbm, ⟨31, _⟩ => ⟨S1024x1024, .i32⟩
  | .hbm, ⟨32, _⟩ => ⟨S1024x1024, .i32⟩
  | .hbm, ⟨33, _⟩ => ⟨S1024x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S_, .i1⟩
  | .hbm, ⟨59, _⟩ => ⟨S1024, .i1⟩
  | .hbm, ⟨60, _⟩ => ⟨S1024, .i1⟩
  | .hbm, ⟨61, _⟩ => ⟨S1024, .i1⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S_, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024x1, .i32⟩
  | .hbm, ⟨75, _⟩ => ⟨S_, .i32⟩
  | .hbm, ⟨76, _⟩ => ⟨S1024x1, .i32⟩
  | .hbm, ⟨77, _⟩ => ⟨S1024x1, .i1⟩
  | .hbm, ⟨78, _⟩ => ⟨S1x1024, .f32⟩
  | .hbm, ⟨79, _⟩ => ⟨S1024x1024, .f32⟩
  | .hbm, ⟨80, _⟩ => ⟨S1024x1024, .i1⟩
  | .hbm, ⟨81, _⟩ => ⟨S1024x1024, .f32⟩
  | .hbm, ⟨82, _⟩ => ⟨S1024x1024, .f32⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S_, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1024, .f32⟩
  | .hbm, ⟨96, _⟩ => ⟨S1x1024, .f32⟩
  | .hbm, ⟨97, _⟩ => ⟨S1024x1024, .f32⟩
  | .hbm, ⟨98, _⟩ => ⟨S1024x1024, .f32⟩
  | .hbm, ⟨99, _⟩ => ⟨S1x1024, .i32⟩
  | .hbm, ⟨100, _⟩ => ⟨S_, .i32⟩
  | .hbm, ⟨101, _⟩ => ⟨S1x1024, .i32⟩
  | .hbm, ⟨102, _⟩ => ⟨S1x1024, .i1⟩
  | .hbm, ⟨103, _⟩ => ⟨S1024x1, .f32⟩
  | .hbm, ⟨104, _⟩ => ⟨S_, .f32⟩
  | .hbm, ⟨105, _⟩ => ⟨S1024x1, .f32⟩
  | .hbm, ⟨106, _⟩ => ⟨S1024x1, .f32⟩
  | .hbm, ⟨107, _⟩ => ⟨S1024x1024, .f32⟩
  | .hbm, ⟨108, _⟩ => ⟨S1024x1024, .f32⟩
  | .hbm, ⟨109, _⟩ => ⟨S_, .f32⟩
  | .hbm, ⟨110, _⟩ => ⟨S1024x1024, .f32⟩
  | .hbm, ⟨111, _⟩ => ⟨S1024x1024, .f32⟩
  | .hbm, ⟨112, _⟩ => ⟨S1024x1024, .i1⟩
  | .hbm, ⟨113, _⟩ => ⟨S1024x1024, .f32⟩
  | .hbm, ⟨114, _⟩ => ⟨S1024x1024, .f32⟩
  | .hbm, ⟨115, _⟩ => ⟨S1024x2048, .f32⟩
  | .hbm, ⟨116, _⟩ => ⟨S1024x1024, .bf16⟩
  | .hbm, ⟨117, _⟩ => ⟨S1024x1024, .f32⟩
  | .hbm, ⟨118, _⟩ => ⟨S1024x1024, .f32⟩
  | .hbm, ⟨119, _⟩ => ⟨S1024x1024, .bf16⟩
  | .hbm, ⟨120, _⟩ => ⟨S1024x1024, .bf16⟩
  | .hbm, ⟨121, _⟩ => ⟨S1024x1024, .f32⟩
  | .hbm, ⟨122, _⟩ => ⟨S1024x1024, .f32⟩
  | .hbm, ⟨123, _⟩ => ⟨S1024x1024, .bf16⟩
  | .hbm, ⟨124, _⟩ => ⟨S2048x1024, .bf16⟩
  | .hbm, ⟨125, _⟩ => ⟨S1024x2048, .bf16⟩
  | .hbm, ⟨126, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S3x3x512, .f32⟩
  | .local _ .vmem, ⟨7, _⟩ => ⟨S3x3x512, .f32⟩
  | .local _ .vmem, ⟨8, _⟩ => ⟨S2x1024x512, .f32⟩
  | .local _ .vmem, ⟨9, _⟩ => ⟨S2x1024x512, .f32⟩
  | .local _ .vmem, ⟨10, _⟩ => ⟨S2x512, .f32⟩
  | .local _ .vmem, ⟨11, _⟩ => ⟨S2x512, .f32⟩
  | .local _ .vmem, ⟨12, _⟩ => ⟨S2048x1024, .bf16⟩
  | .local _ .vmem, ⟨13, _⟩ => ⟨S1024x2048, .bf16⟩
  | .local _ .vmem, ⟨14, _⟩ => ⟨S1024x512, .bf16⟩
  | .local _ .vmem, ⟨15, _⟩ => ⟨S1024x512, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_cst_0 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_c_3 : Ref sig .tc := ⟨.hbm, 65, rfl⟩
abbrev main_v15 : Ref sig .tc := ⟨.hbm, 66, rfl⟩
abbrev main_v16 : Ref sig .tc := ⟨.hbm, 67, rfl⟩
abbrev main_cst_4 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c_6 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_call3_v0 : Ref sig .tc := ⟨.hbm, 80, rfl⟩
abbrev main_call3_v1 : Ref sig .tc := ⟨.hbm, 81, rfl⟩
abbrev main_v24 : Ref sig .tc := ⟨.hbm, 82, rfl⟩
abbrev main_c_7 : Ref sig .tc := ⟨.hbm, 83, rfl⟩
abbrev main_v25 : Ref sig .tc := ⟨.hbm, 84, rfl⟩
abbrev main_v26 : Ref sig .tc := ⟨.hbm, 85, rfl⟩
abbrev main_cst_8 : Ref sig .tc := ⟨.hbm, 86, rfl⟩
abbrev main_cst_9 : Ref sig .tc := ⟨.hbm, 87, rfl⟩
abbrev main_call4_v0 : Ref sig .tc := ⟨.hbm, 88, rfl⟩
abbrev main_call4_v1 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_12 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_13 : Ref sig .tc := ⟨.hbm, 109, rfl⟩
abbrev main_v43 : Ref sig .tc := ⟨.hbm, 110, rfl⟩
abbrev main_v44 : Ref sig .tc := ⟨.hbm, 111, rfl⟩
abbrev main_call5_v0 : Ref sig .tc := ⟨.hbm, 112, rfl⟩
abbrev main_call5_v1 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c4_i32_0 : BitVec 32 := 4#32
  let v1 : BitVec 32 := Scalar.addi c4_i32_0 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x16384 : Shape := ⟨2, ![8192, 16384]⟩
abbrev S3x3x1024 : Shape := ⟨3, ![3, 3, 1024]⟩
abbrev S2x1024x1024 : Shape := ⟨3, ![2, 1024, 1024]⟩
abbrev S2x1024 : Shape := ⟨2, ![2, 1024]⟩
abbrev S4096x16384 : Shape := ⟨2, ![4096, 16384]⟩
abbrev S4x1024x16384 : Shape := ⟨3, ![4, 1024, 16384]⟩
abbrev S4x1024x1024 : Shape := ⟨3, ![4, 1024, 1024]⟩
abbrev S_ : Shape := ⟨0, ![]⟩
abbrev S2x1x1024 : Shape := ⟨3, ![2, 1, 1024]⟩
abbrev S2x1025x1024 : Shape := ⟨3, ![2, 1025, 1024]⟩
abbrev S2x1023x1024 : Shape := ⟨3, ![2, 1023, 1024]⟩
abbrev S1x3x1024 : Shape := ⟨3, ![1, 3, 1024]⟩
abbrev S3x1024 : Shape := ⟨2, ![3, 1024]⟩
abbrev S64x64x1024 : Shape := ⟨3, ![64, 64, 1024]⟩
abbrev S64x66x1024 : Shape := ⟨3, ![64, 66, 1024]⟩
abbrev S1x1024 : Shape := ⟨2, ![1, 1024]⟩
abbrev S1024 : Shape := ⟨1, ![1024]⟩
abbrev S1x1x1024 : Shape := ⟨3, ![1, 1, 1024]⟩
abbrev S1x1025x1024 : Shape := ⟨3, ![1, 1025, 1024]⟩
abbrev S1025x1024 : Shape := ⟨2, ![1025, 1024]⟩
abbrev S1025 : Shape := ⟨1, ![1025]⟩
abbrev S1025x1 : Shape := ⟨2, ![1025, 1]⟩
abbrev S4x1024x1025 : Shape := ⟨3, ![4, 1024, 1025]⟩
abbrev S4x1025x1024 : Shape := ⟨3, ![4, 1025, 1024]⟩
abbrev S4096x1024 : Shape := ⟨2, ![4096, 1024]⟩

abbrev nBuf : Space → Nat
  | .hbm => 255
  | .vmem => 0
  | .smem => 0
  | _ => 0

abbrev hbmTy0_0 (i : Nat) : BufTy := match i % 128 with
  | 0 => ⟨S8192x16384, .f32⟩
  | 1 => ⟨S3x3x1024, .f32⟩
  | 2 => ⟨S2x1024x1024, .f32⟩
  | 3 => ⟨S2x1024x1024, .f32⟩
  | 4 => ⟨S2x1024, .f32⟩
  | 5 => ⟨S4096x16384, .f32⟩
  | 6 => ⟨S4x1024x16384, .f32⟩
  | 7 => ⟨S4x1024x1024, .f32⟩
  | 8 => ⟨S4x1024x1024, .f32⟩
  | 9 => ⟨S4x1024x1024, .f32⟩
  | 10 => ⟨S_, .f32⟩
  | 11 => ⟨S2x1x1024, .f32⟩
  | 12 => ⟨S2x1x1024, .f32⟩
  | 13 => ⟨S2x1025x1024, .f32⟩
  | 14 => ⟨S2x1023x1024, .f32⟩
  | 15 => ⟨S2x1025x1024, .f32⟩
  | 16 => ⟨S1x3x1024, .f32⟩
  | 17 => ⟨S3x1024, .f32⟩
  | 18 => ⟨S64x64x1024, .f32⟩
  | 19 => ⟨S_, .i32⟩
  | 20 => ⟨S_, .f32⟩
  | 21 => ⟨S64x66x1024, .f32⟩
  | 22 => ⟨S64x64x1024, .f32⟩
  | 23 => ⟨S1x1024, .f32⟩
  | 24 => ⟨S1024, .f32⟩
  | 25 => ⟨S1x1x1024, .f32⟩
  | 26 => ⟨S64x64x1024, .f32⟩
  | 27 => ⟨S64x64x1024, .f32⟩
  | 28 => ⟨S64x64x1024, .f32⟩
  | 29 => ⟨S1x1024, .f32⟩
  | 30 => ⟨S1024, .f32⟩
  | 31 => ⟨S1x1x1024, .f32⟩
  | 32 => ⟨S64x64x1024, .f32⟩
  | 33 => ⟨S64x64x1024, .f32⟩
  | 34 => ⟨S64x64x1024, .f32⟩
  | 35 => ⟨S64x64x1024, .f32⟩
  | 36 => ⟨S1x1024, .f32⟩
  | 37 => ⟨S1024, .f32⟩
  | 38 => ⟨S1x1x1024, .f32⟩
  | 39 => ⟨S64x64x1024, .f32⟩
  | 40 => ⟨S64x64x1024, .f32⟩
  | 41 => ⟨S64x64x1024, .f32⟩
  | 42 => ⟨S4x1024x1024, .f32⟩
  | 43 => ⟨S1x3x1024, .f32⟩
  | 44 => ⟨S3x1024, .f32⟩
  | 45 => ⟨S64x64x1024, .f32⟩
  | 46 => ⟨S_, .i32⟩
  | 47 => ⟨S_, .f32⟩
  | 48 => ⟨S64x66x1024, .f32⟩
  | 49 => ⟨S64x64x1024, .f32⟩
  | 50 => ⟨S1x1024, .f32⟩
  | 51 => ⟨S1024, .f32⟩
  | 52 => ⟨S1x1x1024, .f32⟩
  | 53 => ⟨S64x64x1024, .f32⟩
  | 54 => ⟨S64x64x1024, .f32⟩
  | 55 => ⟨S64x64x1024, .f32⟩
  | 56 => ⟨S1x1024, .f32⟩
  | 57 => ⟨S1024, .f32⟩
  | 58 => ⟨S1x1x1024, .f32⟩
  | 59 => ⟨S64x64x1024, .f32⟩
  | 60 => ⟨S64x64x1024, .f32⟩
  | 61 => ⟨S64x64x1024, .f32⟩
  | 62 => ⟨S64x64x1024, .f32⟩
  | 63 => ⟨S1x1024, .f32⟩
  | 64 => ⟨S1024, .f32⟩
  | 65 => ⟨S1x1x1024, .f32⟩
  | 66 => ⟨S64x64x1024, .f32⟩
  | 67 => ⟨S64x64x1024, .f32⟩
  | 68 => ⟨S64x64x1024, .f32⟩
  | 69 => ⟨S4x1024x1024, .f32⟩
  | 70 => ⟨S1x3x1024, .f32⟩
  | 71 => ⟨S3x1024, .f32⟩
  | 72 => ⟨S64x64x1024, .f32⟩
  | 73 => ⟨S_, .i32⟩
  | 74 => ⟨S_, .f32⟩
  | 75 => ⟨S64x66x1024, .f32⟩
  | 76 => ⟨S64x64x1024, .f32⟩
  | 77 => ⟨S1x1024, .f32⟩
  | 78 => ⟨S1024, .f32⟩
  | 79 => ⟨S1x1x1024, .f32⟩
  | 80 => ⟨S64x64x1024, .f32⟩
  | 81 => ⟨S64x64x1024, .f32⟩
  | 82 => ⟨S64x64x1024, .f32⟩
  | 83 => ⟨S1x1024, .f32⟩
  | 84 => ⟨S1024, .f32⟩
  | 85 => ⟨S1x1x1024, .f32⟩
  | 86 => ⟨S64x64x1024, .f32⟩
  | 87 => ⟨S64x64x1024, .f32⟩
  | 88 => ⟨S64x64x1024, .f32⟩
  | 89 => ⟨S64x64x1024, .f32⟩
  | 90 => ⟨S1x1024, .f32⟩
  | 91 => ⟨S1024, .f32⟩
  | 92 => ⟨S1x1x1024, .f32⟩
  | 93 => ⟨S64x64x1024, .f32⟩
  | 94 => ⟨S64x64x1024, .f32⟩
  | 95 => ⟨S64x64x1024, .f32⟩
  | 96 => ⟨S4x1024x1024, .f32⟩
  | 97 => ⟨S1x1025x1024, .f32⟩
  | 98 => ⟨S1025x1024, .f32⟩
  | 99 => ⟨S1x1025x1024, .f32⟩
  | 100 => ⟨S1025x1024, .f32⟩
  | 101 => ⟨S1x1024, .f32⟩
  | 102 => ⟨S1024, .f32⟩
  | 103 => ⟨S1025, .i32⟩
  | 104 => ⟨S1024, .i32⟩
  | 105 => ⟨S1025x1, .i32⟩
  | 106 => ⟨S1x1024, .i32⟩
  | 107 => ⟨S1025x1024, .i32⟩
  | 108 => ⟨S1025x1024, .i32⟩
  | 109 => ⟨S1025x1024, .i32⟩
  | 110 => ⟨S1025x1024, .f32⟩
  | 111 => ⟨S_, .f32⟩
  | 112 => ⟨S_, .f32⟩
  | 113 => ⟨S_, .f32⟩
  | 114 => ⟨S_, .f32⟩
  | 115 => ⟨S_, .f32⟩
  | 116 => ⟨S1025x1024, .f32⟩
  | 117 => ⟨S1025x1024, .f32⟩
  | 118 => ⟨S1025x1024, .f32⟩
  | 119 => ⟨S4x1024x1025, .f32⟩
  | 120 => ⟨S4x1025x1024, .f32⟩
  | 121 => ⟨S1025x1024, .f32⟩
  | 122 => ⟨S1025x1024, .f32⟩
  | 123 => ⟨S4x1024x1025, .f32⟩
  | 124 => ⟨S4x1025x1024, .f32⟩
  | 125 => ⟨S1x1025x1024, .f32⟩
  | 126 => ⟨S4x1025x1024, .f32⟩
  | 127 => ⟨S4x1025x1024, .f32⟩
  | _ => ⟨S8192x16384, .f32⟩

abbrev hbmTy0_1 (i : Nat) : BufTy := match i % 128 with
  | 0 => ⟨S1x1025x1024, .f32⟩
  | 1 => ⟨S4x1025x1024, .f32⟩
  | 2 => ⟨S4x1025x1024, .f32⟩
  | 3 => ⟨S4x1025x1024, .f32⟩
  | 4 => ⟨S1x1025x1024, .f32⟩
  | 5 => ⟨S4x1025x1024, .f32⟩
  | 6 => ⟨S4x1025x1024, .f32⟩
  | 7 => ⟨S1x1025x1024, .f32⟩
  | 8 => ⟨S4x1025x1024, .f32⟩
  | 9 => ⟨S4x1025x1024, .f32⟩
  | 10 => ⟨S4x1025x1024, .f32⟩
  | 11 => ⟨S_, .i32⟩
  | 12 => ⟨S1025, .i32⟩
  | 13 => ⟨S1025, .i1⟩
  | 14 => ⟨S_, .i32⟩
  | 15 => ⟨S1025, .i32⟩
  | 16 => ⟨S1025, .i1⟩
  | 17 => ⟨S1025, .i1⟩
  | 18 => ⟨S_, .f32⟩
  | 19 => ⟨S_, .f32⟩
  | 20 => ⟨S1025, .f32⟩
  | 21 => ⟨S1025, .f32⟩
  | 22 => ⟨S1025, .f32⟩
  | 23 => ⟨S_, .f32⟩
  | 24 => ⟨S1025, .f32⟩
  | 25 => ⟨S1025, .f32⟩
  | 26 => ⟨S1025x1024, .f32⟩
  | 27 => ⟨S1025x1, .f32⟩
  | 28 => ⟨S1025x1, .f32⟩
  | 29 => ⟨S1025x1024, .f32⟩
  | 30 => ⟨S1025x1024, .f32⟩
  | 31 => ⟨S4x1024x1024, .f32⟩
  | 32 => ⟨S4x1024x1024, .f32⟩
  | 33 => ⟨S1025x1024, .f32⟩
  | 34 => ⟨S1025x1024, .f32⟩
  | 35 => ⟨S1025x1, .f32⟩
  | 36 => ⟨S1025x1, .f32⟩
  | 37 => ⟨S1025x1024, .f32⟩
  | 38 => ⟨S1025x1024, .f32⟩
  | 39 => ⟨S4x1024x1024, .f32⟩
  | 40 => ⟨S4x1024x1024, .f32⟩
  | 41 => ⟨S4x1024x1024, .f32⟩
  | 42 => ⟨S1x1x1024, .f32⟩
  | 43 => ⟨S4x1024x1024, .f32⟩
  | 44 => ⟨S4x1024x1024, .f32⟩
  | 45 => ⟨S4x1024x1024, .f32⟩
  | 46 => ⟨S4x1024x1024, .f32⟩
  | 47 => ⟨S1x1025x1024, .f32⟩
  | 48 => ⟨S1025x1024, .f32⟩
  | 49 => ⟨S1x1025x1024, .f32⟩
  | 50 => ⟨S1025x1024, .f32⟩
  | 51 => ⟨S1x1024, .f32⟩
  | 52 => ⟨S1024, .f32⟩
  | 53 => ⟨S1025, .i32⟩
  | 54 => ⟨S1024, .i32⟩
  | 55 => ⟨S1025x1, .i32⟩
  | 56 => ⟨S1x1024, .i32⟩
  | 57 => ⟨S1025x1024, .i32⟩
  | 58 => ⟨S1025x1024, .i32⟩
  | 59 => ⟨S1025x1024, .i32⟩
  | 60 => ⟨S1025x1024, .f32⟩
  | 61 => ⟨S_, .f32⟩
  | 62 => ⟨S_, .f32⟩
  | 63 => ⟨S_, .f32⟩
  | 64 => ⟨S_, .f32⟩
  | 65 => ⟨S_, .f32⟩
  | 66 => ⟨S1025x1024, .f32⟩
  | 67 => ⟨S1025x1024, .f32⟩
  | 68 => ⟨S1025x1024, .f32⟩
  | 69 => ⟨S4x1024x1025, .f32⟩
  | 70 => ⟨S4x1025x1024, .f32⟩
  | 71 => ⟨S1025x1024, .f32⟩
  | 72 => ⟨S1025x1024, .f32⟩
  | 73 => ⟨S4x1024x1025, .f32⟩
  | 74 => ⟨S4x1025x1024, .f32⟩
  | 75 => ⟨S1x1025x1024, .f32⟩
  | 76 => ⟨S4x1025x1024, .f32⟩
  | 77 => ⟨S4x1025x1024, .f32⟩
  | 78 => ⟨S1x1025x1024, .f32⟩
  | 79 => ⟨S4x1025x1024, .f32⟩
  | 80 => ⟨S4x1025x1024, .f32⟩
  | 81 => ⟨S4x1025x1024, .f32⟩
  | 82 => ⟨S1x1025x1024, .f32⟩
  | 83 => ⟨S4x1025x1024, .f32⟩
  | 84 => ⟨S4x1025x1024, .f32⟩
  | 85 => ⟨S1x1025x1024, .f32⟩
  | 86 => ⟨S4x1025x1024, .f32⟩
  | 87 => ⟨S4x1025x1024, .f32⟩
  | 88 => ⟨S4x1025x1024, .f32⟩
  | 89 => ⟨S_, .i32⟩
  | 90 => ⟨S1025, .i32⟩
  | 91 => ⟨S1025, .i1⟩
  | 92 => ⟨S_, .i32⟩
  | 93 => ⟨S1025, .i32⟩
  | 94 => ⟨S1025, .i1⟩
  | 95 => ⟨S1025, .i1⟩
  | 96 => ⟨S_, .f32⟩
  | 97 => ⟨S_, .f32⟩
  | 98 => ⟨S1025, .f32⟩
  | 99 => ⟨S1025, .f32⟩
  | 100 => ⟨S1025, .f32⟩
  | 101 => ⟨S_, .f32⟩
  | 102 => ⟨S1025, .f32⟩
  | 103 => ⟨S1025, .f32⟩
  | 104 => ⟨S1025x1024, .f32⟩
  | 105 => ⟨S1025x1, .f32⟩
  | 106 => ⟨S1025x1, .f32⟩
  | 107 => ⟨S1025x1024, .f32⟩
  | 108 => ⟨S1025x1024, .f32⟩
  | 109 => ⟨S4x1024x1024, .f32⟩
  | 110 => ⟨S4x1024x1024, .f32⟩
  | 111 => ⟨S1025x1024, .f32⟩
  | 112 => ⟨S1025x1024, .f32⟩
  | 113 => ⟨S1025x1, .f32⟩
  | 114 => ⟨S1025x1, .f32⟩
  | 115 => ⟨S1025x1024, .f32⟩
  | 116 => ⟨S1025x1024, .f32⟩
  | 117 => ⟨S4x1024x1024, .f32⟩
  | 118 => ⟨S4x1024x1024, .f32⟩
  | 119 => ⟨S4x1024x1024, .f32⟩
  | 120 => ⟨S1x1x1024, .f32⟩
  | 121 => ⟨S4x1024x1024, .f32⟩
  | 122 => ⟨S4x1024x1024, .f32⟩
  | 123 => ⟨S4x1024x1024, .f32⟩
  | 124 => ⟨S4x1024x1024, .f32⟩
  | 125 => ⟨S4096x1024, .f32⟩
  | 126 => ⟨S4096x1024, .bf16⟩
  | _ => ⟨S8192x16384, .f32⟩

abbrev hbmTy (i : Nat) : BufTy := match i / 128 with
  | 0 => hbmTy0_0 i
  | 1 => hbmTy0_1 i
  | _ => ⟨S8192x16384, .f32⟩

abbrev bufTy : (tb : Table) → Fin (tcTables nBuf tb) → BufTy
  | .hbm, ⟨i, _⟩ => hbmTy i
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_0 : Ref sig .tc := ⟨.hbm, 46, rfl⟩
abbrev main_call1_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c_1 : Ref sig .tc := ⟨.hbm, 73, rfl⟩
abbrev main_call2_v0 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_2 : Ref sig .tc := ⟨.hbm, 111, rfl⟩
abbrev main_cst_3 : Ref sig .tc := ⟨.hbm, 112, rfl⟩
abbrev main_v99 : Ref sig .tc := ⟨.hbm, 113, rfl⟩
abbrev main_cst_4 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_c_5 : Ref sig .tc := ⟨.hbm, 139, rfl⟩
abbrev main_v124 : Ref sig .tc := ⟨.hbm, 140, rfl⟩
abbrev main_v125 : Ref sig .tc := ⟨.hbm, 141, rfl⟩
abbrev main_c_6 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_7 : Ref sig .tc := ⟨.hbm, 146, rfl⟩
abbrev main_cst_8 : Ref sig .tc := ⟨.hbm, 147, rfl⟩
abbrev main_call3_v0 : Ref sig .tc := ⟨.hbm, 148, rfl⟩
abbrev main_call3_v1 : Ref sig .tc := ⟨.hbm, 149, rfl⟩
abbrev main_v129 : Ref sig .tc := ⟨.hbm, 150, rfl⟩
abbrev main_cst_9 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_cst_10 : Ref sig .tc := ⟨.hbm, 189, rfl⟩
abbrev main_cst_11 : Ref sig .tc := ⟨.hbm, 190, rfl⟩
abbrev main_v167 : Ref sig .tc := ⟨.hbm, 191, rfl⟩
abbrev main_cst_12 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_c_13 : Ref sig .tc := ⟨.hbm, 217, rfl⟩
abbrev main_v192 : Ref sig .tc := ⟨.hbm, 218, rfl⟩
abbrev main_v193 : Ref sig .tc := ⟨.hbm, 219, rfl⟩
abbrev main_c_14 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_cst_15 : Ref sig .tc := ⟨.hbm, 224, rfl⟩
abbrev main_cst_16 : Ref sig .tc := ⟨.hbm, 225, rfl⟩
abbrev main_call4_v0 : Ref sig .tc := ⟨.hbm, 226, rfl⟩
abbrev main_call4_v1 : Ref sig .tc := ⟨.hbm, 227, rfl⟩
abbrev main_v197 : Ref sig .tc := ⟨.hbm, 228, rfl⟩
abbrev main_cst_17 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩

abbrev nD : Nat := 1
abbrev τ : Topo := Topo.v7x

variable {F : FTy → Type} [FloatOps F]
-- ==== KernelInProj.lean ====
abbrev S8192x2048 : Shape := ⟨2, ![8192, 2048]⟩
abbrev S4x2048x16432 : Shape := ⟨3, ![4, 2048, 16432]⟩
abbrev S4x16432 : Shape := ⟨2, ![4, 16432]⟩
abbrev S4x2048x1024 : Shape := ⟨3, ![4, 2048, 1024]⟩
abbrev S4x2048x512 : Shape := ⟨3, ![4, 2048, 512]⟩
abbrev S4x2048x2048 : Shape := ⟨3, ![4, 2048, 2048]⟩
abbrev S4x2048x16384 : Shape := ⟨3, ![4, 2048, 16384]⟩
abbrev S4x1024 : Shape := ⟨2, ![4, 1024]⟩
abbrev S4x512 : Shape := ⟨2, ![4, 512]⟩
abbrev S4x2048 : Shape := ⟨2, ![4, 2048]⟩
abbrev S4x16384 : Shape := ⟨2, ![4, 16384]⟩
abbrev S4x2048x16 : Shape := ⟨3, ![4, 2048, 16]⟩
abbrev S4x2048x8 : Shape := ⟨3, ![4, 2048, 8]⟩
abbrev S4x2048x48 : Shape := ⟨3, ![4, 2048, 48]⟩
abbrev S4x16 : Shape := ⟨2, ![4, 16]⟩
abbrev S4x8 : Shape := ⟨2, ![4, 8]⟩
abbrev S4x48 : Shape := ⟨2, ![4, 48]⟩
abbrev S_ : Shape := ⟨0, ![]⟩
abbrev S4x2048x128 : Shape := ⟨3, ![4, 2048, 128]⟩
abbrev S4x128 : Shape := ⟨2, ![4, 128]⟩
abbrev S1x16384 : Shape := ⟨2, ![1, 16384]⟩
abbrev S16384 : Shape := ⟨1, ![16384]⟩
abbrev S8192x16384 : Shape := ⟨2, ![8192, 16384]⟩
abbrev S1024x2048 : Shape := ⟨2, ![1024, 2048]⟩
abbrev S1x2048x2048 : Shape := ⟨3, ![1, 2048, 2048]⟩
abbrev S1x2048 : Shape := ⟨2, ![1, 2048]⟩
abbrev S2048x2048 : Shape := ⟨2, ![2048, 2048]⟩

abbrev nBuf : Space → Nat
  | .hbm => 67
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x16432, .f32⟩
  | .hbm, ⟨2, _⟩ => ⟨S4x16432, .f32⟩
  | .hbm, ⟨3, _⟩ => ⟨S4x2048x1024, .f32⟩
  | .hbm, ⟨4, _⟩ => ⟨S4x2048x1024, .bf16⟩
  | .hbm, ⟨5, _⟩ => ⟨S4x2048x1024, .f32⟩
  | .hbm, ⟨6, _⟩ => ⟨S4x2048x1024, .bf16⟩
  | .hbm, ⟨7, _⟩ => ⟨S4x2048x1024, .f32⟩
  | .hbm, ⟨8, _⟩ => ⟨S4x2048x1024, .bf16⟩
  | .hbm, ⟨9, _⟩ => ⟨S4x2048x512, .f32⟩
  | .hbm, ⟨10, _⟩ => ⟨S4x2048x512, .bf16⟩
  | .hbm, ⟨11, _⟩ => ⟨S4x2048x512, .f32⟩
  | .hbm, ⟨12, _⟩ => ⟨S4x2048x512, .bf16⟩
  | .hbm, ⟨13, _⟩ => ⟨S4x2048x1024, .f32⟩
  | .hbm, ⟨14, _⟩ => ⟨S4x2048x1024, .bf16⟩
  | .hbm, ⟨15, _⟩ => ⟨S4x2048x1024, .f32⟩
  | .hbm, ⟨16, _⟩ => ⟨S4x2048x1024, .bf16⟩
  | .hbm, ⟨17, _⟩ => ⟨S4x2048x1024, .f32⟩
  | .hbm, ⟨18, _⟩ => ⟨S4x2048x1024, .bf16⟩
  | .hbm, ⟨19, _⟩ => ⟨S4x2048x1024, .f32⟩
  | .hbm, ⟨20, _⟩ => ⟨S4x2048x1024, .bf16⟩
  | .hbm, ⟨21, _⟩ => ⟨S4x2048x1024, .f32⟩
  | .hbm, ⟨22, _⟩ => ⟨S4x2048x1024, .bf16⟩
  | .hbm, ⟨23, _⟩ => ⟨S4x2048x1024, .f32⟩
  | .hbm, ⟨24, _⟩ => ⟨S4x2048x1024, .bf16⟩
  | .hbm, ⟨25, _⟩ => ⟨S4x2048x2048, .f32⟩
  | .hbm, ⟨26, _⟩ => ⟨S4x2048x2048, .bf16⟩
  | .hbm, ⟨27, _⟩ => ⟨S4x2048x2048, .f32⟩
  | .hbm, ⟨28, _⟩ => ⟨S4x2048x2048, .bf16⟩
  | .hbm, ⟨29, _⟩ => ⟨S4x2048x2048, .f32⟩
  | .hbm, ⟨30, _⟩ => ⟨S4x2048x2048, .bf16⟩
  | .hbm, ⟨31, _⟩ => ⟨S4x2048x16384, .bf16⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S4x512, .f32⟩
  | .hbm, ⟨36, _⟩ => ⟨S4x512, .f32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x2048, .f32⟩
  | .hbm, ⟨44, _⟩ => ⟨S4x2048, .f32⟩
  | .hbm, ⟨45, _⟩ => ⟨S4x2048, .f32⟩
  | .hbm, ⟨46, _⟩ => ⟨S4x16384, .f32⟩
  | .hbm, ⟨47, _⟩ => ⟨S4x2048x16, .f32⟩
  | .hbm, ⟨48, _⟩ => ⟨S4x2048x16, .f32⟩
  | .hbm, ⟨49, _⟩ => ⟨S4x2048x8, .f32⟩
  | .hbm, ⟨50, _⟩ => ⟨S4x2048x8, .f32⟩
  | .hbm, ⟨51, _⟩ => ⟨S4x2048x48, .f32⟩
  | .hbm, ⟨52, _⟩ => ⟨S4x16, .f32⟩
  | .hbm, ⟨53, _⟩ => ⟨S4x16, .f32⟩
  | .hbm, ⟨54, _⟩ => ⟨S4x8, .f32⟩
  | .hbm, ⟨55, _⟩ => ⟨S4x8, .f32⟩
  | .hbm, ⟨56, _⟩ => ⟨S4x48, .f32⟩
  | .hbm, ⟨57, _⟩ => ⟨S_, .i32⟩
  | .hbm, ⟨58, _⟩ => ⟨S_, .f32⟩
  | .hbm, ⟨59, _⟩ => ⟨S4x2048x128, .f32⟩
  | .hbm, ⟨60, _⟩ => ⟨S_, .i32⟩
  | .hbm, ⟨61, _⟩ => ⟨S_, .f32⟩
  | .hbm, ⟨62, _⟩ => ⟨S4x128, .f32⟩
  | .hbm, ⟨63, _⟩ => ⟨S1x16384, .f32⟩
  | .hbm, ⟨64, _⟩ => ⟨S16384, .f32⟩
  | .hbm, ⟨65, _⟩ => ⟨S1x16384, .f32⟩
  | .hbm, ⟨66, _⟩ => ⟨S8192x16384, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_c : Ref sig .tc := ⟨.hbm, 57, rfl⟩
abbrev main_call0_v0 : Ref sig .tc := ⟨.hbm, 58, rfl⟩
abbrev main_v54 : Ref sig .tc := ⟨.hbm, 59, rfl⟩
abbrev main_c_0 : Ref sig .tc := ⟨.hbm, 60, rfl⟩
abbrev main_call1_v0 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInProjIdeal.lean ====
abbrev S8192x2048 : Shape := ⟨2, ![8192, 2048]⟩
abbrev S4x2048x16432 : Shape := ⟨3, ![4, 2048, 16432]⟩
abbrev S4x16432 : Shape := ⟨2, ![4, 16432]⟩
abbrev S1x2048x16432 : Shape := ⟨3, ![1, 2048, 16432]⟩
abbrev S2048x16432 : Shape := ⟨2, ![2048, 16432]⟩
abbrev S8192x16432 : Shape := ⟨2, ![8192, 16432]⟩
abbrev S1x16432 : Shape := ⟨2, ![1, 16432]⟩
abbrev S16432 : Shape := ⟨1, ![16432]⟩
abbrev S8192x1024 : Shape := ⟨2, ![8192, 1024]⟩
abbrev S8192x512 : Shape := ⟨2, ![8192, 512]⟩
abbrev S8192x16 : Shape := ⟨2, ![8192, 16]⟩
abbrev S8192x8 : Shape := ⟨2, ![8192, 8]⟩
abbrev S8192x16384 : Shape := ⟨2, ![8192, 16384]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x16432, .f32⟩
  | .hbm, ⟨2, _⟩ => ⟨S4x16432, .f32⟩
  | .hbm, ⟨3, _⟩ => ⟨S8192x2048, .f32⟩
  | .hbm, ⟨4, _⟩ => ⟨S1x2048x16432, .f32⟩
  | .hbm, ⟨5, _⟩ => ⟨S2048x16432, .f32⟩
  | .hbm, ⟨6, _⟩ => ⟨S8192x16432, .f32⟩
  | .hbm, ⟨7, _⟩ => ⟨S1x16432, .f32⟩
  | .hbm, ⟨8, _⟩ => ⟨S16432, .f32⟩
  | .hbm, ⟨9, _⟩ => ⟨S1x16432, .f32⟩
  | .hbm, ⟨10, _⟩ => ⟨S8192x16432, .f32⟩
  | .hbm, ⟨11, _⟩ => ⟨S8192x16432, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S8192x1024, .f32⟩
  | .hbm, ⟨19, _⟩ => ⟨S8192x16, .f32⟩
  | .hbm, ⟨20, _⟩ => ⟨S8192x16, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x8, .f32⟩
  | .hbm, ⟨26, _⟩ => ⟨S8192x8, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x16384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== KernelMerge.lean ====
abbrev S4096x1024 : Shape := ⟨2, ![4096, 1024]⟩
abbrev S4x3x1024x2048 : Shape := ⟨4, ![4, 3, 1024, 2048]⟩
abbrev S8192x16384 : Shape := ⟨2, ![8192, 16384]⟩
abbrev S8192x2048 : Shape := ⟨2, ![8192, 2048]⟩
abbrev S512x1024 : Shape := ⟨2, ![512, 1024]⟩
abbrev S1x3x1024x1024 : Shape := ⟨4, ![1, 3, 1024, 1024]⟩
abbrev S1x1x1024x1024 : Shape := ⟨4, ![1, 1, 1024, 1024]⟩
abbrev S1024x1024 : Shape := ⟨2, ![1024, 1024]⟩

abbrev nBuf : Space → Nat
  | .hbm => 10
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4x3x1024x2048, .f32⟩
  | .hbm, ⟨7, _⟩ => ⟨S8192x16384, .f32⟩
  | .hbm, ⟨8, _⟩ => ⟨S4x3x1024x2048, .bf16⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x3x1024x1024, .bf16⟩
  | .local _ .vmem, ⟨13, _⟩ => ⟨S1x3x1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMergeIdeal.lean ====
abbrev S4096x1024 : Shape := ⟨2, ![4096, 1024]⟩
abbrev S4x3x1024x2048 : Shape := ⟨4, ![4, 3, 1024, 2048]⟩
abbrev S8192x16384 : Shape := ⟨2, ![8192, 16384]⟩
abbrev S1x3x1024x2048 : Shape := ⟨4, ![1, 3, 1024, 2048]⟩
abbrev S3x1024x2048 : Shape := ⟨3, ![3, 1024, 2048]⟩
abbrev S4096x16384 : Shape := ⟨2, ![4096, 16384]⟩
abbrev S4096x2048 : Shape := ⟨2, ![4096, 2048]⟩
abbrev S_ : Shape := ⟨0, ![]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4x3x1024x2048, .f32⟩
  | .hbm, ⟨7, _⟩ => ⟨S8192x16384, .f32⟩
  | .hbm, ⟨8, _⟩ => ⟨S1x3x1024x2048, .f32⟩
  | .hbm, ⟨9, _⟩ => ⟨S3x1024x2048, .f32⟩
  | .hbm, ⟨10, _⟩ => ⟨S4096x16384, .f32⟩
  | .hbm, ⟨11, _⟩ => ⟨S4096x16384, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S1x1024x2048, .f32⟩
  | .hbm, ⟨25, _⟩ => ⟨S1024x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x1024, .f32⟩
  | .hbm, ⟨37, _⟩ => ⟨S1x1024x2048, .f32⟩
  | .hbm, ⟨38, _⟩ => ⟨S1024x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x1024, .f32⟩
  | .hbm, ⟨51, _⟩ => ⟨S1x1024x2048, .f32⟩
  | .hbm, ⟨52, _⟩ => ⟨S1024x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S4096x1024, .f32⟩
  | .hbm, ⟨68, _⟩ => ⟨S1x1024x2048, .f32⟩
  | .hbm, ⟨69, _⟩ => ⟨S1024x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S4096x1024, .f32⟩
  | .hbm, ⟨81, _⟩ => ⟨S1x1024x2048, .f32⟩
  | .hbm, ⟨82, _⟩ => ⟨S1024x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096x2048, .f32⟩
  | .hbm, ⟨93, _⟩ => ⟨S4096x2048, .f32⟩
  | .hbm, ⟨94, _⟩ => ⟨S4096x1024, .f32⟩
  | .hbm, ⟨95, _⟩ => ⟨S1x1024x2048, .f32⟩
  | .hbm, ⟨96, _⟩ => ⟨S1024x2048, .f32⟩
  | .hbm, ⟨97, _⟩ => ⟨S4096x2048, .f32⟩
  | .hbm, ⟨98, _⟩ => ⟨S4096x2048, .f32⟩
  | .hbm, ⟨99, _⟩ => ⟨S4096x2048, .f32⟩
  | .hbm, ⟨100, _⟩ => ⟨S8192x2048, .f32⟩
  | .hbm, ⟨101, _⟩ => ⟨S8192x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== KernelOutProj.lean ====
abbrev S8192x2048 : Shape := ⟨2, ![8192, 2048]⟩
abbrev S4x2048x2048 : Shape := ⟨3, ![4, 2048, 2048]⟩
abbrev S8x1x12288 : Shape := ⟨3, ![8, 1, 12288]⟩
abbrev S512x2048 : Shape := ⟨2, ![512, 2048]⟩
abbrev S1x2048x1024 : Shape := ⟨3, ![1, 2048, 1024]⟩
abbrev S512x1024 : Shape := ⟨2, ![512, 1024]⟩
abbrev S1x1x1024 : Shape := ⟨3, ![1, 1, 1024]⟩
abbrev S1x1024 : Shape := ⟨2, ![1, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S8x1x12288, .f32⟩
  | .hbm, ⟨4, _⟩ => ⟨S4x2048x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c4_i32_5 : BitVec 32 := 4#32
  let v20 : BitVec 32 := Scalar.addi c4_i32_5 arg0
  let c0_i32_6 : BitVec 32 := 0#32
  let c0_i32_7 : BitVec 32 := 0#32
  ![v19.toNat, c0_i32_6.toNat, v20.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutProjIdeal.lean ====
abbrev S8192x2048 : Shape := ⟨2, ![8192, 2048]⟩
abbrev S4x2048x2048 : Shape := ⟨3, ![4, 2048, 2048]⟩
abbrev S8x1x12288 : Shape := ⟨3, ![8, 1, 12288]⟩
abbrev S8x1x2048 : Shape := ⟨3, ![8, 1, 2048]⟩
abbrev S1x2048x2048 : Shape := ⟨3, ![1, 2048, 2048]⟩
abbrev S2048x2048 : Shape := ⟨2, ![2048, 2048]⟩
abbrev S4096x2048 : Shape := ⟨2, ![4096, 2048]⟩
abbrev S16x256x2048 : Shape := ⟨3, ![16, 256, 2048]⟩
abbrev S4x1024x2048 : Shape := ⟨3, ![4, 1024, 2048]⟩
abbrev S1x1x2048 : Shape := ⟨3, ![1, 1, 2048]⟩
abbrev S4x1x2048 : Shape := ⟨3, ![4, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S8x1x12288, .f32⟩
  | .hbm, ⟨4, _⟩ => ⟨S8x1x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S4096x2048, .f32⟩
  | .hbm, ⟨10, _⟩ => ⟨S16x256x2048, .f32⟩
  | .hbm, ⟨11, _⟩ => ⟨S4096x2048, .f32⟩
  | .hbm, ⟨12, _⟩ => ⟨S4x1024x2048, .f32⟩
  | .hbm, ⟨13, _⟩ => ⟨S4096x2048, .f32⟩
  | .hbm, ⟨14, _⟩ => ⟨S16x256x2048, .f32⟩
  | .hbm, ⟨15, _⟩ => ⟨S1x1x2048, .f32⟩
  | .hbm, ⟨16, _⟩ => ⟨S16x256x2048, .f32⟩
  | .hbm, ⟨17, _⟩ => ⟨S16x256x2048, .f32⟩
  | .hbm, ⟨18, _⟩ => ⟨S16x256x2048, .f32⟩
  | .hbm, ⟨19, _⟩ => ⟨S4096x2048, .f32⟩
  | .hbm, ⟨20, _⟩ => ⟨S4x1024x2048, .f32⟩
  | .hbm, ⟨21, _⟩ => ⟨S4x1x2048, .f32⟩
  | .hbm, ⟨22, _⟩ => ⟨S4x1024x2048, .f32⟩
  | .hbm, ⟨23, _⟩ => ⟨S4x1024x2048, .f32⟩
  | .hbm, ⟨24, _⟩ => ⟨S4x1024x2048, .f32⟩
  | .hbm, ⟨25, _⟩ => ⟨S4096x2048, .f32⟩
  | .hbm, ⟨26, _⟩ => ⟨S4096x2048, .f32⟩
  | .hbm, ⟨27, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== KernelNormP.lean ====
abbrev S8192x2048 : Shape := ⟨2, ![8192, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormPIdeal.lean ====
abbrev S8192x2048 : Shape := ⟨2, ![8192, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelNormS.lean ====
abbrev S8192x2048 : Shape := ⟨2, ![8192, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormSIdeal.lean ====
abbrev S8192x2048 : Shape := ⟨2, ![8192, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelQuery.lean ====
abbrev S8192x2048 : Shape := ⟨2, ![8192, 2048]⟩
abbrev S4x2048x2048 : Shape := ⟨3, ![4, 2048, 2048]⟩
abbrev S_ : Shape := ⟨0, ![]⟩
abbrev S1x2048 : Shape := ⟨2, ![1, 2048]⟩
abbrev S512x2048 : Shape := ⟨2, ![512, 2048]⟩
abbrev S1x2048x1024 : Shape := ⟨3, ![1, 2048, 1024]⟩
abbrev S1x1024 : Shape := ⟨2, ![1, 1024]⟩
abbrev S512x1024 : Shape := ⟨2, ![512, 1024]⟩
abbrev S2048x1024 : Shape := ⟨2, ![2048, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .f32⟩
  | .hbm, ⟨3, _⟩ => ⟨S4x2048x2048, .bf16⟩
  | .hbm, ⟨4, _⟩ => ⟨S4x2048x2048, .f32⟩
  | .hbm, ⟨5, _⟩ => ⟨S4x2048x2048, .f32⟩
  | .hbm, ⟨6, _⟩ => ⟨S4x2048x2048, .bf16⟩
  | .hbm, ⟨7, _⟩ => ⟨S_, .f32⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceQueryIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelModPeer.lean ====
abbrev S8192x2048 : Shape := ⟨2, ![8192, 2048]⟩
abbrev S4x2048 : Shape := ⟨2, ![4, 2048]⟩
abbrev S8x1x12288 : Shape := ⟨3, ![8, 1, 12288]⟩
abbrev S1x2048 : Shape := ⟨2, ![1, 2048]⟩
abbrev S2048 : Shape := ⟨1, ![2048]⟩
abbrev S2048x8192 : Shape := ⟨2, ![2048, 8192]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8x1x12288, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .hbm, ⟨7, _⟩ => ⟨S8192x2048, .bf16⟩
  | .hbm, ⟨8, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S2048x512, .bf16⟩
  | .local _ .vmem, ⟨12, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c0_i32_5 : BitVec 32 := 0#32
  let c4_i32_6 : BitVec 32 := 4#32
  let c0_i32_7 : BitVec 32 := 0#32
  ![v19.toNat, c0_i32_5.toNat, c4_i32_6.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c0_i32_5 : BitVec 32 := 0#32
  let c3_i32 : BitVec 32 := 3#32
  let c0_i32_6 : BitVec 32 := 0#32
  ![v19.toNat, c0_i32_5.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceModPeerIdeal.lean ====
abbrev S8192x2048 : Shape := ⟨2, ![8192, 2048]⟩
abbrev S4x2048 : Shape := ⟨2, ![4, 2048]⟩
abbrev S8x1x12288 : Shape := ⟨3, ![8, 1, 12288]⟩
abbrev S1x2048 : Shape := ⟨2, ![1, 2048]⟩
abbrev S2048 : Shape := ⟨1, ![2048]⟩
abbrev S8x1x2048 : Shape := ⟨3, ![8, 1, 2048]⟩
abbrev S_ : Shape := ⟨0, ![]⟩
abbrev S8192 : Shape := ⟨1, ![8192]⟩
abbrev S8192x1 : Shape := ⟨2, ![8192, 1]⟩
abbrev S4096x2048 : Shape := ⟨2, ![4096, 2048]⟩
abbrev S16x256x2048 : Shape := ⟨3, ![16, 256, 2048]⟩
abbrev S1x1x2048 : Shape := ⟨3, ![1, 1, 2048]⟩
abbrev S4x1024x2048 : Shape := ⟨3, ![4, 1024, 2048]⟩
abbrev S4x1x2048 : Shape := ⟨3, ![4, 1, 2048]⟩
abbrev S2048x8192 : Shape := ⟨2, ![2048, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8x1x12288, .f32⟩
  | .hbm, ⟨3, _⟩ => ⟨S1x2048, .f32⟩
  | .hbm, ⟨4, _⟩ => ⟨S2048, .f32⟩
  | .hbm, ⟨5, _⟩ => ⟨S8x1x2048, .f32⟩
  | .hbm, ⟨6, _⟩ => ⟨S8x1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S4096x2048, .f32⟩
  | .hbm, ⟨24, _⟩ => ⟨S16x256x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S16x256x2048, .f32⟩
  | .hbm, ⟨30, _⟩ => ⟨S16x256x2048, .f32⟩
  | .hbm, ⟨31, _⟩ => ⟨S1x1x2048, .f32⟩
  | .hbm, ⟨32, _⟩ => ⟨S16x256x2048, .f32⟩
  | .hbm, ⟨33, _⟩ => ⟨S16x256x2048, .f32⟩
  | .hbm, ⟨34, _⟩ => ⟨S4096x2048, .f32⟩
  | .hbm, ⟨35, _⟩ => ⟨S4x1024x2048, .f32⟩
  | .hbm, ⟨36, _⟩ => ⟨S4x1x2048, .f32⟩
  | .hbm, ⟨37, _⟩ => ⟨S_, .f32⟩
  | .hbm, ⟨38, _⟩ => ⟨S4x1x2048, .f32⟩
  | .hbm, ⟨39, _⟩ => ⟨S4x1x2048, .f32⟩
  | .hbm, ⟨40, _⟩ => ⟨S4x1024x2048, .f32⟩
  | .hbm, ⟨41, _⟩ => ⟨S4x1024x2048, .f32⟩
  | .hbm, ⟨42, _⟩ => ⟨S4x1x2048, .f32⟩
  | .hbm, ⟨43, _⟩ => ⟨S4x1024x2048, .f32⟩
  | .hbm, ⟨44, _⟩ => ⟨S4x1024x2048, .f32⟩
  | .hbm, ⟨45, _⟩ => ⟨S4096x2048, .f32⟩
  | .hbm, ⟨46, _⟩ => ⟨S4096x2048, .f32⟩
  | .hbm, ⟨47, _⟩ => ⟨S8192x2048, .f32⟩
  | .hbm, ⟨48, _⟩ => ⟨S8192x2048, .bf16⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S2048x8192, .f32⟩
  | .hbm, ⟨53, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== KernelModGates.lean ====
abbrev S8192x2048 : Shape := ⟨2, ![8192, 2048]⟩
abbrev S4x2048 : Shape := ⟨2, ![4, 2048]⟩
abbrev S8x1x12288 : Shape := ⟨3, ![8, 1, 12288]⟩
abbrev S4x2048x16432 : Shape := ⟨3, ![4, 2048, 16432]⟩
abbrev S4x16432 : Shape := ⟨2, ![4, 16432]⟩
abbrev S4x2048x1024 : Shape := ⟨3, ![4, 2048, 1024]⟩
abbrev S4x2048x512 : Shape := ⟨3, ![4, 2048, 512]⟩
abbrev S4x2048x2048 : Shape := ⟨3, ![4, 2048, 2048]⟩
abbrev S4x2048x16384 : Shape := ⟨3, ![4, 2048, 16384]⟩
abbrev S4x1024 : Shape := ⟨2, ![4, 1024]⟩
abbrev S4x512 : Shape := ⟨2, ![4, 512]⟩
abbrev S4x16384 : Shape := ⟨2, ![4, 16384]⟩
abbrev S4x2048x16 : Shape := ⟨3, ![4, 2048, 16]⟩
abbrev S4x2048x8 : Shape := ⟨3, ![4, 2048, 8]⟩
abbrev S4x2048x48 : Shape := ⟨3, ![4, 2048, 48]⟩
abbrev S4x16 : Shape := ⟨2, ![4, 16]⟩
abbrev S4x8 : Shape := ⟨2, ![4, 8]⟩
abbrev S4x48 : Shape := ⟨2, ![4, 48]⟩
abbrev S_ : Shape := ⟨0, ![]⟩
abbrev S4x2048x128 : Shape := ⟨3, ![4, 2048, 128]⟩
abbrev S4x128 : Shape := ⟨2, ![4, 128]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S8192x128 : Shape := ⟨2, ![8192, 128]⟩
abbrev S512x2048 : Shape := ⟨2, ![512, 2048]⟩
abbrev S1x1x2048 : Shape := ⟨3, ![1, 1, 2048]⟩
abbrev S1x2048x128 : Shape := ⟨3, ![1, 2048, 128]⟩
abbrev S512x128 : Shape := ⟨2, ![512, 128]⟩
abbrev S512 : Shape := ⟨1, ![512]⟩
abbrev S512x1 : Shape := ⟨2, ![512, 1]⟩
abbrev S2048x128 : Shape := ⟨2, ![2048, 128]⟩

abbrev nBuf : Space → Nat
  | .hbm => 77
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8x1x12288, .f32⟩
  | .hbm, ⟨3, _⟩ => ⟨S4x2048x16432, .f32⟩
  | .hbm, ⟨4, _⟩ => ⟨S4x16432, .f32⟩
  | .hbm, ⟨5, _⟩ => ⟨S4x2048x1024, .f32⟩
  | .hbm, ⟨6, _⟩ => ⟨S4x2048x1024, .bf16⟩
  | .hbm, ⟨7, _⟩ => ⟨S4x2048x1024, .f32⟩
  | .hbm, ⟨8, _⟩ => ⟨S4x2048x1024, .bf16⟩
  | .hbm, ⟨9, _⟩ => ⟨S4x2048x1024, .f32⟩
  | .hbm, ⟨10, _⟩ => ⟨S4x2048x1024, .bf16⟩
  | .hbm, ⟨11, _⟩ => ⟨S4x2048x512, .f32⟩
  | .hbm, ⟨12, _⟩ => ⟨S4x2048x512, .bf16⟩
  | .hbm, ⟨13, _⟩ => ⟨S4x2048x512, .f32⟩
  | .hbm, ⟨14, _⟩ => ⟨S4x2048x512, .bf16⟩
  | .hbm, ⟨15, _⟩ => ⟨S4x2048x1024, .f32⟩
  | .hbm, ⟨16, _⟩ => ⟨S4x2048x1024, .bf16⟩
  | .hbm, ⟨17, _⟩ => ⟨S4x2048x1024, .f32⟩
  | .hbm, ⟨18, _⟩ => ⟨S4x2048x1024, .bf16⟩
  | .hbm, ⟨19, _⟩ => ⟨S4x2048x1024, .f32⟩
  | .hbm, ⟨20, _⟩ => ⟨S4x2048x1024, .bf16⟩
  | .hbm, ⟨21, _⟩ => ⟨S4x2048x1024, .f32⟩
  | .hbm, ⟨22, _⟩ => ⟨S4x2048x1024, .bf16⟩
  | .hbm, ⟨23, _⟩ => ⟨S4x2048x1024, .f32⟩
  | .hbm, ⟨24, _⟩ => ⟨S4x2048x1024, .bf16⟩
  | .hbm, ⟨25, _⟩ => ⟨S4x2048x1024, .f32⟩
  | .hbm, ⟨26, _⟩ => ⟨S4x2048x1024, .bf16⟩
  | .hbm, ⟨27, _⟩ => ⟨S4x2048x2048, .f32⟩
  | .hbm, ⟨28, _⟩ => ⟨S4x2048x2048, .bf16⟩
  | .hbm, ⟨29, _⟩ => ⟨S4x2048x2048, .f32⟩
  | .hbm, ⟨30, _⟩ => ⟨S4x2048x2048, .bf16⟩
  | .hbm, ⟨31, _⟩ => ⟨S4x2048x2048, .f32⟩
  | .hbm, ⟨32, _⟩ => ⟨S4x2048x2048, .bf16⟩
  | .hbm, ⟨33, _⟩ => ⟨S4x2048x16384, .bf16⟩
  | .hbm, ⟨34, _⟩ => ⟨S4x1024, .f32⟩
  | .hbm, ⟨35, _⟩ => ⟨S4x1024, .f32⟩
  | .hbm, ⟨36, _⟩ => ⟨S4x1024, .f32⟩
  | .hbm, ⟨37, _⟩ => ⟨S4x512, .f32⟩
  | .hbm, ⟨38, _⟩ => ⟨S4x512, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S4x1024, .f32⟩
  | .hbm, ⟨45, _⟩ => ⟨S4x2048, .f32⟩
  | .hbm, ⟨46, _⟩ => ⟨S4x2048, .f32⟩
  | .hbm, ⟨47, _⟩ => ⟨S4x2048, .f32⟩
  | .hbm, ⟨48, _⟩ => ⟨S4x16384, .f32⟩
  | .hbm, ⟨49, _⟩ => ⟨S4x2048x16, .f32⟩
  | .hbm, ⟨50, _⟩ => ⟨S4x2048x16, .f32⟩
  | .hbm, ⟨51, _⟩ => ⟨S4x2048x8, .f32⟩
  | .hbm, ⟨52, _⟩ => ⟨S4x2048x8, .f32⟩
  | .hbm, ⟨53, _⟩ => ⟨S4x2048x48, .f32⟩
  | .hbm, ⟨54, _⟩ => ⟨S4x16, .f32⟩
  | .hbm, ⟨55, _⟩ => ⟨S4x16, .f32⟩
  | .hbm, ⟨56, _⟩ => ⟨S4x8, .f32⟩
  | .hbm, ⟨57, _⟩ => ⟨S4x8, .f32⟩
  | .hbm, ⟨58, _⟩ => ⟨S4x48, .f32⟩
  | .hbm, ⟨59, _⟩ => ⟨S_, .i32⟩
  | .hbm, ⟨60, _⟩ => ⟨S_, .f32⟩
  | .hbm, ⟨61, _⟩ => ⟨S4x2048x128, .f32⟩
  | .hbm, ⟨62, _⟩ => ⟨S_, .i32⟩
  | .hbm, ⟨63, _⟩ => ⟨S_, .f32⟩
  | .hbm, ⟨64, _⟩ => ⟨S4x128, .f32⟩
  | .hbm, ⟨65, _⟩ => ⟨S4x2048x128, .bf16⟩
  | .hbm, ⟨66, _⟩ => ⟨S4x2048x128, .f32⟩
  | .hbm, ⟨67, _⟩ => ⟨S4x2048x128, .f32⟩
  | .hbm, ⟨68, _⟩ => ⟨S4x2048x128, .bf16⟩
  | .hbm, ⟨69, _⟩ => ⟨S1x2048, .f32⟩
  | .hbm, ⟨70, _⟩ => ⟨S2048, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S1x2048, .f32⟩
  | .hbm, ⟨75, _⟩ => ⟨S8192x2048, .bf16⟩
  | .hbm, ⟨76, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x128, .bf16⟩
  | .local _ .vmem, ⟨8, _⟩ => ⟨S1x2048x128, .bf16⟩
  | .local _ .vmem, ⟨9, _⟩ => ⟨S1x128, .f32⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_c : Ref sig .tc := ⟨.hbm, 59, rfl⟩
abbrev main_call0_v0 : Ref sig .tc := ⟨.hbm, 60, rfl⟩
abbrev main_v54 : Ref sig .tc := ⟨.hbm, 61, rfl⟩
abbrev main_c_0 : Ref sig .tc := ⟨.hbm, 62, rfl⟩
abbrev main_call1_v0 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66_0 : Ref sig .tc := ⟨.hbm, 75, rfl⟩
abbrev main_v66_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c0_i32_5 : BitVec 32 := 0#32
  let c1_i32_6 : BitVec 32 := 1#32
  let c0_i32_7 : BitVec 32 := 0#32
  ![v19.toNat, c0_i32_5.toNat, c1_i32_6.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceModGatesIdeal.lean ====
abbrev S8192x2048 : Shape := ⟨2, ![8192, 2048]⟩
abbrev S4x2048 : Shape := ⟨2, ![4, 2048]⟩
abbrev S8x1x12288 : Shape := ⟨3, ![8, 1, 12288]⟩
abbrev S4x2048x16432 : Shape := ⟨3, ![4, 2048, 16432]⟩
abbrev S4x16432 : Shape := ⟨2, ![4, 16432]⟩
abbrev S1x2048 : Shape := ⟨2, ![1, 2048]⟩
abbrev S2048 : Shape := ⟨1, ![2048]⟩
abbrev S8x1x2048 : Shape := ⟨3, ![8, 1, 2048]⟩
abbrev S_ : Shape := ⟨0, ![]⟩
abbrev S8192 : Shape := ⟨1, ![8192]⟩
abbrev S8192x1 : Shape := ⟨2, ![8192, 1]⟩
abbrev S4096x2048 : Shape := ⟨2, ![4096, 2048]⟩
abbrev S16x256x2048 : Shape := ⟨3, ![16, 256, 2048]⟩
abbrev S1x1x2048 : Shape := ⟨3, ![1, 1, 2048]⟩
abbrev S4x1024x2048 : Shape := ⟨3, ![4, 1024, 2048]⟩
abbrev S4x1x2048 : Shape := ⟨3, ![4, 1, 2048]⟩
abbrev S1x2048x16432 : Shape := ⟨3, ![1, 2048, 16432]⟩
abbrev S2048x16432 : Shape := ⟨2, ![2048, 16432]⟩
abbrev S8192x16432 : Shape := ⟨2, ![8192, 16432]⟩
abbrev S1x16432 : Shape := ⟨2, ![1, 16432]⟩
abbrev S16432 : Shape := ⟨1, ![16432]⟩
abbrev S8192x1024 : Shape := ⟨2, ![8192, 1024]⟩
abbrev S8192x512 : Shape := ⟨2, ![8192, 512]⟩
abbrev S8192x16 : Shape := ⟨2, ![8192, 16]⟩
abbrev S8192x8 : Shape := ⟨2, ![8192, 8]⟩
abbrev S8192x80 : Shape := ⟨2, ![8192, 80]⟩
abbrev S8192x128 : Shape := ⟨2, ![8192, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8x1x12288, .f32⟩
  | .hbm, ⟨3, _⟩ => ⟨S4x2048x16432, .f32⟩
  | .hbm, ⟨4, _⟩ => ⟨S4x16432, .f32⟩
  | .hbm, ⟨5, _⟩ => ⟨S1x2048, .f32⟩
  | .hbm, ⟨6, _⟩ => ⟨S2048, .f32⟩
  | .hbm, ⟨7, _⟩ => ⟨S8x1x2048, .f32⟩
  | .hbm, ⟨8, _⟩ => ⟨S8x1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S4096x2048, .f32⟩
  | .hbm, ⟨26, _⟩ => ⟨S16x256x2048, .f32⟩
  | .hbm, ⟨27, _⟩ => ⟨S1x1x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S16x256x2048, .f32⟩
  | .hbm, ⟨32, _⟩ => ⟨S16x256x2048, .f32⟩
  | .hbm, ⟨33, _⟩ => ⟨S1x1x2048, .f32⟩
  | .hbm, ⟨34, _⟩ => ⟨S16x256x2048, .f32⟩
  | .hbm, ⟨35, _⟩ => ⟨S16x256x2048, .f32⟩
  | .hbm, ⟨36, _⟩ => ⟨S4096x2048, .f32⟩
  | .hbm, ⟨37, _⟩ => ⟨S4x1024x2048, .f32⟩
  | .hbm, ⟨38, _⟩ => ⟨S4x1x2048, .f32⟩
  | .hbm, ⟨39, _⟩ => ⟨S_, .f32⟩
  | .hbm, ⟨40, _⟩ => ⟨S4x1x2048, .f32⟩
  | .hbm, ⟨41, _⟩ => ⟨S4x1x2048, .f32⟩
  | .hbm, ⟨42, _⟩ => ⟨S4x1024x2048, .f32⟩
  | .hbm, ⟨43, _⟩ => ⟨S4x1024x2048, .f32⟩
  | .hbm, ⟨44, _⟩ => ⟨S4x1x2048, .f32⟩
  | .hbm, ⟨45, _⟩ => ⟨S4x1024x2048, .f32⟩
  | .hbm, ⟨46, _⟩ => ⟨S4x1024x2048, .f32⟩
  | .hbm, ⟨47, _⟩ => ⟨S4096x2048, .f32⟩
  | .hbm, ⟨48, _⟩ => ⟨S4096x2048, .f32⟩
  | .hbm, ⟨49, _⟩ => ⟨S8192x2048, .f32⟩
  | .hbm, ⟨50, _⟩ => ⟨S1x2048x16432, .f32⟩
  | .hbm, ⟨51, _⟩ => ⟨S2048x16432, .f32⟩
  | .hbm, ⟨52, _⟩ => ⟨S8192x16432, .f32⟩
  | .hbm, ⟨53, _⟩ => ⟨S1x16432, .f32⟩
  | .hbm, ⟨54, _⟩ => ⟨S16432, .f32⟩
  | .hbm, ⟨55, _⟩ => ⟨S1x16432, .f32⟩
  | .hbm, ⟨56, _⟩ => ⟨S8192x16432, .f32⟩
  | .hbm, ⟨57, _⟩ => ⟨S8192x16432, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x512, .f32⟩
  | .hbm, ⟨62, _⟩ => ⟨S8192x512, .f32⟩
  | .hbm, ⟨63, _⟩ => ⟨S8192x1024, .f32⟩
  | .hbm, ⟨64, _⟩ => ⟨S8192x1024, .f32⟩
  | .hbm, ⟨65, _⟩ => ⟨S8192x16, .f32⟩
  | .hbm, ⟨66, _⟩ => ⟨S8192x16, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x8, .f32⟩
  | .hbm, ⟨72, _⟩ => ⟨S8192x8, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .bf16⟩
  | .hbm, ⟨77, _⟩ => ⟨S_, .f32⟩
  | .hbm, ⟨78, _⟩ => ⟨S8192x80, .f32⟩
  | .hbm, ⟨79, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩

abbrev nD : Nat := 1
abbrev τ : Topo := Topo.v7x

variable {F : FTy → Type} [FloatOps F]
-- ==== KernelTable.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceTableIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 76
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x12288, .f32⟩
  | .hbm, ⟨30, _⟩ => ⟨S2048x12288, .f32⟩
  | .hbm, ⟨31, _⟩ => ⟨S8x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S8x12288, .f32⟩
  | .hbm, ⟨36, _⟩ => ⟨S8x12288, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S1x2048x12288, .f32⟩
  | .hbm, ⟨47, _⟩ => ⟨S2048x12288, .f32⟩
  | .hbm, ⟨48, _⟩ => ⟨S8x12288, .f32⟩
  | .hbm, ⟨49, _⟩ => ⟨S1x12288, .f32⟩
  | .hbm, ⟨50, _⟩ => ⟨S12288, .f32⟩
  | .hbm, ⟨51, _⟩ => ⟨S1x12288, .f32⟩
  | .hbm, ⟨52, _⟩ => ⟨S8x12288, .f32⟩
  | .hbm, ⟨53, _⟩ => ⟨S8x12288, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S1x2048x12288, .f32⟩
  | .hbm, ⟨64, _⟩ => ⟨S2048x12288, .f32⟩
  | .hbm, ⟨65, _⟩ => ⟨S8x12288, .f32⟩
  | .hbm, ⟨66, _⟩ => ⟨S1x12288, .f32⟩
  | .hbm, ⟨67, _⟩ => ⟨S12288, .f32⟩
  | .hbm, ⟨68, _⟩ => ⟨S1x12288, .f32⟩
  | .hbm, ⟨69, _⟩ => ⟨S8x12288, .f32⟩
  | .hbm, ⟨70, _⟩ => ⟨S8x12288, .f32⟩
  | .hbm, ⟨71, _⟩ => ⟨S1x8x12288, .f32⟩
  | .hbm, ⟨72, _⟩ => ⟨S1x8x12288, .f32⟩
  | .hbm, ⟨73, _⟩ => ⟨S1x8x12288, .f32⟩
  | .hbm, ⟨74, _⟩ => ⟨S1x8x12288, .f32⟩
  | .hbm, ⟨75, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== KernelSpectrum.lean ====
abbrev S1024x33 : Shape := ⟨2, ![1024, 33]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1024x2048 : Shape := ⟨2, ![1024, 2048]⟩
abbrev S1024x31 : Shape := ⟨2, ![1024, 31]⟩
abbrev S1024x64 : Shape := ⟨2, ![1024, 64]⟩
abbrev S1x64 : Shape := ⟨2, ![1, 64]⟩
abbrev S2x1024x1024 : Shape := ⟨3, ![2, 1024, 1024]⟩
abbrev S64x256 : Shape := ⟨2, ![64, 256]⟩
abbrev S1x256 : Shape := ⟨2, ![1, 256]⟩
abbrev S1x1024x256 : Shape := ⟨3, ![1, 1024, 256]⟩
abbrev S1024x256 : Shape := ⟨2, ![1024, 256]⟩
abbrev S256 : Shape := ⟨1, ![256]⟩

abbrev nBuf : Space → Nat
  | .hbm => 141
  | .vmem => 22
  | .smem => 0
  | _ => 0

abbrev hbmTy0_0 (i : Nat) : BufTy := match i % 128 with
  | 0 => ⟨S1024x33, .f32⟩
  | 1 => ⟨S1024, .f32⟩
  | 2 => ⟨S1024, .f32⟩
  | 3 => ⟨S33x64, .f32⟩
  | 4 => ⟨S64, .f32⟩
  | 5 => ⟨S64x64, .f32⟩
  | 6 => ⟨S64, .f32⟩
  | 7 => ⟨S64x4096, .f32⟩
  | 8 => ⟨S2x64, .f32⟩
  | 9 => ⟨S1024, .i32⟩
  | 10 => ⟨S1024x1, .i32⟩
  | 11 => ⟨S1x1024, .i32⟩
  | 12 => ⟨S1024x1024, .i32⟩
  | 13 => ⟨S1024x1024, .i32⟩
  | 14 => ⟨S1024x1024, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S1024x1024, .i32⟩
  | 22 => ⟨S1024x1024, .i32⟩
  | 23 => ⟨S_, .i32⟩
  | 24 => ⟨S1024x1024, .i32⟩
  | 25 => ⟨S1024x1024, .i1⟩
  | 26 => ⟨S_, .i32⟩
  | 27 => ⟨S1024x1024, .i32⟩
  | 28 => ⟨S1024x1024, .i1⟩
  | 29 => ⟨S_, .i32⟩
  | 30 => ⟨S_, .i1⟩
  | 31 => ⟨S1024x1024, .i1⟩
  | 32 => ⟨S1024x1024, .i1⟩
  | 33 => ⟨S1024x1024, .i1⟩
  | 34 => ⟨S1024x1024, .i32⟩
  | 35 => ⟨S1024x1024, .i32⟩
  | 36 => ⟨S1024x1024, .i32⟩
  | 37 => ⟨S1024x1024, .f32⟩
  | 38 => ⟨S_, .f32⟩
  | 39 => ⟨S_, .f32⟩
  | 40 => ⟨S_, .f32⟩
  | 41 => ⟨S_, .f32⟩
  | 42 => ⟨S_, .f32⟩
  | 43 => ⟨S1024x1024, .f32⟩
  | 44 => ⟨S1024x1024, .f32⟩
  | 45 => ⟨S1024x1024, .f32⟩
  | 46 => ⟨S1024x1024, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i1⟩
  | 61 => ⟨S_, .i32⟩
  | 62 => ⟨S_, .i1⟩
  | 63 => ⟨S1024, .i1⟩
  | 64 => ⟨S1024, .i1⟩
  | 65 => ⟨S1024, .i1⟩
  | 66 => ⟨S1024, .i32⟩
  | 67 => ⟨S1024, .i32⟩
  | 68 => ⟨S1024, .i32⟩
  | 69 => ⟨S_, .i32⟩
  | 70 => ⟨S1024, .i32⟩
  | 71 => ⟨S1024, .i1⟩
  | 72 => ⟨S_, .f32⟩
  | 73 => ⟨S_, .f32⟩
  | 74 => ⟨S1024, .f32⟩
  | 75 => ⟨S1024, .f32⟩
  | 76 => ⟨S1024, .f32⟩
  | 77 => ⟨S1024, .f32⟩
  | 78 => ⟨S1024x1, .i32⟩
  | 79 => ⟨S_, .i32⟩
  | 80 => ⟨S1024x1, .i32⟩
  | 81 => ⟨S1024x1, .i1⟩
  | 82 => ⟨S1x1024, .f32⟩
  | 83 => ⟨S1024x1024, .f32⟩
  | 84 => ⟨S1024x1024, .i1⟩
  | 85 => ⟨S1024x1024, .f32⟩
  | 86 => ⟨S1024x1024, .f32⟩
  | 87 => ⟨S_, .i32⟩
  | 88 => ⟨S1024, .i32⟩
  | 89 => ⟨S1024, .i1⟩
  | 90 => ⟨S_, .f32⟩
  | 91 => ⟨S_, .f32⟩
  | 92 => ⟨S1024, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S1024x1024, .f32⟩
  | 100 => ⟨S1x1024, .f32⟩
  | 101 => ⟨S1024x1024, .f32⟩
  | 102 => ⟨S1024x1024, .f32⟩
  | 103 => ⟨S1x1024, .i32⟩
  | 104 => ⟨S_, .i32⟩
  | 105 => ⟨S1x1024, .i32⟩
  | 106 => ⟨S1x1024, .i1⟩
  | 107 => ⟨S1024x1, .f32⟩
  | 108 => ⟨S_, .f32⟩
  | 109 => ⟨S1024x1, .f32⟩
  | 110 => ⟨S1024x1, .f32⟩
  | 111 => ⟨S1024x1024, .f32⟩
  | 112 => ⟨S1024x1024, .f32⟩
  | 113 => ⟨S_, .f32⟩
  | 114 => ⟨S1024x1024, .f32⟩
  | 115 => ⟨S1024x1024, .f32⟩
  | 116 => ⟨S1024x1024, .i1⟩
  | 117 => ⟨S1024x1024, .f32⟩
  | 118 => ⟨S1024x1024, .f32⟩
  | 119 => ⟨S1024x2048, .f32⟩
  | 120 => ⟨S1024x1024, .bf16⟩
  | 121 => ⟨S1024x1024, .f32⟩
  | 122 => ⟨S1024x1024, .f32⟩
  | 123 => ⟨S1024x1024, .bf16⟩
  | 124 => ⟨S1024x1024, .bf16⟩
  | 125 => ⟨S1024x1024, .f32⟩
  | 126 => ⟨S1024x1024, .f32⟩
  | 127 => ⟨S1024x1024, .bf16⟩
  | _ => ⟨S1024x33, .f32⟩

abbrev hbmTy0_1 (i : Nat) : BufTy := match i % 128 with
  | 0 => ⟨S_, .f32⟩
  | 1 => ⟨S1024x31, .f32⟩
  | 2 => ⟨S1024x64, .f32⟩
  | 3 => ⟨S_, .i32⟩
  | 4 => ⟨S_, .f32⟩
  | 5 => ⟨S64x64, .f32⟩
  | 6 => ⟨S1x1024, .f32⟩
  | 7 => ⟨S1x64, .f32⟩
  | 8 => ⟨S1x64, .f32⟩
  | 9 => ⟨S1024x1, .f32⟩
  | 10 => ⟨S1024x1, .f32⟩
  | 11 => ⟨S2x1024x1024, .f32⟩
  | 12 => ⟨S2x1024x1024, .f32⟩
  | _ => ⟨S1024x33, .f32⟩

abbrev hbmTy (i : Nat) : BufTy := match i / 128 with
  | 0 => hbmTy0_0 i
  | 1 => hbmTy0_1 i
  | _ => ⟨S1024x33, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S2x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S1024x1, .f32⟩
  | .local _ .vmem, ⟨11, _⟩ => ⟨S1x256, .f32⟩
  | .local _ .vmem, ⟨12, _⟩ => ⟨S1x256, .f32⟩
  | .local _ .vmem, ⟨13, _⟩ => ⟨S1024x1, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | _, _ => ⟨S1024x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v14 : Ref sig .tc := ⟨.hbm, 68, rfl⟩
abbrev main_c_3 : Ref sig .tc := ⟨.hbm, 69, rfl⟩
abbrev main_v15 : Ref sig .tc := ⟨.hbm, 70, rfl⟩
abbrev main_v16 : Ref sig .tc := ⟨.hbm, 71, rfl⟩
abbrev main_cst_4 : Ref sig .tc := ⟨.hbm, 72, rfl⟩
abbrev main_cst_5 : Ref sig .tc := ⟨.hbm, 73, rfl⟩
abbrev main_call2_v0 : Ref sig .tc := ⟨.hbm, 74, rfl⟩
abbrev main_call2_v1 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_c_6 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call3_v0 : Ref sig .tc := ⟨.hbm, 84, rfl⟩
abbrev main_call3_v1 : Ref sig .tc := ⟨.hbm, 85, rfl⟩
abbrev main_v24 : Ref sig .tc := ⟨.hbm, 86, rfl⟩
abbrev main_c_7 : Ref sig .tc := ⟨.hbm, 87, rfl⟩
abbrev main_v25 : Ref sig .tc := ⟨.hbm, 88, rfl⟩
abbrev main_v26 : Ref sig .tc := ⟨.hbm, 89, rfl⟩
abbrev main_cst_8 : Ref sig .tc := ⟨.hbm, 90, rfl⟩
abbrev main_cst_9 : Ref sig .tc := ⟨.hbm, 91, rfl⟩
abbrev main_call4_v0 : Ref sig .tc := ⟨.hbm, 92, rfl⟩
abbrev main_call4_v1 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_11 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_12 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_13 : Ref sig .tc := ⟨.hbm, 113, rfl⟩
abbrev main_v43 : Ref sig .tc := ⟨.hbm, 114, rfl⟩
abbrev main_v44 : Ref sig .tc := ⟨.hbm, 115, rfl⟩
abbrev main_call5_v0 : Ref sig .tc := ⟨.hbm, 116, rfl⟩
abbrev main_call5_v1 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_cst_14 : Ref sig .tc := ⟨.hbm, 128, rfl⟩
abbrev main_v55 : Ref sig .tc := ⟨.hbm, 129, rfl⟩
abbrev main_v56 : Ref sig .tc := ⟨.hbm, 130, rfl⟩
abbrev main_c_15 : Ref sig .tc := ⟨.hbm, 131, rfl⟩
abbrev main_call6_v0 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63_0 : Ref sig .tc := ⟨.hbm, 139, rfl⟩
abbrev main_v63_1 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let c4_i32_0 : BitVec 32 := 4#32
  let v2 : BitVec 32 := Scalar.addi v1 c4_i32_0
  let v3 : BitVec 32 := Scalar.addi v2 arg1
  let c0_i32 : BitVec 32 := 0#32
  let c0_i32_1 : BitVec 32 := 0#32
  ![c0_i32.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceSpectrumIdeal.lean ====
abbrev S1024x33 : Shape := ⟨2, ![1024, 33]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S1x64 : Shape := ⟨2, ![1, 64]⟩
abbrev S1024x64 : Shape := ⟨2, ![1024, 64]⟩
abbrev S1024x4096 : Shape := ⟨2, ![1024, 4096]⟩
abbrev S1024x2x2x1024 : Shape := ⟨4, ![1024, 2, 2, 1024]⟩
abbrev S1024x1 : Shape := ⟨2, ![1024, 1]⟩
abbrev S1x1024 : Shape := ⟨2, ![1, 1024]⟩
abbrev S1024x1024 : Shape := ⟨2, ![1024, 1024]⟩
abbrev S1024x1x1x1024 : Shape := ⟨4, ![1024, 1, 1, 1024]⟩
abbrev S1024x2x1x1024 : Shape := ⟨4, ![1024, 2, 1, 1024]⟩
abbrev S1024x2x1024 : Shape := ⟨3, ![1024, 2, 1024]⟩
abbrev S_ : Shape := ⟨0, ![]⟩
abbrev S1x2x1024 : Shape := ⟨3, ![1, 2, 1024]⟩
abbrev S1023x2x1024 : Shape := ⟨3, ![1023, 2, 1024]⟩
abbrev S2048x2x1024 : Shape := ⟨3, ![2048, 2, 1024]⟩
abbrev S1025 : Shape := ⟨1, ![1025]⟩
abbrev S2048 : Shape := ⟨1, ![2048]⟩
abbrev S1025x1 : Shape := ⟨2, ![1025, 1]⟩
abbrev S1x2048 : Shape := ⟨2, ![1, 2048]⟩
abbrev S1025x2048 : Shape := ⟨2, ![1025, 2048]⟩
abbrev S1025x2x1024 : Shape := ⟨3, ![1025, 2, 1024]⟩
abbrev S2x1024x1024 : Shape := ⟨3, ![2, 1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1024x33, .f32⟩
  | .hbm, ⟨1, _⟩ => ⟨S1024, .f32⟩
  | .hbm, ⟨2, _⟩ => ⟨S1024, .f32⟩
  | .hbm, ⟨3, _⟩ => ⟨S33x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4096, .f32⟩
  | .hbm, ⟨8, _⟩ => ⟨S2x64, .f32⟩
  | .hbm, ⟨9, _⟩ => ⟨S1x64, .f32⟩
  | .hbm, ⟨10, _⟩ => ⟨S64, .f32⟩
  | .hbm, ⟨11, _⟩ => ⟨S1024x64, .f32⟩
  | .hbm, ⟨12, _⟩ => ⟨S1x64, .f32⟩
  | .hbm, ⟨13, _⟩ => ⟨S1024x64, .f32⟩
  | .hbm, ⟨14, _⟩ => ⟨S1024x64, .f32⟩
  | .hbm, ⟨15, _⟩ => ⟨S1x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1x64, .f32⟩
  | .hbm, ⟨20, _⟩ => ⟨S64, .f32⟩
  | .hbm, ⟨21, _⟩ => ⟨S1024x64, .f32⟩
  | .hbm, ⟨22, _⟩ => ⟨S1x64, .f32⟩
  | .hbm, ⟨23, _⟩ => ⟨S1024x64, .f32⟩
  | .hbm, ⟨24, _⟩ => ⟨S1024x64, .f32⟩
  | .hbm, ⟨25, _⟩ => ⟨S1x64, .f32⟩
  | .hbm, ⟨26, _⟩ => ⟨S1024x64, .f32⟩
  | .hbm, ⟨27, _⟩ => ⟨S1024x64, .f32⟩
  | .hbm, ⟨28, _⟩ => ⟨S1024x64, .f32⟩
  | .hbm, ⟨29, _⟩ => ⟨S1024x4096, .f32⟩
  | .hbm, ⟨30, _⟩ => ⟨S1024x2x2x1024, .f32⟩
  | .hbm, ⟨31, _⟩ => ⟨S1024x1, .f32⟩
  | .hbm, ⟨32, _⟩ => ⟨S1024x1, .f32⟩
  | .hbm, ⟨33, _⟩ => ⟨S1x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1x1x1024, .f32⟩
  | .hbm, ⟨39, _⟩ => ⟨S1024x2x2x1024, .f32⟩
  | .hbm, ⟨40, _⟩ => ⟨S1024x2x2x1024, .f32⟩
  | .hbm, ⟨41, _⟩ => ⟨S1024x2x1x1024, .f32⟩
  | .hbm, ⟨42, _⟩ => ⟨S1024x2x1024, .f32⟩
  | .hbm, ⟨43, _⟩ => ⟨S1024x2x1x1024, .f32⟩
  | .hbm, ⟨44, _⟩ => ⟨S1024x2x1024, .f32⟩
  | .hbm, ⟨45, _⟩ => ⟨S_, .f32⟩
  | .hbm, ⟨46, _⟩ => ⟨S1x2x1024, .f32⟩
  | .hbm, ⟨47, _⟩ => ⟨S1023x2x1024, .f32⟩
  | .hbm, ⟨48, _⟩ => ⟨S1023x2x1024, .f32⟩
  | .hbm, ⟨49, _⟩ => ⟨S2048x2x1024, .f32⟩
  | .hbm, ⟨50, _⟩ => ⟨S1025, .i32⟩
  | .hbm, ⟨51, _⟩ => ⟨S2048, .i32⟩
  | .hbm, ⟨52, _⟩ => ⟨S1025x1, .i32⟩
  | .hbm, ⟨53, _⟩ => ⟨S1x2048, .i32⟩
  | .hbm, ⟨54, _⟩ => ⟨S1025x2048, .i32⟩
  | .hbm, ⟨55, _⟩ => ⟨S1025x2048, .i32⟩
  | .hbm, ⟨56, _⟩ => ⟨S1025x2048, .i32⟩
  | .hbm, ⟨57, _⟩ => ⟨S1025x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1025x2048, .f32⟩
  | .hbm, ⟨64, _⟩ => ⟨S1025x2048, .f32⟩
  | .hbm, ⟨65, _⟩ => ⟨S1025x2048, .f32⟩
  | .hbm, ⟨66, _⟩ => ⟨S1025x2x1024, .f32⟩
  | .hbm, ⟨67, _⟩ => ⟨S1025x2048, .f32⟩
  | .hbm, ⟨68, _⟩ => ⟨S1025x2048, .f32⟩
  | .hbm, ⟨69, _⟩ => ⟨S1025x2x1024, .f32⟩
  | .hbm, ⟨70, _⟩ => ⟨S1x2x1024, .f32⟩
  | .hbm, ⟨71, _⟩ => ⟨S1023x2x1024, .f32⟩
  | .hbm, ⟨72, _⟩ => ⟨S1024x2x1024, .f32⟩
  | .hbm, ⟨73, _⟩ => ⟨S1024x2x1024, .f32⟩
  | .hbm, ⟨74, _⟩ => ⟨S2x1024x1024, .f32⟩
  | .hbm, ⟨75, _⟩ => ⟨S2x1024x1024, .f32⟩
  | _, _ => ⟨S1024x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_0 : Ref sig .tc := ⟨.hbm, 58, rfl⟩
abbrev main_cst_1 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== KernelChunks.lean ====
abbrev S4x16384x2048 : Shape := ⟨3, ![4, 16384, 2048]⟩
abbrev S4x16x2048x1024 : Shape := ⟨4, ![4, 16, 2048, 1024]⟩
abbrev S1x1024x2048 : Shape := ⟨3, ![1, 1024, 2048]⟩
abbrev S1x1x2048x1024 : Shape := ⟨4, ![1, 1, 2048, 1024]⟩
abbrev S1024x2048 : Shape := ⟨2, ![1024, 2048]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x16384x2048, .f32⟩
  | .hbm, ⟨1, _⟩ => ⟨S4x16x2048x1024, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048x1024, .bf16⟩
  | .local _ .vmem, ⟨3, _⟩ => ⟨S1x1x2048x1024, .bf16⟩
  | _, _ => ⟨S4x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceChunksIdeal.lean ====
abbrev S4x16384x2048 : Shape := ⟨3, ![4, 16384, 2048]⟩
abbrev S4x16x1024x2048 : Shape := ⟨4, ![4, 16, 1024, 2048]⟩
abbrev S4x16x2048x1024 : Shape := ⟨4, ![4, 16, 2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x16384x2048, .f32⟩
  | .hbm, ⟨1, _⟩ => ⟨S4x16x1024x2048, .f32⟩
  | .hbm, ⟨2, _⟩ => ⟨S4x16x2048x1024, .f32⟩
  | .hbm, ⟨3, _⟩ => ⟨S4x16x2048x1024, .bf16⟩
  | _, _ => ⟨S4x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== KernelFilterP.lean ====
abbrev S256x33 : Shape := ⟨2, ![256, 33]⟩
abbrev S256 : Shape := ⟨1, ![256]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S256x31 : Shape := ⟨2, ![256, 31]⟩
abbrev S256x64 : Shape := ⟨2, ![256, 64]⟩
abbrev S1x1024 : Shape := ⟨2, ![1, 1024]⟩
abbrev S1x64 : Shape := ⟨2, ![1, 64]⟩
abbrev S2x256x1024 : Shape := ⟨3, ![2, 256, 1024]⟩
abbrev S64x256 : Shape := ⟨2, ![64, 256]⟩
abbrev S1x256x256 : Shape := ⟨3, ![1, 256, 256]⟩

abbrev nBuf : Space → Nat
  | .hbm => 141
  | .vmem => 22
  | .smem => 0
  | _ => 0

abbrev hbmTy0_0 (i : Nat) : BufTy := match i % 128 with
  | 0 => ⟨S256x33, .f32⟩
  | 1 => ⟨S256, .f32⟩
  | 2 => ⟨S1024, .f32⟩
  | 3 => ⟨S33x64, .f32⟩
  | 4 => ⟨S64, .f32⟩
  | 5 => ⟨S64x64, .f32⟩
  | 6 => ⟨S64, .f32⟩
  | 7 => ⟨S64x4096, .f32⟩
  | 8 => ⟨S2x64, .f32⟩
  | 9 => ⟨S256, .i32⟩
  | 10 => ⟨S256x1, .i32⟩
  | 11 => ⟨S1x256, .i32⟩
  | 12 => ⟨S256x256, .i32⟩
  | 13 => ⟨S256x256, .i32⟩
  | 14 => ⟨S256x256, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S256x256, .i32⟩
  | 22 => ⟨S256x256, .i32⟩
  | 23 => ⟨S_, .i32⟩
  | 24 => ⟨S256x256, .i32⟩
  | 25 => ⟨S256x256, .i1⟩
  | 26 => ⟨S_, .i32⟩
  | 27 => ⟨S256x256, .i32⟩
  | 28 => ⟨S256x256, .i1⟩
  | 29 => ⟨S_, .i32⟩
  | 30 => ⟨S_, .i1⟩
  | 31 => ⟨S256x256, .i1⟩
  | 32 => ⟨S256x256, .i1⟩
  | 33 => ⟨S256x256, .i1⟩
  | 34 => ⟨S256x256, .i32⟩
  | 35 => ⟨S256x256, .i32⟩
  | 36 => ⟨S256x256, .i32⟩
  | 37 => ⟨S256x256, .f32⟩
  | 38 => ⟨S_, .f32⟩
  | 39 => ⟨S_, .f32⟩
  | 40 => ⟨S_, .f32⟩
  | 41 => ⟨S_, .f32⟩
  | 42 => ⟨S_, .f32⟩
  | 43 => ⟨S256x256, .f32⟩
  | 44 => ⟨S256x256, .f32⟩
  | 45 => ⟨S256x256, .f32⟩
  | 46 => ⟨S256x256, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S256, .i32⟩
  | 54 => ⟨S256, .i32⟩
  | 55 => ⟨S_, .i32⟩
  | 56 => ⟨S256, .i32⟩
  | 57 => ⟨S256, .i1⟩
  | 58 => ⟨S_, .i32⟩
  | 59 => ⟨S256, .i32⟩
  | 60 => ⟨S256, .i1⟩
  | 61 => ⟨S_, .i32⟩
  | 62 => ⟨S_, .i1⟩
  | 63 => ⟨S256, .i1⟩
  | 64 => ⟨S256, .i1⟩
  | 65 => ⟨S256, .i1⟩
  | 66 => ⟨S256, .i32⟩
  | 67 => ⟨S256, .i32⟩
  | 68 => ⟨S256, .i32⟩
  | 69 => ⟨S_, .i32⟩
  | 70 => ⟨S256, .i32⟩
  | 71 => ⟨S256, .i1⟩
  | 72 => ⟨S_, .f32⟩
  | 73 => ⟨S_, .f32⟩
  | 74 => ⟨S256, .f32⟩
  | 75 => ⟨S256, .f32⟩
  | 76 => ⟨S256, .f32⟩
  | 77 => ⟨S256, .f32⟩
  | 78 => ⟨S256x1, .i32⟩
  | 79 => ⟨S_, .i32⟩
  | 80 => ⟨S256x1, .i32⟩
  | 81 => ⟨S256x1, .i1⟩
  | 82 => ⟨S1x256, .f32⟩
  | 83 => ⟨S256x256, .f32⟩
  | 84 => ⟨S256x256, .i1⟩
  | 85 => ⟨S256x256, .f32⟩
  | 86 => ⟨S256x256, .f32⟩
  | 87 => ⟨S_, .i32⟩
  | 88 => ⟨S256, .i32⟩
  | 89 => ⟨S256, .i1⟩
  | 90 => ⟨S_, .f32⟩
  | 91 => ⟨S_, .f32⟩
  | 92 => ⟨S256, .f32⟩
  | 93 => ⟨S256, .f32⟩
  | 94 => ⟨S256, .f32⟩
  | 95 => ⟨S256, .f32⟩
  | 96 => ⟨S_, .f32⟩
  | 97 => ⟨S256, .f32⟩
  | 98 => ⟨S256, .f32⟩
  | 99 => ⟨S256x256, .f32⟩
  | 100 => ⟨S1x256, .f32⟩
  | 101 => ⟨S256x256, .f32⟩
  | 102 => ⟨S256x256, .f32⟩
  | 103 => ⟨S1x256, .i32⟩
  | 104 => ⟨S_, .i32⟩
  | 105 => ⟨S1x256, .i32⟩
  | 106 => ⟨S1x256, .i1⟩
  | 107 => ⟨S256x1, .f32⟩
  | 108 => ⟨S_, .f32⟩
  | 109 => ⟨S256x1, .f32⟩
  | 110 => ⟨S256x1, .f32⟩
  | 111 => ⟨S256x256, .f32⟩
  | 112 => ⟨S256x256, .f32⟩
  | 113 => ⟨S_, .f32⟩
  | 114 => ⟨S256x256, .f32⟩
  | 115 => ⟨S256x256, .f32⟩
  | 116 => ⟨S256x256, .i1⟩
  | 117 => ⟨S256x256, .f32⟩
  | 118 => ⟨S256x256, .f32⟩
  | 119 => ⟨S256x512, .f32⟩
  | 120 => ⟨S256x256, .bf16⟩
  | 121 => ⟨S256x256, .f32⟩
  | 122 => ⟨S256x256, .f32⟩
  | 123 => ⟨S256x256, .bf16⟩
  | 124 => ⟨S256x256, .bf16⟩
  | 125 => ⟨S256x256, .f32⟩
  | 126 => ⟨S256x256, .f32⟩
  | 127 => ⟨S256x256, .bf16⟩
  | _ => ⟨S256x33, .f32⟩

abbrev hbmTy0_1 (i : Nat) : BufTy := match i % 128 with
  | 0 => ⟨S_, .f32⟩
  | 1 => ⟨S256x31, .f32⟩
  | 2 => ⟨S256x64, .f32⟩
  | 3 => ⟨S_, .i32⟩
  | 4 => ⟨S_, .f32⟩
  | 5 => ⟨S64x64, .f32⟩
  | 6 => ⟨S1x1024, .f32⟩
  | 7 => ⟨S1x64, .f32⟩
  | 8 => ⟨S1x64, .f32⟩
  | 9 => ⟨S256x1, .f32⟩
  | 10 => ⟨S256x1, .f32⟩
  | 11 => ⟨S2x256x1024, .f32⟩
  | 12 => ⟨S2x256x1024, .f32⟩
  | _ => ⟨S256x33, .f32⟩

abbrev hbmTy (i : Nat) : BufTy := match i / 128 with
  | 0 => hbmTy0_0 i
  | 1 => hbmTy0_1 i
  | _ => ⟨S256x33, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S2x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S256x1, .f32⟩
  | .local _ .vmem, ⟨11, _⟩ => ⟨S1x256, .f32⟩
  | .local _ .vmem, ⟨12, _⟩ => ⟨S1x256, .f32⟩
  | .local _ .vmem, ⟨13, _⟩ => ⟨S256x1, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S256x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v14 : Ref sig .tc := ⟨.hbm, 68, rfl⟩
abbrev main_c_3 : Ref sig .tc := ⟨.hbm, 69, rfl⟩
abbrev main_v15 : Ref sig .tc := ⟨.hbm, 70, rfl⟩
abbrev main_v16 : Ref sig .tc := ⟨.hbm, 71, rfl⟩
abbrev main_cst_4 : Ref sig .tc := ⟨.hbm, 72, rfl⟩
abbrev main_cst_5 : Ref sig .tc := ⟨.hbm, 73, rfl⟩
abbrev main_call2_v0 : Ref sig .tc := ⟨.hbm, 74, rfl⟩
abbrev main_call2_v1 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_c_6 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call3_v0 : Ref sig .tc := ⟨.hbm, 84, rfl⟩
abbrev main_call3_v1 : Ref sig .tc := ⟨.hbm, 85, rfl⟩
abbrev main_v24 : Ref sig .tc := ⟨.hbm, 86, rfl⟩
abbrev main_c_7 : Ref sig .tc := ⟨.hbm, 87, rfl⟩
abbrev main_v25 : Ref sig .tc := ⟨.hbm, 88, rfl⟩
abbrev main_v26 : Ref sig .tc := ⟨.hbm, 89, rfl⟩
abbrev main_cst_8 : Ref sig .tc := ⟨.hbm, 90, rfl⟩
abbrev main_cst_9 : Ref sig .tc := ⟨.hbm, 91, rfl⟩
abbrev main_call4_v0 : Ref sig .tc := ⟨.hbm, 92, rfl⟩
abbrev main_call4_v1 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_11 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_12 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_13 : Ref sig .tc := ⟨.hbm, 113, rfl⟩
abbrev main_v43 : Ref sig .tc := ⟨.hbm, 114, rfl⟩
abbrev main_v44 : Ref sig .tc := ⟨.hbm, 115, rfl⟩
abbrev main_call5_v0 : Ref sig .tc := ⟨.hbm, 116, rfl⟩
abbrev main_call5_v1 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_cst_14 : Ref sig .tc := ⟨.hbm, 128, rfl⟩
abbrev main_v55 : Ref sig .tc := ⟨.hbm, 129, rfl⟩
abbrev main_v56 : Ref sig .tc := ⟨.hbm, 130, rfl⟩
abbrev main_c_15 : Ref sig .tc := ⟨.hbm, 131, rfl⟩
abbrev main_call6_v0 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63_0 : Ref sig .tc := ⟨.hbm, 139, rfl⟩
abbrev main_v63_1 : Ref sig .tc := ⟨.hbm, 140, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let c4_i32_0 : BitVec 32 := 4#32
  let v2 : BitVec 32 := Scalar.addi v1 c4_i32_0
  let v3 : BitVec 32 := Scalar.addi v2 arg1
  let c0_i32 : BitVec 32 := 0#32
  let c0_i32_1 : BitVec 32 := 0#32
  ![c0_i32.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceFilterPIdeal.lean ====
abbrev S256x33 : Shape := ⟨2, ![256, 33]⟩
abbrev S256 : Shape := ⟨1, ![256]⟩
abbrev S1024 : Shape := ⟨1, ![1024]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x64 : Shape := ⟨2, ![2, 64]⟩
abbrev S1x64 : Shape := ⟨2, ![1, 64]⟩
abbrev S256x64 : Shape := ⟨2, ![256, 64]⟩
abbrev S256x4096 : Shape := ⟨2, ![256, 4096]⟩
abbrev S256x2x2x1024 : Shape := ⟨4, ![256, 2, 2, 1024]⟩
abbrev S256x1 : Shape := ⟨2, ![256, 1]⟩
abbrev S1x1024 : Shape := ⟨2, ![1, 1024]⟩
abbrev S256x1024 : Shape := ⟨2, ![256, 1024]⟩
abbrev S256x1x1x1024 : Shape := ⟨4, ![256, 1, 1, 1024]⟩
abbrev S256x2x1x1024 : Shape := ⟨4, ![256, 2, 1, 1024]⟩
abbrev S256x2x1024 : Shape := ⟨3, ![256, 2, 1024]⟩
abbrev S_ : Shape := ⟨0, ![]⟩
abbrev S1x2x1024 : Shape := ⟨3, ![1, 2, 1024]⟩
abbrev S255x2x1024 : Shape := ⟨3, ![255, 2, 1024]⟩
abbrev S512x2x1024 : Shape := ⟨3, ![512, 2, 1024]⟩
abbrev S257 : Shape := ⟨1, ![257]⟩
abbrev S512 : Shape := ⟨1, ![512]⟩
abbrev S257x1 : Shape := ⟨2, ![257, 1]⟩
abbrev S1x512 : Shape := ⟨2, ![1, 512]⟩
abbrev S257x512 : Shape := ⟨2, ![257, 512]⟩
abbrev S257x2x1024 : Shape := ⟨3, ![257, 2, 1024]⟩
abbrev S2x256x1024 : Shape := ⟨3, ![2, 256, 1024]⟩

abbrev nBuf : Space → Nat
  | .hbm => 76
  | .vmem => 0
  | .smem => 0
  | _ => 0

abbrev bufTy : (tb : Table) → Fin (tcTables nBuf tb) → BufTy
  | .hbm, ⟨0, _⟩ => ⟨S256x33, .f32⟩
  | .hbm, ⟨1, _⟩ => ⟨S256, .f32⟩
  | .hbm, ⟨2, _⟩ => ⟨S1024, .f32⟩
  | .hbm, ⟨3, _⟩ => ⟨S33x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4096, .f32⟩
  | .hbm, ⟨8, _⟩ => ⟨S2x64, .f32⟩
  | .hbm, ⟨9, _⟩ => ⟨S1x64, .f32⟩
  | .hbm, ⟨10, _⟩ => ⟨S64, .f32⟩
  | .hbm, ⟨11, _⟩ => ⟨S256x64, .f32⟩
  | .hbm, ⟨12, _⟩ => ⟨S1x64, .f32⟩
  | .hbm, ⟨13, _⟩ => ⟨S256x64, .f32⟩
  | .hbm, ⟨14, _⟩ => ⟨S256x64, .f32⟩
  | .hbm, ⟨15, _⟩ => ⟨S1x64, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S1x64, .f32⟩
  | .hbm, ⟨20, _⟩ => ⟨S64, .f32⟩
  | .hbm, ⟨21, _⟩ => ⟨S256x64, .f32⟩
  | .hbm, ⟨22, _⟩ => ⟨S1x64, .f32⟩
  | .hbm, ⟨23, _⟩ => ⟨S256x64, .f32⟩
  | .hbm, ⟨24, _⟩ => ⟨S256x64, .f32⟩
  | .hbm, ⟨25, _⟩ => ⟨S1x64, .f32⟩
  | .hbm, ⟨26, _⟩ => ⟨S256x64, .f32⟩
  | .hbm, ⟨27, _⟩ => ⟨S256x64, .f32⟩
  | .hbm, ⟨28, _⟩ => ⟨S256x64, .f32⟩
  | .hbm, ⟨29, _⟩ => ⟨S256x4096, .f32⟩
  | .hbm, ⟨30, _⟩ => ⟨S256x2x2x1024, .f32⟩
  | .hbm, ⟨31, _⟩ => ⟨S256x1, .f32⟩
  | .hbm, ⟨32, _⟩ => ⟨S256x1, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1x1x1024, .f32⟩
  | .hbm, ⟨39, _⟩ => ⟨S256x2x2x1024, .f32⟩
  | .hbm, ⟨40, _⟩ => ⟨S256x2x2x1024, .f32⟩
  | .hbm, ⟨41, _⟩ => ⟨S256x2x1x1024, .f32⟩
  | .hbm, ⟨42, _⟩ => ⟨S256x2x1024, .f32⟩
  | .hbm, ⟨43, _⟩ => ⟨S256x2x1x1024, .f32⟩
  | .hbm, ⟨44, _⟩ => ⟨S256x2x1024, .f32⟩
  | .hbm, ⟨45, _⟩ => ⟨S_, .f32⟩
  | .hbm, ⟨46, _⟩ => ⟨S1x2x1024, .f32⟩
  | .hbm, ⟨47, _⟩ => ⟨S255x2x1024, .f32⟩
  | .hbm, ⟨48, _⟩ => ⟨S255x2x1024, .f32⟩
  | .hbm, ⟨49, _⟩ => ⟨S512x2x1024, .f32⟩
  | .hbm, ⟨50, _⟩ => ⟨S257, .i32⟩
  | .hbm, ⟨51, _⟩ => ⟨S512, .i32⟩
  | .hbm, ⟨52, _⟩ => ⟨S257x1, .i32⟩
  | .hbm, ⟨53, _⟩ => ⟨S1x512, .i32⟩
  | .hbm, ⟨54, _⟩ => ⟨S257x512, .i32⟩
  | .hbm, ⟨55, _⟩ => ⟨S257x512, .i32⟩
  | .hbm, ⟨56, _⟩ => ⟨S257x512, .i32⟩
  | .hbm, ⟨57, _⟩ => ⟨S257x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S257x512, .f32⟩
  | .hbm, ⟨64, _⟩ => ⟨S257x512, .f32⟩
  | .hbm, ⟨65, _⟩ => ⟨S257x512, .f32⟩
  | .hbm, ⟨66, _⟩ => ⟨S257x2x1024, .f32⟩
  | .hbm, ⟨67, _⟩ => ⟨S257x512, .f32⟩
  | .hbm, ⟨68, _⟩ => ⟨S257x512, .f32⟩
  | .hbm, ⟨69, _⟩ => ⟨S257x2x1024, .f32⟩
  | .hbm, ⟨70, _⟩ => ⟨S1x2x1024, .f32⟩
  | .hbm, ⟨71, _⟩ => ⟨S255x2x1024, .f32⟩
  | .hbm, ⟨72, _⟩ => ⟨S256x2x1024, .f32⟩
  | .hbm, ⟨73, _⟩ => ⟨S256x2x1024, .f32⟩
  | .hbm, ⟨74, _⟩ => ⟨S2x256x1024, .f32⟩
  | .hbm, ⟨75, _⟩ => ⟨S2x256x1024, .f32⟩
  | _, _ => ⟨S256x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_0 : Ref sig .tc := ⟨.hbm, 58, rfl⟩
abbrev main_cst_1 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== KernelHyenaP.lean ====
abbrev S8192x16384 : Shape := ⟨2, ![8192, 16384]⟩
abbrev S3x3x1024 : Shape := ⟨3, ![3, 3, 1024]⟩
abbrev S2x256x1024 : Shape := ⟨3, ![2, 256, 1024]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S512x256 : Shape := ⟨2, ![512, 256]⟩
abbrev S4096x1024 : Shape := ⟨2, ![4096, 1024]⟩
abbrev S3x3x512 : Shape := ⟨3, ![3, 3, 512]⟩
abbrev S2x256x512 : Shape := ⟨3, ![2, 256, 512]⟩
abbrev S2x512 : Shape := ⟨2, ![2, 512]⟩
abbrev S1x3x256 : Shape := ⟨3, ![1, 3, 256]⟩
abbrev S3x256 : Shape := ⟨2, ![3, 256]⟩
abbrev S1x256x256 : Shape := ⟨3, ![1, 256, 256]⟩

abbrev nBuf : Space → Nat
  | .hbm => 127
  | .vmem => 16
  | .smem => 0
  | _ => 0

abbrev bufTy : (tb : Table) → Fin (tcTables nBuf tb) → BufTy
  | .hbm, ⟨0, _⟩ => ⟨S8192x16384, .f32⟩
  | .hbm, ⟨1, _⟩ => ⟨S3x3x1024, .f32⟩
  | .hbm, ⟨2, _⟩ => ⟨S2x256x1024, .f32⟩
  | .hbm, ⟨3, _⟩ => ⟨S2x256x1024, .f32⟩
  | .hbm, ⟨4, _⟩ => ⟨S2x1024, .f32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S_, .i1⟩
  | .hbm, ⟨27, _⟩ => ⟨S256x256, .i1⟩
  | .hbm, ⟨28, _⟩ => ⟨S256x256, .i1⟩
  | .hbm, ⟨29, _⟩ => ⟨S256x256, .i1⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S256x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S_, .i32⟩
  | .hbm, ⟨58, _⟩ => ⟨S_, .i1⟩
  | .hbm, ⟨59, _⟩ => ⟨S256, .i1⟩
  | .hbm, ⟨60, _⟩ => ⟨S256, .i1⟩
  | .hbm, ⟨61, _⟩ => ⟨S256, .i1⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256x1, .i32⟩
  | .hbm, ⟨75, _⟩ => ⟨S_, .i32⟩
  | .hbm, ⟨76, _⟩ => ⟨S256x1, .i32⟩
  | .hbm, ⟨77, _⟩ => ⟨S256x1, .i1⟩
  | .hbm, ⟨78, _⟩ => ⟨S1x256, .f32⟩
  | .hbm, ⟨79, _⟩ => ⟨S256x256, .f32⟩
  | .hbm, ⟨80, _⟩ => ⟨S256x256, .i1⟩
  | .hbm, ⟨81, _⟩ => ⟨S256x256, .f32⟩
  | .hbm, ⟨82, _⟩ => ⟨S256x256, .f32⟩
  | .hbm, ⟨83, _⟩ => ⟨S_, .i32⟩
  | .hbm, ⟨84, _⟩ => ⟨S256, .i32⟩
  | .hbm, ⟨85, _⟩ => ⟨S256, .i1⟩
  | .hbm, ⟨86, _⟩ => ⟨S_, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S256, .f32⟩
  | .hbm, ⟨95, _⟩ => ⟨S256x256, .f32⟩
  | .hbm, ⟨96, _⟩ => ⟨S1x256, .f32⟩
  | .hbm, ⟨97, _⟩ => ⟨S256x256, .f32⟩
  | .hbm, ⟨98, _⟩ => ⟨S256x256, .f32⟩
  | .hbm, ⟨99, _⟩ => ⟨S1x256, .i32⟩
  | .hbm, ⟨100, _⟩ => ⟨S_, .i32⟩
  | .hbm, ⟨101, _⟩ => ⟨S1x256, .i32⟩
  | .hbm, ⟨102, _⟩ => ⟨S1x256, .i1⟩
  | .hbm, ⟨103, _⟩ => ⟨S256x1, .f32⟩
  | .hbm, ⟨104, _⟩ => ⟨S_, .f32⟩
  | .hbm, ⟨105, _⟩ => ⟨S256x1, .f32⟩
  | .hbm, ⟨106, _⟩ => ⟨S256x1, .f32⟩
  | .hbm, ⟨107, _⟩ => ⟨S256x256, .f32⟩
  | .hbm, ⟨108, _⟩ => ⟨S256x256, .f32⟩
  | .hbm, ⟨109, _⟩ => ⟨S_, .f32⟩
  | .hbm, ⟨110, _⟩ => ⟨S256x256, .f32⟩
  | .hbm, ⟨111, _⟩ => ⟨S256x256, .f32⟩
  | .hbm, ⟨112, _⟩ => ⟨S256x256, .i1⟩
  | .hbm, ⟨113, _⟩ => ⟨S256x256, .f32⟩
  | .hbm, ⟨114, _⟩ => ⟨S256x256, .f32⟩
  | .hbm, ⟨115, _⟩ => ⟨S256x512, .f32⟩
  | .hbm, ⟨116, _⟩ => ⟨S256x256, .bf16⟩
  | .hbm, ⟨117, _⟩ => ⟨S256x256, .f32⟩
  | .hbm, ⟨118, _⟩ => ⟨S256x256, .f32⟩
  | .hbm, ⟨119, _⟩ => ⟨S256x256, .bf16⟩
  | .hbm, ⟨120, _⟩ => ⟨S256x256, .bf16⟩
  | .hbm, ⟨121, _⟩ => ⟨S256x256, .f32⟩
  | .hbm, ⟨122, _⟩ => ⟨S256x256, .f32⟩
  | .hbm, ⟨123, _⟩ => ⟨S256x256, .bf16⟩
  | .hbm, ⟨124, _⟩ => ⟨S512x256, .bf16⟩
  | .hbm, ⟨125, _⟩ => ⟨S256x512, .bf16⟩
  | .hbm, ⟨126, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S3x3x512, .f32⟩
  | .local _ .vmem, ⟨7, _⟩ => ⟨S3x3x512, .f32⟩
  | .local _ .vmem, ⟨8, _⟩ => ⟨S2x256x512, .f32⟩
  | .local _ .vmem, ⟨9, _⟩ => ⟨S2x256x512, .f32⟩
  | .local _ .vmem, ⟨10, _⟩ => ⟨S2x512, .f32⟩
  | .local _ .vmem, ⟨11, _⟩ => ⟨S2x512, .f32⟩
  | .local _ .vmem, ⟨12, _⟩ => ⟨S512x256, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_cst_0 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_c_3 : Ref sig .tc := ⟨.hbm, 65, rfl⟩
abbrev main_v15 : Ref sig .tc := ⟨.hbm, 66, rfl⟩
abbrev main_v16 : Ref sig .tc := ⟨.hbm, 67, rfl⟩
abbrev main_cst_4 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c_6 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_call3_v0 : Ref sig .tc := ⟨.hbm, 80, rfl⟩
abbrev main_call3_v1 : Ref sig .tc := ⟨.hbm, 81, rfl⟩
abbrev main_v24 : Ref sig .tc := ⟨.hbm, 82, rfl⟩
abbrev main_c_7 : Ref sig .tc := ⟨.hbm, 83, rfl⟩
abbrev main_v25 : Ref sig .tc := ⟨.hbm, 84, rfl⟩
abbrev main_v26 : Ref sig .tc := ⟨.hbm, 85, rfl⟩
abbrev main_cst_8 : Ref sig .tc := ⟨.hbm, 86, rfl⟩
abbrev main_cst_9 : Ref sig .tc := ⟨.hbm, 87, rfl⟩
abbrev main_call4_v0 : Ref sig .tc := ⟨.hbm, 88, rfl⟩
abbrev main_call4_v1 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_12 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_13 : Ref sig .tc := ⟨.hbm, 109, rfl⟩
abbrev main_v43 : Ref sig .tc := ⟨.hbm, 110, rfl⟩
abbrev main_v44 : Ref sig .tc := ⟨.hbm, 111, rfl⟩
abbrev main_call5_v0 : Ref sig .tc := ⟨.hbm, 112, rfl⟩
abbrev main_call5_v1 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let v1 : BitVec 32 := Scalar.addi c2_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c4_i32 : BitVec 32 := 4#32
  let v1 : BitVec 32 := Scalar.addi c4_i32 arg0
  let c0_i32_0 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceHyenaPIdeal.lean ====
abbrev S8192x16384 : Shape := ⟨2, ![8192, 16384]⟩
abbrev S3x3x1024 : Shape := ⟨3, ![3, 3, 1024]⟩
abbrev S2x256x1024 : Shape := ⟨3, ![2, 256, 1024]⟩
abbrev S2x1024 : Shape := ⟨2, ![2, 1024]⟩
abbrev S4096x16384 : Shape := ⟨2, ![4096, 16384]⟩
abbrev S16x256x16384 : Shape := ⟨3, ![16, 256, 16384]⟩
abbrev S16x256x1024 : Shape := ⟨3, ![16, 256, 1024]⟩
abbrev S_ : Shape := ⟨0, ![]⟩
abbrev S2x1x1024 : Shape := ⟨3, ![2, 1, 1024]⟩
abbrev S2x257x1024 : Shape := ⟨3, ![2, 257, 1024]⟩
abbrev S2x255x1024 : Shape := ⟨3, ![2, 255, 1024]⟩
abbrev S1x3x1024 : Shape := ⟨3, ![1, 3, 1024]⟩
abbrev S3x1024 : Shape := ⟨2, ![3, 1024]⟩
abbrev S16x258x1024 : Shape := ⟨3, ![16, 258, 1024]⟩
abbrev S1x1024 : Shape := ⟨2, ![1, 1024]⟩
abbrev S1024 : Shape := ⟨1, ![1024]⟩
abbrev S1x1x1024 : Shape := ⟨3, ![1, 1, 1024]⟩
abbrev S1x257x1024 : Shape := ⟨3, ![1, 257, 1024]⟩
abbrev S257x1024 : Shape := ⟨2, ![257, 1024]⟩
abbrev S257 : Shape := ⟨1, ![257]⟩
abbrev S256 : Shape := ⟨1, ![256]⟩
abbrev S257x1 : Shape := ⟨2, ![257, 1]⟩
abbrev S1x256 : Shape := ⟨2, ![1, 256]⟩
abbrev S257x256 : Shape := ⟨2, ![257, 256]⟩
abbrev S16x1024x257 : Shape := ⟨3, ![16, 1024, 257]⟩
abbrev S16x257x1024 : Shape := ⟨3, ![16, 257, 1024]⟩
abbrev S16x1024x256 : Shape := ⟨3, ![16, 1024, 256]⟩
abbrev S4096x1024 : Shape := ⟨2, ![4096, 1024]⟩

abbrev nBuf : Space → Nat
  | .hbm => 249
  | .vmem => 0
  | .smem => 0
  | _ => 0

abbrev hbmTy0_0 (i : Nat) : BufTy := match i % 128 with
  | 0 => ⟨S8192x16384, .f32⟩
  | 1 => ⟨S3x3x1024, .f32⟩
  | 2 => ⟨S2x256x1024, .f32⟩
  | 3 => ⟨S2x256x1024, .f32⟩
  | 4 => ⟨S2x1024, .f32⟩
  | 5 => ⟨S4096x16384, .f32⟩
  | 6 => ⟨S16x256x16384, .f32⟩
  | 7 => ⟨S16x256x1024, .f32⟩
  | 8 => ⟨S16x256x1024, .f32⟩
  | 9 => ⟨S16x256x1024, .f32⟩
  | 10 => ⟨S_, .f32⟩
  | 11 => ⟨S2x1x1024, .f32⟩
  | 12 => ⟨S2x1x1024, .f32⟩
  | 13 => ⟨S2x257x1024, .f32⟩
  | 14 => ⟨S2x255x1024, .f32⟩
  | 15 => ⟨S2x257x1024, .f32⟩
  | 16 => ⟨S1x3x1024, .f32⟩
  | 17 => ⟨S3x1024, .f32⟩
  | 18 => ⟨S_, .i32⟩
  | 19 => ⟨S_, .f32⟩
  | 20 => ⟨S16x258x1024, .f32⟩
  | 21 => ⟨S16x256x1024, .f32⟩
  | 22 => ⟨S1x1024, .f32⟩
  | 23 => ⟨S1024, .f32⟩
  | 24 => ⟨S1x1x1024, .f32⟩
  | 25 => ⟨S16x256x1024, .f32⟩
  | 26 => ⟨S16x256x1024, .f32⟩
  | 27 => ⟨S16x256x1024, .f32⟩
  | 28 => ⟨S1x1024, .f32⟩
  | 29 => ⟨S1024, .f32⟩
  | 30 => ⟨S1x1x1024, .f32⟩
  | 31 => ⟨S16x256x1024, .f32⟩
  | 32 => ⟨S16x256x1024, .f32⟩
  | 33 => ⟨S16x256x1024, .f32⟩
  | 34 => ⟨S16x256x1024, .f32⟩
  | 35 => ⟨S1x1024, .f32⟩
  | 36 => ⟨S1024, .f32⟩
  | 37 => ⟨S1x1x1024, .f32⟩
  | 38 => ⟨S16x256x1024, .f32⟩
  | 39 => ⟨S16x256x1024, .f32⟩
  | 40 => ⟨S16x256x1024, .f32⟩
  | 41 => ⟨S1x3x1024, .f32⟩
  | 42 => ⟨S3x1024, .f32⟩
  | 43 => ⟨S_, .i32⟩
  | 44 => ⟨S_, .f32⟩
  | 45 => ⟨S16x258x1024, .f32⟩
  | 46 => ⟨S16x256x1024, .f32⟩
  | 47 => ⟨S1x1024, .f32⟩
  | 48 => ⟨S1024, .f32⟩
  | 49 => ⟨S1x1x1024, .f32⟩
  | 50 => ⟨S16x256x1024, .f32⟩
  | 51 => ⟨S16x256x1024, .f32⟩
  | 52 => ⟨S16x256x1024, .f32⟩
  | 53 => ⟨S1x1024, .f32⟩
  | 54 => ⟨S1024, .f32⟩
  | 55 => ⟨S1x1x1024, .f32⟩
  | 56 => ⟨S16x256x1024, .f32⟩
  | 57 => ⟨S16x256x1024, .f32⟩
  | 58 => ⟨S16x256x1024, .f32⟩
  | 59 => ⟨S16x256x1024, .f32⟩
  | 60 => ⟨S1x1024, .f32⟩
  | 61 => ⟨S1024, .f32⟩
  | 62 => ⟨S1x1x1024, .f32⟩
  | 63 => ⟨S16x256x1024, .f32⟩
  | 64 => ⟨S16x256x1024, .f32⟩
  | 65 => ⟨S16x256x1024, .f32⟩
  | 66 => ⟨S1x3x1024, .f32⟩
  | 67 => ⟨S3x1024, .f32⟩
  | 68 => ⟨S_, .i32⟩
  | 69 => ⟨S_, .f32⟩
  | 70 => ⟨S16x258x1024, .f32⟩
  | 71 => ⟨S16x256x1024, .f32⟩
  | 72 => ⟨S1x1024, .f32⟩
  | 73 => ⟨S1024, .f32⟩
  | 74 => ⟨S1x1x1024, .f32⟩
  | 75 => ⟨S16x256x1024, .f32⟩
  | 76 => ⟨S16x256x1024, .f32⟩
  | 77 => ⟨S16x256x1024, .f32⟩
  | 78 => ⟨S1x1024, .f32⟩
  | 79 => ⟨S1024, .f32⟩
  | 80 => ⟨S1x1x1024, .f32⟩
  | 81 => ⟨S16x256x1024, .f32⟩
  | 82 => ⟨S16x256x1024, .f32⟩
  | 83 => ⟨S16x256x1024, .f32⟩
  | 84 => ⟨S16x256x1024, .f32⟩
  | 85 => ⟨S1x1024, .f32⟩
  | 86 => ⟨S1024, .f32⟩
  | 87 => ⟨S1x1x1024, .f32⟩
  | 88 => ⟨S16x256x1024, .f32⟩
  | 89 => ⟨S16x256x1024, .f32⟩
  | 90 => ⟨S16x256x1024, .f32⟩
  | 91 => ⟨S1x257x1024, .f32⟩
  | 92 => ⟨S257x1024, .f32⟩
  | 93 => ⟨S1x257x1024, .f32⟩
  | 94 => ⟨S257x1024, .f32⟩
  | 95 => ⟨S1x1024, .f32⟩
  | 96 => ⟨S1024, .f32⟩
  | 97 => ⟨S257, .i32⟩
  | 98 => ⟨S256, .i32⟩
  | 99 => ⟨S257x1, .i32⟩
  | 100 => ⟨S1x256, .i32⟩
  | 101 => ⟨S257x256, .i32⟩
  | 102 => ⟨S257x256, .i32⟩
  | 103 => ⟨S257x256, .i32⟩
  | 104 => ⟨S257x256, .f32⟩
  | 105 => ⟨S_, .f32⟩
  | 106 => ⟨S_, .f32⟩
  | 107 => ⟨S_, .f32⟩
  | 108 => ⟨S_, .f32⟩
  | 109 => ⟨S_, .f32⟩
  | 110 => ⟨S257x256, .f32⟩
  | 111 => ⟨S257x256, .f32⟩
  | 112 => ⟨S257x256, .f32⟩
  | 113 => ⟨S16x1024x257, .f32⟩
  | 114 => ⟨S16x257x1024, .f32⟩
  | 115 => ⟨S257x256, .f32⟩
  | 116 => ⟨S257x256, .f32⟩
  | 117 => ⟨S16x1024x257, .f32⟩
  | 118 => ⟨S16x257x1024, .f32⟩
  | 119 => ⟨S1x257x1024, .f32⟩
  | 120 => ⟨S16x257x1024, .f32⟩
  | 121 => ⟨S16x257x1024, .f32⟩
  | 122 => ⟨S1x257x1024, .f32⟩
  | 123 => ⟨S16x257x1024, .f32⟩
  | 124 => ⟨S16x257x1024, .f32⟩
  | 125 => ⟨S16x257x1024, .f32⟩
  | 126 => ⟨S1x257x1024, .f32⟩
  | 127 => ⟨S16x257x1024, .f32⟩
  | _ => ⟨S8192x16384, .f32⟩

abbrev hbmTy0_1 (i : Nat) : BufTy := match i % 128 with
  | 0 => ⟨S16x257x1024, .f32⟩
  | 1 => ⟨S1x257x1024, .f32⟩
  | 2 => ⟨S16x257x1024, .f32⟩
  | 3 => ⟨S16x257x1024, .f32⟩
  | 4 => ⟨S16x257x1024, .f32⟩
  | 5 => ⟨S_, .i32⟩
  | 6 => ⟨S257, .i32⟩
  | 7 => ⟨S257, .i1⟩
  | 8 => ⟨S_, .i32⟩
  | 9 => ⟨S257, .i32⟩
  | 10 => ⟨S257, .i1⟩
  | 11 => ⟨S257, .i1⟩
  | 12 => ⟨S_, .f32⟩
  | 13 => ⟨S_, .f32⟩
  | 14 => ⟨S257, .f32⟩
  | 15 => ⟨S257, .f32⟩
  | 16 => ⟨S257, .f32⟩
  | 17 => ⟨S_, .f32⟩
  | 18 => ⟨S257, .f32⟩
  | 19 => ⟨S257, .f32⟩
  | 20 => ⟨S257x256, .f32⟩
  | 21 => ⟨S257x1, .f32⟩
  | 22 => ⟨S257x1, .f32⟩
  | 23 => ⟨S257x256, .f32⟩
  | 24 => ⟨S257x256, .f32⟩
  | 25 => ⟨S16x1024x256, .f32⟩
  | 26 => ⟨S16x256x1024, .f32⟩
  | 27 => ⟨S257x256, .f32⟩
  | 28 => ⟨S257x256, .f32⟩
  | 29 => ⟨S257x1, .f32⟩
  | 30 => ⟨S257x1, .f32⟩
  | 31 => ⟨S257x256, .f32⟩
  | 32 => ⟨S257x256, .f32⟩
  | 33 => ⟨S16x1024x256, .f32⟩
  | 34 => ⟨S16x256x1024, .f32⟩
  | 35 => ⟨S16x256x1024, .f32⟩
  | 36 => ⟨S1x1x1024, .f32⟩
  | 37 => ⟨S16x256x1024, .f32⟩
  | 38 => ⟨S16x256x1024, .f32⟩
  | 39 => ⟨S16x256x1024, .f32⟩
  | 40 => ⟨S16x256x1024, .f32⟩
  | 41 => ⟨S1x257x1024, .f32⟩
  | 42 => ⟨S257x1024, .f32⟩
  | 43 => ⟨S1x257x1024, .f32⟩
  | 44 => ⟨S257x1024, .f32⟩
  | 45 => ⟨S1x1024, .f32⟩
  | 46 => ⟨S1024, .f32⟩
  | 47 => ⟨S257, .i32⟩
  | 48 => ⟨S256, .i32⟩
  | 49 => ⟨S257x1, .i32⟩
  | 50 => ⟨S1x256, .i32⟩
  | 51 => ⟨S257x256, .i32⟩
  | 52 => ⟨S257x256, .i32⟩
  | 53 => ⟨S257x256, .i32⟩
  | 54 => ⟨S257x256, .f32⟩
  | 55 => ⟨S_, .f32⟩
  | 56 => ⟨S_, .f32⟩
  | 57 => ⟨S_, .f32⟩
  | 58 => ⟨S_, .f32⟩
  | 59 => ⟨S_, .f32⟩
  | 60 => ⟨S257x256, .f32⟩
  | 61 => ⟨S257x256, .f32⟩
  | 62 => ⟨S257x256, .f32⟩
  | 63 => ⟨S16x1024x257, .f32⟩
  | 64 => ⟨S16x257x1024, .f32⟩
  | 65 => ⟨S257x256, .f32⟩
  | 66 => ⟨S257x256, .f32⟩
  | 67 => ⟨S16x1024x257, .f32⟩
  | 68 => ⟨S16x257x1024, .f32⟩
  | 69 => ⟨S1x257x1024, .f32⟩
  | 70 => ⟨S16x257x1024, .f32⟩
  | 71 => ⟨S16x257x1024, .f32⟩
  | 72 => ⟨S1x257x1024, .f32⟩
  | 73 => ⟨S16x257x1024, .f32⟩
  | 74 => ⟨S16x257x1024, .f32⟩
  | 75 => ⟨S16x257x1024, .f32⟩
  | 76 => ⟨S1x257x1024, .f32⟩
  | 77 => ⟨S16x257x1024, .f32⟩
  | 78 => ⟨S16x257x1024, .f32⟩
  | 79 => ⟨S1x257x1024, .f32⟩
  | 80 => ⟨S16x257x1024, .f32⟩
  | 81 => ⟨S16x257x1024, .f32⟩
  | 82 => ⟨S16x257x1024, .f32⟩
  | 83 => ⟨S_, .i32⟩
  | 84 => ⟨S257, .i32⟩
  | 85 => ⟨S257, .i1⟩
  | 86 => ⟨S_, .i32⟩
  | 87 => ⟨S257, .i32⟩
  | 88 => ⟨S257, .i1⟩
  | 89 => ⟨S257, .i1⟩
  | 90 => ⟨S_, .f32⟩
  | 91 => ⟨S_, .f32⟩
  | 92 => ⟨S257, .f32⟩
  | 93 => ⟨S257, .f32⟩
  | 94 => ⟨S257, .f32⟩
  | 95 => ⟨S_, .f32⟩
  | 96 => ⟨S257, .f32⟩
  | 97 => ⟨S257, .f32⟩
  | 98 => ⟨S257x256, .f32⟩
  | 99 => ⟨S257x1, .f32⟩
  | 100 => ⟨S257x1, .f32⟩
  | 101 => ⟨S257x256, .f32⟩
  | 102 => ⟨S257x256, .f32⟩
  | 103 => ⟨S16x1024x256, .f32⟩
  | 104 => ⟨S16x256x1024, .f32⟩
  | 105 => ⟨S257x256, .f32⟩
  | 106 => ⟨S257x256, .f32⟩
  | 107 => ⟨S257x1, .f32⟩
  | 108 => ⟨S257x1, .f32⟩
  | 109 => ⟨S257x256, .f32⟩
  | 110 => ⟨S257x256, .f32⟩
  | 111 => ⟨S16x1024x256, .f32⟩
  | 112 => ⟨S16x256x1024, .f32⟩
  | 113 => ⟨S16x256x1024, .f32⟩
  | 114 => ⟨S1x1x1024, .f32⟩
  | 115 => ⟨S16x256x1024, .f32⟩
  | 116 => ⟨S16x256x1024, .f32⟩
  | 117 => ⟨S16x256x1024, .f32⟩
  | 118 => ⟨S16x256x1024, .f32⟩
  | 119 => ⟨S4096x1024, .f32⟩
  | 120 => ⟨S4096x1024, .bf16⟩
  | _ => ⟨S8192x16384, .f32⟩

abbrev hbmTy (i : Nat) : BufTy := match i / 128 with
  | 0 => hbmTy0_0 i
  | 1 => hbmTy0_1 i
  | _ => ⟨S8192x16384, .f32⟩

abbrev bufTy : (tb : Table) → Fin (tcTables nBuf tb) → BufTy
  | .hbm, ⟨i, _⟩ => hbmTy i
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_0 : Ref sig .tc := ⟨.hbm, 43, rfl⟩
abbrev main_call1_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_c_1 : Ref sig .tc := ⟨.hbm, 68, rfl⟩
abbrev main_call2_v0 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_2 : Ref sig .tc := ⟨.hbm, 105, rfl⟩
abbrev main_cst_3 : Ref sig .tc := ⟨.hbm, 106, rfl⟩
abbrev main_v93 : Ref sig .tc := ⟨.hbm, 107, rfl⟩
abbrev main_cst_4 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_c_5 : Ref sig .tc := ⟨.hbm, 133, rfl⟩
abbrev main_v118 : Ref sig .tc := ⟨.hbm, 134, rfl⟩
abbrev main_v119 : Ref sig .tc := ⟨.hbm, 135, rfl⟩
abbrev main_c_6 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_7 : Ref sig .tc := ⟨.hbm, 140, rfl⟩
abbrev main_cst_8 : Ref sig .tc := ⟨.hbm, 141, rfl⟩
abbrev main_call3_v0 : Ref sig .tc := ⟨.hbm, 142, rfl⟩
abbrev main_call3_v1 : Ref sig .tc := ⟨.hbm, 143, rfl⟩
abbrev main_v123 : Ref sig .tc := ⟨.hbm, 144, rfl⟩
abbrev main_cst_9 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_10 : Ref sig .tc := ⟨.hbm, 183, rfl⟩
abbrev main_cst_11 : Ref sig .tc := ⟨.hbm, 184, rfl⟩
abbrev main_v161 : Ref sig .tc := ⟨.hbm, 185, rfl⟩
abbrev main_cst_12 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_c_13 : Ref sig .tc := ⟨.hbm, 211, rfl⟩
abbrev main_v186 : Ref sig .tc := ⟨.hbm, 212, rfl⟩
abbrev main_v187 : Ref sig .tc := ⟨.hbm, 213, rfl⟩
abbrev main_c_14 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_cst_15 : Ref sig .tc := ⟨.hbm, 218, rfl⟩
abbrev main_cst_16 : Ref sig .tc := ⟨.hbm, 219, rfl⟩
abbrev main_call4_v0 : Ref sig .tc := ⟨.hbm, 220, rfl⟩
abbrev main_call4_v1 : Ref sig .tc := ⟨.hbm, 221, rfl⟩
abbrev main_v191 : Ref sig .tc := ⟨.hbm, 222, rfl⟩
abbrev main_cst_17 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩

abbrev nD : Nat := 1
abbrev τ : Topo := Topo.v7x

variable {F : FTy → Type} [FloatOps F]
-- ==== Proof.Calls.Spec.lean ====
module

public import Idealize.ShloMosaic.Lib.Pipeline.ValueKit
public import Idealize.ShloMosaic.Lib.Pointwise

/-!
# What the matrix products and the final norm compute

Each function gives one entry of a call's result from the entries of its arguments, over the
extended reals; no program is mentioned here.
-/

@[expose] public section

noncomputable section

open Idealize.ShloMosaic Idealize.ShloMosaic.Pipeline

namespace Cert.Calls

/-- Two indices that differ on the second axis only. -/
theorem off_axis2 {R A B : Nat} {r : Fin R} (a : Fin A) (b : Fin B) (c : Fin 2) (hc : c ≠ 1) : (ix2 r a c).val = (ix2 r b c).val := by
  match c with
  | 0 => rfl
  | 1 => exact absurd rfl hc

/-- Two indices that differ on the third axis only. -/
theorem off_axis3 {Q R A B : Nat} {q : Fin Q} {r : Fin R} (a : Fin A) (b : Fin B) (c : Fin 3) (hc : c ≠ 2) :
    (ix3 q r a c).val = (ix3 q r b c).val := by
  match c with
  | 0 => rfl
  | 1 => rfl
  | 2 => exact absurd rfl hc

/-- A concatenation read in piece `k`, the pieces' shapes given as a list of its own. -/
theorem cat_piece {α : Type} {t : Shape} (a : Fin t.rank) (xs : List ((s : Shape) × (s.Idx → α))) (shapes : List Shape)
    (hsh : xs.map (·.1) = shapes) (h : Shape.Concatenates (xs.map (·.1)) t a) (j : t.Idx) (k : Nat) (hk : k < xs.length)
    (s₁ : Shape) (x₁ : s₁.Idx → α) (hxk : xs[k] = ⟨s₁, x₁⟩) (hr : s₁.rank = t.rank) (pre : Nat)
    (hpre : ((shapes.take k).map fun s => if h : s.rank = t.rank then s.size (a.cast h.symm) else 0).sum = pre)
    (i : s₁.Idx) (hi : ∀ b : Fin s₁.rank, b.cast hr ≠ a → (i b).val = (j (b.cast hr)).val)
    (ha : pre + (i (a.cast hr.symm)).val = (j a).val) : concatenate t a xs h j = x₁ i := by
  subst hsh
  exact concatenate_apply_piece a xs h j k hk s₁ x₁ hxk hr pre (by rw [List.map_take]; exact hpre) i hi ha

/-- The root mean square norm: a row over the root of its mean square, times the gain. -/
def normAt {R : Nat} (x : Fin R → Fin 2048 → EReal) (g : Fin 2048 → EReal) (r : Fin R) (q : Fin 2048) : EReal :=
  x r q * Ideal.rsqrt (Ideal.div (∑ k, x r k * x r k) (Ideal.ofBits FTy.f32 0x45000000#32) + Ideal.ofBits FTy.f32 0x358637BD#32) * g q

/-- The column of the input projection that column `n` of the kept parts comes from: two groups of narrow parts, of 32
and of 16 columns, are left out. -/
def keptCol (n : Nat) : Nat := if n < 6144 then n else if n < 10240 then n + 32 else n + 48

/-- A kept column is a column of the input projection. -/
theorem keptCol_lt {n : Nat} (h : n < 16384) : keptCol n < 16432 := by
  unfold keptCol; split <;> [omega; (split <;> omega)]

/-- The input projection: a row times a kept column of the weights, plus that column's bias. -/
def inProjAt (h : Fin 8192 → Fin 2048 → EReal) (w : Fin 2048 → Fin 16432 → EReal) (b : Fin 16432 → EReal)
    (r : Fin 8192) (n : Fin 16384) : EReal :=
  (∑ k, h r k * w k ⟨keptCol n.val, keptCol_lt n.isLt⟩) + b ⟨keptCol n.val, keptCol_lt n.isLt⟩

/-- The row of the modulation table that row `r` of the residual stream takes: the prompt's is row 4, each sequence of
the latent grid has its own. -/
def modRow (r : Nat) : Nat := if r < 4096 then 4 else (r - 4096) / 1024

/-- There are eight rows of the modulation table. -/
theorem modRow_lt {r : Nat} (h : r < 8192) : modRow r < 8 := by
  unfold modRow; split <;> omega

/-- The rows of a block of 512 take one row of the table. -/
theorem modRow_block {a b : Nat} (h : b < 512) : modRow (a * 512 + b) = modRow (a * 512) := by
  unfold modRow; split_ifs <;> omega

/-- The output projection with its gated residual: the third part of the modulation is the gate. -/
def outProjAt (a : Fin 8192 → Fin 2048 → EReal) (w : Fin 2048 → Fin 2048 → EReal) (x : Fin 8192 → Fin 2048 → EReal)
    (g : Fin 8 → Fin 12288 → EReal) (r : Fin 8192) (q : Fin 2048) : EReal :=
  x r q + g ⟨modRow r.val, modRow_lt r.isLt⟩ ⟨4096 + q.val, by omega⟩ * ∑ k, a r k * w k q

/-- A row of the residual stream's order: the prompt's 4096 rows, then the latent grid's. -/
def rowOf (p s : Fin 4096 → Fin 1024 → EReal) (r : Fin 8192) (k : Fin 1024) : EReal :=
  if h : r.val < 4096 then p ⟨r.val, h⟩ k else s ⟨r.val - 4096, by omega⟩ k

/-- The gated merge of one entry: each branch's projection times the logistic of its gate. -/
def mergeAt (a0 a1 a2 w0 w1 w2 : Fin 1024 → EReal) (z0 z1 z2 : EReal) : EReal :=
  Ideal.logistic z0 * (∑ k, a0 k * w0 k) + Ideal.logistic z1 * (∑ k, a1 k * w1 k) + Ideal.logistic z2 * (∑ k, a2 k * w2 k)

/-- The gated merge of equal operands. -/
theorem mergeAt_congr {a0 a1 a2 w0 w1 w2 b0 b1 b2 v0 v1 v2 : Fin 1024 → EReal} {z0 z1 z2 y0 y1 y2 : EReal}
    (ha0 : ∀ k, a0 k = b0 k) (ha1 : ∀ k, a1 k = b1 k) (ha2 : ∀ k, a2 k = b2 k)
    (hw0 : ∀ k, w0 k = v0 k) (hw1 : ∀ k, w1 k = v1 k) (hw2 : ∀ k, w2 k = v2 k)
    (h0 : z0 = y0) (h1 : z1 = y1) (h2 : z2 = y2) :
    mergeAt a0 a1 a2 w0 w1 w2 z0 z1 z2 = mergeAt b0 b1 b2 v0 v1 v2 y0 y1 y2 := by
  rw [funext ha0, funext ha1, funext ha2, funext hw0, funext hw1, funext hw2, h0, h1, h2]

/-- The gated merge: three branches' rows, their weights, and the gates' columns of the input projection. -/
def mergedAt (p0 s0 p1 s1 p2 s2 : Fin 4096 → Fin 1024 → EReal) (w : Fin 3 → Fin 1024 → Fin 2048 → EReal)
    (z : Fin 8192 → Fin 16384 → EReal) (r : Fin 8192) (q : Fin 2048) : EReal :=
  mergeAt (rowOf p0 s0 r) (rowOf p1 s1 r) (rowOf p2 s2 r) (fun k => w 0 k q) (fun k => w 1 k q) (fun k => w 2 k q)
    (z r ⟨10240 + q.val, by omega⟩) (z r ⟨12288 + q.val, by omega⟩) (z r ⟨14336 + q.val, by omega⟩)

end Cert.Calls
-- ==== Proof.Calls.InProjHost.lean ====
module

public import proofs.«01_k».proof.Proof.Calls.Spec
public import proofs.«01_k».proof.Proof.Gen.KernelInProjIdeal.Value
public import proofs.«01_k».proof.Proof.Gen.KernelInProjIdeal.Frame
public import Idealize.ShloMosaic.Lib.StableHlo.ReadAt

/-!
# The input projection: the weights and biases the host lays out
-/

@[expose] public section

set_option maxRecDepth 16384

noncomputable section

open Idealize.ShloMosaic Idealize.ShloMosaic.TcCoe Idealize.SL.Sem Idealize.ShloMosaic.StableHlo
open Cert.KernelInProjIdeal Cert.KernelInProjIdeal.Gen

namespace Cert.Calls.InProj

variable (m : (ℓ : Loc nD τ sig) → Buf (Elt Ideal) ℓ)

/-- The kept columns of the weights, side by side. -/
def keptW (w : FVec Ideal S4x2048x16432 .f32) : FVec Ideal S4x2048x16384 .bf16 :=
  (concatenate S4x2048x16384 2 [⟨S4x2048x1024, (truncf .bf16 (extractStridedSlice S4x2048x1024 ![0, 0, 0] w slices_S4x2048x16432_S4x2048x1024_0_0_0) bitsLt_bf16_f32 : (⟨S4x2048x1024, .bf16⟩ : BufTy).Contents (Elt Ideal))⟩, ⟨S4x2048x1024, (truncf .bf16 (extractStridedSlice S4x2048x1024 ![0, 0, 1024] w slices_S4x2048x16432_S4x2048x1024_0_0_1024) bitsLt_bf16_f32 : (⟨S4x2048x1024, .bf16⟩ : BufTy).Contents (Elt Ideal))⟩, ⟨S4x2048x1024, (truncf .bf16 (extractStridedSlice S4x2048x1024 ![0, 0, 2048] w slices_S4x2048x16432_S4x2048x1024_0_0_2048) bitsLt_bf16_f32 : (⟨S4x2048x1024, .bf16⟩ : BufTy).Contents (Elt Ideal))⟩, ⟨S4x2048x512, (truncf .bf16 (extractStridedSlice S4x2048x512 ![0, 0, 3072] w slices_S4x2048x16432_S4x2048x512_0_0_3072) bitsLt_bf16_f32 : (⟨S4x2048x512, .bf16⟩ : BufTy).Contents (Elt Ideal))⟩, ⟨S4x2048x512, (truncf .bf16 (extractStridedSlice S4x2048x512 ![0, 0, 3584] w slices_S4x2048x16432_S4x2048x512_0_0_3584) bitsLt_bf16_f32 : (⟨S4x2048x512, .bf16⟩ : BufTy).Contents (Elt Ideal))⟩, ⟨S4x2048x1024, (truncf .bf16 (extractStridedSlice S4x2048x1024 ![0, 0, 4096] w slices_S4x2048x16432_S4x2048x1024_0_0_4096) bitsLt_bf16_f32 : (⟨S4x2048x1024, .bf16⟩ : BufTy).Contents (Elt Ideal))⟩, ⟨S4x2048x1024, (truncf .bf16 (extractStridedSlice S4x2048x1024 ![0, 0, 5120] w slices_S4x2048x16432_S4x2048x1024_0_0_5120) bitsLt_bf16_f32 : (⟨S4x2048x1024, .bf16⟩ : BufTy).Contents (Elt Ideal))⟩, ⟨S4x2048x1024, (truncf .bf16 (extractStridedSlice S4x2048x1024 ![0, 0, 6176] w slices_S4x2048x16432_S4x2048x1024_0_0_6176) bitsLt_bf16_f32 : (⟨S4x2048x1024, .bf16⟩ : BufTy).Contents (Elt Ideal))⟩, ⟨S4x2048x1024, (truncf .bf16 (extractStridedSlice S4x2048x1024 ![0, 0, 7200] w slices_S4x2048x16432_S4x2048x1024_0_0_7200) bitsLt_bf16_f32 : (⟨S4x2048x1024, .bf16⟩ : BufTy).Contents (Elt Ideal))⟩, ⟨S4x2048x1024, (truncf .bf16 (extractStridedSlice S4x2048x1024 ![0, 0, 8224] w slices_S4x2048x16432_S4x2048x1024_0_0_8224) bitsLt_bf16_f32 : (⟨S4x2048x1024, .bf16⟩ : BufTy).Contents (Elt Ideal))⟩, ⟨S4x2048x1024, (truncf .bf16 (extractStridedSlice S4x2048x1024 ![0, 0, 9248] w slices_S4x2048x16432_S4x2048x1024_0_0_9248) bitsLt_bf16_f32 : (⟨S4x2048x1024, .bf16⟩ : BufTy).Contents (Elt Ideal))⟩, ⟨S4x2048x2048, (truncf .bf16 (extractStridedSlice S4x2048x2048 ![0, 0, 10288] w slices_S4x2048x16432_S4x2048x2048_0_0_10288) bitsLt_bf16_f32 : (⟨S4x2048x2048, .bf16⟩ : BufTy).Contents (Elt Ideal))⟩, ⟨S4x2048x2048, (truncf .bf16 (extractStridedSlice S4x2048x2048 ![0, 0, 12336] w slices_S4x2048x16432_S4x2048x2048_0_0_12336) bitsLt_bf16_f32 : (⟨S4x2048x2048, .bf16⟩ : BufTy).Contents (Elt Ideal))⟩, ⟨S4x2048x2048, (truncf .bf16 (extractStridedSlice S4x2048x2048 ![0, 0, 14384] w slices_S4x2048x16432_S4x2048x2048_0_0_14384) bitsLt_bf16_f32 : (⟨S4x2048x2048, .bf16⟩ : BufTy).Contents (Elt Ideal))⟩] concatenates_S4x2048x1024_S4x2048x1024_S4x2048x1024_S4x2048x512_S4x2048x512_S4x2048x1024_S4x2048x1024_S4x2048x1024_S4x2048x1024_S4x2048x1024_S4x2048x1024_S4x2048x2048_S4x2048x2048_S4x2048x2048_S4x2048x16384_d2 : (⟨S4x2048x16384, .bf16⟩ : BufTy).Contents (Elt Ideal))

/-- The kept columns of the biases, side by side. -/
def keptB (b : FVec Ideal S4x16432 .f32) : FVec Ideal S4x16384 .f32 :=
  (concatenate S4x16384 1 [⟨S4x1024, (extractStridedSlice S4x1024 ![0, 0] b slices_S4x16432_S4x1024_0_0 : (⟨S4x1024, .f32⟩ : BufTy).Contents (Elt Ideal))⟩, ⟨S4x1024, (extractStridedSlice S4x1024 ![0, 1024] b slices_S4x16432_S4x1024_0_1024 : (⟨S4x1024, .f32⟩ : BufTy).Contents (Elt Ideal))⟩, ⟨S4x1024, (extractStridedSlice S4x1024 ![0, 2048] b slices_S4x16432_S4x1024_0_2048 : (⟨S4x1024, .f32⟩ : BufTy).Contents (Elt Ideal))⟩, ⟨S4x512, (extractStridedSlice S4x512 ![0, 3072] b slices_S4x16432_S4x512_0_3072 : (⟨S4x512, .f32⟩ : BufTy).Contents (Elt Ideal))⟩, ⟨S4x512, (extractStridedSlice S4x512 ![0, 3584] b slices_S4x16432_S4x512_0_3584 : (⟨S4x512, .f32⟩ : BufTy).Contents (Elt Ideal))⟩, ⟨S4x1024, (extractStridedSlice S4x1024 ![0, 4096] b slices_S4x16432_S4x1024_0_4096 : (⟨S4x1024, .f32⟩ : BufTy).Contents (Elt Ideal))⟩, ⟨S4x1024, (extractStridedSlice S4x1024 ![0, 5120] b slices_S4x16432_S4x1024_0_5120 : (⟨S4x1024, .f32⟩ : BufTy).Contents (Elt Ideal))⟩, ⟨S4x1024, (extractStridedSlice S4x1024 ![0, 6176] b slices_S4x16432_S4x1024_0_6176 : (⟨S4x1024, .f32⟩ : BufTy).Contents (Elt Ideal))⟩, ⟨S4x1024, (extractStridedSlice S4x1024 ![0, 7200] b slices_S4x16432_S4x1024_0_7200 : (⟨S4x1024, .f32⟩ : BufTy).Contents (Elt Ideal))⟩, ⟨S4x1024, (extractStridedSlice S4x1024 ![0, 8224] b slices_S4x16432_S4x1024_0_8224 : (⟨S4x1024, .f32⟩ : BufTy).Contents (Elt Ideal))⟩, ⟨S4x1024, (extractStridedSlice S4x1024 ![0, 9248] b slices_S4x16432_S4x1024_0_9248 : (⟨S4x1024, .f32⟩ : BufTy).Contents (Elt Ideal))⟩, ⟨S4x2048, (extractStridedSlice S4x2048 ![0, 10288] b slices_S4x16432_S4x2048_0_10288 : (⟨S4x2048, .f32⟩ : BufTy).Contents (Elt Ideal))⟩, ⟨S4x2048, (extractStridedSlice S4x2048 ![0, 12336] b slices_S4x16432_S4x2048_0_12336 : (⟨S4x2048, .f32⟩ : BufTy).Contents (Elt Ideal))⟩, ⟨S4x2048, (extractStridedSlice S4x2048 ![0, 14384] b slices_S4x16432_S4x2048_0_14384 : (⟨S4x2048, .f32⟩ : BufTy).Contents (Elt Ideal))⟩] concatenates_S4x1024_S4x1024_S4x1024_S4x512_S4x512_S4x1024_S4x1024_S4x1024_S4x1024_S4x1024_S4x1024_S4x2048_S4x2048_S4x2048_S4x16384_d1 : (⟨S4x16384, .f32⟩ : BufTy).Contents (Elt Ideal))

/-- The widths of the kept parts of the weights. -/
def piecesW : List Shape := [S4x2048x1024, S4x2048x1024, S4x2048x1024, S4x2048x512, S4x2048x512, S4x2048x1024, S4x2048x1024, S4x2048x1024, S4x2048x1024, S4x2048x1024, S4x2048x1024, S4x2048x2048, S4x2048x2048, S4x2048x2048]

/-- The widths of the kept parts of the biases. -/
def piecesB : List Shape := [S4x1024, S4x1024, S4x1024, S4x512, S4x512, S4x1024, S4x1024, S4x1024, S4x1024, S4x1024, S4x1024, S4x2048, S4x2048, S4x2048]

set_option maxHeartbeats 4000000 in
/-- Column `n` of the kept weights is column `keptCol n`. -/
theorem keptW_at (w : FVec Ideal S4x2048x16432 .f32) (l : Fin 4) (r : Fin 2048) (n : Fin 16384) :
    keptW w (ix3 l r n) = w (ix3 l r ⟨keptCol n.val, keptCol_lt n.isLt⟩) := by
  unfold keptW
  have hn := n.isLt
  by_cases h0 : n.val < 1024
  · refine (cat_piece (t := S4x2048x16384) 2 _ piecesW rfl _ (ix3 l r n) 0 (by simp only [List.length_cons, List.length_nil]; decide) S4x2048x1024 _ rfl rfl 0 (by decide +kernel)
      (ix3 l r (⟨n.val - 0, by omega⟩ : Fin 1024)) (off_axis3 _ _) (by show 0 + (n.val - 0) = n.val; omega)).trans ?_
    pointwise
    refine congrArg _ (congrArg (fun q => (ix3 l r q)) (Fin.ext ?_))
    show n.val = keptCol n.val
    unfold keptCol; split_ifs <;> omega
  by_cases h1 : n.val < 2048
  · refine (cat_piece (t := S4x2048x16384) 2 _ piecesW rfl _ (ix3 l r n) 1 (by simp only [List.length_cons, List.length_nil]; decide) S4x2048x1024 _ rfl rfl 1024 (by decide +kernel)
      (ix3 l r (⟨n.val - 1024, by omega⟩ : Fin 1024)) (off_axis3 _ _) (by show 1024 + (n.val - 1024) = n.val; omega)).trans ?_
    pointwise
    refine congrArg _ (congrArg (fun q => (ix3 l r q)) (Fin.ext ?_))
    show 1024 + (n.val - 1024) = keptCol n.val
    unfold keptCol; split_ifs <;> omega
  by_cases h2 : n.val < 3072
  · refine (cat_piece (t := S4x2048x16384) 2 _ piecesW rfl _ (ix3 l r n) 2 (by simp only [List.length_cons, List.length_nil]; decide) S4x2048x1024 _ rfl rfl 2048 (by decide +kernel)
      (ix3 l r (⟨n.val - 2048, by omega⟩ : Fin 1024)) (off_axis3 _ _) (by show 2048 + (n.val - 2048) = n.val; omega)).trans ?_
    pointwise
    refine congrArg _ (congrArg (fun q => (ix3 l r q)) (Fin.ext ?_))
    show 2048 + (n.val - 2048) = keptCol n.val
    unfold keptCol; split_ifs <;> omega
  by_cases h3 : n.val < 3584
  · refine (cat_piece (t := S4x2048x16384) 2 _ piecesW rfl _ (ix3 l r n) 3 (by simp only [List.length_cons, List.length_nil]; decide) S4x2048x512 _ rfl rfl 3072 (by decide +kernel)
      (ix3 l r (⟨n.val - 3072, by omega⟩ : Fin 512)) (off_axis3 _ _) (by show 3072 + (n.val - 3072) = n.val; omega)).trans ?_
    pointwise
    refine congrArg _ (congrArg (fun q => (ix3 l r q)) (Fin.ext ?_))
    show 3072 + (n.val - 3072) = keptCol n.val
    unfold keptCol; split_ifs <;> omega
  by_cases h4 : n.val < 4096
  · refine (cat_piece (t := S4x2048x16384) 2 _ piecesW rfl _ (ix3 l r n) 4 (by simp only [List.length_cons, List.length_nil]; decide) S4x2048x512 _ rfl rfl 3584 (by decide +kernel)
      (ix3 l r (⟨n.val - 3584, by omega⟩ : Fin 512)) (off_axis3 _ _) (by show 3584 + (n.val - 3584) = n.val; omega)).trans ?_
    pointwise
    refine congrArg _ (congrArg (fun q => (ix3 l r q)) (Fin.ext ?_))
    show 3584 + (n.val - 3584) = keptCol n.val
    unfold keptCol; split_ifs <;> omega
  by_cases h5 : n.val < 5120
  · refine (cat_piece (t := S4x2048x16384) 2 _ piecesW rfl _ (ix3 l r n) 5 (by simp only [List.length_cons, List.length_nil]; decide) S4x2048x1024 _ rfl rfl 4096 (by decide +kernel)
      (ix3 l r (⟨n.val - 4096, by omega⟩ : Fin 1024)) (off_axis3 _ _) (by show 4096 + (n.val - 4096) = n.val; omega)).trans ?_
    pointwise
    refine congrArg _ (congrArg (fun q => (ix3 l r q)) (Fin.ext ?_))
    show 4096 + (n.val - 4096) = keptCol n.val
    unfold keptCol; split_ifs <;> omega
  by_cases h6 : n.val < 6144
  · refine (cat_piece (t := S4x2048x16384) 2 _ piecesW rfl _ (ix3 l r n) 6 (by simp only [List.length_cons, List.length_nil]; decide) S4x2048x1024 _ rfl rfl 5120 (by decide +kernel)
      (ix3 l r (⟨n.val - 5120, by omega⟩ : Fin 1024)) (off_axis3 _ _) (by show 5120 + (n.val - 5120) = n.val; omega)).trans ?_
    pointwise
    refine congrArg _ (congrArg (fun q => (ix3 l r q)) (Fin.ext ?_))
    show 5120 + (n.val - 5120) = keptCol n.val
    unfold keptCol; split_ifs <;> omega
  by_cases h7 : n.val < 7168
  · refine (cat_piece (t := S4x2048x16384) 2 _ piecesW rfl _ (ix3 l r n) 7 (by simp only [List.length_cons, List.length_nil]; decide) S4x2048x1024 _ rfl rfl 6144 (by decide +kernel)
      (ix3 l r (⟨n.val - 6144, by omega⟩ : Fin 1024)) (off_axis3 _ _) (by show 6144 + (n.val - 6144) = n.val; omega)).trans ?_
    pointwise
    refine congrArg _ (congrArg (fun q => (ix3 l r q)) (Fin.ext ?_))
    show 6176 + (n.val - 6144) = keptCol n.val
    unfold keptCol; split_ifs <;> omega
  by_cases h8 : n.val < 8192
  · refine (cat_piece (t := S4x2048x16384) 2 _ piecesW rfl _ (ix3 l r n) 8 (by simp only [List.length_cons, List.length_nil]; decide) S4x2048x1024 _ rfl rfl 7168 (by decide +kernel)
      (ix3 l r (⟨n.val - 7168, by omega⟩ : Fin 1024)) (off_axis3 _ _) (by show 7168 + (n.val - 7168) = n.val; omega)).trans ?_
    pointwise
    refine congrArg _ (congrArg (fun q => (ix3 l r q)) (Fin.ext ?_))
    show 7200 + (n.val - 7168) = keptCol n.val
    unfold keptCol; split_ifs <;> omega
  by_cases h9 : n.val < 9216
  · refine (cat_piece (t := S4x2048x16384) 2 _ piecesW rfl _ (ix3 l r n) 9 (by simp only [List.length_cons, List.length_nil]; decide) S4x2048x1024 _ rfl rfl 8192 (by decide +kernel)
      (ix3 l r (⟨n.val - 8192, by omega⟩ : Fin 1024)) (off_axis3 _ _) (by show 8192 + (n.val - 8192) = n.val; omega)).trans ?_
    pointwise
    refine congrArg _ (congrArg (fun q => (ix3 l r q)) (Fin.ext ?_))
    show 8224 + (n.val - 8192) = keptCol n.val
    unfold keptCol; split_ifs <;> omega
  by_cases h10 : n.val < 10240
  · refine (cat_piece (t := S4x2048x16384) 2 _ piecesW rfl _ (ix3 l r n) 10 (by simp only [List.length_cons, List.length_nil]; decide) S4x2048x1024 _ rfl rfl 9216 (by decide +kernel)
      (ix3 l r (⟨n.val - 9216, by omega⟩ : Fin 1024)) (off_axis3 _ _) (by show 9216 + (n.val - 9216) = n.val; omega)).trans ?_
    pointwise
    refine congrArg _ (congrArg (fun q => (ix3 l r q)) (Fin.ext ?_))
    show 9248 + (n.val - 9216) = keptCol n.val
    unfold keptCol; split_ifs <;> omega
  by_cases h11 : n.val < 12288
  · refine (cat_piece (t := S4x2048x16384) 2 _ piecesW rfl _ (ix3 l r n) 11 (by simp only [List.length_cons, List.length_nil]; decide) S4x2048x2048 _ rfl rfl 10240 (by decide +kernel)
      (ix3 l r (⟨n.val - 10240, by omega⟩ : Fin 2048)) (off_axis3 _ _) (by show 10240 + (n.val - 10240) = n.val; omega)).trans ?_
    pointwise
    refine congrArg _ (congrArg (fun q => (ix3 l r q)) (Fin.ext ?_))
    show 10288 + (n.val - 10240) = keptCol n.val
    unfold keptCol; split_ifs <;> omega
  by_cases h12 : n.val < 14336
  · refine (cat_piece (t := S4x2048x16384) 2 _ piecesW rfl _ (ix3 l r n) 12 (by simp only [List.length_cons, List.length_nil]; decide) S4x2048x2048 _ rfl rfl 12288 (by decide +kernel)
      (ix3 l r (⟨n.val - 12288, by omega⟩ : Fin 2048)) (off_axis3 _ _) (by show 12288 + (n.val - 12288) = n.val; omega)).trans ?_
    pointwise
    refine congrArg _ (congrArg (fun q => (ix3 l r q)) (Fin.ext ?_))
    show 12336 + (n.val - 12288) = keptCol n.val
    unfold keptCol; split_ifs <;> omega
  refine (cat_piece (t := S4x2048x16384) 2 _ piecesW rfl _ (ix3 l r n) 13 (by simp only [List.length_cons, List.length_nil]; decide) S4x2048x2048 _ rfl rfl 14336 (by decide +kernel)
      (ix3 l r (⟨n.val - 14336, by omega⟩ : Fin 2048)) (off_axis3 _ _) (by show 14336 + (n.val - 14336) = n.val; omega)).trans ?_
  pointwise
  refine congrArg _ (congrArg (fun q => (ix3 l r q)) (Fin.ext ?_))
  show 14384 + (n.val - 14336) = keptCol n.val
  unfold keptCol; split_ifs <;> omega

set_option maxHeartbeats 4000000 in
/-- Column `n` of the kept biases is column `keptCol n`. -/
theorem keptB_at (b : FVec Ideal S4x16432 .f32) (l : Fin 4) (n : Fin 16384) :
    keptB b (ix2 l n) = b (ix2 l ⟨keptCol n.val, keptCol_lt n.isLt⟩) := by
  unfold keptB
  have hn := n.isLt
  by_cases h0 : n.val < 1024
  · refine (cat_piece (t := S4x16384) 1 _ piecesB rfl _ (ix2 l n) 0 (by simp only [List.length_cons, List.length_nil]; decide) S4x1024 _ rfl rfl 0 (by decide +kernel)
      (ix2 l (⟨n.val - 0, by omega⟩ : Fin 1024)) (off_axis2 _ _) (by show 0 + (n.val - 0) = n.val; omega)).trans ?_
    pointwise
    refine congrArg _ (congrArg (fun q => (ix2 l q)) (Fin.ext ?_))
    show n.val = keptCol n.val
    unfold keptCol; split_ifs <;> omega
  by_cases h1 : n.val < 2048
  · refine (cat_piece (t := S4x16384) 1 _ piecesB rfl _ (ix2 l n) 1 (by simp only [List.length_cons, List.length_nil]; decide) S4x1024 _ rfl rfl 1024 (by decide +kernel)
      (ix2 l (⟨n.val - 1024, by omega⟩ : Fin 1024)) (off_axis2 _ _) (by show 1024 + (n.val - 1024) = n.val; omega)).trans ?_
    pointwise
    refine congrArg _ (congrArg (fun q => (ix2 l q)) (Fin.ext ?_))
    show 1024 + (n.val - 1024) = keptCol n.val
    unfold keptCol; split_ifs <;> omega
  by_cases h2 : n.val < 3072
  · refine (cat_piece (t := S4x16384) 1 _ piecesB rfl _ (ix2 l n) 2 (by simp only [List.length_cons, List.length_nil]; decide) S4x1024 _ rfl rfl 2048 (by decide +kernel)
      (ix2 l (⟨n.val - 2048, by omega⟩ : Fin 1024)) (off_axis2 _ _) (by show 2048 + (n.val - 2048) = n.val; omega)).trans ?_
    pointwise
    refine congrArg _ (congrArg (fun q => (ix2 l q)) (Fin.ext ?_))
    show 2048 + (n.val - 2048) = keptCol n.val
    unfold keptCol; split_ifs <;> omega
  by_cases h3 : n.val < 3584
  · refine (cat_piece (t := S4x16384) 1 _ piecesB rfl _ (ix2 l n) 3 (by simp only [List.length_cons, List.length_nil]; decide) S4x512 _ rfl rfl 3072 (by decide +kernel)
      (ix2 l (⟨n.val - 3072, by omega⟩ : Fin 512)) (off_axis2 _ _) (by show 3072 + (n.val - 3072) = n.val; omega)).trans ?_
    pointwise
    refine congrArg _ (congrArg (fun q => (ix2 l q)) (Fin.ext ?_))
    show 3072 + (n.val - 3072) = keptCol n.val
    unfold keptCol; split_ifs <;> omega
  by_cases h4 : n.val < 4096
  · refine (cat_piece (t := S4x16384) 1 _ piecesB rfl _ (ix2 l n) 4 (by simp only [List.length_cons, List.length_nil]; decide) S4x512 _ rfl rfl 3584 (by decide +kernel)
      (ix2 l (⟨n.val - 3584, by omega⟩ : Fin 512)) (off_axis2 _ _) (by show 3584 + (n.val - 3584) = n.val; omega)).trans ?_
    pointwise
    refine congrArg _ (congrArg (fun q => (ix2 l q)) (Fin.ext ?_))
    show 3584 + (n.val - 3584) = keptCol n.val
    unfold keptCol; split_ifs <;> omega
  by_cases h5 : n.val < 5120
  · refine (cat_piece (t := S4x16384) 1 _ piecesB rfl _ (ix2 l n) 5 (by simp only [List.length_cons, List.length_nil]; decide) S4x1024 _ rfl rfl 4096 (by decide +kernel)
      (ix2 l (⟨n.val - 4096, by omega⟩ : Fin 1024)) (off_axis2 _ _) (by show 4096 + (n.val - 4096) = n.val; omega)).trans ?_
    pointwise
    refine congrArg _ (congrArg (fun q => (ix2 l q)) (Fin.ext ?_))
    show 4096 + (n.val - 4096) = keptCol n.val
    unfold keptCol; split_ifs <;> omega
  by_cases h6 : n.val < 6144
  · refine (cat_piece (t := S4x16384) 1 _ piecesB rfl _ (ix2 l n) 6 (by simp only [List.length_cons, List.length_nil]; decide) S4x1024 _ rfl rfl 5120 (by decide +kernel)
      (ix2 l (⟨n.val - 5120, by omega⟩ : Fin 1024)) (off_axis2 _ _) (by show 5120 + (n.val - 5120) = n.val; omega)).trans ?_
    pointwise
    refine congrArg _ (congrArg (fun q => (ix2 l q)) (Fin.ext ?_))
    show 5120 + (n.val - 5120) = keptCol n.val
    unfold keptCol; split_ifs <;> omega
  by_cases h7 : n.val < 7168
  · refine (cat_piece (t := S4x16384) 1 _ piecesB rfl _ (ix2 l n) 7 (by simp only [List.length_cons, List.length_nil]; decide) S4x1024 _ rfl rfl 6144 (by decide +kernel)
      (ix2 l (⟨n.val - 6144, by omega⟩ : Fin 1024)) (off_axis2 _ _) (by show 6144 + (n.val - 6144) = n.val; omega)).trans ?_
    pointwise
    refine congrArg _ (congrArg (fun q => (ix2 l q)) (Fin.ext ?_))
    show 6176 + (n.val - 6144) = keptCol n.val
    unfold keptCol; split_ifs <;> omega
  by_cases h8 : n.val < 8192
  · refine (cat_piece (t := S4x16384) 1 _ piecesB rfl _ (ix2 l n) 8 (by simp only [List.length_cons, List.length_nil]; decide) S4x1024 _ rfl rfl 7168 (by decide +kernel)
      (ix2 l (⟨n.val - 7168, by omega⟩ : Fin 1024)) (off_axis2 _ _) (by show 7168 + (n.val - 7168) = n.val; omega)).trans ?_
    pointwise
    refine congrArg _ (congrArg (fun q => (ix2 l q)) (Fin.ext ?_))
    show 7200 + (n.val - 7168) = keptCol n.val
    unfold keptCol; split_ifs <;> omega
  by_cases h9 : n.val < 9216
  · refine (cat_piece (t := S4x16384) 1 _ piecesB rfl _ (ix2 l n) 9 (by simp only [List.length_cons, List.length_nil]; decide) S4x1024 _ rfl rfl 8192 (by decide +kernel)
      (ix2 l (⟨n.val - 8192, by omega⟩ : Fin 1024)) (off_axis2 _ _) (by show 8192 + (n.val - 8192) = n.val; omega)).trans ?_
    pointwise
    refine congrArg _ (congrArg (fun q => (ix2 l q)) (Fin.ext ?_))
    show 8224 + (n.val - 8192) = keptCol n.val
    unfold keptCol; split_ifs <;> omega
  by_cases h10 : n.val < 10240
  · refine (cat_piece (t := S4x16384) 1 _ piecesB rfl _ (ix2 l n) 10 (by simp only [List.length_cons, List.length_nil]; decide) S4x1024 _ rfl rfl 9216 (by decide +kernel)
      (ix2 l (⟨n.val - 9216, by omega⟩ : Fin 1024)) (off_axis2 _ _) (by show 9216 + (n.val - 9216) = n.val; omega)).trans ?_
    pointwise
    refine congrArg _ (congrArg (fun q => (ix2 l q)) (Fin.ext ?_))
    show 9248 + (n.val - 9216) = keptCol n.val
    unfold keptCol; split_ifs <;> omega
  by_cases h11 : n.val < 12288
  · refine (cat_piece (t := S4x16384) 1 _ piecesB rfl _ (ix2 l n) 11 (by simp only [List.length_cons, List.length_nil]; decide) S4x2048 _ rfl rfl 10240 (by decide +kernel)
      (ix2 l (⟨n.val - 10240, by omega⟩ : Fin 2048)) (off_axis2 _ _) (by show 10240 + (n.val - 10240) = n.val; omega)).trans ?_
    pointwise
    refine congrArg _ (congrArg (fun q => (ix2 l q)) (Fin.ext ?_))
    show 10288 + (n.val - 10240) = keptCol n.val
    unfold keptCol; split_ifs <;> omega
  by_cases h12 : n.val < 14336
  · refine (cat_piece (t := S4x16384) 1 _ piecesB rfl _ (ix2 l n) 12 (by simp only [List.length_cons, List.length_nil]; decide) S4x2048 _ rfl rfl 12288 (by decide +kernel)
      (ix2 l (⟨n.val - 12288, by omega⟩ : Fin 2048)) (off_axis2 _ _) (by show 12288 + (n.val - 12288) = n.val; omega)).trans ?_
    pointwise
    refine congrArg _ (congrArg (fun q => (ix2 l q)) (Fin.ext ?_))
    show 12336 + (n.val - 12288) = keptCol n.val
    unfold keptCol; split_ifs <;> omega
  refine (cat_piece (t := S4x16384) 1 _ piecesB rfl _ (ix2 l n) 13 (by simp only [List.length_cons, List.length_nil]; decide) S4x2048 _ rfl rfl 14336 (by decide +kernel)
      (ix2 l (⟨n.val - 14336, by omega⟩ : Fin 2048)) (off_axis2 _ _) (by show 14336 + (n.val - 14336) = n.val; omega)).trans ?_
  pointwise
  refine congrArg _ (congrArg (fun q => (ix2 l q)) (Fin.ext ?_))
  show 14384 + (n.val - 14336) = keptCol n.val
  unfold keptCol; split_ifs <;> omega

set_option maxHeartbeats 4000000 in
/-- The weights the host lays out. -/
theorem host_w (c : Dev nD) : (V m c main_v28 : FVec Ideal S4x2048x16384 .bf16) = keptW (m ((c.tc : Thread nD τ).loc main_arg1)) := by
  show StableHlo.after _ _ _ = _
  simp only [hostOps0, hostOps0_1, hostOps0_2, hostOps0_3, hostOps0_4,
    List.flatten_cons, List.flatten_nil, List.append_nil, List.cons_append, List.nil_append]
  after_results
  rfl

set_option maxHeartbeats 4000000 in
/-- The biases the host lays out. -/
theorem host_b (c : Dev nD) : (V m c main_v58 : FVec Ideal S1x16384 .f32)
    = shapeCast S1x16384 (shapeCast S16384 (extractStridedSlice S1x16384 ![0, 0] (keptB (m ((c.tc : Thread nD τ).loc main_arg2))) slices_S4x16384_S1x16384_0_0) shapeCasts_S1x16384_S16384) shapeCasts_S16384_S1x16384 := by
  show StableHlo.after _ _ _ = _
  simp only [hostOps0, hostOps0_1, hostOps0_2, hostOps0_3, hostOps0_4,
    List.flatten_cons, List.flatten_nil, List.append_nil, List.cons_append, List.nil_append]
  after_results
  rfl

/-- The weights the host lays out, entry by entry. -/
theorem weight_at (c : Dev nD) (k : Fin 2048) (n : Fin 16384) :
    (V m c main_v28 : FVec Ideal S4x2048x16384 .bf16) (ix3 0 k n) = (m ((c.tc : Thread nD τ).loc main_arg1) : FVec Ideal S4x2048x16432 .f32) (ix3 0 k ⟨keptCol n.val, keptCol_lt n.isLt⟩) :=
  (congrFun (host_w m c) _).trans (keptW_at _ _ _ _)

/-- Those casts and that slice keep the first row. -/
theorem row_at (x : FVec Ideal S4x16384 .f32) (n : Fin 16384) :
    shapeCast S1x16384 (shapeCast S16384 (extractStridedSlice S1x16384 ![0, 0] x slices_S4x16384_S1x16384_0_0) shapeCasts_S1x16384_S16384) shapeCasts_S16384_S1x16384 (ix2 0 n) = x (ix2 0 n) := by
  pointwise

/-- The biases the host lays out, entry by entry. -/
theorem bias_at (c : Dev nD) (n : Fin 16384) :
    (V m c main_v58 : FVec Ideal S1x16384 .f32) (ix2 0 n) = (m ((c.tc : Thread nD τ).loc main_arg2) : FVec Ideal S4x16432 .f32) (ix2 0 ⟨keptCol n.val, keptCol_lt n.isLt⟩) :=
  (congrFun (host_b m c) _).trans ((row_at _ _).trans (keptB_at _ _ _))

end Cert.Calls.InProj
-- ==== Proof.Calls.InProjKernel.lean ====
module

public import proofs.«01_k».proof.Proof.Calls.InProjHost
public import proofs.«01_k».proof.Proof.Gen.KernelInProjIdeal.Value
public import proofs.«01_k».proof.Proof.Gen.KernelInProjIdeal.Frame
public import Idealize.ShloMosaic.Lib.StableHlo.ReadAt

/-!
# The input projection: the kernel's result
-/

@[expose] public section

set_option maxRecDepth 16384

noncomputable section

open Idealize.ShloMosaic Idealize.ShloMosaic.TcCoe Idealize.SL.Sem Idealize.ShloMosaic.StableHlo
open Cert.KernelInProjIdeal Cert.KernelInProjIdeal.Gen

namespace Cert.Calls.InProj

variable (m : (ℓ : Loc nD τ sig) → Buf (Elt Ideal) ℓ)

/-- The blocks the grid points read and write. -/
theorem idx : ∀ t : Fin cfg0.N, win0_0.index t = ![t.val % 8, 0] ∧ win0_1.index t = ![0, 0, t.val / 8] ∧ win0_2.index t = ![0, t.val / 8]
    ∧ win0_3.index t = ![t.val % 8, t.val / 8] := (by decide +kernel : ∀ t : Fin grid0.N, _)

/-- The kept columns of the input projection. -/
def result (c : Dev nD) : FVec Ideal S8192x16384 .f32 := fun j =>
  inProjAt (fun r k => (m ((c.tc : Thread nD τ).loc main_arg0) : FVec Ideal S8192x2048 .bf16) (ix2 r k)) (fun k n => (m ((c.tc : Thread nD τ).loc main_arg1) : FVec Ideal S4x2048x16432 .f32) (ix3 0 k n))
    (fun n => (m ((c.tc : Thread nD τ).loc main_arg2) : FVec Ideal S4x16432 .f32) (ix2 0 n)) (j 0) (j 1)

/-- The rows' block. -/
theorem block0 (c : Dev nD) (t : Fin cfg0.N) (y : Fin 1024) (k : Fin 2048) (r : Fin 8192) (hr : r.val = t.val % 8 * 1024 + y.val) :
    (iblk m c 0 t : FVec Ideal S1024x2048 .bf16) (ix2 y k) = (m ((c.tc : Thread nD τ).loc main_arg0) : FVec Ideal S8192x2048 .bf16) (ix2 r k) := by
  blk_ext [iblk, V, idx t]

/-- The weights' block. -/
theorem block1 (c : Dev nD) (t : Fin cfg0.N) (y k : Fin 2048) (n : Fin 16384) (hn : n.val = t.val / 8 * 2048 + y.val) :
    (iblk m c 1 t : FVec Ideal S1x2048x2048 .bf16) (ix3 0 k y) = (V m c main_v28 : FVec Ideal S4x2048x16384 .bf16) (ix3 0 k n) := by
  blk_ext [iblk, idx t]

/-- The biases' block. -/
theorem block2 (c : Dev nD) (t : Fin cfg0.N) (y : Fin 2048) (n : Fin 16384) (hn : n.val = t.val / 8 * 2048 + y.val) :
    (iblk m c 2 t : FVec Ideal S1x2048 .f32) (ix2 0 y) = (V m c main_v58 : FVec Ideal S1x16384 .f32) (ix2 0 n) := by
  blk_ext [iblk, idx t]

/-- The body of a block: rows times columns, plus the bias. -/
theorem pay_at (x : FVec Ideal S1024x2048 .bf16) (w : FVec Ideal S1x2048x2048 .bf16) (b : FVec Ideal S1x2048 .f32) (y : S1024x2048.Idx) :
    k0_pay1 (F := Ideal) x w b y = (∑ k : Fin 2048, x (ix2 (y 0) k) * w (ix3 0 k (y 1))) + b (ix2 0 (y 1)) := by
  pointwise [k0_pay1]

/-- What one grid point stores is its block of `result`. -/
theorem point_at (c : Dev nD) (t : Fin cfg0.N) (y : S1024x2048.Idx) (r : Fin 8192) (n : Fin 16384)
    (hr : r.val = t.val % 8 * 1024 + (y 0).val) (hn : n.val = t.val / 8 * 2048 + (y 1).val) :
    k0_pay1 (F := Ideal) (iblk m c 0 t) (iblk m c 1 t) (iblk m c 2 t) y
      = inProjAt (fun r k => (m ((c.tc : Thread nD τ).loc main_arg0) : FVec Ideal S8192x2048 .bf16) (ix2 r k)) (fun k n => (m ((c.tc : Thread nD τ).loc main_arg1) : FVec Ideal S4x2048x16432 .f32) (ix3 0 k n))
    (fun n => (m ((c.tc : Thread nD τ).loc main_arg2) : FVec Ideal S4x16432 .f32) (ix2 0 n)) r n := by
  refine (pay_at _ _ _ y).trans ?_
  unfold inProjAt
  exact congrArg₂ (· + ·) (Finset.sum_congr rfl fun k _ => congrArg₂ (· * ·) (block0 m c t (y 0) k r hr)
    ((block1 m c t (y 1) k n hn).trans (weight_at m c k n))) ((block2 m c t (y 1) n hn).trans (bias_at m c n))

/-- What one grid point stores, at the place it stores it. -/
theorem point (c : Dev nD) (t : Fin cfg0.N) (y) : k0_pay1 (F := Ideal) (iblk m c 0 t) (iblk m c 1 t) (iblk m c 2 t) y = result m c (((cfg0.win 3).blk t).view.emb y) := by
  refine point_at m c t y _ _ ?_ ?_
  · blk_simp [idx t]
  · blk_simp [idx t]

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.Calls.InProj
-- ==== Proof.Calls.InProjRef.lean ====
module

public import proofs.«01_k».proof.Proof.Calls.Spec
public import proofs.«01_k».proof.Proof.Gen.ReferenceInProjIdeal.Run

/-!
# The input projection: the reference's result
-/

@[expose] public section

set_option maxRecDepth 16384

noncomputable section

open Idealize.ShloMosaic Idealize.ShloMosaic.TcCoe Idealize.SL.Sem Idealize.ShloMosaic.StableHlo
open Cert.ReferenceInProjIdeal Cert.ReferenceInProjIdeal.Gen Cert.ReferenceInProjIdeal.Value

namespace Cert.Calls.InProj

variable (m : (ℓ : Loc nD τ sig) → Buf (Elt Ideal) ℓ)

/-- The kept columns of `z`, side by side. -/
def kept (z : FVec Ideal S8192x16432 .f32) : FVec Ideal S8192x16384 .f32 :=
  (concatenate S8192x16384 1 [⟨S8192x1024, ((extractStridedSlice S8192x1024 ![0, 0] z slices_S8192x16432_S8192x1024_0_0) : (⟨S8192x1024, .f32⟩ : BufTy).Contents (Elt Ideal))⟩, ⟨S8192x1024, ((extractStridedSlice S8192x1024 ![0, 1024] z slices_S8192x16432_S8192x1024_0_1024) : (⟨S8192x1024, .f32⟩ : BufTy).Contents (Elt Ideal))⟩, ⟨S8192x1024, ((extractStridedSlice S8192x1024 ![0, 2048] z slices_S8192x16432_S8192x1024_0_2048) : (⟨S8192x1024, .f32⟩ : BufTy).Contents (Elt Ideal))⟩, ⟨S8192x512, ((extractStridedSlice S8192x512 ![0, 3072] z slices_S8192x16432_S8192x512_0_3072) : (⟨S8192x512, .f32⟩ : BufTy).Contents (Elt Ideal))⟩, ⟨S8192x512, ((extractStridedSlice S8192x512 ![0, 3584] z slices_S8192x16432_S8192x512_0_3584) : (⟨S8192x512, .f32⟩ : BufTy).Contents (Elt Ideal))⟩, ⟨S8192x1024, ((extractStridedSlice S8192x1024 ![0, 4096] z slices_S8192x16432_S8192x1024_0_4096) : (⟨S8192x1024, .f32⟩ : BufTy).Contents (Elt Ideal))⟩, ⟨S8192x1024, ((extractStridedSlice S8192x1024 ![0, 5120] z slices_S8192x16432_S8192x1024_0_5120) : (⟨S8192x1024, .f32⟩ : BufTy).Contents (Elt Ideal))⟩, ⟨S8192x1024, ((extractStridedSlice S8192x1024 ![0, 6176] z slices_S8192x16432_S8192x1024_0_6176) : (⟨S8192x1024, .f32⟩ : BufTy).Contents (Elt Ideal))⟩, ⟨S8192x1024, ((extractStridedSlice S8192x1024 ![0, 7200] z slices_S8192x16432_S8192x1024_0_7200) : (⟨S8192x1024, .f32⟩ : BufTy).Contents (Elt Ideal))⟩, ⟨S8192x1024, ((extractStridedSlice S8192x1024 ![0, 8224] z slices_S8192x16432_S8192x1024_0_8224) : (⟨S8192x1024, .f32⟩ : BufTy).Contents (Elt Ideal))⟩, ⟨S8192x1024, ((extractStridedSlice S8192x1024 ![0, 9248] z slices_S8192x16432_S8192x1024_0_9248) : (⟨S8192x1024, .f32⟩ : BufTy).Contents (Elt Ideal))⟩, ⟨S8192x2048, ((extractStridedSlice S8192x2048 ![0, 10288] z slices_S8192x16432_S8192x2048_0_10288) : (⟨S8192x2048, .f32⟩ : BufTy).Contents (Elt Ideal))⟩, ⟨S8192x2048, ((extractStridedSlice S8192x2048 ![0, 12336] z slices_S8192x16432_S8192x2048_0_12336) : (⟨S8192x2048, .f32⟩ : BufTy).Contents (Elt Ideal))⟩, ⟨S8192x2048, ((extractStridedSlice S8192x2048 ![0, 14384] z slices_S8192x16432_S8192x2048_0_14384) : (⟨S8192x2048, .f32⟩ : BufTy).Contents (Elt Ideal))⟩] concatenates_S8192x1024_S8192x1024_S8192x1024_S8192x512_S8192x512_S8192x1024_S8192x1024_S8192x1024_S8192x1024_S8192x1024_S8192x1024_S8192x2048_S8192x2048_S8192x2048_S8192x16384_d1 : (⟨S8192x16384, .f32⟩ : BufTy).Contents (Elt Ideal))

/-- The widths of the kept parts. -/
def pieces : List Shape := [S8192x1024, S8192x1024, S8192x1024, S8192x512, S8192x512, S8192x1024, S8192x1024, S8192x1024, S8192x1024, S8192x1024, S8192x1024, S8192x2048, S8192x2048, S8192x2048]

set_option maxHeartbeats 4000000 in
/-- Column `n` of the kept columns is column `keptCol n`. -/
theorem kept_at (z : FVec Ideal S8192x16432 .f32) (r : Fin 8192) (n : Fin 16384) :
    kept z (ix2 r n) = z (ix2 r ⟨keptCol n.val, keptCol_lt n.isLt⟩) := by
  unfold kept
  have hn := n.isLt
  by_cases h0 : n.val < 1024
  · refine (cat_piece (t := S8192x16384) 1 _ pieces rfl _ (ix2 r n) 0 (by simp only [List.length_cons, List.length_nil]; decide) S8192x1024 _ rfl rfl 0 (by decide +kernel)
      (ix2 r (⟨n.val - 0, by omega⟩ : Fin 1024)) (off_axis2 _ _) (by show 0 + (n.val - 0) = n.val; omega)).trans ?_
    pointwise
    refine congrArg _ (congrArg (fun q => (ix2 r q)) (Fin.ext ?_))
    show n.val = keptCol n.val
    unfold keptCol; split_ifs <;> omega
  by_cases h1 : n.val < 2048
  · refine (cat_piece (t := S8192x16384) 1 _ pieces rfl _ (ix2 r n) 1 (by simp only [List.length_cons, List.length_nil]; decide) S8192x1024 _ rfl rfl 1024 (by decide +kernel)
      (ix2 r (⟨n.val - 1024, by omega⟩ : Fin 1024)) (off_axis2 _ _) (by show 1024 + (n.val - 1024) = n.val; omega)).trans ?_
    pointwise
    refine congrArg _ (congrArg (fun q => (ix2 r q)) (Fin.ext ?_))
    show 1024 + (n.val - 1024) = keptCol n.val
    unfold keptCol; split_ifs <;> omega
  by_cases h2 : n.val < 3072
  · refine (cat_piece (t := S8192x16384) 1 _ pieces rfl _ (ix2 r n) 2 (by simp only [List.length_cons, List.length_nil]; decide) S8192x1024 _ rfl rfl 2048 (by decide +kernel)
      (ix2 r (⟨n.val - 2048, by omega⟩ : Fin 1024)) (off_axis2 _ _) (by show 2048 + (n.val - 2048) = n.val; omega)).trans ?_
    pointwise
    refine congrArg _ (congrArg (fun q => (ix2 r q)) (Fin.ext ?_))
    show 2048 + (n.val - 2048) = keptCol n.val
    unfold keptCol; split_ifs <;> omega
  by_cases h3 : n.val < 3584
  · refine (cat_piece (t := S8192x16384) 1 _ pieces rfl _ (ix2 r n) 3 (by simp only [List.length_cons, List.length_nil]; decide) S8192x512 _ rfl rfl 3072 (by decide +kernel)
      (ix2 r (⟨n.val - 3072, by omega⟩ : Fin 512)) (off_axis2 _ _) (by show 3072 + (n.val - 3072) = n.val; omega)).trans ?_
    pointwise
    refine congrArg _ (congrArg (fun q => (ix2 r q)) (Fin.ext ?_))
    show 3072 + (n.val - 3072) = keptCol n.val
    unfold keptCol; split_ifs <;> omega
  by_cases h4 : n.val < 4096
  · refine (cat_piece (t := S8192x16384) 1 _ pieces rfl _ (ix2 r n) 4 (by simp only [List.length_cons, List.length_nil]; decide) S8192x512 _ rfl rfl 3584 (by decide +kernel)
      (ix2 r (⟨n.val - 3584, by omega⟩ : Fin 512)) (off_axis2 _ _) (by show 3584 + (n.val - 3584) = n.val; omega)).trans ?_
    pointwise
    refine congrArg _ (congrArg (fun q => (ix2 r q)) (Fin.ext ?_))
    show 3584 + (n.val - 3584) = keptCol n.val
    unfold keptCol; split_ifs <;> omega
  by_cases h5 : n.val < 5120
  · refine (cat_piece (t := S8192x16384) 1 _ pieces rfl _ (ix2 r n) 5 (by simp only [List.length_cons, List.length_nil]; decide) S8192x1024 _ rfl rfl 4096 (by decide +kernel)
      (ix2 r (⟨n.val - 4096, by omega⟩ : Fin 1024)) (off_axis2 _ _) (by show 4096 + (n.val - 4096) = n.val; omega)).trans ?_
    pointwise
    refine congrArg _ (congrArg (fun q => (ix2 r q)) (Fin.ext ?_))
    show 4096 + (n.val - 4096) = keptCol n.val
    unfold keptCol; split_ifs <;> omega
  by_cases h6 : n.val < 6144
  · refine (cat_piece (t := S8192x16384) 1 _ pieces rfl _ (ix2 r n) 6 (by simp only [List.length_cons, List.length_nil]; decide) S8192x1024 _ rfl rfl 5120 (by decide +kernel)
      (ix2 r (⟨n.val - 5120, by omega⟩ : Fin 1024)) (off_axis2 _ _) (by show 5120 + (n.val - 5120) = n.val; omega)).trans ?_
    pointwise
    refine congrArg _ (congrArg (fun q => (ix2 r q)) (Fin.ext ?_))
    show 5120 + (n.val - 5120) = keptCol n.val
    unfold keptCol; split_ifs <;> omega
  by_cases h7 : n.val < 7168
  · refine (cat_piece (t := S8192x16384) 1 _ pieces rfl _ (ix2 r n) 7 (by simp only [List.length_cons, List.length_nil]; decide) S8192x1024 _ rfl rfl 6144 (by decide +kernel)
      (ix2 r (⟨n.val - 6144, by omega⟩ : Fin 1024)) (off_axis2 _ _) (by show 6144 + (n.val - 6144) = n.val; omega)).trans ?_
    pointwise
    refine congrArg _ (congrArg (fun q => (ix2 r q)) (Fin.ext ?_))
    show 6176 + (n.val - 6144) = keptCol n.val
    unfold keptCol; split_ifs <;> omega
  by_cases h8 : n.val < 8192
  · refine (cat_piece (t := S8192x16384) 1 _ pieces rfl _ (ix2 r n) 8 (by simp only [List.length_cons, List.length_nil]; decide) S8192x1024 _ rfl rfl 7168 (by decide +kernel)
      (ix2 r (⟨n.val - 7168, by omega⟩ : Fin 1024)) (off_axis2 _ _) (by show 7168 + (n.val - 7168) = n.val; omega)).trans ?_
    pointwise
    refine congrArg _ (congrArg (fun q => (ix2 r q)) (Fin.ext ?_))
    show 7200 + (n.val - 7168) = keptCol n.val
    unfold keptCol; split_ifs <;> omega
  by_cases h9 : n.val < 9216
  · refine (cat_piece (t := S8192x16384) 1 _ pieces rfl _ (ix2 r n) 9 (by simp only [List.length_cons, List.length_nil]; decide) S8192x1024 _ rfl rfl 8192 (by decide +kernel)
      (ix2 r (⟨n.val - 8192, by omega⟩ : Fin 1024)) (off_axis2 _ _) (by show 8192 + (n.val - 8192) = n.val; omega)).trans ?_
    pointwise
    refine congrArg _ (congrArg (fun q => (ix2 r q)) (Fin.ext ?_))
    show 8224 + (n.val - 8192) = keptCol n.val
    unfold keptCol; split_ifs <;> omega
  by_cases h10 : n.val < 10240
  · refine (cat_piece (t := S8192x16384) 1 _ pieces rfl _ (ix2 r n) 10 (by simp only [List.length_cons, List.length_nil]; decide) S8192x1024 _ rfl rfl 9216 (by decide +kernel)
      (ix2 r (⟨n.val - 9216, by omega⟩ : Fin 1024)) (off_axis2 _ _) (by show 9216 + (n.val - 9216) = n.val; omega)).trans ?_
    pointwise
    refine congrArg _ (congrArg (fun q => (ix2 r q)) (Fin.ext ?_))
    show 9248 + (n.val - 9216) = keptCol n.val
    unfold keptCol; split_ifs <;> omega
  by_cases h11 : n.val < 12288
  · refine (cat_piece (t := S8192x16384) 1 _ pieces rfl _ (ix2 r n) 11 (by simp only [List.length_cons, List.length_nil]; decide) S8192x2048 _ rfl rfl 10240 (by decide +kernel)
      (ix2 r (⟨n.val - 10240, by omega⟩ : Fin 2048)) (off_axis2 _ _) (by show 10240 + (n.val - 10240) = n.val; omega)).trans ?_
    pointwise
    refine congrArg _ (congrArg (fun q => (ix2 r q)) (Fin.ext ?_))
    show 10288 + (n.val - 10240) = keptCol n.val
    unfold keptCol; split_ifs <;> omega
  by_cases h12 : n.val < 14336
  · refine (cat_piece (t := S8192x16384) 1 _ pieces rfl _ (ix2 r n) 12 (by simp only [List.length_cons, List.length_nil]; decide) S8192x2048 _ rfl rfl 12288 (by decide +kernel)
      (ix2 r (⟨n.val - 12288, by omega⟩ : Fin 2048)) (off_axis2 _ _) (by show 12288 + (n.val - 12288) = n.val; omega)).trans ?_
    pointwise
    refine congrArg _ (congrArg (fun q => (ix2 r q)) (Fin.ext ?_))
    show 12336 + (n.val - 12288) = keptCol n.val
    unfold keptCol; split_ifs <;> omega
  refine (cat_piece (t := S8192x16384) 1 _ pieces rfl _ (ix2 r n) 13 (by simp only [List.length_cons, List.length_nil]; decide) S8192x2048 _ rfl rfl 14336 (by decide +kernel)
      (ix2 r (⟨n.val - 14336, by omega⟩ : Fin 2048)) (off_axis2 _ _) (by show 14336 + (n.val - 14336) = n.val; omega)).trans ?_
  pointwise
  refine congrArg _ (congrArg (fun q => (ix2 r q)) (Fin.ext ?_))
  show 14384 + (n.val - 14336) = keptCol n.val
  unfold keptCol; split_ifs <;> omega

/-- The whole projection. -/
def whole (h : FVec Ideal S8192x2048 .bf16) (w : FVec Ideal S4x2048x16432 .f32) (b : FVec Ideal S4x16432 .f32) : FVec Ideal S8192x16432 .f32 :=
  (addf (Host.dotGeneral dot_S8192x2048_S2048x16432_S8192x16432_1_0_0_1_n_n none (extf .f32 h bitsLt_bf16_f32) (shapeCast _ (extractStridedSlice S1x2048x16432 ![0, 0, 0] w slices_S4x2048x16432_S1x2048x16432_0_0_0) shapeCasts_S1x2048x16432_S2048x16432)) (broadcastInDim S8192x16432 ![0, 1] bcast_S1x16432_S8192x16432_0_1 (broadcastInDim S1x16432 ![1] bcast_S16432_S1x16432_1 (shapeCast _ (extractStridedSlice S1x16432 ![0, 0] b slices_S4x16432_S1x16432_0_0) shapeCasts_S1x16432_S16432))))

/-- The whole projection, entry by entry. -/
theorem whole_at (h : FVec Ideal S8192x2048 .bf16) (w : FVec Ideal S4x2048x16432 .f32) (b : FVec Ideal S4x16432 .f32) (r : Fin 8192) (n : Fin 16432) :
    whole h w b (ix2 r n) = (∑ k : Fin 2048, h (ix2 r k) * w (ix3 0 k n)) + b (ix2 0 n) := by
  pointwise [whole]

/-- The kept columns of the input projection. -/
def refResult (c : Dev nD) : FVec Ideal S8192x16384 .f32 := fun j =>
  inProjAt (fun r k => (m ((c.tc : Thread nD τ).loc main_arg0) : FVec Ideal S8192x2048 .bf16) (ix2 r k)) (fun k n => (m ((c.tc : Thread nD τ).loc main_arg1) : FVec Ideal S4x2048x16432 .f32) (ix3 0 k n))
    (fun n => (m ((c.tc : Thread nD τ).loc main_arg2) : FVec Ideal S4x16432 .f32) (ix2 0 n)) (j 0) (j 1)

/-- The reference's term is the kept columns of the whole projection. -/
theorem term_eq (c : Dev nD) : (res_main_v27 m c : FVec Ideal S8192x16384 .f32)
    = kept (whole (m ((c.tc : Thread nD τ).loc main_arg0)) (m ((c.tc : Thread nD τ).loc main_arg1)) (m ((c.tc : Thread nD τ).loc main_arg2))) := rfl

/-- The reference's result is the kept columns. -/
theorem ref_eq (c : Dev nD) : (res_main_v27 m c : FVec Ideal S8192x16384 .f32) = refResult m c := by
  refine (term_eq m c).trans (funext fun j => ?_)
  obtain ⟨r, n, rfl⟩ : ∃ (r : Fin 8192) (n : Fin 16384), j = ix2 r n := ⟨j 0, j 1, eq_ix2 j⟩
  exact (kept_at _ r n).trans (whole_at _ _ _ r _)

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v27) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq m c), (h c).2⟩) (run m ρ)

end Cert.Calls.InProj
-- ==== Proof.Calls.MergeKernel.lean ====
module

public import proofs.«01_k».proof.Proof.Calls.Spec
public import proofs.«01_k».proof.Proof.Gen.KernelMergeIdeal.Value
public import proofs.«01_k».proof.Proof.Gen.KernelMergeIdeal.Frame
public import Idealize.ShloMosaic.Lib.StableHlo.ReadAt

/-!
# The gated merge: the kernel's result
-/

@[expose] public section

set_option maxRecDepth 16384

noncomputable section

open Idealize.ShloMosaic Idealize.ShloMosaic.TcCoe Idealize.SL.Sem Idealize.ShloMosaic.StableHlo
open Cert.KernelMergeIdeal Cert.KernelMergeIdeal.Gen

namespace Cert.Calls.Merge

variable (m : (ℓ : Loc nD τ sig) → Buf (Elt Ideal) ℓ)

/-- The blocks the grid points read and write. -/
theorem idx : ∀ t : Fin cfg0.N, win0_0.index t = ![min (t.val % 16) 7, 0] ∧ win0_1.index t = ![t.val % 16 - 8, 0]
    ∧ win0_2.index t = ![min (t.val % 16) 7, 0] ∧ win0_3.index t = ![t.val % 16 - 8, 0]
    ∧ win0_4.index t = ![min (t.val % 16) 7, 0] ∧ win0_5.index t = ![t.val % 16 - 8, 0]
    ∧ win0_6.index t = ![0, 0, 0, t.val / 16]
    ∧ win0_7.index t = ![t.val % 16, 10 + t.val / 16] ∧ win0_8.index t = ![t.val % 16, 12 + t.val / 16]
    ∧ win0_9.index t = ![t.val % 16, 14 + t.val / 16] ∧ win0_10.index t = ![t.val % 16, t.val / 16] := (by decide +kernel : ∀ t : Fin grid0.N, _)

/-- Which rows a grid point takes: the first eight blocks of rows are the prompt's. -/
theorem side : ∀ t : Fin cfg0.N, Scalar.cmpi CmpIPredicate.slt (BitVec.ofNat 32 (grid0.coords t 1).val) 8#32
    = if t.val % 16 < 8 then 1#1 else 0#1 := (by decide +kernel : ∀ t : Fin grid0.N, _)

/-- The gated merge of the branches. -/
def result (c : Dev nD) : FVec Ideal S8192x2048 .bf16 := fun j => mergedAt (fun r k => (m ((c.tc : Thread nD τ).loc main_arg0) : FVec Ideal S4096x1024 .bf16) (ix2 r k)) (fun r k => (m ((c.tc : Thread nD τ).loc main_arg1) : FVec Ideal S4096x1024 .bf16) (ix2 r k)) (fun r k => (m ((c.tc : Thread nD τ).loc main_arg2) : FVec Ideal S4096x1024 .bf16) (ix2 r k)) (fun r k => (m ((c.tc : Thread nD τ).loc main_arg3) : FVec Ideal S4096x1024 .bf16) (ix2 r k)) (fun r k => (m ((c.tc : Thread nD τ).loc main_arg4) : FVec Ideal S4096x1024 .bf16) (ix2 r k)) (fun r k => (m ((c.tc : Thread nD τ).loc main_arg5) : FVec Ideal S4096x1024 .bf16) (ix2 r k))
    (fun g k q => (m ((c.tc : Thread nD τ).loc main_arg6) : FVec Ideal S4x3x1024x2048 .f32) (ix4 0 g k q)) (fun r n => (m ((c.tc : Thread nD τ).loc main_arg7) : FVec Ideal S8192x16384 .f32) (ix2 r n)) (j 0) (j 1)

/-- The rows of branch 1 that a grid point takes: the prompt's below row 4096, the grid's from there on. -/
theorem sel0 (c : Dev nD) (t : Fin cfg0.N) (y : Fin 512) (k : Fin 1024) (r : Fin 8192) (hr : r.val = t.val % 16 * 512 + y.val) :
    Scalar.select (Scalar.cmpi CmpIPredicate.slt (BitVec.ofNat 32 (grid0.coords t 1).val) 8#32)
      ((iblk m c 0 t : FVec Ideal S512x1024 .bf16) (ix2 y k)) ((iblk m c 1 t : FVec Ideal S512x1024 .bf16) (ix2 y k))
    = rowOf (fun r k => (m ((c.tc : Thread nD τ).loc main_arg0) : FVec Ideal S4096x1024 .bf16) (ix2 r k)) (fun r k => (m ((c.tc : Thread nD τ).loc main_arg1) : FVec Ideal S4096x1024 .bf16) (ix2 r k)) r k := by
  rw [side t]
  unfold rowOf
  by_cases h : t.val % 16 < 8
  · have h' : r.val < 4096 := by omega
    rw [if_pos h, dif_pos h']
    show (iblk m c 0 t : FVec Ideal S512x1024 .bf16) (ix2 y k) = _
    have e : min (t.val % 16) 7 = t.val % 16 := by omega
    blk_ext [iblk, V, idx t]
  · have h' : ¬ r.val < 4096 := by omega
    rw [if_neg h, dif_neg h']
    show (iblk m c 1 t : FVec Ideal S512x1024 .bf16) (ix2 y k) = _
    blk_ext [iblk, V, idx t]

/-- The gate's block of branch 1. -/
theorem gate0 (c : Dev nD) (t : Fin cfg0.N) (y : S512x1024.Idx) (r : Fin 8192) (n : Fin 16384) (hr : r.val = t.val % 16 * 512 + (y 0).val)
    (hn : n.val = (10 + t.val / 16) * 1024 + (y 1).val) :
    (iblk m c 7 t : FVec Ideal S512x1024 .f32) y = (m ((c.tc : Thread nD τ).loc main_arg7) : FVec Ideal S8192x16384 .f32) (ix2 r n) := by
  blk_ext [iblk, V, idx t]

/-- The rows of branch 2 that a grid point takes: the prompt's below row 4096, the grid's from there on. -/
theorem sel1 (c : Dev nD) (t : Fin cfg0.N) (y : Fin 512) (k : Fin 1024) (r : Fin 8192) (hr : r.val = t.val % 16 * 512 + y.val) :
    Scalar.select (Scalar.cmpi CmpIPredicate.slt (BitVec.ofNat 32 (grid0.coords t 1).val) 8#32)
      ((iblk m c 2 t : FVec Ideal S512x1024 .bf16) (ix2 y k)) ((iblk m c 3 t : FVec Ideal S512x1024 .bf16) (ix2 y k))
    = rowOf (fun r k => (m ((c.tc : Thread nD τ).loc main_arg2) : FVec Ideal S4096x1024 .bf16) (ix2 r k)) (fun r k => (m ((c.tc : Thread nD τ).loc main_arg3) : FVec Ideal S4096x1024 .bf16) (ix2 r k)) r k := by
  rw [side t]
  unfold rowOf
  by_cases h : t.val % 16 < 8
  · have h' : r.val < 4096 := by omega
    rw [if_pos h, dif_pos h']
    show (iblk m c 2 t : FVec Ideal S512x1024 .bf16) (ix2 y k) = _
    have e : min (t.val % 16) 7 = t.val % 16 := by omega
    blk_ext [iblk, V, idx t]
  · have h' : ¬ r.val < 4096 := by omega
    rw [if_neg h, dif_neg h']
    show (iblk m c 3 t : FVec Ideal S512x1024 .bf16) (ix2 y k) = _
    blk_ext [iblk, V, idx t]

/-- The gate's block of branch 2. -/
theorem gate1 (c : Dev nD) (t : Fin cfg0.N) (y : S512x1024.Idx) (r : Fin 8192) (n : Fin 16384) (hr : r.val = t.val % 16 * 512 + (y 0).val)
    (hn : n.val = (12 + t.val / 16) * 1024 + (y 1).val) :
    (iblk m c 8 t : FVec Ideal S512x1024 .f32) y = (m ((c.tc : Thread nD τ).loc main_arg7) : FVec Ideal S8192x16384 .f32) (ix2 r n) := by
  blk_ext [iblk, V, idx t]

/-- The rows of branch 3 that a grid point takes: the prompt's below row 4096, the grid's from there on. -/
theorem sel2 (c : Dev nD) (t : Fin cfg0.N) (y : Fin 512) (k : Fin 1024) (r : Fin 8192) (hr : r.val = t.val % 16 * 512 + y.val) :
    Scalar.select (Scalar.cmpi CmpIPredicate.slt (BitVec.ofNat 32 (grid0.coords t 1).val) 8#32)
      ((iblk m c 4 t : FVec Ideal S512x1024 .bf16) (ix2 y k)) ((iblk m c 5 t : FVec Ideal S512x1024 .bf16) (ix2 y k))
    = rowOf (fun r k => (m ((c.tc : Thread nD τ).loc main_arg4) : FVec Ideal S4096x1024 .bf16) (ix2 r k)) (fun r k => (m ((c.tc : Thread nD τ).loc main_arg5) : FVec Ideal S4096x1024 .bf16) (ix2 r k)) r k := by
  rw [side t]
  unfold rowOf
  by_cases h : t.val % 16 < 8
  · have h' : r.val < 4096 := by omega
    rw [if_pos h, dif_pos h']
    show (iblk m c 4 t : FVec Ideal S512x1024 .bf16) (ix2 y k) = _
    have e : min (t.val % 16) 7 = t.val % 16 := by omega
    blk_ext [iblk, V, idx t]
  · have h' : ¬ r.val < 4096 := by omega
    rw [if_neg h, dif_neg h']
    show (iblk m c 5 t : FVec Ideal S512x1024 .bf16) (ix2 y k) = _
    blk_ext [iblk, V, idx t]

/-- The gate's block of branch 3. -/
theorem gate2 (c : Dev nD) (t : Fin cfg0.N) (y : S512x1024.Idx) (r : Fin 8192) (n : Fin 16384) (hr : r.val = t.val % 16 * 512 + (y 0).val)
    (hn : n.val = (14 + t.val / 16) * 1024 + (y 1).val) :
    (iblk m c 9 t : FVec Ideal S512x1024 .f32) y = (m ((c.tc : Thread nD τ).loc main_arg7) : FVec Ideal S8192x16384 .f32) (ix2 r n) := by
  blk_ext [iblk, V, idx t]

/-- The weights' block. -/
theorem block6 (c : Dev nD) (t : Fin cfg0.N) (g : Fin 3) (k y : Fin 1024) (q : Fin 2048) (hq : q.val = t.val / 16 * 1024 + y.val) :
    (iblk m c 6 t : FVec Ideal S1x3x1024x1024 .bf16) (ix4 0 g k y) = (m ((c.tc : Thread nD τ).loc main_arg6) : FVec Ideal S4x3x1024x2048 .f32) (ix4 0 g k q) := by
  blk_point [iblk, V, idx t]

/-- The body of a block is the gated merge of its operands. -/
theorem out_at (i : grid0.Coords) (x0 x1 x2 x3 x4 x5 : FVec Ideal S512x1024 .bf16) (x6 : FVec Ideal S1x3x1024x1024 .bf16)
    (x7 x8 x9 : FVec Ideal S512x1024 .f32) (y : S512x1024.Idx) :
    (out0_10 (F := Ideal) i x0 x1 x2 x3 x4 x5 x6 x7 x8 x9 : FVec Ideal S512x1024 .bf16) y
      = mergeAt (fun k => Scalar.select (Scalar.cmpi CmpIPredicate.slt (BitVec.ofNat 32 (i 1).val) 8#32) (x0 (ix2 (y 0) k)) (x1 (ix2 (y 0) k)))
          (fun k => Scalar.select (Scalar.cmpi CmpIPredicate.slt (BitVec.ofNat 32 (i 1).val) 8#32) (x2 (ix2 (y 0) k)) (x3 (ix2 (y 0) k)))
          (fun k => Scalar.select (Scalar.cmpi CmpIPredicate.slt (BitVec.ofNat 32 (i 1).val) 8#32) (x4 (ix2 (y 0) k)) (x5 (ix2 (y 0) k)))
          (fun k => x6 (ix4 0 0 k (y 1))) (fun k => x6 (ix4 0 1 k (y 1))) (fun k => x6 (ix4 0 2 k (y 1))) (x7 y) (x8 y) (x9 y) := by
  unfold out0_10
  frame_out
  pointwise [k0_pay1, k0_pay2, k0_pay3, k0_pay4, mergeAt]

/-- What one grid point stores is its block of `result`. -/
theorem point_at (c : Dev nD) (t : Fin cfg0.N) (y : S512x1024.Idx) (r : Fin 8192) (q : Fin 2048)
    (hr : r.val = t.val % 16 * 512 + (y 0).val) (hq : q.val = t.val / 16 * 1024 + (y 1).val) :
    out0_10 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) y
      = mergedAt (fun r k => (m ((c.tc : Thread nD τ).loc main_arg0) : FVec Ideal S4096x1024 .bf16) (ix2 r k)) (fun r k => (m ((c.tc : Thread nD τ).loc main_arg1) : FVec Ideal S4096x1024 .bf16) (ix2 r k)) (fun r k => (m ((c.tc : Thread nD τ).loc main_arg2) : FVec Ideal S4096x1024 .bf16) (ix2 r k)) (fun r k => (m ((c.tc : Thread nD τ).loc main_arg3) : FVec Ideal S4096x1024 .bf16) (ix2 r k)) (fun r k => (m ((c.tc : Thread nD τ).loc main_arg4) : FVec Ideal S4096x1024 .bf16) (ix2 r k)) (fun r k => (m ((c.tc : Thread nD τ).loc main_arg5) : FVec Ideal S4096x1024 .bf16) (ix2 r k))
    (fun g k q => (m ((c.tc : Thread nD τ).loc main_arg6) : FVec Ideal S4x3x1024x2048 .f32) (ix4 0 g k q)) (fun r n => (m ((c.tc : Thread nD τ).loc main_arg7) : FVec Ideal S8192x16384 .f32) (ix2 r n)) r q := by
  refine (out_at _ _ _ _ _ _ _ _ _ _ _ y).trans ?_
  exact mergeAt_congr (fun k => sel0 m c t (y 0) k r hr) (fun k => sel1 m c t (y 0) k r hr) (fun k => sel2 m c t (y 0) k r hr)
    (fun k => block6 m c t 0 k (y 1) q hq) (fun k => block6 m c t 1 k (y 1) q hq) (fun k => block6 m c t 2 k (y 1) q hq)
    (gate0 m c t y r _ hr (by show 10240 + q.val = _; omega)) (gate1 m c t y r _ hr (by show 12288 + q.val = _; omega))
    (gate2 m c t y r _ hr (by show 14336 + q.val = _; omega))

/-- The result array after the run. -/
theorem final (c : Dev nD) : (dats m 0 c).arrAt 10 (cfgs 0).N = result m c := by
  refine (dats m 0 c).arrAt_eq_of_covers 10 _ (by decide +kernel) fun t _ y => ?_
  blk_simp
  rw [after0_10]
  refine point_at m c t y _ _ ?_ ?_
  · blk_simp [idx t]
  · blk_simp [idx t]

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 10).trans (final m c), h.2 c⟩) (θ_run_and (run_main m ρ) (unchanged m ρ))

end Cert.Calls.Merge
-- ==== Proof.Calls.MergeRef.lean ====
module

public import proofs.«01_k».proof.Proof.Calls.Spec
public import proofs.«01_k».proof.Proof.Gen.ReferenceMergeIdeal.Run

/-!
# The gated merge: the reference's result
-/

@[expose] public section

set_option maxRecDepth 16384

noncomputable section

open Idealize.ShloMosaic Idealize.ShloMosaic.TcCoe Idealize.SL.Sem Idealize.ShloMosaic.StableHlo
open Cert.ReferenceMergeIdeal Cert.ReferenceMergeIdeal.Gen Cert.ReferenceMergeIdeal.Value

namespace Cert.Calls.Merge

variable (m : (ℓ : Loc nD τ sig) → Buf (Elt Ideal) ℓ)

/-- The merge of the prompt's rows. -/
def promptHalf (x0 x2 x4 : FVec Ideal S4096x1024 .bf16) (x6 : FVec Ideal S4x3x1024x2048 .f32) (x7 : FVec Ideal S8192x16384 .f32) : FVec Ideal S4096x2048 .f32 :=
  (addf (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 10240] (extractStridedSlice S4096x16384 ![0, 0] x7 slices_S8192x16384_S4096x16384_0_0) slices_S4096x16384_S4096x2048_0_10240))))) (Host.dotGeneral dot_S4096x1024_S1024x2048_S4096x2048_1_0_0_1_n_n none (extf .f32 x0 bitsLt_bf16_f32) (shapeCast _ (extractStridedSlice S1x1024x2048 ![0, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_0_0_0) shapeCasts_S1x1024x2048_S1024x2048))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 12288] (extractStridedSlice S4096x16384 ![0, 0] x7 slices_S8192x16384_S4096x16384_0_0) slices_S4096x16384_S4096x2048_0_12288))))) (Host.dotGeneral dot_S4096x1024_S1024x2048_S4096x2048_1_0_0_1_n_n none (extf .f32 x2 bitsLt_bf16_f32) (shapeCast _ (extractStridedSlice S1x1024x2048 ![1, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_1_0_0) shapeCasts_S1x1024x2048_S1024x2048)))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 14336] (extractStridedSlice S4096x16384 ![0, 0] x7 slices_S8192x16384_S4096x16384_0_0) slices_S4096x16384_S4096x2048_0_14336))))) (Host.dotGeneral dot_S4096x1024_S1024x2048_S4096x2048_1_0_0_1_n_n none (extf .f32 x4 bitsLt_bf16_f32) (shapeCast _ (extractStridedSlice S1x1024x2048 ![2, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_2_0_0) shapeCasts_S1x1024x2048_S1024x2048))))

/-- The merge of the latent grid's rows. -/
def gridHalf (x1 x3 x5 : FVec Ideal S4096x1024 .bf16) (x6 : FVec Ideal S4x3x1024x2048 .f32) (x7 : FVec Ideal S8192x16384 .f32) : FVec Ideal S4096x2048 .f32 :=
  (addf (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 10240] (extractStridedSlice S4096x16384 ![4096, 0] x7 slices_S8192x16384_S4096x16384_4096_0) slices_S4096x16384_S4096x2048_0_10240))))) (Host.dotGeneral dot_S4096x1024_S1024x2048_S4096x2048_1_0_0_1_n_n none (extf .f32 x1 bitsLt_bf16_f32) (shapeCast _ (extractStridedSlice S1x1024x2048 ![0, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_0_0_0) shapeCasts_S1x1024x2048_S1024x2048))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 12288] (extractStridedSlice S4096x16384 ![4096, 0] x7 slices_S8192x16384_S4096x16384_4096_0) slices_S4096x16384_S4096x2048_0_12288))))) (Host.dotGeneral dot_S4096x1024_S1024x2048_S4096x2048_1_0_0_1_n_n none (extf .f32 x3 bitsLt_bf16_f32) (shapeCast _ (extractStridedSlice S1x1024x2048 ![1, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_1_0_0) shapeCasts_S1x1024x2048_S1024x2048)))) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 14336] (extractStridedSlice S4096x16384 ![4096, 0] x7 slices_S8192x16384_S4096x16384_4096_0) slices_S4096x16384_S4096x2048_0_14336))))) (Host.dotGeneral dot_S4096x1024_S1024x2048_S4096x2048_1_0_0_1_n_n none (extf .f32 x5 bitsLt_bf16_f32) (shapeCast _ (extractStridedSlice S1x1024x2048 ![2, 0, 0] (shapeCast _ (extractStridedSlice S1x3x1024x2048 ![0, 0, 0, 0] x6 slices_S4x3x1024x2048_S1x3x1024x2048_0_0_0_0) shapeCasts_S1x3x1024x2048_S3x1024x2048) slices_S3x1024x2048_S1x1024x2048_2_0_0) shapeCasts_S1x1024x2048_S1024x2048))))

/-- The merge of the prompt's rows, entry by entry. -/
theorem promptHalf_at (x0 x2 x4 : FVec Ideal S4096x1024 .bf16) (x6 : FVec Ideal S4x3x1024x2048 .f32) (x7 : FVec Ideal S8192x16384 .f32) (r : Fin 4096) (q : Fin 2048) :
    promptHalf x0 x2 x4 x6 x7 (ix2 r q) = mergeAt (fun k => x0 (ix2 r k)) (fun k => x2 (ix2 r k)) (fun k => x4 (ix2 r k))
      (fun k => x6 (ix4 0 0 k q)) (fun k => x6 (ix4 0 1 k q)) (fun k => x6 (ix4 0 2 k q))
      (x7 (ix2 (⟨r.val, by omega⟩ : Fin 8192) (⟨10240 + q.val, by omega⟩ : Fin 16384))) (x7 (ix2 (⟨r.val, by omega⟩ : Fin 8192) (⟨12288 + q.val, by omega⟩ : Fin 16384)))
      (x7 (ix2 (⟨r.val, by omega⟩ : Fin 8192) (⟨14336 + q.val, by omega⟩ : Fin 16384))) := by
  pointwise [promptHalf, mergeAt, Ideal.logistic]

/-- The merge of the latent grid's rows, entry by entry. -/
theorem gridHalf_at (x1 x3 x5 : FVec Ideal S4096x1024 .bf16) (x6 : FVec Ideal S4x3x1024x2048 .f32) (x7 : FVec Ideal S8192x16384 .f32) (r : Fin 4096) (q : Fin 2048) :
    gridHalf x1 x3 x5 x6 x7 (ix2 r q) = mergeAt (fun k => x1 (ix2 r k)) (fun k => x3 (ix2 r k)) (fun k => x5 (ix2 r k))
      (fun k => x6 (ix4 0 0 k q)) (fun k => x6 (ix4 0 1 k q)) (fun k => x6 (ix4 0 2 k q))
      (x7 (ix2 (⟨4096 + r.val, by omega⟩ : Fin 8192) (⟨10240 + q.val, by omega⟩ : Fin 16384))) (x7 (ix2 (⟨4096 + r.val, by omega⟩ : Fin 8192) (⟨12288 + q.val, by omega⟩ : Fin 16384)))
      (x7 (ix2 (⟨4096 + r.val, by omega⟩ : Fin 8192) (⟨14336 + q.val, by omega⟩ : Fin 16384))) := by
  pointwise [gridHalf, mergeAt, Ideal.logistic]

/-- The two halves, one above the other, are the gated merge of the branches. -/
theorem halves_at (x0 x1 x2 x3 x4 x5 : FVec Ideal S4096x1024 .bf16) (x6 : FVec Ideal S4x3x1024x2048 .f32) (x7 : FVec Ideal S8192x16384 .f32) (r : Fin 8192) (q : Fin 2048) :
    concatenate S8192x2048 0 [⟨S4096x2048, promptHalf x0 x2 x4 x6 x7⟩, ⟨S4096x2048, gridHalf x1 x3 x5 x6 x7⟩] concatenates_S4096x2048_S4096x2048_S8192x2048_d0 (ix2 r q)
      = mergedAt (fun r k => x0 (ix2 r k)) (fun r k => x1 (ix2 r k)) (fun r k => x2 (ix2 r k)) (fun r k => x3 (ix2 r k)) (fun r k => x4 (ix2 r k))
          (fun r k => x5 (ix2 r k)) (fun g k q => x6 (ix4 0 g k q)) (fun r n => x7 (ix2 r n)) r q := by
  unfold mergedAt
  by_cases hr : r.val < 4096
  · refine (concatenate_pair_apply_left (t := S8192x2048) (s₁ := S4096x2048) (s₂ := S4096x2048) 0 _ _ _ (ix2 r q) rfl (ix2 (⟨r.val, hr⟩ : Fin 4096) q)
      (fun b => match b with | ⟨0, _⟩ => rfl | ⟨1, _⟩ => rfl)).trans ((promptHalf_at _ _ _ _ _ _ _).trans ?_)
    have e (p s : Fin 4096 → Fin 1024 → EReal) (k : Fin 1024) : p ⟨r.val, hr⟩ k = rowOf p s r k := by unfold rowOf; rw [dif_pos hr]
    exact mergeAt_congr (e (fun r k => x0 (ix2 r k)) _) (e (fun r k => x2 (ix2 r k)) _) (e (fun r k => x4 (ix2 r k)) _)
      (fun _ => rfl) (fun _ => rfl) (fun _ => rfl) rfl rfl rfl
  · refine (concatenate_pair_apply_right (t := S8192x2048) (s₁ := S4096x2048) (s₂ := S4096x2048) 0 _ _ _ (ix2 r q) rfl rfl (ix2 (⟨r.val - 4096, by omega⟩ : Fin 4096) q)
      (fun b hb => match b, hb with | ⟨0, _⟩, hb => absurd rfl hb | ⟨1, _⟩, _ => rfl) (by show r.val - 4096 + 4096 = r.val; omega)).trans ((gridHalf_at _ _ _ _ _ _ _).trans ?_)
    have e (p s : Fin 4096 → Fin 1024 → EReal) (k : Fin 1024) : s ⟨r.val - 4096, by omega⟩ k = rowOf p s r k := by unfold rowOf; rw [dif_neg hr]
    have z (n : Fin 16384) : x7 (ix2 (⟨4096 + (r.val - 4096), by omega⟩ : Fin 8192) n) = x7 (ix2 r n) :=
      congrArg (fun r' => x7 (ix2 r' n)) (Fin.ext (by show 4096 + (r.val - 4096) = r.val; omega))
    exact mergeAt_congr (e _ (fun r k => x1 (ix2 r k))) (e _ (fun r k => x3 (ix2 r k))) (e _ (fun r k => x5 (ix2 r k)))
      (fun _ => rfl) (fun _ => rfl) (fun _ => rfl) (z _) (z _) (z _)

/-- The gated merge of the branches. -/
def refResult (c : Dev nD) : FVec Ideal S8192x2048 .bf16 := fun j => mergedAt (fun r k => (m ((c.tc : Thread nD τ).loc main_arg0) : FVec Ideal S4096x1024 .bf16) (ix2 r k)) (fun r k => (m ((c.tc : Thread nD τ).loc main_arg1) : FVec Ideal S4096x1024 .bf16) (ix2 r k)) (fun r k => (m ((c.tc : Thread nD τ).loc main_arg2) : FVec Ideal S4096x1024 .bf16) (ix2 r k)) (fun r k => (m ((c.tc : Thread nD τ).loc main_arg3) : FVec Ideal S4096x1024 .bf16) (ix2 r k)) (fun r k => (m ((c.tc : Thread nD τ).loc main_arg4) : FVec Ideal S4096x1024 .bf16) (ix2 r k)) (fun r k => (m ((c.tc : Thread nD τ).loc main_arg5) : FVec Ideal S4096x1024 .bf16) (ix2 r k))
    (fun g k q => (m ((c.tc : Thread nD τ).loc main_arg6) : FVec Ideal S4x3x1024x2048 .f32) (ix4 0 g k q)) (fun r n => (m ((c.tc : Thread nD τ).loc main_arg7) : FVec Ideal S8192x16384 .f32) (ix2 r n)) (j 0) (j 1)

/-- The reference's term is the two halves, one above the other. -/
theorem term_eq (c : Dev nD) : (res_main_v81 m c : FVec Ideal S8192x2048 .bf16)
    = truncf .bf16 (concatenate S8192x2048 0 [⟨S4096x2048, promptHalf (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7))⟩,
        ⟨S4096x2048, gridHalf (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7))⟩] concatenates_S4096x2048_S4096x2048_S8192x2048_d0) bitsLt_bf16_f32 := rfl

/-- The reference's result is the gated merge. -/
theorem ref_eq (c : Dev nD) : (res_main_v81 m c : FVec Ideal S8192x2048 .bf16) = refResult m c := by
  refine (term_eq m c).trans (funext fun j => ?_)
  obtain ⟨r, q, rfl⟩ : ∃ (r : Fin 8192) (q : Fin 2048), j = ix2 r q := ⟨j 0, j 1, eq_ix2 j⟩
  exact halves_at _ _ _ _ _ _ _ _ r q

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v81) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (ref_eq m c), (h c).2⟩) (run m ρ)

end Cert.Calls.Merge
-- ==== Proof.Calls.OutProjKernel.lean ====
module

public import proofs.«01_k».proof.Proof.Calls.Spec
public import proofs.«01_k».proof.Proof.Gen.KernelOutProjIdeal.Value
public import proofs.«01_k».proof.Proof.Gen.KernelOutProjIdeal.Frame
public import Idealize.ShloMosaic.Lib.StableHlo.ReadAt

/-!
# The output projection: the kernel's result
-/

@[expose] public section

set_option maxRecDepth 16384

noncomputable section

open Idealize.ShloMosaic Idealize.ShloMosaic.TcCoe Idealize.SL.Sem Idealize.ShloMosaic.StableHlo
open Cert.KernelOutProjIdeal Cert.KernelOutProjIdeal.Gen

namespace Cert.Calls.OutProj

variable (m : (ℓ : Loc nD τ sig) → Buf (Elt Ideal) ℓ)

/-- The blocks the grid points read and write. -/
theorem idx : ∀ t : Fin cfg0.N, win0_0.index t = ![t.val % 16, 0] ∧ win0_1.index t = ![0, 0, t.val / 16] ∧ win0_2.index t = ![t.val % 16, t.val / 16]
    ∧ win0_3.index t = ![modRow (t.val % 16 * 512), 0, 4 + t.val / 16] ∧ win0_4.index t = ![t.val % 16, t.val / 16] := (by decide +kernel : ∀ t : Fin grid0.N, _)

/-- The output projection with its gated residual. -/
def result (c : Dev nD) : FVec Ideal S8192x2048 .f32 := fun j =>
  outProjAt (fun r k => (m ((c.tc : Thread nD τ).loc main_arg0) : FVec Ideal S8192x2048 .bf16) (ix2 r k)) (fun k q => (m ((c.tc : Thread nD τ).loc main_arg1) : FVec Ideal S4x2048x2048 .f32) (ix3 0 k q))
    (fun r q => (m ((c.tc : Thread nD τ).loc main_arg2) : FVec Ideal S8192x2048 .f32) (ix2 r q)) (fun s q => (m ((c.tc : Thread nD τ).loc main_arg3) : FVec Ideal S8x1x12288 .f32) (ix3 s 0 q)) (j 0) (j 1)

/-- What one grid point stores is its block of `result`. -/
theorem point (c : Dev nD) (t : Fin cfg0.N) (y) : k0_pay1 (F := Ideal) (iblk m c 2 t) (iblk m c 3 t) (iblk m c 0 t) (iblk m c 1 t) y = result m c (((cfg0.win 4).blk t).view.emb y) := by
  pointwise [k0_pay1, result, outProjAt]
  blk_point [iblk, V, idx t]
  exact (modRow_block (y 0).isLt).symm

/-- The result array after the run. -/
theorem final (c : Dev nD) : (dats m 0 c).arrAt 4 (cfgs 0).N = result m c := by
  refine (dats m 0 c).arrAt_eq_of_covers 4 _ (by decide +kernel) fun t _ y => ?_
  blk_simp
  rw [after0_4]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final m c), h.2 c⟩) (θ_run_and (run_main m ρ) (unchanged m ρ))

end Cert.Calls.OutProj
-- ==== Proof.Calls.OutProjRef.lean ====
module

public import proofs.«01_k».proof.Proof.Calls.Spec
public import proofs.«01_k».proof.Proof.Gen.ReferenceOutProjIdeal.Run

/-!
# The output projection: the reference's result
-/

@[expose] public section

set_option maxRecDepth 16384

noncomputable section

open Idealize.ShloMosaic Idealize.ShloMosaic.TcCoe Idealize.SL.Sem Idealize.ShloMosaic.StableHlo
open Cert.ReferenceOutProjIdeal Cert.ReferenceOutProjIdeal.Gen Cert.ReferenceOutProjIdeal.Value

namespace Cert.Calls.OutProj

variable (m : (ℓ : Loc nD τ sig) → Buf (Elt Ideal) ℓ)

/-- The output projection with its gated residual. -/
def refResult (c : Dev nD) : FVec Ideal S8192x2048 .f32 := fun j =>
  outProjAt (fun r k => (m ((c.tc : Thread nD τ).loc main_arg0) : FVec Ideal S8192x2048 .bf16) (ix2 r k)) (fun k q => (m ((c.tc : Thread nD τ).loc main_arg1) : FVec Ideal S4x2048x2048 .f32) (ix3 0 k q))
    (fun r q => (m ((c.tc : Thread nD τ).loc main_arg2) : FVec Ideal S8192x2048 .f32) (ix2 r q)) (fun s q => (m ((c.tc : Thread nD τ).loc main_arg3) : FVec Ideal S8x1x12288 .f32) (ix3 s 0 q)) (j 0) (j 1)

/-- The reference's operations compute it. -/
theorem term_at (a : FVec Ideal S8192x2048 .bf16) (w : FVec Ideal S4x2048x2048 .f32) (x : FVec Ideal S8192x2048 .f32) (g : FVec Ideal S8x1x12288 .f32) :
    (concatenate S8192x2048 0 [⟨S4096x2048, (shapeCast _ (addf (shapeCast _ (extractStridedSlice S4096x2048 ![0, 0] x slices_S8192x2048_S4096x2048_0_0) shapeCasts_S4096x2048_S16x256x2048) (mulf (broadcastInDim S16x256x2048 ![0, 1, 2] bcast_S1x1x2048_S16x256x2048_0_1_2 (extractStridedSlice S1x1x2048 ![4, 0, 0] (extractStridedSlice S8x1x2048 ![0, 0, 4096] g slices_S8x1x12288_S8x1x2048_0_0_4096) slices_S8x1x2048_S1x1x2048_4_0_0)) (shapeCast _ (extractStridedSlice S4096x2048 ![0, 0] (Host.dotGeneral dot_S8192x2048_S2048x2048_S8192x2048_1_0_0_1_n_n none (extf .f32 a bitsLt_bf16_f32) (shapeCast _ (extractStridedSlice S1x2048x2048 ![0, 0, 0] w slices_S4x2048x2048_S1x2048x2048_0_0_0) shapeCasts_S1x2048x2048_S2048x2048)) slices_S8192x2048_S4096x2048_0_0) shapeCasts_S4096x2048_S16x256x2048))) shapeCasts_S16x256x2048_S4096x2048)⟩, ⟨S4096x2048, (shapeCast _ (addf (shapeCast _ (extractStridedSlice S4096x2048 ![4096, 0] x slices_S8192x2048_S4096x2048_4096_0) shapeCasts_S4096x2048_S4x1024x2048) (mulf (broadcastInDim S4x1024x2048 ![0, 1, 2] bcast_S4x1x2048_S4x1024x2048_0_1_2 (extractStridedSlice S4x1x2048 ![0, 0, 0] (extractStridedSlice S8x1x2048 ![0, 0, 4096] g slices_S8x1x12288_S8x1x2048_0_0_4096) slices_S8x1x2048_S4x1x2048_0_0_0)) (shapeCast _ (extractStridedSlice S4096x2048 ![4096, 0] (Host.dotGeneral dot_S8192x2048_S2048x2048_S8192x2048_1_0_0_1_n_n none (extf .f32 a bitsLt_bf16_f32) (shapeCast _ (extractStridedSlice S1x2048x2048 ![0, 0, 0] w slices_S4x2048x2048_S1x2048x2048_0_0_0) shapeCasts_S1x2048x2048_S2048x2048)) slices_S8192x2048_S4096x2048_4096_0) shapeCasts_S4096x2048_S4x1024x2048))) shapeCasts_S4x1024x2048_S4096x2048)⟩] concatenates_S4096x2048_S4096x2048_S8192x2048_d0 : FVec Ideal S8192x2048 .f32)
    = fun j => outProjAt (fun r k => a (ix2 r k)) (fun k q => w (ix3 0 k q)) (fun r q => x (ix2 r q)) (fun s q => g (ix3 s 0 q)) (j 0) (j 1) := by
  funext j
  obtain ⟨r, q, rfl⟩ : ∃ (r : Fin 8192) (q : Fin 2048), j = ix2 r q := ⟨j 0, j 1, eq_ix2 j⟩
  have key : ∀ (r' : Fin 8192) (s s' : Fin 8), r' = r → s = s' →
      x (ix2 r' q) + g (ix3 s 0 (⟨4096 + q.val, by omega⟩ : Fin 12288)) * (∑ k : Fin 2048, a (ix2 r' k) * w (ix3 0 k q))
        = x (ix2 r q) + g (ix3 s' 0 (⟨4096 + q.val, by omega⟩ : Fin 12288)) * (∑ k : Fin 2048, a (ix2 r k) * w (ix3 0 k q)) := by
    rintro _ _ _ rfl rfl; rfl
  by_cases hr : r.val < 4096
  · refine (concatenate_pair_apply_left (t := S8192x2048) (s₁ := S4096x2048) (s₂ := S4096x2048) 0 _ _ _ (ix2 r q) rfl (ix2 (⟨r.val, hr⟩ : Fin 4096) q)
      (fun b => match b with | ⟨0, _⟩ => rfl | ⟨1, _⟩ => rfl)).trans ?_
    pointwise [outProjAt]
    exact key _ _ _ (Fin.ext (by show r.val / 256 * 256 + r.val % 256 = r.val; omega)) (Fin.ext (by show 4 = modRow r.val; unfold modRow; rw [if_pos hr]))
  · refine (concatenate_pair_apply_right (t := S8192x2048) (s₁ := S4096x2048) (s₂ := S4096x2048) 0 _ _ _ (ix2 r q) rfl rfl (ix2 (⟨r.val - 4096, by omega⟩ : Fin 4096) q)
      (fun b hb => match b, hb with | ⟨0, _⟩, hb => absurd rfl hb | ⟨1, _⟩, _ => rfl) (by show r.val - 4096 + 4096 = r.val; omega)).trans ?_
    pointwise [outProjAt]
    exact key _ _ _ (Fin.ext (by show 4096 + ((r.val - 4096) / 1024 * 1024 + (r.val - 4096) % 1024) = r.val; omega))
      (Fin.ext (by show (r.val - 4096) / 1024 = modRow r.val; unfold modRow; rw [if_neg hr]))

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v23) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (term_at _ _ _ _), (h c).2⟩) (run m ρ)

end Cert.Calls.OutProj
-- ==== Proof.Calls.NormPKernel.lean ====
module

public import proofs.«01_k».proof.Proof.Calls.Spec
public import proofs.«01_k».proof.Proof.Gen.KernelNormPIdeal.Value
public import proofs.«01_k».proof.Proof.Gen.KernelNormPIdeal.Frame
public import Idealize.ShloMosaic.Lib.StableHlo.ReadAt

/-!
# The final norm of the prompt: the kernel's result
-/

@[expose] public section

set_option maxRecDepth 16384

noncomputable section

open Idealize.ShloMosaic Idealize.ShloMosaic.TcCoe Idealize.SL.Sem Idealize.ShloMosaic.StableHlo
open Cert.KernelNormPIdeal Cert.KernelNormPIdeal.Gen

namespace Cert.Calls.NormP

variable (m : (ℓ : Loc nD τ sig) → Buf (Elt Ideal) ℓ)

/-- The blocks the grid points read and write. -/
theorem idx : ∀ t : Fin cfg0.N, win0_0.index t = ![0 + t.val, 0] ∧ win0_1.index t = ![0, 0] ∧ win0_2.index t = ![t.val, 0] := (by decide +kernel : ∀ t : Fin grid0.N, _)

/-- The norm of the prompt's or the grid's rows. -/
def result (c : Dev nD) : FVec Ideal S4096x2048 .f32 := fun j =>
  normAt (fun r q => (m ((c.tc : Thread nD τ).loc main_arg0) : FVec Ideal S8192x2048 .f32) (ix2 r q)) (fun q => (m ((c.tc : Thread nD τ).loc main_arg1) : FVec Ideal S2048 .f32) (ix1 q)) ⟨0 + (j 0).val, by have : (j 0).val < 4096 := (j 0).isLt; omega⟩ (j 1)

/-- What one grid point stores is its block of `result`. -/
theorem point (c : Dev nD) (t : Fin cfg0.N) (y) : k0_pay1 (F := Ideal) (iblk m c 0 t) (iblk m c 1 t) y = result m c (((cfg0.win 2).blk t).view.emb y) := by
  pointwise [k0_pay1, result, normAt]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Calls.NormP
-- ==== Proof.Calls.NormPRef.lean ====
module

public import proofs.«01_k».proof.Proof.Calls.Spec
public import proofs.«01_k».proof.Proof.Gen.ReferenceNormPIdeal.Run

/-!
# The final norm of the prompt: the reference's result
-/

@[expose] public section

set_option maxRecDepth 16384

noncomputable section

open Idealize.ShloMosaic Idealize.ShloMosaic.TcCoe Idealize.SL.Sem Idealize.ShloMosaic.StableHlo
open Cert.ReferenceNormPIdeal Cert.ReferenceNormPIdeal.Gen Cert.ReferenceNormPIdeal.Value

namespace Cert.Calls.NormP

variable (m : (ℓ : Loc nD τ sig) → Buf (Elt Ideal) ℓ)

/-- The norm of the prompt's or the grid's rows. -/
def refResult (c : Dev nD) : FVec Ideal S4096x2048 .f32 := fun j =>
  normAt (fun r q => (m ((c.tc : Thread nD τ).loc main_arg0) : FVec Ideal S8192x2048 .f32) (ix2 r q)) (fun q => (m ((c.tc : Thread nD τ).loc main_arg1) : FVec Ideal S2048 .f32) (ix1 q)) ⟨0 + (j 0).val, by have : (j 0).val < 4096 := (j 0).isLt; omega⟩ (j 1)

/-- The reference's operations compute the norm. -/
theorem term_at (x : FVec Ideal S8192x2048 .f32) (g : FVec Ideal S2048 .f32) : mulf (mulf (extractStridedSlice S4096x2048 ![0, 0] x slices_S8192x2048_S4096x2048_0_0) (broadcastInDim S4096x2048 ![0, 1] bcast_S4096x1_S4096x2048_0_1 (Host.rsqrt (addf (Host.divf (broadcastInDim S4096x1 ![0] bcast_S4096_S4096x1_0 (Host.reduceAdd (mulf (extractStridedSlice S4096x2048 ![0, 0] x slices_S8192x2048_S4096x2048_0_0) (extractStridedSlice S4096x2048 ![0, 0] x slices_S8192x2048_S4096x2048_0_0)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))
    = fun j => normAt (fun r q => x (ix2 r q)) (fun q => g (ix1 q)) ⟨0 + (j 0).val, by have : (j 0).val < 4096 := (j 0).isLt; omega⟩ (j 1) := by
  funext j
  pointwise [normAt]

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v13) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (term_at _ _), (h c).2⟩) (run m ρ)

end Cert.Calls.NormP
-- ==== Proof.Calls.NormSKernel.lean ====
module

public import proofs.«01_k».proof.Proof.Calls.Spec
public import proofs.«01_k».proof.Proof.Gen.KernelNormSIdeal.Value
public import proofs.«01_k».proof.Proof.Gen.KernelNormSIdeal.Frame
public import Idealize.ShloMosaic.Lib.StableHlo.ReadAt

/-!
# The final norm of the latent grid: the kernel's result
-/

@[expose] public section

set_option maxRecDepth 16384

noncomputable section

open Idealize.ShloMosaic Idealize.ShloMosaic.TcCoe Idealize.SL.Sem Idealize.ShloMosaic.StableHlo
open Cert.KernelNormSIdeal Cert.KernelNormSIdeal.Gen

namespace Cert.Calls.NormS

variable (m : (ℓ : Loc nD τ sig) → Buf (Elt Ideal) ℓ)

/-- The blocks the grid points read and write. -/
theorem idx : ∀ t : Fin cfg0.N, win0_0.index t = ![16 + t.val, 0] ∧ win0_1.index t = ![0, 0] ∧ win0_2.index t = ![t.val, 0] := (by decide +kernel : ∀ t : Fin grid0.N, _)

/-- The norm of the prompt's or the grid's rows. -/
def result (c : Dev nD) : FVec Ideal S4096x2048 .f32 := fun j =>
  normAt (fun r q => (m ((c.tc : Thread nD τ).loc main_arg0) : FVec Ideal S8192x2048 .f32) (ix2 r q)) (fun q => (m ((c.tc : Thread nD τ).loc main_arg1) : FVec Ideal S2048 .f32) (ix1 q)) ⟨4096 + (j 0).val, by have : (j 0).val < 4096 := (j 0).isLt; omega⟩ (j 1)

/-- What one grid point stores is its block of `result`. -/
theorem point (c : Dev nD) (t : Fin cfg0.N) (y) : k0_pay1 (F := Ideal) (iblk m c 0 t) (iblk m c 1 t) y = result m c (((cfg0.win 2).blk t).view.emb y) := by
  pointwise [k0_pay1, result, normAt]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Calls.NormS
-- ==== Proof.Calls.NormSRef.lean ====
module

public import proofs.«01_k».proof.Proof.Calls.Spec
public import proofs.«01_k».proof.Proof.Gen.ReferenceNormSIdeal.Run

/-!
# The final norm of the latent grid: the reference's result
-/

@[expose] public section

set_option maxRecDepth 16384

noncomputable section

open Idealize.ShloMosaic Idealize.ShloMosaic.TcCoe Idealize.SL.Sem Idealize.ShloMosaic.StableHlo
open Cert.ReferenceNormSIdeal Cert.ReferenceNormSIdeal.Gen Cert.ReferenceNormSIdeal.Value

namespace Cert.Calls.NormS

variable (m : (ℓ : Loc nD τ sig) → Buf (Elt Ideal) ℓ)

/-- The norm of the prompt's or the grid's rows. -/
def refResult (c : Dev nD) : FVec Ideal S4096x2048 .f32 := fun j =>
  normAt (fun r q => (m ((c.tc : Thread nD τ).loc main_arg0) : FVec Ideal S8192x2048 .f32) (ix2 r q)) (fun q => (m ((c.tc : Thread nD τ).loc main_arg1) : FVec Ideal S2048 .f32) (ix1 q)) ⟨4096 + (j 0).val, by have : (j 0).val < 4096 := (j 0).isLt; omega⟩ (j 1)

/-- The reference's operations compute the norm. -/
theorem term_at (x : FVec Ideal S8192x2048 .f32) (g : FVec Ideal S2048 .f32) : mulf (mulf (extractStridedSlice S4096x2048 ![4096, 0] x slices_S8192x2048_S4096x2048_4096_0) (broadcastInDim S4096x2048 ![0, 1] bcast_S4096x1_S4096x2048_0_1 (Host.rsqrt (addf (Host.divf (broadcastInDim S4096x1 ![0] bcast_S4096_S4096x1_0 (Host.reduceAdd (mulf (extractStridedSlice S4096x2048 ![4096, 0] x slices_S8192x2048_S4096x2048_4096_0) (extractStridedSlice S4096x2048 ![4096, 0] x slices_S8192x2048_S4096x2048_4096_0)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))
    = fun j => normAt (fun r q => x (ix2 r q)) (fun q => g (ix1 q)) ⟨4096 + (j 0).val, by have : (j 0).val < 4096 := (j 0).isLt; omega⟩ (j 1) := by
  funext j
  pointwise [normAt]

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v13) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (term_at _ _), (h c).2⟩) (run m ρ)

end Cert.Calls.NormS
-- ==== Proof.Calls.Finite.lean ====
module

public import proofs.«01_k».proof.Proof.Calls.Spec
public import Idealize.ShloMosaic.Lib.KernelVsHost
public import Idealize.ShloMosaic.Lib.ReduceAll

/-!
# Finite values
-/

@[expose] public section

set_option maxRecDepth 16384

noncomputable section

open Idealize.ShloMosaic Idealize.ShloMosaic.TcCoe Idealize.SL.Sem Idealize.ShloMosaic.StableHlo

namespace Cert.Calls

/-- Neither infinity. -/
def Finite (x : EReal) : Prop := x ≠ ⊤ ∧ x ≠ ⊥

/-- A value whose magnitude is below the infinity is finite. -/
theorem finite_of_lt (x : Ideal .f32) (h : FloatOps.cmpf .olt (FloatOps.hostAbsf x) (FloatOps.ofBits (F := Ideal) .f32 0x7F800000#32) = 1#1) : Finite x := by
  rw [← Ideal.xori_weird_eq_hostAbsf_olt_inf] at h
  by_contra hc
  have hx : (x : EReal) = ⊤ ∨ (x : EReal) = ⊥ := by
    unfold Finite at hc
    by_contra h'
    exact hc ⟨fun e => h' (.inl e), fun e => h' (.inr e)⟩
  have hw : FloatOps.weird x = 1#1 := by
    show BitVec.ofBool (decide ((x : EReal) = ⊤ ∨ (x : EReal) = ⊥)) = 1#1
    rw [decide_eq_true hx]; rfl
  rw [hw] at h
  exact absurd h (by decide)

/-- Two bits whose conjunction is one are both one. -/
theorem both_of_andi {a b : BitVec 1} (h : IntOp.andi a b = 1#1) : a = 1#1 ∧ b = 1#1 := by
  revert a b; decide

/-- A finite number is a real one. -/
theorem Finite.real {x : EReal} (h : Finite x) : ∃ r : ℝ, x = (r : EReal) := ⟨x.toReal, (EReal.coe_toReal h.1 h.2).symm⟩

end Cert.Calls
-- ==== Proof.Calls.QuerySpec.lean ====
module

public import proofs.«01_k».proof.Proof.Calls.Finite

/-!
# The expert queries: the sums compared
-/

@[expose] public section

set_option maxRecDepth 16384

noncomputable section

open Idealize.ShloMosaic Idealize.ShloMosaic.TcCoe Idealize.SL.Sem Idealize.ShloMosaic.StableHlo

namespace Cert.Calls

/-- The product as the kernel forms it: the weights in two parts, the second of which is the rest of the first. -/
def splitAt (xh xl : Fin 8192 → Fin 2048 → EReal) (w : Fin 2048 → Fin 2048 → EReal) (r : Fin 8192) (q : Fin 2048) : EReal :=
  (∑ k, xh r k * w k q) + ((∑ k, xh r k * (w k q - w k q)) + ∑ k, xl r k * w k q)

/-- The product of the summed rows with the weights. -/
def queryAt (xh xl : Fin 8192 → Fin 2048 → EReal) (w : Fin 2048 → Fin 2048 → EReal) (r : Fin 8192) (q : Fin 2048) : EReal :=
  ∑ k, (xh r k + xl r k) * w k q

/-- Where everything is finite, the two are equal. -/
theorem splitAt_eq {xh xl : Fin 8192 → Fin 2048 → EReal} {w : Fin 2048 → Fin 2048 → EReal} (hh : ∀ r k, Finite (xh r k))
    (hl : ∀ r k, Finite (xl r k)) (hw : ∀ k q, Finite (w k q)) (r : Fin 8192) (q : Fin 2048) : splitAt xh xl w r q = queryAt xh xl w r q := by
  unfold splitAt queryAt
  have rest : (∑ k, xh r k * (w k q - w k q)) = 0 := Finset.sum_eq_zero fun k _ => by
    rw [EReal.sub_self (hw k q).1 (hw k q).2, mul_zero]
  rw [rest, zero_add, ← Finset.sum_add_distrib]
  refine Finset.sum_congr rfl fun k _ => ?_
  obtain ⟨a, ha⟩ := (hh r k).real
  obtain ⟨b, hb⟩ := (hl r k).real
  obtain ⟨d, hd⟩ := (hw k q).real
  rw [ha, hb, hd]
  norm_cast
  ring

end Cert.Calls
-- ==== Proof.Calls.QueryKernel.lean ====
module

public import proofs.«01_k».proof.Proof.Calls.QuerySpec
public import proofs.«01_k».proof.Proof.Gen.KernelQueryIdeal.Value
public import proofs.«01_k».proof.Proof.Gen.KernelQueryIdeal.Frame
public import Idealize.ShloMosaic.Lib.StableHlo.ReadAt

/-!
# The expert queries: the kernel's result
-/

@[expose] public section

set_option maxRecDepth 16384

noncomputable section

open Idealize.ShloMosaic Idealize.ShloMosaic.TcCoe Idealize.SL.Sem Idealize.ShloMosaic.StableHlo
open Cert.KernelQueryIdeal Cert.KernelQueryIdeal.Gen

namespace Cert.Calls.Query

variable (m : (ℓ : Loc nD τ sig) → Buf (Elt Ideal) ℓ)

/-- The blocks the grid points read and write. -/
theorem idx : ∀ t : Fin cfg0.N, win0_0.index t = ![t.val % 16, 0] ∧ win0_1.index t = ![t.val % 16, 0] ∧ win0_2.index t = ![0, 0, t.val / 16]
    ∧ win0_3.index t = ![0, 0, t.val / 16] ∧ win0_4.index t = ![0, t.val / 16] ∧ win0_5.index t = ![t.val % 16, t.val / 16] := (by decide +kernel : ∀ t : Fin grid0.N, _)

/-- The queries, with the weights in two parts. -/
def result (c : Dev nD) : FVec Ideal S8192x2048 .f32 := fun j =>
  splitAt (fun r k => (m ((c.tc : Thread nD τ).loc main_arg0) : FVec Ideal S8192x2048 .bf16) (ix2 r k)) (fun r k => (m ((c.tc : Thread nD τ).loc main_arg1) : FVec Ideal S8192x2048 .bf16) (ix2 r k)) (fun k q => (m ((c.tc : Thread nD τ).loc main_arg2) : FVec Ideal S4x2048x2048 .f32) (ix3 0 k q)) (j 0) (j 1)

/-- The first part of the weights. -/
theorem host_hi (c : Dev nD) : V m c main_v0 = (truncf .bf16 (m ((c.tc : Thread nD τ).loc main_arg2) : FVec Ideal S4x2048x2048 .f32) bitsLt_bf16_f32 : FVec Ideal S4x2048x2048 .bf16) := by
  show StableHlo.after _ _ _ = _
  after_results

/-- The second part of the weights. -/
theorem host_lo (c : Dev nD) : V m c main_v3
    = (truncf .bf16 (subf (m ((c.tc : Thread nD τ).loc main_arg2) : FVec Ideal S4x2048x2048 .f32) (extf .f32 (truncf .bf16 (m ((c.tc : Thread nD τ).loc main_arg2) : FVec Ideal S4x2048x2048 .f32) bitsLt_bf16_f32) bitsLt_bf16_f32)) bitsLt_bf16_f32 : FVec Ideal S4x2048x2048 .bf16) := by
  show StableHlo.after _ _ _ = _
  after_results

/-- The bias, which is zero. -/
theorem host_zero (c : Dev nD) : V m c main_v4 = (broadcastInDim S1x2048 ![] bcast_S_S1x2048 (constant S_ .f32 0x00000000#32) : FVec Ideal S1x2048 .f32) := by
  show StableHlo.after _ _ _ = _
  after_results

/-- The rows' block, first part. -/
theorem block0 (c : Dev nD) (t : Fin cfg0.N) (y : Fin 512) (k : Fin 2048) (r : Fin 8192) (hr : r.val = t.val % 16 * 512 + y.val) :
    (iblk m c 0 t : FVec Ideal S512x2048 .bf16) (ix2 y k) = (m ((c.tc : Thread nD τ).loc main_arg0) : FVec Ideal S8192x2048 .bf16) (ix2 r k) := by
  blk_ext [iblk, V, idx t]

/-- The rows' block, second part. -/
theorem block1 (c : Dev nD) (t : Fin cfg0.N) (y : Fin 512) (k : Fin 2048) (r : Fin 8192) (hr : r.val = t.val % 16 * 512 + y.val) :
    (iblk m c 1 t : FVec Ideal S512x2048 .bf16) (ix2 y k) = (m ((c.tc : Thread nD τ).loc main_arg1) : FVec Ideal S8192x2048 .bf16) (ix2 r k) := by
  blk_ext [iblk, V, idx t]

/-- The weights' block, first part. -/
theorem block2 (c : Dev nD) (t : Fin cfg0.N) (y : Fin 1024) (k n : Fin 2048) (hn : n.val = t.val / 16 * 1024 + y.val) :
    (iblk m c 2 t : FVec Ideal S1x2048x1024 .bf16) (ix3 0 k y) = (V m c main_v0 : FVec Ideal S4x2048x2048 .bf16) (ix3 0 k n) := by
  blk_ext [iblk, idx t]

/-- The weights' block, second part. -/
theorem block3 (c : Dev nD) (t : Fin cfg0.N) (y : Fin 1024) (k n : Fin 2048) (hn : n.val = t.val / 16 * 1024 + y.val) :
    (iblk m c 3 t : FVec Ideal S1x2048x1024 .bf16) (ix3 0 k y) = (V m c main_v3 : FVec Ideal S4x2048x2048 .bf16) (ix3 0 k n) := by
  blk_ext [iblk, idx t]

/-- The biases' block. -/
theorem block4 (c : Dev nD) (t : Fin cfg0.N) (y : Fin 1024) (n : Fin 2048) (hn : n.val = t.val / 16 * 1024 + y.val) :
    (iblk m c 4 t : FVec Ideal S1x1024 .f32) (ix2 0 y) = (V m c main_v4 : FVec Ideal S1x2048 .f32) (ix2 0 n) := by
  blk_ext [iblk, idx t]

/-- The body of a block: three products and the bias. -/
theorem pay_at (xh xl : FVec Ideal S512x2048 .bf16) (wh wl : FVec Ideal S1x2048x1024 .bf16) (b : FVec Ideal S1x1024 .f32) (y : S512x1024.Idx) :
    k0_pay1 (F := Ideal) xh wh wl xl wh b y
      = ((∑ k : Fin 2048, xh (ix2 (y 0) k) * wh (ix3 0 k (y 1))) + ((∑ k : Fin 2048, xh (ix2 (y 0) k) * wl (ix3 0 k (y 1)))
          + ∑ k : Fin 2048, xl (ix2 (y 0) k) * wh (ix3 0 k (y 1)))) + b (ix2 0 (y 1)) := by
  pointwise [k0_pay1]

/-- The body of a block, of rows and weights known at its place. -/
theorem pay_of (xh xl : FVec Ideal S512x2048 .bf16) (wh wl : FVec Ideal S1x2048x1024 .bf16) (b : FVec Ideal S1x1024 .f32) (y : S512x1024.Idx)
    (u v p : Fin 2048 → EReal) (hu : ∀ k, (xh (ix2 (y 0) k) : EReal) = u k) (hv : ∀ k, (xl (ix2 (y 0) k) : EReal) = v k)
    (hp : ∀ k, (wh (ix3 0 k (y 1)) : EReal) = p k) (hq : ∀ k, (wl (ix3 0 k (y 1)) : EReal) = p k - p k) (hb : (b (ix2 0 (y 1)) : EReal) = 0) :
    k0_pay1 (F := Ideal) xh wh wl xl wh b y = (∑ k, u k * p k) + ((∑ k, u k * (p k - p k)) + ∑ k, v k * p k) := by
  refine (pay_at xh xl wh wl b y).trans ?_
  simp only [hu, hv, hp, hq, hb]
  exact add_zero _

/-- The bias's entries are zero. -/
theorem zero_at (n : Fin 2048) : (broadcastInDim S1x2048 ![] bcast_S_S1x2048 (constant S_ .f32 0x00000000#32) : FVec Ideal S1x2048 .f32) (ix2 0 n) = 0 := by
  pointwise

/-- What one grid point stores is its block of `result`. -/
theorem point_at (c : Dev nD) (t : Fin cfg0.N) (y : S512x1024.Idx) (r : Fin 8192) (q : Fin 2048)
    (hr : r.val = t.val % 16 * 512 + (y 0).val) (hq : q.val = t.val / 16 * 1024 + (y 1).val) :
    k0_pay1 (F := Ideal) (iblk m c 0 t) (iblk m c 2 t) (iblk m c 3 t) (iblk m c 1 t) (iblk m c 2 t) (iblk m c 4 t) y
      = splitAt (fun r k => (m ((c.tc : Thread nD τ).loc main_arg0) : FVec Ideal S8192x2048 .bf16) (ix2 r k)) (fun r k => (m ((c.tc : Thread nD τ).loc main_arg1) : FVec Ideal S8192x2048 .bf16) (ix2 r k)) (fun k q => (m ((c.tc : Thread nD τ).loc main_arg2) : FVec Ideal S4x2048x2048 .f32) (ix3 0 k q)) r q := by
  exact pay_of _ _ _ _ _ y _ _ _ (fun k => block0 m c t (y 0) k r hr) (fun k => block1 m c t (y 0) k r hr)
    (fun k => (block2 m c t (y 1) k q hq).trans (congrFun (host_hi m c) _)) (fun k => (block3 m c t (y 1) k q hq).trans (congrFun (host_lo m c) _))
    (((block4 m c t (y 1) q hq).trans (congrFun (host_zero m c) _)).trans (zero_at q))

/-- What one grid point stores, at the place it stores it. -/
theorem point (c : Dev nD) (t : Fin cfg0.N) (y) : k0_pay1 (F := Ideal) (iblk m c 0 t) (iblk m c 2 t) (iblk m c 3 t) (iblk m c 1 t) (iblk m c 2 t) (iblk m c 4 t) y
    = result m c (((cfg0.win 5).blk t).view.emb y) := by
  refine point_at m c t y _ _ ?_ ?_
  · blk_simp [idx t]
  · blk_simp [idx t]

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 5).trans (final m c), h.2 c⟩) (θ_run_and (run_main m ρ) (unchanged m ρ))

end Cert.Calls.Query
-- ==== Proof.Calls.QueryRef.lean ====
module

public import proofs.«01_k».proof.Proof.Calls.QuerySpec
public import proofs.«01_k».proof.Proof.Gen.ReferenceQueryIdeal.Run

/-!
# The expert queries: the reference's result
-/

@[expose] public section

set_option maxRecDepth 16384

noncomputable section

open Idealize.ShloMosaic Idealize.ShloMosaic.TcCoe Idealize.SL.Sem Idealize.ShloMosaic.StableHlo
open Cert.ReferenceQueryIdeal Cert.ReferenceQueryIdeal.Gen Cert.ReferenceQueryIdeal.Value

namespace Cert.Calls.Query

variable (m : (ℓ : Loc nD τ sig) → Buf (Elt Ideal) ℓ)

/-- The queries. -/
def refResult (c : Dev nD) : FVec Ideal S8192x2048 .f32 := fun j =>
  queryAt (fun r k => (m ((c.tc : Thread nD τ).loc main_arg0) : FVec Ideal S8192x2048 .bf16) (ix2 r k)) (fun r k => (m ((c.tc : Thread nD τ).loc main_arg1) : FVec Ideal S8192x2048 .bf16) (ix2 r k)) (fun k q => (m ((c.tc : Thread nD τ).loc main_arg2) : FVec Ideal S4x2048x2048 .f32) (ix3 0 k q)) (j 0) (j 1)

/-- The reference's operations compute them. -/
theorem term_at (a b : FVec Ideal S8192x2048 .bf16) (w : FVec Ideal S4x2048x2048 .f32) :
    (Host.dotGeneral dot_S8192x2048_S2048x2048_S8192x2048_1_0_0_1_n_n none (addf (extf .f32 a bitsLt_bf16_f32) (extf .f32 b bitsLt_bf16_f32)) (shapeCast _ (extractStridedSlice S1x2048x2048 ![0, 0, 0] w slices_S4x2048x2048_S1x2048x2048_0_0_0) shapeCasts_S1x2048x2048_S2048x2048) : FVec Ideal S8192x2048 .f32)
    = fun j => queryAt (fun r k => a (ix2 r k)) (fun r k => b (ix2 r k)) (fun k q => w (ix3 0 k q)) (j 0) (j 1) := by
  funext j
  pointwise [queryAt]

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v5) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_at _ _ _), (h c).2⟩) (run m ρ)

end Cert.Calls.Query
-- ==== Proof.Calls.QueryPre.lean ====
module

public import proofs.«01_k».proof.Proof.Calls.QuerySpec
public import proofs.«01_k».proof.Pre_finite_query
public import proofs.«01_k».proof.Proof.Gen.Pre_finite_query
public import Idealize.ShloMosaic.Lib.StableHlo.ReadAt

/-!
# The expert queries: the precondition
-/

@[expose] public section

set_option maxRecDepth 16384

noncomputable section

open Idealize.ShloMosaic Idealize.ShloMosaic.TcCoe Idealize.SL.Sem Idealize.ShloMosaic.StableHlo
open Cert.Pre_finite_query

namespace Cert.Calls.Query

/-- The precondition of the expert queries says that every entry is finite. -/
theorem finite_of_pre (a b : FVec Ideal S8192x2048 .bf16) (w : FVec Ideal S4x2048x2048 .f32)
    (h : fn (F := Ideal) a b w = fun _ => 1#1) :
    (∀ r k, Finite (a (ix2 r k))) ∧ (∀ r k, Finite (b (ix2 r k))) ∧ ∀ k q, Finite (w (ix3 0 k q)) := by
  have hs : Subsingleton S_.Idx := ⟨fun x y => funext fun i => i.elim0⟩
  have h0 := congrFun h (fun i => i.elim0)
  obtain ⟨h1, h2⟩ := both_of_andi h0
  obtain ⟨h3, h4⟩ := both_of_andi h1
  refine ⟨fun r k => ?_, fun r k => ?_, fun k q => ?_⟩
  · exact finite_of_lt _ (Host.reduce_andi_all _ _ _ _ _ h3 (ix2 r k))
  · exact finite_of_lt _ (Host.reduce_andi_all _ _ _ _ _ h4 (ix2 r k))
  · have e := Host.reduce_andi_all _ _ _ _ _ h2 (ix2 k q)
    have hw : (shapeCast S2048x2048 (extractStridedSlice S1x2048x2048 ![0, 0, 0] w Facts.slices_S4x2048x2048_S1x2048x2048_0_0_0) Facts.shapeCasts_S1x2048x2048_S2048x2048) (ix2 k q) = w (ix3 0 k q) := by
      pointwise
    rw [← hw]
    exact finite_of_lt _ e

end Cert.Calls.Query
-- ==== Proof.Calls.ModSpec.lean ====
module

public import proofs.«01_k».proof.Proof.Calls.Finite
public import Idealize.ShloMosaic.Lib.IdealHost

/-!
# The modulated norm and the modulation table
-/

@[expose] public section

set_option maxRecDepth 16384

noncomputable section

open Idealize.ShloMosaic Idealize.ShloMosaic.TcCoe Idealize.SL.Sem Idealize.ShloMosaic.StableHlo

namespace Cert.Calls

/-- The modulated norm: the norm, times one plus the scale, plus the shift; `o` and `p` are where the scale's and the
shift's columns begin. -/
def modAt (x : Fin 8192 → Fin 2048 → EReal) (g : Fin 2048 → EReal) (d : Fin 8 → Fin 12288 → EReal) (o p : Fin 5) (r : Fin 8192) (q : Fin 2048) : EReal :=
  normAt x g r q * (Ideal.ofBits FTy.f32 0x3F800000#32 + d ⟨modRow r.val, modRow_lt r.isLt⟩ ⟨2048 * o.val + q.val, by omega⟩)
    + d ⟨modRow r.val, modRow_lt r.isLt⟩ ⟨2048 * p.val + q.val, by omega⟩

/-- A product the kernel forms in three parts: each factor is its rounding and what the rounding drops, and the product of
the two dropped parts is left out. -/
def splitSum (u p : Fin 2048 → EReal) : EReal := (∑ k, u k * p k) + ((∑ k, u k * (p k - p k)) + ∑ k, (u k - u k) * p k)

/-- Where both factors are finite, nothing is dropped. -/
theorem splitSum_eq {u p : Fin 2048 → EReal} (hu : ∀ k, Finite (u k)) (hp : ∀ k, Finite (p k)) : splitSum u p = ∑ k, u k * p k := by
  unfold splitSum
  have h1 : (∑ k, u k * (p k - p k)) = 0 := Finset.sum_eq_zero fun k _ => by rw [EReal.sub_self (hp k).1 (hp k).2, mul_zero]
  have h2 : (∑ k, (u k - u k) * p k) = 0 := Finset.sum_eq_zero fun k _ => by rw [EReal.sub_self (hu k).1 (hu k).2, zero_mul]
  rw [h1, h2, add_zero, add_zero]

/-- A real number is finite. -/
theorem Finite.coe (r : ℝ) : Finite (r : EReal) := ⟨EReal.coe_ne_top r, EReal.coe_ne_bot r⟩

/-- Finite numbers multiply to one. -/
theorem Finite.mul {x y : EReal} (hx : Finite x) (hy : Finite y) : Finite (x * y) := by
  obtain ⟨a, rfl⟩ := hx.real
  obtain ⟨b, rfl⟩ := hy.real
  rw [← EReal.coe_mul]
  exact Finite.coe _

/-- Finite numbers add to one. -/
theorem Finite.add {x y : EReal} (hx : Finite x) (hy : Finite y) : Finite (x + y) := by
  obtain ⟨a, rfl⟩ := hx.real
  obtain ⟨b, rfl⟩ := hy.real
  rw [← EReal.coe_add]
  exact Finite.coe _

/-- A number times its logistic. -/
def siluAt (z : EReal) : EReal := z * Ideal.logistic z

/-- Of a finite number it is finite. -/
theorem Finite.silu {z : EReal} (h : Finite z) : Finite (siluAt z) := by
  obtain ⟨a, rfl⟩ := h.real
  exact (Finite.coe a).mul (by rw [Ideal.logistic_coe]; exact Finite.coe _)

/-- The modulation table of layer `l`: the conditioning row times the weights, plus the bias. -/
def tableAt (c : Fin 8 → Fin 2048 → EReal) (w : Fin 4 → Fin 2048 → Fin 12288 → EReal) (b : Fin 4 → Fin 12288 → EReal)
    (l : Fin 4) (s : Fin 8) (n : Fin 12288) : EReal :=
  (∑ k, siluAt (c s k) * w l k n) + b l n

/-- The modulation table as the kernel forms it. -/
def splitTableAt (c : Fin 8 → Fin 2048 → EReal) (w : Fin 4 → Fin 2048 → Fin 12288 → EReal) (b : Fin 4 → Fin 12288 → EReal)
    (l : Fin 4) (s : Fin 8) (n : Fin 12288) : EReal :=
  splitSum (fun k => siluAt (c s k)) (fun k => w l k n) + b l n

/-- Where the conditioning and the weights are finite, the two are equal. -/
theorem splitTableAt_eq {c : Fin 8 → Fin 2048 → EReal} {w : Fin 4 → Fin 2048 → Fin 12288 → EReal} {b : Fin 4 → Fin 12288 → EReal}
    (hc : ∀ s k, Finite (c s k)) (hw : ∀ l k n, Finite (w l k n)) (l : Fin 4) (s : Fin 8) (n : Fin 12288) :
    splitTableAt c w b l s n = tableAt c w b l s n := by
  unfold splitTableAt tableAt
  rw [splitSum_eq (fun k => (hc s k).silu) (fun k => hw l k n)]

/-- The width of a row is a real number. -/
theorem width_eq : Ideal.ofBits FTy.f32 0x45000000#32 = ((2048 : ℝ) : EReal) := by
  simp [Ideal.ofBits, Ideal.ieee, -EReal.coe_mul]; norm_num

/-- What the norm adds to the mean square is a real number above zero. -/
theorem eps_eq : Ideal.ofBits FTy.f32 0x358637BD#32 = ((8796093 / 8796093022208 : ℝ) : EReal) := by
  simp [Ideal.ofBits, Ideal.ieee, -EReal.coe_mul]; norm_num

/-- A sum of real numbers is a real number. -/
theorem sum_real (s : Finset (Fin 2048)) (f : Fin 2048 → ℝ) : (∑ k ∈ s, (f k : EReal)) = ((∑ k ∈ s, f k : ℝ) : EReal) := by
  induction s using Finset.cons_induction with
  | empty => simp
  | cons a s h ih => rw [Finset.sum_cons, Finset.sum_cons, ih, EReal.coe_add]

/-- The norm of finite rows with a finite gain is finite. -/
theorem Finite.norm {R : Nat} {x : Fin R → Fin 2048 → EReal} {g : Fin 2048 → EReal} (hx : ∀ r k, Finite (x r k)) (hg : ∀ k, Finite (g k))
    (r : Fin R) (q : Fin 2048) : Finite (normAt x g r q) := by
  choose a ha using fun k => (hx r k).real
  have hs : (∑ k, x r k * x r k) = ((∑ k, a k * a k : ℝ) : EReal) := by
    rw [← sum_real]
    exact Finset.sum_congr rfl fun k _ => by rw [ha k, EReal.coe_mul]
  have hpos : 0 < (∑ k, a k * a k) / 2048 + 8796093 / 8796093022208 :=
    add_pos_of_nonneg_of_pos (div_nonneg (Finset.sum_nonneg fun k _ => mul_self_nonneg _) (by norm_num)) (by norm_num)
  have hd : Ideal.div (∑ k, x r k * x r k) (Ideal.ofBits FTy.f32 0x45000000#32) + Ideal.ofBits FTy.f32 0x358637BD#32
      = (((∑ k, a k * a k) / 2048 + 8796093 / 8796093022208 : ℝ) : EReal) := by
    rw [hs, width_eq, eps_eq, Ideal.div_coe (by norm_num), ← EReal.coe_mul, ← EReal.coe_add, mul_one_div]
  unfold normAt
  refine ((hx r q).mul ?_).mul (hg q)
  rw [hd, Ideal.rsqrt_coe, if_neg (not_lt.2 hpos.le), if_neg hpos.ne']
  exact Finite.coe _

/-- The modulated norm of finite operands is finite. -/
theorem Finite.mod {x : Fin 8192 → Fin 2048 → EReal} {g : Fin 2048 → EReal} {d : Fin 8 → Fin 12288 → EReal} (hx : ∀ r k, Finite (x r k))
    (hg : ∀ k, Finite (g k)) (hd : ∀ s n, Finite (d s n)) (o p : Fin 5) (r : Fin 8192) (q : Fin 2048) : Finite (modAt x g d o p r q) := by
  unfold modAt
  have one : Finite (Ideal.ofBits FTy.f32 0x3F800000#32) := by
    rw [Ideal.ofBits_one_f32, ← EReal.coe_one]; exact Finite.coe _
  exact ((Finite.norm hx hg r q).mul (one.add (hd _ _))).add (hd _ _)

/-- The column of the input projection that column `n` of the narrow parts comes from: two groups of parts, of 32 and of
16 columns. -/
def smallCol (n : Nat) : Nat := if n < 32 then n + 6144 else n + 10240

/-- A narrow column is a column of the input projection. -/
theorem smallCol_lt {n : Nat} (h : n < 48) : smallCol n < 16432 := by
  unfold smallCol; split <;> omega

/-- The narrow columns of a row of the input projection, then zeros. -/
def smallAt (z : Fin 16432 → EReal) (n : Fin 128) : EReal := if h : n.val < 48 then z ⟨smallCol n.val, smallCol_lt h⟩ else 0

/-- The narrow parts of the input projection. -/
def gatesAt (u : Fin 2048 → EReal) (w : Fin 2048 → Fin 16432 → EReal) (b : Fin 16432 → EReal) (n : Fin 128) : EReal :=
  smallAt (fun j => (∑ k, u k * w k j) + b j) n

/-- The narrow parts as the kernel forms them. -/
def splitGatesAt (u : Fin 2048 → EReal) (w : Fin 2048 → Fin 16432 → EReal) (b : Fin 16432 → EReal) (n : Fin 128) : EReal :=
  splitSum u (fun k => smallAt (w k) n) + smallAt b n

/-- Where the rows and the weights are finite, the two are equal. -/
theorem splitGatesAt_eq {u : Fin 2048 → EReal} {w : Fin 2048 → Fin 16432 → EReal} {b : Fin 16432 → EReal} (hu : ∀ k, Finite (u k))
    (hw : ∀ k j, Finite (w k j)) (n : Fin 128) : splitGatesAt u w b n = gatesAt u w b n := by
  unfold splitGatesAt gatesAt
  by_cases h : n.val < 48
  · simp only [smallAt, dif_pos h]
    rw [splitSum_eq hu fun k => hw k _]
  · simp only [smallAt, dif_neg h]
    rw [splitSum_eq (p := fun _ => 0) hu fun k => Finite.coe 0]
    simp

end Cert.Calls
-- ==== Proof.Calls.ModPeerKernel.lean ====
module

public import proofs.«01_k».proof.Proof.Calls.ModSpec
public import proofs.«01_k».proof.Proof.Gen.KernelModPeerIdeal.Value
public import proofs.«01_k».proof.Proof.Gen.KernelModPeerIdeal.Frame
public import Idealize.ShloMosaic.Lib.StableHlo.ReadAt

/-!
# The modulated norm of the experts: the kernel's results
-/

@[expose] public section

set_option maxRecDepth 16384

noncomputable section

open Idealize.ShloMosaic Idealize.ShloMosaic.TcCoe Idealize.SL.Sem Idealize.ShloMosaic.StableHlo
open Cert.KernelModPeerIdeal Cert.KernelModPeerIdeal.Gen

namespace Cert.Calls.ModPeer

variable (m : (ℓ : Loc nD τ sig) → Buf (Elt Ideal) ℓ)

/-- The blocks the grid points read and write. -/
theorem idx : ∀ t : Fin cfg0.N, win0_0.index t = ![t.val, 0] ∧ win0_1.index t = ![0, 0] ∧ win0_2.index t = ![modRow (t.val * 512), 0, 4]
    ∧ win0_3.index t = ![modRow (t.val * 512), 0, 3] ∧ win0_4.index t = ![t.val, 0] ∧ win0_5.index t = ![t.val, 0] ∧ win0_6.index t = ![0, t.val] := (by decide +kernel : ∀ t : Fin grid0.N, _)

/-- The modulated norm. -/
def result0 (c : Dev nD) : FVec Ideal S8192x2048 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1)

/-- What rounding the modulated norm drops. -/
def result1 (c : Dev nD) : FVec Ideal S8192x2048 .bf16 := fun j =>
  (modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1) : EReal) - modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1)

/-- The modulated norm, transposed. -/
def result2 (c : Dev nD) : FVec Ideal S2048x8192 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 1) (j 0)

/-- The gain, as the kernel reads it. -/
theorem host_gain (c : Dev nD) : V m c main_v2 = (shapeCast S1x2048 (shapeCast S2048 (extractStridedSlice S1x2048 ![0, 0] (m ((c.tc : Thread nD τ).loc main_arg1) : FVec Ideal S4x2048 .f32) slices_S4x2048_S1x2048_0_0) shapeCasts_S1x2048_S2048) shapeCasts_S2048_S1x2048 : FVec Ideal S1x2048 .f32) := by
  show StableHlo.after _ _ _ = _
  after_results
  rfl

/-- The gain's entries. -/
theorem gain_at (g : FVec Ideal S4x2048 .f32) (q : Fin 2048) :
    (shapeCast S1x2048 (shapeCast S2048 (extractStridedSlice S1x2048 ![0, 0] g slices_S4x2048_S1x2048_0_0) shapeCasts_S1x2048_S2048) shapeCasts_S2048_S1x2048 : FVec Ideal S1x2048 .f32) (ix2 0 q) = g (ix2 0 q) := by
  pointwise

/-- The rows' block. -/
theorem block0 (c : Dev nD) (t : Fin cfg0.N) (y : Fin 512) (k : Fin 2048) (r : Fin 8192) (hr : r.val = t.val * 512 + y.val) :
    (iblk m c 0 t : FVec Ideal S512x2048 .f32) (ix2 y k) = (m ((c.tc : Thread nD τ).loc main_arg0) : FVec Ideal S8192x2048 .f32) (ix2 r k) := by
  blk_ext [iblk, V, idx t]

/-- The gain's block. -/
theorem block1 (c : Dev nD) (t : Fin cfg0.N) (q : Fin 2048) :
    (iblk m c 1 t : FVec Ideal S1x2048 .f32) (ix2 0 q) = (V m c main_v2 : FVec Ideal S1x2048 .f32) (ix2 0 q) := by
  blk_ext [iblk, idx t]

/-- The scale's block. -/
theorem block2 (c : Dev nD) (t : Fin cfg0.N) (q : Fin 2048) (s : Fin 8) (n : Fin 12288) (hs : s.val = modRow (t.val * 512)) (hn : n.val = 2048 * 4 + q.val) :
    (iblk m c 2 t : FVec Ideal S1x1x2048 .f32) (ix3 0 0 q) = (m ((c.tc : Thread nD τ).loc main_arg2) : FVec Ideal S8x1x12288 .f32) (ix3 s 0 n) := by
  blk_ext [iblk, V, idx t]

/-- The shift's block. -/
theorem block3 (c : Dev nD) (t : Fin cfg0.N) (q : Fin 2048) (s : Fin 8) (n : Fin 12288) (hs : s.val = modRow (t.val * 512)) (hn : n.val = 2048 * 3 + q.val) :
    (iblk m c 3 t : FVec Ideal S1x1x2048 .f32) (ix3 0 0 q) = (m ((c.tc : Thread nD τ).loc main_arg2) : FVec Ideal S8x1x12288 .f32) (ix3 s 0 n) := by
  blk_ext [iblk, V, idx t]

/-- The body of a block, entry by entry. -/
theorem pay_at (x : FVec Ideal S512x2048 .f32) (g : FVec Ideal S1x2048 .f32) (a b : FVec Ideal S1x1x2048 .f32) (y : S512x2048.Idx) :
    k0_pay1 (F := Ideal) x g a b y = normAt (fun r k => x (ix2 r k)) (fun q => g (ix2 0 q)) (y 0) (y 1)
      * (Ideal.ofBits FTy.f32 0x3F800000#32 + a (ix3 0 0 (y 1))) + b (ix3 0 0 (y 1)) := by
  pointwise [k0_pay1, normAt]

/-- The body of a block, of operands known at its place. -/
theorem pay_of (x : FVec Ideal S512x2048 .f32) (g : FVec Ideal S1x2048 .f32) (a b : FVec Ideal S1x1x2048 .f32) (y : S512x2048.Idx)
    (u : Fin 8192 → Fin 2048 → EReal) (v : Fin 2048 → EReal) (r : Fin 8192) (s z : EReal) (hu : ∀ k, (x (ix2 (y 0) k) : EReal) = u r k)
    (hv : (g (ix2 0 (y 1)) : EReal) = v (y 1)) (ha : (a (ix3 0 0 (y 1)) : EReal) = s) (hb : (b (ix3 0 0 (y 1)) : EReal) = z) :
    k0_pay1 (F := Ideal) x g a b y = normAt u v r (y 1) * (Ideal.ofBits FTy.f32 0x3F800000#32 + s) + z := by
  refine (pay_at x g a b y).trans ?_
  unfold normAt
  simp only [hu, hv, ha, hb]
  exact congrArg (fun e : EReal => e * _ * _ * _ + _) (hu (y 1))

/-- What the body computes is its block of the modulated norm. -/
theorem base (c : Dev nD) (t : Fin cfg0.N) (y : S512x2048.Idx) (r : Fin 8192) (q : Fin 2048) (hr : r.val = t.val * 512 + (y 0).val) (hq : q = y 1) :
    k0_pay1 (F := Ideal) (iblk m c 0 t) (iblk m c 1 t) (iblk m c 2 t) (iblk m c 3 t) y = modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 r q := by
  subst hq
  have hm : modRow r.val = modRow (t.val * 512) := by rw [hr]; exact modRow_block (y 0).isLt
  exact pay_of _ _ _ _ y _ _ r _ _ (fun k => block0 m c t (y 0) k r hr)
    ((block1 m c t (y 1)).trans ((congrFun (host_gain m c) _).trans (gain_at _ _)))
    (block2 m c t (y 1) _ _ hm rfl) (block3 m c t (y 1) _ _ hm rfl)

/-- The first store, at the place it stores it. -/
theorem point0 (c : Dev nD) (t : Fin cfg0.N) (y) : k0_pay2 (F := Ideal) (iblk m c 0 t) (iblk m c 1 t) (iblk m c 2 t) (iblk m c 3 t) y = result0 m c (((cfg0.win 4).blk t).view.emb y) := by
  refine base m c t y _ _ ?_ ?_
  · blk_simp [idx t]
  · exact Fin.ext (by blk_simp [idx t])

/-- The second store, at the place it stores it. -/
theorem point1 (c : Dev nD) (t : Fin cfg0.N) (y) : k0_pay3 (F := Ideal) (iblk m c 0 t) (iblk m c 1 t) (iblk m c 2 t) (iblk m c 3 t) y = result1 m c (((cfg0.win 5).blk t).view.emb y) := by
  have e := base m c t y (((cfg0.win 5).blk t).view.emb y 0) (((cfg0.win 5).blk t).view.emb y 1) (by blk_simp [idx t]) (Fin.ext (by blk_simp [idx t]))
  exact congrArg₂ (fun a b : EReal => a - b) e e

/-- The third store, at the place it stores it. -/
theorem point2 (c : Dev nD) (t : Fin cfg0.N) (y) : k0_pay4 (F := Ideal) (iblk m c 0 t) (iblk m c 1 t) (iblk m c 2 t) (iblk m c 3 t) y = result2 m c (((cfg0.win 6).blk t).view.emb y) := by
  have e := base m c t (ix2 (y 1) (y 0)) (((cfg0.win 6).blk t).view.emb y 1) (((cfg0.win 6).blk t).view.emb y 0) (by blk_simp [idx t]) (Fin.ext (by blk_simp [idx t]))
  refine Eq.trans ?_ e
  pointwise [k0_pay4]

/-- The first result array after the run. -/
theorem final0 (c : Dev nD) : (dats m 0 c).arrAt 4 (cfgs 0).N = result0 m c := by
  refine (dats m 0 c).arrAt_eq_of_covers 4 _ (by decide +kernel) fun t _ y => ?_
  blk_simp
  rw [after0_4]
  frame_out
  exact point0 m c t y

/-- The second result array after the run. -/
theorem final1 (c : Dev nD) : (dats m 0 c).arrAt 5 (cfgs 0).N = result1 m c := by
  refine (dats m 0 c).arrAt_eq_of_covers 5 _ (by decide +kernel) fun t _ y => ?_
  blk_simp
  rw [after0_5]
  frame_out
  exact point1 m c t y

/-- The third result array after the run. -/
theorem final2 (c : Dev nD) : (dats m 0 c).arrAt 6 (cfgs 0).N = result2 m c := by
  refine (dats m 0 c).arrAt_eq_of_covers 6 _ (by decide +kernel) fun t _ y => ?_
  blk_simp
  rw [after0_6]
  frame_out
  exact point2 m c t y

/-- The kernel's run: its result arrays hold the results, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v3_0) = result0 m c
      ∧ r.2.mem ((c.tc : Thread nD τ).loc main_v3_1) = result1 m c
      ∧ r.2.mem ((c.tc : Thread nD τ).loc main_v3_2) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final0 m c), ((h.1 c).1 5).trans (final1 m c), ((h.1 c).1 6).trans (final2 m c), h.2 c⟩)
    (θ_run_and (run_main m ρ) (unchanged m ρ))

end Cert.Calls.ModPeer
-- ==== Proof.Calls.ModPeerRef.lean ====
module

public import proofs.«01_k».proof.Proof.Calls.ModSpec
public import proofs.«01_k».proof.Proof.Gen.ReferenceModPeerIdeal.Run

/-!
# The modulated norm of the experts: the reference's results
-/

@[expose] public section

set_option maxRecDepth 16384

noncomputable section

open Idealize.ShloMosaic Idealize.ShloMosaic.TcCoe Idealize.SL.Sem Idealize.ShloMosaic.StableHlo
open Cert.ReferenceModPeerIdeal Cert.ReferenceModPeerIdeal.Gen Cert.ReferenceModPeerIdeal.Value

namespace Cert.Calls.ModPeer

variable (m : (ℓ : Loc nD τ sig) → Buf (Elt Ideal) ℓ)

/-- The modulated norm. -/
def refResult0 (c : Dev nD) : FVec Ideal S8192x2048 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1)

/-- What rounding the modulated norm drops. -/
def refResult1 (c : Dev nD) : FVec Ideal S8192x2048 .bf16 := fun j =>
  (modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1) : EReal) - modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 0) (j 1)

/-- The modulated norm, transposed. -/
def refResult2 (c : Dev nD) : FVec Ideal S2048x8192 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 4 3 (j 1) (j 0)

/-- The reference's operations compute the modulated norm. -/
theorem term_at (x : FVec Ideal S8192x2048 .f32) (g : FVec Ideal S4x2048 .f32) (d : FVec Ideal S8x1x12288 .f32) :
    ((concatenate S8192x2048 0 [⟨S4096x2048, (shapeCast _ (addf (mulf (shapeCast _ (extractStridedSlice S4096x2048 ![0, 0] (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S4x2048_S1x2048_0_0) shapeCasts_S1x2048_S2048)))) slices_S8192x2048_S4096x2048_0_0) shapeCasts_S4096x2048_S16x256x2048) (broadcastInDim S16x256x2048 ![0, 1, 2] bcast_S1x1x2048_S16x256x2048_0_1_2 (addf (broadcastInDim S1x1x2048 ![] bcast_S_S1x1x2048 (constant S_ .f32 0x3F800000#32)) (extractStridedSlice S1x1x2048 ![4, 0, 0] (extractStridedSlice S8x1x2048 ![0, 0, 8192] d slices_S8x1x12288_S8x1x2048_0_0_8192) slices_S8x1x2048_S1x1x2048_4_0_0)))) (broadcastInDim S16x256x2048 ![0, 1, 2] bcast_S1x1x2048_S16x256x2048_0_1_2 (extractStridedSlice S1x1x2048 ![4, 0, 0] (extractStridedSlice S8x1x2048 ![0, 0, 6144] d slices_S8x1x12288_S8x1x2048_0_0_6144) slices_S8x1x2048_S1x1x2048_4_0_0))) shapeCasts_S16x256x2048_S4096x2048)⟩, ⟨S4096x2048, (shapeCast _ (addf (mulf (shapeCast _ (extractStridedSlice S4096x2048 ![4096, 0] (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S4x2048_S1x2048_0_0) shapeCasts_S1x2048_S2048)))) slices_S8192x2048_S4096x2048_4096_0) shapeCasts_S4096x2048_S4x1024x2048) (broadcastInDim S4x1024x2048 ![0, 1, 2] bcast_S4x1x2048_S4x1024x2048_0_1_2 (addf (broadcastInDim S4x1x2048 ![] bcast_S_S4x1x2048 (constant S_ .f32 0x3F800000#32)) (extractStridedSlice S4x1x2048 ![0, 0, 0] (extractStridedSlice S8x1x2048 ![0, 0, 8192] d slices_S8x1x12288_S8x1x2048_0_0_8192) slices_S8x1x2048_S4x1x2048_0_0_0)))) (broadcastInDim S4x1024x2048 ![0, 1, 2] bcast_S4x1x2048_S4x1024x2048_0_1_2 (extractStridedSlice S4x1x2048 ![0, 0, 0] (extractStridedSlice S8x1x2048 ![0, 0, 6144] d slices_S8x1x12288_S8x1x2048_0_0_6144) slices_S8x1x2048_S4x1x2048_0_0_0))) shapeCasts_S4x1024x2048_S4096x2048)⟩] concatenates_S4096x2048_S4096x2048_S8192x2048_d0) : FVec Ideal S8192x2048 .f32)
    = fun j => modAt (fun r q => x (ix2 r q)) (fun q => g (ix2 0 q)) (fun s q => d (ix3 s 0 q)) 4 3 (j 0) (j 1) := by
  funext j
  obtain ⟨r, q, rfl⟩ : ∃ (r : Fin 8192) (q : Fin 2048), j = ix2 r q := ⟨j 0, j 1, eq_ix2 j⟩
  by_cases hr : r.val < 4096
  · refine (concatenate_pair_apply_left (t := S8192x2048) (s₁ := S4096x2048) (s₂ := S4096x2048) 0 _ _ _ (ix2 r q) rfl (ix2 (⟨r.val, hr⟩ : Fin 4096) q)
      (fun b => match b with | ⟨0, _⟩ => rfl | ⟨1, _⟩ => rfl)).trans ?_
    have e : ∀ n : Fin 12288, d (ix3 4 0 n) = d (ix3 ⟨modRow r.val, modRow_lt r.isLt⟩ 0 n) := fun n => by
      congr 2; exact Fin.ext (by show 4 = modRow r.val; unfold modRow; rw [if_pos hr])
    pointwise [modAt, normAt]
    simp only [Nat.div_add_mod', e]
  · refine (concatenate_pair_apply_right (t := S8192x2048) (s₁ := S4096x2048) (s₂ := S4096x2048) 0 _ _ _ (ix2 r q) rfl rfl (ix2 (⟨r.val - 4096, by omega⟩ : Fin 4096) q)
      (fun b hb => match b, hb with | ⟨0, _⟩, hb => absurd rfl hb | ⟨1, _⟩, _ => rfl) (by show r.val - 4096 + 4096 = r.val; omega)).trans ?_
    have e : modRow r.val = (r.val - 4096) / 1024 := by unfold modRow; rw [if_neg hr]
    have e' : 4096 + (r.val - 4096) = r.val := by omega
    pointwise [modAt, normAt]
    simp only [Nat.div_add_mod', e, e']

/-- The transpose of a modulated norm. -/
theorem flip_at (x : FVec Ideal S8192x2048 .f32) (f : Fin 8192 → Fin 2048 → EReal) (h : x = fun j => f (j 0) (j 1)) :
    (truncf .bf16 (transpose S2048x8192 [1, 0] x transposes_S8192x2048_S2048x8192_1_0) bitsLt_bf16_f32 : FVec Ideal S2048x8192 .bf16) = fun j => f (j 1) (j 0) := by
  subst h
  funext j
  pointwise

/-- The reference's run: its result arrays hold the results, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v40) = refResult0 m c
      ∧ r.2.mem ((c.tc : Thread nD τ).loc main_v43) = refResult1 m c
      ∧ r.2.mem ((c.tc : Thread nD τ).loc main_v45) = refResult2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_at _ _ _),
      (h c).2.1.trans (funext fun j => congrArg₂ (fun a b : EReal => a - b) (congrFun (term_at _ _ _) j) (congrFun (term_at _ _ _) j)),
      (h c).2.2.1.trans (flip_at _ _ (term_at _ _ _)), (h c).2.2.2⟩) (run m ρ)

end Cert.Calls.ModPeer
-- ==== Proof.Calls.ModGatesHost.lean ====
module

public import proofs.«01_k».proof.Proof.Calls.ModSpec
public import proofs.«01_k».proof.Proof.Gen.KernelModGatesIdeal.Value
public import proofs.«01_k».proof.Proof.Gen.KernelModGatesIdeal.Frame
public import Idealize.ShloMosaic.Lib.StableHlo.ReadAt
public import Idealize.ShloMosaic.Lib.KernelVsHost

/-!
# The narrow columns of the input projection: what the kernel lays out beforehand
-/

@[expose] public section

set_option maxRecDepth 16384

noncomputable section

open Idealize.ShloMosaic Idealize.ShloMosaic.TcCoe Idealize.SL.Sem Idealize.ShloMosaic.StableHlo
open Cert.KernelModGatesIdeal Cert.KernelModGatesIdeal.Gen

namespace Cert.Calls.ModGates

variable (m : (ℓ : Loc nD τ sig) → Buf (Elt Ideal) ℓ)

/-- The widths of the narrow parts of the weights. -/
def smallWPieces : List Shape := [S4x2048x16, S4x2048x16, S4x2048x8, S4x2048x8]

/-- The narrow columns of the weights, side by side. -/
def smallW (w : FVec Ideal S4x2048x16432 .f32) : FVec Ideal S4x2048x48 .f32 :=
  concatenate S4x2048x48 2 [⟨S4x2048x16, (extractStridedSlice S4x2048x16 ![0, 0, 6144] w slices_S4x2048x16432_S4x2048x16_0_0_6144 : (⟨S4x2048x16, .f32⟩ : BufTy).Contents (Elt Ideal))⟩, ⟨S4x2048x16, (extractStridedSlice S4x2048x16 ![0, 0, 6160] w slices_S4x2048x16432_S4x2048x16_0_0_6160 : (⟨S4x2048x16, .f32⟩ : BufTy).Contents (Elt Ideal))⟩, ⟨S4x2048x8, (extractStridedSlice S4x2048x8 ![0, 0, 10272] w slices_S4x2048x16432_S4x2048x8_0_0_10272 : (⟨S4x2048x8, .f32⟩ : BufTy).Contents (Elt Ideal))⟩, ⟨S4x2048x8, (extractStridedSlice S4x2048x8 ![0, 0, 10280] w slices_S4x2048x16432_S4x2048x8_0_0_10280 : (⟨S4x2048x8, .f32⟩ : BufTy).Contents (Elt Ideal))⟩] concatenates_S4x2048x16_S4x2048x16_S4x2048x8_S4x2048x8_S4x2048x48_d2

/-- Column `n` of them is column `smallCol n`. -/
theorem smallW_at (w : FVec Ideal S4x2048x16432 .f32) (l : Fin 4) (k : Fin 2048) (n : Fin 48) : smallW w (ix3 l k n) = w (ix3 l k ⟨smallCol n.val, smallCol_lt n.isLt⟩) := by
  have hn := n.isLt
  have key : ∀ q q' : Fin 16432, q.val = q'.val → w (ix3 l k q) = w (ix3 l k q') := fun q q' h => by rw [Fin.ext h]
  unfold smallW
  by_cases h0 : n.val < 16
  · refine (cat_piece (t := S4x2048x48) 2 _ smallWPieces rfl _ _ 0 (by simp only [List.length_cons, List.length_nil]; decide) S4x2048x16 _ rfl rfl 0 (by decide +kernel)
      (ix3 l k (⟨n.val - 0, by omega⟩ : Fin 16)) (off_axis3 _ _) (by show 0 + (n.val - 0) = n.val; omega)).trans ?_
    pointwise
    exact key _ _ (by show 6144 + (n.val - 0) = smallCol n.val; unfold smallCol; split_ifs <;> omega)
  by_cases h1 : n.val < 32
  · refine (cat_piece (t := S4x2048x48) 2 _ smallWPieces rfl _ _ 1 (by simp only [List.length_cons, List.length_nil]; decide) S4x2048x16 _ rfl rfl 16 (by decide +kernel)
      (ix3 l k (⟨n.val - 16, by omega⟩ : Fin 16)) (off_axis3 _ _) (by show 16 + (n.val - 16) = n.val; omega)).trans ?_
    pointwise
    exact key _ _ (by show 6160 + (n.val - 16) = smallCol n.val; unfold smallCol; split_ifs <;> omega)
  by_cases h2 : n.val < 40
  · refine (cat_piece (t := S4x2048x48) 2 _ smallWPieces rfl _ _ 2 (by simp only [List.length_cons, List.length_nil]; decide) S4x2048x8 _ rfl rfl 32 (by decide +kernel)
      (ix3 l k (⟨n.val - 32, by omega⟩ : Fin 8)) (off_axis3 _ _) (by show 32 + (n.val - 32) = n.val; omega)).trans ?_
    pointwise
    exact key _ _ (by show 10272 + (n.val - 32) = smallCol n.val; unfold smallCol; split_ifs <;> omega)
  · refine (cat_piece (t := S4x2048x48) 2 _ smallWPieces rfl _ _ 3 (by simp only [List.length_cons, List.length_nil]; decide) S4x2048x8 _ rfl rfl 40 (by decide +kernel)
      (ix3 l k (⟨n.val - 40, by omega⟩ : Fin 8)) (off_axis3 _ _) (by show 40 + (n.val - 40) = n.val; omega)).trans ?_
    pointwise
    exact key _ _ (by show 10280 + (n.val - 40) = smallCol n.val; unfold smallCol; split_ifs <;> omega)

/-- The widths of the narrow parts of the biases. -/
def smallBPieces : List Shape := [S4x16, S4x16, S4x8, S4x8]

/-- The narrow columns of the biases, side by side. -/
def smallB (b : FVec Ideal S4x16432 .f32) : FVec Ideal S4x48 .f32 :=
  concatenate S4x48 1 [⟨S4x16, (extractStridedSlice S4x16 ![0, 6144] b slices_S4x16432_S4x16_0_6144 : (⟨S4x16, .f32⟩ : BufTy).Contents (Elt Ideal))⟩, ⟨S4x16, (extractStridedSlice S4x16 ![0, 6160] b slices_S4x16432_S4x16_0_6160 : (⟨S4x16, .f32⟩ : BufTy).Contents (Elt Ideal))⟩, ⟨S4x8, (extractStridedSlice S4x8 ![0, 10272] b slices_S4x16432_S4x8_0_10272 : (⟨S4x8, .f32⟩ : BufTy).Contents (Elt Ideal))⟩, ⟨S4x8, (extractStridedSlice S4x8 ![0, 10280] b slices_S4x16432_S4x8_0_10280 : (⟨S4x8, .f32⟩ : BufTy).Contents (Elt Ideal))⟩] concatenates_S4x16_S4x16_S4x8_S4x8_S4x48_d1

/-- Column `n` of them is column `smallCol n`. -/
theorem smallB_at (b : FVec Ideal S4x16432 .f32) (l : Fin 4) (n : Fin 48) : smallB b (ix2 l n) = b (ix2 l ⟨smallCol n.val, smallCol_lt n.isLt⟩) := by
  have hn := n.isLt
  have key : ∀ q q' : Fin 16432, q.val = q'.val → b (ix2 l q) = b (ix2 l q') := fun q q' h => by rw [Fin.ext h]
  unfold smallB
  by_cases h0 : n.val < 16
  · refine (cat_piece (t := S4x48) 1 _ smallBPieces rfl _ _ 0 (by simp only [List.length_cons, List.length_nil]; decide) S4x16 _ rfl rfl 0 (by decide +kernel)
      (ix2 l (⟨n.val - 0, by omega⟩ : Fin 16)) (off_axis2 _ _) (by show 0 + (n.val - 0) = n.val; omega)).trans ?_
    pointwise
    exact key _ _ (by show 6144 + (n.val - 0) = smallCol n.val; unfold smallCol; split_ifs <;> omega)
  by_cases h1 : n.val < 32
  · refine (cat_piece (t := S4x48) 1 _ smallBPieces rfl _ _ 1 (by simp only [List.length_cons, List.length_nil]; decide) S4x16 _ rfl rfl 16 (by decide +kernel)
      (ix2 l (⟨n.val - 16, by omega⟩ : Fin 16)) (off_axis2 _ _) (by show 16 + (n.val - 16) = n.val; omega)).trans ?_
    pointwise
    exact key _ _ (by show 6160 + (n.val - 16) = smallCol n.val; unfold smallCol; split_ifs <;> omega)
  by_cases h2 : n.val < 40
  · refine (cat_piece (t := S4x48) 1 _ smallBPieces rfl _ _ 2 (by simp only [List.length_cons, List.length_nil]; decide) S4x8 _ rfl rfl 32 (by decide +kernel)
      (ix2 l (⟨n.val - 32, by omega⟩ : Fin 8)) (off_axis2 _ _) (by show 32 + (n.val - 32) = n.val; omega)).trans ?_
    pointwise
    exact key _ _ (by show 10272 + (n.val - 32) = smallCol n.val; unfold smallCol; split_ifs <;> omega)
  · refine (cat_piece (t := S4x48) 1 _ smallBPieces rfl _ _ 3 (by simp only [List.length_cons, List.length_nil]; decide) S4x8 _ rfl rfl 40 (by decide +kernel)
      (ix2 l (⟨n.val - 40, by omega⟩ : Fin 8)) (off_axis2 _ _) (by show 40 + (n.val - 40) = n.val; omega)).trans ?_
    pointwise
    exact key _ _ (by show 10280 + (n.val - 40) = smallCol n.val; unfold smallCol; split_ifs <;> omega)

/-- The narrow columns of the weights, then zeros. -/
def padW (w : FVec Ideal S4x2048x16432 .f32) : FVec Ideal S4x2048x128 .f32 :=
  pad S4x2048x128 ![0, 0, 0] ![0, 0, 80] ![0, 0, 0] (smallW w) (sitofp .f32 (constantI S_ 32 0#32) : FVec Ideal S_ .f32) pads_S4x2048x48_S4x2048x128_000_000_0800 h_S_

/-- The narrow columns of the biases, then zeros. -/
def padB (b : FVec Ideal S4x16432 .f32) : FVec Ideal S4x128 .f32 :=
  pad S4x128 ![0, 0] ![0, 80] ![0, 0] (smallB b) (sitofp .f32 (constantI S_ 32 0#32) : FVec Ideal S_ .f32) pads_S4x48_S4x128_000_0800 h_S_

/-- The padding is zero. -/
theorem fill (i : S_.Idx) : ((sitofp .f32 (constantI S_ 32 0#32) : FVec Ideal S_ .f32) i : EReal) = 0 := by
  exact sitofp_zero

/-- The padded weights, entry by entry. -/
theorem padW_at (w : FVec Ideal S4x2048x16432 .f32) (l : Fin 4) (k : Fin 2048) (n : Fin 128) :
    padW w (ix3 l k n) = smallAt (fun j => w (ix3 l k j)) n := by
  unfold padW smallAt
  by_cases h : n.val < 48
  · rw [dif_pos h]
    refine (pad_apply_of_inside _ _ _ (smallW w) _ _ _ _ (ix3 l k ⟨n.val, h⟩) (fun a => ?_)).trans (smallW_at w l k ⟨n.val, h⟩)
    match a with
    | ⟨0, _⟩ => show l.val = 0 + l.val * (0 + 1); omega
    | ⟨1, _⟩ => show k.val = 0 + k.val * (0 + 1); omega
    | ⟨2, _⟩ => show n.val = 0 + n.val * (0 + 1); omega
  · rw [dif_neg h]
    refine (pad_apply_of_not_inside _ _ _ (smallW w) _ _ _ _ 2 (fun hin => h ?_)).trans (fill _)
    have e : (n.val - 0) / (0 + 1) < 48 := hin.2.2
    omega

/-- The padded biases, entry by entry. -/
theorem padB_at (b : FVec Ideal S4x16432 .f32) (l : Fin 4) (n : Fin 128) : padB b (ix2 l n) = smallAt (fun j => b (ix2 l j)) n := by
  unfold padB smallAt
  by_cases h : n.val < 48
  · rw [dif_pos h]
    refine (pad_apply_of_inside _ _ _ (smallB b) _ _ _ _ (ix2 l ⟨n.val, h⟩) (fun a => ?_)).trans (smallB_at b l ⟨n.val, h⟩)
    match a with
    | ⟨0, _⟩ => show l.val = 0 + l.val * (0 + 1); omega
    | ⟨1, _⟩ => show n.val = 0 + n.val * (0 + 1); omega
  · rw [dif_neg h]
    refine (pad_apply_of_not_inside _ _ _ (smallB b) _ _ _ _ 1 (fun hin => h ?_)).trans (fill _)
    have e : (n.val - 0) / (0 + 1) < 48 := hin.2.2
    omega

set_option maxHeartbeats 4000000 in
/-- The first part of the weights. -/
theorem host_hi (c : Dev nD) : V m c main_v56 = (truncf .bf16 (padW (m ((c.tc : Thread nD τ).loc main_arg3) : FVec Ideal S4x2048x16432 .f32)) bitsLt_bf16_f32 : FVec Ideal S4x2048x128 .bf16) := by
  show StableHlo.after _ _ _ = _
  simp only [hostOps0, hostOps0_1, hostOps0_2, hostOps0_3, hostOps0_4,
    List.flatten_cons, List.flatten_nil, List.append_nil, List.cons_append, List.nil_append]
  after_results
  rfl

set_option maxHeartbeats 4000000 in
/-- The second part of the weights. -/
theorem host_lo (c : Dev nD) : V m c main_v59
    = (truncf .bf16 (subf (padW (m ((c.tc : Thread nD τ).loc main_arg3) : FVec Ideal S4x2048x16432 .f32)) (extf .f32 (truncf .bf16 (padW (m ((c.tc : Thread nD τ).loc main_arg3) : FVec Ideal S4x2048x16432 .f32)) bitsLt_bf16_f32) bitsLt_bf16_f32)) bitsLt_bf16_f32 : FVec Ideal S4x2048x128 .bf16) := by
  show StableHlo.after _ _ _ = _
  simp only [hostOps0, hostOps0_1, hostOps0_2, hostOps0_3, hostOps0_4,
    List.flatten_cons, List.flatten_nil, List.append_nil, List.cons_append, List.nil_append]
  after_results
  rfl

set_option maxHeartbeats 4000000 in
/-- The biases. -/
theorem host_b (c : Dev nD) : V m c main_v64
    = (shapeCast S1x128 (shapeCast S128 (extractStridedSlice S1x128 ![0, 0] (padB (m ((c.tc : Thread nD τ).loc main_arg4) : FVec Ideal S4x16432 .f32)) slices_S4x128_S1x128_0_0) shapeCasts_S1x128_S128) shapeCasts_S128_S1x128 : FVec Ideal S1x128 .f32) := by
  show StableHlo.after _ _ _ = _
  simp only [hostOps0, hostOps0_1, hostOps0_2, hostOps0_3, hostOps0_4,
    List.flatten_cons, List.flatten_nil, List.append_nil, List.cons_append, List.nil_append]
  after_results
  rfl

/-- Those casts and that slice keep the first row. -/
theorem row_at (x : FVec Ideal S4x128 .f32) (n : Fin 128) :
    (shapeCast S1x128 (shapeCast S128 (extractStridedSlice S1x128 ![0, 0] x slices_S4x128_S1x128_0_0) shapeCasts_S1x128_S128) shapeCasts_S128_S1x128 : FVec Ideal S1x128 .f32) (ix2 0 n) = x (ix2 0 n) := by
  pointwise

/-- The first part of the weights, entry by entry. -/
theorem hi_at (c : Dev nD) (k : Fin 2048) (n : Fin 128) :
    ((V m c main_v56 : FVec Ideal S4x2048x128 .bf16) (ix3 0 k n) : EReal) = smallAt (fun j => (m ((c.tc : Thread nD τ).loc main_arg3) : FVec Ideal S4x2048x16432 .f32) (ix3 0 k j)) n :=
  (congrFun (host_hi m c) _).trans (padW_at _ 0 k n)

/-- The second part of the weights, entry by entry. -/
theorem lo_at (c : Dev nD) (k : Fin 2048) (n : Fin 128) :
    ((V m c main_v59 : FVec Ideal S4x2048x128 .bf16) (ix3 0 k n) : EReal) = smallAt (fun j => (m ((c.tc : Thread nD τ).loc main_arg3) : FVec Ideal S4x2048x16432 .f32) (ix3 0 k j)) n - smallAt (fun j => (m ((c.tc : Thread nD τ).loc main_arg3) : FVec Ideal S4x2048x16432 .f32) (ix3 0 k j)) n :=
  (congrFun (host_lo m c) _).trans (congrArg₂ (fun a b : EReal => a - b) (padW_at _ 0 k n) (padW_at _ 0 k n))

/-- The biases, entry by entry. -/
theorem bias_at (c : Dev nD) (n : Fin 128) : (V m c main_v64 : FVec Ideal S1x128 .f32) (ix2 0 n) = smallAt (fun j => (m ((c.tc : Thread nD τ).loc main_arg4) : FVec Ideal S4x16432 .f32) (ix2 0 j)) n :=
  (congrFun (host_b m c) _).trans ((row_at _ _).trans (padB_at _ 0 n))

end Cert.Calls.ModGates
-- ==== Proof.Calls.ModGatesKernel.lean ====
module

public import proofs.«01_k».proof.Proof.Calls.ModGatesHost

/-!
# The modulated norm and the narrow columns: the kernel's results
-/

@[expose] public section

set_option maxRecDepth 16384

noncomputable section

open Idealize.ShloMosaic Idealize.ShloMosaic.TcCoe Idealize.SL.Sem Idealize.ShloMosaic.StableHlo
open Cert.KernelModGatesIdeal Cert.KernelModGatesIdeal.Gen

namespace Cert.Calls.ModGates

variable (m : (ℓ : Loc nD τ sig) → Buf (Elt Ideal) ℓ)

/-- The blocks the grid points read and write. -/
theorem idx : ∀ t : Fin cfg0.N, win0_0.index t = ![t.val, 0] ∧ win0_1.index t = ![0, 0] ∧ win0_2.index t = ![modRow (t.val * 512), 0, 1]
    ∧ win0_3.index t = ![modRow (t.val * 512), 0, 0] ∧ win0_4.index t = ![0, 0, 0] ∧ win0_5.index t = ![0, 0, 0] ∧ win0_6.index t = ![0, 0]
    ∧ win0_7.index t = ![t.val, 0] ∧ win0_8.index t = ![t.val, 0] := (by decide +kernel : ∀ t : Fin grid0.N, _)

/-- The modulated norm. -/
def result0 (c : Dev nD) : FVec Ideal S8192x2048 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 (j 0) (j 1)

/-- The narrow columns of the input projection of the modulated norm. -/
def result1 (c : Dev nD) : FVec Ideal S8192x128 .f32 := fun j =>
  splitGatesAt (fun k => modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 (j 0) k) (fun k j => (m ((c.tc : Thread nD τ).loc main_arg3) : FVec Ideal S4x2048x16432 .f32) (ix3 0 k j)) (fun j => (m ((c.tc : Thread nD τ).loc main_arg4) : FVec Ideal S4x16432 .f32) (ix2 0 j)) (j 1)

set_option maxHeartbeats 4000000 in
/-- The gain, as the kernel reads it. -/
theorem host_gain (c : Dev nD) : V m c main_v65 = (shapeCast S1x2048 (shapeCast S2048 (extractStridedSlice S1x2048 ![0, 0] (m ((c.tc : Thread nD τ).loc main_arg1) : FVec Ideal S4x2048 .f32) slices_S4x2048_S1x2048_0_0) shapeCasts_S1x2048_S2048) shapeCasts_S2048_S1x2048 : FVec Ideal S1x2048 .f32) := by
  show StableHlo.after _ _ _ = _
  simp only [hostOps0, hostOps0_1, hostOps0_2, hostOps0_3, hostOps0_4,
    List.flatten_cons, List.flatten_nil, List.append_nil, List.cons_append, List.nil_append]
  after_results
  rfl

/-- The gain's entries. -/
theorem gain_at (g : FVec Ideal S4x2048 .f32) (q : Fin 2048) :
    (shapeCast S1x2048 (shapeCast S2048 (extractStridedSlice S1x2048 ![0, 0] g slices_S4x2048_S1x2048_0_0) shapeCasts_S1x2048_S2048) shapeCasts_S2048_S1x2048 : FVec Ideal S1x2048 .f32) (ix2 0 q) = g (ix2 0 q) := by
  pointwise

/-- The rows' block. -/
theorem block0 (c : Dev nD) (t : Fin cfg0.N) (y : Fin 512) (k : Fin 2048) (r : Fin 8192) (hr : r.val = t.val * 512 + y.val) :
    (iblk m c 0 t : FVec Ideal S512x2048 .f32) (ix2 y k) = (m ((c.tc : Thread nD τ).loc main_arg0) : FVec Ideal S8192x2048 .f32) (ix2 r k) := by
  blk_ext [iblk, V, idx t]

/-- The gain's block. -/
theorem block1 (c : Dev nD) (t : Fin cfg0.N) (q : Fin 2048) :
    (iblk m c 1 t : FVec Ideal S1x2048 .f32) (ix2 0 q) = (V m c main_v65 : FVec Ideal S1x2048 .f32) (ix2 0 q) := by
  blk_ext [iblk, idx t]

/-- The scale's block. -/
theorem block2 (c : Dev nD) (t : Fin cfg0.N) (q : Fin 2048) (s : Fin 8) (n : Fin 12288) (hs : s.val = modRow (t.val * 512)) (hn : n.val = 2048 * 1 + q.val) :
    (iblk m c 2 t : FVec Ideal S1x1x2048 .f32) (ix3 0 0 q) = (m ((c.tc : Thread nD τ).loc main_arg2) : FVec Ideal S8x1x12288 .f32) (ix3 s 0 n) := by
  blk_ext [iblk, V, idx t]

/-- The shift's block. -/
theorem block3 (c : Dev nD) (t : Fin cfg0.N) (q : Fin 2048) (s : Fin 8) (n : Fin 12288) (hs : s.val = modRow (t.val * 512)) (hn : n.val = 2048 * 0 + q.val) :
    (iblk m c 3 t : FVec Ideal S1x1x2048 .f32) (ix3 0 0 q) = (m ((c.tc : Thread nD τ).loc main_arg2) : FVec Ideal S8x1x12288 .f32) (ix3 s 0 n) := by
  blk_ext [iblk, V, idx t]

/-- The body of a block, entry by entry. -/
theorem pay_at (x : FVec Ideal S512x2048 .f32) (g : FVec Ideal S1x2048 .f32) (a b : FVec Ideal S1x1x2048 .f32) (y : S512x2048.Idx) :
    k0_pay2 (F := Ideal) x g a b y = normAt (fun r k => x (ix2 r k)) (fun q => g (ix2 0 q)) (y 0) (y 1)
      * (Ideal.ofBits FTy.f32 0x3F800000#32 + a (ix3 0 0 (y 1))) + b (ix3 0 0 (y 1)) := by
  pointwise [k0_pay2, normAt]

/-- The body of a block, of operands known at its place. -/
theorem pay_of (x : FVec Ideal S512x2048 .f32) (g : FVec Ideal S1x2048 .f32) (a b : FVec Ideal S1x1x2048 .f32) (y : S512x2048.Idx)
    (u : Fin 8192 → Fin 2048 → EReal) (v : Fin 2048 → EReal) (r : Fin 8192) (s z : EReal) (hu : ∀ k, (x (ix2 (y 0) k) : EReal) = u r k)
    (hv : (g (ix2 0 (y 1)) : EReal) = v (y 1)) (ha : (a (ix3 0 0 (y 1)) : EReal) = s) (hb : (b (ix3 0 0 (y 1)) : EReal) = z) :
    k0_pay2 (F := Ideal) x g a b y = normAt u v r (y 1) * (Ideal.ofBits FTy.f32 0x3F800000#32 + s) + z := by
  refine (pay_at x g a b y).trans ?_
  unfold normAt
  simp only [hu, hv, ha, hb]
  exact congrArg (fun e : EReal => e * _ * _ * _ + _) (hu (y 1))

/-- What the body computes is its block of the modulated norm. -/
theorem base (c : Dev nD) (t : Fin cfg0.N) (y : S512x2048.Idx) (r : Fin 8192) (q : Fin 2048) (hr : r.val = t.val * 512 + (y 0).val) (hq : q = y 1) :
    k0_pay2 (F := Ideal) (iblk m c 0 t) (iblk m c 1 t) (iblk m c 2 t) (iblk m c 3 t) y = modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 r q := by
  subst hq
  have hm : modRow r.val = modRow (t.val * 512) := by rw [hr]; exact modRow_block (y 0).isLt
  exact pay_of _ _ _ _ y _ _ r _ _ (fun k => block0 m c t (y 0) k r hr)
    ((block1 m c t (y 1)).trans ((congrFun (host_gain m c) _).trans (gain_at _ _)))
    (block2 m c t (y 1) _ _ hm rfl) (block3 m c t (y 1) _ _ hm rfl)

/-- The weights' block, first part. -/
theorem block4 (c : Dev nD) (t : Fin cfg0.N) (k : Fin 2048) (n : Fin 128) :
    (iblk m c 4 t : FVec Ideal S1x2048x128 .bf16) (ix3 0 k n) = (V m c main_v56 : FVec Ideal S4x2048x128 .bf16) (ix3 0 k n) := by
  blk_ext [iblk, idx t]

/-- The weights' block, second part. -/
theorem block5 (c : Dev nD) (t : Fin cfg0.N) (k : Fin 2048) (n : Fin 128) :
    (iblk m c 5 t : FVec Ideal S1x2048x128 .bf16) (ix3 0 k n) = (V m c main_v59 : FVec Ideal S4x2048x128 .bf16) (ix3 0 k n) := by
  blk_ext [iblk, idx t]

/-- The biases' block. -/
theorem block6 (c : Dev nD) (t : Fin cfg0.N) (n : Fin 128) :
    (iblk m c 6 t : FVec Ideal S1x128 .f32) (ix2 0 n) = (V m c main_v64 : FVec Ideal S1x128 .f32) (ix2 0 n) := by
  blk_ext [iblk, idx t]

/-- The second store, entry by entry. -/
theorem gates_at (x : FVec Ideal S512x2048 .f32) (g : FVec Ideal S1x2048 .f32) (a b : FVec Ideal S1x1x2048 .f32)
    (wh wl : FVec Ideal S1x2048x128 .bf16) (s : FVec Ideal S1x128 .f32) (y : S512x128.Idx) (u p : Fin 2048 → EReal) (z : EReal)
    (hu : ∀ k, (k0_pay2 (F := Ideal) x g a b (ix2 (y 0) k) : EReal) = u k) (hp : ∀ k, (wh (ix3 0 k (y 1)) : EReal) = p k)
    (hq : ∀ k, (wl (ix3 0 k (y 1)) : EReal) = p k - p k) (hz : (s (ix2 0 (y 1)) : EReal) = z) :
    k0_pay1 (F := Ideal) (k0_pay3 x g a b) (k0_pay4 x g a b) (k0_pay5 x g a b wh) (k0_pay6 wl) wh s y = splitSum u p + z := by
  have e : k0_pay1 (F := Ideal) (k0_pay3 x g a b) (k0_pay4 x g a b) (k0_pay5 x g a b wh) (k0_pay6 wl) wh s y
      = ((∑ k : Fin 2048, (k0_pay2 (F := Ideal) x g a b (ix2 (y 0) k) : EReal) * wh (ix3 0 k (y 1)))
        + ((∑ k : Fin 2048, (k0_pay2 (F := Ideal) x g a b (ix2 (y 0) k) : EReal) * wl (ix3 0 k (y 1)))
          + ∑ k : Fin 2048, ((k0_pay2 (F := Ideal) x g a b (ix2 (y 0) k) : EReal) - k0_pay2 (F := Ideal) x g a b (ix2 (y 0) k)) * wh (ix3 0 k (y 1))))
        + s (ix2 0 (y 1)) := by
    pointwise [k0_pay1, k0_pay3, k0_pay4, k0_pay5, k0_pay6]
  refine e.trans ?_
  unfold splitSum
  simp only [hu, hp, hq, hz]

/-- The first store, at the place it stores it. -/
theorem point0 (c : Dev nD) (t : Fin cfg0.N) (y) : k0_pay3 (F := Ideal) (iblk m c 0 t) (iblk m c 1 t) (iblk m c 2 t) (iblk m c 3 t) y = result0 m c (((cfg0.win 7).blk t).view.emb y) := by
  refine base m c t y _ _ ?_ ?_
  · blk_simp [idx t]
  · exact Fin.ext (by blk_simp [idx t])

/-- What the second store holds, of the row and column it belongs to. -/
theorem second (c : Dev nD) (t : Fin cfg0.N) (y : S512x128.Idx) (r : Fin 8192) (n : Fin 128) (hr : r.val = t.val * 512 + (y 0).val) (hn : n = y 1) :
    k0_pay1 (F := Ideal) (k0_pay3 (iblk m c 0 t) (iblk m c 1 t) (iblk m c 2 t) (iblk m c 3 t)) (k0_pay4 (iblk m c 0 t) (iblk m c 1 t) (iblk m c 2 t) (iblk m c 3 t)) (k0_pay5 (iblk m c 0 t) (iblk m c 1 t) (iblk m c 2 t) (iblk m c 3 t) (iblk m c 4 t)) (k0_pay6 (iblk m c 5 t)) (iblk m c 4 t) (iblk m c 6 t) y
      = splitGatesAt (fun k => modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 r k) (fun k j => (m ((c.tc : Thread nD τ).loc main_arg3) : FVec Ideal S4x2048x16432 .f32) (ix3 0 k j)) (fun j => (m ((c.tc : Thread nD τ).loc main_arg4) : FVec Ideal S4x16432 .f32) (ix2 0 j)) n := by
  subst hn
  exact gates_at _ _ _ _ _ _ _ y _ _ _ (fun k => base m c t (ix2 (y 0) k) r k hr rfl)
    (fun k => (block4 m c t k (y 1)).trans (hi_at m c k (y 1))) (fun k => (block5 m c t k (y 1)).trans (lo_at m c k (y 1)))
    ((block6 m c t (y 1)).trans (bias_at m c (y 1)))

/-- The second store, at the place it stores it. -/
theorem point1 (c : Dev nD) (t : Fin cfg0.N) (y) : k0_pay1 (F := Ideal) (k0_pay3 (iblk m c 0 t) (iblk m c 1 t) (iblk m c 2 t) (iblk m c 3 t)) (k0_pay4 (iblk m c 0 t) (iblk m c 1 t) (iblk m c 2 t) (iblk m c 3 t)) (k0_pay5 (iblk m c 0 t) (iblk m c 1 t) (iblk m c 2 t) (iblk m c 3 t) (iblk m c 4 t)) (k0_pay6 (iblk m c 5 t)) (iblk m c 4 t) (iblk m c 6 t) y = result1 m c (((cfg0.win 8).blk t).view.emb y) := by
  refine second m c t y _ _ ?_ ?_
  · blk_simp [idx t]
  · exact Fin.ext (by blk_simp [idx t])

/-- The first result array after the run. -/
theorem final0 (c : Dev nD) : (dats m 0 c).arrAt 7 (cfgs 0).N = result0 m c := by
  refine (dats m 0 c).arrAt_eq_of_covers 7 _ (by decide +kernel) fun t _ y => ?_
  blk_simp
  rw [after0_7]
  frame_out
  exact point0 m c t y

/-- The second result array after the run. -/
theorem final1 (c : Dev nD) : (dats m 0 c).arrAt 8 (cfgs 0).N = result1 m c := by
  refine (dats m 0 c).arrAt_eq_of_covers 8 _ (by decide +kernel) fun t _ y => ?_
  blk_simp
  rw [after0_8]
  frame_out
  exact point1 m c t y

/-- The kernel's run: its result arrays hold the results, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v66_0) = result0 m c
      ∧ r.2.mem ((c.tc : Thread nD τ).loc main_v66_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 7).trans (final0 m c), ((h.1 c).1 8).trans (final1 m c), h.2 c⟩)
    (θ_run_and (run_main m ρ) (unchanged m ρ))

end Cert.Calls.ModGates
-- ==== Proof.Calls.ModGatesRef.lean ====
module

public import proofs.«01_k».proof.Proof.Calls.ModSpec
public import proofs.«01_k».proof.Proof.Gen.ReferenceModGatesIdeal.Run

/-!
# The modulated norm and the narrow columns: the reference's results
-/

@[expose] public section

set_option maxRecDepth 16384

noncomputable section

open Idealize.ShloMosaic Idealize.ShloMosaic.TcCoe Idealize.SL.Sem Idealize.ShloMosaic.StableHlo
open Cert.ReferenceModGatesIdeal Cert.ReferenceModGatesIdeal.Gen Cert.ReferenceModGatesIdeal.Value

namespace Cert.Calls.ModGates

variable (m : (ℓ : Loc nD τ sig) → Buf (Elt Ideal) ℓ)

/-- The modulated norm. -/
def refResult0 (c : Dev nD) : FVec Ideal S8192x2048 .bf16 := fun j =>
  modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 (j 0) (j 1)

/-- The narrow columns of the input projection of the modulated norm. -/
def refResult1 (c : Dev nD) : FVec Ideal S8192x128 .f32 := fun j =>
  gatesAt (fun k => modAt (fun r q => (m ((c.tc : Thread nD τ).loc main_arg0) : FVec Ideal S8192x2048 .f32) (ix2 r q)) (fun q => (m ((c.tc : Thread nD τ).loc main_arg1) : FVec Ideal S4x2048 .f32) (ix2 0 q)) (fun s q => (m ((c.tc : Thread nD τ).loc main_arg2) : FVec Ideal S8x1x12288 .f32) (ix3 s 0 q)) 1 0 (j 0) k) (fun k j => (m ((c.tc : Thread nD τ).loc main_arg3) : FVec Ideal S4x2048x16432 .f32) (ix3 0 k j)) (fun j => (m ((c.tc : Thread nD τ).loc main_arg4) : FVec Ideal S4x16432 .f32) (ix2 0 j)) (j 1)

/-- The reference's operations compute the modulated norm. -/
theorem term_at (x : FVec Ideal S8192x2048 .f32) (g : FVec Ideal S4x2048 .f32) (d : FVec Ideal S8x1x12288 .f32) :
    ((concatenate S8192x2048 0 [⟨S4096x2048, (shapeCast _ (addf (mulf (shapeCast _ (extractStridedSlice S4096x2048 ![0, 0] (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S4x2048_S1x2048_0_0) shapeCasts_S1x2048_S2048)))) slices_S8192x2048_S4096x2048_0_0) shapeCasts_S4096x2048_S16x256x2048) (broadcastInDim S16x256x2048 ![0, 1, 2] bcast_S1x1x2048_S16x256x2048_0_1_2 (addf (broadcastInDim S1x1x2048 ![] bcast_S_S1x1x2048 (constant S_ .f32 0x3F800000#32)) (extractStridedSlice S1x1x2048 ![4, 0, 0] (extractStridedSlice S8x1x2048 ![0, 0, 2048] d slices_S8x1x12288_S8x1x2048_0_0_2048) slices_S8x1x2048_S1x1x2048_4_0_0)))) (broadcastInDim S16x256x2048 ![0, 1, 2] bcast_S1x1x2048_S16x256x2048_0_1_2 (extractStridedSlice S1x1x2048 ![4, 0, 0] (extractStridedSlice S8x1x2048 ![0, 0, 0] d slices_S8x1x12288_S8x1x2048_0_0_0) slices_S8x1x2048_S1x1x2048_4_0_0))) shapeCasts_S16x256x2048_S4096x2048)⟩, ⟨S4096x2048, (shapeCast _ (addf (mulf (shapeCast _ (extractStridedSlice S4096x2048 ![4096, 0] (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S4x2048_S1x2048_0_0) shapeCasts_S1x2048_S2048)))) slices_S8192x2048_S4096x2048_4096_0) shapeCasts_S4096x2048_S4x1024x2048) (broadcastInDim S4x1024x2048 ![0, 1, 2] bcast_S4x1x2048_S4x1024x2048_0_1_2 (addf (broadcastInDim S4x1x2048 ![] bcast_S_S4x1x2048 (constant S_ .f32 0x3F800000#32)) (extractStridedSlice S4x1x2048 ![0, 0, 0] (extractStridedSlice S8x1x2048 ![0, 0, 2048] d slices_S8x1x12288_S8x1x2048_0_0_2048) slices_S8x1x2048_S4x1x2048_0_0_0)))) (broadcastInDim S4x1024x2048 ![0, 1, 2] bcast_S4x1x2048_S4x1024x2048_0_1_2 (extractStridedSlice S4x1x2048 ![0, 0, 0] (extractStridedSlice S8x1x2048 ![0, 0, 0] d slices_S8x1x12288_S8x1x2048_0_0_0) slices_S8x1x2048_S4x1x2048_0_0_0))) shapeCasts_S4x1024x2048_S4096x2048)⟩] concatenates_S4096x2048_S4096x2048_S8192x2048_d0) : FVec Ideal S8192x2048 .f32)
    = fun j => modAt (fun r q => x (ix2 r q)) (fun q => g (ix2 0 q)) (fun s q => d (ix3 s 0 q)) 1 0 (j 0) (j 1) := by
  funext j
  obtain ⟨r, q, rfl⟩ : ∃ (r : Fin 8192) (q : Fin 2048), j = ix2 r q := ⟨j 0, j 1, eq_ix2 j⟩
  by_cases hr : r.val < 4096
  · refine (concatenate_pair_apply_left (t := S8192x2048) (s₁ := S4096x2048) (s₂ := S4096x2048) 0 _ _ _ (ix2 r q) rfl (ix2 (⟨r.val, hr⟩ : Fin 4096) q)
      (fun b => match b with | ⟨0, _⟩ => rfl | ⟨1, _⟩ => rfl)).trans ?_
    have e : ∀ n : Fin 12288, d (ix3 4 0 n) = d (ix3 ⟨modRow r.val, modRow_lt r.isLt⟩ 0 n) := fun n => by
      congr 2; exact Fin.ext (by show 4 = modRow r.val; unfold modRow; rw [if_pos hr])
    pointwise [modAt, normAt]
    simp only [Nat.div_add_mod', e]
  · refine (concatenate_pair_apply_right (t := S8192x2048) (s₁ := S4096x2048) (s₂ := S4096x2048) 0 _ _ _ (ix2 r q) rfl rfl (ix2 (⟨r.val - 4096, by omega⟩ : Fin 4096) q)
      (fun b hb => match b, hb with | ⟨0, _⟩, hb => absurd rfl hb | ⟨1, _⟩, _ => rfl) (by show r.val - 4096 + 4096 = r.val; omega)).trans ?_
    have e : modRow r.val = (r.val - 4096) / 1024 := by unfold modRow; rw [if_neg hr]
    have e' : 4096 + (r.val - 4096) = r.val := by omega
    pointwise [modAt, normAt]
    simp only [Nat.div_add_mod', e, e']

/-- The widths of the narrow parts and of the zeros. -/
def smallPieces : List Shape := [S8192x16, S8192x16, S8192x8, S8192x8, S8192x80]

/-- The narrow columns of `z`, then zeros. -/
def small (z : FVec Ideal S8192x16432 .f32) : FVec Ideal S8192x128 .f32 :=
  concatenate S8192x128 1 [⟨S8192x16, (extractStridedSlice S8192x16 ![0, 6144] z slices_S8192x16432_S8192x16_0_6144 : (⟨S8192x16, .f32⟩ : BufTy).Contents (Elt Ideal))⟩, ⟨S8192x16, (extractStridedSlice S8192x16 ![0, 6160] z slices_S8192x16432_S8192x16_0_6160 : (⟨S8192x16, .f32⟩ : BufTy).Contents (Elt Ideal))⟩, ⟨S8192x8, (extractStridedSlice S8192x8 ![0, 10272] z slices_S8192x16432_S8192x8_0_10272 : (⟨S8192x8, .f32⟩ : BufTy).Contents (Elt Ideal))⟩, ⟨S8192x8, (extractStridedSlice S8192x8 ![0, 10280] z slices_S8192x16432_S8192x8_0_10280 : (⟨S8192x8, .f32⟩ : BufTy).Contents (Elt Ideal))⟩, ⟨S8192x80, (broadcastInDim S8192x80 ![] bcast_S_S8192x80 (constant S_ .f32 0x00000000#32 : FVec Ideal S_ .f32) : (⟨S8192x80, .f32⟩ : BufTy).Contents (Elt Ideal))⟩] concatenates_S8192x16_S8192x16_S8192x8_S8192x8_S8192x80_S8192x128_d1

/-- Column `n` of them is column `smallCol n`. -/
theorem small_at (z : FVec Ideal S8192x16432 .f32) (r : Fin 8192) (n : Fin 128) : small z (ix2 r n) = smallAt (fun j => z (ix2 r j)) n := by
  have hn := n.isLt
  unfold smallAt
  by_cases h : n.val < 48
  · rw [dif_pos h]
    have key : ∀ q q' : Fin 16432, q.val = q'.val → z (ix2 r q) = z (ix2 r q') := fun q q' h => by rw [Fin.ext h]
    unfold small
    by_cases h0 : n.val < 16
    · refine (cat_piece (t := S8192x128) 1 _ smallPieces rfl _ _ 0 (by simp only [List.length_cons, List.length_nil]; decide) S8192x16 _ rfl rfl 0 (by decide +kernel)
        (ix2 r (⟨n.val - 0, by omega⟩ : Fin 16)) (off_axis2 _ _) (by show 0 + (n.val - 0) = n.val; omega)).trans ?_
      pointwise
      exact key _ _ (by show 6144 + (n.val - 0) = smallCol n.val; unfold smallCol; split_ifs <;> omega)
    by_cases h1 : n.val < 32
    · refine (cat_piece (t := S8192x128) 1 _ smallPieces rfl _ _ 1 (by simp only [List.length_cons, List.length_nil]; decide) S8192x16 _ rfl rfl 16 (by decide +kernel)
        (ix2 r (⟨n.val - 16, by omega⟩ : Fin 16)) (off_axis2 _ _) (by show 16 + (n.val - 16) = n.val; omega)).trans ?_
      pointwise
      exact key _ _ (by show 6160 + (n.val - 16) = smallCol n.val; unfold smallCol; split_ifs <;> omega)
    by_cases h2 : n.val < 40
    · refine (cat_piece (t := S8192x128) 1 _ smallPieces rfl _ _ 2 (by simp only [List.length_cons, List.length_nil]; decide) S8192x8 _ rfl rfl 32 (by decide +kernel)
        (ix2 r (⟨n.val - 32, by omega⟩ : Fin 8)) (off_axis2 _ _) (by show 32 + (n.val - 32) = n.val; omega)).trans ?_
      pointwise
      exact key _ _ (by show 10272 + (n.val - 32) = smallCol n.val; unfold smallCol; split_ifs <;> omega)
    · refine (cat_piece (t := S8192x128) 1 _ smallPieces rfl _ _ 3 (by simp only [List.length_cons, List.length_nil]; decide) S8192x8 _ rfl rfl 40 (by decide +kernel)
        (ix2 r (⟨n.val - 40, by omega⟩ : Fin 8)) (off_axis2 _ _) (by show 40 + (n.val - 40) = n.val; omega)).trans ?_
      pointwise
      exact key _ _ (by show 10280 + (n.val - 40) = smallCol n.val; unfold smallCol; split_ifs <;> omega)
  · rw [dif_neg h]
    refine (cat_piece (t := S8192x128) 1 _ smallPieces rfl _ _ 4 (by simp only [List.length_cons, List.length_nil]; decide) S8192x80 _ rfl rfl 48 (by decide +kernel)
      (ix2 r (⟨n.val - 48, by omega⟩ : Fin 80)) (off_axis2 _ _) (by show 48 + (n.val - 48) = n.val; omega)).trans ?_
    pointwise

/-- The input projection of `h`. -/
def product (h : FVec Ideal S8192x2048 .f32) (w : FVec Ideal S4x2048x16432 .f32) (b : FVec Ideal S4x16432 .f32) : FVec Ideal S8192x16432 .f32 :=
  addf (Host.dotGeneral dot_S8192x2048_S2048x16432_S8192x16432_1_0_0_1_n_n none h (shapeCast _ (extractStridedSlice S1x2048x16432 ![0, 0, 0] w slices_S4x2048x16432_S1x2048x16432_0_0_0) shapeCasts_S1x2048x16432_S2048x16432)) (broadcastInDim S8192x16432 ![0, 1] bcast_S1x16432_S8192x16432_0_1 (broadcastInDim S1x16432 ![1] bcast_S16432_S1x16432_1 (shapeCast _ (extractStridedSlice S1x16432 ![0, 0] b slices_S4x16432_S1x16432_0_0) shapeCasts_S1x16432_S16432)))

/-- Its entries. -/
theorem product_at (h : FVec Ideal S8192x2048 .f32) (w : FVec Ideal S4x2048x16432 .f32) (b : FVec Ideal S4x16432 .f32) (r : Fin 8192) (j : Fin 16432) :
    product h w b (ix2 r j) = (∑ k : Fin 2048, h (ix2 r k) * w (ix3 0 k j)) + b (ix2 0 j) := by
  pointwise [product]

/-- The narrow columns of the input projection of rows known entry by entry. -/
theorem narrow_at (h : FVec Ideal S8192x2048 .f32) (w : FVec Ideal S4x2048x16432 .f32) (b : FVec Ideal S4x16432 .f32) (f : Fin 8192 → Fin 2048 → EReal)
    (hf : h = fun j => f (j 0) (j 1)) : small (product h w b) = fun j => gatesAt (fun k => f (j 0) k) (fun k j => w (ix3 0 k j)) (fun j => b (ix2 0 j)) (j 1) := by
  subst hf
  funext j
  obtain ⟨r, n, rfl⟩ : ∃ (r : Fin 8192) (n : Fin 128), j = ix2 r n := ⟨j 0, j 1, eq_ix2 j⟩
  refine (small_at _ r n).trans ?_
  exact congrArg (fun z => smallAt z n) (funext fun j => product_at _ w b r j)

/-- The reference's second result. -/
theorem second_at (c : Dev nD) : res_main_v68 m c = refResult1 m c := by
  have e := narrow_at _ (m ((c.tc : Thread nD τ).loc main_arg3) : FVec Ideal S4x2048x16432 .f32) (m ((c.tc : Thread nD τ).loc main_arg4) : FVec Ideal S4x16432 .f32) _ (term_at (m ((c.tc : Thread nD τ).loc main_arg0) : FVec Ideal S8192x2048 .f32) (m ((c.tc : Thread nD τ).loc main_arg1) : FVec Ideal S4x2048 .f32) (m ((c.tc : Thread nD τ).loc main_arg2) : FVec Ideal S8x1x12288 .f32))
  refine Eq.trans ?_ e
  unfold res_main_v68 small product
  rfl

/-- The reference's run: its result arrays hold the results, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v66) = refResult0 m c
      ∧ r.2.mem ((c.tc : Thread nD τ).loc main_v68) = refResult1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (term_at _ _ _), (h c).2.1.trans (second_at m c), (h c).2.2⟩) (run m ρ)

end Cert.Calls.ModGates
-- ==== Proof.Calls.ModGatesPre.lean ====
module

public import proofs.«01_k».proof.Proof.Calls.ModSpec
public import proofs.«01_k».proof.Pre_finite_gates
public import proofs.«01_k».proof.Proof.Gen.Pre_finite_gates
public import Idealize.ShloMosaic.Lib.StableHlo.ReadAt

/-!
# The modulated norm and the narrow columns: the precondition
-/

@[expose] public section

set_option maxRecDepth 16384

noncomputable section

open Idealize.ShloMosaic Idealize.ShloMosaic.TcCoe Idealize.SL.Sem Idealize.ShloMosaic.StableHlo
open Cert.Pre_finite_gates

namespace Cert.Calls.ModGates

/-- The precondition of the narrow columns says that the rows, the gain, the modulation and the weights are finite. -/
theorem finite_of_pre (x : FVec Ideal S8192x2048 .f32) (g : FVec Ideal S4x2048 .f32) (d : FVec Ideal S8x1x12288 .f32)
    (w : FVec Ideal S4x2048x16432 .f32) (b : FVec Ideal S4x16432 .f32) (h : fn (F := Ideal) x g d w b = fun _ => 1#1) :
    (∀ r k, Finite (x (ix2 r k))) ∧ (∀ k, Finite (g (ix2 0 k))) ∧ (∀ s n, Finite (d (ix3 s 0 n))) ∧ ∀ k n, Finite (w (ix3 0 k n)) := by
  have hs : Subsingleton S_.Idx := ⟨fun x y => funext fun i => i.elim0⟩
  have h0 := congrFun h (fun i => i.elim0)
  obtain ⟨h1, hw⟩ := both_of_andi h0
  obtain ⟨h2, hd⟩ := both_of_andi h1
  obtain ⟨hx, hg⟩ := both_of_andi h2
  refine ⟨fun r k => ?_, fun k => ?_, fun s n => ?_, fun k n => ?_⟩
  · exact finite_of_lt _ (Host.reduce_andi_all _ _ _ _ _ hx (ix2 r k))
  · have e := Host.reduce_andi_all _ _ _ _ _ hg (ix1 k)
    have he : (shapeCast S2048 (extractStridedSlice S1x2048 ![0, 0] g Facts.slices_S4x2048_S1x2048_0_0) Facts.shapeCasts_S1x2048_S2048) (ix1 k) = g (ix2 0 k) := by
      pointwise
    rw [← he]
    exact finite_of_lt _ e
  · exact finite_of_lt _ (Host.reduce_andi_all _ _ _ _ _ hd (ix3 s 0 n))
  · have e := Host.reduce_andi_all _ _ _ _ _ hw (ix2 k n)
    have he : (shapeCast S2048x16432 (extractStridedSlice S1x2048x16432 ![0, 0, 0] w Facts.slices_S4x2048x16432_S1x2048x16432_0_0_0) Facts.shapeCasts_S1x2048x16432_S2048x16432) (ix2 k n) = w (ix3 0 k n) := by
      pointwise
    rw [← he]
    exact finite_of_lt _ e

end Cert.Calls.ModGates
-- ==== Proof.Calls.TableKernel.lean ====
module

public import proofs.«01_k».proof.Proof.Calls.ModSpec
public import proofs.«01_k».proof.Proof.Gen.KernelTableIdeal.Value
public import proofs.«01_k».proof.Proof.Gen.KernelTableIdeal.Frame
public import Idealize.ShloMosaic.Lib.StableHlo.ReadAt

/-!
# The modulation table: the kernel's result
-/

@[expose] public section

set_option maxRecDepth 16384

noncomputable section

open Idealize.ShloMosaic Idealize.ShloMosaic.TcCoe Idealize.SL.Sem Idealize.ShloMosaic.StableHlo
open Cert.KernelTableIdeal Cert.KernelTableIdeal.Gen

namespace Cert.Calls.Table

variable (m : (ℓ : Loc nD τ sig) → Buf (Elt Ideal) ℓ)

/-- The blocks the grid points read and write. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] := (by decide +kernel : ∀ t : Fin grid0.N, _)

/-- The modulation table, as the kernel forms it. -/
def result (c : Dev nD) : FVec Ideal S4x8x12288 .f32 := fun j =>
  splitTableAt (fun s k => (m ((c.tc : Thread nD τ).loc main_arg0) : FVec Ideal S8x2048 .f32) (ix2 s k)) (fun l k n => (m ((c.tc : Thread nD τ).loc main_arg1) : FVec Ideal S4x2048x12288 .f32) (ix3 l k n)) (fun l n => (m ((c.tc : Thread nD τ).loc main_arg2) : FVec Ideal S4x12288 .f32) (ix2 l n)) (j 0) (j 1) (j 2)

/-- The bias, as the kernel reads it. -/
theorem host_bias (c : Dev nD) : V m c main_v0 = (shapeCast S4x1x12288 (m ((c.tc : Thread nD τ).loc main_arg2) : FVec Ideal S4x12288 .f32) shapeCasts_S4x12288_S4x1x12288 : FVec Ideal S4x1x12288 .f32) := by
  show StableHlo.after _ _ _ = _
  after_results
  rfl

/-- The bias's entries. -/
theorem bias_at (b : FVec Ideal S4x12288 .f32) (l : Fin 4) (n : Fin 12288) :
    (shapeCast S4x1x12288 b shapeCasts_S4x12288_S4x1x12288 : FVec Ideal S4x1x12288 .f32) (ix3 l 0 n) = b (ix2 l n) := by
  pointwise

/-- The conditioning rows' block. -/
theorem block0 (c : Dev nD) (t : Fin cfg0.N) (s : Fin 8) (k : Fin 2048) :
    (iblk m c 0 t : FVec Ideal S8x2048 .f32) (ix2 s k) = (m ((c.tc : Thread nD τ).loc main_arg0) : FVec Ideal S8x2048 .f32) (ix2 s k) := by
  blk_ext [iblk, V, idx t]

/-- The weights' block. -/
theorem block1 (c : Dev nD) (t : Fin cfg0.N) (k : Fin 2048) (y : Fin 1024) (l : Fin 4) (n : Fin 12288) (hl : l.val = t.val / 12) (hn : n.val = t.val % 12 * 1024 + y.val) :
    (iblk m c 1 t : FVec Ideal S1x2048x1024 .f32) (ix3 0 k y) = (m ((c.tc : Thread nD τ).loc main_arg1) : FVec Ideal S4x2048x12288 .f32) (ix3 l k n) := by
  blk_ext [iblk, V, idx t]

/-- The biases' block. -/
theorem block2 (c : Dev nD) (t : Fin cfg0.N) (y : Fin 1024) (l : Fin 4) (n : Fin 12288) (hl : l.val = t.val / 12) (hn : n.val = t.val % 12 * 1024 + y.val) :
    (iblk m c 2 t : FVec Ideal S1x1x1024 .f32) (ix3 0 0 y) = (V m c main_v0 : FVec Ideal S4x1x12288 .f32) (ix3 l 0 n) := by
  blk_ext [iblk, idx t]

/-- The body of a block, entry by entry. -/
theorem pay_at (x : FVec Ideal S8x2048 .f32) (w : FVec Ideal S1x2048x1024 .f32) (b : FVec Ideal S1x1x1024 .f32) (y : S1x8x1024.Idx) :
    k0_pay1 (F := Ideal) x w b y = splitSum (fun k => siluAt (x (ix2 (y 1) k))) (fun k => w (ix3 0 k (y 2))) + b (ix3 0 0 (y 2)) := by
  pointwise [k0_pay1, splitSum, siluAt]

/-- The body of a block, of operands known at its place. -/
theorem pay_of (x : FVec Ideal S8x2048 .f32) (w : FVec Ideal S1x2048x1024 .f32) (b : FVec Ideal S1x1x1024 .f32) (y : S1x8x1024.Idx)
    (u v : Fin 2048 → EReal) (z : EReal) (hu : ∀ k, (x (ix2 (y 1) k) : EReal) = u k) (hv : ∀ k, (w (ix3 0 k (y 2)) : EReal) = v k)
    (hb : (b (ix3 0 0 (y 2)) : EReal) = z) :
    k0_pay1 (F := Ideal) x w b y = splitSum (fun k => siluAt (u k)) v + z := by
  refine (pay_at x w b y).trans ?_
  unfold splitSum
  simp only [hu, hv, hb]

/-- What one grid point stores is its block of `result`. -/
theorem point_at (c : Dev nD) (t : Fin cfg0.N) (y : S1x8x1024.Idx) (l : Fin 4) (s : Fin 8) (n : Fin 12288) (hl : l.val = t.val / 12)
    (hs : s = y 1) (hn : n.val = t.val % 12 * 1024 + (y 2).val) : k0_pay1 (F := Ideal) (iblk m c 0 t) (iblk m c 1 t) (iblk m c 2 t) y = splitTableAt (fun s k => (m ((c.tc : Thread nD τ).loc main_arg0) : FVec Ideal S8x2048 .f32) (ix2 s k)) (fun l k n => (m ((c.tc : Thread nD τ).loc main_arg1) : FVec Ideal S4x2048x12288 .f32) (ix3 l k n)) (fun l n => (m ((c.tc : Thread nD τ).loc main_arg2) : FVec Ideal S4x12288 .f32) (ix2 l n)) l s n := by
  subst hs
  exact pay_of _ _ _ y _ _ _ (fun k => block0 m c t (y 1) k) (fun k => block1 m c t k (y 2) l n hl hn)
    ((block2 m c t (y 2) l n hl hn).trans ((congrFun (host_bias m c) _).trans (bias_at _ _ _)))

/-- What one grid point stores, at the place it stores it. -/
theorem point (c : Dev nD) (t : Fin cfg0.N) (y) : k0_pay1 (F := Ideal) (iblk m c 0 t) (iblk m c 1 t) (iblk m c 2 t) y = result m c (((cfg0.win 3).blk t).view.emb y) := by
  refine point_at m c t y _ _ _ ?_ ?_ ?_
  · blk_simp [idx t]
  · exact Fin.ext (by blk_simp [idx t])
  · blk_simp [idx t]

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  frame_out
  exact point m c t y

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.Calls.Table
-- ==== Proof.Calls.TableRef.lean ====
module

public import proofs.«01_k».proof.Proof.Calls.ModSpec
public import proofs.«01_k».proof.Proof.Gen.ReferenceTableIdeal.Run

/-!
# The modulation table: the reference's result
-/

@[expose] public section

set_option maxRecDepth 16384

noncomputable section

open Idealize.ShloMosaic Idealize.ShloMosaic.TcCoe Idealize.SL.Sem Idealize.ShloMosaic.StableHlo
open Cert.ReferenceTableIdeal Cert.ReferenceTableIdeal.Gen Cert.ReferenceTableIdeal.Value

namespace Cert.Calls.Table

variable (m : (ℓ : Loc nD τ sig) → Buf (Elt Ideal) ℓ)

/-- The modulation table. -/
def refResult (c : Dev nD) : FVec Ideal S4x8x12288 .f32 := fun j =>
  tableAt (fun s k => (m ((c.tc : Thread nD τ).loc main_arg0) : FVec Ideal S8x2048 .f32) (ix2 s k)) (fun l k n => (m ((c.tc : Thread nD τ).loc main_arg1) : FVec Ideal S4x2048x12288 .f32) (ix3 l k n)) (fun l n => (m ((c.tc : Thread nD τ).loc main_arg2) : FVec Ideal S4x12288 .f32) (ix2 l n)) (j 0) (j 1) (j 2)

/-- The table of layer `l`. -/
def piece (c : FVec Ideal S8x2048 .f32) (w : FVec Ideal S4x2048x12288 .f32) (b : FVec Ideal S4x12288 .f32) (l : Nat)
    (hw : S4x2048x12288.Slices ![l, 0, 0] S1x2048x12288) (hb : S4x12288.Slices ![l, 0] S1x12288) : FVec Ideal S1x8x12288 .f32 :=
  broadcastInDim S1x8x12288 ![1, 2] bcast_S8x12288_S1x8x12288_1_2 (addf (Host.dotGeneral dot_S8x2048_S2048x12288_S8x12288_1_0_0_1_n_n none (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))) (shapeCast _ (extractStridedSlice S1x2048x12288 ![l, 0, 0] w hw) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![l, 0] b hb) shapeCasts_S1x12288_S12288))))

/-- The four layers' tables, one after another. -/
def stack (c : FVec Ideal S8x2048 .f32) (w : FVec Ideal S4x2048x12288 .f32) (b : FVec Ideal S4x12288 .f32) : FVec Ideal S4x8x12288 .f32 :=
  concatenate S4x8x12288 0 [⟨S1x8x12288, piece c w b 0 slices_S4x2048x12288_S1x2048x12288_0_0_0 slices_S4x12288_S1x12288_0_0⟩, ⟨S1x8x12288, piece c w b 1 slices_S4x2048x12288_S1x2048x12288_1_0_0 slices_S4x12288_S1x12288_1_0⟩, ⟨S1x8x12288, piece c w b 2 slices_S4x2048x12288_S1x2048x12288_2_0_0 slices_S4x12288_S1x12288_2_0⟩, ⟨S1x8x12288, piece c w b 3 slices_S4x2048x12288_S1x2048x12288_3_0_0 slices_S4x12288_S1x12288_3_0⟩] concatenates_S1x8x12288_S1x8x12288_S1x8x12288_S1x8x12288_S4x8x12288_d0

/-- The table of layer `l`, entry by entry. -/
theorem piece_at (c : FVec Ideal S8x2048 .f32) (w : FVec Ideal S4x2048x12288 .f32) (b : FVec Ideal S4x12288 .f32) (l : Fin 4)
    (hw : S4x2048x12288.Slices ![l.val, 0, 0] S1x2048x12288) (hb : S4x12288.Slices ![l.val, 0] S1x12288) (s : Fin 8) (n : Fin 12288) :
    piece c w b l.val hw hb (ix3 0 s n) = tableAt (fun s k => c (ix2 s k)) (fun l k n => w (ix3 l k n)) (fun l n => b (ix2 l n)) l s n := by
  pointwise [piece, tableAt, siluAt, Ideal.logistic]

/-- The stacked table's layers. -/
def pieces : List Shape := [S1x8x12288, S1x8x12288, S1x8x12288, S1x8x12288]

/-- The stacked table, entry by entry. -/
theorem stack_at (c : FVec Ideal S8x2048 .f32) (w : FVec Ideal S4x2048x12288 .f32) (b : FVec Ideal S4x12288 .f32) :
    stack c w b = fun j => tableAt (fun s k => c (ix2 s k)) (fun l k n => w (ix3 l k n)) (fun l n => b (ix2 l n)) (j 0) (j 1) (j 2) := by
  funext j
  obtain ⟨l, s, n, rfl⟩ : ∃ (l : Fin 4) (s : Fin 8) (n : Fin 12288), j = ix3 l s n := ⟨j 0, j 1, j 2, eq_ix3 j⟩
  unfold stack
  have off : ∀ (q : Fin 3), q ≠ 0 → (ix3 (0 : Fin 1) s n q).val = (ix3 l s n q).val := fun q hq =>
    match q, hq with | ⟨0, _⟩, hq => absurd rfl hq | ⟨1, _⟩, _ => rfl | ⟨2, _⟩, _ => rfl
  match l, off with
  | ⟨0, h⟩, off => exact (cat_piece (t := S4x8x12288) 0 _ pieces rfl _ _ 0 (by simp only [List.length_cons, List.length_nil]; decide) S1x8x12288 _ rfl rfl 0 (by decide +kernel) (ix3 0 s n) off rfl).trans (piece_at c w b ⟨0, h⟩ _ _ s n)
  | ⟨1, h⟩, off => exact (cat_piece (t := S4x8x12288) 0 _ pieces rfl _ _ 1 (by simp only [List.length_cons, List.length_nil]; decide) S1x8x12288 _ rfl rfl 1 (by decide +kernel) (ix3 0 s n) off rfl).trans (piece_at c w b ⟨1, h⟩ _ _ s n)
  | ⟨2, h⟩, off => exact (cat_piece (t := S4x8x12288) 0 _ pieces rfl _ _ 2 (by simp only [List.length_cons, List.length_nil]; decide) S1x8x12288 _ rfl rfl 2 (by decide +kernel) (ix3 0 s n) off rfl).trans (piece_at c w b ⟨2, h⟩ _ _ s n)
  | ⟨3, h⟩, off => exact (cat_piece (t := S4x8x12288) 0 _ pieces rfl _ _ 3 (by simp only [List.length_cons, List.length_nil]; decide) S1x8x12288 _ rfl rfl 3 (by decide +kernel) (ix3 0 s n) off rfl).trans (piece_at c w b ⟨3, h⟩ _ _ s n)

/-- The reference's run: its result array holds `refResult`, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v40) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (stack_at _ _ _), (h c).2⟩) (run m ρ)

end Cert.Calls.Table
-- ==== Proof.Calls.TablePre.lean ====
module

public import proofs.«01_k».proof.Proof.Calls.ModSpec
public import proofs.«01_k».proof.Pre_finite_table
public import proofs.«01_k».proof.Proof.Gen.Pre_finite_table
public import Idealize.ShloMosaic.Lib.StableHlo.ReadAt

/-!
# The modulation table: the precondition
-/

@[expose] public section

set_option maxRecDepth 16384

noncomputable section

open Idealize.ShloMosaic Idealize.ShloMosaic.TcCoe Idealize.SL.Sem Idealize.ShloMosaic.StableHlo
open Cert.Pre_finite_table

namespace Cert.Calls.Table

/-- The precondition of the modulation table says that the conditioning and the weights are finite. -/
theorem finite_of_pre (x : FVec Ideal S8x2048 .f32) (w : FVec Ideal S4x2048x12288 .f32) (b : FVec Ideal S4x12288 .f32)
    (h : fn (F := Ideal) x w b = fun _ => 1#1) : (∀ s k, Finite (x (ix2 s k))) ∧ ∀ l k n, Finite (w (ix3 l k n)) := by
  have hs : Subsingleton S_.Idx := ⟨fun x y => funext fun i => i.elim0⟩
  have h0 := congrFun h (fun i => i.elim0)
  obtain ⟨h1, h2⟩ := both_of_andi h0
  exact ⟨fun s k => finite_of_lt _ (Host.reduce_andi_all _ _ _ _ _ h1 (ix2 s k)), fun l k n => finite_of_lt _ (Host.reduce_andi_all _ _ _ _ _ h2 (ix3 l k n))⟩

end Cert.Calls.Table
-- ==== Proof.Hyena.Form.lean ====
module

public import Idealize.ShloMosaic.Lib.Pipeline.ValueKit
public import Idealize.ShloMosaic.Lib.Pointwise

/-!
# The two closed forms of the Hyena mixer

One channel of one sequence of the latent grid is a function of the position `n < 1024`. The forms
below say what the kernel's body and the plain reference compute for such a channel, over the
extended reals; no program is mentioned here.
-/

@[expose] public section

set_option maxRecDepth 16384

noncomputable section

open Idealize.ShloMosaic

namespace Cert.Hyena

/-- The three-tap convolution along a row of 64 positions, zero outside the row. -/
def conv (x : Fin 1024 → EReal) (w : Fin 3 → EReal) (n : Fin 1024) : EReal :=
  (if n.val % 64 = 0 then 0 else x ⟨(n.val + 1024 - 1) % 1024, Nat.mod_lt _ (by decide)⟩ * w 0)
    + x n * w 1
    + (if n.val % 64 = 63 then 0 else x ⟨(n.val + 1024 - 1023) % 1024, Nat.mod_lt _ (by decide)⟩ * w 2)

/-- The forward transform of a channel against one row of a table. -/
def fwd (T : Fin 1024 → EReal) (u : Fin 1024 → EReal) : EReal := ∑ n : Fin 1024, T n * u n

/-- The first half of the packed product of two spectra, at bin `k`. -/
def specRe (a b re im : EReal) (k : Fin 1024) : EReal :=
  a * re - (if k.val = 0 then 0 else b * im)

/-- The second half of the packed product of two spectra, at bin `k`; its entry at bin 0 is the
    product of the two real values at the highest frequency. -/
def specIm (a b re im : EReal) (k : Fin 1024) : EReal :=
  if k.val = 0 then b * im else a * im + b * re

/-- The kernel's long convolution of one channel `u`: `F` is the forward table (1024 rows of the
    real part over 1024 rows of the imaginary part), `G` the inverse one, `re` and `im` the packed
    filter spectrum, `b` the skip weight. -/
def longK (F : Fin 2048 → Fin 1024 → EReal) (G : Fin 1024 → Fin 2048 → EReal)
    (re im : Fin 1024 → EReal) (b : EReal) (u : Fin 1024 → EReal) (n : Fin 1024) : EReal :=
  ((∑ k : Fin 1024, G n ⟨k.val, by omega⟩
        * specRe (fwd (F ⟨k.val, by omega⟩) u) (fwd (F ⟨1024 + k.val, by omega⟩) u) (re k) (im k) k)
    + ∑ k : Fin 1024, G n ⟨1024 + k.val, by omega⟩
        * specIm (fwd (F ⟨k.val, by omega⟩) u) (fwd (F ⟨1024 + k.val, by omega⟩) u) (re k) (im k) k)
    + u n * b

/-- What the kernel computes for one channel: two gated long convolutions. -/
def mixK (F : Fin 2048 → Fin 1024 → EReal) (G : Fin 1024 → Fin 2048 → EReal)
    (re im : Fin 2 → Fin 1024 → EReal) (b : Fin 2 → EReal) (w : Fin 3 → Fin 3 → EReal)
    (x1 x2 v : Fin 1024 → EReal) (n : Fin 1024) : EReal :=
  conv x2 (w 1) n * longK F G (re 1) (im 1) (b 1)
    (fun i => conv x1 (w 0) i * longK F G (re 0) (im 0) (b 0) (conv v (w 2)) i) n

/-- The weight of bin `k` in the inverse transform: 1 at the two real bins, 2 at the others, over
    the transform's length. -/
def wt (k : Fin 1025) : EReal :=
  Ideal.div (if k.val = 0 ∨ k.val = 1024 then 1 else Ideal.ofBits .f32 0x40000000#32) (Ideal.ofBits .f32 0x45000000#32)

/-- The angle of bin `k` at position `n`. -/
def ang (k : Fin 1025) (n : Fin 1024) : EReal := (((k.val * n.val : ℕ) : ℝ) * (Real.pi * ((1 : ℝ) / 1024)) : ℝ)

/-- The reference's long convolution of one channel: the discrete Fourier transform of length 2048 of the
    zero-padded channel over its 1025 bins, times the filter's spectrum, transformed back. -/
def longR (re im : Fin 1025 → EReal) (b : EReal) (u : Fin 1024 → EReal) (n : Fin 1024) : EReal :=
  ((∑ k : Fin 1025, ((∑ i : Fin 1024, u i * Ideal.cos (ang k i)) * re k
        - (∑ i : Fin 1024, u i * -Ideal.sin (ang k i)) * im k) * (Ideal.cos (ang k n) * wt k))
    + ∑ k : Fin 1025, ((∑ i : Fin 1024, u i * Ideal.cos (ang k i)) * im k
        + (∑ i : Fin 1024, u i * -Ideal.sin (ang k i)) * re k) * (-Ideal.sin (ang k n) * wt k))
    + u n * b

/-- What the reference computes for one channel. -/
def mixR (re im : Fin 2 → Fin 1025 → EReal) (b : Fin 2 → EReal) (w : Fin 3 → Fin 3 → EReal)
    (x1 x2 v : Fin 1024 → EReal) (n : Fin 1024) : EReal :=
  conv x2 (w 1) n * longR (re 1) (im 1) (b 1)
    (fun i => conv x1 (w 0) i * longR (re 0) (im 0) (b 0) (conv v (w 2)) i) n

end Cert.Hyena
-- ==== Proof.Hyena.Word.lean ====
module

public import proofs.«01_k».proof.Proof.Hyena.Form
public import Idealize.ShloMosaic.Lib.Routing.Words
public import Idealize.ShloMosaic.Lib.WordArith

/-!
# Words and constants of the two tables

The host computes the residue of `k * n` modulo `2048`, the parity of a position and the angle of a bin in 32-bit
words and in floats. This module states each as the number it stands for.
-/

@[expose] public section

noncomputable section

open Idealize.ShloMosaic

namespace Cert.Hyena

/-- The selection of a non-zero divisor, on the divisor 2048. -/
theorem divisor_2048 : Scalar.select (IntOp.cmpi CmpIPredicate.eq (2048#32) 0#32) (1#32) (2048#32) = 2048#32 := by decide

/-- The selection of a non-zero divisor, on the divisor 2. -/
theorem divisor_2 : Scalar.select (IntOp.cmpi CmpIPredicate.eq (2#32) 0#32) (1#32) (2#32) = 2#32 := by decide

/-- The remainder of a non-negative word, with the sign correction the host makes, is the remainder of the number. -/
theorem floorMod_word (p d : ℕ) (hp : p < 2 ^ 31) (h0 : 0 < d) (hd : d < 2 ^ 31) :
    Scalar.select (IntOp.andi
        (IntOp.cmpi CmpIPredicate.ne
          (IntOp.cmpi CmpIPredicate.slt (IntOp.remsi ArithUnit.host (BitVec.ofNat 32 p) (BitVec.ofNat 32 d)) 0#32)
          (IntOp.cmpi CmpIPredicate.slt (BitVec.ofNat 32 d) 0#32))
        (IntOp.cmpi CmpIPredicate.ne (IntOp.remsi ArithUnit.host (BitVec.ofNat 32 p) (BitVec.ofNat 32 d)) 0#32))
      (IntOp.addi (IntOp.remsi ArithUnit.host (BitVec.ofNat 32 p) (BitVec.ofNat 32 d)) (BitVec.ofNat 32 d))
      (IntOp.remsi ArithUnit.host (BitVec.ofNat 32 p) (BitVec.ofNat 32 d))
    = BitVec.ofNat 32 (p % d) := by
  have neg : ∀ q : ℕ, q < 2 ^ 31 → IntOp.cmpi CmpIPredicate.slt (BitVec.ofNat 32 q) 0#32 = 0#1 := by
    intro q hq
    have h : (BitVec.ofNat 32 q).slt 0#32 = false := by
      rw [BitVec.slt, WordArith.toInt_ofNat_small q hq]
      simp
    simp [IntOp.cmpi, h]
  have hr : p % d < 2 ^ 31 := lt_trans (Nat.mod_lt _ h0) hd
  rw [Routing.remsi_word _ hp h0 hd, neg _ hr, neg _ hd]
  simp [Scalar.select, IntOp.cmpi, IntOp.andi]

/-- The product of two words below 1024 is the word of the product. -/
theorem muli_word (a b : ℕ) :
    IntOp.muli (BitVec.ofNat 32 a) (BitVec.ofNat 32 b) = BitVec.ofNat 32 (a * b) := by
  simp [IntOp.muli, BitVec.ofNat_mul]

/-- A small word, made a float, is the number. -/
theorem sitofp_word (φ : FTy) (p : ℕ) (hp : p < 2 ^ 31) :
    (FloatOps.sitofp φ (BitVec.ofNat 32 p) : Ideal φ) = (((p : ℝ) : EReal)) := by
  show (((BitVec.ofNat 32 p).toInt : ℝ) : EReal) = _
  rw [WordArith.toInt_ofNat_small p hp]
  simp

/-- The float 1. -/
theorem one_bits : (Ideal.ofBits FTy.f32 1065353216#32) = ((1 : ℝ) : EReal) := by
  simp [Ideal.ofBits, Ideal.ieee, -EReal.coe_mul]; norm_num
/-- The float 2. -/
theorem two_bits : (Ideal.ofBits FTy.f32 1073741824#32) = ((2 : ℝ) : EReal) := by
  simp [Ideal.ofBits, Ideal.ieee, -EReal.coe_mul]; norm_num
/-- The float −1. -/
theorem neg_one_bits : (Ideal.ofBits FTy.f32 3212836864#32) = ((-1 : ℝ) : EReal) := by
  simp [Ideal.ofBits, Ideal.ieee, -EReal.coe_mul]; norm_num
/-- The float 1024. -/
theorem k1024_bits : (Ideal.ofBits FTy.f32 1149239296#32) = ((1024 : ℝ) : EReal) := by
  simp [Ideal.ofBits, Ideal.ieee, -EReal.coe_mul]; norm_num
/-- The float 2048. -/
theorem k2048_bits : (Ideal.ofBits FTy.f32 1157627904#32) = ((2048 : ℝ) : EReal) := by
  simp [Ideal.ofBits, Ideal.ieee, -EReal.coe_mul]; norm_num

/-- The angle of the point `(-1, 0)` is π. -/
theorem pi_at : Ideal.atan2 (0 : EReal) ((-1 : ℝ) : EReal) = ((Real.pi : ℝ) : EReal) := by
  show (((if (0 : ℝ) < -1 then Real.arctan (0 / -1)
    else if (-1 : ℝ) < 0 then if (0 : ℝ) ≤ 0 then Real.arctan (0 / -1) + Real.pi else Real.arctan (0 / -1) - Real.pi
    else if (0 : ℝ) < 0 then Real.pi / 2 else if (0 : ℝ) < 0 then -(Real.pi / 2) else 0 : ℝ)) : EReal) = _
  norm_num

/-- π over 1024. -/
theorem step_at : Ideal.div (Ideal.atan2 (0 : EReal) (Ideal.ofBits FTy.f32 3212836864#32)) (Ideal.ofBits FTy.f32 1149239296#32)
    = ((Real.pi * ((1 : ℝ) / 1024) : ℝ) : EReal) := by
  rw [neg_one_bits, k1024_bits, pi_at, Ideal.div_coe (by norm_num)]
  norm_cast

/-- The angle of bin `k` at position `n`, a real number. -/
def angR (k n : ℕ) : ℝ := ((k * n : ℕ) : ℝ) * (Real.pi * ((1 : ℝ) / 1024))

/-- The residue modulo 2048 has the same cosine and sine: the two angles differ by whole turns. -/
theorem ang_mod (k n : ℕ) : angR k n = ((k * n % 2048 : ℕ) : ℝ) * (Real.pi * ((1 : ℝ) / 1024)) + ((k * n / 2048 : ℕ) : ℝ) * (2 * Real.pi) := by
  have h : ((k * n : ℕ) : ℝ) = ((k * n % 2048 : ℕ) : ℝ) + 2048 * ((k * n / 2048 : ℕ) : ℝ) := by
    exact_mod_cast (Nat.mod_add_div (k * n) 2048).symm
  rw [angR, h]; ring

/-- The cosine at the residue. -/
theorem cos_mod (k n : ℕ) : Real.cos (((k * n % 2048 : ℕ) : ℝ) * (Real.pi * ((1 : ℝ) / 1024))) = Real.cos (angR k n) := by
  rw [ang_mod, Real.cos_add_nat_mul_two_pi]

/-- The sine at the residue. -/
theorem sin_mod (k n : ℕ) : Real.sin (((k * n % 2048 : ℕ) : ℝ) * (Real.pi * ((1 : ℝ) / 1024))) = Real.sin (angR k n) := by
  rw [ang_mod, Real.sin_add_nat_mul_two_pi]

/-- The alternating sign of a position. -/
def sgn (n : ℕ) : ℝ := if n % 2 = 0 then 1 else -1

/-- The cosine of the angle the host builds from the residue is the cosine of the angle. -/
theorem cos_host (k n : ℕ) :
    Ideal.cos ((((k * n % 2048 : ℕ) : ℝ) : EReal) * ((Real.pi * ((1 : ℝ) / 1024) : ℝ) : EReal)) = ((Real.cos (angR k n) : ℝ) : EReal) := by
  rw [← EReal.coe_mul, ← cos_mod]; rfl

/-- The sine likewise. -/
theorem sin_host (k n : ℕ) :
    Ideal.sin ((((k * n % 2048 : ℕ) : ℝ) : EReal) * ((Real.pi * ((1 : ℝ) / 1024) : ℝ) : EReal)) = ((Real.sin (angR k n) : ℝ) : EReal) := by
  rw [← EReal.coe_mul, ← sin_mod]; rfl

/-- The sign the host selects by the parity. -/
theorem sgn_host (n : ℕ) :
    (if n % 2 = 0 then (1 : EReal) else ((-1 : ℝ) : EReal)) = ((sgn n : ℝ) : EReal) := by
  unfold sgn; split <;> rfl

/-- The forward table: cosines, then minus sines; its row 1024 the alternating signs. -/
def fwdT (k n : ℕ) : ℝ :=
  if k < 1024 then Real.cos (angR k n) else if k - 1024 = 0 then sgn n else -Real.sin (angR (k - 1024) n)

/-- The inverse table: weighted cosines, then weighted minus sines; its column 1024 the alternating signs over 2048. -/
def invT (n k : ℕ) : ℝ :=
  if k < 1024 then Real.cos (angR k n) * ((if k = 0 then 1 else 2) * (1 / 2048))
  else if k - 1024 = 0 then sgn n * (1 / 2048) else -Real.sin (angR (k - 1024) n) * (1 / 1024)

end Cert.Hyena
-- ==== Proof.Calls.SpectrumSpec.lean ====
module

public import proofs.«01_k».proof.Proof.Calls.ModSpec
public import proofs.«01_k».proof.Proof.Hyena.Word

/-!
# The spectrum of the Hyena filters

The filters' network, its two filters at a position, their circular arrangement and its discrete Fourier transform; and
the same as the kernel forms it, with every product split in three and with the two halves of the transform's sum folded
onto one another.
-/

@[expose] public section

set_option maxRecDepth 16384

noncomputable section

open Idealize.ShloMosaic

namespace Cert.Calls.Spectrum

/-- The arguments: the features, the positions, the decay rates, the weights and biases of the network, the frequencies. -/
structure Args where
  /-- The features of a position. -/
  z : Fin 1024 → Fin 33 → EReal
  /-- The positions. -/
  t : Fin 1024 → EReal
  /-- The decay rates. -/
  d : Fin 1024 → EReal
  /-- The first weights. -/
  w1 : Fin 33 → Fin 64 → EReal
  /-- The first bias. -/
  b1 : Fin 64 → EReal
  /-- The second weights. -/
  w2 : Fin 64 → Fin 64 → EReal
  /-- The second bias. -/
  b2 : Fin 64 → EReal
  /-- The third weights. -/
  w3 : Fin 64 → Fin 4096 → EReal
  /-- The frequencies. -/
  f : Fin 2 → Fin 64 → EReal

/-- Every argument is finite. -/
structure Args.Fin (A : Args) : Prop where
  /-- The features are. -/
  z : ∀ l i, Finite (A.z l i)
  /-- The positions are. -/
  t : ∀ l, Finite (A.t l)
  /-- The decay rates are. -/
  d : ∀ q, Finite (A.d q)
  /-- The first weights are. -/
  w1 : ∀ i k, Finite (A.w1 i k)
  /-- The first bias is. -/
  b1 : ∀ k, Finite (A.b1 k)
  /-- The second weights are. -/
  w2 : ∀ i k, Finite (A.w2 i k)
  /-- The second bias is. -/
  b2 : ∀ k, Finite (A.b2 k)
  /-- The third weights are. -/
  w3 : ∀ i k, Finite (A.w3 i k)
  /-- The frequencies are. -/
  f : ∀ i k, Finite (A.f i k)

/-- The first hidden layer. -/
def hid1 (A : Args) (l : Fin 1024) (k : Fin 64) : EReal := Ideal.sin (A.f 0 k * ((∑ i, A.z l i * A.w1 i k) + A.b1 k))

/-- The second hidden layer. -/
def hid2 (A : Args) (l : Fin 1024) (k : Fin 64) : EReal := Ideal.sin (A.f 1 k * ((∑ i, hid1 A l i * A.w2 i k) + A.b2 k))

/-- The filters at a position: column `c` of the network's result, times the decay of channel `q`. -/
def filtAt (A : Args) (c : Fin 4096) (q l : Fin 1024) : EReal := (∑ k, hid2 A l k * A.w3 k c) * Ideal.exp (-(A.t l) * A.d q)

/-- The column of the forward filter of channel `q`. -/
def colF (o : Fin 2) (q : Fin 1024) : Fin 4096 := ⟨o.val * 2048 + q.val, by omega⟩

/-- The column of the backward filter of channel `q`. -/
def colB (o : Fin 2) (q : Fin 1024) : Fin 4096 := ⟨o.val * 2048 + 1024 + q.val, by omega⟩

/-- A position, of a number. -/
def pos (n : ℕ) : Fin 1024 := ⟨n % 1024, Nat.mod_lt _ (by norm_num)⟩

/-- A position's own number gives the position. -/
theorem pos_val (l : Fin 1024) : pos l.val = l := Fin.ext (Nat.mod_eq_of_lt l.isLt)

/-- The two filters on a circle of 2048 positions: the forward one, a zero, the backward one reversed without its first. -/
def circ (A : Args) (o : Fin 2) (q : Fin 1024) (n : ℕ) : EReal :=
  if n < 1024 then filtAt A (colF o q) q (pos n) else if n = 1024 then 0 else filtAt A (colB o q) q (pos (2048 - n))

/-- The real part of bin `k` of the transform. -/
def reAt (A : Args) (o : Fin 2) (k : ℕ) (q : Fin 1024) : EReal :=
  ∑ n : Fin 2048, ((Real.cos (Hyena.angR k n.val) : ℝ) : EReal) * circ A o q n.val

/-- The imaginary part of bin `k`; in the place of bin 0 the real part of bin 1024. -/
def imAt (A : Args) (o : Fin 2) (k : ℕ) (q : Fin 1024) : EReal :=
  if k = 0 then reAt A o 1024 q else ∑ n : Fin 2048, (-((Real.sin (Hyena.angR k n.val) : ℝ) : EReal)) * circ A o q n.val

/-- A product the kernel forms in three parts. -/
def split3 {n : ℕ} (u p : Fin n → EReal) : EReal := (∑ k, u k * p k) + ((∑ k, u k * (p k - p k)) + ∑ k, (u k - u k) * p k)

/-- Where both factors are finite, nothing is dropped. -/
theorem split3_eq {n : ℕ} {u p : Fin n → EReal} (hu : ∀ k, Finite (u k)) (hp : ∀ k, Finite (p k)) : split3 u p = ∑ k, u k * p k := by
  unfold split3
  have h1 : (∑ k, u k * (p k - p k)) = 0 := Finset.sum_eq_zero fun k _ => by rw [EReal.sub_self (hp k).1 (hp k).2, mul_zero]
  have h2 : (∑ k, (u k - u k) * p k) = 0 := Finset.sum_eq_zero fun k _ => by rw [EReal.sub_self (hu k).1 (hu k).2, zero_mul]
  rw [h1, h2, add_zero, add_zero]

/-- A function on 33 places, continued by zeros to 64. -/
def ext (u : Fin 33 → EReal) (i : Fin 64) : EReal := if h : i.val < 33 then u ⟨i.val, h⟩ else 0

/-- The first hidden layer as the kernel forms it. -/
def khid1 (A : Args) (l : Fin 1024) (k : Fin 64) : EReal :=
  Ideal.sin (A.f 0 k * (split3 (ext (A.z l)) (fun i => ext (fun j => A.w1 j k) i) + A.b1 k))

/-- The second hidden layer as the kernel forms it. -/
def khid2 (A : Args) (l : Fin 1024) (k : Fin 64) : EReal :=
  Ideal.sin (A.f 1 k * (split3 (khid1 A l) (fun i => A.w2 i k) + A.b2 k))

/-- The filters as the kernel forms them. -/
def kfilt (A : Args) (c : Fin 4096) (q l : Fin 1024) : EReal :=
  split3 (khid2 A l) (fun k => A.w3 k c) * Ideal.exp ((0 - A.t l) * A.d q)

/-- The backward filter without its first position. -/
def kback (A : Args) (o : Fin 2) (q l : Fin 1024) : EReal := if l.val = 0 then 0 else kfilt A (colB o q) q l

/-- The real part as the kernel forms it. -/
def kreAt (A : Args) (o : Fin 2) (k q : Fin 1024) : EReal :=
  split3 (fun n : Fin 1024 => ((Hyena.fwdT k.val n.val : ℝ) : EReal)) (fun n => kfilt A (colF o q) q n + kback A o q n)

/-- The imaginary part as the kernel forms it. -/
def kimAt (A : Args) (o : Fin 2) (k q : Fin 1024) : EReal :=
  if k.val = 0 then ∑ n : Fin 1024, ((Hyena.sgn n.val : ℝ) : EReal) * (kfilt A (colF o q) q n + kback A o q n)
  else split3 (fun n : Fin 1024 => ((Hyena.fwdT (k.val + 1024) n.val : ℝ) : EReal)) (fun n => kfilt A (colF o q) q n - kback A o q n)

/-- A finite sum of finite numbers is finite. -/
theorem Finite.sum {n : ℕ} {u : Fin n → EReal} (h : ∀ k, Finite (u k)) : Finite (∑ k, u k) := by
  refine Finset.sum_induction u Finite (fun _ _ => Finite.add) (by rw [← EReal.coe_zero]; exact Finite.coe 0) fun k _ => h k

/-- The sine of a finite number is finite. -/
theorem Finite.sin {x : EReal} (h : Finite x) : Finite (Ideal.sin x) := by
  obtain ⟨a, rfl⟩ := h.real
  exact Finite.coe (Real.sin a)

/-- The exponential of a finite number is finite. -/
theorem Finite.exp {x : EReal} (h : Finite x) : Finite (Ideal.exp x) := by
  obtain ⟨a, rfl⟩ := h.real
  exact Finite.coe (Real.exp a)

/-- The negative of a finite number is finite. -/
theorem Finite.neg {x : EReal} (h : Finite x) : Finite (-x) := by
  obtain ⟨a, rfl⟩ := h.real
  rw [← EReal.coe_neg]
  exact Finite.coe _

/-- A product distributes over a sum of finite numbers. -/
theorem mul_add_fin {c x y : EReal} (hc : Finite c) (hx : Finite x) (hy : Finite y) : c * (x + y) = c * x + c * y := by
  obtain ⟨c, rfl⟩ := hc.real
  obtain ⟨x, rfl⟩ := hx.real
  obtain ⟨y, rfl⟩ := hy.real
  norm_cast
  exact mul_add c x y

/-- A product distributes over a difference of finite numbers. -/
theorem mul_sub_fin {c x y : EReal} (hc : Finite c) (hx : Finite x) (hy : Finite y) : c * (x - y) = c * x + -c * y := by
  obtain ⟨c, rfl⟩ := hc.real
  obtain ⟨x, rfl⟩ := hx.real
  obtain ⟨y, rfl⟩ := hy.real
  norm_cast
  ring

variable {A : Args} (hA : A.Fin)
include hA

/-- The first hidden layer is finite. -/
theorem hid1_fin (l : Fin 1024) (k : Fin 64) : Finite (hid1 A l k) :=
  Finite.sin ((hA.f 0 k).mul ((Finite.sum fun i => (hA.z l i).mul (hA.w1 i k)).add (hA.b1 k)))

/-- The second hidden layer is finite. -/
theorem hid2_fin (l : Fin 1024) (k : Fin 64) : Finite (hid2 A l k) :=
  Finite.sin ((hA.f 1 k).mul ((Finite.sum fun i => (hid1_fin hA l i).mul (hA.w2 i k)).add (hA.b2 k)))

/-- The filters are finite. -/
theorem filt_fin (c : Fin 4096) (q l : Fin 1024) : Finite (filtAt A c q l) :=
  (Finite.sum fun k => (hid2_fin hA l k).mul (hA.w3 k c)).mul (Finite.exp ((Finite.neg (hA.t l)).mul (hA.d q)))

omit hA in
/-- The product of two continued functions is the product of the functions. -/
theorem ext_sum (u p : Fin 33 → EReal) : (∑ i : Fin 64, ext u i * ext p i) = ∑ i, u i * p i := by
  refine (Fin.sum_univ_add (a := 33) (b := 31) fun i => ext u i * ext p i).trans ?_
  have h : (∑ i : Fin 31, ext u (Fin.natAdd 33 i) * ext p (Fin.natAdd 33 i)) = 0 :=
    Finset.sum_eq_zero fun i _ => by
      have : ¬ (Fin.natAdd 33 i).val < 33 := by simp
      unfold ext
      rw [dif_neg this, dif_neg this, mul_zero]
  rw [h, add_zero]
  refine Finset.sum_congr rfl fun i _ => ?_
  have : (Fin.castAdd 31 i).val < 33 := i.isLt
  unfold ext
  rw [dif_pos this, dif_pos this]
  rfl

omit hA in
/-- A finite function continued by zeros is finite. -/
theorem ext_fin {u : Fin 33 → EReal} (h : ∀ i, Finite (u i)) (i : Fin 64) : Finite (ext u i) := by
  unfold ext
  split
  · exact h _
  · exact Finite.coe 0

/-- The kernel's first hidden layer is the first hidden layer. -/
theorem khid1_eq (l : Fin 1024) (k : Fin 64) : khid1 A l k = hid1 A l k := by
  unfold khid1 hid1
  rw [split3_eq (ext_fin (hA.z l)) (ext_fin fun i => hA.w1 i k), ext_sum]

/-- The kernel's second hidden layer is the second hidden layer. -/
theorem khid2_eq (l : Fin 1024) (k : Fin 64) : khid2 A l k = hid2 A l k := by
  unfold khid2 hid2
  rw [show khid1 A l = hid1 A l from funext (khid1_eq hA l), split3_eq (hid1_fin hA l) fun i => hA.w2 i k]

/-- The kernel's filters are the filters. -/
theorem kfilt_eq (c : Fin 4096) (q l : Fin 1024) : kfilt A c q l = filtAt A c q l := by
  unfold kfilt filtAt
  rw [show khid2 A l = hid2 A l from funext (khid2_eq hA l), split3_eq (hid2_fin hA l) fun k => hA.w3 k c, zero_sub]

/-- The kernel's filters are finite. -/
theorem kfilt_fin (c : Fin 4096) (q l : Fin 1024) : Finite (kfilt A c q l) := by
  rw [kfilt_eq hA]
  exact filt_fin hA c q l

/-- The kernel's backward filter is finite. -/
theorem kback_fin (o : Fin 2) (q l : Fin 1024) : Finite (kback A o q l) := by
  unfold kback
  split
  · exact Finite.coe 0
  · exact kfilt_fin hA _ q l

omit hA in
/-- A sum over the circle folds onto its first half. -/
theorem fold (c F B : ℕ → EReal) :
    (∑ n : Fin 2048, c n.val * (if n.val < 1024 then F n.val else if n.val = 1024 then 0 else B (2048 - n.val)))
      = (∑ n : Fin 1024, c n.val * F n.val) + ∑ n : Fin 1024, c (2048 - n.val) * (if n.val = 0 then 0 else B n.val) := by
  rw [Fin.sum_univ_eq_sum_range (fun n => c n * (if n < 1024 then F n else if n = 1024 then 0 else B (2048 - n))) 2048,
    Fin.sum_univ_eq_sum_range (fun n => c n * F n) 1024,
    Fin.sum_univ_eq_sum_range (fun n => c (2048 - n) * (if n = 0 then 0 else B n)) 1024,
    show (2048 : ℕ) = 1024 + 1024 from rfl, Finset.sum_range_add]
  refine congr_arg₂ (· + ·) (Finset.sum_congr rfl fun n hn => by rw [if_pos (Finset.mem_range.1 hn)]) ?_
  rw [show (1024 : ℕ) = 1023 + 1 from rfl, Finset.sum_range_succ', Finset.sum_range_succ' (fun n => c (1023 + 1 + (1023 + 1) - n) * (if n = 0 then 0 else B n)),
    ← Finset.sum_range_reflect]
  simp only [Nat.add_zero, lt_irrefl, if_true, if_false, mul_zero, add_zero]
  refine Finset.sum_congr rfl fun n hn => ?_
  have h := Finset.mem_range.1 hn
  rw [if_neg (by omega), if_neg (by omega), if_neg (by omega)]
  congr 2 <;> omega

omit hA in
/-- The cosine at the reflected position. -/
theorem cos_reflect (k n : ℕ) (h : n ≤ 2048) : Real.cos (Hyena.angR k (2048 - n)) = Real.cos (Hyena.angR k n) := by
  have e : Hyena.angR k (2048 - n) = (k : ℝ) * (2 * Real.pi) - Hyena.angR k n := by
    unfold Hyena.angR
    push_cast [Nat.cast_sub h]
    ring
  rw [e, Real.cos_nat_mul_two_pi_sub]

omit hA in
/-- The sine at the reflected position. -/
theorem sin_reflect (k n : ℕ) (h : n ≤ 2048) : Real.sin (Hyena.angR k (2048 - n)) = -Real.sin (Hyena.angR k n) := by
  have e : Hyena.angR k (2048 - n) = (k : ℝ) * (2 * Real.pi) - Hyena.angR k n := by
    unfold Hyena.angR
    push_cast [Nat.cast_sub h]
    ring
  rw [e, Real.sin_nat_mul_two_pi_sub]

/-- The real part, folded. -/
theorem re_fold (o : Fin 2) (k : ℕ) (q : Fin 1024) :
    reAt A o k q = ∑ n : Fin 1024, ((Real.cos (Hyena.angR k n.val) : ℝ) : EReal) * (kfilt A (colF o q) q n + kback A o q n) := by
  unfold reAt
  refine (fold (fun n => ((Real.cos (Hyena.angR k n) : ℝ) : EReal)) (fun n => filtAt A (colF o q) q (pos n)) (fun n => filtAt A (colB o q) q (pos n))).trans ?_
  rw [← Finset.sum_add_distrib]
  refine Finset.sum_congr rfl fun n _ => ?_
  rw [mul_add_fin (Finite.coe _) (kfilt_fin hA _ _ _) (kback_fin hA _ _ _), pos_val, cos_reflect k n.val (by omega), kfilt_eq hA]
  unfold kback
  rw [kfilt_eq hA]

/-- The imaginary part's sum, folded. -/
theorem im_fold (o : Fin 2) (k : ℕ) (q : Fin 1024) :
    (∑ n : Fin 2048, (-((Real.sin (Hyena.angR k n.val) : ℝ) : EReal)) * circ A o q n.val)
      = ∑ n : Fin 1024, ((-Real.sin (Hyena.angR k n.val) : ℝ) : EReal) * (kfilt A (colF o q) q n - kback A o q n) := by
  refine (fold (fun n => -((Real.sin (Hyena.angR k n) : ℝ) : EReal)) (fun n => filtAt A (colF o q) q (pos n)) (fun n => filtAt A (colB o q) q (pos n))).trans ?_
  rw [← Finset.sum_add_distrib]
  refine Finset.sum_congr rfl fun n _ => ?_
  rw [mul_sub_fin (Finite.coe _) (kfilt_fin hA _ _ _) (kback_fin hA _ _ _), pos_val, sin_reflect k n.val (by omega), kfilt_eq hA]
  unfold kback
  rw [kfilt_eq hA, EReal.coe_neg]

/-- The kernel's real part is the real part. -/
theorem kreAt_eq (o : Fin 2) (k q : Fin 1024) : kreAt A o k q = reAt A o k.val q := by
  unfold kreAt
  rw [split3_eq (fun _ => Finite.coe _) fun n => (kfilt_fin hA _ _ _).add (kback_fin hA _ _ _), re_fold hA]
  refine Finset.sum_congr rfl fun n _ => ?_
  unfold Hyena.fwdT
  rw [if_pos k.isLt]

omit hA in
/-- The cosine of the last bin alternates. -/
theorem cos_last (n : ℕ) : Real.cos (Hyena.angR 1024 n) = Hyena.sgn n := by
  have e : Hyena.angR 1024 n = (n : ℝ) * Real.pi := by
    unfold Hyena.angR
    push_cast
    ring
  rw [e, Real.cos_nat_mul_pi]
  unfold Hyena.sgn
  split
  · rename_i h; exact Even.neg_one_pow (Nat.even_iff.2 h)
  · rename_i h; exact Odd.neg_one_pow (Nat.odd_iff.2 (by omega))

/-- The kernel's imaginary part is the imaginary part. -/
theorem kimAt_eq (o : Fin 2) (k q : Fin 1024) : kimAt A o k q = imAt A o k.val q := by
  unfold kimAt imAt
  split
  · rw [re_fold hA]
    exact Finset.sum_congr rfl fun n _ => by rw [cos_last]
  · rename_i h
    rw [split3_eq (fun _ => Finite.coe _) fun n => ?_, im_fold hA]
    · refine Finset.sum_congr rfl fun n _ => ?_
      unfold Hyena.fwdT
      rw [if_neg (by omega), if_neg (by omega), Nat.add_sub_cancel]
    · rw [sub_eq_add_neg]
      exact (kfilt_fin hA _ _ _).add (Finite.neg (kback_fin hA _ _ _))

end Cert.Calls.Spectrum
-- ==== Proof.Hyena.Pay.lean ====
module

public import proofs.«01_k».proof.Proof.Hyena.Form
public import proofs.«01_k».proof.Proof.Gen.KernelIdeal.Skeleton

/-!
# The body's payloads, read at an index
-/

@[expose] public section

set_option maxRecDepth 16384

noncomputable section

open Idealize.ShloMosaic Idealize.ShloMosaic.TcCoe Idealize.SL.Sem
open Cert.KernelIdeal Cert.KernelIdeal.Gen

namespace Cert.Hyena

/-- The position within a row of 64, as the body computes it. -/
theorem pos_at (r : Fin 1024) : k0_pay2 (ix2 r 0) = BitVec.ofNat 32 (r.val % 64) := by
  pointwise [k0_pay2]
  revert r
  decide +kernel

/-- A select on the comparison of two words below `2 ^ 32` is the `if` on the numbers. -/
theorem select_word (i j : ℕ) (hi : i < 2 ^ 32) (hj : j < 2 ^ 32) {α : Type} (a b : α) :
    Scalar.select (IntOp.cmpi CmpIPredicate.eq (BitVec.ofNat 32 i) (BitVec.ofNat 32 j)) a b = if i = j then a else b := by
  have h : (BitVec.ofNat 32 i = BitVec.ofNat 32 j) ↔ i = j := by
    constructor
    · intro h
      have := congrArg BitVec.toNat h
      rw [BitVec.toNat_ofNat, BitVec.toNat_ofNat, Nat.mod_eq_of_lt hi, Nat.mod_eq_of_lt hj] at this
      exact this
    · rintro rfl; rfl
  by_cases hij : i = j
  · subst hij; simp [Scalar.select, IntOp.cmpi]
  · have h' : (BitVec.ofNat 32 i == BitVec.ofNat 32 j) = false := beq_eq_false_iff_ne.2 fun e => hij (h.1 e)
    simp [Scalar.select, IntOp.cmpi, h', hij]

/-- The mask of the first row of the block. -/
theorem row0_at (r : Fin 1024) {α : Type} (a b : α) :
    Scalar.select (k0_pay3 (ix2 r 0)) a b = if r.val = 0 then a else b := by
  pointwise [k0_pay3]
  exact select_word r.val 0 (by omega) (by decide) a b

/-- The mask of the first position of a row of 64. -/
theorem edge0 (r : Fin 1024) {α : Type} (a b : α) :
    Scalar.select (IntOp.cmpi CmpIPredicate.eq (k0_pay2 (ix2 r 0)) 0#32) a b = if r.val % 64 = 0 then a else b := by
  rw [pos_at]
  exact select_word _ 0 (by omega) (by decide) a b

/-- The mask of the last position of a row of 64. -/
theorem edge63 (r : Fin 1024) {α : Type} (a b : α) :
    Scalar.select (IntOp.cmpi CmpIPredicate.eq (k0_pay2 (ix2 r 0)) 63#32) a b = if r.val % 64 = 63 then a else b := by
  rw [pos_at]
  exact select_word _ 63 (by omega) (by decide) a b

/-- Second half of the channels, the last gate: the short convolution of the gate times `y`. -/
theorem pay1_at (x : FVec Ideal S1024x256 .f32) (w : FVec Ideal S1x3x256 .f32) (y : FVec Ideal S1024x256 .f32)
    (r : Fin 1024) (c : Fin 256) :
    k0_pay1 (F := Ideal) k0_pay2 y x w (ix2 r c) = conv (fun n => x (ix2 n c)) (fun a => w (ix3 0 a c)) r * y (ix2 r c) := by
  pointwise [k0_pay1]
  simp only [edge0, edge63]
  rfl

/-- Second half of the channels, the first gate. -/
theorem pay17_at (x : FVec Ideal S1024x256 .f32) (w : FVec Ideal S1x3x256 .f32) (y : FVec Ideal S1024x256 .f32)
    (r : Fin 1024) (c : Fin 256) :
    k0_pay17 (F := Ideal) k0_pay2 y x w (ix2 r c) = conv (fun n => x (ix2 n c)) (fun a => w (ix3 0 a c)) r * y (ix2 r c) := by
  pointwise [k0_pay17]
  simp only [edge0, edge63]
  rfl

/-- Second half of the channels, the second long convolution, of the gated stream `k0_pay17 …`. -/
theorem second_long (x : FVec Ideal S1024x256 .f32) (w : FVec Ideal S1x3x256 .f32) (y : FVec Ideal S1024x256 .f32)
    (F : FVec Ideal S2048x1024 .bf16) (G : FVec Ideal S1024x2048 .bf16) (re im : FVec Ideal S1x1024x256 .f32)
    (b : FVec Ideal S1x256 .f32) (r : Fin 1024) (c : Fin 256) :
    k0_pay25 (F := Ideal) (k0_pay17 k0_pay2 y x w) (k0_pay22 k0_pay3 (k0_pay19 k0_pay2 y x w F) re im) (k0_pay24 G) b (ix2 r c)
      = longK (fun k n => F (ix2 k n)) (fun n k => G (ix2 n k)) (fun k => re (ix3 0 k c)) (fun k => im (ix3 0 k c))
          (b (ix2 0 c)) (fun n => k0_pay17 (F := Ideal) k0_pay2 y x w (ix2 n c)) r := by
  pointwise [k0_pay25, k0_pay22, k0_pay19, k0_pay24]
  simp only [row0_at]
  rfl

/-- Second half of the channels, the first long convolution, of the value stream. -/
theorem second_first (x : FVec Ideal S1024x256 .f32) (w : FVec Ideal S1x3x256 .f32)
    (F : FVec Ideal S2048x1024 .bf16) (G : FVec Ideal S1024x2048 .bf16) (re im : FVec Ideal S1x1024x256 .f32)
    (b : FVec Ideal S1x256 .f32) (r : Fin 1024) (c : Fin 256) :
    k0_pay15 (F := Ideal) (k0_pay9 k0_pay2 x w) (k0_pay13 k0_pay3 (k0_pay11 k0_pay2 x w F) re im) G b (ix2 r c)
      = longK (fun k n => F (ix2 k n)) (fun n k => G (ix2 n k)) (fun k => re (ix3 0 k c)) (fun k => im (ix3 0 k c))
          (b (ix2 0 c)) (conv (fun n => x (ix2 n c)) (fun a => w (ix3 0 a c))) r := by
  pointwise [k0_pay15, k0_pay13, k0_pay11, k0_pay9]
  simp only [row0_at, edge0, edge63]
  rfl

/-- First half of the channels: the first gate times the first long convolution of the value stream. -/
theorem first_first (x : FVec Ideal S1024x256 .f32) (w : FVec Ideal S1x3x256 .f32)
    (x1 : FVec Ideal S1024x256 .f32) (w1 : FVec Ideal S1x3x256 .f32)
    (F : FVec Ideal S2048x1024 .bf16) (G : FVec Ideal S1024x2048 .bf16) (re im : FVec Ideal S1x1024x256 .f32)
    (b : FVec Ideal S1x256 .f32) (r : Fin 1024) (c : Fin 256) :
    k0_pay16 (F := Ideal) k0_pay2 (k0_pay8 x (k0_pay4 w) (k0_pay5 x) (k0_pay6 x w) (k0_pay7 w))
        (k0_pay12 k0_pay3 (k0_pay10 x (k0_pay4 w) (k0_pay5 x) (k0_pay6 x w) (k0_pay7 w) F) re im) (k0_pay14 G) b x1 w1 (ix2 r c)
      = conv (fun n => x1 (ix2 n c)) (fun a => w1 (ix3 0 a c)) r
        * longK (fun k n => F (ix2 k n)) (fun n k => G (ix2 n k)) (fun k => re (ix3 0 k c)) (fun k => im (ix3 0 k c))
          (b (ix2 0 c)) (conv (fun n => x (ix2 n c)) (fun a => w (ix3 0 a c))) r := by
  pointwise [k0_pay16, k0_pay12, k0_pay10, k0_pay8, k0_pay4, k0_pay5, k0_pay6, k0_pay7, k0_pay14]
  simp only [row0_at, edge0, edge63]
  rfl

/-- First half of the channels: the last gate times the second long convolution of `u`. -/
theorem first_long (u : FVec Ideal S1024x256 .f32)
    (x2 : FVec Ideal S1024x256 .f32) (w2 : FVec Ideal S1x3x256 .f32)
    (F : FVec Ideal S2048x1024 .bf16) (G : FVec Ideal S1024x2048 .bf16) (re im : FVec Ideal S1x1024x256 .f32)
    (b : FVec Ideal S1x256 .f32) (r : Fin 1024) (c : Fin 256) :
    k0_pay26 (F := Ideal) k0_pay2 u (k0_pay23 k0_pay3 (k0_pay20 u F) (k0_pay21 u F) re im G) b x2 w2 (ix2 r c)
      = conv (fun n => x2 (ix2 n c)) (fun a => w2 (ix3 0 a c)) r
        * longK (fun k n => F (ix2 k n)) (fun n k => G (ix2 n k)) (fun k => re (ix3 0 k c)) (fun k => im (ix3 0 k c))
          (b (ix2 0 c)) (fun n => u (ix2 n c)) r := by
  pointwise [k0_pay26, k0_pay23, k0_pay20, k0_pay21, k0_pay18]
  simp only [row0_at, edge0, edge63]
  rfl

end Cert.Hyena
-- ==== Proof.Calls.SpectrumBody.lean ====
module

public import proofs.«01_k».proof.Proof.Calls.SpectrumSpec
public import proofs.«01_k».proof.Proof.Hyena.Pay
public import proofs.«01_k».proof.Proof.Gen.KernelSpectrumIdeal.Frame

/-!
# The spectrum of the Hyena filters: the body of a block
-/

@[expose] public section

set_option maxRecDepth 16384

noncomputable section

open Idealize.ShloMosaic Idealize.ShloMosaic.TcCoe Idealize.SL.Sem Idealize.ShloMosaic.StableHlo
open Cert.KernelSpectrumIdeal Cert.KernelSpectrumIdeal.Gen

namespace Cert.Calls.Spectrum

/-- The first hidden layer, of its operands' entries. -/
def lay1 (v0 : FVec Ideal S1x64 .f32) (v1 : FVec Ideal S1024x64 .f32) (v3 : FVec Ideal S64x64 .f32) (v18 : FVec Ideal S1x64 .f32) (l : Fin 1024) (i : Fin 64) : EReal :=
  Ideal.sin (v0 (ix2 0 i) * (split3 (fun j : Fin 64 => (v1 (ix2 l j) : EReal)) (fun j => v3 (ix2 j i)) + v18 (ix2 0 i)))

/-- The second layer's product. -/
theorem pay3_at (v0 : FVec Ideal S1x64 .f32) (v1 : FVec Ideal S1024x64 .f32) (v3 : FVec Ideal S64x64 .f32) (v18 : FVec Ideal S1x64 .f32) (v26 : FVec Ideal S64x64 .f32) (l : Fin 1024) (k : Fin 64) :
    k0_pay3 (F := Ideal) v0 v1 v3 v18 v26 (ix2 l k) = split3 (lay1 v0 v1 v3 v18 l) (fun i => v26 (ix2 i k)) := by
  pointwise [k0_pay3, split3, lay1]

/-- The second hidden layer. -/
theorem pay4_at (v25 : FVec Ideal S1x64 .f32) (v39 : FVec Ideal S1024x64 .f32) (v40 : FVec Ideal S1x64 .f32) (l : Fin 1024) (k : Fin 64) :
    k0_pay4 (F := Ideal) v25 v39 v40 (ix2 l k) = Ideal.sin (v25 (ix2 0 k) * (v39 (ix2 l k) + v40 (ix2 0 k))) := by
  pointwise [k0_pay4]

/-- The decay. -/
theorem pay5_at (v47 : FVec Ideal S1024x1 .f32) (v51 : FVec Ideal S1x256 .f32) (l : Fin 1024) (y : Fin 256) :
    k0_pay5 (F := Ideal) v47 v51 (ix2 l y) = Ideal.exp ((0 - v47 (ix2 l 0)) * v51 (ix2 0 y)) := by
  pointwise [k0_pay5]

/-- The forward filter. -/
theorem pay6_at (v25 : FVec Ideal S1x64 .f32) (v39 : FVec Ideal S1024x64 .f32) (v40 : FVec Ideal S1x64 .f32) (v47 : FVec Ideal S1024x1 .f32) (v51 : FVec Ideal S1x256 .f32)
    (v57 : FVec Ideal S64x256 .f32) (l : Fin 1024) (y : Fin 256) :
    k0_pay6 (F := Ideal) v25 v39 v40 v47 v51 v57 (ix2 l y) = split3 (fun k : Fin 64 => (k0_pay4 (F := Ideal) v25 v39 v40 (ix2 l k) : EReal)) (fun k => v57 (ix2 k y)) * k0_pay5 (F := Ideal) v47 v51 (ix2 l y) := by
  pointwise [k0_pay6, split3]

/-- The backward filter, but for its first position. -/
theorem pay12_at (v25 : FVec Ideal S1x64 .f32) (v39 : FVec Ideal S1024x64 .f32) (v40 : FVec Ideal S1x64 .f32) (v56 : FVec Ideal S1024x256 .f32) (v72 : FVec Ideal S64x256 .f32) (l : Fin 1024) (y : Fin 256) :
    k0_pay12 (F := Ideal) v56 (k0_pay8 v25 v39 v40) (k0_pay9 v72) (k0_pay10 v25 v39 v40 v72) (k0_pay11 v25 v39 v40 v72) (constant S1024x256 .f32 0x00000000#32) (ix2 l y)
      = if l.val = 0 then 0 else split3 (fun k : Fin 64 => (k0_pay4 (F := Ideal) v25 v39 v40 (ix2 l k) : EReal)) (fun k => v72 (ix2 k y)) * v56 (ix2 l y) := by
  have h : (if l.val = 0 then (0 : EReal) else split3 (fun k : Fin 64 => (k0_pay4 (F := Ideal) v25 v39 v40 (ix2 l k) : EReal)) (fun k => v72 (ix2 k y)) * v56 (ix2 l y))
      = Scalar.select (IntOp.cmpi CmpIPredicate.eq (BitVec.ofNat 32 l.val) 0#32) (0 : EReal) (split3 (fun k : Fin 64 => (k0_pay4 (F := Ideal) v25 v39 v40 (ix2 l k) : EReal)) (fun k => v72 (ix2 k y)) * v56 (ix2 l y)) :=
    (Hyena.select_word _ 0 (by omega) (by decide) _ _).symm
  rw [h]
  pointwise [k0_pay12, k0_pay8, k0_pay9, k0_pay10, k0_pay11, k0_pay7, split3]

/-- The product with the real parts' table. -/
theorem pay16_at (v56 v71 : FVec Ideal S1024x256 .f32) (v76 : FVec Ideal S1024x64 .bf16) (v77 : FVec Ideal S64x256 .bf16) (v81 v82 z : FVec Ideal S1024x256 .f32) (a b c : FVec Ideal S1024x1024 .bf16) (l : Fin 1024) (y : Fin 256) :
    k0_pay16 (F := Ideal) v56 v71 v76 v77 v81 v82 z a b c (ix2 l y)
      = (∑ n : Fin 1024, (a (ix2 l n) : EReal) * (v71 (ix2 n y) + k0_pay12 (F := Ideal) v56 v76 v77 v81 v82 z (ix2 n y)))
        + ((∑ n : Fin 1024, (b (ix2 l n) : EReal) * ((v71 (ix2 n y) + k0_pay12 (F := Ideal) v56 v76 v77 v81 v82 z (ix2 n y)) - (v71 (ix2 n y) + k0_pay12 (F := Ideal) v56 v76 v77 v81 v82 z (ix2 n y))))
          + ∑ n : Fin 1024, (c (ix2 l n) : EReal) * (v71 (ix2 n y) + k0_pay12 (F := Ideal) v56 v76 v77 v81 v82 z (ix2 n y))) := by
  pointwise [k0_pay16, k0_pay13]

/-- The product with the imaginary parts' table. -/
theorem pay1718_at (v56 v71 : FVec Ideal S1024x256 .f32) (v76 : FVec Ideal S1024x64 .bf16) (v77 : FVec Ideal S64x256 .bf16) (v81 v82 z : FVec Ideal S1024x256 .f32) (a b c : FVec Ideal S1024x1024 .bf16) (l : Fin 1024) (y : Fin 256) :
    (k0_pay17 (F := Ideal) v56 v71 v76 v77 v81 v82 z a (ix2 l y) : EReal) + k0_pay18 (F := Ideal) v56 v71 v76 v77 v81 v82 z b c (ix2 l y)
      = (∑ n : Fin 1024, (a (ix2 l n) : EReal) * (v71 (ix2 n y) - k0_pay12 (F := Ideal) v56 v76 v77 v81 v82 z (ix2 n y)))
        + ((∑ n : Fin 1024, (b (ix2 l n) : EReal) * ((v71 (ix2 n y) - k0_pay12 (F := Ideal) v56 v76 v77 v81 v82 z (ix2 n y)) - (v71 (ix2 n y) - k0_pay12 (F := Ideal) v56 v76 v77 v81 v82 z (ix2 n y))))
          + ∑ n : Fin 1024, (c (ix2 l n) : EReal) * (v71 (ix2 n y) - k0_pay12 (F := Ideal) v56 v76 v77 v81 v82 z (ix2 n y))) := by
  pointwise [k0_pay17, k0_pay18, k0_pay15, k0_pay14]

/-- The sum of the two filters. -/
theorem pay13_at (v56 v71 : FVec Ideal S1024x256 .f32) (v76 : FVec Ideal S1024x64 .bf16) (v77 : FVec Ideal S64x256 .bf16) (v81 v82 z : FVec Ideal S1024x256 .f32) (l : Fin 1024) (y : Fin 256) :
    k0_pay13 (F := Ideal) v56 v71 v76 v77 v81 v82 z (ix2 l y) = v71 (ix2 l y) + k0_pay12 (F := Ideal) v56 v76 v77 v81 v82 z (ix2 l y) := by
  pointwise [k0_pay13]

/-- The stored real parts. -/
theorem pay1_at (v : FVec Ideal S1024x256 .f32) (l : Fin 1024) (y : Fin 256) : k0_pay1 (F := Ideal) v (ix3 0 l y) = v (ix2 l y) := by
  pointwise [k0_pay1]

/-- The stored imaginary parts: bin 1024's real part in the first row. -/
theorem pay2_at (v92 v115 v122 : FVec Ideal S1024x256 .f32) (s : FVec Ideal S1024x1 .f32) (l : Fin 1024) (y : Fin 256) :
    k0_pay2 (F := Ideal) (iota .tc S1024x256 32 [0] iota_S1024x256_d0_w32) v92 v115 v122 s (ix3 0 l y)
      = if l.val = 0 then ∑ n : Fin 1024, (s (ix2 n 0) : EReal) * v92 (ix2 n y) else (v115 (ix2 l y) : EReal) + v122 (ix2 l y) := by
  have h : (if l.val = 0 then ∑ n : Fin 1024, (s (ix2 n 0) : EReal) * v92 (ix2 n y) else (v115 (ix2 l y) : EReal) + v122 (ix2 l y))
      = Scalar.select (IntOp.cmpi CmpIPredicate.eq (BitVec.ofNat 32 l.val) 0#32) (∑ n : Fin 1024, (s (ix2 n 0) : EReal) * v92 (ix2 n y)) ((v115 (ix2 l y) : EReal) + v122 (ix2 l y)) :=
    (Hyena.select_word _ 0 (by omega) (by decide) _ _).symm
  rw [h]
  pointwise [k0_pay2]

end Cert.Calls.Spectrum
-- ==== Proof.Calls.SpectrumBlock.lean ====
module

public import proofs.«01_k».proof.Proof.Calls.SpectrumBody
public import proofs.«01_k».proof.Proof.Gen.KernelSpectrumIdeal.Frame

/-!
# The spectrum of the Hyena filters: one block of the results
-/

@[expose] public section

set_option maxRecDepth 16384

noncomputable section

open Idealize.ShloMosaic Idealize.ShloMosaic.TcCoe Idealize.SL.Sem Idealize.ShloMosaic.StableHlo
open Cert.KernelSpectrumIdeal Cert.KernelSpectrumIdeal.Gen

namespace Cert.Calls.Spectrum

/-- The operands of a block, known at the channel `q` of the filter `o` that column `y` of the block is. -/
structure Known (A : Args) (o : Fin 2) (q : Fin 1024) (y : Fin 256) (x0 : FVec Ideal S1024x64 .f32) (x1 : FVec Ideal S64x64 .f32) (x2 : FVec Ideal S1x64 .f32) (x3 : FVec Ideal S64x64 .f32) (x4 : FVec Ideal S1x64 .f32) (x5 : FVec Ideal S2x64 .f32) (x6 : FVec Ideal S64x256 .f32) (x7 : FVec Ideal S64x256 .f32) (x8 : FVec Ideal S1024x1 .f32) (x9 : FVec Ideal S1x256 .f32) (x10 : FVec Ideal S1024x1 .f32) (x11 : FVec Ideal S1024x1024 .bf16) (x12 : FVec Ideal S1024x1024 .bf16) (x13 : FVec Ideal S1024x1024 .bf16) (x14 : FVec Ideal S1024x1024 .bf16) : Prop where
  /-- The features. -/
  h0 : ∀ (l : Fin 1024) (i : Fin 64), (x0 (ix2 l i) : EReal) = ext (A.z l) i
  /-- The first weights. -/
  h1 : ∀ (i k : Fin 64), (x1 (ix2 i k) : EReal) = ext (fun j => A.w1 j k) i
  /-- The first bias. -/
  h2 : ∀ (k : Fin 64), (x2 (ix2 0 k) : EReal) = A.b1 k
  /-- The second weights. -/
  h3 : ∀ (i k : Fin 64), (x3 (ix2 i k) : EReal) = A.w2 i k
  /-- The second bias. -/
  h4 : ∀ (k : Fin 64), (x4 (ix2 0 k) : EReal) = A.b2 k
  /-- The frequencies. -/
  h5 : ∀ (i : Fin 2) (k : Fin 64), (x5 (ix2 i k) : EReal) = A.f i k
  /-- The third weights of the forward filter. -/
  h6 : ∀ (k : Fin 64), (x6 (ix2 k y) : EReal) = A.w3 k (colF o q)
  /-- The third weights of the backward filter. -/
  h7 : ∀ (k : Fin 64), (x7 (ix2 k y) : EReal) = A.w3 k (colB o q)
  /-- The positions. -/
  h8 : ∀ (l : Fin 1024), (x8 (ix2 l 0) : EReal) = A.t l
  /-- The decay rate. -/
  h9 : (x9 (ix2 0 y) : EReal) = A.d q
  /-- The alternating signs. -/
  h10 : ∀ (n : Fin 1024), (x10 (ix2 n 0) : EReal) = ((Hyena.sgn n.val : ℝ) : EReal)
  /-- The cosines' table. -/
  h11 : ∀ (k n : Fin 1024), (x11 (ix2 k n) : EReal) = ((Hyena.fwdT k.val n.val : ℝ) : EReal)
  /-- What its rounding drops. -/
  h12 : ∀ (k n : Fin 1024), (x12 (ix2 k n) : EReal) = ((Hyena.fwdT k.val n.val : ℝ) : EReal) - ((Hyena.fwdT k.val n.val : ℝ) : EReal)
  /-- The sines' table. -/
  h13 : ∀ (k n : Fin 1024), (x13 (ix2 k n) : EReal) = ((Hyena.fwdT (k.val + 1024) n.val : ℝ) : EReal)
  /-- What its rounding drops. -/
  h14 : ∀ (k n : Fin 1024), (x14 (ix2 k n) : EReal) = ((Hyena.fwdT (k.val + 1024) n.val : ℝ) : EReal) - ((Hyena.fwdT (k.val + 1024) n.val : ℝ) : EReal)

/-- The first frequencies. -/
theorem freq0 (x5 : FVec Ideal S2x64 .f32) (u : FVec Ideal S1x64 .f32) (hu : u = (View.ld (Val := Elt Ideal) (S := S2x64) (e' := .f32) x5 r0_0)) (k : Fin 64) : (u (ix2 0 k) : EReal) = x5 (ix2 0 k) := by
  subst hu
  refine View.ld_unit_apply_of (Val := Elt Ideal) (S := S2x64) (e := .f32) x5 _ _ _ _ (ix2 0 k) fun a => ?_
  match a with
  | ⟨0, _⟩ => rfl
  | ⟨1, _⟩ => exact (Nat.zero_add _).symm

/-- The second frequencies. -/
theorem freq1 (x5 : FVec Ideal S2x64 .f32) (u : FVec Ideal S1x64 .f32) (hu : u = (View.ld (Val := Elt Ideal) (S := S2x64) (e' := .f32) x5 r0_4)) (k : Fin 64) : (u (ix2 0 k) : EReal) = x5 (ix2 1 k) := by
  subst hu
  refine View.ld_unit_apply_of (Val := Elt Ideal) (S := S2x64) (e := .f32) x5 _ _ _ _ (ix2 1 k) fun a => ?_
  match a with
  | ⟨0, _⟩ => rfl
  | ⟨1, _⟩ => exact (Nat.zero_add _).symm

variable {A : Args} {o : Fin 2} {q : Fin 1024} {y : Fin 256} {x0 : FVec Ideal S1024x64 .f32} {x1 : FVec Ideal S64x64 .f32} {x2 : FVec Ideal S1x64 .f32} {x3 : FVec Ideal S64x64 .f32} {x4 : FVec Ideal S1x64 .f32} {x5 : FVec Ideal S2x64 .f32} {x6 : FVec Ideal S64x256 .f32} {x7 : FVec Ideal S64x256 .f32} {x8 : FVec Ideal S1024x1 .f32} {x9 : FVec Ideal S1x256 .f32} {x10 : FVec Ideal S1024x1 .f32} {x11 : FVec Ideal S1024x1024 .bf16} {x12 : FVec Ideal S1024x1024 .bf16} {x13 : FVec Ideal S1024x1024 .bf16} {x14 : FVec Ideal S1024x1024 .bf16}
  (h : Known A o q y x0 x1 x2 x3 x4 x5 x6 x7 x8 x9 x10 x11 x12 x13 x14)
include h

/-- The first hidden layer. -/
theorem lay1_eq (l : Fin 1024) : lay1 (View.ld (Val := Elt Ideal) (S := S2x64) (e' := .f32) x5 r0_0) x0 x1 x2 l = khid1 A l := by
  funext i
  unfold lay1 khid1
  simp only [freq0 x5 _ rfl, h.h0, h.h1, h.h2, h.h5]

/-- The second hidden layer. -/
theorem lay2_eq (l : Fin 1024) (k : Fin 64) : (k0_pay4 (F := Ideal) (View.ld (Val := Elt Ideal) (S := S2x64) (e' := .f32) x5 r0_4) (k0_pay3 (F := Ideal) (View.ld (Val := Elt Ideal) (S := S2x64) (e' := .f32) x5 r0_0) x0 x1 x2 x3) x4 (ix2 l k) : EReal) = khid2 A l k := by
  refine (pay4_at _ _ _ l k).trans ?_
  rw [pay3_at, lay1_eq h]
  unfold khid2
  simp only [freq1 x5 _ rfl, h.h3, h.h4, h.h5]

/-- The decay. -/
theorem decay_eq (l : Fin 1024) : (k0_pay5 (F := Ideal) x8 x9 (ix2 l y) : EReal) = Ideal.exp ((0 - A.t l) * A.d q) := by
  refine (pay5_at _ _ l y).trans ?_
  rw [h.h8, h.h9]

/-- The forward filter. -/
theorem fwd_eq (l : Fin 1024) : (k0_pay6 (F := Ideal) (View.ld (Val := Elt Ideal) (S := S2x64) (e' := .f32) x5 r0_4) (k0_pay3 (F := Ideal) (View.ld (Val := Elt Ideal) (S := S2x64) (e' := .f32) x5 r0_0) x0 x1 x2 x3) x4 x8 x9 x6 (ix2 l y) : EReal) = kfilt A (colF o q) q l := by
  refine (pay6_at _ _ _ _ _ _ l y).trans ?_
  unfold kfilt
  rw [decay_eq h]
  simp only [lay2_eq h, h.h6]

/-- The backward filter. -/
theorem bwd_eq (l : Fin 1024) : (k0_pay12 (F := Ideal) (k0_pay5 x8 x9) (k0_pay8 (View.ld (Val := Elt Ideal) (S := S2x64) (e' := .f32) x5 r0_4) (k0_pay3 (F := Ideal) (View.ld (Val := Elt Ideal) (S := S2x64) (e' := .f32) x5 r0_0) x0 x1 x2 x3) x4) (k0_pay9 x7) (k0_pay10 (View.ld (Val := Elt Ideal) (S := S2x64) (e' := .f32) x5 r0_4) (k0_pay3 (F := Ideal) (View.ld (Val := Elt Ideal) (S := S2x64) (e' := .f32) x5 r0_0) x0 x1 x2 x3) x4 x7) (k0_pay11 (View.ld (Val := Elt Ideal) (S := S2x64) (e' := .f32) x5 r0_4) (k0_pay3 (F := Ideal) (View.ld (Val := Elt Ideal) (S := S2x64) (e' := .f32) x5 r0_0) x0 x1 x2 x3) x4 x7) (constant S1024x256 .f32 0x00000000#32) (ix2 l y) : EReal)
    = kback A o q l := by
  refine (pay12_at _ _ _ _ _ l y).trans ?_
  unfold kback kfilt
  rw [decay_eq h]
  simp only [lay2_eq h, h.h7]

/-- The block of real parts. -/
theorem re_block (l : Fin 1024) : (out0_15 (F := Ideal) x0 x1 x2 x3 x4 x5 x6 x7 x8 x9 x10 x11 x12 x13 x14 (ix3 0 l y) : EReal) = kreAt A o l q := by
  unfold_out out0_15
  frame_out
  refine (pay1_at _ l y).trans ((pay16_at _ _ _ _ _ _ _ _ _ _ l y).trans ?_)
  unfold kreAt split3
  simp only [fwd_eq h, bwd_eq h, h.h11, h.h12]

/-- The block of imaginary parts. -/
theorem im_block (l : Fin 1024) : (out0_16 (F := Ideal) x0 x1 x2 x3 x4 x5 x6 x7 x8 x9 x10 x11 x12 x13 x14 (ix3 0 l y) : EReal) = kimAt A o l q := by
  unfold_out out0_16
  frame_out
  refine (pay2_at _ _ _ _ l y).trans ?_
  unfold kimAt
  rw [pay1718_at]
  simp only [pay13_at, fwd_eq h, bwd_eq h, h.h10, h.h13, h.h14, split3]

end Cert.Calls.Spectrum
-- ==== Proof.Calls.SpectrumHost.lean ====
module

public import proofs.«01_k».proof.Proof.Calls.SpectrumSpec
public import proofs.«01_k».proof.Proof.Hyena.Word
public import proofs.«01_k».proof.Proof.Hyena.Pay
public import proofs.«01_k».proof.Proof.Gen.KernelSpectrumIdeal.Frame
public import Idealize.ShloMosaic.Lib.StableHlo.ReadAt
public import Idealize.ShloMosaic.Lib.KernelVsHost

/-!
# The spectrum of the Hyena filters: what the host lays out
-/

@[expose] public section

set_option maxRecDepth 16384

noncomputable section

open Idealize.ShloMosaic Idealize.ShloMosaic.TcCoe Idealize.SL.Sem Idealize.ShloMosaic.StableHlo
open Cert.KernelSpectrumIdeal Cert.KernelSpectrumIdeal.Gen

namespace Cert.Calls.Spectrum

variable (m : (ℓ : Loc nD τ sig) → Buf (Elt Ideal) ℓ)

set_option maxHeartbeats 4000000 in
/-- The decay rates. -/
theorem rates (c : Dev nD) (q : Fin 1024) : (V m c main_v58 : FVec Ideal S1x1024 .f32) (ix2 0 q) = (m ((c.tc : Thread nD τ).loc main_arg2) : FVec Ideal S1024 .f32) (ix1 q) := by
  have h : V m c main_v58 = (shapeCast S1x1024 (m ((c.tc : Thread nD τ).loc main_arg2) : FVec Ideal S1024 .f32) shapeCasts_S1024_S1x1024 : FVec Ideal S1x1024 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The first bias. -/
theorem bias1 (c : Dev nD) (k : Fin 64) : (V m c main_v59 : FVec Ideal S1x64 .f32) (ix2 0 k) = (m ((c.tc : Thread nD τ).loc main_arg4) : FVec Ideal S64 .f32) (ix1 k) := by
  have h : V m c main_v59 = (shapeCast S1x64 (m ((c.tc : Thread nD τ).loc main_arg4) : FVec Ideal S64 .f32) shapeCasts_S64_S1x64 : FVec Ideal S1x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The second bias. -/
theorem bias2 (c : Dev nD) (k : Fin 64) : (V m c main_v60 : FVec Ideal S1x64 .f32) (ix2 0 k) = (m ((c.tc : Thread nD τ).loc main_arg6) : FVec Ideal S64 .f32) (ix1 k) := by
  have h : V m c main_v60 = (shapeCast S1x64 (m ((c.tc : Thread nD τ).loc main_arg6) : FVec Ideal S64 .f32) shapeCasts_S64_S1x64 : FVec Ideal S1x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The positions. -/
theorem positions (c : Dev nD) (l : Fin 1024) : (V m c main_v61 : FVec Ideal S1024x1 .f32) (ix2 l 0) = (m ((c.tc : Thread nD τ).loc main_arg1) : FVec Ideal S1024 .f32) (ix1 l) := by
  have h : V m c main_v61 = (shapeCast S1024x1 (m ((c.tc : Thread nD τ).loc main_arg1) : FVec Ideal S1024 .f32) shapeCasts_S1024_S1024x1 : FVec Ideal S1024x1 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

/-- The features, then zeros. -/
def padZ (z : FVec Ideal S1024x33 .f32) : FVec Ideal S1024x64 .f32 :=
  concatenate S1024x64 1 [⟨S1024x33, z⟩, ⟨S1024x31, (broadcastInDim S1024x31 ![] bcast_S_S1024x31 (constant S_ .f32 0x00000000#32) : FVec Ideal S1024x31 .f32)⟩] concatenates_S1024x33_S1024x31_S1024x64_d1

/-- The widths of its two parts. -/
def padZPieces : List Shape := [S1024x33, S1024x31]

/-- The padded features, entry by entry. -/
theorem padZ_at (z : FVec Ideal S1024x33 .f32) (l : Fin 1024) (i : Fin 64) : (padZ z (ix2 l i) : EReal) = ext (fun j => z (ix2 l j)) i := by
  unfold padZ ext
  by_cases h : i.val < 33
  · rw [dif_pos h]
    exact cat_piece (t := S1024x64) 1 _ padZPieces rfl _ _ 0 (by simp only [List.length_cons, List.length_nil]; decide) S1024x33 _ rfl rfl 0 (by decide +kernel)
      (ix2 l (⟨i.val, h⟩ : Fin 33)) (off_axis2 _ _) (by show 0 + i.val = i.val; omega)
  · rw [dif_neg h]
    refine (cat_piece (t := S1024x64) 1 _ padZPieces rfl _ _ 1 (by simp only [List.length_cons, List.length_nil]; decide) S1024x31 _ rfl rfl 33 (by decide +kernel)
      (ix2 l (⟨i.val - 33, by omega⟩ : Fin 31)) (off_axis2 _ _) (by show 33 + (i.val - 33) = i.val; omega)).trans ?_
    pointwise

/-- The first weights, then zeros. -/
def padW (w : FVec Ideal S33x64 .f32) : FVec Ideal S64x64 .f32 :=
  pad S64x64 ![0, 0] ![31, 0] ![0, 0] w (sitofp .f32 (constantI S_ 32 0#32) : FVec Ideal S_ .f32) pads_S33x64_S64x64_0310_000 h_S_

/-- The padding is zero. -/
theorem fill (i : S_.Idx) : ((sitofp .f32 (constantI S_ 32 0#32) : FVec Ideal S_ .f32) i : EReal) = 0 := by
  exact sitofp_zero

/-- The padded weights, entry by entry. -/
theorem padW_at (w : FVec Ideal S33x64 .f32) (i k : Fin 64) : (padW w (ix2 i k) : EReal) = ext (fun j => w (ix2 j k)) i := by
  unfold padW ext
  by_cases h : i.val < 33
  · rw [dif_pos h]
    refine pad_apply_of_inside _ _ _ w _ _ _ _ (ix2 (⟨i.val, h⟩ : Fin 33) k) (fun a => ?_)
    match a with
    | ⟨0, _⟩ => show i.val = 0 + i.val * (0 + 1); omega
    | ⟨1, _⟩ => show k.val = 0 + k.val * (0 + 1); omega
  · rw [dif_neg h]
    refine (pad_apply_of_not_inside _ _ _ w _ _ _ _ 0 (fun hin => h ?_)).trans (fill _)
    have e : (i.val - 0) / (0 + 1) < 33 := hin.2.2
    omega

set_option maxHeartbeats 4000000 in
/-- The features as the kernel reads them. -/
theorem features (c : Dev nD) (l : Fin 1024) (i : Fin 64) : ((V m c main_v56 : FVec Ideal S1024x64 .f32) (ix2 l i) : EReal)
    = ext (fun j => (m ((c.tc : Thread nD τ).loc main_arg0) : FVec Ideal S1024x33 .f32) (ix2 l j)) i := by
  have h : V m c main_v56 = padZ (m ((c.tc : Thread nD τ).loc main_arg0) : FVec Ideal S1024x33 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  exact padZ_at _ l i

set_option maxHeartbeats 4000000 in
/-- The first weights as the kernel reads them. -/
theorem weights (c : Dev nD) (i k : Fin 64) : ((V m c main_v57 : FVec Ideal S64x64 .f32) (ix2 i k) : EReal)
    = ext (fun j => (m ((c.tc : Thread nD τ).loc main_arg3) : FVec Ideal S33x64 .f32) (ix2 j k)) i := by
  have h : V m c main_v57 = padW (m ((c.tc : Thread nD τ).loc main_arg3) : FVec Ideal S33x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  exact padW_at _ i k

end Cert.Calls.Spectrum
-- ==== Proof.Calls.SpectrumTables.lean ====
module

public import proofs.«01_k».proof.Proof.Calls.SpectrumSpec
public import proofs.«01_k».proof.Proof.Hyena.Word
public import proofs.«01_k».proof.Proof.Hyena.Pay
public import proofs.«01_k».proof.Proof.Gen.KernelSpectrumIdeal.Frame
public import Idealize.ShloMosaic.Lib.StableHlo.ReadAt
public import Idealize.ShloMosaic.Lib.KernelVsHost

/-!
# The spectrum of the Hyena filters: the tables the host prepares
-/

@[expose] public section

set_option maxRecDepth 16384

noncomputable section

open Idealize.ShloMosaic Idealize.ShloMosaic.TcCoe Idealize.SL.Sem Idealize.ShloMosaic.StableHlo
open Cert.KernelSpectrumIdeal Cert.KernelSpectrumIdeal.Gen Cert.Hyena

namespace Cert.Calls.Spectrum

variable (m : (ℓ : Loc nD τ sig) → Buf (Elt Ideal) ℓ)

set_option maxHeartbeats 4000000 in
/-- The cosines' table. -/
theorem cos_hi (c : Dev nD) (k n : Fin 1024) : (V m c main_v47 : FVec Ideal S1024x1024 .bf16) (ix2 k n) = ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hm : k.val * n.val < 2 ^ 31 := by nlinarith [k.isLt, n.isLt]
  unfold fwdT
  rw [if_pos k.isLt, floorMod_word _ 2048 hm (by decide) (by decide), sitofp_word _ _ (by omega), step_at, cos_host]

set_option maxHeartbeats 4000000 in
/-- What the rounding of the cosines' table drops. -/
theorem cos_lo (c : Dev nD) (k n : Fin 1024) : (V m c main_v50 : FVec Ideal S1024x1024 .bf16) (ix2 k n) = ((fwdT k.val n.val : ℝ) : EReal) - ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hm : k.val * n.val < 2 ^ 31 := by nlinarith [k.isLt, n.isLt]
  unfold fwdT
  rw [if_pos k.isLt, floorMod_word _ 2048 hm (by decide) (by decide), sitofp_word _ _ (by omega), step_at, cos_host]

set_option maxHeartbeats 4000000 in
/-- The sines' table. -/
theorem sin_hi (c : Dev nD) (k n : Fin 1024) : (V m c main_v51 : FVec Ideal S1024x1024 .bf16) (ix2 k n) = ((fwdT (k.val + 1024) n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hm : k.val * n.val < 2 ^ 31 := by nlinarith [k.isLt, n.isLt]
  have hn : n.val < 2 ^ 31 := by omega
  unfold fwdT
  rw [if_neg (by omega : ¬ k.val + 1024 < 1024), Nat.add_sub_cancel, floorMod_word _ 2048 hm (by decide) (by decide), sitofp_word _ _ (by omega), step_at, sin_host,
    floorMod_word _ 2 hn (by decide) (by decide), select_word _ 0 (by omega) (by decide), select_word _ 0 (by omega) (by decide),
    neg_one_bits, sgn_host]
  split <;> simp

set_option maxHeartbeats 4000000 in
/-- What the rounding of the sines' table drops. -/
theorem sin_lo (c : Dev nD) (k n : Fin 1024) : (V m c main_v54 : FVec Ideal S1024x1024 .bf16) (ix2 k n) = ((fwdT (k.val + 1024) n.val : ℝ) : EReal) - ((fwdT (k.val + 1024) n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hm : k.val * n.val < 2 ^ 31 := by nlinarith [k.isLt, n.isLt]
  have hn : n.val < 2 ^ 31 := by omega
  unfold fwdT
  rw [if_neg (by omega : ¬ k.val + 1024 < 1024), Nat.add_sub_cancel, floorMod_word _ 2048 hm (by decide) (by decide), sitofp_word _ _ (by omega), step_at, sin_host,
    floorMod_word _ 2 hn (by decide) (by decide), select_word _ 0 (by omega) (by decide), select_word _ 0 (by omega) (by decide),
    neg_one_bits, sgn_host]
  split <;> simp

set_option maxHeartbeats 4000000 in
/-- The alternating signs. -/
theorem sgn_at (c : Dev nD) (n : Fin 1024) : (V m c main_v62 : FVec Ideal S1024x1 .f32) (ix2 n 0) = ((sgn n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hn : n.val < 2 ^ 31 := by omega
  rw [floorMod_word _ 2 hn (by decide) (by decide), select_word _ 0 (by omega) (by decide), neg_one_bits, sgn_host]

end Cert.Calls.Spectrum
-- ==== Proof.Calls.SpectrumKernel.lean ====
module

public import proofs.«01_k».proof.Proof.Calls.SpectrumBlock
public import proofs.«01_k».proof.Proof.Calls.SpectrumHost
public import proofs.«01_k».proof.Proof.Calls.SpectrumTables
public import proofs.«01_k».proof.Proof.Gen.KernelSpectrumIdeal.Value
public import proofs.«01_k».proof.Proof.Gen.KernelSpectrumIdeal.Frame
public import Idealize.ShloMosaic.Lib.StableHlo.ReadAt

/-!
# The spectrum of the Hyena filters: the kernel's results
-/

@[expose] public section

set_option maxRecDepth 16384

noncomputable section

open Idealize.ShloMosaic Idealize.ShloMosaic.TcCoe Idealize.SL.Sem Idealize.ShloMosaic.StableHlo
open Cert.KernelSpectrumIdeal Cert.KernelSpectrumIdeal.Gen

namespace Cert.Calls.Spectrum

variable (m : (ℓ : Loc nD τ sig) → Buf (Elt Ideal) ℓ)

/-- The arguments, entry by entry. -/
def kargs (c : Dev nD) : Args where
  z := fun l i => (m ((c.tc : Thread nD τ).loc main_arg0) : FVec Ideal S1024x33 .f32) (ix2 l i)
  t := fun l => (m ((c.tc : Thread nD τ).loc main_arg1) : FVec Ideal S1024 .f32) (ix1 l)
  d := fun q => (m ((c.tc : Thread nD τ).loc main_arg2) : FVec Ideal S1024 .f32) (ix1 q)
  w1 := fun i k => (m ((c.tc : Thread nD τ).loc main_arg3) : FVec Ideal S33x64 .f32) (ix2 i k)
  b1 := fun k => (m ((c.tc : Thread nD τ).loc main_arg4) : FVec Ideal S64 .f32) (ix1 k)
  w2 := fun i k => (m ((c.tc : Thread nD τ).loc main_arg5) : FVec Ideal S64x64 .f32) (ix2 i k)
  b2 := fun k => (m ((c.tc : Thread nD τ).loc main_arg6) : FVec Ideal S64 .f32) (ix1 k)
  w3 := fun k n => (m ((c.tc : Thread nD τ).loc main_arg7) : FVec Ideal S64x4096 .f32) (ix2 k n)
  f := fun i k => (m ((c.tc : Thread nD τ).loc main_arg8) : FVec Ideal S2x64 .f32) (ix2 i k)

/-- The real parts, as the kernel forms them. -/
def result0 (c : Dev nD) : FVec Ideal S2x1024x1024 .f32 := fun j => kreAt (kargs m c) (j 0) (j 1) (j 2)

/-- The imaginary parts, as the kernel forms them. -/
def result1 (c : Dev nD) : FVec Ideal S2x1024x1024 .f32 := fun j => kimAt (kargs m c) (j 0) (j 1) (j 2)

/-- The blocks the grid points read and write. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, t.val / 4 * 8 + t.val % 4] ∧ win0_7.index t = ![0, t.val / 4 * 8 + 4 + t.val % 4] ∧ win0_8.index t = ![0, 0] ∧ win0_9.index t = ![0, t.val % 4] ∧ win0_10.index t = ![0, 0] ∧ win0_11.index t = ![0, 0] ∧ win0_12.index t = ![0, 0] ∧ win0_13.index t = ![0, 0] ∧ win0_14.index t = ![0, 0] ∧ win0_15.index t = ![t.val / 4, 0, t.val % 4] ∧ win0_16.index t = ![t.val / 4, 0, t.val % 4] := (by decide +kernel : ∀ t : Fin grid0.N, _)

/-- The block of window 0 is its whole array. -/
theorem block0 (c : Dev nD) (t : Fin cfg0.N) (l : Fin 1024) (i : Fin 64) : (iblk m c 0 t : FVec Ideal S1024x64 .f32) (ix2 l i) = (V m c main_v56 : FVec Ideal S1024x64 .f32) (ix2 l i) := by
  blk_ext [iblk, idx t]

/-- The block of window 1 is its whole array. -/
theorem block1 (c : Dev nD) (t : Fin cfg0.N) (i k : Fin 64) : (iblk m c 1 t : FVec Ideal S64x64 .f32) (ix2 i k) = (V m c main_v57 : FVec Ideal S64x64 .f32) (ix2 i k) := by
  blk_ext [iblk, idx t]

/-- The block of window 2 is its whole array. -/
theorem block2 (c : Dev nD) (t : Fin cfg0.N) (k : Fin 64) : (iblk m c 2 t : FVec Ideal S1x64 .f32) (ix2 0 k) = (V m c main_v59 : FVec Ideal S1x64 .f32) (ix2 0 k) := by
  blk_ext [iblk, idx t]

/-- The block of window 3 is its whole array. -/
theorem block3 (c : Dev nD) (t : Fin cfg0.N) (i k : Fin 64) : (iblk m c 3 t : FVec Ideal S64x64 .f32) (ix2 i k) = (V m c main_arg5 : FVec Ideal S64x64 .f32) (ix2 i k) := by
  blk_ext [iblk, idx t]

/-- The block of window 4 is its whole array. -/
theorem block4 (c : Dev nD) (t : Fin cfg0.N) (k : Fin 64) : (iblk m c 4 t : FVec Ideal S1x64 .f32) (ix2 0 k) = (V m c main_v60 : FVec Ideal S1x64 .f32) (ix2 0 k) := by
  blk_ext [iblk, idx t]

/-- The block of window 5 is its whole array. -/
theorem block5 (c : Dev nD) (t : Fin cfg0.N) (i : Fin 2) (k : Fin 64) : (iblk m c 5 t : FVec Ideal S2x64 .f32) (ix2 i k) = (V m c main_arg8 : FVec Ideal S2x64 .f32) (ix2 i k) := by
  blk_ext [iblk, idx t]

/-- The block of window 8 is its whole array. -/
theorem block8 (c : Dev nD) (t : Fin cfg0.N) (l : Fin 1024) : (iblk m c 8 t : FVec Ideal S1024x1 .f32) (ix2 l 0) = (V m c main_v61 : FVec Ideal S1024x1 .f32) (ix2 l 0) := by
  blk_ext [iblk, idx t]

/-- The block of window 10 is its whole array. -/
theorem block10 (c : Dev nD) (t : Fin cfg0.N) (n : Fin 1024) : (iblk m c 10 t : FVec Ideal S1024x1 .f32) (ix2 n 0) = (V m c main_v62 : FVec Ideal S1024x1 .f32) (ix2 n 0) := by
  blk_ext [iblk, idx t]

/-- The block of window 11 is its whole array. -/
theorem block11 (c : Dev nD) (t : Fin cfg0.N) (k n : Fin 1024) : (iblk m c 11 t : FVec Ideal S1024x1024 .bf16) (ix2 k n) = (V m c main_v47 : FVec Ideal S1024x1024 .bf16) (ix2 k n) := by
  blk_ext [iblk, idx t]

/-- The block of window 12 is its whole array. -/
theorem block12 (c : Dev nD) (t : Fin cfg0.N) (k n : Fin 1024) : (iblk m c 12 t : FVec Ideal S1024x1024 .bf16) (ix2 k n) = (V m c main_v50 : FVec Ideal S1024x1024 .bf16) (ix2 k n) := by
  blk_ext [iblk, idx t]

/-- The block of window 13 is its whole array. -/
theorem block13 (c : Dev nD) (t : Fin cfg0.N) (k n : Fin 1024) : (iblk m c 13 t : FVec Ideal S1024x1024 .bf16) (ix2 k n) = (V m c main_v51 : FVec Ideal S1024x1024 .bf16) (ix2 k n) := by
  blk_ext [iblk, idx t]

/-- The block of window 14 is its whole array. -/
theorem block14 (c : Dev nD) (t : Fin cfg0.N) (k n : Fin 1024) : (iblk m c 14 t : FVec Ideal S1024x1024 .bf16) (ix2 k n) = (V m c main_v54 : FVec Ideal S1024x1024 .bf16) (ix2 k n) := by
  blk_ext [iblk, idx t]

/-- The block of the forward filter's weights. -/
theorem block6 (c : Dev nD) (t : Fin cfg0.N) (k : Fin 64) (y : Fin 256) (n : Fin 4096) (hn : n.val = t.val / 4 * 2048 + (t.val % 4 * 256 + y.val)) :
    (iblk m c 6 t : FVec Ideal S64x256 .f32) (ix2 k y) = (V m c main_arg7 : FVec Ideal S64x4096 .f32) (ix2 k n) := by
  blk_ext [iblk, idx t]

/-- The block of the backward filter's weights. -/
theorem block7 (c : Dev nD) (t : Fin cfg0.N) (k : Fin 64) (y : Fin 256) (n : Fin 4096) (hn : n.val = t.val / 4 * 2048 + 1024 + (t.val % 4 * 256 + y.val)) :
    (iblk m c 7 t : FVec Ideal S64x256 .f32) (ix2 k y) = (V m c main_arg7 : FVec Ideal S64x4096 .f32) (ix2 k n) := by
  blk_ext [iblk, idx t]

/-- The block of the decay rates. -/
theorem block9 (c : Dev nD) (t : Fin cfg0.N) (y : Fin 256) (q : Fin 1024) (hq : q.val = t.val % 4 * 256 + y.val) :
    (iblk m c 9 t : FVec Ideal S1x256 .f32) (ix2 0 y) = (V m c main_v58 : FVec Ideal S1x1024 .f32) (ix2 0 q) := by
  blk_ext [iblk, idx t]

/-- A grid point's operands are known. -/
theorem known (c : Dev nD) (t : Fin cfg0.N) (y : Fin 256) (o : Fin 2) (q : Fin 1024) (ho : o.val = t.val / 4) (hq : q.val = t.val % 4 * 256 + y.val) :
    Known (kargs m c) o q y (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  h0 l i := (block0 m c t l i).trans (features m c l i)
  h1 i k := (block1 m c t i k).trans (weights m c i k)
  h2 k := (block2 m c t k).trans (bias1 m c k)
  h3 i k := (block3 m c t i k).trans (congrFun (V_main_arg5 m c) (ix2 i k))
  h4 k := (block4 m c t k).trans (bias2 m c k)
  h5 i k := (block5 m c t i k).trans (congrFun (V_main_arg8 m c) (ix2 i k))
  h6 k := (block6 m c t k y (colF o q) (by show o.val * 2048 + q.val = _; omega)).trans (congrFun (V_main_arg7 m c) (ix2 k _))
  h7 k := (block7 m c t k y (colB o q) (by show o.val * 2048 + 1024 + q.val = _; omega)).trans (congrFun (V_main_arg7 m c) (ix2 k _))
  h8 l := (block8 m c t l).trans (positions m c l)
  h9 := (block9 m c t y q hq).trans (rates m c q)
  h10 n := (block10 m c t n).trans (sgn_at m c n)
  h11 k n := (block11 m c t k n).trans (cos_hi m c k n)
  h12 k n := (block12 m c t k n).trans (cos_lo m c k n)
  h13 k n := (block13 m c t k n).trans (sin_hi m c k n)
  h14 k n := (block14 m c t k n).trans (sin_lo m c k n)

/-- What one grid point stores of the real parts. -/
theorem point0_at (c : Dev nD) (t : Fin cfg0.N) (b : Fin 1024) (d : Fin 256) (o : Fin 2) (q : Fin 1024) (ho : o.val = t.val / 4) (hq : q.val = t.val % 4 * 256 + d.val) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 b d) : EReal) = kreAt (kargs m c) o b q :=
  re_block (known m c t d o q ho hq) b

/-- What one grid point stores of the real parts, at the place it stores it. -/
theorem point0 (c : Dev nD) (t : Fin cfg0.N) (y) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = result0 m c (((cfg0.win 15).blk t).view.emb y) := by
  have hy : y = ix3 (0 : Fin 1) (y 1) (y 2) := (eq_ix3 y).trans (congrArg (fun a : Fin 1 => ix3 a (y 1) (y 2)) (Subsingleton.elim (α := Fin 1) _ _))
  have e1 : (((cfg0.win 15).blk t).view.emb y) 1 = y 1 := Fin.ext (by blk_simp [idx t])
  refine (congrArg _ hy).trans ((point0_at m c t (y 1) (y 2) (((cfg0.win 15).blk t).view.emb y 0) (((cfg0.win 15).blk t).view.emb y 2) ?_ ?_).trans ?_)
  · blk_simp [idx t]
  · blk_simp [idx t]
  · unfold result0
    rw [e1]

/-- The array of real parts after the run. -/
theorem final0 (c : Dev nD) : (dats m 0 c).arrAt 15 (cfgs 0).N = result0 m c := by
  refine (dats m 0 c).arrAt_eq_of_covers 15 _ (by decide +kernel) fun t _ y => ?_
  blk_simp
  rw [after0_15]
  exact point0 m c t y

/-- What one grid point stores of the imaginary parts. -/
theorem point1_at (c : Dev nD) (t : Fin cfg0.N) (b : Fin 1024) (d : Fin 256) (o : Fin 2) (q : Fin 1024) (ho : o.val = t.val / 4) (hq : q.val = t.val % 4 * 256 + d.val) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 b d) : EReal) = kimAt (kargs m c) o b q :=
  im_block (known m c t d o q ho hq) b

/-- What one grid point stores of the imaginary parts, at the place it stores it. -/
theorem point1 (c : Dev nD) (t : Fin cfg0.N) (y) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = result1 m c (((cfg0.win 16).blk t).view.emb y) := by
  have hy : y = ix3 (0 : Fin 1) (y 1) (y 2) := (eq_ix3 y).trans (congrArg (fun a : Fin 1 => ix3 a (y 1) (y 2)) (Subsingleton.elim (α := Fin 1) _ _))
  have e1 : (((cfg0.win 16).blk t).view.emb y) 1 = y 1 := Fin.ext (by blk_simp [idx t])
  refine (congrArg _ hy).trans ((point1_at m c t (y 1) (y 2) (((cfg0.win 16).blk t).view.emb y 0) (((cfg0.win 16).blk t).view.emb y 2) ?_ ?_).trans ?_)
  · blk_simp [idx t]
  · blk_simp [idx t]
  · unfold result1
    rw [e1]

/-- The array of imaginary parts after the run. -/
theorem final1 (c : Dev nD) : (dats m 0 c).arrAt 16 (cfgs 0).N = result1 m c := by
  refine (dats m 0 c).arrAt_eq_of_covers 16 _ (by decide +kernel) fun t _ y => ?_
  blk_simp
  rw [after0_16]
  exact point1 m c t y

/-- The kernel's run: its result arrays hold the two results, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v63_0) = result0 m c
      ∧ r.2.mem ((c.tc : Thread nD τ).loc main_v63_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 15).trans (final0 m c), ((h.1 c).1 16).trans (final1 m c), h.2 c⟩)
    (θ_run_and (run_main m ρ) (unchanged m ρ))

end Cert.Calls.Spectrum
-- ==== Proof.Hyena.Layout.lean ====
module

public import proofs.«01_k».proof.Proof.Hyena.Word

/-!
# The whole array, on both sides

The arguments as plain functions of their indices: the projected array `z` by row and column, the taps `w`, the
spectra `re` and `im` by order, bin and channel, the skip weights `b`.
-/

@[expose] public section

noncomputable section

open Idealize.ShloMosaic

namespace Cert.Hyena

/-- Position `n` of the sequence that row `r` belongs to, in the channel `c` of the stream that starts at
    column `col` of the projected array: the latent grid's rows begin at row 4096. -/
def stream (z : Fin 8192 → Fin 16384 → EReal) (col : ℕ) (hc : col + 1024 ≤ 16384) (r : Fin 4096) (c n : Fin 1024) : EReal :=
  z ⟨4096 + r.val / 1024 * 1024 + n.val, by omega⟩ ⟨col + c.val, by omega⟩

/-- The kernel's result: row `r`, channel `c`, is the mixer of that channel's three streams with the two tables. -/
def arrayK (z : Fin 8192 → Fin 16384 → EReal) (w : Fin 3 → Fin 3 → Fin 1024 → EReal)
    (re im : Fin 2 → Fin 1024 → Fin 1024 → EReal) (b : Fin 2 → Fin 1024 → EReal) (r : Fin 4096) (c : Fin 1024) : EReal :=
  mixK (fun k n => ((fwdT k.val n.val : ℝ) : EReal)) (fun n k => ((invT n.val k.val : ℝ) : EReal))
    (fun o k => re o k c) (fun o k => im o k c) (fun o => b o c) (fun g a => w g a c)
    (stream z 0 (by decide) r c) (stream z 1024 (by decide) r c) (stream z 2048 (by decide) r c) ⟨r.val % 1024, by omega⟩

/-- Equal tables, taps, spectra, weights and streams give equal mixers. -/
theorem mixK_congr {F F' : Fin 2048 → Fin 1024 → EReal} {G G' : Fin 1024 → Fin 2048 → EReal}
    {re re' im im' : Fin 2 → Fin 1024 → EReal} {b b' : Fin 2 → EReal} {w w' : Fin 3 → Fin 3 → EReal}
    {x1 x1' x2 x2' v v' : Fin 1024 → EReal} {n n' : Fin 1024}
    (hF : ∀ k n, F k n = F' k n) (hG : ∀ n k, G n k = G' n k) (hre : ∀ o k, re o k = re' o k) (him : ∀ o k, im o k = im' o k)
    (hb : ∀ o, b o = b' o) (hw : ∀ g a, w g a = w' g a) (h1 : ∀ n, x1 n = x1' n) (h2 : ∀ n, x2 n = x2' n) (hv : ∀ n, v n = v' n)
    (hn : n.val = n'.val) : mixK F G re im b w x1 x2 v n = mixK F' G' re' im' b' w' x1' x2' v' n' := by
  obtain rfl : F = F' := funext fun k => funext (hF k)
  obtain rfl : G = G' := funext fun n => funext (hG n)
  obtain rfl : re = re' := funext fun o => funext (hre o)
  obtain rfl : im = im' := funext fun o => funext (him o)
  obtain rfl : b = b' := funext hb
  obtain rfl : w = w' := funext fun g => funext (hw g)
  obtain rfl : x1 = x1' := funext h1
  obtain rfl : x2 = x2' := funext h2
  obtain rfl : v = v' := funext hv
  obtain rfl : n = n' := Fin.ext hn
  rfl

/-- The real parts of the 1025 bins: the last one is kept in the first row of the imaginary parts. -/
def reBins (re im : Fin 1024 → EReal) (k : Fin 1025) : EReal :=
  if h : k.val < 1024 then re ⟨k.val, h⟩ else im 0

/-- The imaginary parts of the 1025 bins: the first and the last are zero. -/
def imBins (im : Fin 1024 → EReal) (k : Fin 1025) : EReal :=
  if k.val < 1 then 0 else if h : k.val < 1024 then im ⟨k.val, h⟩ else 0

/-- The reference's result: row `r`, channel `c`. -/
def arrayR (z : Fin 8192 → Fin 16384 → EReal) (w : Fin 3 → Fin 3 → Fin 1024 → EReal)
    (re im : Fin 2 → Fin 1024 → Fin 1024 → EReal) (b : Fin 2 → Fin 1024 → EReal) (r : Fin 4096) (c : Fin 1024) : EReal :=
  mixR (fun o => reBins (fun k => re o k c) (fun k => im o k c)) (fun o => imBins (fun k => im o k c))
    (fun o => b o c) (fun g a => w g a c)
    (stream z 0 (by decide) r c) (stream z 1024 (by decide) r c) (stream z 2048 (by decide) r c) ⟨r.val % 1024, by omega⟩

end Cert.Hyena
-- ==== Proof.Hyena.Equation.lean ====
module

public import proofs.«01_k».proof.Proof.Hyena.Layout

/-!
# The two long convolutions agree

The kernel's table product and the reference's transform over 1025 bins are the same sum. The kernel packs the real
bin 1024 into the row of the vanishing sine of bin 0; the sums are split at these two bins.
-/

@[expose] public section

noncomputable section

open Idealize.ShloMosaic

namespace Cert.Hyena

/-- The cosine of a bin's angle is a real number. -/
theorem cos_ang (k : Fin 1025) (n : Fin 1024) : Ideal.cos (ang k n) = ((Real.cos (angR k.val n.val) : ℝ) : EReal) := rfl

/-- The sine of a bin's angle is a real number. -/
theorem sin_ang (k : Fin 1025) (n : Fin 1024) : -Ideal.sin (ang k n) = ((-Real.sin (angR k.val n.val) : ℝ) : EReal) := rfl

/-- Bin 0 has no sine. -/
theorem sin_zero (n : ℕ) : Real.sin (angR 0 n) = 0 := by simp [angR]

/-- The angle of bin 1024 is a multiple of π. -/
theorem angR_last (n : ℕ) : angR 1024 n = n * Real.pi := by
  unfold angR; push_cast; ring

/-- Bin 1024 has no sine. -/
theorem sin_last (n : ℕ) : Real.sin (angR 1024 n) = 0 := by rw [angR_last, Real.sin_nat_mul_pi]

/-- The cosine of bin 1024 is the alternating sign. -/
theorem cos_last (n : ℕ) : Real.cos (angR 1024 n) = sgn n := by
  rw [angR_last, Real.cos_nat_mul_pi, sgn]
  split
  · exact Even.neg_one_pow (Nat.even_iff.2 ‹_›)
  · exact Odd.neg_one_pow (Nat.odd_iff.2 (by omega))

/-- The weights as real numbers. -/
theorem wt_real (k : Fin 1025) :
    wt k = (((if k.val = 0 ∨ k.val = 1024 then 1 else 2) * (1 / 2048) : ℝ) : EReal) := by
  unfold wt
  rw [two_bits, k2048_bits, Ideal.div_coe (by norm_num)]
  split <;> norm_cast

/-- A cosine's transform in the reference. -/
def cosSum (u : Fin 1024 → EReal) (k : Fin 1025) : EReal := ∑ i : Fin 1024, u i * Ideal.cos (ang k i)

/-- A minus sine's transform in the reference. -/
def sinSum (u : Fin 1024 → EReal) (k : Fin 1025) : EReal := ∑ i : Fin 1024, u i * -Ideal.sin (ang k i)

/-- The kernel's first 1024 forward products are the cosine transforms. -/
theorem fwd_cos (u : Fin 1024 → EReal) (k : Fin 1024) :
    fwd (fun n : Fin 1024 => ((fwdT k.val n.val : ℝ) : EReal)) u = cosSum u k.castSucc := by
  unfold fwd cosSum
  refine Finset.sum_congr rfl fun n _ => ?_
  have h : fwdT k.val n.val = Real.cos (angR k.val n.val) := by unfold fwdT; rw [if_pos k.isLt]
  rw [cos_ang, mul_comm]; beta_reduce; rw [h]; rfl

/-- The kernel's other forward products are the minus sine transforms, past the first. -/
theorem fwd_sin (u : Fin 1024 → EReal) (k : Fin 1024) (hk : k.val ≠ 0) :
    fwd (fun n : Fin 1024 => ((fwdT (1024 + k.val) n.val : ℝ) : EReal)) u = sinSum u k.castSucc := by
  unfold fwd sinSum
  refine Finset.sum_congr rfl fun n _ => ?_
  have h : fwdT (1024 + k.val) n.val = -Real.sin (angR k.val n.val) := by
    unfold fwdT; rw [if_neg (by omega), if_neg (by omega), Nat.add_sub_cancel_left]
  rw [sin_ang, mul_comm]; beta_reduce; rw [h]; rfl

/-- The first of these is the cosine transform of the last bin. -/
theorem fwd_last (u : Fin 1024 → EReal) (k : Fin 1024) (hk : k.val = 0) :
    fwd (fun n : Fin 1024 => ((fwdT (1024 + k.val) n.val : ℝ) : EReal)) u = cosSum u (Fin.last 1024) := by
  unfold fwd cosSum
  refine Finset.sum_congr rfl fun n _ => ?_
  have h : fwdT (1024 + k.val) n.val = Real.cos (angR 1024 n.val) := by
    unfold fwdT; rw [if_neg (by omega), if_pos (by omega), cos_last]
  rw [cos_ang, mul_comm]; beta_reduce; rw [h]; rfl

variable (re im : Fin 1024 → EReal) (b : EReal) (u : Fin 1024 → EReal) (n : Fin 1024)

/-- One bin's term of the reference's first sum. -/
def reTerm (k : Fin 1025) : EReal :=
  (cosSum u k * reBins re im k - sinSum u k * imBins im k) * (Ideal.cos (ang k n) * wt k)

/-- One bin's term of the reference's second sum. -/
def imTerm (k : Fin 1025) : EReal :=
  (cosSum u k * imBins im k + sinSum u k * reBins re im k) * (-Ideal.sin (ang k n) * wt k)

/-- The kernel's first sum, term by term. -/
theorem first_term (k : Fin 1024) :
    ((invT n.val k.val : ℝ) : EReal) * specRe (cosSum u k.castSucc)
        (fwd (fun n : Fin 1024 => ((fwdT (1024 + k.val) n.val : ℝ) : EReal)) u) (re k) (im k) k
      = reTerm re im u n k.castSucc := by
  have hr : reBins re im k.castSucc = re k := by unfold reBins; rw [dif_pos (by exact k.isLt)]; rfl
  unfold reTerm specRe
  rw [hr, cos_ang, wt_real, ← EReal.coe_mul, mul_comm]
  have hi : invT n.val k.val = Real.cos (angR k.castSucc.val n.val)
      * ((if k.castSucc.val = 0 ∨ k.castSucc.val = 1024 then 1 else 2) * (1 / 2048)) := by
    rw [invT, if_pos k.isLt]
    show _ = Real.cos (angR k.val n.val) * ((if k.val = 0 ∨ k.val = 1024 then 1 else 2) * (1 / 2048))
    have : (k.val = 0 ∨ k.val = 1024) ↔ k.val = 0 := by omega
    simp only [this]
  rw [hi]
  by_cases hk : k.val = 0
  · have hm : imBins im k.castSucc = 0 := by unfold imBins; rw [if_pos (by show k.val < 1; omega)]
    rw [if_pos hk, hm, mul_zero]
  · have hm : imBins im k.castSucc = im k := by
      unfold imBins; rw [if_neg (by show ¬ k.val < 1; omega), dif_pos (by exact k.isLt)]; rfl
    rw [if_neg hk, hm, fwd_sin u k hk]

/-- The kernel's second sum past its first term, term by term. -/
theorem second_term (k : Fin 1024) (hk : k.val ≠ 0) :
    ((invT n.val (1024 + k.val) : ℝ) : EReal) * specIm (cosSum u k.castSucc)
        (fwd (fun n : Fin 1024 => ((fwdT (1024 + k.val) n.val : ℝ) : EReal)) u) (re k) (im k) k
      = imTerm re im u n k.castSucc := by
  have hr : reBins re im k.castSucc = re k := by unfold reBins; rw [dif_pos (by exact k.isLt)]; rfl
  have hm : imBins im k.castSucc = im k := by
    unfold imBins; rw [if_neg (by show ¬ k.val < 1; omega), dif_pos (by exact k.isLt)]; rfl
  unfold imTerm specIm
  rw [hr, hm, sin_ang, wt_real, ← EReal.coe_mul, mul_comm, if_neg hk, fwd_sin u k hk]
  have hi : invT n.val (1024 + k.val) = -Real.sin (angR k.castSucc.val n.val)
      * ((if k.castSucc.val = 0 ∨ k.castSucc.val = 1024 then 1 else 2) * (1 / 2048)) := by
    rw [invT, if_neg (by omega), if_neg (by omega), Nat.add_sub_cancel_left]
    show _ = -Real.sin (angR k.val n.val) * ((if k.val = 0 ∨ k.val = 1024 then 1 else 2) * (1 / 2048))
    rw [if_neg (by omega)]; norm_num
  rw [hi]

/-- The kernel's second sum begins with the reference's last bin. -/
theorem packed_term (k : Fin 1024) (hk : k.val = 0) :
    ((invT n.val (1024 + k.val) : ℝ) : EReal) * specIm (cosSum u k.castSucc)
        (fwd (fun n : Fin 1024 => ((fwdT (1024 + k.val) n.val : ℝ) : EReal)) u) (re k) (im k) k
      = reTerm re im u n (Fin.last 1024) := by
  have hk0 : k = 0 := Fin.ext hk
  have hr : reBins re im (Fin.last 1024) = im k := by
    unfold reBins; rw [dif_neg (by simp), hk0]
  have hm : imBins im (Fin.last 1024) = 0 := by
    unfold imBins; rw [if_neg (by simp), dif_neg (by simp)]
  have hi : invT n.val (1024 + k.val) = Real.cos (angR (Fin.last 1024).val n.val)
      * ((if (Fin.last 1024).val = 0 ∨ (Fin.last 1024).val = 1024 then 1 else 2) * (1 / 2048)) := by
    rw [invT, if_neg (by omega), if_pos (by omega)]
    show _ = Real.cos (angR 1024 n.val) * ((if 1024 = 0 ∨ 1024 = 1024 then 1 else 2) * (1 / 2048))
    rw [cos_last, if_pos (by omega), one_mul]
  unfold reTerm specIm
  rw [if_pos hk, fwd_last u k hk, hr, hm, mul_zero, sub_zero, cos_ang, wt_real, ← EReal.coe_mul, ← hi, mul_comm]

/-- The reference's second sum has no term at bin 0. -/
theorem imTerm_zero (k : Fin 1025) (hk : k.val = 0) : imTerm re im u n k = 0 := by
  unfold imTerm
  rw [sin_ang, hk, sin_zero]; simp

/-- The reference's second sum has no term at bin 1024. -/
theorem imTerm_last : imTerm re im u n (Fin.last 1024) = 0 := by
  unfold imTerm
  rw [sin_ang]
  show _ * (((-Real.sin (angR 1024 n.val) : ℝ) : EReal) * _) = 0
  rw [sin_last]; simp

/-- The kernel's long convolution with its two tables is the reference's. -/
theorem long_eq :
    longK (fun k n => ((fwdT k.val n.val : ℝ) : EReal)) (fun n k => ((invT n.val k.val : ℝ) : EReal)) re im b u n
      = longR (reBins re im) (imBins im) b u n := by
  have hR : longR (reBins re im) (imBins im) b u n
      = (∑ k : Fin 1025, reTerm re im u n k) + (∑ k : Fin 1025, imTerm re im u n k) + u n * b := rfl
  rw [hR, Fin.sum_univ_castSucc, Fin.sum_univ_castSucc (f := fun k => imTerm re im u n k), imTerm_last, add_zero,
    Fin.sum_univ_succ (f := fun k : Fin 1024 => imTerm re im u n k.castSucc), imTerm_zero re im u n _ rfl, zero_add]
  unfold longK
  simp only [fwd_cos, first_term]
  rw [Fin.sum_univ_succ (f := fun k : Fin 1024 => ((invT n.val (1024 + k.val) : ℝ) : EReal) * specIm (cosSum u k.castSucc)
      (fwd (fun n : Fin 1024 => ((fwdT (1024 + k.val) n.val : ℝ) : EReal)) u) (re k) (im k) k), packed_term re im u n 0 rfl]
  have h : ∀ k : Fin 1023, ((invT n.val (1024 + k.succ.val) : ℝ) : EReal) * specIm (cosSum u k.succ.castSucc)
        (fwd (fun n : Fin 1024 => ((fwdT (1024 + k.succ.val) n.val : ℝ) : EReal)) u) (re k.succ) (im k.succ) k.succ
      = imTerm re im u n k.succ.castSucc := fun k => second_term re im u n k.succ (by simp)
  rw [Finset.sum_congr rfl fun k _ => h k, ← add_assoc]

end Cert.Hyena

namespace Cert.Hyena

/-- The kernel's array is the reference's. -/
theorem array_eq (z : Fin 8192 → Fin 16384 → EReal) (w : Fin 3 → Fin 3 → Fin 1024 → EReal)
    (re im : Fin 2 → Fin 1024 → Fin 1024 → EReal) (b : Fin 2 → Fin 1024 → EReal) (r : Fin 4096) (c : Fin 1024) :
    arrayK z w re im b r c = arrayR z w re im b r c := by
  unfold arrayK arrayR mixK mixR
  simp only [long_eq]

end Cert.Hyena
-- ==== Proof.Calls.SpectrumRef.lean ====
module

public import proofs.«01_k».proof.Proof.Calls.SpectrumSpec
public import proofs.«01_k».proof.Proof.Hyena.Word
public import proofs.«01_k».proof.Proof.Hyena.Equation
public import proofs.«01_k».proof.Proof.Gen.ReferenceSpectrumIdeal.Run
public import Idealize.ShloMosaic.Lib.KernelVsHost

/-!
# The spectrum of the Hyena filters: the reference's results
-/

@[expose] public section

set_option maxRecDepth 16384

noncomputable section

open Idealize.ShloMosaic Idealize.ShloMosaic.TcCoe Idealize.SL.Sem Idealize.ShloMosaic.StableHlo
open Cert.ReferenceSpectrumIdeal Cert.ReferenceSpectrumIdeal.Gen Cert.ReferenceSpectrumIdeal.Value

namespace Cert.Calls.Spectrum

/-- Arguments, of their arrays. -/
def argsOf (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : Args where
  z := fun l i => z (ix2 l i)
  t := fun l => t (ix1 l)
  d := fun q => d (ix1 q)
  w1 := fun i k => w1 (ix2 i k)
  b1 := fun k => b1 (ix1 k)
  w2 := fun i k => w2 (ix2 i k)
  b2 := fun k => b2 (ix1 k)
  w3 := fun k n => w3 (ix2 k n)
  f := fun i k => f (ix2 i k)

/-- The first hidden layer. -/
def layer1 (z : FVec Ideal S1024x33 .f32) (w1 : FVec Ideal S33x64 .f32) (b1 : FVec Ideal S64 .f32) (f : FVec Ideal S2x64 .f32) : FVec Ideal S1024x64 .f32 := Host.sin (mulf (broadcastInDim S1024x64 ![0, 1] bcast_S1x64_S1024x64_0_1 (broadcastInDim S1x64 ![1] bcast_S64_S1x64_1 (shapeCast _ (extractStridedSlice S1x64 ![0, 0] f slices_S2x64_S1x64_0_0) shapeCasts_S1x64_S64))) (addf (Host.dotGeneral dot_S1024x33_S33x64_S1024x64_1_0_0_1_n_n none z w1) (broadcastInDim S1024x64 ![0, 1] bcast_S1x64_S1024x64_0_1 (broadcastInDim S1x64 ![1] bcast_S64_S1x64_1 b1))))

/-- The second hidden layer. -/
def layer2 (z : FVec Ideal S1024x33 .f32) (w1 : FVec Ideal S33x64 .f32) (b1 : FVec Ideal S64 .f32) (w2 : FVec Ideal S64x64 .f32) (b2 : FVec Ideal S64 .f32) (f : FVec Ideal S2x64 .f32) : FVec Ideal S1024x64 .f32 := Host.sin (mulf (broadcastInDim S1024x64 ![0, 1] bcast_S1x64_S1024x64_0_1 (broadcastInDim S1x64 ![1] bcast_S64_S1x64_1 (shapeCast _ (extractStridedSlice S1x64 ![1, 0] f slices_S2x64_S1x64_1_0) shapeCasts_S1x64_S64))) (addf (Host.dotGeneral dot_S1024x64_S64x64_S1024x64_1_0_0_1_n_n none (layer1 z w1 b1 f) w2) (broadcastInDim S1024x64 ![0, 1] bcast_S1x64_S1024x64_0_1 (broadcastInDim S1x64 ![1] bcast_S64_S1x64_1 b2))))

/-- The network's result. -/
def layer3 (z : FVec Ideal S1024x33 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1024x4096 .f32 := Host.dotGeneral dot_S1024x64_S64x4096_S1024x4096_1_0_0_1_n_n none (layer2 z w1 b1 w2 b2 f) w3

/-- The decay. -/
def decayV (t : FVec Ideal S1024 .f32) (d : FVec Ideal S1024 .f32) : FVec Ideal S1024x1024 .f32 := Host.exp (mulf (broadcastInDim S1024x1024 ![0, 1] bcast_S1024x1_S1024x1024_0_1 (Host.negf (broadcastInDim S1024x1 ![0] bcast_S1024_S1024x1_0 t))) (broadcastInDim S1024x1024 ![0, 1] bcast_S1x1024_S1024x1024_0_1 (broadcastInDim S1x1024 ![1] bcast_S1024_S1x1024_1 d)))

/-- The filters. -/
def net (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1024x2x2x1024 .f32 := mulf (shapeCast _ (layer3 z w1 b1 w2 b2 w3 f) shapeCasts_S1024x4096_S1024x2x2x1024) (broadcastInDim S1024x2x2x1024 ![0, 1, 2, 3] bcast_S1024x1x1x1024_S1024x2x2x1024_0_1_2_3 (broadcastInDim S1024x1x1x1024 ![0, 3] bcast_S1024x1024_S1024x1x1x1024_0_3 (decayV t d)))

/-- The forward filters. -/
def fwdV (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1024x2x1024 .f32 := shapeCast S1024x2x1024 (extractStridedSlice S1024x2x1x1024 ![0, 0, 0, 0] (net z t d w1 b1 w2 b2 w3 f) slices_S1024x2x2x1024_S1024x2x1x1024_0_0_0_0) shapeCasts_S1024x2x1x1024_S1024x2x1024

/-- The backward filters. -/
def bwdV (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1024x2x1024 .f32 := shapeCast S1024x2x1024 (extractStridedSlice S1024x2x1x1024 ![0, 0, 1, 0] (net z t d w1 b1 w2 b2 w3 f) slices_S1024x2x2x1024_S1024x2x1x1024_0_0_1_0) shapeCasts_S1024x2x1x1024_S1024x2x1024

/-- The filters on the circle. -/
def circV (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S2048x2x1024 .f32 := (concatenate S2048x2x1024 0 [⟨S1024x2x1024, ((fwdV z t d w1 b1 w2 b2 w3 f) : (⟨S1024x2x1024, .f32⟩ : BufTy).Contents (Elt Ideal))⟩, ⟨S1x2x1024, ((broadcastInDim S1x2x1024 ![] bcast_S_S1x2x1024 (constant S_ .f32 0x00000000#32 : FVec Ideal S_ .f32)) : (⟨S1x2x1024, .f32⟩ : BufTy).Contents (Elt Ideal))⟩, ⟨S1023x2x1024, ((Host.reverse [0] (extractStridedSlice S1023x2x1024 ![1, 0, 0] (bwdV z t d w1 b1 w2 b2 w3 f) slices_S1024x2x1024_S1023x2x1024_1_0_0)) : (⟨S1023x2x1024, .f32⟩ : BufTy).Contents (Elt Ideal))⟩] concatenates_S1024x2x1024_S1x2x1024_S1023x2x1024_S2048x2x1024_d0 : (⟨S2048x2x1024, .f32⟩ : BufTy).Contents (Elt Ideal))

/-- The angles. -/
def angV : FVec Ideal S1025x2048 .f32 := mulf (sitofp .f32 (muli (broadcastInDim S1025x2048 ![0, 1] bcast_S1025x1_S1025x2048_0_1 (broadcastInDim S1025x1 ![0] bcast_S1025_S1025x1_0 (iotaInDim S1025 32 0))) (broadcastInDim S1025x2048 ![0, 1] bcast_S1x2048_S1025x2048_0_1 (broadcastInDim S1x2048 ![1] bcast_S2048_S1x2048_1 (iotaInDim S2048 32 0))))) (broadcastInDim S1025x2048 ![] bcast_S_S1025x2048 (Host.divf (Host.atan2 (constant S_ .f32 0x00000000#32) (constant S_ .f32 0xBF800000#32)) (constant S_ .f32 0x44800000#32)))

/-- The real parts of all bins. -/
def reV (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1025x2x1024 .f32 := Host.dotGeneral dot_S1025x2048_S2048x2x1024_S1025x2x1024_1_0_0_12_n_n none (Host.cos angV) ((circV z t d w1 b1 w2 b2 w3 f))

/-- The imaginary parts of all bins. -/
def imV (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S1025x2x1024 .f32 := Host.dotGeneral dot_S1025x2048_S2048x2x1024_S1025x2x1024_1_0_0_12_n_n none (Host.negf (Host.sin angV)) ((circV z t d w1 b1 w2 b2 w3 f))

/-- The first result. -/
def out0 (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S2x1024x1024 .f32 := transpose S2x1024x1024 [1, 0, 2] (extractStridedSlice S1024x2x1024 ![0, 0, 0] (reV z t d w1 b1 w2 b2 w3 f) slices_S1025x2x1024_S1024x2x1024_0_0_0) transposes_S1024x2x1024_S2x1024x1024_1_0_2

/-- The second result. -/
def out1 (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S2x1024x1024 .f32 := transpose S2x1024x1024 [1, 0, 2] (concatenate S1024x2x1024 0 [⟨S1x2x1024, (extractStridedSlice S1x2x1024 ![1024, 0, 0] (reV z t d w1 b1 w2 b2 w3 f) slices_S1025x2x1024_S1x2x1024_1024_0_0)⟩, ⟨S1023x2x1024, (extractStridedSlice S1023x2x1024 ![1, 0, 0] (imV z t d w1 b1 w2 b2 w3 f) slices_S1025x2x1024_S1023x2x1024_1_0_0)⟩] concatenates_S1x2x1024_S1023x2x1024_S1024x2x1024_d0) transposes_S1024x2x1024_S2x1024x1024_1_0_2

variable {z : FVec Ideal S1024x33 .f32} {t : FVec Ideal S1024 .f32} {d : FVec Ideal S1024 .f32} {w1 : FVec Ideal S33x64 .f32} {b1 : FVec Ideal S64 .f32} {w2 : FVec Ideal S64x64 .f32} {b2 : FVec Ideal S64 .f32} {w3 : FVec Ideal S64x4096 .f32} {f : FVec Ideal S2x64 .f32}

/-- The first hidden layer's entries. -/
theorem layer1_at (l : Fin 1024) (k : Fin 64) : (layer1 z w1 b1 f (ix2 l k) : EReal) = hid1 (argsOf z t d w1 b1 w2 b2 w3 f) l k := by
  pointwise [layer1, hid1, argsOf]

/-- The second hidden layer's entries. -/
theorem layer2_at (l : Fin 1024) (k : Fin 64) : (layer2 z w1 b1 w2 b2 f (ix2 l k) : EReal) = hid2 (argsOf z t d w1 b1 w2 b2 w3 f) l k := by
  unfold hid2
  simp only [← layer1_at]
  pointwise [layer2, argsOf]

/-- The network's result's entries. -/
theorem layer3_at (l : Fin 1024) (n : Fin 4096) : (layer3 z w1 b1 w2 b2 w3 f (ix2 l n) : EReal) = ∑ k, hid2 (argsOf z t d w1 b1 w2 b2 w3 f) l k * (argsOf z t d w1 b1 w2 b2 w3 f).w3 k n := by
  simp only [← layer2_at]
  pointwise [layer3, argsOf]

/-- The decay's entries. -/
theorem decay_at (l q : Fin 1024) : (decayV t d (ix2 l q) : EReal) = Ideal.exp (-((argsOf z t d w1 b1 w2 b2 w3 f).t l) * (argsOf z t d w1 b1 w2 b2 w3 f).d q) := by
  pointwise [decayV, argsOf]

/-- The filters' entries. -/
theorem net_at (l : Fin 1024) (o p : Fin 2) (q : Fin 1024) (n : Fin 4096) (hn : n.val = o.val * 2048 + p.val * 1024 + q.val) :
    (net z t d w1 b1 w2 b2 w3 f (ix4 l o p q) : EReal) = filtAt (argsOf z t d w1 b1 w2 b2 w3 f) n q l := by
  unfold filtAt
  rw [← layer3_at, ← decay_at]
  have hb : o.val * 2048 + p.val * 1024 + q.val < 4096 := hn ▸ n.isLt
  rw [show n = ⟨o.val * 2048 + p.val * 1024 + q.val, hb⟩ from Fin.ext hn]
  pointwise [net]

/-- The forward filters' entries. -/
theorem fwd_at (l : Fin 1024) (o : Fin 2) (q : Fin 1024) : (fwdV z t d w1 b1 w2 b2 w3 f (ix3 l o q) : EReal) = filtAt (argsOf z t d w1 b1 w2 b2 w3 f) (colF o q) q l := by
  refine Eq.trans ?_ (net_at l o 0 q (colF o q) (by show o.val * 2048 + q.val = o.val * 2048 + 0 * 1024 + q.val; omega))
  pointwise [fwdV]

/-- The backward filters' entries. -/
theorem bwd_at (l : Fin 1024) (o : Fin 2) (q : Fin 1024) : (bwdV z t d w1 b1 w2 b2 w3 f (ix3 l o q) : EReal) = filtAt (argsOf z t d w1 b1 w2 b2 w3 f) (colB o q) q l := by
  refine Eq.trans ?_ (net_at l o 1 q (colB o q) (by show o.val * 2048 + 1024 + q.val = o.val * 2048 + 1 * 1024 + q.val; omega))
  pointwise [bwdV]

/-- The circle's pieces. -/
def circPieces : List Shape := [S1024x2x1024, S1x2x1024, S1023x2x1024]

/-- The circle's entries. -/
theorem circ_at (n : Fin 2048) (o : Fin 2) (q : Fin 1024) : (circV z t d w1 b1 w2 b2 w3 f (ix3 n o q) : EReal) = circ (argsOf z t d w1 b1 w2 b2 w3 f) o q n.val := by
  have off : ∀ (k : Nat) (i : Fin k) (b : Fin 3), b ≠ 0 → (ix3 i o q b).val = (ix3 n o q b).val := fun k i b hb =>
    match b, hb with | ⟨0, _⟩, hb => absurd rfl hb | ⟨1, _⟩, _ => rfl | ⟨2, _⟩, _ => rfl
  unfold circV circ
  by_cases h0 : n.val < 1024
  · rw [if_pos h0]
    refine (cat_piece (t := S2048x2x1024) 0 _ circPieces rfl _ _ 0 (by simp only [List.length_cons, List.length_nil]; decide) S1024x2x1024 _ rfl rfl 0 (by decide +kernel)
      (ix3 (⟨n.val, h0⟩ : Fin 1024) o q) (off _ _) (by show 0 + n.val = n.val; omega)).trans ((fwd_at _ o q).trans ?_)
    exact congrArg _ (pos_val ⟨n.val, h0⟩).symm
  by_cases h1 : n.val = 1024
  · rw [if_neg h0, if_pos h1]
    refine (cat_piece (t := S2048x2x1024) 0 _ circPieces rfl _ _ 1 (by simp only [List.length_cons, List.length_nil]; decide) S1x2x1024 _ rfl rfl 1024 (by decide +kernel)
      (ix3 (0 : Fin 1) o q) (off _ _) (by show 1024 + 0 = n.val; omega)).trans ?_
    pointwise
  · rw [if_neg h0, if_neg h1]
    have hn := n.isLt
    refine (cat_piece (t := S2048x2x1024) 0 _ circPieces rfl _ _ 2 (by simp only [List.length_cons, List.length_nil]; decide) S1023x2x1024 _ rfl rfl 1025 (by decide +kernel)
      (ix3 (⟨n.val - 1025, by omega⟩ : Fin 1023) o q) (off _ _) (by show 1025 + (n.val - 1025) = n.val; omega)).trans ?_
    refine Eq.trans ?_ (bwd_at (pos (2048 - n.val)) o q)
    have e : (2048 - n.val) % 1024 = 2048 - n.val := Nat.mod_eq_of_lt (by omega)
    have key : ∀ i i' : Fin 1024, i.val = i'.val → bwdV z t d w1 b1 w2 b2 w3 f (ix3 i o q) = bwdV z t d w1 b1 w2 b2 w3 f (ix3 i' o q) := fun i i' h => by rw [Fin.ext h]
    pointwise
    exact key _ _ (by show _ = (2048 - n.val) % 1024; rw [e]; simp; omega)

/-- The angles' entries. -/
theorem ang_at (k : Fin 1025) (n : Fin 2048) : (angV (ix2 k n) : EReal) = ((Hyena.angR k.val n.val : ℝ) : EReal) := by
  have hm : k.val * n.val < 2 ^ 31 := by nlinarith [k.isLt, n.isLt]
  pointwise [angV]
  rw [Hyena.muli_word, Hyena.sitofp_word _ _ hm, Hyena.step_at, ← EReal.coe_mul]
  rfl

/-- The real parts. -/
theorem re_at (k : Fin 1025) (o : Fin 2) (q : Fin 1024) : (reV z t d w1 b1 w2 b2 w3 f (ix3 k o q) : EReal) = reAt (argsOf z t d w1 b1 w2 b2 w3 f) o k.val q := by
  have e : (reV z t d w1 b1 w2 b2 w3 f (ix3 k o q) : EReal) = ∑ n : Fin 2048, Ideal.cos (angV (ix2 k n)) * (circV z t d w1 b1 w2 b2 w3 f (ix3 n o q) : EReal) := by
    pointwise [reV]
  rw [e]
  unfold reAt
  exact Finset.sum_congr rfl fun n _ => by rw [ang_at, circ_at]; rfl

/-- The imaginary parts. -/
theorem im_at (k : Fin 1025) (o : Fin 2) (q : Fin 1024) : (imV z t d w1 b1 w2 b2 w3 f (ix3 k o q) : EReal)
    = ∑ n : Fin 2048, (-((Real.sin (Hyena.angR k.val n.val) : ℝ) : EReal)) * circ (argsOf z t d w1 b1 w2 b2 w3 f) o q n.val := by
  have e : (imV z t d w1 b1 w2 b2 w3 f (ix3 k o q) : EReal) = ∑ n : Fin 2048, -(Ideal.sin (angV (ix2 k n))) * (circV z t d w1 b1 w2 b2 w3 f (ix3 n o q) : EReal) := by
    pointwise [imV]
  rw [e]
  exact Finset.sum_congr rfl fun n _ => by rw [ang_at, circ_at]; rfl

/-- The first result's entries. -/
theorem out0_at (o : Fin 2) (k q : Fin 1024) : (out0 z t d w1 b1 w2 b2 w3 f (ix3 o k q) : EReal) = reAt (argsOf z t d w1 b1 w2 b2 w3 f) o k.val q := by
  refine Eq.trans ?_ (re_at (⟨k.val, by omega⟩ : Fin 1025) o q)
  pointwise [out0]

/-- The second result's pieces. -/
def outPieces : List Shape := [S1x2x1024, S1023x2x1024]

/-- The second result's entries. -/
theorem out1_at (o : Fin 2) (k q : Fin 1024) : (out1 z t d w1 b1 w2 b2 w3 f (ix3 o k q) : EReal) = imAt (argsOf z t d w1 b1 w2 b2 w3 f) o k.val q := by
  have off : ∀ (s : Nat) (i : Fin s) (b : Fin 3), b ≠ 0 → (ix3 i o q b).val = (ix3 k o q b).val := fun s i b hb =>
    match b, hb with | ⟨0, _⟩, hb => absurd rfl hb | ⟨1, _⟩, _ => rfl | ⟨2, _⟩, _ => rfl
  unfold out1 imAt
  refine (Eq.trans (b := (concatenate S1024x2x1024 0 [⟨S1x2x1024, (extractStridedSlice S1x2x1024 ![1024, 0, 0] (reV z t d w1 b1 w2 b2 w3 f) slices_S1025x2x1024_S1x2x1024_1024_0_0)⟩, ⟨S1023x2x1024, (extractStridedSlice S1023x2x1024 ![1, 0, 0] (imV z t d w1 b1 w2 b2 w3 f) slices_S1025x2x1024_S1023x2x1024_1_0_0)⟩] concatenates_S1x2x1024_S1023x2x1024_S1024x2x1024_d0) (ix3 k o q)) ?_ ?_)
  · pointwise
  by_cases h : k.val = 0
  · rw [if_pos h]
    refine (cat_piece (t := S1024x2x1024) 0 _ outPieces rfl _ _ 0 (by simp only [List.length_cons, List.length_nil]; decide) S1x2x1024 _ rfl rfl 0 (by decide +kernel)
      (ix3 (0 : Fin 1) o q) (off _ _) (by show 0 + 0 = k.val; omega)).trans ?_
    refine Eq.trans ?_ (re_at (⟨1024, by omega⟩ : Fin 1025) o q)
    pointwise
  · rw [if_neg h]
    refine (cat_piece (t := S1024x2x1024) 0 _ outPieces rfl _ _ 1 (by simp only [List.length_cons, List.length_nil]; decide) S1023x2x1024 _ rfl rfl 1 (by decide +kernel)
      (ix3 (⟨k.val - 1, by omega⟩ : Fin 1023) o q) (off _ _) (by show 1 + (k.val - 1) = k.val; omega)).trans ?_
    refine Eq.trans ?_ (im_at (⟨k.val, by omega⟩ : Fin 1025) o q)
    have key : ∀ i i' : Fin 1025, i.val = i'.val → imV z t d w1 b1 w2 b2 w3 f (ix3 i o q) = imV z t d w1 b1 w2 b2 w3 f (ix3 i' o q) := fun i i' h => by rw [Fin.ext h]
    pointwise
    exact key _ _ (by show 1 + (k.val - 1) = k.val; omega)

variable (m : (ℓ : Loc nD τ sig) → Buf (Elt Ideal) ℓ)

/-- The real parts. -/
def refResult0 (c : Dev nD) : FVec Ideal S2x1024x1024 .f32 := fun j => reAt (argsOf (m ((c.tc : Thread nD τ).loc main_arg0) : FVec Ideal S1024x33 .f32) (m ((c.tc : Thread nD τ).loc main_arg1) : FVec Ideal S1024 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32)) (j 0) (j 1).val (j 2)

/-- The imaginary parts. -/
def refResult1 (c : Dev nD) : FVec Ideal S2x1024x1024 .f32 := fun j => imAt (argsOf (m ((c.tc : Thread nD τ).loc main_arg0) : FVec Ideal S1024x33 .f32) (m ((c.tc : Thread nD τ).loc main_arg1) : FVec Ideal S1024 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32)) (j 0) (j 1).val (j 2)

/-- The run's first result. -/
theorem run0 (c : Dev nD) : res_main_v61 (F := Ideal) m c = refResult0 m c := by
  have e : res_main_v61 (F := Ideal) m c = out0 (m ((c.tc : Thread nD τ).loc main_arg0) : FVec Ideal S1024x33 .f32) (m ((c.tc : Thread nD τ).loc main_arg1) : FVec Ideal S1024 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32) := by
    unfold res_main_v61 out0 reV circV fwdV bwdV net decayV layer3 layer2 layer1 angV
    rfl
  rw [e]
  funext j
  exact (congrArg _ (eq_ix3 j)).trans (out0_at (j 0) (j 1) (j 2))

/-- The run's second result. -/
theorem run1 (c : Dev nD) : res_main_v62 (F := Ideal) m c = refResult1 m c := by
  have e : res_main_v62 (F := Ideal) m c = out1 (m ((c.tc : Thread nD τ).loc main_arg0) : FVec Ideal S1024x33 .f32) (m ((c.tc : Thread nD τ).loc main_arg1) : FVec Ideal S1024 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32) := by
    unfold res_main_v62 out1 imV reV circV fwdV bwdV net decayV layer3 layer2 layer1 angV
    rfl
  rw [e]
  funext j
  exact (congrArg _ (eq_ix3 j)).trans (out1_at (j 0) (j 1) (j 2))

/-- The reference's run: its result arrays hold the two results, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v61) = refResult0 m c
      ∧ r.2.mem ((c.tc : Thread nD τ).loc main_v62) = refResult1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (run0 m c), (h c).2.1.trans (run1 m c), (h c).2.2⟩) (run m ρ)

end Cert.Calls.Spectrum
-- ==== Proof.Calls.SpectrumPre.lean ====
module

public import proofs.«01_k».proof.Proof.Calls.SpectrumSpec
public import proofs.«01_k».proof.Pre_finite_spectrum
public import proofs.«01_k».proof.Proof.Gen.Pre_finite_spectrum
public import Idealize.ShloMosaic.Lib.StableHlo.ReadAt
public import Idealize.ShloMosaic.Lib.KernelVsHost

/-!
# The spectrum of the Hyena filters: the precondition
-/

@[expose] public section

set_option maxRecDepth 16384

noncomputable section

open Idealize.ShloMosaic Idealize.ShloMosaic.TcCoe Idealize.SL.Sem Idealize.ShloMosaic.StableHlo
open Cert.Pre_finite_spectrum

namespace Cert.Calls.Spectrum

/-- The precondition says that every argument is finite. -/
theorem finite_of_pre (z : FVec Ideal S1024x33 .f32) (t : FVec Ideal S1024 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32)
    (h : fn (F := Ideal) z t d w1 b1 w2 b2 w3 f = fun _ => 1#1) : Args.Fin
      { z := fun l i => z (ix2 l i), t := fun l => t (ix1 l), d := fun q => d (ix1 q), w1 := fun i k => w1 (ix2 i k), b1 := fun k => b1 (ix1 k), w2 := fun i k => w2 (ix2 i k), b2 := fun k => b2 (ix1 k), w3 := fun k n => w3 (ix2 k n), f := fun i k => f (ix2 i k) } := by
  have hs : Subsingleton S_.Idx := ⟨fun x y => funext fun i => i.elim0⟩
  have h0 := congrFun h (fun i => i.elim0)
  obtain ⟨h0, h8⟩ := both_of_andi h0
  obtain ⟨h0, h7⟩ := both_of_andi h0
  obtain ⟨h0, h6⟩ := both_of_andi h0
  obtain ⟨h0, h5⟩ := both_of_andi h0
  obtain ⟨h0, h4⟩ := both_of_andi h0
  obtain ⟨h0, h3⟩ := both_of_andi h0
  obtain ⟨h0, h2⟩ := both_of_andi h0
  obtain ⟨h0, h1⟩ := both_of_andi h0
  exact {
    z := fun l i => finite_of_lt _ (Host.reduce_andi_all _ _ _ _ _ h0 (ix2 l i))
    t := fun l => finite_of_lt _ (Host.reduce_andi_all _ _ _ _ _ h1 (ix1 l))
    d := fun q => finite_of_lt _ (Host.reduce_andi_all _ _ _ _ _ h2 (ix1 q))
    w1 := fun i k => finite_of_lt _ (Host.reduce_andi_all _ _ _ _ _ h3 (ix2 i k))
    b1 := fun k => finite_of_lt _ (Host.reduce_andi_all _ _ _ _ _ h4 (ix1 k))
    w2 := fun i k => finite_of_lt _ (Host.reduce_andi_all _ _ _ _ _ h5 (ix2 i k))
    b2 := fun k => finite_of_lt _ (Host.reduce_andi_all _ _ _ _ _ h6 (ix1 k))
    w3 := fun k n => finite_of_lt _ (Host.reduce_andi_all _ _ _ _ _ h7 (ix2 k n))
    f := fun i k => finite_of_lt _ (Host.reduce_andi_all _ _ _ _ _ h8 (ix2 i k)) }

end Cert.Calls.Spectrum
-- ==== Proof.Calls.ChunksKernel.lean ====
module

public import proofs.«01_k».proof.Proof.Calls.Spec
public import proofs.«01_k».proof.Proof.Gen.KernelChunksIdeal.Value
public import proofs.«01_k».proof.Proof.Gen.KernelChunksIdeal.Frame
public import Idealize.ShloMosaic.Lib.StableHlo.ReadAt

/-!
# The experts' output table: the kernel's result
-/

@[expose] public section

set_option maxRecDepth 16384

noncomputable section

open Idealize.ShloMosaic Idealize.ShloMosaic.TcCoe Idealize.SL.Sem Idealize.ShloMosaic.StableHlo
open Cert.KernelChunksIdeal Cert.KernelChunksIdeal.Gen

namespace Cert.Calls.Chunks

variable (m : (ℓ : Loc nD τ sig) → Buf (Elt Ideal) ℓ)

/-- The blocks the grid points read and write. -/
theorem idx : ∀ t : Fin cfg0.N, win0_0.index t = ![t.val / 16, t.val % 16, 0] ∧ win0_1.index t = ![t.val / 16, t.val % 16, 0, 0] := (by decide +kernel : ∀ t : Fin grid0.N, _)

/-- The table in chunks of 1024 experts, each transposed. -/
def result (c : Dev nD) : FVec Ideal S4x16x2048x1024 .bf16 := fun j =>
  (m ((c.tc : Thread nD τ).loc main_arg0) : FVec Ideal S4x16384x2048 .f32) (ix3 (j 0) ⟨(j 1).val * 1024 + (j 3).val, by have h1 : (j 1).val < 16 := (j 1).isLt; have h3 : (j 3).val < 1024 := (j 3).isLt; omega⟩ (j 2))

/-- What one grid point stores is its block of `result`. -/
theorem point (c : Dev nD) (t : Fin cfg0.N) (y) : k0_pay1 (F := Ideal) (iblk m c 0 t) y = result m c (((cfg0.win 1).blk t).view.emb y) := by
  pointwise [k0_pay1, result]
  blk_point [iblk, V, idx t]

/-- The result array after the run. -/
theorem final (c : Dev nD) : (dats m 0 c).arrAt 1 (cfgs 0).N = result m c := by
  refine (dats m 0 c).arrAt_eq_of_covers 1 _ (by decide +kernel) fun t _ y => ?_
  blk_simp
  rw [after0_1]
  frame_out
  exact point m c t y

/-- The kernel's run: its result array holds `result`, its argument is unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0) :=
  (θ_run defs _ _).mono (fun _ h c => ⟨((h.1 c).1 1).trans (final m c), h.2 c⟩) (θ_run_and (run_main m ρ) (unchanged m ρ))

end Cert.Calls.Chunks
-- ==== Proof.Calls.ChunksRef.lean ====
module

public import proofs.«01_k».proof.Proof.Calls.Spec
public import proofs.«01_k».proof.Proof.Gen.ReferenceChunksIdeal.Run

/-!
# The experts' output table: the reference's result
-/

@[expose] public section

set_option maxRecDepth 16384

noncomputable section

open Idealize.ShloMosaic Idealize.ShloMosaic.TcCoe Idealize.SL.Sem Idealize.ShloMosaic.StableHlo
open Cert.ReferenceChunksIdeal Cert.ReferenceChunksIdeal.Gen Cert.ReferenceChunksIdeal.Value

namespace Cert.Calls.Chunks

variable (m : (ℓ : Loc nD τ sig) → Buf (Elt Ideal) ℓ)

/-- The table in chunks of 1024 experts, each transposed. -/
def refResult (c : Dev nD) : FVec Ideal S4x16x2048x1024 .bf16 := fun j =>
  (m ((c.tc : Thread nD τ).loc main_arg0) : FVec Ideal S4x16384x2048 .f32) (ix3 (j 0) ⟨(j 1).val * 1024 + (j 3).val, by have h1 : (j 1).val < 16 := (j 1).isLt; have h3 : (j 3).val < 1024 := (j 3).isLt; omega⟩ (j 2))

/-- The reference's operations, entry by entry. -/
theorem term_at (v : FVec Ideal S4x16384x2048 .f32) (a : Fin 4) (b : Fin 16) (q : Fin 2048) (e : Fin 1024) :
    (truncf .bf16 (transpose S4x16x2048x1024 [0, 1, 3, 2] (shapeCast S4x16x1024x2048 v shapeCasts_S4x16384x2048_S4x16x1024x2048) transposes_S4x16x1024x2048_S4x16x2048x1024_0_1_3_2) bitsLt_bf16_f32 : FVec Ideal S4x16x2048x1024 .bf16) (ix4 a b q e)
      = v (ix3 a ⟨b.val * 1024 + e.val, by omega⟩ q) := by
  pointwise

/-- The reference's run: its result array holds `refResult`, its argument is unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v2) = refResult m c
      ∧ r.2.mem ((c.tc : Thread nD τ).loc main_arg0) = m ((c.tc : Thread nD τ).loc main_arg0) :=
  (θ_run defs _ _).mono (fun _ h c => ⟨(h c).1.trans (funext fun j => (congrArg _ (eq_ix4 j)).trans (term_at _ (j 0) (j 1) (j 2) (j 3))), (h c).2⟩) (run m ρ)

end Cert.Calls.Chunks
-- ==== Proof.Calls.FilterPWord.lean ====
module

public import proofs.«01_k».proof.Proof.Hyena.Word

/-!
# The prompt's angles and tables, for 256 positions
-/

@[expose] public section

noncomputable section

open Idealize.ShloMosaic Cert.Hyena

namespace Cert.Calls.FilterP

/-- The selection of a non-zero divisor, on the divisor 512. -/
theorem divisor_512 : Scalar.select (IntOp.cmpi CmpIPredicate.eq (512#32) 0#32) (1#32) (512#32) = 512#32 := by decide

/-- The float 256. -/
theorem k256_bits : (Ideal.ofBits FTy.f32 1132462080#32) = ((256 : ℝ) : EReal) := by
  simp [Ideal.ofBits, Ideal.ieee, -EReal.coe_mul]; norm_num

/-- π over 256. -/
theorem step_at : Ideal.div (Ideal.atan2 (0 : EReal) (Ideal.ofBits FTy.f32 3212836864#32)) (Ideal.ofBits FTy.f32 1132462080#32)
    = ((Real.pi * ((1 : ℝ) / 256) : ℝ) : EReal) := by
  rw [neg_one_bits, k256_bits, pi_at, Ideal.div_coe (by norm_num)]
  norm_cast

/-- The angle of bin `k` at position `n`, a real number. -/
def angR (k n : ℕ) : ℝ := ((k * n : ℕ) : ℝ) * (Real.pi * ((1 : ℝ) / 256))

/-- The residue modulo 512 has the same cosine and sine: the two angles differ by whole turns. -/
theorem ang_mod (k n : ℕ) : angR k n = ((k * n % 512 : ℕ) : ℝ) * (Real.pi * ((1 : ℝ) / 256)) + ((k * n / 512 : ℕ) : ℝ) * (2 * Real.pi) := by
  have h : ((k * n : ℕ) : ℝ) = ((k * n % 512 : ℕ) : ℝ) + 512 * ((k * n / 512 : ℕ) : ℝ) := by
    exact_mod_cast (Nat.mod_add_div (k * n) 512).symm
  rw [angR, h]; ring

/-- The cosine at the residue. -/
theorem cos_mod (k n : ℕ) : Real.cos (((k * n % 512 : ℕ) : ℝ) * (Real.pi * ((1 : ℝ) / 256))) = Real.cos (angR k n) := by
  rw [ang_mod, Real.cos_add_nat_mul_two_pi]

/-- The sine at the residue. -/
theorem sin_mod (k n : ℕ) : Real.sin (((k * n % 512 : ℕ) : ℝ) * (Real.pi * ((1 : ℝ) / 256))) = Real.sin (angR k n) := by
  rw [ang_mod, Real.sin_add_nat_mul_two_pi]

/-- The cosine of the angle the host builds from the residue is the cosine of the angle. -/
theorem cos_host (k n : ℕ) :
    Ideal.cos ((((k * n % 512 : ℕ) : ℝ) : EReal) * ((Real.pi * ((1 : ℝ) / 256) : ℝ) : EReal)) = ((Real.cos (angR k n) : ℝ) : EReal) := by
  rw [← EReal.coe_mul, ← cos_mod]; rfl

/-- The sine likewise. -/
theorem sin_host (k n : ℕ) :
    Ideal.sin ((((k * n % 512 : ℕ) : ℝ) : EReal) * ((Real.pi * ((1 : ℝ) / 256) : ℝ) : EReal)) = ((Real.sin (angR k n) : ℝ) : EReal) := by
  rw [← EReal.coe_mul, ← sin_mod]; rfl

/-- The forward table: cosines, then minus sines; its row 256 the alternating signs. -/
def fwdT (k n : ℕ) : ℝ :=
  if k < 256 then Real.cos (angR k n) else if k - 256 = 0 then sgn n else -Real.sin (angR (k - 256) n)

end Cert.Calls.FilterP
-- ==== Proof.Calls.FilterPSpec.lean ====
module

public import proofs.«01_k».proof.Proof.Calls.ModSpec
public import proofs.«01_k».proof.Proof.Calls.FilterPWord

/-!
# The spectrum of the Hyena filters, for the prompt

The filters' network, its two filters at a position, their circular arrangement and its discrete Fourier transform; and
the same as the kernel forms it, with every product split in three and with the two halves of the transform's sum folded
onto one another.
-/

@[expose] public section

set_option maxRecDepth 16384

noncomputable section

open Idealize.ShloMosaic

namespace Cert.Calls.FilterP

/-- The arguments: the features, the positions, the decay rates, the weights and biases of the network, the frequencies. -/
structure Args where
  /-- The features of a position. -/
  z : Fin 256 → Fin 33 → EReal
  /-- The positions. -/
  t : Fin 256 → EReal
  /-- The decay rates. -/
  d : Fin 1024 → EReal
  /-- The first weights. -/
  w1 : Fin 33 → Fin 64 → EReal
  /-- The first bias. -/
  b1 : Fin 64 → EReal
  /-- The second weights. -/
  w2 : Fin 64 → Fin 64 → EReal
  /-- The second bias. -/
  b2 : Fin 64 → EReal
  /-- The third weights. -/
  w3 : Fin 64 → Fin 4096 → EReal
  /-- The frequencies. -/
  f : Fin 2 → Fin 64 → EReal

/-- Every argument is finite. -/
structure Args.Fin (A : Args) : Prop where
  /-- The features are. -/
  z : ∀ l i, Finite (A.z l i)
  /-- The positions are. -/
  t : ∀ l, Finite (A.t l)
  /-- The decay rates are. -/
  d : ∀ q, Finite (A.d q)
  /-- The first weights are. -/
  w1 : ∀ i k, Finite (A.w1 i k)
  /-- The first bias is. -/
  b1 : ∀ k, Finite (A.b1 k)
  /-- The second weights are. -/
  w2 : ∀ i k, Finite (A.w2 i k)
  /-- The second bias is. -/
  b2 : ∀ k, Finite (A.b2 k)
  /-- The third weights are. -/
  w3 : ∀ i k, Finite (A.w3 i k)
  /-- The frequencies are. -/
  f : ∀ i k, Finite (A.f i k)

/-- The first hidden layer. -/
def hid1 (A : Args) (l : Fin 256) (k : Fin 64) : EReal := Ideal.sin (A.f 0 k * ((∑ i, A.z l i * A.w1 i k) + A.b1 k))

/-- The second hidden layer. -/
def hid2 (A : Args) (l : Fin 256) (k : Fin 64) : EReal := Ideal.sin (A.f 1 k * ((∑ i, hid1 A l i * A.w2 i k) + A.b2 k))

/-- The filters at a position: column `c` of the network's result, times the decay of channel `q`. -/
def filtAt (A : Args) (c : Fin 4096) (q : Fin 1024) (l : Fin 256) : EReal := (∑ k, hid2 A l k * A.w3 k c) * Ideal.exp (-(A.t l) * A.d q)

/-- The column of the forward filter of channel `q`. -/
def colF (o : Fin 2) (q : Fin 1024) : Fin 4096 := ⟨o.val * 2048 + q.val, by omega⟩

/-- The column of the backward filter of channel `q`. -/
def colB (o : Fin 2) (q : Fin 1024) : Fin 4096 := ⟨o.val * 2048 + 1024 + q.val, by omega⟩

/-- A position, of a number. -/
def pos (n : ℕ) : Fin 256 := ⟨n % 256, Nat.mod_lt _ (by norm_num)⟩

/-- A position's own number gives the position. -/
theorem pos_val (l : Fin 256) : pos l.val = l := Fin.ext (Nat.mod_eq_of_lt l.isLt)

/-- The two filters on a circle of 512 positions: the forward one, a zero, the backward one reversed without its first. -/
def circ (A : Args) (o : Fin 2) (q : Fin 1024) (n : ℕ) : EReal :=
  if n < 256 then filtAt A (colF o q) q (pos n) else if n = 256 then 0 else filtAt A (colB o q) q (pos (512 - n))

/-- The real part of bin `k` of the transform. -/
def reAt (A : Args) (o : Fin 2) (k : ℕ) (q : Fin 1024) : EReal :=
  ∑ n : Fin 512, ((Real.cos (angR k n.val) : ℝ) : EReal) * circ A o q n.val

/-- The imaginary part of bin `k`; in the place of bin 0 the real part of bin 256. -/
def imAt (A : Args) (o : Fin 2) (k : ℕ) (q : Fin 1024) : EReal :=
  if k = 0 then reAt A o 256 q else ∑ n : Fin 512, (-((Real.sin (angR k n.val) : ℝ) : EReal)) * circ A o q n.val

/-- A product the kernel forms in three parts. -/
def split3 {n : ℕ} (u p : Fin n → EReal) : EReal := (∑ k, u k * p k) + ((∑ k, u k * (p k - p k)) + ∑ k, (u k - u k) * p k)

/-- Where both factors are finite, nothing is dropped. -/
theorem split3_eq {n : ℕ} {u p : Fin n → EReal} (hu : ∀ k, Finite (u k)) (hp : ∀ k, Finite (p k)) : split3 u p = ∑ k, u k * p k := by
  unfold split3
  have h1 : (∑ k, u k * (p k - p k)) = 0 := Finset.sum_eq_zero fun k _ => by rw [EReal.sub_self (hp k).1 (hp k).2, mul_zero]
  have h2 : (∑ k, (u k - u k) * p k) = 0 := Finset.sum_eq_zero fun k _ => by rw [EReal.sub_self (hu k).1 (hu k).2, zero_mul]
  rw [h1, h2, add_zero, add_zero]

/-- A function on 33 places, continued by zeros to 64. -/
def ext (u : Fin 33 → EReal) (i : Fin 64) : EReal := if h : i.val < 33 then u ⟨i.val, h⟩ else 0

/-- The first hidden layer as the kernel forms it. -/
def khid1 (A : Args) (l : Fin 256) (k : Fin 64) : EReal :=
  Ideal.sin (A.f 0 k * (split3 (ext (A.z l)) (fun i => ext (fun j => A.w1 j k) i) + A.b1 k))

/-- The second hidden layer as the kernel forms it. -/
def khid2 (A : Args) (l : Fin 256) (k : Fin 64) : EReal :=
  Ideal.sin (A.f 1 k * (split3 (khid1 A l) (fun i => A.w2 i k) + A.b2 k))

/-- The filters as the kernel forms them. -/
def kfilt (A : Args) (c : Fin 4096) (q : Fin 1024) (l : Fin 256) : EReal :=
  split3 (khid2 A l) (fun k => A.w3 k c) * Ideal.exp ((0 - A.t l) * A.d q)

/-- The backward filter without its first position. -/
def kback (A : Args) (o : Fin 2) (q : Fin 1024) (l : Fin 256) : EReal := if l.val = 0 then 0 else kfilt A (colB o q) q l

/-- The real part as the kernel forms it. -/
def kreAt (A : Args) (o : Fin 2) (k : Fin 256) (q : Fin 1024) : EReal :=
  split3 (fun n : Fin 256 => ((fwdT k.val n.val : ℝ) : EReal)) (fun n => kfilt A (colF o q) q n + kback A o q n)

/-- The imaginary part as the kernel forms it. -/
def kimAt (A : Args) (o : Fin 2) (k : Fin 256) (q : Fin 1024) : EReal :=
  if k.val = 0 then ∑ n : Fin 256, ((Hyena.sgn n.val : ℝ) : EReal) * (kfilt A (colF o q) q n + kback A o q n)
  else split3 (fun n : Fin 256 => ((fwdT (k.val + 256) n.val : ℝ) : EReal)) (fun n => kfilt A (colF o q) q n - kback A o q n)

/-- A finite sum of finite numbers is finite. -/
theorem Finite.sum {n : ℕ} {u : Fin n → EReal} (h : ∀ k, Finite (u k)) : Finite (∑ k, u k) := by
  refine Finset.sum_induction u Finite (fun _ _ => Finite.add) (by rw [← EReal.coe_zero]; exact Finite.coe 0) fun k _ => h k

/-- The sine of a finite number is finite. -/
theorem Finite.sin {x : EReal} (h : Finite x) : Finite (Ideal.sin x) := by
  obtain ⟨a, rfl⟩ := h.real
  exact Finite.coe (Real.sin a)

/-- The exponential of a finite number is finite. -/
theorem Finite.exp {x : EReal} (h : Finite x) : Finite (Ideal.exp x) := by
  obtain ⟨a, rfl⟩ := h.real
  exact Finite.coe (Real.exp a)

/-- The negative of a finite number is finite. -/
theorem Finite.neg {x : EReal} (h : Finite x) : Finite (-x) := by
  obtain ⟨a, rfl⟩ := h.real
  rw [← EReal.coe_neg]
  exact Finite.coe _

/-- A product distributes over a sum of finite numbers. -/
theorem mul_add_fin {c x y : EReal} (hc : Finite c) (hx : Finite x) (hy : Finite y) : c * (x + y) = c * x + c * y := by
  obtain ⟨c, rfl⟩ := hc.real
  obtain ⟨x, rfl⟩ := hx.real
  obtain ⟨y, rfl⟩ := hy.real
  norm_cast
  exact mul_add c x y

/-- A product distributes over a difference of finite numbers. -/
theorem mul_sub_fin {c x y : EReal} (hc : Finite c) (hx : Finite x) (hy : Finite y) : c * (x - y) = c * x + -c * y := by
  obtain ⟨c, rfl⟩ := hc.real
  obtain ⟨x, rfl⟩ := hx.real
  obtain ⟨y, rfl⟩ := hy.real
  norm_cast
  ring

variable {A : Args} (hA : A.Fin)
include hA

/-- The first hidden layer is finite. -/
theorem hid1_fin (l : Fin 256) (k : Fin 64) : Finite (hid1 A l k) :=
  Finite.sin ((hA.f 0 k).mul ((Finite.sum fun i => (hA.z l i).mul (hA.w1 i k)).add (hA.b1 k)))

/-- The second hidden layer is finite. -/
theorem hid2_fin (l : Fin 256) (k : Fin 64) : Finite (hid2 A l k) :=
  Finite.sin ((hA.f 1 k).mul ((Finite.sum fun i => (hid1_fin hA l i).mul (hA.w2 i k)).add (hA.b2 k)))

/-- The filters are finite. -/
theorem filt_fin (c : Fin 4096) (q : Fin 1024) (l : Fin 256) : Finite (filtAt A c q l) :=
  (Finite.sum fun k => (hid2_fin hA l k).mul (hA.w3 k c)).mul (Finite.exp ((Finite.neg (hA.t l)).mul (hA.d q)))

omit hA in
/-- The product of two continued functions is the product of the functions. -/
theorem ext_sum (u p : Fin 33 → EReal) : (∑ i : Fin 64, ext u i * ext p i) = ∑ i, u i * p i := by
  refine (Fin.sum_univ_add (a := 33) (b := 31) fun i => ext u i * ext p i).trans ?_
  have h : (∑ i : Fin 31, ext u (Fin.natAdd 33 i) * ext p (Fin.natAdd 33 i)) = 0 :=
    Finset.sum_eq_zero fun i _ => by
      have : ¬ (Fin.natAdd 33 i).val < 33 := by simp
      unfold ext
      rw [dif_neg this, dif_neg this, mul_zero]
  rw [h, add_zero]
  refine Finset.sum_congr rfl fun i _ => ?_
  have : (Fin.castAdd 31 i).val < 33 := i.isLt
  unfold ext
  rw [dif_pos this, dif_pos this]
  rfl

omit hA in
/-- A finite function continued by zeros is finite. -/
theorem ext_fin {u : Fin 33 → EReal} (h : ∀ i, Finite (u i)) (i : Fin 64) : Finite (ext u i) := by
  unfold ext
  split
  · exact h _
  · exact Finite.coe 0

/-- The kernel's first hidden layer is the first hidden layer. -/
theorem khid1_eq (l : Fin 256) (k : Fin 64) : khid1 A l k = hid1 A l k := by
  unfold khid1 hid1
  rw [split3_eq (ext_fin (hA.z l)) (ext_fin fun i => hA.w1 i k), ext_sum]

/-- The kernel's second hidden layer is the second hidden layer. -/
theorem khid2_eq (l : Fin 256) (k : Fin 64) : khid2 A l k = hid2 A l k := by
  unfold khid2 hid2
  rw [show khid1 A l = hid1 A l from funext (khid1_eq hA l), split3_eq (hid1_fin hA l) fun i => hA.w2 i k]

/-- The kernel's filters are the filters. -/
theorem kfilt_eq (c : Fin 4096) (q : Fin 1024) (l : Fin 256) : kfilt A c q l = filtAt A c q l := by
  unfold kfilt filtAt
  rw [show khid2 A l = hid2 A l from funext (khid2_eq hA l), split3_eq (hid2_fin hA l) fun k => hA.w3 k c, zero_sub]

/-- The kernel's filters are finite. -/
theorem kfilt_fin (c : Fin 4096) (q : Fin 1024) (l : Fin 256) : Finite (kfilt A c q l) := by
  rw [kfilt_eq hA]
  exact filt_fin hA c q l

/-- The kernel's backward filter is finite. -/
theorem kback_fin (o : Fin 2) (q : Fin 1024) (l : Fin 256) : Finite (kback A o q l) := by
  unfold kback
  split
  · exact Finite.coe 0
  · exact kfilt_fin hA _ q l

omit hA in
/-- A sum over the circle folds onto its first half. -/
theorem fold (c F B : ℕ → EReal) :
    (∑ n : Fin 512, c n.val * (if n.val < 256 then F n.val else if n.val = 256 then 0 else B (512 - n.val)))
      = (∑ n : Fin 256, c n.val * F n.val) + ∑ n : Fin 256, c (512 - n.val) * (if n.val = 0 then 0 else B n.val) := by
  rw [Fin.sum_univ_eq_sum_range (fun n => c n * (if n < 256 then F n else if n = 256 then 0 else B (512 - n))) 512,
    Fin.sum_univ_eq_sum_range (fun n => c n * F n) 256,
    Fin.sum_univ_eq_sum_range (fun n => c (512 - n) * (if n = 0 then 0 else B n)) 256,
    show (512 : ℕ) = 256 + 256 from rfl, Finset.sum_range_add]
  refine congr_arg₂ (· + ·) (Finset.sum_congr rfl fun n hn => by rw [if_pos (Finset.mem_range.1 hn)]) ?_
  rw [show (256 : ℕ) = 255 + 1 from rfl, Finset.sum_range_succ', Finset.sum_range_succ' (fun n => c (255 + 1 + (255 + 1) - n) * (if n = 0 then 0 else B n)),
    ← Finset.sum_range_reflect]
  simp only [Nat.add_zero, lt_irrefl, if_true, if_false, mul_zero, add_zero]
  refine Finset.sum_congr rfl fun n hn => ?_
  have h := Finset.mem_range.1 hn
  rw [if_neg (by omega), if_neg (by omega), if_neg (by omega)]
  congr 2 <;> omega

omit hA in
/-- The cosine at the reflected position. -/
theorem cos_reflect (k n : ℕ) (h : n ≤ 512) : Real.cos (angR k (512 - n)) = Real.cos (angR k n) := by
  have e : angR k (512 - n) = (k : ℝ) * (2 * Real.pi) - angR k n := by
    unfold angR
    push_cast [Nat.cast_sub h]
    ring
  rw [e, Real.cos_nat_mul_two_pi_sub]

omit hA in
/-- The sine at the reflected position. -/
theorem sin_reflect (k n : ℕ) (h : n ≤ 512) : Real.sin (angR k (512 - n)) = -Real.sin (angR k n) := by
  have e : angR k (512 - n) = (k : ℝ) * (2 * Real.pi) - angR k n := by
    unfold angR
    push_cast [Nat.cast_sub h]
    ring
  rw [e, Real.sin_nat_mul_two_pi_sub]

/-- The real part, folded. -/
theorem re_fold (o : Fin 2) (k : ℕ) (q : Fin 1024) :
    reAt A o k q = ∑ n : Fin 256, ((Real.cos (angR k n.val) : ℝ) : EReal) * (kfilt A (colF o q) q n + kback A o q n) := by
  unfold reAt
  refine (fold (fun n => ((Real.cos (angR k n) : ℝ) : EReal)) (fun n => filtAt A (colF o q) q (pos n)) (fun n => filtAt A (colB o q) q (pos n))).trans ?_
  rw [← Finset.sum_add_distrib]
  refine Finset.sum_congr rfl fun n _ => ?_
  rw [mul_add_fin (Finite.coe _) (kfilt_fin hA _ _ _) (kback_fin hA _ _ _), pos_val, cos_reflect k n.val (by omega), kfilt_eq hA]
  unfold kback
  rw [kfilt_eq hA]

/-- The imaginary part's sum, folded. -/
theorem im_fold (o : Fin 2) (k : ℕ) (q : Fin 1024) :
    (∑ n : Fin 512, (-((Real.sin (angR k n.val) : ℝ) : EReal)) * circ A o q n.val)
      = ∑ n : Fin 256, ((-Real.sin (angR k n.val) : ℝ) : EReal) * (kfilt A (colF o q) q n - kback A o q n) := by
  refine (fold (fun n => -((Real.sin (angR k n) : ℝ) : EReal)) (fun n => filtAt A (colF o q) q (pos n)) (fun n => filtAt A (colB o q) q (pos n))).trans ?_
  rw [← Finset.sum_add_distrib]
  refine Finset.sum_congr rfl fun n _ => ?_
  rw [mul_sub_fin (Finite.coe _) (kfilt_fin hA _ _ _) (kback_fin hA _ _ _), pos_val, sin_reflect k n.val (by omega), kfilt_eq hA]
  unfold kback
  rw [kfilt_eq hA, EReal.coe_neg]

/-- The kernel's real part is the real part. -/
theorem kreAt_eq (o : Fin 2) (k : Fin 256) (q : Fin 1024) : kreAt A o k q = reAt A o k.val q := by
  unfold kreAt
  rw [split3_eq (fun _ => Finite.coe _) fun n => (kfilt_fin hA _ _ _).add (kback_fin hA _ _ _), re_fold hA]
  refine Finset.sum_congr rfl fun n _ => ?_
  unfold fwdT
  rw [if_pos k.isLt]

omit hA in
/-- The cosine of the last bin alternates. -/
theorem cos_last (n : ℕ) : Real.cos (angR 256 n) = Hyena.sgn n := by
  have e : angR 256 n = (n : ℝ) * Real.pi := by
    unfold angR
    push_cast
    ring
  rw [e, Real.cos_nat_mul_pi]
  unfold Hyena.sgn
  split
  · rename_i h; exact Even.neg_one_pow (Nat.even_iff.2 h)
  · rename_i h; exact Odd.neg_one_pow (Nat.odd_iff.2 (by omega))

/-- The kernel's imaginary part is the imaginary part. -/
theorem kimAt_eq (o : Fin 2) (k : Fin 256) (q : Fin 1024) : kimAt A o k q = imAt A o k.val q := by
  unfold kimAt imAt
  split
  · rw [re_fold hA]
    exact Finset.sum_congr rfl fun n _ => by rw [cos_last]
  · rename_i h
    rw [split3_eq (fun _ => Finite.coe _) fun n => ?_, im_fold hA]
    · refine Finset.sum_congr rfl fun n _ => ?_
      unfold fwdT
      rw [if_neg (by omega), if_neg (by omega), Nat.add_sub_cancel]
    · rw [sub_eq_add_neg]
      exact (kfilt_fin hA _ _ _).add (Finite.neg (kback_fin hA _ _ _))

end Cert.Calls.FilterP
-- ==== Proof.Calls.FilterPBody.lean ====
module

public import proofs.«01_k».proof.Proof.Calls.FilterPSpec
public import proofs.«01_k».proof.Proof.Hyena.Pay
public import proofs.«01_k».proof.Proof.Gen.KernelFilterPIdeal.Frame

/-!
# The spectrum of the Hyena filters, for the prompt: the body of a block
-/

@[expose] public section

set_option maxRecDepth 16384

noncomputable section

open Idealize.ShloMosaic Idealize.ShloMosaic.TcCoe Idealize.SL.Sem Idealize.ShloMosaic.StableHlo
open Cert.KernelFilterPIdeal Cert.KernelFilterPIdeal.Gen

namespace Cert.Calls.FilterP

/-- The first hidden layer, of its operands' entries. -/
def lay1 (v0 : FVec Ideal S1x64 .f32) (v1 : FVec Ideal S256x64 .f32) (v3 : FVec Ideal S64x64 .f32) (v18 : FVec Ideal S1x64 .f32) (l : Fin 256) (i : Fin 64) : EReal :=
  Ideal.sin (v0 (ix2 0 i) * (split3 (fun j : Fin 64 => (v1 (ix2 l j) : EReal)) (fun j => v3 (ix2 j i)) + v18 (ix2 0 i)))

/-- The second layer's product. -/
theorem pay3_at (v0 : FVec Ideal S1x64 .f32) (v1 : FVec Ideal S256x64 .f32) (v3 : FVec Ideal S64x64 .f32) (v18 : FVec Ideal S1x64 .f32) (v26 : FVec Ideal S64x64 .f32) (l : Fin 256) (k : Fin 64) :
    k0_pay3 (F := Ideal) v0 v1 v3 v18 v26 (ix2 l k) = split3 (lay1 v0 v1 v3 v18 l) (fun i => v26 (ix2 i k)) := by
  pointwise [k0_pay3, split3, lay1]

/-- The second hidden layer. -/
theorem pay4_at (v25 : FVec Ideal S1x64 .f32) (v39 : FVec Ideal S256x64 .f32) (v40 : FVec Ideal S1x64 .f32) (l : Fin 256) (k : Fin 64) :
    k0_pay4 (F := Ideal) v25 v39 v40 (ix2 l k) = Ideal.sin (v25 (ix2 0 k) * (v39 (ix2 l k) + v40 (ix2 0 k))) := by
  pointwise [k0_pay4]

/-- The decay. -/
theorem pay5_at (v47 : FVec Ideal S256x1 .f32) (v51 : FVec Ideal S1x256 .f32) (l : Fin 256) (y : Fin 256) :
    k0_pay5 (F := Ideal) v47 v51 (ix2 l y) = Ideal.exp ((0 - v47 (ix2 l 0)) * v51 (ix2 0 y)) := by
  pointwise [k0_pay5]

/-- The forward filter. -/
theorem pay6_at (v25 : FVec Ideal S1x64 .f32) (v39 : FVec Ideal S256x64 .f32) (v40 : FVec Ideal S1x64 .f32) (v47 : FVec Ideal S256x1 .f32) (v51 : FVec Ideal S1x256 .f32)
    (v57 : FVec Ideal S64x256 .f32) (l : Fin 256) (y : Fin 256) :
    k0_pay6 (F := Ideal) v25 v39 v40 v47 v51 v57 (ix2 l y) = split3 (fun k : Fin 64 => (k0_pay4 (F := Ideal) v25 v39 v40 (ix2 l k) : EReal)) (fun k => v57 (ix2 k y)) * k0_pay5 (F := Ideal) v47 v51 (ix2 l y) := by
  pointwise [k0_pay6, split3]

/-- The backward filter, but for its first position. -/
theorem pay12_at (v25 : FVec Ideal S1x64 .f32) (v39 : FVec Ideal S256x64 .f32) (v40 : FVec Ideal S1x64 .f32) (v56 : FVec Ideal S256x256 .f32) (v72 : FVec Ideal S64x256 .f32) (l : Fin 256) (y : Fin 256) :
    k0_pay12 (F := Ideal) v56 (k0_pay8 v25 v39 v40) (k0_pay9 v72) (k0_pay10 v25 v39 v40 v72) (k0_pay11 v25 v39 v40 v72) (constant S256x256 .f32 0x00000000#32) (ix2 l y)
      = if l.val = 0 then 0 else split3 (fun k : Fin 64 => (k0_pay4 (F := Ideal) v25 v39 v40 (ix2 l k) : EReal)) (fun k => v72 (ix2 k y)) * v56 (ix2 l y) := by
  have h : (if l.val = 0 then (0 : EReal) else split3 (fun k : Fin 64 => (k0_pay4 (F := Ideal) v25 v39 v40 (ix2 l k) : EReal)) (fun k => v72 (ix2 k y)) * v56 (ix2 l y))
      = Scalar.select (IntOp.cmpi CmpIPredicate.eq (BitVec.ofNat 32 l.val) 0#32) (0 : EReal) (split3 (fun k : Fin 64 => (k0_pay4 (F := Ideal) v25 v39 v40 (ix2 l k) : EReal)) (fun k => v72 (ix2 k y)) * v56 (ix2 l y)) :=
    (Hyena.select_word _ 0 (by omega) (by decide) _ _).symm
  rw [h]
  pointwise [k0_pay12, k0_pay8, k0_pay9, k0_pay10, k0_pay11, k0_pay7, split3]

/-- The product with the real parts' table. -/
theorem pay16_at (v56 v71 : FVec Ideal S256x256 .f32) (v76 : FVec Ideal S256x64 .bf16) (v77 : FVec Ideal S64x256 .bf16) (v81 v82 z : FVec Ideal S256x256 .f32) (a b c : FVec Ideal S256x256 .bf16) (l : Fin 256) (y : Fin 256) :
    k0_pay16 (F := Ideal) v56 v71 v76 v77 v81 v82 z a b c (ix2 l y)
      = (∑ n : Fin 256, (a (ix2 l n) : EReal) * (v71 (ix2 n y) + k0_pay12 (F := Ideal) v56 v76 v77 v81 v82 z (ix2 n y)))
        + ((∑ n : Fin 256, (b (ix2 l n) : EReal) * ((v71 (ix2 n y) + k0_pay12 (F := Ideal) v56 v76 v77 v81 v82 z (ix2 n y)) - (v71 (ix2 n y) + k0_pay12 (F := Ideal) v56 v76 v77 v81 v82 z (ix2 n y))))
          + ∑ n : Fin 256, (c (ix2 l n) : EReal) * (v71 (ix2 n y) + k0_pay12 (F := Ideal) v56 v76 v77 v81 v82 z (ix2 n y))) := by
  pointwise [k0_pay16, k0_pay13]

/-- The product with the imaginary parts' table. -/
theorem pay1718_at (v56 v71 : FVec Ideal S256x256 .f32) (v76 : FVec Ideal S256x64 .bf16) (v77 : FVec Ideal S64x256 .bf16) (v81 v82 z : FVec Ideal S256x256 .f32) (a b c : FVec Ideal S256x256 .bf16) (l : Fin 256) (y : Fin 256) :
    (k0_pay17 (F := Ideal) v56 v71 v76 v77 v81 v82 z a (ix2 l y) : EReal) + k0_pay18 (F := Ideal) v56 v71 v76 v77 v81 v82 z b c (ix2 l y)
      = (∑ n : Fin 256, (a (ix2 l n) : EReal) * (v71 (ix2 n y) - k0_pay12 (F := Ideal) v56 v76 v77 v81 v82 z (ix2 n y)))
        + ((∑ n : Fin 256, (b (ix2 l n) : EReal) * ((v71 (ix2 n y) - k0_pay12 (F := Ideal) v56 v76 v77 v81 v82 z (ix2 n y)) - (v71 (ix2 n y) - k0_pay12 (F := Ideal) v56 v76 v77 v81 v82 z (ix2 n y))))
          + ∑ n : Fin 256, (c (ix2 l n) : EReal) * (v71 (ix2 n y) - k0_pay12 (F := Ideal) v56 v76 v77 v81 v82 z (ix2 n y))) := by
  pointwise [k0_pay17, k0_pay18, k0_pay15, k0_pay14]

/-- The sum of the two filters. -/
theorem pay13_at (v56 v71 : FVec Ideal S256x256 .f32) (v76 : FVec Ideal S256x64 .bf16) (v77 : FVec Ideal S64x256 .bf16) (v81 v82 z : FVec Ideal S256x256 .f32) (l : Fin 256) (y : Fin 256) :
    k0_pay13 (F := Ideal) v56 v71 v76 v77 v81 v82 z (ix2 l y) = v71 (ix2 l y) + k0_pay12 (F := Ideal) v56 v76 v77 v81 v82 z (ix2 l y) := by
  pointwise [k0_pay13]

/-- The stored real parts. -/
theorem pay1_at (v : FVec Ideal S256x256 .f32) (l : Fin 256) (y : Fin 256) : k0_pay1 (F := Ideal) v (ix3 0 l y) = v (ix2 l y) := by
  pointwise [k0_pay1]

/-- The stored imaginary parts: bin 256's real part in the first row. -/
theorem pay2_at (v92 v115 v122 : FVec Ideal S256x256 .f32) (s : FVec Ideal S256x1 .f32) (l : Fin 256) (y : Fin 256) :
    k0_pay2 (F := Ideal) (iota .tc S256x256 32 [0] iota_S256x256_d0_w32) v92 v115 v122 s (ix3 0 l y)
      = if l.val = 0 then ∑ n : Fin 256, (s (ix2 n 0) : EReal) * v92 (ix2 n y) else (v115 (ix2 l y) : EReal) + v122 (ix2 l y) := by
  have h : (if l.val = 0 then ∑ n : Fin 256, (s (ix2 n 0) : EReal) * v92 (ix2 n y) else (v115 (ix2 l y) : EReal) + v122 (ix2 l y))
      = Scalar.select (IntOp.cmpi CmpIPredicate.eq (BitVec.ofNat 32 l.val) 0#32) (∑ n : Fin 256, (s (ix2 n 0) : EReal) * v92 (ix2 n y)) ((v115 (ix2 l y) : EReal) + v122 (ix2 l y)) :=
    (Hyena.select_word _ 0 (by omega) (by decide) _ _).symm
  rw [h]
  pointwise [k0_pay2]

end Cert.Calls.FilterP
-- ==== Proof.Calls.FilterPBlock.lean ====
module

public import proofs.«01_k».proof.Proof.Calls.FilterPBody
public import proofs.«01_k».proof.Proof.Gen.KernelFilterPIdeal.Frame

/-!
# The spectrum of the Hyena filters, for the prompt: one block of the results
-/

@[expose] public section

set_option maxRecDepth 16384

noncomputable section

open Idealize.ShloMosaic Idealize.ShloMosaic.TcCoe Idealize.SL.Sem Idealize.ShloMosaic.StableHlo
open Cert.KernelFilterPIdeal Cert.KernelFilterPIdeal.Gen

namespace Cert.Calls.FilterP

/-- The operands of a block, known at the channel `q` of the filter `o` that column `y` of the block is. -/
structure Known (A : Args) (o : Fin 2) (q : Fin 1024) (y : Fin 256) (x0 : FVec Ideal S256x64 .f32) (x1 : FVec Ideal S64x64 .f32) (x2 : FVec Ideal S1x64 .f32) (x3 : FVec Ideal S64x64 .f32) (x4 : FVec Ideal S1x64 .f32) (x5 : FVec Ideal S2x64 .f32) (x6 : FVec Ideal S64x256 .f32) (x7 : FVec Ideal S64x256 .f32) (x8 : FVec Ideal S256x1 .f32) (x9 : FVec Ideal S1x256 .f32) (x10 : FVec Ideal S256x1 .f32) (x11 : FVec Ideal S256x256 .bf16) (x12 : FVec Ideal S256x256 .bf16) (x13 : FVec Ideal S256x256 .bf16) (x14 : FVec Ideal S256x256 .bf16) : Prop where
  /-- The features. -/
  h0 : ∀ (l : Fin 256) (i : Fin 64), (x0 (ix2 l i) : EReal) = ext (A.z l) i
  /-- The first weights. -/
  h1 : ∀ (i k : Fin 64), (x1 (ix2 i k) : EReal) = ext (fun j => A.w1 j k) i
  /-- The first bias. -/
  h2 : ∀ (k : Fin 64), (x2 (ix2 0 k) : EReal) = A.b1 k
  /-- The second weights. -/
  h3 : ∀ (i k : Fin 64), (x3 (ix2 i k) : EReal) = A.w2 i k
  /-- The second bias. -/
  h4 : ∀ (k : Fin 64), (x4 (ix2 0 k) : EReal) = A.b2 k
  /-- The frequencies. -/
  h5 : ∀ (i : Fin 2) (k : Fin 64), (x5 (ix2 i k) : EReal) = A.f i k
  /-- The third weights of the forward filter. -/
  h6 : ∀ (k : Fin 64), (x6 (ix2 k y) : EReal) = A.w3 k (colF o q)
  /-- The third weights of the backward filter. -/
  h7 : ∀ (k : Fin 64), (x7 (ix2 k y) : EReal) = A.w3 k (colB o q)
  /-- The positions. -/
  h8 : ∀ (l : Fin 256), (x8 (ix2 l 0) : EReal) = A.t l
  /-- The decay rate. -/
  h9 : (x9 (ix2 0 y) : EReal) = A.d q
  /-- The alternating signs. -/
  h10 : ∀ (n : Fin 256), (x10 (ix2 n 0) : EReal) = ((Hyena.sgn n.val : ℝ) : EReal)
  /-- The cosines' table. -/
  h11 : ∀ (k n : Fin 256), (x11 (ix2 k n) : EReal) = ((fwdT k.val n.val : ℝ) : EReal)
  /-- What its rounding drops. -/
  h12 : ∀ (k n : Fin 256), (x12 (ix2 k n) : EReal) = ((fwdT k.val n.val : ℝ) : EReal) - ((fwdT k.val n.val : ℝ) : EReal)
  /-- The sines' table. -/
  h13 : ∀ (k n : Fin 256), (x13 (ix2 k n) : EReal) = ((fwdT (k.val + 256) n.val : ℝ) : EReal)
  /-- What its rounding drops. -/
  h14 : ∀ (k n : Fin 256), (x14 (ix2 k n) : EReal) = ((fwdT (k.val + 256) n.val : ℝ) : EReal) - ((fwdT (k.val + 256) n.val : ℝ) : EReal)

/-- The first frequencies. -/
theorem freq0 (x5 : FVec Ideal S2x64 .f32) (u : FVec Ideal S1x64 .f32) (hu : u = (View.ld (Val := Elt Ideal) (S := S2x64) (e' := .f32) x5 r0_0)) (k : Fin 64) : (u (ix2 0 k) : EReal) = x5 (ix2 0 k) := by
  subst hu
  refine View.ld_unit_apply_of (Val := Elt Ideal) (S := S2x64) (e := .f32) x5 _ _ _ _ (ix2 0 k) fun a => ?_
  match a with
  | ⟨0, _⟩ => rfl
  | ⟨1, _⟩ => exact (Nat.zero_add _).symm

/-- The second frequencies. -/
theorem freq1 (x5 : FVec Ideal S2x64 .f32) (u : FVec Ideal S1x64 .f32) (hu : u = (View.ld (Val := Elt Ideal) (S := S2x64) (e' := .f32) x5 r0_4)) (k : Fin 64) : (u (ix2 0 k) : EReal) = x5 (ix2 1 k) := by
  subst hu
  refine View.ld_unit_apply_of (Val := Elt Ideal) (S := S2x64) (e := .f32) x5 _ _ _ _ (ix2 1 k) fun a => ?_
  match a with
  | ⟨0, _⟩ => rfl
  | ⟨1, _⟩ => exact (Nat.zero_add _).symm

variable {A : Args} {o : Fin 2} {q : Fin 1024} {y : Fin 256} {x0 : FVec Ideal S256x64 .f32} {x1 : FVec Ideal S64x64 .f32} {x2 : FVec Ideal S1x64 .f32} {x3 : FVec Ideal S64x64 .f32} {x4 : FVec Ideal S1x64 .f32} {x5 : FVec Ideal S2x64 .f32} {x6 : FVec Ideal S64x256 .f32} {x7 : FVec Ideal S64x256 .f32} {x8 : FVec Ideal S256x1 .f32} {x9 : FVec Ideal S1x256 .f32} {x10 : FVec Ideal S256x1 .f32} {x11 : FVec Ideal S256x256 .bf16} {x12 : FVec Ideal S256x256 .bf16} {x13 : FVec Ideal S256x256 .bf16} {x14 : FVec Ideal S256x256 .bf16}
  (h : Known A o q y x0 x1 x2 x3 x4 x5 x6 x7 x8 x9 x10 x11 x12 x13 x14)
include h

/-- The first hidden layer. -/
theorem lay1_eq (l : Fin 256) : lay1 (View.ld (Val := Elt Ideal) (S := S2x64) (e' := .f32) x5 r0_0) x0 x1 x2 l = khid1 A l := by
  funext i
  unfold lay1 khid1
  simp only [freq0 x5 _ rfl, h.h0, h.h1, h.h2, h.h5]

/-- The second hidden layer. -/
theorem lay2_eq (l : Fin 256) (k : Fin 64) : (k0_pay4 (F := Ideal) (View.ld (Val := Elt Ideal) (S := S2x64) (e' := .f32) x5 r0_4) (k0_pay3 (F := Ideal) (View.ld (Val := Elt Ideal) (S := S2x64) (e' := .f32) x5 r0_0) x0 x1 x2 x3) x4 (ix2 l k) : EReal) = khid2 A l k := by
  refine (pay4_at _ _ _ l k).trans ?_
  rw [pay3_at, lay1_eq h]
  unfold khid2
  simp only [freq1 x5 _ rfl, h.h3, h.h4, h.h5]

/-- The decay. -/
theorem decay_eq (l : Fin 256) : (k0_pay5 (F := Ideal) x8 x9 (ix2 l y) : EReal) = Ideal.exp ((0 - A.t l) * A.d q) := by
  refine (pay5_at _ _ l y).trans ?_
  rw [h.h8, h.h9]

/-- The forward filter. -/
theorem fwd_eq (l : Fin 256) : (k0_pay6 (F := Ideal) (View.ld (Val := Elt Ideal) (S := S2x64) (e' := .f32) x5 r0_4) (k0_pay3 (F := Ideal) (View.ld (Val := Elt Ideal) (S := S2x64) (e' := .f32) x5 r0_0) x0 x1 x2 x3) x4 x8 x9 x6 (ix2 l y) : EReal) = kfilt A (colF o q) q l := by
  refine (pay6_at _ _ _ _ _ _ l y).trans ?_
  unfold kfilt
  rw [decay_eq h]
  simp only [lay2_eq h, h.h6]

/-- The backward filter. -/
theorem bwd_eq (l : Fin 256) : (k0_pay12 (F := Ideal) (k0_pay5 x8 x9) (k0_pay8 (View.ld (Val := Elt Ideal) (S := S2x64) (e' := .f32) x5 r0_4) (k0_pay3 (F := Ideal) (View.ld (Val := Elt Ideal) (S := S2x64) (e' := .f32) x5 r0_0) x0 x1 x2 x3) x4) (k0_pay9 x7) (k0_pay10 (View.ld (Val := Elt Ideal) (S := S2x64) (e' := .f32) x5 r0_4) (k0_pay3 (F := Ideal) (View.ld (Val := Elt Ideal) (S := S2x64) (e' := .f32) x5 r0_0) x0 x1 x2 x3) x4 x7) (k0_pay11 (View.ld (Val := Elt Ideal) (S := S2x64) (e' := .f32) x5 r0_4) (k0_pay3 (F := Ideal) (View.ld (Val := Elt Ideal) (S := S2x64) (e' := .f32) x5 r0_0) x0 x1 x2 x3) x4 x7) (constant S256x256 .f32 0x00000000#32) (ix2 l y) : EReal)
    = kback A o q l := by
  refine (pay12_at _ _ _ _ _ l y).trans ?_
  unfold kback kfilt
  rw [decay_eq h]
  simp only [lay2_eq h, h.h7]

/-- The block of real parts. -/
theorem re_block (l : Fin 256) : (out0_15 (F := Ideal) x0 x1 x2 x3 x4 x5 x6 x7 x8 x9 x10 x11 x12 x13 x14 (ix3 0 l y) : EReal) = kreAt A o l q := by
  unfold_out out0_15
  frame_out
  refine (pay1_at _ l y).trans ((pay16_at _ _ _ _ _ _ _ _ _ _ l y).trans ?_)
  unfold kreAt split3
  simp only [fwd_eq h, bwd_eq h, h.h11, h.h12]

/-- The block of imaginary parts. -/
theorem im_block (l : Fin 256) : (out0_16 (F := Ideal) x0 x1 x2 x3 x4 x5 x6 x7 x8 x9 x10 x11 x12 x13 x14 (ix3 0 l y) : EReal) = kimAt A o l q := by
  unfold_out out0_16
  frame_out
  refine (pay2_at _ _ _ _ l y).trans ?_
  unfold kimAt
  rw [pay1718_at]
  simp only [pay13_at, fwd_eq h, bwd_eq h, h.h10, h.h13, h.h14, split3]

end Cert.Calls.FilterP
-- ==== Proof.Calls.FilterPHost.lean ====
module

public import proofs.«01_k».proof.Proof.Calls.FilterPSpec
public import proofs.«01_k».proof.Proof.Hyena.Word
public import proofs.«01_k».proof.Proof.Hyena.Pay
public import proofs.«01_k».proof.Proof.Gen.KernelFilterPIdeal.Frame
public import Idealize.ShloMosaic.Lib.StableHlo.ReadAt
public import Idealize.ShloMosaic.Lib.KernelVsHost

/-!
# The spectrum of the Hyena filters, for the prompt: what the host lays out
-/

@[expose] public section

set_option maxRecDepth 16384

noncomputable section

open Idealize.ShloMosaic Idealize.ShloMosaic.TcCoe Idealize.SL.Sem Idealize.ShloMosaic.StableHlo
open Cert.KernelFilterPIdeal Cert.KernelFilterPIdeal.Gen

namespace Cert.Calls.FilterP

variable (m : (ℓ : Loc nD τ sig) → Buf (Elt Ideal) ℓ)

set_option maxHeartbeats 4000000 in
/-- The decay rates. -/
theorem rates (c : Dev nD) (q : Fin 1024) : (V m c main_v58 : FVec Ideal S1x1024 .f32) (ix2 0 q) = (m ((c.tc : Thread nD τ).loc main_arg2) : FVec Ideal S1024 .f32) (ix1 q) := by
  have h : V m c main_v58 = (shapeCast S1x1024 (m ((c.tc : Thread nD τ).loc main_arg2) : FVec Ideal S1024 .f32) shapeCasts_S1024_S1x1024 : FVec Ideal S1x1024 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The first bias. -/
theorem bias1 (c : Dev nD) (k : Fin 64) : (V m c main_v59 : FVec Ideal S1x64 .f32) (ix2 0 k) = (m ((c.tc : Thread nD τ).loc main_arg4) : FVec Ideal S64 .f32) (ix1 k) := by
  have h : V m c main_v59 = (shapeCast S1x64 (m ((c.tc : Thread nD τ).loc main_arg4) : FVec Ideal S64 .f32) shapeCasts_S64_S1x64 : FVec Ideal S1x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The second bias. -/
theorem bias2 (c : Dev nD) (k : Fin 64) : (V m c main_v60 : FVec Ideal S1x64 .f32) (ix2 0 k) = (m ((c.tc : Thread nD τ).loc main_arg6) : FVec Ideal S64 .f32) (ix1 k) := by
  have h : V m c main_v60 = (shapeCast S1x64 (m ((c.tc : Thread nD τ).loc main_arg6) : FVec Ideal S64 .f32) shapeCasts_S64_S1x64 : FVec Ideal S1x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

set_option maxHeartbeats 4000000 in
/-- The positions. -/
theorem positions (c : Dev nD) (l : Fin 256) : (V m c main_v61 : FVec Ideal S256x1 .f32) (ix2 l 0) = (m ((c.tc : Thread nD τ).loc main_arg1) : FVec Ideal S256 .f32) (ix1 l) := by
  have h : V m c main_v61 = (shapeCast S256x1 (m ((c.tc : Thread nD τ).loc main_arg1) : FVec Ideal S256 .f32) shapeCasts_S256_S256x1 : FVec Ideal S256x1 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  pointwise

/-- The features, then zeros. -/
def padZ (z : FVec Ideal S256x33 .f32) : FVec Ideal S256x64 .f32 :=
  concatenate S256x64 1 [⟨S256x33, z⟩, ⟨S256x31, (broadcastInDim S256x31 ![] bcast_S_S256x31 (constant S_ .f32 0x00000000#32) : FVec Ideal S256x31 .f32)⟩] concatenates_S256x33_S256x31_S256x64_d1

/-- The widths of its two parts. -/
def padZPieces : List Shape := [S256x33, S256x31]

/-- The padded features, entry by entry. -/
theorem padZ_at (z : FVec Ideal S256x33 .f32) (l : Fin 256) (i : Fin 64) : (padZ z (ix2 l i) : EReal) = ext (fun j => z (ix2 l j)) i := by
  unfold padZ ext
  by_cases h : i.val < 33
  · rw [dif_pos h]
    exact cat_piece (t := S256x64) 1 _ padZPieces rfl _ _ 0 (by simp only [List.length_cons, List.length_nil]; decide) S256x33 _ rfl rfl 0 (by decide +kernel)
      (ix2 l (⟨i.val, h⟩ : Fin 33)) (off_axis2 _ _) (by show 0 + i.val = i.val; omega)
  · rw [dif_neg h]
    refine (cat_piece (t := S256x64) 1 _ padZPieces rfl _ _ 1 (by simp only [List.length_cons, List.length_nil]; decide) S256x31 _ rfl rfl 33 (by decide +kernel)
      (ix2 l (⟨i.val - 33, by omega⟩ : Fin 31)) (off_axis2 _ _) (by show 33 + (i.val - 33) = i.val; omega)).trans ?_
    pointwise

/-- The first weights, then zeros. -/
def padW (w : FVec Ideal S33x64 .f32) : FVec Ideal S64x64 .f32 :=
  pad S64x64 ![0, 0] ![31, 0] ![0, 0] w (sitofp .f32 (constantI S_ 32 0#32) : FVec Ideal S_ .f32) pads_S33x64_S64x64_0310_000 h_S_

/-- The padding is zero. -/
theorem fill (i : S_.Idx) : ((sitofp .f32 (constantI S_ 32 0#32) : FVec Ideal S_ .f32) i : EReal) = 0 := by
  exact sitofp_zero

/-- The padded weights, entry by entry. -/
theorem padW_at (w : FVec Ideal S33x64 .f32) (i k : Fin 64) : (padW w (ix2 i k) : EReal) = ext (fun j => w (ix2 j k)) i := by
  unfold padW ext
  by_cases h : i.val < 33
  · rw [dif_pos h]
    refine pad_apply_of_inside _ _ _ w _ _ _ _ (ix2 (⟨i.val, h⟩ : Fin 33) k) (fun a => ?_)
    match a with
    | ⟨0, _⟩ => show i.val = 0 + i.val * (0 + 1); omega
    | ⟨1, _⟩ => show k.val = 0 + k.val * (0 + 1); omega
  · rw [dif_neg h]
    refine (pad_apply_of_not_inside _ _ _ w _ _ _ _ 0 (fun hin => h ?_)).trans (fill _)
    have e : (i.val - 0) / (0 + 1) < 33 := hin.2.2
    omega

set_option maxHeartbeats 4000000 in
/-- The features as the kernel reads them. -/
theorem features (c : Dev nD) (l : Fin 256) (i : Fin 64) : ((V m c main_v56 : FVec Ideal S256x64 .f32) (ix2 l i) : EReal)
    = ext (fun j => (m ((c.tc : Thread nD τ).loc main_arg0) : FVec Ideal S256x33 .f32) (ix2 l j)) i := by
  have h : V m c main_v56 = padZ (m ((c.tc : Thread nD τ).loc main_arg0) : FVec Ideal S256x33 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  exact padZ_at _ l i

set_option maxHeartbeats 4000000 in
/-- The first weights as the kernel reads them. -/
theorem weights (c : Dev nD) (i k : Fin 64) : ((V m c main_v57 : FVec Ideal S64x64 .f32) (ix2 i k) : EReal)
    = ext (fun j => (m ((c.tc : Thread nD τ).loc main_arg3) : FVec Ideal S33x64 .f32) (ix2 j k)) i := by
  have h : V m c main_v57 = padW (m ((c.tc : Thread nD τ).loc main_arg3) : FVec Ideal S33x64 .f32) := by
    show StableHlo.after _ _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append]
    after_results
    rfl
  rw [h]
  exact padW_at _ i k

end Cert.Calls.FilterP
-- ==== Proof.Calls.FilterPTables.lean ====
module

public import proofs.«01_k».proof.Proof.Calls.FilterPSpec
public import proofs.«01_k».proof.Proof.Hyena.Word
public import proofs.«01_k».proof.Proof.Hyena.Pay
public import proofs.«01_k».proof.Proof.Gen.KernelFilterPIdeal.Frame
public import Idealize.ShloMosaic.Lib.StableHlo.ReadAt
public import Idealize.ShloMosaic.Lib.KernelVsHost

/-!
# The spectrum of the Hyena filters, for the prompt: the tables the host prepares
-/

@[expose] public section

set_option maxRecDepth 16384

noncomputable section

open Idealize.ShloMosaic Idealize.ShloMosaic.TcCoe Idealize.SL.Sem Idealize.ShloMosaic.StableHlo
open Cert.KernelFilterPIdeal Cert.KernelFilterPIdeal.Gen Cert.Hyena

namespace Cert.Calls.FilterP

variable (m : (ℓ : Loc nD τ sig) → Buf (Elt Ideal) ℓ)

set_option maxHeartbeats 4000000 in
/-- The cosines' table. -/
theorem cos_hi (c : Dev nD) (k n : Fin 256) : (V m c main_v47 : FVec Ideal S256x256 .bf16) (ix2 k n) = ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hm : k.val * n.val < 2 ^ 31 := by nlinarith [k.isLt, n.isLt]
  unfold fwdT
  rw [if_pos k.isLt, floorMod_word _ 512 hm (by decide) (by decide), sitofp_word _ _ (by omega), step_at, cos_host]

set_option maxHeartbeats 4000000 in
/-- What the rounding of the cosines' table drops. -/
theorem cos_lo (c : Dev nD) (k n : Fin 256) : (V m c main_v50 : FVec Ideal S256x256 .bf16) (ix2 k n) = ((fwdT k.val n.val : ℝ) : EReal) - ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hm : k.val * n.val < 2 ^ 31 := by nlinarith [k.isLt, n.isLt]
  unfold fwdT
  rw [if_pos k.isLt, floorMod_word _ 512 hm (by decide) (by decide), sitofp_word _ _ (by omega), step_at, cos_host]

set_option maxHeartbeats 4000000 in
/-- The sines' table. -/
theorem sin_hi (c : Dev nD) (k n : Fin 256) : (V m c main_v51 : FVec Ideal S256x256 .bf16) (ix2 k n) = ((fwdT (k.val + 256) n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hm : k.val * n.val < 2 ^ 31 := by nlinarith [k.isLt, n.isLt]
  have hn : n.val < 2 ^ 31 := by omega
  unfold fwdT
  rw [if_neg (by omega : ¬ k.val + 256 < 256), Nat.add_sub_cancel, floorMod_word _ 512 hm (by decide) (by decide), sitofp_word _ _ (by omega), step_at, sin_host,
    floorMod_word _ 2 hn (by decide) (by decide), select_word _ 0 (by omega) (by decide), select_word _ 0 (by omega) (by decide),
    neg_one_bits, sgn_host]
  split <;> simp

set_option maxHeartbeats 4000000 in
/-- What the rounding of the sines' table drops. -/
theorem sin_lo (c : Dev nD) (k n : Fin 256) : (V m c main_v54 : FVec Ideal S256x256 .bf16) (ix2 k n) = ((fwdT (k.val + 256) n.val : ℝ) : EReal) - ((fwdT (k.val + 256) n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hm : k.val * n.val < 2 ^ 31 := by nlinarith [k.isLt, n.isLt]
  have hn : n.val < 2 ^ 31 := by omega
  unfold fwdT
  rw [if_neg (by omega : ¬ k.val + 256 < 256), Nat.add_sub_cancel, floorMod_word _ 512 hm (by decide) (by decide), sitofp_word _ _ (by omega), step_at, sin_host,
    floorMod_word _ 2 hn (by decide) (by decide), select_word _ 0 (by omega) (by decide), select_word _ 0 (by omega) (by decide),
    neg_one_bits, sgn_host]
  split <;> simp

set_option maxHeartbeats 4000000 in
/-- The alternating signs. -/
theorem sgn_at (c : Dev nD) (n : Fin 256) : (V m c main_v62 : FVec Ideal S256x1 .f32) (ix2 n 0) = ((sgn n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hn : n.val < 2 ^ 31 := by omega
  rw [floorMod_word _ 2 hn (by decide) (by decide), select_word _ 0 (by omega) (by decide), neg_one_bits, sgn_host]

end Cert.Calls.FilterP
-- ==== Proof.Calls.FilterPKernel.lean ====
module

public import proofs.«01_k».proof.Proof.Calls.FilterPBlock
public import proofs.«01_k».proof.Proof.Calls.FilterPHost
public import proofs.«01_k».proof.Proof.Calls.FilterPTables
public import proofs.«01_k».proof.Proof.Gen.KernelFilterPIdeal.Value
public import proofs.«01_k».proof.Proof.Gen.KernelFilterPIdeal.Frame
public import Idealize.ShloMosaic.Lib.StableHlo.ReadAt

/-!
# The spectrum of the Hyena filters, for the prompt: the kernel's results
-/

@[expose] public section

set_option maxRecDepth 16384

noncomputable section

open Idealize.ShloMosaic Idealize.ShloMosaic.TcCoe Idealize.SL.Sem Idealize.ShloMosaic.StableHlo
open Cert.KernelFilterPIdeal Cert.KernelFilterPIdeal.Gen

namespace Cert.Calls.FilterP

variable (m : (ℓ : Loc nD τ sig) → Buf (Elt Ideal) ℓ)

/-- The arguments, entry by entry. -/
def kargs (c : Dev nD) : Args where
  z := fun l i => (m ((c.tc : Thread nD τ).loc main_arg0) : FVec Ideal S256x33 .f32) (ix2 l i)
  t := fun l => (m ((c.tc : Thread nD τ).loc main_arg1) : FVec Ideal S256 .f32) (ix1 l)
  d := fun q => (m ((c.tc : Thread nD τ).loc main_arg2) : FVec Ideal S1024 .f32) (ix1 q)
  w1 := fun i k => (m ((c.tc : Thread nD τ).loc main_arg3) : FVec Ideal S33x64 .f32) (ix2 i k)
  b1 := fun k => (m ((c.tc : Thread nD τ).loc main_arg4) : FVec Ideal S64 .f32) (ix1 k)
  w2 := fun i k => (m ((c.tc : Thread nD τ).loc main_arg5) : FVec Ideal S64x64 .f32) (ix2 i k)
  b2 := fun k => (m ((c.tc : Thread nD τ).loc main_arg6) : FVec Ideal S64 .f32) (ix1 k)
  w3 := fun k n => (m ((c.tc : Thread nD τ).loc main_arg7) : FVec Ideal S64x4096 .f32) (ix2 k n)
  f := fun i k => (m ((c.tc : Thread nD τ).loc main_arg8) : FVec Ideal S2x64 .f32) (ix2 i k)

/-- The real parts, as the kernel forms them. -/
def result0 (c : Dev nD) : FVec Ideal S2x256x1024 .f32 := fun j => kreAt (kargs m c) (j 0) (j 1) (j 2)

/-- The imaginary parts, as the kernel forms them. -/
def result1 (c : Dev nD) : FVec Ideal S2x256x1024 .f32 := fun j => kimAt (kargs m c) (j 0) (j 1) (j 2)

/-- The blocks the grid points read and write. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, t.val / 4 * 8 + t.val % 4] ∧ win0_7.index t = ![0, t.val / 4 * 8 + 4 + t.val % 4] ∧ win0_8.index t = ![0, 0] ∧ win0_9.index t = ![0, t.val % 4] ∧ win0_10.index t = ![0, 0] ∧ win0_11.index t = ![0, 0] ∧ win0_12.index t = ![0, 0] ∧ win0_13.index t = ![0, 0] ∧ win0_14.index t = ![0, 0] ∧ win0_15.index t = ![t.val / 4, 0, t.val % 4] ∧ win0_16.index t = ![t.val / 4, 0, t.val % 4] := (by decide +kernel : ∀ t : Fin grid0.N, _)

/-- The block of window 0 is its whole array. -/
theorem block0 (c : Dev nD) (t : Fin cfg0.N) (l : Fin 256) (i : Fin 64) : (iblk m c 0 t : FVec Ideal S256x64 .f32) (ix2 l i) = (V m c main_v56 : FVec Ideal S256x64 .f32) (ix2 l i) := by
  blk_ext [iblk, idx t]

/-- The block of window 1 is its whole array. -/
theorem block1 (c : Dev nD) (t : Fin cfg0.N) (i k : Fin 64) : (iblk m c 1 t : FVec Ideal S64x64 .f32) (ix2 i k) = (V m c main_v57 : FVec Ideal S64x64 .f32) (ix2 i k) := by
  blk_ext [iblk, idx t]

/-- The block of window 2 is its whole array. -/
theorem block2 (c : Dev nD) (t : Fin cfg0.N) (k : Fin 64) : (iblk m c 2 t : FVec Ideal S1x64 .f32) (ix2 0 k) = (V m c main_v59 : FVec Ideal S1x64 .f32) (ix2 0 k) := by
  blk_ext [iblk, idx t]

/-- The block of window 3 is its whole array. -/
theorem block3 (c : Dev nD) (t : Fin cfg0.N) (i k : Fin 64) : (iblk m c 3 t : FVec Ideal S64x64 .f32) (ix2 i k) = (V m c main_arg5 : FVec Ideal S64x64 .f32) (ix2 i k) := by
  blk_ext [iblk, idx t]

/-- The block of window 4 is its whole array. -/
theorem block4 (c : Dev nD) (t : Fin cfg0.N) (k : Fin 64) : (iblk m c 4 t : FVec Ideal S1x64 .f32) (ix2 0 k) = (V m c main_v60 : FVec Ideal S1x64 .f32) (ix2 0 k) := by
  blk_ext [iblk, idx t]

/-- The block of window 5 is its whole array. -/
theorem block5 (c : Dev nD) (t : Fin cfg0.N) (i : Fin 2) (k : Fin 64) : (iblk m c 5 t : FVec Ideal S2x64 .f32) (ix2 i k) = (V m c main_arg8 : FVec Ideal S2x64 .f32) (ix2 i k) := by
  blk_ext [iblk, idx t]

/-- The block of window 8 is its whole array. -/
theorem block8 (c : Dev nD) (t : Fin cfg0.N) (l : Fin 256) : (iblk m c 8 t : FVec Ideal S256x1 .f32) (ix2 l 0) = (V m c main_v61 : FVec Ideal S256x1 .f32) (ix2 l 0) := by
  blk_ext [iblk, idx t]

/-- The block of window 10 is its whole array. -/
theorem block10 (c : Dev nD) (t : Fin cfg0.N) (n : Fin 256) : (iblk m c 10 t : FVec Ideal S256x1 .f32) (ix2 n 0) = (V m c main_v62 : FVec Ideal S256x1 .f32) (ix2 n 0) := by
  blk_ext [iblk, idx t]

/-- The block of window 11 is its whole array. -/
theorem block11 (c : Dev nD) (t : Fin cfg0.N) (k n : Fin 256) : (iblk m c 11 t : FVec Ideal S256x256 .bf16) (ix2 k n) = (V m c main_v47 : FVec Ideal S256x256 .bf16) (ix2 k n) := by
  blk_ext [iblk, idx t]

/-- The block of window 12 is its whole array. -/
theorem block12 (c : Dev nD) (t : Fin cfg0.N) (k n : Fin 256) : (iblk m c 12 t : FVec Ideal S256x256 .bf16) (ix2 k n) = (V m c main_v50 : FVec Ideal S256x256 .bf16) (ix2 k n) := by
  blk_ext [iblk, idx t]

/-- The block of window 13 is its whole array. -/
theorem block13 (c : Dev nD) (t : Fin cfg0.N) (k n : Fin 256) : (iblk m c 13 t : FVec Ideal S256x256 .bf16) (ix2 k n) = (V m c main_v51 : FVec Ideal S256x256 .bf16) (ix2 k n) := by
  blk_ext [iblk, idx t]

/-- The block of window 14 is its whole array. -/
theorem block14 (c : Dev nD) (t : Fin cfg0.N) (k n : Fin 256) : (iblk m c 14 t : FVec Ideal S256x256 .bf16) (ix2 k n) = (V m c main_v54 : FVec Ideal S256x256 .bf16) (ix2 k n) := by
  blk_ext [iblk, idx t]

/-- The block of the forward filter's weights. -/
theorem block6 (c : Dev nD) (t : Fin cfg0.N) (k : Fin 64) (y : Fin 256) (n : Fin 4096) (hn : n.val = t.val / 4 * 2048 + (t.val % 4 * 256 + y.val)) :
    (iblk m c 6 t : FVec Ideal S64x256 .f32) (ix2 k y) = (V m c main_arg7 : FVec Ideal S64x4096 .f32) (ix2 k n) := by
  blk_ext [iblk, idx t]

/-- The block of the backward filter's weights. -/
theorem block7 (c : Dev nD) (t : Fin cfg0.N) (k : Fin 64) (y : Fin 256) (n : Fin 4096) (hn : n.val = t.val / 4 * 2048 + 1024 + (t.val % 4 * 256 + y.val)) :
    (iblk m c 7 t : FVec Ideal S64x256 .f32) (ix2 k y) = (V m c main_arg7 : FVec Ideal S64x4096 .f32) (ix2 k n) := by
  blk_ext [iblk, idx t]

/-- The block of the decay rates. -/
theorem block9 (c : Dev nD) (t : Fin cfg0.N) (y : Fin 256) (q : Fin 1024) (hq : q.val = t.val % 4 * 256 + y.val) :
    (iblk m c 9 t : FVec Ideal S1x256 .f32) (ix2 0 y) = (V m c main_v58 : FVec Ideal S1x1024 .f32) (ix2 0 q) := by
  blk_ext [iblk, idx t]

/-- A grid point's operands are known. -/
theorem known (c : Dev nD) (t : Fin cfg0.N) (y : Fin 256) (o : Fin 2) (q : Fin 1024) (ho : o.val = t.val / 4) (hq : q.val = t.val % 4 * 256 + y.val) :
    Known (kargs m c) o q y (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  h0 l i := (block0 m c t l i).trans (features m c l i)
  h1 i k := (block1 m c t i k).trans (weights m c i k)
  h2 k := (block2 m c t k).trans (bias1 m c k)
  h3 i k := (block3 m c t i k).trans (congrFun (V_main_arg5 m c) (ix2 i k))
  h4 k := (block4 m c t k).trans (bias2 m c k)
  h5 i k := (block5 m c t i k).trans (congrFun (V_main_arg8 m c) (ix2 i k))
  h6 k := (block6 m c t k y (colF o q) (by show o.val * 2048 + q.val = _; omega)).trans (congrFun (V_main_arg7 m c) (ix2 k _))
  h7 k := (block7 m c t k y (colB o q) (by show o.val * 2048 + 1024 + q.val = _; omega)).trans (congrFun (V_main_arg7 m c) (ix2 k _))
  h8 l := (block8 m c t l).trans (positions m c l)
  h9 := (block9 m c t y q hq).trans (rates m c q)
  h10 n := (block10 m c t n).trans (sgn_at m c n)
  h11 k n := (block11 m c t k n).trans (cos_hi m c k n)
  h12 k n := (block12 m c t k n).trans (cos_lo m c k n)
  h13 k n := (block13 m c t k n).trans (sin_hi m c k n)
  h14 k n := (block14 m c t k n).trans (sin_lo m c k n)

/-- What one grid point stores of the real parts. -/
theorem point0_at (c : Dev nD) (t : Fin cfg0.N) (b : Fin 256) (d : Fin 256) (o : Fin 2) (q : Fin 1024) (ho : o.val = t.val / 4) (hq : q.val = t.val % 4 * 256 + d.val) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 b d) : EReal) = kreAt (kargs m c) o b q :=
  re_block (known m c t d o q ho hq) b

/-- What one grid point stores of the real parts, at the place it stores it. -/
theorem point0 (c : Dev nD) (t : Fin cfg0.N) (y) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = result0 m c (((cfg0.win 15).blk t).view.emb y) := by
  have hy : y = ix3 (0 : Fin 1) (y 1) (y 2) := (eq_ix3 y).trans (congrArg (fun a : Fin 1 => ix3 a (y 1) (y 2)) (Subsingleton.elim (α := Fin 1) _ _))
  have e1 : (((cfg0.win 15).blk t).view.emb y) 1 = y 1 := Fin.ext (by blk_simp [idx t])
  refine (congrArg _ hy).trans ((point0_at m c t (y 1) (y 2) (((cfg0.win 15).blk t).view.emb y 0) (((cfg0.win 15).blk t).view.emb y 2) ?_ ?_).trans ?_)
  · blk_simp [idx t]
  · blk_simp [idx t]
  · unfold result0
    rw [e1]

/-- The array of real parts after the run. -/
theorem final0 (c : Dev nD) : (dats m 0 c).arrAt 15 (cfgs 0).N = result0 m c := by
  refine (dats m 0 c).arrAt_eq_of_covers 15 _ (by decide +kernel) fun t _ y => ?_
  blk_simp
  rw [after0_15]
  exact point0 m c t y

/-- What one grid point stores of the imaginary parts. -/
theorem point1_at (c : Dev nD) (t : Fin cfg0.N) (b : Fin 256) (d : Fin 256) (o : Fin 2) (q : Fin 1024) (ho : o.val = t.val / 4) (hq : q.val = t.val % 4 * 256 + d.val) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 b d) : EReal) = kimAt (kargs m c) o b q :=
  im_block (known m c t d o q ho hq) b

/-- What one grid point stores of the imaginary parts, at the place it stores it. -/
theorem point1 (c : Dev nD) (t : Fin cfg0.N) (y) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = result1 m c (((cfg0.win 16).blk t).view.emb y) := by
  have hy : y = ix3 (0 : Fin 1) (y 1) (y 2) := (eq_ix3 y).trans (congrArg (fun a : Fin 1 => ix3 a (y 1) (y 2)) (Subsingleton.elim (α := Fin 1) _ _))
  have e1 : (((cfg0.win 16).blk t).view.emb y) 1 = y 1 := Fin.ext (by blk_simp [idx t])
  refine (congrArg _ hy).trans ((point1_at m c t (y 1) (y 2) (((cfg0.win 16).blk t).view.emb y 0) (((cfg0.win 16).blk t).view.emb y 2) ?_ ?_).trans ?_)
  · blk_simp [idx t]
  · blk_simp [idx t]
  · unfold result1
    rw [e1]

/-- The array of imaginary parts after the run. -/
theorem final1 (c : Dev nD) : (dats m 0 c).arrAt 16 (cfgs 0).N = result1 m c := by
  refine (dats m 0 c).arrAt_eq_of_covers 16 _ (by decide +kernel) fun t _ y => ?_
  blk_simp
  rw [after0_16]
  exact point1 m c t y

/-- The kernel's run: its result arrays hold the two results, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v63_0) = result0 m c
      ∧ r.2.mem ((c.tc : Thread nD τ).loc main_v63_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 15).trans (final0 m c), ((h.1 c).1 16).trans (final1 m c), h.2 c⟩)
    (θ_run_and (run_main m ρ) (unchanged m ρ))

end Cert.Calls.FilterP
-- ==== Proof.Calls.FilterPRef.lean ====
module

public import proofs.«01_k».proof.Proof.Calls.FilterPSpec
public import proofs.«01_k».proof.Proof.Hyena.Word
public import proofs.«01_k».proof.Proof.Hyena.Equation
public import proofs.«01_k».proof.Proof.Gen.ReferenceFilterPIdeal.Run
public import Idealize.ShloMosaic.Lib.KernelVsHost

/-!
# The spectrum of the Hyena filters, for the prompt: the reference's results
-/

@[expose] public section

set_option maxRecDepth 16384

noncomputable section

open Idealize.ShloMosaic Idealize.ShloMosaic.TcCoe Idealize.SL.Sem Idealize.ShloMosaic.StableHlo
open Cert.ReferenceFilterPIdeal Cert.ReferenceFilterPIdeal.Gen Cert.ReferenceFilterPIdeal.Value

namespace Cert.Calls.FilterP

/-- Arguments, of their arrays. -/
def argsOf (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : Args where
  z := fun l i => z (ix2 l i)
  t := fun l => t (ix1 l)
  d := fun q => d (ix1 q)
  w1 := fun i k => w1 (ix2 i k)
  b1 := fun k => b1 (ix1 k)
  w2 := fun i k => w2 (ix2 i k)
  b2 := fun k => b2 (ix1 k)
  w3 := fun k n => w3 (ix2 k n)
  f := fun i k => f (ix2 i k)

/-- The first hidden layer. -/
def layer1 (z : FVec Ideal S256x33 .f32) (w1 : FVec Ideal S33x64 .f32) (b1 : FVec Ideal S64 .f32) (f : FVec Ideal S2x64 .f32) : FVec Ideal S256x64 .f32 := Host.sin (mulf (broadcastInDim S256x64 ![0, 1] bcast_S1x64_S256x64_0_1 (broadcastInDim S1x64 ![1] bcast_S64_S1x64_1 (shapeCast _ (extractStridedSlice S1x64 ![0, 0] f slices_S2x64_S1x64_0_0) shapeCasts_S1x64_S64))) (addf (Host.dotGeneral dot_S256x33_S33x64_S256x64_1_0_0_1_n_n none z w1) (broadcastInDim S256x64 ![0, 1] bcast_S1x64_S256x64_0_1 (broadcastInDim S1x64 ![1] bcast_S64_S1x64_1 b1))))

/-- The second hidden layer. -/
def layer2 (z : FVec Ideal S256x33 .f32) (w1 : FVec Ideal S33x64 .f32) (b1 : FVec Ideal S64 .f32) (w2 : FVec Ideal S64x64 .f32) (b2 : FVec Ideal S64 .f32) (f : FVec Ideal S2x64 .f32) : FVec Ideal S256x64 .f32 := Host.sin (mulf (broadcastInDim S256x64 ![0, 1] bcast_S1x64_S256x64_0_1 (broadcastInDim S1x64 ![1] bcast_S64_S1x64_1 (shapeCast _ (extractStridedSlice S1x64 ![1, 0] f slices_S2x64_S1x64_1_0) shapeCasts_S1x64_S64))) (addf (Host.dotGeneral dot_S256x64_S64x64_S256x64_1_0_0_1_n_n none (layer1 z w1 b1 f) w2) (broadcastInDim S256x64 ![0, 1] bcast_S1x64_S256x64_0_1 (broadcastInDim S1x64 ![1] bcast_S64_S1x64_1 b2))))

/-- The network's result. -/
def layer3 (z : FVec Ideal S256x33 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S256x4096 .f32 := Host.dotGeneral dot_S256x64_S64x4096_S256x4096_1_0_0_1_n_n none (layer2 z w1 b1 w2 b2 f) w3

/-- The decay. -/
def decayV (t : FVec Ideal S256 .f32) (d : FVec Ideal S1024 .f32) : FVec Ideal S256x1024 .f32 := Host.exp (mulf (broadcastInDim S256x1024 ![0, 1] bcast_S256x1_S256x1024_0_1 (Host.negf (broadcastInDim S256x1 ![0] bcast_S256_S256x1_0 t))) (broadcastInDim S256x1024 ![0, 1] bcast_S1x1024_S256x1024_0_1 (broadcastInDim S1x1024 ![1] bcast_S1024_S1x1024_1 d)))

/-- The filters. -/
def net (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S256x2x2x1024 .f32 := mulf (shapeCast _ (layer3 z w1 b1 w2 b2 w3 f) shapeCasts_S256x4096_S256x2x2x1024) (broadcastInDim S256x2x2x1024 ![0, 1, 2, 3] bcast_S256x1x1x1024_S256x2x2x1024_0_1_2_3 (broadcastInDim S256x1x1x1024 ![0, 3] bcast_S256x1024_S256x1x1x1024_0_3 (decayV t d)))

/-- The forward filters. -/
def fwdV (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S256x2x1024 .f32 := shapeCast S256x2x1024 (extractStridedSlice S256x2x1x1024 ![0, 0, 0, 0] (net z t d w1 b1 w2 b2 w3 f) slices_S256x2x2x1024_S256x2x1x1024_0_0_0_0) shapeCasts_S256x2x1x1024_S256x2x1024

/-- The backward filters. -/
def bwdV (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S256x2x1024 .f32 := shapeCast S256x2x1024 (extractStridedSlice S256x2x1x1024 ![0, 0, 1, 0] (net z t d w1 b1 w2 b2 w3 f) slices_S256x2x2x1024_S256x2x1x1024_0_0_1_0) shapeCasts_S256x2x1x1024_S256x2x1024

/-- The filters on the circle. -/
def circV (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S512x2x1024 .f32 := (concatenate S512x2x1024 0 [⟨S256x2x1024, ((fwdV z t d w1 b1 w2 b2 w3 f) : (⟨S256x2x1024, .f32⟩ : BufTy).Contents (Elt Ideal))⟩, ⟨S1x2x1024, ((broadcastInDim S1x2x1024 ![] bcast_S_S1x2x1024 (constant S_ .f32 0x00000000#32 : FVec Ideal S_ .f32)) : (⟨S1x2x1024, .f32⟩ : BufTy).Contents (Elt Ideal))⟩, ⟨S255x2x1024, ((Host.reverse [0] (extractStridedSlice S255x2x1024 ![1, 0, 0] (bwdV z t d w1 b1 w2 b2 w3 f) slices_S256x2x1024_S255x2x1024_1_0_0)) : (⟨S255x2x1024, .f32⟩ : BufTy).Contents (Elt Ideal))⟩] concatenates_S256x2x1024_S1x2x1024_S255x2x1024_S512x2x1024_d0 : (⟨S512x2x1024, .f32⟩ : BufTy).Contents (Elt Ideal))

/-- The angles. -/
def angV : FVec Ideal S257x512 .f32 := mulf (sitofp .f32 (muli (broadcastInDim S257x512 ![0, 1] bcast_S257x1_S257x512_0_1 (broadcastInDim S257x1 ![0] bcast_S257_S257x1_0 (iotaInDim S257 32 0))) (broadcastInDim S257x512 ![0, 1] bcast_S1x512_S257x512_0_1 (broadcastInDim S1x512 ![1] bcast_S512_S1x512_1 (iotaInDim S512 32 0))))) (broadcastInDim S257x512 ![] bcast_S_S257x512 (Host.divf (Host.atan2 (constant S_ .f32 0x00000000#32) (constant S_ .f32 0xBF800000#32)) (constant S_ .f32 0x43800000#32)))

/-- The real parts of all bins. -/
def reV (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S257x2x1024 .f32 := Host.dotGeneral dot_S257x512_S512x2x1024_S257x2x1024_1_0_0_12_n_n none (Host.cos angV) ((circV z t d w1 b1 w2 b2 w3 f))

/-- The imaginary parts of all bins. -/
def imV (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S257x2x1024 .f32 := Host.dotGeneral dot_S257x512_S512x2x1024_S257x2x1024_1_0_0_12_n_n none (Host.negf (Host.sin angV)) ((circV z t d w1 b1 w2 b2 w3 f))

/-- The first result. -/
def out0 (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S2x256x1024 .f32 := transpose S2x256x1024 [1, 0, 2] (extractStridedSlice S256x2x1024 ![0, 0, 0] (reV z t d w1 b1 w2 b2 w3 f) slices_S257x2x1024_S256x2x1024_0_0_0) transposes_S256x2x1024_S2x256x1024_1_0_2

/-- The second result. -/
def out1 (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32) : FVec Ideal S2x256x1024 .f32 := transpose S2x256x1024 [1, 0, 2] (concatenate S256x2x1024 0 [⟨S1x2x1024, (extractStridedSlice S1x2x1024 ![256, 0, 0] (reV z t d w1 b1 w2 b2 w3 f) slices_S257x2x1024_S1x2x1024_256_0_0)⟩, ⟨S255x2x1024, (extractStridedSlice S255x2x1024 ![1, 0, 0] (imV z t d w1 b1 w2 b2 w3 f) slices_S257x2x1024_S255x2x1024_1_0_0)⟩] concatenates_S1x2x1024_S255x2x1024_S256x2x1024_d0) transposes_S256x2x1024_S2x256x1024_1_0_2

variable {z : FVec Ideal S256x33 .f32} {t : FVec Ideal S256 .f32} {d : FVec Ideal S1024 .f32} {w1 : FVec Ideal S33x64 .f32} {b1 : FVec Ideal S64 .f32} {w2 : FVec Ideal S64x64 .f32} {b2 : FVec Ideal S64 .f32} {w3 : FVec Ideal S64x4096 .f32} {f : FVec Ideal S2x64 .f32}

/-- The first hidden layer's entries. -/
theorem layer1_at (l : Fin 256) (k : Fin 64) : (layer1 z w1 b1 f (ix2 l k) : EReal) = hid1 (argsOf z t d w1 b1 w2 b2 w3 f) l k := by
  pointwise [layer1, hid1, argsOf]

/-- The second hidden layer's entries. -/
theorem layer2_at (l : Fin 256) (k : Fin 64) : (layer2 z w1 b1 w2 b2 f (ix2 l k) : EReal) = hid2 (argsOf z t d w1 b1 w2 b2 w3 f) l k := by
  unfold hid2
  simp only [← layer1_at]
  pointwise [layer2, argsOf]

/-- The network's result's entries. -/
theorem layer3_at (l : Fin 256) (n : Fin 4096) : (layer3 z w1 b1 w2 b2 w3 f (ix2 l n) : EReal) = ∑ k, hid2 (argsOf z t d w1 b1 w2 b2 w3 f) l k * (argsOf z t d w1 b1 w2 b2 w3 f).w3 k n := by
  simp only [← layer2_at]
  pointwise [layer3, argsOf]

/-- The decay's entries. -/
theorem decay_at (l : Fin 256) (q : Fin 1024) : (decayV t d (ix2 l q) : EReal) = Ideal.exp (-((argsOf z t d w1 b1 w2 b2 w3 f).t l) * (argsOf z t d w1 b1 w2 b2 w3 f).d q) := by
  pointwise [decayV, argsOf]

/-- The filters' entries. -/
theorem net_at (l : Fin 256) (o p : Fin 2) (q : Fin 1024) (n : Fin 4096) (hn : n.val = o.val * 2048 + p.val * 1024 + q.val) :
    (net z t d w1 b1 w2 b2 w3 f (ix4 l o p q) : EReal) = filtAt (argsOf z t d w1 b1 w2 b2 w3 f) n q l := by
  unfold filtAt
  rw [← layer3_at, ← decay_at]
  have hb : o.val * 2048 + p.val * 1024 + q.val < 4096 := hn ▸ n.isLt
  rw [show n = ⟨o.val * 2048 + p.val * 1024 + q.val, hb⟩ from Fin.ext hn]
  pointwise [net]

/-- The forward filters' entries. -/
theorem fwd_at (l : Fin 256) (o : Fin 2) (q : Fin 1024) : (fwdV z t d w1 b1 w2 b2 w3 f (ix3 l o q) : EReal) = filtAt (argsOf z t d w1 b1 w2 b2 w3 f) (colF o q) q l := by
  refine Eq.trans ?_ (net_at l o 0 q (colF o q) (by show o.val * 2048 + q.val = o.val * 2048 + 0 * 1024 + q.val; omega))
  pointwise [fwdV]

/-- The backward filters' entries. -/
theorem bwd_at (l : Fin 256) (o : Fin 2) (q : Fin 1024) : (bwdV z t d w1 b1 w2 b2 w3 f (ix3 l o q) : EReal) = filtAt (argsOf z t d w1 b1 w2 b2 w3 f) (colB o q) q l := by
  refine Eq.trans ?_ (net_at l o 1 q (colB o q) (by show o.val * 2048 + 1024 + q.val = o.val * 2048 + 1 * 1024 + q.val; omega))
  pointwise [bwdV]

/-- The circle's pieces. -/
def circPieces : List Shape := [S256x2x1024, S1x2x1024, S255x2x1024]

/-- The circle's entries. -/
theorem circ_at (n : Fin 512) (o : Fin 2) (q : Fin 1024) : (circV z t d w1 b1 w2 b2 w3 f (ix3 n o q) : EReal) = circ (argsOf z t d w1 b1 w2 b2 w3 f) o q n.val := by
  have off : ∀ (k : Nat) (i : Fin k) (b : Fin 3), b ≠ 0 → (ix3 i o q b).val = (ix3 n o q b).val := fun k i b hb =>
    match b, hb with | ⟨0, _⟩, hb => absurd rfl hb | ⟨1, _⟩, _ => rfl | ⟨2, _⟩, _ => rfl
  unfold circV circ
  by_cases h0 : n.val < 256
  · rw [if_pos h0]
    refine (cat_piece (t := S512x2x1024) 0 _ circPieces rfl _ _ 0 (by simp only [List.length_cons, List.length_nil]; decide) S256x2x1024 _ rfl rfl 0 (by decide +kernel)
      (ix3 (⟨n.val, h0⟩ : Fin 256) o q) (off _ _) (by show 0 + n.val = n.val; omega)).trans ((fwd_at _ o q).trans ?_)
    exact congrArg _ (pos_val ⟨n.val, h0⟩).symm
  by_cases h1 : n.val = 256
  · rw [if_neg h0, if_pos h1]
    refine (cat_piece (t := S512x2x1024) 0 _ circPieces rfl _ _ 1 (by simp only [List.length_cons, List.length_nil]; decide) S1x2x1024 _ rfl rfl 256 (by decide +kernel)
      (ix3 (0 : Fin 1) o q) (off _ _) (by show 256 + 0 = n.val; omega)).trans ?_
    pointwise
  · rw [if_neg h0, if_neg h1]
    have hn := n.isLt
    refine (cat_piece (t := S512x2x1024) 0 _ circPieces rfl _ _ 2 (by simp only [List.length_cons, List.length_nil]; decide) S255x2x1024 _ rfl rfl 257 (by decide +kernel)
      (ix3 (⟨n.val - 257, by omega⟩ : Fin 255) o q) (off _ _) (by show 257 + (n.val - 257) = n.val; omega)).trans ?_
    refine Eq.trans ?_ (bwd_at (pos (512 - n.val)) o q)
    have e : (512 - n.val) % 256 = 512 - n.val := Nat.mod_eq_of_lt (by omega)
    have key : ∀ i i' : Fin 256, i.val = i'.val → bwdV z t d w1 b1 w2 b2 w3 f (ix3 i o q) = bwdV z t d w1 b1 w2 b2 w3 f (ix3 i' o q) := fun i i' h => by rw [Fin.ext h]
    pointwise
    exact key _ _ (by show _ = (512 - n.val) % 256; rw [e]; simp; omega)

/-- The angles' entries. -/
theorem ang_at (k : Fin 257) (n : Fin 512) : (angV (ix2 k n) : EReal) = ((angR k.val n.val : ℝ) : EReal) := by
  have hm : k.val * n.val < 2 ^ 31 := by nlinarith [k.isLt, n.isLt]
  pointwise [angV]
  rw [Hyena.muli_word, Hyena.sitofp_word _ _ hm, step_at, ← EReal.coe_mul]
  rfl

/-- The real parts. -/
theorem re_at (k : Fin 257) (o : Fin 2) (q : Fin 1024) : (reV z t d w1 b1 w2 b2 w3 f (ix3 k o q) : EReal) = reAt (argsOf z t d w1 b1 w2 b2 w3 f) o k.val q := by
  have e : (reV z t d w1 b1 w2 b2 w3 f (ix3 k o q) : EReal) = ∑ n : Fin 512, Ideal.cos (angV (ix2 k n)) * (circV z t d w1 b1 w2 b2 w3 f (ix3 n o q) : EReal) := by
    pointwise [reV]
  rw [e]
  unfold reAt
  exact Finset.sum_congr rfl fun n _ => by rw [ang_at, circ_at]; rfl

/-- The imaginary parts. -/
theorem im_at (k : Fin 257) (o : Fin 2) (q : Fin 1024) : (imV z t d w1 b1 w2 b2 w3 f (ix3 k o q) : EReal)
    = ∑ n : Fin 512, (-((Real.sin (angR k.val n.val) : ℝ) : EReal)) * circ (argsOf z t d w1 b1 w2 b2 w3 f) o q n.val := by
  have e : (imV z t d w1 b1 w2 b2 w3 f (ix3 k o q) : EReal) = ∑ n : Fin 512, -(Ideal.sin (angV (ix2 k n))) * (circV z t d w1 b1 w2 b2 w3 f (ix3 n o q) : EReal) := by
    pointwise [imV]
  rw [e]
  exact Finset.sum_congr rfl fun n _ => by rw [ang_at, circ_at]; rfl

/-- The first result's entries. -/
theorem out0_at (o : Fin 2) (k : Fin 256) (q : Fin 1024) : (out0 z t d w1 b1 w2 b2 w3 f (ix3 o k q) : EReal) = reAt (argsOf z t d w1 b1 w2 b2 w3 f) o k.val q := by
  refine Eq.trans ?_ (re_at (⟨k.val, by omega⟩ : Fin 257) o q)
  pointwise [out0]

/-- The second result's pieces. -/
def outPieces : List Shape := [S1x2x1024, S255x2x1024]

/-- The second result's entries. -/
theorem out1_at (o : Fin 2) (k : Fin 256) (q : Fin 1024) : (out1 z t d w1 b1 w2 b2 w3 f (ix3 o k q) : EReal) = imAt (argsOf z t d w1 b1 w2 b2 w3 f) o k.val q := by
  have off : ∀ (s : Nat) (i : Fin s) (b : Fin 3), b ≠ 0 → (ix3 i o q b).val = (ix3 k o q b).val := fun s i b hb =>
    match b, hb with | ⟨0, _⟩, hb => absurd rfl hb | ⟨1, _⟩, _ => rfl | ⟨2, _⟩, _ => rfl
  unfold out1 imAt
  refine (Eq.trans (b := (concatenate S256x2x1024 0 [⟨S1x2x1024, (extractStridedSlice S1x2x1024 ![256, 0, 0] (reV z t d w1 b1 w2 b2 w3 f) slices_S257x2x1024_S1x2x1024_256_0_0)⟩, ⟨S255x2x1024, (extractStridedSlice S255x2x1024 ![1, 0, 0] (imV z t d w1 b1 w2 b2 w3 f) slices_S257x2x1024_S255x2x1024_1_0_0)⟩] concatenates_S1x2x1024_S255x2x1024_S256x2x1024_d0) (ix3 k o q)) ?_ ?_)
  · pointwise
  by_cases h : k.val = 0
  · rw [if_pos h]
    refine (cat_piece (t := S256x2x1024) 0 _ outPieces rfl _ _ 0 (by simp only [List.length_cons, List.length_nil]; decide) S1x2x1024 _ rfl rfl 0 (by decide +kernel)
      (ix3 (0 : Fin 1) o q) (off _ _) (by show 0 + 0 = k.val; omega)).trans ?_
    refine Eq.trans ?_ (re_at (⟨256, by omega⟩ : Fin 257) o q)
    pointwise
  · rw [if_neg h]
    refine (cat_piece (t := S256x2x1024) 0 _ outPieces rfl _ _ 1 (by simp only [List.length_cons, List.length_nil]; decide) S255x2x1024 _ rfl rfl 1 (by decide +kernel)
      (ix3 (⟨k.val - 1, by omega⟩ : Fin 255) o q) (off _ _) (by show 1 + (k.val - 1) = k.val; omega)).trans ?_
    refine Eq.trans ?_ (im_at (⟨k.val, by omega⟩ : Fin 257) o q)
    have key : ∀ i i' : Fin 257, i.val = i'.val → imV z t d w1 b1 w2 b2 w3 f (ix3 i o q) = imV z t d w1 b1 w2 b2 w3 f (ix3 i' o q) := fun i i' h => by rw [Fin.ext h]
    pointwise
    exact key _ _ (by show 1 + (k.val - 1) = k.val; omega)

variable (m : (ℓ : Loc nD τ sig) → Buf (Elt Ideal) ℓ)

/-- The real parts. -/
def refResult0 (c : Dev nD) : FVec Ideal S2x256x1024 .f32 := fun j => reAt (argsOf (m ((c.tc : Thread nD τ).loc main_arg0) : FVec Ideal S256x33 .f32) (m ((c.tc : Thread nD τ).loc main_arg1) : FVec Ideal S256 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32)) (j 0) (j 1).val (j 2)

/-- The imaginary parts. -/
def refResult1 (c : Dev nD) : FVec Ideal S2x256x1024 .f32 := fun j => imAt (argsOf (m ((c.tc : Thread nD τ).loc main_arg0) : FVec Ideal S256x33 .f32) (m ((c.tc : Thread nD τ).loc main_arg1) : FVec Ideal S256 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32)) (j 0) (j 1).val (j 2)

/-- The run's first result. -/
theorem run0 (c : Dev nD) : res_main_v61 (F := Ideal) m c = refResult0 m c := by
  have e : res_main_v61 (F := Ideal) m c = out0 (m ((c.tc : Thread nD τ).loc main_arg0) : FVec Ideal S256x33 .f32) (m ((c.tc : Thread nD τ).loc main_arg1) : FVec Ideal S256 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32) := by
    unfold res_main_v61 out0 reV circV fwdV bwdV net decayV layer3 layer2 layer1 angV
    rfl
  rw [e]
  funext j
  exact (congrArg _ (eq_ix3 j)).trans (out0_at (j 0) (j 1) (j 2))

/-- The run's second result. -/
theorem run1 (c : Dev nD) : res_main_v62 (F := Ideal) m c = refResult1 m c := by
  have e : res_main_v62 (F := Ideal) m c = out1 (m ((c.tc : Thread nD τ).loc main_arg0) : FVec Ideal S256x33 .f32) (m ((c.tc : Thread nD τ).loc main_arg1) : FVec Ideal S256 .f32) (m ((c.tc : Thread nD τ).loc main_arg2) : FVec Ideal S1024 .f32) (m ((c.tc : Thread nD τ).loc main_arg3) : FVec Ideal S33x64 .f32) (m ((c.tc : Thread nD τ).loc main_arg4) : FVec Ideal S64 .f32) (m ((c.tc : Thread nD τ).loc main_arg5) : FVec Ideal S64x64 .f32) (m ((c.tc : Thread nD τ).loc main_arg6) : FVec Ideal S64 .f32) (m ((c.tc : Thread nD τ).loc main_arg7) : FVec Ideal S64x4096 .f32) (m ((c.tc : Thread nD τ).loc main_arg8) : FVec Ideal S2x64 .f32) := by
    unfold res_main_v62 out1 imV reV circV fwdV bwdV net decayV layer3 layer2 layer1 angV
    rfl
  rw [e]
  funext j
  exact (congrArg _ (eq_ix3 j)).trans (out1_at (j 0) (j 1) (j 2))

/-- The reference's run: its result arrays hold the two results, its arguments are unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v61) = refResult0 m c
      ∧ r.2.mem ((c.tc : Thread nD τ).loc main_v62) = refResult1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (run0 m c), (h c).2.1.trans (run1 m c), (h c).2.2⟩) (run m ρ)

end Cert.Calls.FilterP
-- ==== Proof.Calls.FilterPPre.lean ====
module

public import proofs.«01_k».proof.Proof.Calls.FilterPSpec
public import proofs.«01_k».proof.Pre_finite_filters
public import proofs.«01_k».proof.Proof.Gen.Pre_finite_filters
public import Idealize.ShloMosaic.Lib.StableHlo.ReadAt
public import Idealize.ShloMosaic.Lib.KernelVsHost

/-!
# The spectrum of the Hyena filters, for the prompt: the precondition
-/

@[expose] public section

set_option maxRecDepth 16384

noncomputable section

open Idealize.ShloMosaic Idealize.ShloMosaic.TcCoe Idealize.SL.Sem Idealize.ShloMosaic.StableHlo
open Cert.Pre_finite_filters

namespace Cert.Calls.FilterP

/-- The precondition says that every argument is finite. -/
theorem finite_of_pre (z : FVec Ideal S256x33 .f32) (t : FVec Ideal S256 .f32) (d : FVec Ideal S1024 .f32) (w1 : FVec Ideal S33x64 .f32) (b1 : FVec Ideal S64 .f32) (w2 : FVec Ideal S64x64 .f32) (b2 : FVec Ideal S64 .f32) (w3 : FVec Ideal S64x4096 .f32) (f : FVec Ideal S2x64 .f32)
    (h : fn (F := Ideal) z t d w1 b1 w2 b2 w3 f = fun _ => 1#1) : Args.Fin
      { z := fun l i => z (ix2 l i), t := fun l => t (ix1 l), d := fun q => d (ix1 q), w1 := fun i k => w1 (ix2 i k), b1 := fun k => b1 (ix1 k), w2 := fun i k => w2 (ix2 i k), b2 := fun k => b2 (ix1 k), w3 := fun k n => w3 (ix2 k n), f := fun i k => f (ix2 i k) } := by
  have hs : Subsingleton S_.Idx := ⟨fun x y => funext fun i => i.elim0⟩
  have h0 := congrFun h (fun i => i.elim0)
  obtain ⟨h0, h8⟩ := both_of_andi h0
  obtain ⟨h0, h7⟩ := both_of_andi h0
  obtain ⟨h0, h6⟩ := both_of_andi h0
  obtain ⟨h0, h5⟩ := both_of_andi h0
  obtain ⟨h0, h4⟩ := both_of_andi h0
  obtain ⟨h0, h3⟩ := both_of_andi h0
  obtain ⟨h0, h2⟩ := both_of_andi h0
  obtain ⟨h0, h1⟩ := both_of_andi h0
  exact {
    z := fun l i => finite_of_lt _ (Host.reduce_andi_all _ _ _ _ _ h0 (ix2 l i))
    t := fun l => finite_of_lt _ (Host.reduce_andi_all _ _ _ _ _ h1 (ix1 l))
    d := fun q => finite_of_lt _ (Host.reduce_andi_all _ _ _ _ _ h2 (ix1 q))
    w1 := fun i k => finite_of_lt _ (Host.reduce_andi_all _ _ _ _ _ h3 (ix2 i k))
    b1 := fun k => finite_of_lt _ (Host.reduce_andi_all _ _ _ _ _ h4 (ix1 k))
    w2 := fun i k => finite_of_lt _ (Host.reduce_andi_all _ _ _ _ _ h5 (ix2 i k))
    b2 := fun k => finite_of_lt _ (Host.reduce_andi_all _ _ _ _ _ h6 (ix1 k))
    w3 := fun k n => finite_of_lt _ (Host.reduce_andi_all _ _ _ _ _ h7 (ix2 k n))
    f := fun i k => finite_of_lt _ (Host.reduce_andi_all _ _ _ _ _ h8 (ix2 i k)) }

end Cert.Calls.FilterP
-- ==== Proof.Calls.HyenaPForm.lean ====
module

public import Idealize.ShloMosaic.Lib.Pipeline.ValueKit
public import Idealize.ShloMosaic.Lib.Pointwise
public import proofs.«01_k».proof.Proof.Calls.FilterPWord
public import proofs.«01_k».proof.Proof.Hyena.Pay

/-!
# The two closed forms of the Hyena mixer

One channel of one sequence of the prompt is a function of the position `n < 256`. The forms
below say what the kernel's body and the plain reference compute for such a channel, over the
extended reals; no program is mentioned here.
-/

@[expose] public section

set_option maxRecDepth 16384

noncomputable section

open Idealize.ShloMosaic

namespace Cert.Calls.HyenaP

open Cert.Calls.FilterP
open Cert.Hyena (sgn sgn_host muli_word floorMod_word sitofp_word neg_one_bits pi_at divisor_2 two_bits select_word)

/-- The three-tap convolution along the sequence, zero outside of it. -/
def conv (x : Fin 256 → EReal) (w : Fin 3 → EReal) (n : Fin 256) : EReal :=
  (if n.val = 0 then 0 else x ⟨(n.val + 256 - 1) % 256, Nat.mod_lt _ (by decide)⟩ * w 0)
    + x n * w 1
    + (if n.val = 255 then 0 else x ⟨(n.val + 256 - 255) % 256, Nat.mod_lt _ (by decide)⟩ * w 2)

/-- The forward transform of a channel against one row of a table. -/
def fwd (T : Fin 256 → EReal) (u : Fin 256 → EReal) : EReal := ∑ n : Fin 256, T n * u n

/-- The first half of the packed product of two spectra, at bin `k`. -/
def specRe (a b re im : EReal) (k : Fin 256) : EReal :=
  a * re - (if k.val = 0 then 0 else b * im)

/-- The second half of the packed product of two spectra, at bin `k`; its entry at bin 0 is the
    product of the two real values at the highest frequency. -/
def specIm (a b re im : EReal) (k : Fin 256) : EReal :=
  if k.val = 0 then b * im else a * im + b * re

/-- The kernel's long convolution of one channel `u`: `F` is the forward table (256 rows of the
    real part over 256 rows of the imaginary part), `G` the inverse one, `re` and `im` the packed
    filter spectrum, `b` the skip weight. -/
def longK (F : Fin 512 → Fin 256 → EReal) (G : Fin 256 → Fin 512 → EReal)
    (re im : Fin 256 → EReal) (b : EReal) (u : Fin 256 → EReal) (n : Fin 256) : EReal :=
  ((∑ k : Fin 256, G n ⟨k.val, by omega⟩
        * specRe (fwd (F ⟨k.val, by omega⟩) u) (fwd (F ⟨256 + k.val, by omega⟩) u) (re k) (im k) k)
    + ∑ k : Fin 256, G n ⟨256 + k.val, by omega⟩
        * specIm (fwd (F ⟨k.val, by omega⟩) u) (fwd (F ⟨256 + k.val, by omega⟩) u) (re k) (im k) k)
    + u n * b

/-- What the kernel computes for one channel: two gated long convolutions. -/
def mixK (F : Fin 512 → Fin 256 → EReal) (G : Fin 256 → Fin 512 → EReal)
    (re im : Fin 2 → Fin 256 → EReal) (b : Fin 2 → EReal) (w : Fin 3 → Fin 3 → EReal)
    (x1 x2 v : Fin 256 → EReal) (n : Fin 256) : EReal :=
  conv x2 (w 1) n * longK F G (re 1) (im 1) (b 1)
    (fun i => conv x1 (w 0) i * longK F G (re 0) (im 0) (b 0) (conv v (w 2)) i) n

/-- The weight of bin `k` in the inverse transform: 1 at the two real bins, 2 at the others, over
    the transform's length. -/
def wt (k : Fin 257) : EReal :=
  Ideal.div (if k.val = 0 ∨ k.val = 256 then 1 else Ideal.ofBits .f32 0x40000000#32) (Ideal.ofBits .f32 0x44000000#32)

/-- The angle of bin `k` at position `n`. -/
def ang (k : Fin 257) (n : Fin 256) : EReal := (((k.val * n.val : ℕ) : ℝ) * (Real.pi * ((1 : ℝ) / 256)) : ℝ)

/-- The reference's long convolution of one channel: the discrete Fourier transform of length 512 of the
    zero-padded channel over its 257 bins, times the filter's spectrum, transformed back. -/
def longR (re im : Fin 257 → EReal) (b : EReal) (u : Fin 256 → EReal) (n : Fin 256) : EReal :=
  ((∑ k : Fin 257, ((∑ i : Fin 256, u i * Ideal.cos (ang k i)) * re k
        - (∑ i : Fin 256, u i * -Ideal.sin (ang k i)) * im k) * (Ideal.cos (ang k n) * wt k))
    + ∑ k : Fin 257, ((∑ i : Fin 256, u i * Ideal.cos (ang k i)) * im k
        + (∑ i : Fin 256, u i * -Ideal.sin (ang k i)) * re k) * (-Ideal.sin (ang k n) * wt k))
    + u n * b

/-- What the reference computes for one channel. -/
def mixR (re im : Fin 2 → Fin 257 → EReal) (b : Fin 2 → EReal) (w : Fin 3 → Fin 3 → EReal)
    (x1 x2 v : Fin 256 → EReal) (n : Fin 256) : EReal :=
  conv x2 (w 1) n * longR (re 1) (im 1) (b 1)
    (fun i => conv x1 (w 0) i * longR (re 0) (im 0) (b 0) (conv v (w 2)) i) n

end Cert.Calls.HyenaP
-- ==== Proof.Calls.HyenaPWord.lean ====
module

public import proofs.«01_k».proof.Proof.Calls.HyenaPForm

/-!
# The prompt's inverse table
-/

@[expose] public section

noncomputable section

open Idealize.ShloMosaic

namespace Cert.Calls.HyenaP

open Cert.Calls.FilterP
open Cert.Hyena (sgn)

/-- The float 512. -/
theorem k512_bits : (Ideal.ofBits FTy.f32 1140850688#32) = ((512 : ℝ) : EReal) := by
  simp [Ideal.ofBits, Ideal.ieee, -EReal.coe_mul]; norm_num

/-- The inverse table: weighted cosines, then weighted minus sines; its column 256 the alternating signs over 512. -/
def invT (n k : ℕ) : ℝ :=
  if k < 256 then Real.cos (angR k n) * ((if k = 0 then 1 else 2) * (1 / 512))
  else if k - 256 = 0 then sgn n * (1 / 512) else -Real.sin (angR (k - 256) n) * (1 / 256)

end Cert.Calls.HyenaP
-- ==== Proof.Calls.HyenaPLayout.lean ====
module

public import proofs.«01_k».proof.Proof.Calls.HyenaPWord

/-!
# The whole array, on both sides

The arguments as plain functions of their indices: the projected array `z` by row and column, the taps `w`, the
spectra `re` and `im` by order, bin and channel, the skip weights `b`.
-/

@[expose] public section

noncomputable section

open Idealize.ShloMosaic

namespace Cert.Calls.HyenaP

open Cert.Calls.FilterP
open Cert.Hyena (sgn sgn_host muli_word floorMod_word sitofp_word neg_one_bits pi_at divisor_2 two_bits select_word)

/-- Position `n` of the sequence that row `r` belongs to, in the channel `c` of the stream that starts at
    column `col` of the projected array: the prompt's rows are the first 4096. -/
def stream (z : Fin 8192 → Fin 16384 → EReal) (col : ℕ) (hc : col + 1024 ≤ 16384) (r : Fin 4096) (c : Fin 1024) (n : Fin 256) : EReal :=
  z ⟨r.val / 256 * 256 + n.val, by omega⟩ ⟨col + c.val, by omega⟩

/-- The kernel's result: row `r`, channel `c`, is the mixer of that channel's three streams with the two tables. -/
def arrayK (z : Fin 8192 → Fin 16384 → EReal) (w : Fin 3 → Fin 3 → Fin 1024 → EReal)
    (re im : Fin 2 → Fin 256 → Fin 1024 → EReal) (b : Fin 2 → Fin 1024 → EReal) (r : Fin 4096) (c : Fin 1024) : EReal :=
  mixK (fun k n => ((fwdT k.val n.val : ℝ) : EReal)) (fun n k => ((invT n.val k.val : ℝ) : EReal))
    (fun o k => re o k c) (fun o k => im o k c) (fun o => b o c) (fun g a => w g a c)
    (stream z 0 (by decide) r c) (stream z 1024 (by decide) r c) (stream z 2048 (by decide) r c) ⟨r.val % 256, by omega⟩

/-- Equal tables, taps, spectra, weights and streams give equal mixers. -/
theorem mixK_congr {F F' : Fin 512 → Fin 256 → EReal} {G G' : Fin 256 → Fin 512 → EReal}
    {re re' im im' : Fin 2 → Fin 256 → EReal} {b b' : Fin 2 → EReal} {w w' : Fin 3 → Fin 3 → EReal}
    {x1 x1' x2 x2' v v' : Fin 256 → EReal} {n n' : Fin 256}
    (hF : ∀ k n, F k n = F' k n) (hG : ∀ n k, G n k = G' n k) (hre : ∀ o k, re o k = re' o k) (him : ∀ o k, im o k = im' o k)
    (hb : ∀ o, b o = b' o) (hw : ∀ g a, w g a = w' g a) (h1 : ∀ n, x1 n = x1' n) (h2 : ∀ n, x2 n = x2' n) (hv : ∀ n, v n = v' n)
    (hn : n.val = n'.val) : mixK F G re im b w x1 x2 v n = mixK F' G' re' im' b' w' x1' x2' v' n' := by
  obtain rfl : F = F' := funext fun k => funext (hF k)
  obtain rfl : G = G' := funext fun n => funext (hG n)
  obtain rfl : re = re' := funext fun o => funext (hre o)
  obtain rfl : im = im' := funext fun o => funext (him o)
  obtain rfl : b = b' := funext hb
  obtain rfl : w = w' := funext fun g => funext (hw g)
  obtain rfl : x1 = x1' := funext h1
  obtain rfl : x2 = x2' := funext h2
  obtain rfl : v = v' := funext hv
  obtain rfl : n = n' := Fin.ext hn
  rfl

/-- The real parts of the 257 bins: the last one is kept in the first row of the imaginary parts. -/
def reBins (re im : Fin 256 → EReal) (k : Fin 257) : EReal :=
  if h : k.val < 256 then re ⟨k.val, h⟩ else im 0

/-- The imaginary parts of the 257 bins: the first and the last are zero. -/
def imBins (im : Fin 256 → EReal) (k : Fin 257) : EReal :=
  if k.val < 1 then 0 else if h : k.val < 256 then im ⟨k.val, h⟩ else 0

/-- The reference's result: row `r`, channel `c`. -/
def arrayR (z : Fin 8192 → Fin 16384 → EReal) (w : Fin 3 → Fin 3 → Fin 1024 → EReal)
    (re im : Fin 2 → Fin 256 → Fin 1024 → EReal) (b : Fin 2 → Fin 1024 → EReal) (r : Fin 4096) (c : Fin 1024) : EReal :=
  mixR (fun o => reBins (fun k => re o k c) (fun k => im o k c)) (fun o => imBins (fun k => im o k c))
    (fun o => b o c) (fun g a => w g a c)
    (stream z 0 (by decide) r c) (stream z 1024 (by decide) r c) (stream z 2048 (by decide) r c) ⟨r.val % 256, by omega⟩

end Cert.Calls.HyenaP
-- ==== Proof.Calls.HyenaPEquation.lean ====
module

public import proofs.«01_k».proof.Proof.Calls.HyenaPLayout

/-!
# The two long convolutions agree

The kernel's table product and the reference's transform over 257 bins are the same sum. The kernel packs the real
bin 256 into the row of the vanishing sine of bin 0; the sums are split at these two bins.
-/

@[expose] public section

noncomputable section

open Idealize.ShloMosaic

namespace Cert.Calls.HyenaP

open Cert.Calls.FilterP
open Cert.Hyena (sgn sgn_host muli_word floorMod_word sitofp_word neg_one_bits pi_at divisor_2 two_bits select_word)

/-- The cosine of a bin's angle is a real number. -/
theorem cos_ang (k : Fin 257) (n : Fin 256) : Ideal.cos (ang k n) = ((Real.cos (angR k.val n.val) : ℝ) : EReal) := rfl

/-- The sine of a bin's angle is a real number. -/
theorem sin_ang (k : Fin 257) (n : Fin 256) : -Ideal.sin (ang k n) = ((-Real.sin (angR k.val n.val) : ℝ) : EReal) := rfl

/-- Bin 0 has no sine. -/
theorem sin_zero (n : ℕ) : Real.sin (angR 0 n) = 0 := by simp [angR]

/-- The angle of bin 256 is a multiple of π. -/
theorem angR_last (n : ℕ) : angR 256 n = n * Real.pi := by
  unfold angR; push_cast; ring

/-- Bin 256 has no sine. -/
theorem sin_last (n : ℕ) : Real.sin (angR 256 n) = 0 := by rw [angR_last, Real.sin_nat_mul_pi]

/-- The cosine of bin 256 is the alternating sign. -/
theorem cos_last (n : ℕ) : Real.cos (angR 256 n) = sgn n := by
  rw [angR_last, Real.cos_nat_mul_pi, sgn]
  split
  · exact Even.neg_one_pow (Nat.even_iff.2 ‹_›)
  · exact Odd.neg_one_pow (Nat.odd_iff.2 (by omega))

/-- The weights as real numbers. -/
theorem wt_real (k : Fin 257) :
    wt k = (((if k.val = 0 ∨ k.val = 256 then 1 else 2) * (1 / 512) : ℝ) : EReal) := by
  unfold wt
  rw [two_bits, k512_bits, Ideal.div_coe (by norm_num)]
  split <;> norm_cast

/-- A cosine's transform in the reference. -/
def cosSum (u : Fin 256 → EReal) (k : Fin 257) : EReal := ∑ i : Fin 256, u i * Ideal.cos (ang k i)

/-- A minus sine's transform in the reference. -/
def sinSum (u : Fin 256 → EReal) (k : Fin 257) : EReal := ∑ i : Fin 256, u i * -Ideal.sin (ang k i)

/-- The kernel's first 256 forward products are the cosine transforms. -/
theorem fwd_cos (u : Fin 256 → EReal) (k : Fin 256) :
    fwd (fun n : Fin 256 => ((fwdT k.val n.val : ℝ) : EReal)) u = cosSum u k.castSucc := by
  unfold fwd cosSum
  refine Finset.sum_congr rfl fun n _ => ?_
  have h : fwdT k.val n.val = Real.cos (angR k.val n.val) := by unfold fwdT; rw [if_pos k.isLt]
  rw [cos_ang, mul_comm]; beta_reduce; rw [h]; rfl

/-- The kernel's other forward products are the minus sine transforms, past the first. -/
theorem fwd_sin (u : Fin 256 → EReal) (k : Fin 256) (hk : k.val ≠ 0) :
    fwd (fun n : Fin 256 => ((fwdT (256 + k.val) n.val : ℝ) : EReal)) u = sinSum u k.castSucc := by
  unfold fwd sinSum
  refine Finset.sum_congr rfl fun n _ => ?_
  have h : fwdT (256 + k.val) n.val = -Real.sin (angR k.val n.val) := by
    unfold fwdT; rw [if_neg (by omega), if_neg (by omega), Nat.add_sub_cancel_left]
  rw [sin_ang, mul_comm]; beta_reduce; rw [h]; rfl

/-- The first of these is the cosine transform of the last bin. -/
theorem fwd_last (u : Fin 256 → EReal) (k : Fin 256) (hk : k.val = 0) :
    fwd (fun n : Fin 256 => ((fwdT (256 + k.val) n.val : ℝ) : EReal)) u = cosSum u (Fin.last 256) := by
  unfold fwd cosSum
  refine Finset.sum_congr rfl fun n _ => ?_
  have h : fwdT (256 + k.val) n.val = Real.cos (angR 256 n.val) := by
    unfold fwdT; rw [if_neg (by omega), if_pos (by omega), cos_last]
  rw [cos_ang, mul_comm]; beta_reduce; rw [h]; rfl

variable (re im : Fin 256 → EReal) (b : EReal) (u : Fin 256 → EReal) (n : Fin 256)

/-- One bin's term of the reference's first sum. -/
def reTerm (k : Fin 257) : EReal :=
  (cosSum u k * reBins re im k - sinSum u k * imBins im k) * (Ideal.cos (ang k n) * wt k)

/-- One bin's term of the reference's second sum. -/
def imTerm (k : Fin 257) : EReal :=
  (cosSum u k * imBins im k + sinSum u k * reBins re im k) * (-Ideal.sin (ang k n) * wt k)

/-- The kernel's first sum, term by term. -/
theorem first_term (k : Fin 256) :
    ((invT n.val k.val : ℝ) : EReal) * specRe (cosSum u k.castSucc)
        (fwd (fun n : Fin 256 => ((fwdT (256 + k.val) n.val : ℝ) : EReal)) u) (re k) (im k) k
      = reTerm re im u n k.castSucc := by
  have hr : reBins re im k.castSucc = re k := by unfold reBins; rw [dif_pos (by exact k.isLt)]; rfl
  unfold reTerm specRe
  rw [hr, cos_ang, wt_real, ← EReal.coe_mul, mul_comm]
  have hi : invT n.val k.val = Real.cos (angR k.castSucc.val n.val)
      * ((if k.castSucc.val = 0 ∨ k.castSucc.val = 256 then 1 else 2) * (1 / 512)) := by
    rw [invT, if_pos k.isLt]
    show _ = Real.cos (angR k.val n.val) * ((if k.val = 0 ∨ k.val = 256 then 1 else 2) * (1 / 512))
    have : (k.val = 0 ∨ k.val = 256) ↔ k.val = 0 := by omega
    simp only [this]
  rw [hi]
  by_cases hk : k.val = 0
  · have hm : imBins im k.castSucc = 0 := by unfold imBins; rw [if_pos (by show k.val < 1; omega)]
    rw [if_pos hk, hm, mul_zero]
  · have hm : imBins im k.castSucc = im k := by
      unfold imBins; rw [if_neg (by show ¬ k.val < 1; omega), dif_pos (by exact k.isLt)]; rfl
    rw [if_neg hk, hm, fwd_sin u k hk]

/-- The kernel's second sum past its first term, term by term. -/
theorem second_term (k : Fin 256) (hk : k.val ≠ 0) :
    ((invT n.val (256 + k.val) : ℝ) : EReal) * specIm (cosSum u k.castSucc)
        (fwd (fun n : Fin 256 => ((fwdT (256 + k.val) n.val : ℝ) : EReal)) u) (re k) (im k) k
      = imTerm re im u n k.castSucc := by
  have hr : reBins re im k.castSucc = re k := by unfold reBins; rw [dif_pos (by exact k.isLt)]; rfl
  have hm : imBins im k.castSucc = im k := by
    unfold imBins; rw [if_neg (by show ¬ k.val < 1; omega), dif_pos (by exact k.isLt)]; rfl
  unfold imTerm specIm
  rw [hr, hm, sin_ang, wt_real, ← EReal.coe_mul, mul_comm, if_neg hk, fwd_sin u k hk]
  have hi : invT n.val (256 + k.val) = -Real.sin (angR k.castSucc.val n.val)
      * ((if k.castSucc.val = 0 ∨ k.castSucc.val = 256 then 1 else 2) * (1 / 512)) := by
    rw [invT, if_neg (by omega), if_neg (by omega), Nat.add_sub_cancel_left]
    show _ = -Real.sin (angR k.val n.val) * ((if k.val = 0 ∨ k.val = 256 then 1 else 2) * (1 / 512))
    rw [if_neg (by omega)]; norm_num
  rw [hi]

/-- The kernel's second sum begins with the reference's last bin. -/
theorem packed_term (k : Fin 256) (hk : k.val = 0) :
    ((invT n.val (256 + k.val) : ℝ) : EReal) * specIm (cosSum u k.castSucc)
        (fwd (fun n : Fin 256 => ((fwdT (256 + k.val) n.val : ℝ) : EReal)) u) (re k) (im k) k
      = reTerm re im u n (Fin.last 256) := by
  have hk0 : k = 0 := Fin.ext hk
  have hr : reBins re im (Fin.last 256) = im k := by
    unfold reBins; rw [dif_neg (by simp), hk0]
  have hm : imBins im (Fin.last 256) = 0 := by
    unfold imBins; rw [if_neg (by simp), dif_neg (by simp)]
  have hi : invT n.val (256 + k.val) = Real.cos (angR (Fin.last 256).val n.val)
      * ((if (Fin.last 256).val = 0 ∨ (Fin.last 256).val = 256 then 1 else 2) * (1 / 512)) := by
    rw [invT, if_neg (by omega), if_pos (by omega)]
    show _ = Real.cos (angR 256 n.val) * ((if 256 = 0 ∨ 256 = 256 then 1 else 2) * (1 / 512))
    rw [cos_last, if_pos (by omega), one_mul]
  unfold reTerm specIm
  rw [if_pos hk, fwd_last u k hk, hr, hm, mul_zero, sub_zero, cos_ang, wt_real, ← EReal.coe_mul, ← hi, mul_comm]

/-- The reference's second sum has no term at bin 0. -/
theorem imTerm_zero (k : Fin 257) (hk : k.val = 0) : imTerm re im u n k = 0 := by
  unfold imTerm
  rw [sin_ang, hk, sin_zero]; simp

/-- The reference's second sum has no term at bin 256. -/
theorem imTerm_last : imTerm re im u n (Fin.last 256) = 0 := by
  unfold imTerm
  rw [sin_ang]
  show _ * (((-Real.sin (angR 256 n.val) : ℝ) : EReal) * _) = 0
  rw [sin_last]; simp

/-- The kernel's long convolution with its two tables is the reference's. -/
theorem long_eq :
    longK (fun k n => ((fwdT k.val n.val : ℝ) : EReal)) (fun n k => ((invT n.val k.val : ℝ) : EReal)) re im b u n
      = longR (reBins re im) (imBins im) b u n := by
  have hR : longR (reBins re im) (imBins im) b u n
      = (∑ k : Fin 257, reTerm re im u n k) + (∑ k : Fin 257, imTerm re im u n k) + u n * b := rfl
  rw [hR, Fin.sum_univ_castSucc, Fin.sum_univ_castSucc (f := fun k => imTerm re im u n k), imTerm_last, add_zero,
    Fin.sum_univ_succ (f := fun k : Fin 256 => imTerm re im u n k.castSucc), imTerm_zero re im u n _ rfl, zero_add]
  unfold longK
  simp only [fwd_cos, first_term]
  rw [Fin.sum_univ_succ (f := fun k : Fin 256 => ((invT n.val (256 + k.val) : ℝ) : EReal) * specIm (cosSum u k.castSucc)
      (fwd (fun n : Fin 256 => ((fwdT (256 + k.val) n.val : ℝ) : EReal)) u) (re k) (im k) k), packed_term re im u n 0 rfl]
  have h : ∀ k : Fin 255, ((invT n.val (256 + k.succ.val) : ℝ) : EReal) * specIm (cosSum u k.succ.castSucc)
        (fwd (fun n : Fin 256 => ((fwdT (256 + k.succ.val) n.val : ℝ) : EReal)) u) (re k.succ) (im k.succ) k.succ
      = imTerm re im u n k.succ.castSucc := fun k => second_term re im u n k.succ (by simp)
  rw [Finset.sum_congr rfl fun k _ => h k, ← add_assoc]

end Cert.Calls.HyenaP

namespace Cert.Calls.HyenaP

/-- The kernel's array is the reference's. -/
theorem array_eq (z : Fin 8192 → Fin 16384 → EReal) (w : Fin 3 → Fin 3 → Fin 1024 → EReal)
    (re im : Fin 2 → Fin 256 → Fin 1024 → EReal) (b : Fin 2 → Fin 1024 → EReal) (r : Fin 4096) (c : Fin 1024) :
    arrayK z w re im b r c = arrayR z w re im b r c := by
  unfold arrayK arrayR mixK mixR
  simp only [long_eq]

end Cert.Calls.HyenaP
-- ==== Proof.Calls.HyenaPPay.lean ====
module

public import proofs.«01_k».proof.Proof.Calls.HyenaPForm
public import proofs.«01_k».proof.Proof.Gen.KernelHyenaPIdeal.Skeleton

/-!
# The body's payloads, read at an index
-/

@[expose] public section

set_option maxRecDepth 16384

noncomputable section

open Idealize.ShloMosaic Idealize.ShloMosaic.TcCoe Idealize.SL.Sem
open Cert.KernelHyenaPIdeal Cert.KernelHyenaPIdeal.Gen

namespace Cert.Calls.HyenaP

open Cert.Calls.FilterP
open Cert.Hyena (sgn sgn_host muli_word floorMod_word sitofp_word neg_one_bits pi_at divisor_2 two_bits select_word)

/-- The position within the sequence, as the body computes it. -/
theorem pos_at (r : Fin 256) : k0_pay2 (ix2 r 0) = BitVec.ofNat 32 (r.val) := by
  pointwise [k0_pay2]
  revert r
  decide +kernel

/-- The mask of the first row of the block. -/
theorem row0_at (r : Fin 256) {α : Type} (a b : α) :
    Scalar.select (k0_pay3 (ix2 r 0)) a b = if r.val = 0 then a else b := by
  pointwise [k0_pay3]
  exact select_word r.val 0 (by omega) (by decide) a b

/-- The mask of the first position of the sequence. -/
theorem edge0 (r : Fin 256) {α : Type} (a b : α) :
    Scalar.select (IntOp.cmpi CmpIPredicate.eq (k0_pay2 (ix2 r 0)) 0#32) a b = if r.val = 0 then a else b := by
  rw [pos_at]
  exact select_word _ 0 (by omega) (by decide) a b

/-- The mask of the last position of the sequence. -/
theorem edge255 (r : Fin 256) {α : Type} (a b : α) :
    Scalar.select (IntOp.cmpi CmpIPredicate.eq (k0_pay2 (ix2 r 0)) 255#32) a b = if r.val = 255 then a else b := by
  rw [pos_at]
  exact select_word _ 255 (by omega) (by decide) a b

/-- Second half of the channels, the last gate: the short convolution of the gate times `y`. -/
theorem pay1_at (x : FVec Ideal S256x256 .f32) (w : FVec Ideal S1x3x256 .f32) (y : FVec Ideal S256x256 .f32)
    (r : Fin 256) (c : Fin 256) :
    k0_pay1 (F := Ideal) k0_pay2 y x w (ix2 r c) = conv (fun n => x (ix2 n c)) (fun a => w (ix3 0 a c)) r * y (ix2 r c) := by
  pointwise [k0_pay1]
  simp only [edge0, edge255]
  rfl

/-- Second half of the channels, the first gate. -/
theorem pay17_at (x : FVec Ideal S256x256 .f32) (w : FVec Ideal S1x3x256 .f32) (y : FVec Ideal S256x256 .f32)
    (r : Fin 256) (c : Fin 256) :
    k0_pay17 (F := Ideal) k0_pay2 y x w (ix2 r c) = conv (fun n => x (ix2 n c)) (fun a => w (ix3 0 a c)) r * y (ix2 r c) := by
  pointwise [k0_pay17]
  simp only [edge0, edge255]
  rfl

/-- Second half of the channels, the second long convolution, of the gated stream `k0_pay17 …`. -/
theorem second_long (x : FVec Ideal S256x256 .f32) (w : FVec Ideal S1x3x256 .f32) (y : FVec Ideal S256x256 .f32)
    (F : FVec Ideal S512x256 .bf16) (G : FVec Ideal S256x512 .bf16) (re im : FVec Ideal S1x256x256 .f32)
    (b : FVec Ideal S1x256 .f32) (r : Fin 256) (c : Fin 256) :
    k0_pay25 (F := Ideal) (k0_pay17 k0_pay2 y x w) (k0_pay22 k0_pay3 (k0_pay19 k0_pay2 y x w F) re im) (k0_pay24 G) b (ix2 r c)
      = longK (fun k n => F (ix2 k n)) (fun n k => G (ix2 n k)) (fun k => re (ix3 0 k c)) (fun k => im (ix3 0 k c))
          (b (ix2 0 c)) (fun n => k0_pay17 (F := Ideal) k0_pay2 y x w (ix2 n c)) r := by
  pointwise [k0_pay25, k0_pay22, k0_pay19, k0_pay24]
  simp only [row0_at]
  rfl

/-- Second half of the channels, the first long convolution, of the value stream. -/
theorem second_first (x : FVec Ideal S256x256 .f32) (w : FVec Ideal S1x3x256 .f32)
    (F : FVec Ideal S512x256 .bf16) (G : FVec Ideal S256x512 .bf16) (re im : FVec Ideal S1x256x256 .f32)
    (b : FVec Ideal S1x256 .f32) (r : Fin 256) (c : Fin 256) :
    k0_pay15 (F := Ideal) (k0_pay9 k0_pay2 x w) (k0_pay13 k0_pay3 (k0_pay11 k0_pay2 x w F) re im) G b (ix2 r c)
      = longK (fun k n => F (ix2 k n)) (fun n k => G (ix2 n k)) (fun k => re (ix3 0 k c)) (fun k => im (ix3 0 k c))
          (b (ix2 0 c)) (conv (fun n => x (ix2 n c)) (fun a => w (ix3 0 a c))) r := by
  pointwise [k0_pay15, k0_pay13, k0_pay11, k0_pay9]
  simp only [row0_at, edge0, edge255]
  rfl

/-- First half of the channels: the first gate times the first long convolution of the value stream. -/
theorem first_first (x : FVec Ideal S256x256 .f32) (w : FVec Ideal S1x3x256 .f32)
    (x1 : FVec Ideal S256x256 .f32) (w1 : FVec Ideal S1x3x256 .f32)
    (F : FVec Ideal S512x256 .bf16) (G : FVec Ideal S256x512 .bf16) (re im : FVec Ideal S1x256x256 .f32)
    (b : FVec Ideal S1x256 .f32) (r : Fin 256) (c : Fin 256) :
    k0_pay16 (F := Ideal) k0_pay2 (k0_pay8 x (k0_pay4 w) (k0_pay5 x) (k0_pay6 x w) (k0_pay7 w))
        (k0_pay12 k0_pay3 (k0_pay10 x (k0_pay4 w) (k0_pay5 x) (k0_pay6 x w) (k0_pay7 w) F) re im) (k0_pay14 G) b x1 w1 (ix2 r c)
      = conv (fun n => x1 (ix2 n c)) (fun a => w1 (ix3 0 a c)) r
        * longK (fun k n => F (ix2 k n)) (fun n k => G (ix2 n k)) (fun k => re (ix3 0 k c)) (fun k => im (ix3 0 k c))
          (b (ix2 0 c)) (conv (fun n => x (ix2 n c)) (fun a => w (ix3 0 a c))) r := by
  pointwise [k0_pay16, k0_pay12, k0_pay10, k0_pay8, k0_pay4, k0_pay5, k0_pay6, k0_pay7, k0_pay14]
  simp only [row0_at, edge0, edge255]
  rfl

/-- First half of the channels: the last gate times the second long convolution of `u`. -/
theorem first_long (u : FVec Ideal S256x256 .f32)
    (x2 : FVec Ideal S256x256 .f32) (w2 : FVec Ideal S1x3x256 .f32)
    (F : FVec Ideal S512x256 .bf16) (G : FVec Ideal S256x512 .bf16) (re im : FVec Ideal S1x256x256 .f32)
    (b : FVec Ideal S1x256 .f32) (r : Fin 256) (c : Fin 256) :
    k0_pay26 (F := Ideal) k0_pay2 u (k0_pay23 k0_pay3 (k0_pay20 u F) (k0_pay21 u F) re im G) b x2 w2 (ix2 r c)
      = conv (fun n => x2 (ix2 n c)) (fun a => w2 (ix3 0 a c)) r
        * longK (fun k n => F (ix2 k n)) (fun n k => G (ix2 n k)) (fun k => re (ix3 0 k c)) (fun k => im (ix3 0 k c))
          (b (ix2 0 c)) (fun n => u (ix2 n c)) r := by
  pointwise [k0_pay26, k0_pay23, k0_pay20, k0_pay21, k0_pay18]
  simp only [row0_at, edge0, edge255]
  rfl

end Cert.Calls.HyenaP
-- ==== Proof.Calls.HyenaPBlock.lean ====
module

public import proofs.«01_k».proof.Proof.Calls.HyenaPPay
public import proofs.«01_k».proof.Proof.Gen.KernelHyenaPIdeal.Value

/-!
# What one grid point stores
-/

@[expose] public section

set_option maxRecDepth 16384

noncomputable section

open Idealize.ShloMosaic Idealize.ShloMosaic.TcCoe Idealize.SL.Sem
open Cert.KernelHyenaPIdeal Cert.KernelHyenaPIdeal.Gen

namespace Cert.Calls.HyenaP

open Cert.Calls.FilterP
open Cert.Hyena (sgn sgn_host muli_word floorMod_word sitofp_word neg_one_bits pi_at divisor_2 two_bits select_word)

/-- The block one grid point stores, at row `r` and channel `c` of the block: the mixer of that channel's
    three streams, with that channel's taps, spectra and skip weights. -/
theorem block_at (x0 x1 x2 : FVec Ideal S256x512 .f32) (x3 : FVec Ideal S3x3x512 .f32)
    (x4 x5 : FVec Ideal S2x256x512 .f32) (x6 : FVec Ideal S2x512 .f32) (x7 : FVec Ideal S512x256 .bf16)
    (x8 : FVec Ideal S256x512 .bf16) (y : S256x512.Idx) :
    out0_9 (F := Ideal) x0 x1 x2 x3 x4 x5 x6 x7 x8 y
      = mixK (fun k n => x7 (ix2 k n)) (fun n k => x8 (ix2 n k)) (fun o k => x4 (ix3 o k (y 1))) (fun o k => x5 (ix3 o k (y 1)))
          (fun o => x6 (ix2 o (y 1))) (fun g a => x3 (ix3 g a (y 1))) (fun n => x0 (ix2 n (y 1))) (fun n => x1 (ix2 n (y 1)))
          (fun n => x2 (ix2 n (y 1))) (y 0) := by
  idx_vars y
  unfold_out out0_9
  canon_tiles x h
  · idx_vars x
    obtain rfl : y0 = x0 := Fin.ext h0
    obtain ⟨z, hz⟩ : ∃ z : Fin 512, z.val = 256 + x1.val := ⟨⟨256 + x1.val, by omega⟩, rfl⟩
    obtain rfl : y1 = z := Fin.ext (h1.trans hz.symm)
    refine (pay1_at _ _ _ _ _).trans ?_
    rw [second_long]
    simp only [pay17_at, second_first]
    pointwise
    have e : (⟨256 + x1.val, by omega⟩ : Fin 512) = y1 := Fin.ext hz.symm
    simp only [e]
    rfl
  · idx_vars x
    obtain rfl : y0 = x0 := Fin.ext h0
    refine (first_long _ _ _ _ _ _ _ _ _ _).trans ?_
    simp only [first_first]
    pointwise
    have e : (⟨x1.val, by omega⟩ : Fin 512) = y1 := Fin.ext h1.symm
    simp only [e]
    rfl

end Cert.Calls.HyenaP
-- ==== Proof.Calls.HyenaPTable.lean ====
module

public import proofs.«01_k».proof.Proof.Calls.HyenaPForm
public import proofs.«01_k».proof.Proof.Gen.KernelHyenaPIdeal.Frame
public import proofs.«01_k».proof.Proof.Calls.HyenaPWord
public import proofs.«01_k».proof.Proof.Calls.HyenaPPay
public import Idealize.ShloMosaic.Lib.StableHlo.ReadAt

/-!
# The two tables the host prepares, entry by entry
-/

@[expose] public section

set_option maxRecDepth 16384

noncomputable section

open Idealize.ShloMosaic Idealize.ShloMosaic.TcCoe Idealize.SL.Sem
open Cert.KernelHyenaPIdeal Cert.KernelHyenaPIdeal.Gen

namespace Cert.Calls.HyenaP

open Cert.Calls.FilterP
open Cert.Hyena (sgn sgn_host muli_word floorMod_word sitofp_word neg_one_bits pi_at divisor_2 two_bits select_word)

variable (m : (ℓ : Loc nD τ sig) → Buf (Elt Ideal) ℓ)

set_option maxHeartbeats 4000000 in
/-- The forward table, as the host prepares it from the iota, the residue, the cosine and the sine. -/
theorem fmat_at (c : Dev nD) (k : Fin 512) (n : Fin 256) :
    (V m c main_v55 : FVec Ideal S512x256 .bf16) (ix2 k n) = ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_512, divisor_2, muli_word]
  have hn : n.val < 2 ^ 31 := by omega
  unfold fwdT
  by_cases h : k.val < 256
  · have hm : k.val * n.val < 2 ^ 31 := by nlinarith [n.isLt]
    rw [dif_pos h, if_pos h, floorMod_word _ 512 hm (by decide) (by decide), sitofp_word _ _ (by omega), step_at, cos_host]
  · have hm : (k.val - 256) * n.val < 2 ^ 31 := by
      have : k.val - 256 < 256 := by omega
      nlinarith [n.isLt]
    rw [dif_neg h, if_neg h, floorMod_word _ 512 hm (by decide) (by decide), sitofp_word _ _ (by omega), step_at, sin_host,
      floorMod_word _ 2 hn (by decide) (by decide), select_word _ 0 (by omega) (by decide), select_word _ 0 (by omega) (by decide),
      neg_one_bits, sgn_host]
    split <;> simp

set_option maxHeartbeats 4000000 in
/-- The inverse table, as the host prepares it. -/
theorem gmat_at (c : Dev nD) (k : Fin 512) (n : Fin 256) :
    (V m c main_v56 : FVec Ideal S256x512 .bf16) (ix2 n k) = ((invT n.val k.val : ℝ) : EReal) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  after_reads_simp
  simp -implicitDefEqProofs only [StableHlo.TRef.toBuf, StableHlo.TRef.ofBuf, cast_cast, cast_eq, id_eq]
  clean_types
  pointwise
  simp only [divisor_512, divisor_2, muli_word]
  have hn : n.val < 2 ^ 31 := by omega
  unfold invT
  by_cases h : k.val < 256
  · have hm : k.val * n.val < 2 ^ 31 := by nlinarith [n.isLt]
    rw [dif_pos h, if_pos h, floorMod_word _ 512 hm (by decide) (by decide), sitofp_word _ _ (by omega), step_at, cos_host,
      select_word _ 0 (by omega) (by decide), two_bits, k512_bits, Ideal.div_coe (by norm_num)]
    split <;> norm_cast
  · have hm : (k.val - 256) * n.val < 2 ^ 31 := by
      have : k.val - 256 < 256 := by omega
      nlinarith [n.isLt]
    rw [dif_neg h, if_neg h, floorMod_word _ 512 hm (by decide) (by decide), sitofp_word _ _ (by omega), step_at, sin_host,
      floorMod_word _ 2 hn (by decide) (by decide), select_word _ 0 (by omega) (by decide), select_word _ 0 (by omega) (by decide),
      neg_one_bits, sgn_host, k512_bits, k256_bits, Ideal.div_coe (by norm_num), Ideal.div_coe (by norm_num)]
    split <;> norm_cast

end Cert.Calls.HyenaP
-- ==== Proof.Calls.HyenaPArray.lean ====
module

public import proofs.«01_k».proof.Proof.Calls.HyenaPBlock
public import proofs.«01_k».proof.Proof.Calls.HyenaPTable
public import proofs.«01_k».proof.Proof.Calls.HyenaPLayout

/-!
# What the kernel's result array holds
-/

@[expose] public section

set_option maxRecDepth 16384

noncomputable section

open Idealize.ShloMosaic Idealize.ShloMosaic.TcCoe Idealize.SL.Sem
open Cert.KernelHyenaPIdeal Cert.KernelHyenaPIdeal.Gen

namespace Cert.Calls.HyenaP

open Cert.Calls.FilterP
open Cert.Hyena (sgn sgn_host muli_word floorMod_word sitofp_word neg_one_bits pi_at divisor_2 two_bits select_word)

variable (m : (ℓ : Loc nD τ sig) → Buf (Elt Ideal) ℓ)

/-- The index maps of the launch's windows at every grid point. -/
theorem idx : ∀ t : Fin cfg0.N,
    win0_0.index t = ![t.val % 16, t.val / 16] ∧ win0_1.index t = ![t.val % 16, 2 + t.val / 16]
    ∧ win0_2.index t = ![t.val % 16, 4 + t.val / 16] ∧ win0_3.index t = ![0, 0, t.val / 16]
    ∧ win0_4.index t = ![0, 0, t.val / 16] ∧ win0_5.index t = ![0, 0, t.val / 16] ∧ win0_6.index t = ![0, t.val / 16]
    ∧ win0_7.index t = ![0, 0] ∧ win0_8.index t = ![0, 0] ∧ win0_9.index t = ![t.val % 16, t.val / 16] ∧ t.val < 32 :=
  (by decide +kernel : ∀ t : Fin grid0.N, _)

/-- The forward table's block is the whole table. -/
theorem block7 (c : Dev nD) (t : Fin cfg0.N) (k : Fin 512) (n : Fin 256) :
    (iblk m c 7 t : FVec Ideal S512x256 .bf16) (ix2 k n) = ((fwdT k.val n.val : ℝ) : EReal) := by
  refine Eq.trans ?_ (fmat_at m c k n)
  blk_ext [iblk, idx t]

/-- The inverse table's block is the whole table. -/
theorem block8 (c : Dev nD) (t : Fin cfg0.N) (k : Fin 512) (n : Fin 256) :
    (iblk m c 8 t : FVec Ideal S256x512 .bf16) (ix2 n k) = ((invT n.val k.val : ℝ) : EReal) := by
  refine Eq.trans ?_ (gmat_at m c k n)
  blk_ext [iblk, idx t]

/-- The five arguments by their indices. -/
abbrev argZ (c : Dev nD) (r : Fin 8192) (q : Fin 16384) : EReal :=
  (m ((c : Thread nD τ).loc main_arg0) : FVec Ideal S8192x16384 .f32) (ix2 r q)
abbrev argW (c : Dev nD) (g a : Fin 3) (q : Fin 1024) : EReal :=
  (m ((c : Thread nD τ).loc main_arg1) : FVec Ideal S3x3x1024 .f32) (ix3 g a q)
abbrev argRe (c : Dev nD) (o : Fin 2) (k : Fin 256) (q : Fin 1024) : EReal :=
  (m ((c : Thread nD τ).loc main_arg2) : FVec Ideal S2x256x1024 .f32) (ix3 o k q)
abbrev argIm (c : Dev nD) (o : Fin 2) (k : Fin 256) (q : Fin 1024) : EReal :=
  (m ((c : Thread nD τ).loc main_arg3) : FVec Ideal S2x256x1024 .f32) (ix3 o k q)
abbrev argB (c : Dev nD) (o : Fin 2) (q : Fin 1024) : EReal :=
  (m ((c : Thread nD τ).loc main_arg4) : FVec Ideal S2x1024 .f32) (ix2 o q)

section
variable (c : Dev nD) (t : Fin cfg0.N) (y1 : Fin 512) (r : Fin 4096) (q : Fin 1024)
    (hr : r.val / 256 = t.val % 16) (hq : q.val = t.val / 16 * 512 + y1.val)
include hr hq

/-- The first stream's block. -/
theorem block0 (n : Fin 256) :
    (iblk m c 0 t : FVec Ideal S256x512 .f32) (ix2 n y1) = stream (argZ m c) 0 (by decide) r q n := by
  unfold stream argZ
  blk_ext [iblk, V, idx t]

/-- The second stream's block. -/
theorem block1 (n : Fin 256) :
    (iblk m c 1 t : FVec Ideal S256x512 .f32) (ix2 n y1) = stream (argZ m c) 1024 (by decide) r q n := by
  unfold stream argZ
  blk_ext [iblk, V, idx t]

/-- The third stream's block. -/
theorem block2 (n : Fin 256) :
    (iblk m c 2 t : FVec Ideal S256x512 .f32) (ix2 n y1) = stream (argZ m c) 2048 (by decide) r q n := by
  unfold stream argZ
  blk_ext [iblk, V, idx t]

omit hr
/-- The taps' block. -/
theorem block3 (g a : Fin 3) : (iblk m c 3 t : FVec Ideal S3x3x512 .f32) (ix3 g a y1) = argW m c g a q := by
  unfold argW
  blk_ext [iblk, V, idx t]

/-- The real spectrum's block. -/
theorem block4 (o : Fin 2) (k : Fin 256) : (iblk m c 4 t : FVec Ideal S2x256x512 .f32) (ix3 o k y1) = argRe m c o k q := by
  unfold argRe
  blk_ext [iblk, V, idx t]

/-- The imaginary spectrum's block. -/
theorem block5 (o : Fin 2) (k : Fin 256) : (iblk m c 5 t : FVec Ideal S2x256x512 .f32) (ix3 o k y1) = argIm m c o k q := by
  unfold argIm
  blk_ext [iblk, V, idx t]

/-- The skip weights' block. -/
theorem block6 (o : Fin 2) : (iblk m c 6 t : FVec Ideal S2x512 .f32) (ix2 o y1) = argB m c o q := by
  unfold argB
  blk_ext [iblk, V, idx t]
end

/-- The result array after the run. -/
def result (c : Dev nD) : FVec Ideal S4096x1024 .bf16 := fun j =>
  arrayK (argZ m c) (argW m c) (argRe m c) (argIm m c) (argB m c) (j 0) (j 1)

/-- What one grid point stores is its block of the result array. -/
theorem point (c : Dev nD) (t : Fin cfg0.N) (y : S256x512.Idx) (r : Fin 4096) (q : Fin 1024)
    (hr : r.val = t.val % 16 * 256 + (y 0).val) (hq : q.val = t.val / 16 * 512 + (y 1).val) :
    out0_9 (F := Ideal) (iblk m c 0 t) (iblk m c 1 t) (iblk m c 2 t) (iblk m c 3 t) (iblk m c 4 t) (iblk m c 5 t)
      (iblk m c 6 t) (iblk m c 7 t) (iblk m c 8 t) y
    = arrayK (argZ m c) (argW m c) (argRe m c) (argIm m c) (argB m c) r q := by
  have hy : (y 0).val < 256 := (y 0).isLt
  have hr' : r.val / 256 = t.val % 16 := by omega
  unfold arrayK
  exact (block_at _ _ _ _ _ _ _ _ _ y).trans (mixK_congr (block7 m c t) (fun n k => block8 m c t k n) (block4 m c t (y 1) q hq)
    (block5 m c t (y 1) q hq) (block6 m c t (y 1) q hq) (block3 m c t (y 1) q hq) (block0 m c t (y 1) r q hr' hq)
    (block1 m c t (y 1) r q hr' hq) (block2 m c t (y 1) r q hr' hq) (by show (y 0).val = r.val % 256; omega))

/-- The result array after the run is the mixer of every row and channel. -/
theorem final (c : Dev nD) : (dats m 0 c).arrAt 9 (cfgs 0).N = result m c := by
  refine (dats m 0 c).arrAt_eq_of_covers 9 _ (by decide +kernel) fun t _ y => ?_
  blk_simp
  rw [after0_9]
  refine point m c t y _ _ ?_ ?_
  · blk_simp [idx t]
  · blk_simp [idx t]

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 9).trans (final m c), h.2 c⟩) (θ_run_and (run_main m ρ) (unchanged m ρ))

end Cert.Calls.HyenaP
-- ==== Proof.Calls.HyenaPRefParts.lean ====
module

public import proofs.«01_k».proof.Proof.Calls.HyenaPLayout
public import proofs.«01_k».proof.Proof.Calls.HyenaPPay
public import proofs.«01_k».proof.Proof.Gen.ReferenceHyenaPIdeal.Run

/-!
# The reference's parts, entry by entry
-/

@[expose] public section

set_option maxRecDepth 16384

noncomputable section

open Idealize.ShloMosaic Idealize.ShloMosaic.TcCoe Idealize.SL.Sem Idealize.ShloMosaic.StableHlo
open Cert.ReferenceHyenaPIdeal Cert.ReferenceHyenaPIdeal.Gen Cert.ReferenceHyenaPIdeal.Value

namespace Cert.Calls.HyenaP

open Cert.Calls.FilterP
open Cert.Hyena (sgn sgn_host muli_word floorMod_word sitofp_word neg_one_bits pi_at divisor_2 two_bits select_word)

variable (V0 : Valuation τ sig (Elt Ideal))

/-- The five arguments by their indices. -/
abbrev refZ (r : Fin 8192) (q : Fin 16384) : EReal := (V0 (Proc.devRef .tc main_arg0) : FVec Ideal S8192x16384 .f32) (ix2 r q)
abbrev refW (g a : Fin 3) (q : Fin 1024) : EReal := (V0 (Proc.devRef .tc main_arg1) : FVec Ideal S3x3x1024 .f32) (ix3 g a q)
abbrev refRe (o : Fin 2) (k : Fin 256) (q : Fin 1024) : EReal := (V0 (Proc.devRef .tc main_arg2) : FVec Ideal S2x256x1024 .f32) (ix3 o k q)
abbrev refIm (o : Fin 2) (k : Fin 256) (q : Fin 1024) : EReal := (V0 (Proc.devRef .tc main_arg3) : FVec Ideal S2x256x1024 .f32) (ix3 o k q)
abbrev refB (o : Fin 2) (q : Fin 1024) : EReal := (V0 (Proc.devRef .tc main_arg4) : FVec Ideal S2x1024 .f32) (ix2 o q)

/-- The reference's three-tap convolution of padded rows `P` with taps `T`. -/
def convT (P : FVec Ideal S16x258x1024 .f32) (T : FVec Ideal S3x1024 .f32) : FVec Ideal S16x256x1024 .f32 :=
  addf (addf (mulf (extractStridedSlice S16x256x1024 ![0, 0, 0] P slices_S16x258x1024_S16x256x1024_0_0_0) (broadcastInDim S16x256x1024 ![0, 1, 2] bcast_S1x1x1024_S16x256x1024_0_1_2 (broadcastInDim S1x1x1024 ![2] bcast_S1024_S1x1x1024_2 (shapeCast _ (extractStridedSlice S1x1024 ![0, 0] T slices_S3x1024_S1x1024_0_0) shapeCasts_S1x1024_S1024)))) (mulf (extractStridedSlice S16x256x1024 ![0, 1, 0] P slices_S16x258x1024_S16x256x1024_0_1_0) (broadcastInDim S16x256x1024 ![0, 1, 2] bcast_S1x1x1024_S16x256x1024_0_1_2 (broadcastInDim S1x1x1024 ![2] bcast_S1024_S1x1x1024_2 (shapeCast _ (extractStridedSlice S1x1024 ![1, 0] T slices_S3x1024_S1x1024_1_0) shapeCasts_S1x1024_S1024))))) (mulf (extractStridedSlice S16x256x1024 ![0, 2, 0] P slices_S16x258x1024_S16x256x1024_0_2_0) (broadcastInDim S16x256x1024 ![0, 1, 2] bcast_S1x1x1024_S16x256x1024_0_1_2 (broadcastInDim S1x1x1024 ![2] bcast_S1024_S1x1x1024_2 (shapeCast _ (extractStridedSlice S1x1024 ![2, 0] T slices_S3x1024_S1x1024_2_0) shapeCasts_S1x1024_S1024))))

/-- The reference's inverse transform of the products of the transforms `A`, `B` with the spectrum, plus the skip term. -/
def longT (A B : FVec Ideal S16x257x1024 .f32) (re im : FVec Ideal S257x1024 .f32) (ang : FVec Ideal S257x256 .f32) (w : FVec Ideal S257 .f32)
    (u : FVec Ideal S16x256x1024 .f32) (b : FVec Ideal S1024 .f32) : FVec Ideal S16x256x1024 .f32 :=
  addf (addf (transpose S16x256x1024 [0, 2, 1] (Host.dotGeneral dot_S16x257x1024_S257x256_S16x1024x256_1_0_02_1_n_n none (subf (mulf A (broadcastInDim S16x257x1024 ![0, 1, 2] bcast_S1x257x1024_S16x257x1024_0_1_2 (broadcastInDim S1x257x1024 ![1, 2] bcast_S257x1024_S1x257x1024_1_2 re))) (mulf B (broadcastInDim S16x257x1024 ![0, 1, 2] bcast_S1x257x1024_S16x257x1024_0_1_2 (broadcastInDim S1x257x1024 ![1, 2] bcast_S257x1024_S1x257x1024_1_2 im)))) (mulf (Host.cos ang) (broadcastInDim S257x256 ![0, 1] bcast_S257x1_S257x256_0_1 (id (broadcastInDim S257x1 ![0] bcast_S257_S257x1_0 w))))) transposes_S16x1024x256_S16x256x1024_0_2_1) (transpose S16x256x1024 [0, 2, 1] (Host.dotGeneral dot_S16x257x1024_S257x256_S16x1024x256_1_0_02_1_n_n none (addf (mulf A (broadcastInDim S16x257x1024 ![0, 1, 2] bcast_S1x257x1024_S16x257x1024_0_1_2 (broadcastInDim S1x257x1024 ![1, 2] bcast_S257x1024_S1x257x1024_1_2 im))) (mulf B (broadcastInDim S16x257x1024 ![0, 1, 2] bcast_S1x257x1024_S16x257x1024_0_1_2 (broadcastInDim S1x257x1024 ![1, 2] bcast_S257x1024_S1x257x1024_1_2 re)))) (mulf (Host.negf (Host.sin ang)) (broadcastInDim S257x256 ![0, 1] bcast_S257x1_S257x256_0_1 (id (broadcastInDim S257x1 ![0] bcast_S257_S257x1_0 w))))) transposes_S16x1024x256_S16x256x1024_0_2_1)) (mulf u (broadcastInDim S16x256x1024 ![0, 1, 2] bcast_S1x1x1024_S16x256x1024_0_1_2 (broadcastInDim S1x1x1024 ![2] bcast_S1024_S1x1x1024_2 b)))

/-- An entry as an extended real. -/
abbrev entry {σ : Shape} {φ : FTy} (x : FVec Ideal σ φ) (j : σ.Idx) : EReal := x j

/-- The two bins of weight one, as the reference's words mark them. -/
theorem edge_word : ∀ k : Fin 257, IntOp.ori (IntOp.cmpi CmpIPredicate.eq (BitVec.ofNat 32 k.val) 0#32)
    (IntOp.cmpi CmpIPredicate.eq (BitVec.ofNat 32 k.val) 256#32) = if k.val = 0 ∨ k.val = 256 then 1#1 else 0#1 := by
  decide +kernel

/-- The convolution reads three neighbouring positions of one padded row. -/
theorem convT_at (P : FVec Ideal S16x258x1024 .f32) (T : FVec Ideal S3x1024 .f32) (s : Fin 16) (n : Fin 256) (c : Fin 1024) :
    (convT P T (ix3 s n c) : EReal)
      = P (ix3 s ⟨n.val, by omega⟩ c) * T (ix2 0 c)
        + P (ix3 s ⟨1 + n.val, by omega⟩ c) * T (ix2 1 c)
        + P (ix3 s ⟨2 + n.val, by omega⟩ c) * T (ix2 2 c) := by
  pointwise [convT]

/-- The zero a row is padded with. -/
theorem pad_zero : (FloatOps.sitofp FTy.f32 0#32 : Ideal .f32) = (0 : EReal) := by
  refine (sitofp_word .f32 0 (by decide)).trans ?_
  simp

/-- On rows padded by one zero at both ends it is the three-tap convolution of the stream. -/
theorem conv_pad (P : FVec Ideal S16x258x1024 .f32) (T : FVec Ideal S3x1024 .f32) (z : Fin 8192 → Fin 16384 → EReal)
    (w : Fin 3 → Fin 1024 → EReal) (col : ℕ) (hc : col + 1024 ≤ 16384)
    (hP : ∀ (s : Fin 16) (p : Fin 258) (c : Fin 1024), P (ix3 s p c) = if _ : 1 ≤ p.val ∧ p.val - 1 < 256 then
      z ⟨s.val * 256 + (p.val - 1), by omega⟩ ⟨col + c.val, by omega⟩
      else ((FloatOps.sitofp FTy.f32 0#32 : Ideal .f32) : EReal))
    (hT : ∀ a c, T (ix2 a c) = w a c) (s : Fin 16) (n : Fin 256) (c : Fin 1024) (r : Fin 4096) (hr : r.val / 256 = s.val) :
    (convT P T (ix3 s n c) : EReal) = conv (stream z col hc r c) (fun a => w a c) n := by
  have hz : ∀ (a b : ℕ) (ha : a < 8192) (hb : b < 8192) (q : Fin 16384), a = b → z ⟨a, ha⟩ q = z ⟨b, hb⟩ q := by
    rintro a b ha hb q rfl; rfl
  rw [convT_at, hP, hP, hP, hT, hT, hT, pad_zero]
  unfold conv stream
  refine congrArg₂ _ (congrArg₂ _ ?_ ?_) ?_
  · by_cases h : n.val = 0
    · rw [dif_neg (by show ¬ (1 ≤ n.val ∧ _); omega), if_pos h, zero_mul]
    · rw [dif_pos (by show 1 ≤ n.val ∧ n.val - 1 < 256; omega), if_neg h]
      refine congrArg (· * _) (hz _ _ _ _ _ ?_)
      dsimp only
      omega
  · rw [dif_pos (by show 1 ≤ 1 + n.val ∧ 1 + n.val - 1 < 256; omega)]
    refine congrArg (· * _) (hz _ _ _ _ _ ?_)
    dsimp only
    omega
  · by_cases h : n.val = 255
    · rw [dif_neg (by show ¬ (1 ≤ 2 + n.val ∧ 2 + n.val - 1 < 256); omega), if_pos h, zero_mul]
    · rw [dif_pos (by show 1 ≤ 2 + n.val ∧ 2 + n.val - 1 < 256; omega), if_neg h]
      refine congrArg (· * _) (hz _ _ _ _ _ ?_)
      dsimp only
      omega

/-- The inverse transform, entry by entry. -/
theorem longT_at (A B : FVec Ideal S16x257x1024 .f32) (re im : FVec Ideal S257x1024 .f32) (ang : FVec Ideal S257x256 .f32) (w : FVec Ideal S257 .f32)
    (u : FVec Ideal S16x256x1024 .f32) (b : FVec Ideal S1024 .f32) (s : Fin 16) (n : Fin 256) (c : Fin 1024) :
    (longT A B re im ang w u b (ix3 s n c) : EReal)
      = (∑ x : Fin 257, (A (ix3 s x c) * re (ix2 x c) - B (ix3 s x c) * im (ix2 x c)) * (Ideal.cos (ang (ix2 x n)) * w (ix1 x)))
        + (∑ x : Fin 257, (A (ix3 s x c) * im (ix2 x c) + B (ix3 s x c) * re (ix2 x c)) * (-Ideal.sin (ang (ix2 x n)) * w (ix1 x)))
        + u (ix3 s n c) * b (ix1 c) := by
  simp only [longT, id_eq]
  pointwise

/-- With the transforms of `u`, the bins' angles and the weights, it is the long convolution. -/
theorem long_ref (A B : FVec Ideal S16x257x1024 .f32) (re im : FVec Ideal S257x1024 .f32) (ang : FVec Ideal S257x256 .f32) (w : FVec Ideal S257 .f32)
    (u : FVec Ideal S16x256x1024 .f32) (b : FVec Ideal S1024 .f32)
    (hA : ∀ s k c, A (ix3 s k c) = ∑ i : Fin 256, (u (ix3 s i c) : EReal) * Ideal.cos (ang (ix2 k i)))
    (hB : ∀ s k c, B (ix3 s k c) = ∑ i : Fin 256, (u (ix3 s i c) : EReal) * -Ideal.sin (ang (ix2 k i)))
    (hang : ∀ (k : Fin 257) (n : Fin 256), ang (ix2 k n) = Cert.Calls.HyenaP.ang k n) (hw : ∀ k : Fin 257, w (ix1 k) = wt k)
    (reB imB : Fin 257 → Fin 1024 → EReal) (hre : ∀ k c, re (ix2 k c) = reB k c) (him : ∀ k c, im (ix2 k c) = imB k c)
    (bB : Fin 1024 → EReal) (hb : ∀ c, b (ix1 c) = bB c)
    (s : Fin 16) (n : Fin 256) (c : Fin 1024) (v : Fin 256 → EReal) (hv : ∀ i, u (ix3 s i c) = v i) :
    (longT A B re im ang w u b (ix3 s n c) : EReal) = longR (fun k => reB k c) (fun k => imB k c) (bB c) v n := by
  rw [longT_at]
  simp only [hA, hB, hang, hw, hre, him, hb, hv]
  rfl

/-- The first stream's rows, padded by one zero at both ends. -/
theorem v12_at (s : Fin 16) (p : Fin 258) (c : Fin 1024) :
    (res_main_v12 V0 : FVec Ideal S16x258x1024 .f32) (ix3 s p c) = if _ : 1 ≤ p.val ∧ p.val - 1 < 256 then
      refZ V0 ⟨s.val * 256 + (p.val - 1), by omega⟩ ⟨0 + c.val, by omega⟩
      else ((FloatOps.sitofp FTy.f32 0#32 : Ideal .f32) : EReal) := by
  simp only [Nat.zero_add]
  pointwise [res_main_v12, res_main_v1]

/-- The second stream's rows, padded by one zero at both ends. -/
theorem v35_at (s : Fin 16) (p : Fin 258) (c : Fin 1024) :
    (res_main_v35 V0 : FVec Ideal S16x258x1024 .f32) (ix3 s p c) = if _ : 1 ≤ p.val ∧ p.val - 1 < 256 then
      refZ V0 ⟨s.val * 256 + (p.val - 1), by omega⟩ ⟨1024 + c.val, by omega⟩
      else ((FloatOps.sitofp FTy.f32 0#32 : Ideal .f32) : EReal) := by
  pointwise [res_main_v35, res_main_v1]

/-- The third stream's rows, padded by one zero at both ends. -/
theorem v58_at (s : Fin 16) (p : Fin 258) (c : Fin 1024) :
    (res_main_v58 V0 : FVec Ideal S16x258x1024 .f32) (ix3 s p c) = if _ : 1 ≤ p.val ∧ p.val - 1 < 256 then
      refZ V0 ⟨s.val * 256 + (p.val - 1), by omega⟩ ⟨2048 + c.val, by omega⟩
      else ((FloatOps.sitofp FTy.f32 0#32 : Ideal .f32) : EReal) := by
  pointwise [res_main_v58, res_main_v1]

/-- The first stream's taps. -/
theorem v11_at (a : Fin 3) (c : Fin 1024) : (res_main_v11 V0 : FVec Ideal S3x1024 .f32) (ix2 a c) = refW V0 0 a c := by
  pointwise [res_main_v11]

/-- The second stream's taps. -/
theorem v34_at (a : Fin 3) (c : Fin 1024) : (res_main_v34 V0 : FVec Ideal S3x1024 .f32) (ix2 a c) = refW V0 1 a c := by
  pointwise [res_main_v34]

/-- The third stream's taps. -/
theorem v57_at (a : Fin 3) (c : Fin 1024) : (res_main_v57 V0 : FVec Ideal S3x1024 .f32) (ix2 a c) = refW V0 2 a c := by
  pointwise [res_main_v57]

/-- The real parts of the bins of convolution 0. -/
theorem v80_at (k : Fin 257) (c : Fin 1024) :
    (res_main_v80 V0 : FVec Ideal S257x1024 .f32) (ix2 k c) = reBins (fun k => refRe V0 0 k c) (fun k => refIm V0 0 k c) k := by
  pointwise [res_main_v80, res_main_v7, reBins]
  split
  · rfl
  · refine congrArg (V0 (Proc.devRef .tc main_arg3)) (congrArg (fun q => ix3 _ q c) (Fin.ext ?_))
    show k.val - 256 = 0
    omega

/-- The imaginary parts of the bins of convolution 0. -/
theorem v82_at (k : Fin 257) (c : Fin 1024) :
    (res_main_v82 V0 : FVec Ideal S257x1024 .f32) (ix2 k c) = imBins (fun k => refIm V0 0 k c) k := by
  pointwise [res_main_v82, res_main_v9, res_main_v5, imBins]
  by_cases h0 : k.val < 1
  · rw [dif_pos h0, if_pos h0]
  · rw [dif_neg h0, if_neg h0]
    by_cases h1 : k.val < 256
    · rw [dif_pos (by omega), dif_pos h1]
      refine congrArg (V0 (Proc.devRef .tc main_arg3)) (congrArg (fun q => ix3 _ q c) (Fin.ext ?_))
      show 1 + (k.val - 1) = k.val
      omega
    · rw [dif_neg (by omega), dif_neg h1]

/-- The real parts of the bins of convolution 1. -/
theorem v148_at (k : Fin 257) (c : Fin 1024) :
    (res_main_v148 V0 : FVec Ideal S257x1024 .f32) (ix2 k c) = reBins (fun k => refRe V0 1 k c) (fun k => refIm V0 1 k c) k := by
  pointwise [res_main_v148, res_main_v7, reBins]
  split
  · rfl
  · refine congrArg (V0 (Proc.devRef .tc main_arg3)) (congrArg (fun q => ix3 _ q c) (Fin.ext ?_))
    show k.val - 256 = 0
    omega

/-- The imaginary parts of the bins of convolution 1. -/
theorem v150_at (k : Fin 257) (c : Fin 1024) :
    (res_main_v150 V0 : FVec Ideal S257x1024 .f32) (ix2 k c) = imBins (fun k => refIm V0 1 k c) k := by
  pointwise [res_main_v150, res_main_v9, res_main_v5, imBins]
  by_cases h0 : k.val < 1
  · rw [dif_pos h0, if_pos h0]
  · rw [dif_neg h0, if_neg h0]
    by_cases h1 : k.val < 256
    · rw [dif_pos (by omega), dif_pos h1]
      refine congrArg (V0 (Proc.devRef .tc main_arg3)) (congrArg (fun q => ix3 _ q c) (Fin.ext ?_))
      show 1 + (k.val - 1) = k.val
      omega
    · rw [dif_neg (by omega), dif_neg h1]

/-- The angles. -/
theorem v96_at (k : Fin 257) (n : Fin 256) : (res_main_v96 V0 : FVec Ideal S257x256 .f32) (ix2 k n) = ang k n := by
  pointwise [res_main_v96, res_main_v85]
  rw [muli_word, sitofp_word _ _ (by nlinarith [k.isLt, n.isLt]), step_at]
  exact (EReal.coe_mul _ _).symm

/-- The weights. -/
theorem v125_at (k : Fin 257) : (res_main_v125 V0 : FVec Ideal S257 .f32) (ix1 k) = wt k := by
  pointwise [res_main_v125, res_main_v85]
  rw [edge_word]
  unfold wt
  split <;> rfl

/-- The angles. -/
theorem v164_at (k : Fin 257) (n : Fin 256) : (res_main_v164 V0 : FVec Ideal S257x256 .f32) (ix2 k n) = ang k n := by
  pointwise [res_main_v164, res_main_v153]
  rw [muli_word, sitofp_word _ _ (by nlinarith [k.isLt, n.isLt]), step_at]
  exact (EReal.coe_mul _ _).symm

/-- The weights. -/
theorem v193_at (k : Fin 257) : (res_main_v193 V0 : FVec Ideal S257 .f32) (ix1 k) = wt k := by
  pointwise [res_main_v193, res_main_v153]
  rw [edge_word]
  unfold wt
  split <;> rfl

/-- The cosine transform of the channels. -/
theorem v99_at (s : Fin 16) (k : Fin 257) (c : Fin 1024) : (res_main_v99 V0 : FVec Ideal S16x257x1024 .f32) (ix3 s k c)
    = ∑ i : Fin 256, entry (φ := .f32) (res_main_v78 V0 : FVec Ideal S16x256x1024 .f32) (ix3 s i c)
      * Ideal.cos (entry (φ := .f32) (res_main_v96 V0 : FVec Ideal S257x256 .f32) (ix2 k i)) := by
  pointwise [res_main_v99]

/-- The minus sine transform of the channels. -/
theorem v103_at (s : Fin 16) (k : Fin 257) (c : Fin 1024) : (res_main_v103 V0 : FVec Ideal S16x257x1024 .f32) (ix3 s k c)
    = ∑ i : Fin 256, entry (φ := .f32) (res_main_v78 V0 : FVec Ideal S16x256x1024 .f32) (ix3 s i c)
      * -Ideal.sin (entry (φ := .f32) (res_main_v96 V0 : FVec Ideal S257x256 .f32) (ix2 k i)) := by
  pointwise [res_main_v103]

/-- The cosine transform of the channels. -/
theorem v167_at (s : Fin 16) (k : Fin 257) (c : Fin 1024) : (res_main_v167 V0 : FVec Ideal S16x257x1024 .f32) (ix3 s k c)
    = ∑ i : Fin 256, entry (φ := .f32) (res_main_v146 V0 : FVec Ideal S16x256x1024 .f32) (ix3 s i c)
      * Ideal.cos (entry (φ := .f32) (res_main_v164 V0 : FVec Ideal S257x256 .f32) (ix2 k i)) := by
  pointwise [res_main_v167]

/-- The minus sine transform of the channels. -/
theorem v171_at (s : Fin 16) (k : Fin 257) (c : Fin 1024) : (res_main_v171 V0 : FVec Ideal S16x257x1024 .f32) (ix3 s k c)
    = ∑ i : Fin 256, entry (φ := .f32) (res_main_v146 V0 : FVec Ideal S16x256x1024 .f32) (ix3 s i c)
      * -Ideal.sin (entry (φ := .f32) (res_main_v164 V0 : FVec Ideal S257x256 .f32) (ix2 k i)) := by
  pointwise [res_main_v171]

end Cert.Calls.HyenaP
-- ==== Proof.Calls.HyenaPRef.lean ====
module

public import proofs.«01_k».proof.Proof.Calls.HyenaPLayout
public import proofs.«01_k».proof.Proof.Calls.HyenaPPay
public import proofs.«01_k».proof.Proof.Calls.HyenaPRefParts

/-!
# What the reference computes, entry by entry
-/

@[expose] public section

set_option maxRecDepth 16384

noncomputable section

open Idealize.ShloMosaic Idealize.ShloMosaic.TcCoe Idealize.SL.Sem Idealize.ShloMosaic.StableHlo
open Cert.ReferenceHyenaPIdeal Cert.ReferenceHyenaPIdeal.Gen Cert.ReferenceHyenaPIdeal.Value

namespace Cert.Calls.HyenaP

open Cert.Calls.FilterP
open Cert.Hyena (sgn sgn_host muli_word floorMod_word sitofp_word neg_one_bits pi_at divisor_2 two_bits select_word)

variable (V0 : Valuation τ sig (Elt Ideal))

/-- An entry of a product. -/
theorem mul_entry {A B : FVec Ideal S16x256x1024 .f32} {j : S16x256x1024.Idx} {a b : EReal} (hA : A j = a) (hB : B j = b) :
    (mulf A B j : EReal) = a * b := by
  subst hA hB; rfl

/-- An entry of a product whose sequences are laid one under the other. -/
theorem rows_entry (A B : FVec Ideal S16x256x1024 .f32) (r : Fin 4096) (c : Fin 1024) :
    (truncf .bf16 (shapeCast S4096x1024 (mulf A B) shapeCasts_S16x256x1024_S4096x1024) bitsLt_bf16_f32 (ix2 r c) : EReal)
      = A (ix3 ⟨r.val / 256, by omega⟩ ⟨r.val % 256, by omega⟩ c) * B (ix3 ⟨r.val / 256, by omega⟩ ⟨r.val % 256, by omega⟩ c) := by
  pointwise

/-- A row of the skip weights, cut out of the argument. -/
theorem bias0_at (c : Fin 1024) : ((shapeCast S1024 (extractStridedSlice S1x1024 ![0, 0] (V0 (Proc.devRef .tc main_arg4)) slices_S2x1024_S1x1024_0_0) shapeCasts_S1x1024_S1024) : FVec Ideal S1024 .f32) (ix1 c) = refB V0 0 c := by
  pointwise
/-- The other row. -/
theorem bias1_at (c : Fin 1024) : ((shapeCast S1024 (extractStridedSlice S1x1024 ![1, 0] (V0 (Proc.devRef .tc main_arg4)) slices_S2x1024_S1x1024_1_0) shapeCasts_S1x1024_S1024) : FVec Ideal S1024 .f32) (ix1 c) = refB V0 1 c := by
  pointwise

/-- The first gated stream as a product of a convolution and a long convolution. -/
theorem v146_eq : res_main_v146 V0 = mulf (convT (res_main_v12 V0) (res_main_v11 V0)) (longT (res_main_v99 V0)
    (res_main_v103 V0) (res_main_v80 V0) (res_main_v82 V0) (res_main_v96 V0) (res_main_v125 V0) (res_main_v78 V0)
    (shapeCast S1024 (extractStridedSlice S1x1024 ![0, 0] (V0 (Proc.devRef .tc main_arg4)) slices_S2x1024_S1x1024_0_0) shapeCasts_S1x1024_S1024)) := rfl

section
variable (s : Fin 16) (n : Fin 256) (c : Fin 1024) (r : Fin 4096) (hr : r.val / 256 = s.val)
include hr

/-- The third stream, convolved. -/
theorem v78_at : ((res_main_v78 V0 : FVec Ideal S16x256x1024 .f32) (ix3 s n c) : EReal)
    = conv (stream (refZ V0) 2048 (by decide) r c) (fun a => refW V0 2 a c) n := by
  refine (congrFun (show res_main_v78 V0 = convT (res_main_v58 V0) (res_main_v57 V0) from rfl) _).trans ?_
  exact conv_pad _ _ (refZ V0) (refW V0 2) 2048 (by decide) (v58_at V0) (v57_at V0) s n c r hr

/-- The first gated long convolution. -/
theorem v146_at : ((res_main_v146 V0 : FVec Ideal S16x256x1024 .f32) (ix3 s n c) : EReal)
    = conv (stream (refZ V0) 0 (by decide) r c) (fun a => refW V0 0 a c) n
      * longR (reBins (fun k => refRe V0 0 k c) (fun k => refIm V0 0 k c)) (imBins (fun k => refIm V0 0 k c)) (refB V0 0 c)
      (fun i => conv (stream (refZ V0) 2048 (by decide) r c) (fun a => refW V0 2 a c) i) n := by
  refine (congrFun (v146_eq V0) _).trans ?_
  exact mul_entry (conv_pad _ _ (refZ V0) (refW V0 0) 0 (by decide) (v12_at V0) (v11_at V0) s n c r hr)
    (long_ref _ _ _ _ _ _ _ _ (v99_at V0) (v103_at V0) (v96_at V0) (v125_at V0) _ _ (v80_at V0) (v82_at V0) _ (bias0_at V0)
      s n c _ fun i => v78_at V0 s i c r hr)
end

/-- The reference's result, as its run states it. -/
def refResult : FVec Ideal S4096x1024 .bf16 :=
  truncf .bf16 (shapeCast S4096x1024 (mulf (convT (res_main_v35 V0) (res_main_v34 V0)) (longT (res_main_v167 V0)
    (res_main_v171 V0) (res_main_v148 V0) (res_main_v150 V0) (res_main_v164 V0) (res_main_v193 V0) (res_main_v146 V0)
    (shapeCast S1024 (extractStridedSlice S1x1024 ![1, 0] (V0 (Proc.devRef .tc main_arg4)) slices_S2x1024_S1x1024_1_0) shapeCasts_S1x1024_S1024))) shapeCasts_S16x256x1024_S4096x1024) bitsLt_bf16_f32

/-- The reference's result, entry by entry. -/
theorem refResult_at (r : Fin 4096) (c : Fin 1024) :
    (refResult V0 (ix2 r c) : EReal) = arrayR (refZ V0) (refW V0) (refRe V0) (refIm V0) (refB V0) r c := by
  refine (rows_entry _ _ r c).trans ?_
  exact congrArg₂ _ (conv_pad _ _ (refZ V0) (refW V0 1) 1024 (by decide) (v35_at V0) (v34_at V0) _ _ c r rfl)
    (long_ref _ _ _ _ _ _ _ _ (v167_at V0) (v171_at V0) (v164_at V0) (v193_at V0) _ _ (v148_at V0) (v150_at V0) _ (bias1_at V0)
      _ _ c _ fun i => v146_at V0 _ i c r rfl)

/-- The reference's run: its result array holds `refResult`, its arguments are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v216) = refResult (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceHyenaPIdeal.Value.run m ρ

/-- The reference leaves its arguments and every semaphore counter as they were. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (ref_run m ρ)

end Cert.Calls.HyenaP
-- ==== Proof.Hyena.Block.lean ====
module

public import proofs.«01_k».proof.Proof.Hyena.Pay
public import proofs.«01_k».proof.Proof.Gen.KernelIdeal.Value

/-!
# What one grid point stores
-/

@[expose] public section

set_option maxRecDepth 16384

noncomputable section

open Idealize.ShloMosaic Idealize.ShloMosaic.TcCoe Idealize.SL.Sem
open Cert.KernelIdeal Cert.KernelIdeal.Gen

namespace Cert.Hyena

/-- The block one grid point stores, at row `r` and channel `c` of the block: the mixer of that channel's
    three streams, with that channel's taps, spectra and skip weights. -/
theorem block_at (x0 x1 x2 : FVec Ideal S1024x512 .f32) (x3 : FVec Ideal S3x3x512 .f32)
    (x4 x5 : FVec Ideal S2x1024x512 .f32) (x6 : FVec Ideal S2x512 .f32) (x7 : FVec Ideal S2048x1024 .bf16)
    (x8 : FVec Ideal S1024x2048 .bf16) (y : S1024x512.Idx) :
    out0_9 (F := Ideal) x0 x1 x2 x3 x4 x5 x6 x7 x8 y
      = mixK (fun k n => x7 (ix2 k n)) (fun n k => x8 (ix2 n k)) (fun o k => x4 (ix3 o k (y 1))) (fun o k => x5 (ix3 o k (y 1)))
          (fun o => x6 (ix2 o (y 1))) (fun g a => x3 (ix3 g a (y 1))) (fun n => x0 (ix2 n (y 1))) (fun n => x1 (ix2 n (y 1)))
          (fun n => x2 (ix2 n (y 1))) (y 0) := by
  idx_vars y
  unfold_out out0_9
  canon_tiles x h
  · idx_vars x
    obtain rfl : y0 = x0 := Fin.ext h0
    obtain ⟨z, hz⟩ : ∃ z : Fin 512, z.val = 256 + x1.val := ⟨⟨256 + x1.val, by omega⟩, rfl⟩
    obtain rfl : y1 = z := Fin.ext (h1.trans hz.symm)
    refine (pay1_at _ _ _ _ _).trans ?_
    rw [second_long]
    simp only [pay17_at, second_first]
    pointwise
    have e : (⟨256 + x1.val, by omega⟩ : Fin 512) = y1 := Fin.ext hz.symm
    simp only [e]
    rfl
  · idx_vars x
    obtain rfl : y0 = x0 := Fin.ext h0
    refine (first_long _ _ _ _ _ _ _ _ _ _).trans ?_
    simp only [first_first]
    pointwise
    have e : (⟨x1.val, by omega⟩ : Fin 512) = y1 := Fin.ext h1.symm
    simp only [e]
    rfl

end Cert.Hyena
-- ==== Proof.Hyena.Table.lean ====
module

public import proofs.«01_k».proof.Proof.Hyena.Form
public import proofs.«01_k».proof.Proof.Gen.KernelIdeal.Frame
public import proofs.«01_k».proof.Proof.Hyena.Word
public import proofs.«01_k».proof.Proof.Hyena.Pay
public import Idealize.ShloMosaic.Lib.StableHlo.ReadAt

/-!
# The two tables the host prepares, entry by entry
-/

@[expose] public section

set_option maxRecDepth 16384

noncomputable section

open Idealize.ShloMosaic Idealize.ShloMosaic.TcCoe Idealize.SL.Sem
open Cert.KernelIdeal Cert.KernelIdeal.Gen

namespace Cert.Hyena

variable (m : (ℓ : Loc nD τ sig) → Buf (Elt Ideal) ℓ)

set_option maxHeartbeats 4000000 in
/-- The forward table, as the host prepares it from the iota, the residue, the cosine and the sine. -/
theorem fmat_at (c : Dev nD) (k : Fin 2048) (n : Fin 1024) :
    (V m c main_v55 : FVec Ideal S2048x1024 .bf16) (ix2 k n) = ((fwdT k.val n.val : ℝ) : EReal) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  simp -implicitDefEqProofs only [StableHlo.TRef.toBuf, StableHlo.TRef.ofBuf, cast_cast, cast_eq, id_eq]
  clean_types
  pointwise
  simp only [divisor_2048, divisor_2, muli_word]
  have hn : n.val < 2 ^ 31 := by omega
  unfold fwdT
  by_cases h : k.val < 1024
  · have hm : k.val * n.val < 2 ^ 31 := by nlinarith [n.isLt]
    rw [dif_pos h, if_pos h, floorMod_word _ 2048 hm (by decide) (by decide), sitofp_word _ _ (by omega), step_at, cos_host]
  · have hm : (k.val - 1024) * n.val < 2 ^ 31 := by
      have : k.val - 1024 < 1024 := by omega
      nlinarith [n.isLt]
    rw [dif_neg h, if_neg h, floorMod_word _ 2048 hm (by decide) (by decide), sitofp_word _ _ (by omega), step_at, sin_host,
      floorMod_word _ 2 hn (by decide) (by decide), select_word _ 0 (by omega) (by decide), select_word _ 0 (by omega) (by decide),
      neg_one_bits, sgn_host]
    split <;> simp

set_option maxHeartbeats 4000000 in
/-- The inverse table, as the host prepares it. -/
theorem gmat_at (c : Dev nD) (k : Fin 2048) (n : Fin 1024) :
    (V m c main_v56 : FVec Ideal S1024x2048 .bf16) (ix2 n k) = ((invT n.val k.val : ℝ) : EReal) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  after_reads_simp
  simp -implicitDefEqProofs only [StableHlo.TRef.toBuf, StableHlo.TRef.ofBuf, cast_cast, cast_eq, id_eq]
  clean_types
  pointwise
  simp only [divisor_2048, divisor_2, muli_word]
  have hn : n.val < 2 ^ 31 := by omega
  unfold invT
  by_cases h : k.val < 1024
  · have hm : k.val * n.val < 2 ^ 31 := by nlinarith [n.isLt]
    rw [dif_pos h, if_pos h, floorMod_word _ 2048 hm (by decide) (by decide), sitofp_word _ _ (by omega), step_at, cos_host,
      select_word _ 0 (by omega) (by decide), two_bits, k2048_bits, Ideal.div_coe (by norm_num)]
    split <;> norm_cast
  · have hm : (k.val - 1024) * n.val < 2 ^ 31 := by
      have : k.val - 1024 < 1024 := by omega
      nlinarith [n.isLt]
    rw [dif_neg h, if_neg h, floorMod_word _ 2048 hm (by decide) (by decide), sitofp_word _ _ (by omega), step_at, sin_host,
      floorMod_word _ 2 hn (by decide) (by decide), select_word _ 0 (by omega) (by decide), select_word _ 0 (by omega) (by decide),
      neg_one_bits, sgn_host, k2048_bits, k1024_bits, Ideal.div_coe (by norm_num), Ideal.div_coe (by norm_num)]
    split <;> norm_cast

end Cert.Hyena
-- ==== Proof.Hyena.Array.lean ====
module

public import proofs.«01_k».proof.Proof.Hyena.Block
public import proofs.«01_k».proof.Proof.Hyena.Table
public import proofs.«01_k».proof.Proof.Hyena.Layout

/-!
# What the kernel's result array holds
-/

@[expose] public section

set_option maxRecDepth 16384

noncomputable section

open Idealize.ShloMosaic Idealize.ShloMosaic.TcCoe Idealize.SL.Sem
open Cert.KernelIdeal Cert.KernelIdeal.Gen

namespace Cert.Hyena

variable (m : (ℓ : Loc nD τ sig) → Buf (Elt Ideal) ℓ)

/-- The index maps of the launch's windows at every grid point. -/
theorem idx : ∀ t : Fin cfg0.N,
    win0_0.index t = ![4 + t.val % 4, t.val / 4] ∧ win0_1.index t = ![4 + t.val % 4, 2 + t.val / 4]
    ∧ win0_2.index t = ![4 + t.val % 4, 4 + t.val / 4] ∧ win0_3.index t = ![0, 0, t.val / 4]
    ∧ win0_4.index t = ![0, 0, t.val / 4] ∧ win0_5.index t = ![0, 0, t.val / 4] ∧ win0_6.index t = ![0, t.val / 4]
    ∧ win0_7.index t = ![0, 0] ∧ win0_8.index t = ![0, 0] ∧ win0_9.index t = ![t.val % 4, t.val / 4] ∧ t.val < 8 :=
  (by decide +kernel : ∀ t : Fin grid0.N, _)

/-- The forward table's block is the whole table. -/
theorem block7 (c : Dev nD) (t : Fin cfg0.N) (k : Fin 2048) (n : Fin 1024) :
    (iblk m c 7 t : FVec Ideal S2048x1024 .bf16) (ix2 k n) = ((fwdT k.val n.val : ℝ) : EReal) := by
  refine Eq.trans ?_ (fmat_at m c k n)
  blk_ext [iblk, idx t]

/-- The inverse table's block is the whole table. -/
theorem block8 (c : Dev nD) (t : Fin cfg0.N) (k : Fin 2048) (n : Fin 1024) :
    (iblk m c 8 t : FVec Ideal S1024x2048 .bf16) (ix2 n k) = ((invT n.val k.val : ℝ) : EReal) := by
  refine Eq.trans ?_ (gmat_at m c k n)
  blk_ext [iblk, idx t]

/-- The five arguments by their indices. -/
abbrev argZ (c : Dev nD) (r : Fin 8192) (q : Fin 16384) : EReal :=
  (m ((c : Thread nD τ).loc main_arg0) : FVec Ideal S8192x16384 .f32) (ix2 r q)
abbrev argW (c : Dev nD) (g a : Fin 3) (q : Fin 1024) : EReal :=
  (m ((c : Thread nD τ).loc main_arg1) : FVec Ideal S3x3x1024 .f32) (ix3 g a q)
abbrev argRe (c : Dev nD) (o : Fin 2) (k q : Fin 1024) : EReal :=
  (m ((c : Thread nD τ).loc main_arg2) : FVec Ideal S2x1024x1024 .f32) (ix3 o k q)
abbrev argIm (c : Dev nD) (o : Fin 2) (k q : Fin 1024) : EReal :=
  (m ((c : Thread nD τ).loc main_arg3) : FVec Ideal S2x1024x1024 .f32) (ix3 o k q)
abbrev argB (c : Dev nD) (o : Fin 2) (q : Fin 1024) : EReal :=
  (m ((c : Thread nD τ).loc main_arg4) : FVec Ideal S2x1024 .f32) (ix2 o q)

section
variable (c : Dev nD) (t : Fin cfg0.N) (y1 : Fin 512) (r : Fin 4096) (q : Fin 1024)
    (hr : r.val / 1024 = t.val % 4) (hq : q.val = t.val / 4 * 512 + y1.val)
include hr hq

/-- The first stream's block. -/
theorem block0 (n : Fin 1024) :
    (iblk m c 0 t : FVec Ideal S1024x512 .f32) (ix2 n y1) = stream (argZ m c) 0 (by decide) r q n := by
  unfold stream argZ
  blk_ext [iblk, V, idx t]

/-- The second stream's block. -/
theorem block1 (n : Fin 1024) :
    (iblk m c 1 t : FVec Ideal S1024x512 .f32) (ix2 n y1) = stream (argZ m c) 1024 (by decide) r q n := by
  unfold stream argZ
  blk_ext [iblk, V, idx t]

/-- The third stream's block. -/
theorem block2 (n : Fin 1024) :
    (iblk m c 2 t : FVec Ideal S1024x512 .f32) (ix2 n y1) = stream (argZ m c) 2048 (by decide) r q n := by
  unfold stream argZ
  blk_ext [iblk, V, idx t]

omit hr
/-- The taps' block. -/
theorem block3 (g a : Fin 3) : (iblk m c 3 t : FVec Ideal S3x3x512 .f32) (ix3 g a y1) = argW m c g a q := by
  unfold argW
  blk_ext [iblk, V, idx t]

/-- The real spectrum's block. -/
theorem block4 (o : Fin 2) (k : Fin 1024) : (iblk m c 4 t : FVec Ideal S2x1024x512 .f32) (ix3 o k y1) = argRe m c o k q := by
  unfold argRe
  blk_ext [iblk, V, idx t]

/-- The imaginary spectrum's block. -/
theorem block5 (o : Fin 2) (k : Fin 1024) : (iblk m c 5 t : FVec Ideal S2x1024x512 .f32) (ix3 o k y1) = argIm m c o k q := by
  unfold argIm
  blk_ext [iblk, V, idx t]

/-- The skip weights' block. -/
theorem block6 (o : Fin 2) : (iblk m c 6 t : FVec Ideal S2x512 .f32) (ix2 o y1) = argB m c o q := by
  unfold argB
  blk_ext [iblk, V, idx t]
end

/-- The result array after the run. -/
def result (c : Dev nD) : FVec Ideal S4096x1024 .bf16 := fun j =>
  arrayK (argZ m c) (argW m c) (argRe m c) (argIm m c) (argB m c) (j 0) (j 1)

/-- What one grid point stores is its block of the result array. -/
theorem point (c : Dev nD) (t : Fin cfg0.N) (y : S1024x512.Idx) (r : Fin 4096) (q : Fin 1024)
    (hr : r.val = t.val % 4 * 1024 + (y 0).val) (hq : q.val = t.val / 4 * 512 + (y 1).val) :
    out0_9 (F := Ideal) (iblk m c 0 t) (iblk m c 1 t) (iblk m c 2 t) (iblk m c 3 t) (iblk m c 4 t) (iblk m c 5 t)
      (iblk m c 6 t) (iblk m c 7 t) (iblk m c 8 t) y
    = arrayK (argZ m c) (argW m c) (argRe m c) (argIm m c) (argB m c) r q := by
  have hy : (y 0).val < 1024 := (y 0).isLt
  have hr' : r.val / 1024 = t.val % 4 := by omega
  unfold arrayK
  exact (block_at _ _ _ _ _ _ _ _ _ y).trans (mixK_congr (block7 m c t) (fun n k => block8 m c t k n) (block4 m c t (y 1) q hq)
    (block5 m c t (y 1) q hq) (block6 m c t (y 1) q hq) (block3 m c t (y 1) q hq) (block0 m c t (y 1) r q hr' hq)
    (block1 m c t (y 1) r q hr' hq) (block2 m c t (y 1) r q hr' hq) (by show (y 0).val = r.val % 1024; omega))

/-- The result array after the run is the mixer of every row and channel. -/
theorem final (c : Dev nD) : (dats m 0 c).arrAt 9 (cfgs 0).N = result m c := by
  refine (dats m 0 c).arrAt_eq_of_covers 9 _ (by decide +kernel) fun t _ y => ?_
  blk_simp
  rw [after0_9]
  refine point m c t y _ _ ?_ ?_
  · blk_simp [idx t]
  · blk_simp [idx t]

/-- The kernel's run: its result array holds `result`, its arguments are unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 9).trans (final m c), h.2 c⟩) (θ_run_and (run_main m ρ) (unchanged m ρ))

end Cert.Hyena
-- ==== Proof.Hyena.RefParts.lean ====
module

public import proofs.«01_k».proof.Proof.Hyena.Layout
public import proofs.«01_k».proof.Proof.Hyena.Pay
public import proofs.«01_k».proof.Proof.Gen.ReferenceIdeal.Run

/-!
# The reference's parts, entry by entry
-/

@[expose] public section

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.Value

namespace Cert.Hyena

variable (V0 : Valuation τ sig (Elt Ideal))

/-- The five arguments by their indices. -/
abbrev refZ (r : Fin 8192) (q : Fin 16384) : EReal := (V0 (Proc.devRef .tc main_arg0) : FVec Ideal S8192x16384 .f32) (ix2 r q)
abbrev refW (g a : Fin 3) (q : Fin 1024) : EReal := (V0 (Proc.devRef .tc main_arg1) : FVec Ideal S3x3x1024 .f32) (ix3 g a q)
abbrev refRe (o : Fin 2) (k q : Fin 1024) : EReal := (V0 (Proc.devRef .tc main_arg2) : FVec Ideal S2x1024x1024 .f32) (ix3 o k q)
abbrev refIm (o : Fin 2) (k q : Fin 1024) : EReal := (V0 (Proc.devRef .tc main_arg3) : FVec Ideal S2x1024x1024 .f32) (ix3 o k q)
abbrev refB (o : Fin 2) (q : Fin 1024) : EReal := (V0 (Proc.devRef .tc main_arg4) : FVec Ideal S2x1024 .f32) (ix2 o q)

/-- The reference's three-tap convolution of padded rows `P` with taps `T`. -/
def convT (P : FVec Ideal S64x66x1024 .f32) (T : FVec Ideal S3x1024 .f32) : FVec Ideal S4x1024x1024 .f32 :=
  shapeCast _ (addf (addf (mulf (extractStridedSlice S64x64x1024 ![0, 0, 0] P slices_S64x66x1024_S64x64x1024_0_0_0) (broadcastInDim S64x64x1024 ![0, 1, 2] bcast_S1x1x1024_S64x64x1024_0_1_2 (broadcastInDim S1x1x1024 ![2] bcast_S1024_S1x1x1024_2 (shapeCast _ (extractStridedSlice S1x1024 ![0, 0] T slices_S3x1024_S1x1024_0_0) shapeCasts_S1x1024_S1024)))) (mulf (extractStridedSlice S64x64x1024 ![0, 1, 0] P slices_S64x66x1024_S64x64x1024_0_1_0) (broadcastInDim S64x64x1024 ![0, 1, 2] bcast_S1x1x1024_S64x64x1024_0_1_2 (broadcastInDim S1x1x1024 ![2] bcast_S1024_S1x1x1024_2 (shapeCast _ (extractStridedSlice S1x1024 ![1, 0] T slices_S3x1024_S1x1024_1_0) shapeCasts_S1x1024_S1024))))) (mulf (extractStridedSlice S64x64x1024 ![0, 2, 0] P slices_S64x66x1024_S64x64x1024_0_2_0) (broadcastInDim S64x64x1024 ![0, 1, 2] bcast_S1x1x1024_S64x64x1024_0_1_2 (broadcastInDim S1x1x1024 ![2] bcast_S1024_S1x1x1024_2 (shapeCast _ (extractStridedSlice S1x1024 ![2, 0] T slices_S3x1024_S1x1024_2_0) shapeCasts_S1x1024_S1024))))) shapeCasts_S64x64x1024_S4x1024x1024

/-- The reference's inverse transform of the products of the transforms `A`, `B` with the spectrum, plus the skip term. -/
def longT (A B : FVec Ideal S4x1025x1024 .f32) (re im ang : FVec Ideal S1025x1024 .f32) (w : FVec Ideal S1025 .f32)
    (u : FVec Ideal S4x1024x1024 .f32) (b : FVec Ideal S1024 .f32) : FVec Ideal S4x1024x1024 .f32 :=
  addf (addf (transpose S4x1024x1024 [0, 2, 1] (Host.dotGeneral dot_S4x1025x1024_S1025x1024_S4x1024x1024_1_0_02_1_n_n none (subf (mulf A (broadcastInDim S4x1025x1024 ![0, 1, 2] bcast_S1x1025x1024_S4x1025x1024_0_1_2 (broadcastInDim S1x1025x1024 ![1, 2] bcast_S1025x1024_S1x1025x1024_1_2 re))) (mulf B (broadcastInDim S4x1025x1024 ![0, 1, 2] bcast_S1x1025x1024_S4x1025x1024_0_1_2 (broadcastInDim S1x1025x1024 ![1, 2] bcast_S1025x1024_S1x1025x1024_1_2 im)))) (mulf (Host.cos ang) (broadcastInDim S1025x1024 ![0, 1] bcast_S1025x1_S1025x1024_0_1 (id (broadcastInDim S1025x1 ![0] bcast_S1025_S1025x1_0 w))))) transposes_S4x1024x1024_S4x1024x1024_0_2_1) (transpose S4x1024x1024 [0, 2, 1] (Host.dotGeneral dot_S4x1025x1024_S1025x1024_S4x1024x1024_1_0_02_1_n_n none (addf (mulf A (broadcastInDim S4x1025x1024 ![0, 1, 2] bcast_S1x1025x1024_S4x1025x1024_0_1_2 (broadcastInDim S1x1025x1024 ![1, 2] bcast_S1025x1024_S1x1025x1024_1_2 im))) (mulf B (broadcastInDim S4x1025x1024 ![0, 1, 2] bcast_S1x1025x1024_S4x1025x1024_0_1_2 (broadcastInDim S1x1025x1024 ![1, 2] bcast_S1025x1024_S1x1025x1024_1_2 re)))) (mulf (Host.negf (Host.sin ang)) (broadcastInDim S1025x1024 ![0, 1] bcast_S1025x1_S1025x1024_0_1 (id (broadcastInDim S1025x1 ![0] bcast_S1025_S1025x1_0 w))))) transposes_S4x1024x1024_S4x1024x1024_0_2_1)) (mulf u (broadcastInDim S4x1024x1024 ![0, 1, 2] bcast_S1x1x1024_S4x1024x1024_0_1_2 (broadcastInDim S1x1x1024 ![2] bcast_S1024_S1x1x1024_2 b)))

/-- An entry as an extended real. -/
abbrev entry {σ : Shape} {φ : FTy} (x : FVec Ideal σ φ) (j : σ.Idx) : EReal := x j

/-- The two bins of weight one, as the reference's words mark them. -/
theorem edge_word : ∀ k : Fin 1025, IntOp.ori (IntOp.cmpi CmpIPredicate.eq (BitVec.ofNat 32 k.val) 0#32)
    (IntOp.cmpi CmpIPredicate.eq (BitVec.ofNat 32 k.val) 1024#32) = if k.val = 0 ∨ k.val = 1024 then 1#1 else 0#1 := by
  decide +kernel

/-- The convolution reads three neighbouring positions of one padded row. -/
theorem convT_at (P : FVec Ideal S64x66x1024 .f32) (T : FVec Ideal S3x1024 .f32) (s : Fin 4) (n c : Fin 1024) :
    (convT P T (ix3 s n c) : EReal)
      = P (ix3 ⟨s.val * 16 + n.val / 64, by omega⟩ ⟨n.val % 64, by omega⟩ c) * T (ix2 0 c)
        + P (ix3 ⟨s.val * 16 + n.val / 64, by omega⟩ ⟨1 + n.val % 64, by omega⟩ c) * T (ix2 1 c)
        + P (ix3 ⟨s.val * 16 + n.val / 64, by omega⟩ ⟨2 + n.val % 64, by omega⟩ c) * T (ix2 2 c) := by
  pointwise [convT]

/-- The zero a row is padded with. -/
theorem pad_zero : (FloatOps.sitofp FTy.f32 0#32 : Ideal .f32) = (0 : EReal) := by
  refine (sitofp_word .f32 0 (by decide)).trans ?_
  simp

/-- On rows padded by one zero at both ends it is the three-tap convolution of the stream. -/
theorem conv_pad (P : FVec Ideal S64x66x1024 .f32) (T : FVec Ideal S3x1024 .f32) (z : Fin 8192 → Fin 16384 → EReal)
    (w : Fin 3 → Fin 1024 → EReal) (col : ℕ) (hc : col + 1024 ≤ 16384)
    (hP : ∀ (s : Fin 64) (p : Fin 66) (c : Fin 1024), P (ix3 s p c) = if _ : 1 ≤ p.val ∧ p.val - 1 < 64 then
      z ⟨4096 + (s.val / 16 * 1024 + (s.val % 16 * 64 + (p.val - 1))), by omega⟩ ⟨col + c.val, by omega⟩
      else ((FloatOps.sitofp FTy.f32 0#32 : Ideal .f32) : EReal))
    (hT : ∀ a c, T (ix2 a c) = w a c) (s : Fin 4) (n c : Fin 1024) (r : Fin 4096) (hr : r.val / 1024 = s.val) :
    (convT P T (ix3 s n c) : EReal) = conv (stream z col hc r c) (fun a => w a c) n := by
  have hz : ∀ (a b : ℕ) (ha : a < 8192) (hb : b < 8192) (q : Fin 16384), a = b → z ⟨a, ha⟩ q = z ⟨b, hb⟩ q := by
    rintro a b ha hb q rfl; rfl
  rw [convT_at, hP, hP, hP, hT, hT, hT, pad_zero]
  unfold conv stream
  refine congrArg₂ _ (congrArg₂ _ ?_ ?_) ?_
  · by_cases h : n.val % 64 = 0
    · rw [dif_neg (by show ¬ (1 ≤ n.val % 64 ∧ _); omega), if_pos h, zero_mul]
    · rw [dif_pos (by show 1 ≤ n.val % 64 ∧ n.val % 64 - 1 < 64; omega), if_neg h]
      refine congrArg (· * _) (hz _ _ _ _ _ ?_)
      dsimp only
      omega
  · rw [dif_pos (by show 1 ≤ 1 + n.val % 64 ∧ 1 + n.val % 64 - 1 < 64; omega)]
    refine congrArg (· * _) (hz _ _ _ _ _ ?_)
    dsimp only
    omega
  · by_cases h : n.val % 64 = 63
    · rw [dif_neg (by show ¬ (1 ≤ 2 + n.val % 64 ∧ 2 + n.val % 64 - 1 < 64); omega), if_pos h, zero_mul]
    · rw [dif_pos (by show 1 ≤ 2 + n.val % 64 ∧ 2 + n.val % 64 - 1 < 64; omega), if_neg h]
      refine congrArg (· * _) (hz _ _ _ _ _ ?_)
      dsimp only
      omega

/-- The inverse transform, entry by entry. -/
theorem longT_at (A B : FVec Ideal S4x1025x1024 .f32) (re im ang : FVec Ideal S1025x1024 .f32) (w : FVec Ideal S1025 .f32)
    (u : FVec Ideal S4x1024x1024 .f32) (b : FVec Ideal S1024 .f32) (s : Fin 4) (n c : Fin 1024) :
    (longT A B re im ang w u b (ix3 s n c) : EReal)
      = (∑ x : Fin 1025, (A (ix3 s x c) * re (ix2 x c) - B (ix3 s x c) * im (ix2 x c)) * (Ideal.cos (ang (ix2 x n)) * w (ix1 x)))
        + (∑ x : Fin 1025, (A (ix3 s x c) * im (ix2 x c) + B (ix3 s x c) * re (ix2 x c)) * (-Ideal.sin (ang (ix2 x n)) * w (ix1 x)))
        + u (ix3 s n c) * b (ix1 c) := by
  simp only [longT, id_eq]
  pointwise

/-- With the transforms of `u`, the bins' angles and the weights, it is the long convolution. -/
theorem long_ref (A B : FVec Ideal S4x1025x1024 .f32) (re im ang : FVec Ideal S1025x1024 .f32) (w : FVec Ideal S1025 .f32)
    (u : FVec Ideal S4x1024x1024 .f32) (b : FVec Ideal S1024 .f32)
    (hA : ∀ s k c, A (ix3 s k c) = ∑ i : Fin 1024, (u (ix3 s i c) : EReal) * Ideal.cos (ang (ix2 k i)))
    (hB : ∀ s k c, B (ix3 s k c) = ∑ i : Fin 1024, (u (ix3 s i c) : EReal) * -Ideal.sin (ang (ix2 k i)))
    (hang : ∀ (k : Fin 1025) (n : Fin 1024), ang (ix2 k n) = Cert.Hyena.ang k n) (hw : ∀ k : Fin 1025, w (ix1 k) = wt k)
    (reB imB : Fin 1025 → Fin 1024 → EReal) (hre : ∀ k c, re (ix2 k c) = reB k c) (him : ∀ k c, im (ix2 k c) = imB k c)
    (bB : Fin 1024 → EReal) (hb : ∀ c, b (ix1 c) = bB c)
    (s : Fin 4) (n c : Fin 1024) (v : Fin 1024 → EReal) (hv : ∀ i, u (ix3 s i c) = v i) :
    (longT A B re im ang w u b (ix3 s n c) : EReal) = longR (fun k => reB k c) (fun k => imB k c) (bB c) v n := by
  rw [longT_at]
  simp only [hA, hB, hang, hw, hre, him, hb, hv]
  rfl

/-- The first stream's rows, padded by one zero at both ends. -/
theorem v13_at (s : Fin 64) (p : Fin 66) (c : Fin 1024) :
    (res_main_v13 V0 : FVec Ideal S64x66x1024 .f32) (ix3 s p c) = if _ : 1 ≤ p.val ∧ p.val - 1 < 64 then
      refZ V0 ⟨4096 + (s.val / 16 * 1024 + (s.val % 16 * 64 + (p.val - 1))), by omega⟩ ⟨0 + c.val, by omega⟩
      else ((FloatOps.sitofp FTy.f32 0#32 : Ideal .f32) : EReal) := by
  simp only [Nat.zero_add]
  pointwise [res_main_v13, res_main_v1]

/-- The second stream's rows, padded by one zero at both ends. -/
theorem v38_at (s : Fin 64) (p : Fin 66) (c : Fin 1024) :
    (res_main_v38 V0 : FVec Ideal S64x66x1024 .f32) (ix3 s p c) = if _ : 1 ≤ p.val ∧ p.val - 1 < 64 then
      refZ V0 ⟨4096 + (s.val / 16 * 1024 + (s.val % 16 * 64 + (p.val - 1))), by omega⟩ ⟨1024 + c.val, by omega⟩
      else ((FloatOps.sitofp FTy.f32 0#32 : Ideal .f32) : EReal) := by
  pointwise [res_main_v38, res_main_v1]

/-- The third stream's rows, padded by one zero at both ends. -/
theorem v63_at (s : Fin 64) (p : Fin 66) (c : Fin 1024) :
    (res_main_v63 V0 : FVec Ideal S64x66x1024 .f32) (ix3 s p c) = if _ : 1 ≤ p.val ∧ p.val - 1 < 64 then
      refZ V0 ⟨4096 + (s.val / 16 * 1024 + (s.val % 16 * 64 + (p.val - 1))), by omega⟩ ⟨2048 + c.val, by omega⟩
      else ((FloatOps.sitofp FTy.f32 0#32 : Ideal .f32) : EReal) := by
  pointwise [res_main_v63, res_main_v1]

/-- The first stream's taps. -/
theorem v11_at (a : Fin 3) (c : Fin 1024) : (res_main_v11 V0 : FVec Ideal S3x1024 .f32) (ix2 a c) = refW V0 0 a c := by
  pointwise [res_main_v11]

/-- The second stream's taps. -/
theorem v36_at (a : Fin 3) (c : Fin 1024) : (res_main_v36 V0 : FVec Ideal S3x1024 .f32) (ix2 a c) = refW V0 1 a c := by
  pointwise [res_main_v36]

/-- The third stream's taps. -/
theorem v61_at (a : Fin 3) (c : Fin 1024) : (res_main_v61 V0 : FVec Ideal S3x1024 .f32) (ix2 a c) = refW V0 2 a c := by
  pointwise [res_main_v61]

/-- The real parts of the bins of convolution 0. -/
theorem v86_at (k : Fin 1025) (c : Fin 1024) :
    (res_main_v86 V0 : FVec Ideal S1025x1024 .f32) (ix2 k c) = reBins (fun k => refRe V0 0 k c) (fun k => refIm V0 0 k c) k := by
  pointwise [res_main_v86, res_main_v7, reBins]
  split
  · rfl
  · refine congrArg (V0 (Proc.devRef .tc main_arg3)) (congrArg (fun q => ix3 _ q c) (Fin.ext ?_))
    show k.val - 1024 = 0
    omega

/-- The imaginary parts of the bins of convolution 0. -/
theorem v88_at (k : Fin 1025) (c : Fin 1024) :
    (res_main_v88 V0 : FVec Ideal S1025x1024 .f32) (ix2 k c) = imBins (fun k => refIm V0 0 k c) k := by
  pointwise [res_main_v88, res_main_v9, res_main_v5, imBins]
  by_cases h0 : k.val < 1
  · rw [dif_pos h0, if_pos h0]
  · rw [dif_neg h0, if_neg h0]
    by_cases h1 : k.val < 1024
    · rw [dif_pos (by omega), dif_pos h1]
      refine congrArg (V0 (Proc.devRef .tc main_arg3)) (congrArg (fun q => ix3 _ q c) (Fin.ext ?_))
      show 1 + (k.val - 1) = k.val
      omega
    · rw [dif_neg (by omega), dif_neg h1]

/-- The real parts of the bins of convolution 1. -/
theorem v154_at (k : Fin 1025) (c : Fin 1024) :
    (res_main_v154 V0 : FVec Ideal S1025x1024 .f32) (ix2 k c) = reBins (fun k => refRe V0 1 k c) (fun k => refIm V0 1 k c) k := by
  pointwise [res_main_v154, res_main_v7, reBins]
  split
  · rfl
  · refine congrArg (V0 (Proc.devRef .tc main_arg3)) (congrArg (fun q => ix3 _ q c) (Fin.ext ?_))
    show k.val - 1024 = 0
    omega

/-- The imaginary parts of the bins of convolution 1. -/
theorem v156_at (k : Fin 1025) (c : Fin 1024) :
    (res_main_v156 V0 : FVec Ideal S1025x1024 .f32) (ix2 k c) = imBins (fun k => refIm V0 1 k c) k := by
  pointwise [res_main_v156, res_main_v9, res_main_v5, imBins]
  by_cases h0 : k.val < 1
  · rw [dif_pos h0, if_pos h0]
  · rw [dif_neg h0, if_neg h0]
    by_cases h1 : k.val < 1024
    · rw [dif_pos (by omega), dif_pos h1]
      refine congrArg (V0 (Proc.devRef .tc main_arg3)) (congrArg (fun q => ix3 _ q c) (Fin.ext ?_))
      show 1 + (k.val - 1) = k.val
      omega
    · rw [dif_neg (by omega), dif_neg h1]

/-- The angles. -/
theorem v102_at (k : Fin 1025) (n : Fin 1024) : (res_main_v102 V0 : FVec Ideal S1025x1024 .f32) (ix2 k n) = ang k n := by
  pointwise [res_main_v102, res_main_v91]
  rw [muli_word, sitofp_word _ _ (by nlinarith [k.isLt, n.isLt]), step_at]
  exact (EReal.coe_mul _ _).symm

/-- The weights. -/
theorem v131_at (k : Fin 1025) : (res_main_v131 V0 : FVec Ideal S1025 .f32) (ix1 k) = wt k := by
  pointwise [res_main_v131, res_main_v91]
  rw [edge_word]
  unfold wt
  split <;> rfl

/-- The angles. -/
theorem v170_at (k : Fin 1025) (n : Fin 1024) : (res_main_v170 V0 : FVec Ideal S1025x1024 .f32) (ix2 k n) = ang k n := by
  pointwise [res_main_v170, res_main_v159]
  rw [muli_word, sitofp_word _ _ (by nlinarith [k.isLt, n.isLt]), step_at]
  exact (EReal.coe_mul _ _).symm

/-- The weights. -/
theorem v199_at (k : Fin 1025) : (res_main_v199 V0 : FVec Ideal S1025 .f32) (ix1 k) = wt k := by
  pointwise [res_main_v199, res_main_v159]
  rw [edge_word]
  unfold wt
  split <;> rfl

/-- The cosine transform of the channels. -/
theorem v105_at (s : Fin 4) (k : Fin 1025) (c : Fin 1024) : (res_main_v105 V0 : FVec Ideal S4x1025x1024 .f32) (ix3 s k c)
    = ∑ i : Fin 1024, entry (φ := .f32) (res_main_v84 V0 : FVec Ideal S4x1024x1024 .f32) (ix3 s i c)
      * Ideal.cos (entry (φ := .f32) (res_main_v102 V0 : FVec Ideal S1025x1024 .f32) (ix2 k i)) := by
  pointwise [res_main_v105]

/-- The minus sine transform of the channels. -/
theorem v109_at (s : Fin 4) (k : Fin 1025) (c : Fin 1024) : (res_main_v109 V0 : FVec Ideal S4x1025x1024 .f32) (ix3 s k c)
    = ∑ i : Fin 1024, entry (φ := .f32) (res_main_v84 V0 : FVec Ideal S4x1024x1024 .f32) (ix3 s i c)
      * -Ideal.sin (entry (φ := .f32) (res_main_v102 V0 : FVec Ideal S1025x1024 .f32) (ix2 k i)) := by
  pointwise [res_main_v109]

/-- The cosine transform of the channels. -/
theorem v173_at (s : Fin 4) (k : Fin 1025) (c : Fin 1024) : (res_main_v173 V0 : FVec Ideal S4x1025x1024 .f32) (ix3 s k c)
    = ∑ i : Fin 1024, entry (φ := .f32) (res_main_v152 V0 : FVec Ideal S4x1024x1024 .f32) (ix3 s i c)
      * Ideal.cos (entry (φ := .f32) (res_main_v170 V0 : FVec Ideal S1025x1024 .f32) (ix2 k i)) := by
  pointwise [res_main_v173]

/-- The minus sine transform of the channels. -/
theorem v177_at (s : Fin 4) (k : Fin 1025) (c : Fin 1024) : (res_main_v177 V0 : FVec Ideal S4x1025x1024 .f32) (ix3 s k c)
    = ∑ i : Fin 1024, entry (φ := .f32) (res_main_v152 V0 : FVec Ideal S4x1024x1024 .f32) (ix3 s i c)
      * -Ideal.sin (entry (φ := .f32) (res_main_v170 V0 : FVec Ideal S1025x1024 .f32) (ix2 k i)) := by
  pointwise [res_main_v177]

end Cert.Hyena
-- ==== Proof.Hyena.Ref.lean ====
module

public import proofs.«01_k».proof.Proof.Hyena.Layout
public import proofs.«01_k».proof.Proof.Hyena.Pay
public import proofs.«01_k».proof.Proof.Hyena.RefParts

/-!
# What the reference computes, entry by entry
-/

@[expose] public section

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.Value

namespace Cert.Hyena

variable (V0 : Valuation τ sig (Elt Ideal))

/-- An entry of a product. -/
theorem mul_entry {A B : FVec Ideal S4x1024x1024 .f32} {j : S4x1024x1024.Idx} {a b : EReal} (hA : A j = a) (hB : B j = b) :
    (mulf A B j : EReal) = a * b := by
  subst hA hB; rfl

/-- An entry of a product whose samples are laid one under the other. -/
theorem rows_entry (A B : FVec Ideal S4x1024x1024 .f32) (r : Fin 4096) (c : Fin 1024) :
    (truncf .bf16 (shapeCast S4096x1024 (mulf A B) shapeCasts_S4x1024x1024_S4096x1024) bitsLt_bf16_f32 (ix2 r c) : EReal)
      = A (ix3 ⟨r.val / 1024, by omega⟩ ⟨r.val % 1024, by omega⟩ c) * B (ix3 ⟨r.val / 1024, by omega⟩ ⟨r.val % 1024, by omega⟩ c) := by
  pointwise

/-- A row of the skip weights, cut out of the argument. -/
theorem bias0_at (c : Fin 1024) : ((shapeCast S1024 (extractStridedSlice S1x1024 ![0, 0] (V0 (Proc.devRef .tc main_arg4)) slices_S2x1024_S1x1024_0_0) shapeCasts_S1x1024_S1024) : FVec Ideal S1024 .f32) (ix1 c) = refB V0 0 c := by
  pointwise
/-- The other row. -/
theorem bias1_at (c : Fin 1024) : ((shapeCast S1024 (extractStridedSlice S1x1024 ![1, 0] (V0 (Proc.devRef .tc main_arg4)) slices_S2x1024_S1x1024_1_0) shapeCasts_S1x1024_S1024) : FVec Ideal S1024 .f32) (ix1 c) = refB V0 1 c := by
  pointwise

/-- The first gated stream as a product of a convolution and a long convolution. -/
theorem v152_eq : res_main_v152 V0 = mulf (convT (res_main_v13 V0) (res_main_v11 V0)) (longT (res_main_v105 V0)
    (res_main_v109 V0) (res_main_v86 V0) (res_main_v88 V0) (res_main_v102 V0) (res_main_v131 V0) (res_main_v84 V0)
    (shapeCast S1024 (extractStridedSlice S1x1024 ![0, 0] (V0 (Proc.devRef .tc main_arg4)) slices_S2x1024_S1x1024_0_0) shapeCasts_S1x1024_S1024)) := rfl

section
variable (s : Fin 4) (n c : Fin 1024) (r : Fin 4096) (hr : r.val / 1024 = s.val)
include hr

/-- The third stream, convolved. -/
theorem v84_at : ((res_main_v84 V0 : FVec Ideal S4x1024x1024 .f32) (ix3 s n c) : EReal)
    = conv (stream (refZ V0) 2048 (by decide) r c) (fun a => refW V0 2 a c) n := by
  refine (congrFun (show res_main_v84 V0 = convT (res_main_v63 V0) (res_main_v61 V0) from rfl) _).trans ?_
  exact conv_pad _ _ (refZ V0) (refW V0 2) 2048 (by decide) (v63_at V0) (v61_at V0) s n c r hr

/-- The first gated long convolution. -/
theorem v152_at : ((res_main_v152 V0 : FVec Ideal S4x1024x1024 .f32) (ix3 s n c) : EReal)
    = conv (stream (refZ V0) 0 (by decide) r c) (fun a => refW V0 0 a c) n
      * longR (reBins (fun k => refRe V0 0 k c) (fun k => refIm V0 0 k c)) (imBins (fun k => refIm V0 0 k c)) (refB V0 0 c)
      (fun i => conv (stream (refZ V0) 2048 (by decide) r c) (fun a => refW V0 2 a c) i) n := by
  refine (congrFun (v152_eq V0) _).trans ?_
  exact mul_entry (conv_pad _ _ (refZ V0) (refW V0 0) 0 (by decide) (v13_at V0) (v11_at V0) s n c r hr)
    (long_ref _ _ _ _ _ _ _ _ (v105_at V0) (v109_at V0) (v102_at V0) (v131_at V0) _ _ (v86_at V0) (v88_at V0) _ (bias0_at V0)
      s n c _ fun i => v84_at V0 s i c r hr)
end

/-- The reference's result, as its run states it. -/
def refResult : FVec Ideal S4096x1024 .bf16 :=
  truncf .bf16 (shapeCast S4096x1024 (mulf (convT (res_main_v38 V0) (res_main_v36 V0)) (longT (res_main_v173 V0)
    (res_main_v177 V0) (res_main_v154 V0) (res_main_v156 V0) (res_main_v170 V0) (res_main_v199 V0) (res_main_v152 V0)
    (shapeCast S1024 (extractStridedSlice S1x1024 ![1, 0] (V0 (Proc.devRef .tc main_arg4)) slices_S2x1024_S1x1024_1_0) shapeCasts_S1x1024_S1024))) shapeCasts_S4x1024x1024_S4096x1024) bitsLt_bf16_f32

/-- The reference's result, entry by entry. -/
theorem refResult_at (r : Fin 4096) (c : Fin 1024) :
    (refResult V0 (ix2 r c) : EReal) = arrayR (refZ V0) (refW V0) (refRe V0) (refIm V0) (refB V0) r c := by
  refine (rows_entry _ _ r c).trans ?_
  exact congrArg₂ _ (conv_pad _ _ (refZ V0) (refW V0 1) 1024 (by decide) (v38_at V0) (v36_at V0) _ _ c r rfl)
    (long_ref _ _ _ _ _ _ _ _ (v173_at V0) (v177_at V0) (v170_at V0) (v199_at V0) _ _ (v154_at V0) (v156_at V0) _ (bias1_at V0)
      _ _ c _ fun i => v152_at V0 _ i c r rfl)

/-- The reference's run: its result array holds `refResult`, its arguments are unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v222) = refResult (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

/-- The reference leaves its arguments and every semaphore counter as they were. -/
theorem ref_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (ref_run m ρ)

end Cert.Hyena
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelInProj
public import proofs.«01_k».proof.Proof.Gen.KernelInProj.Skeleton
public import proofs.«01_k».proof.Proof.Gen.KernelInProj.Launch
public import proofs.«01_k».proof.Proof.Gen.KernelInProj.Points
public import proofs.«01_k».proof.Proof.Gen.KernelInProj.Frame
public import proofs.«01_k».proof.Proof.Gen.KernelInProjIdeal
public import proofs.«01_k».proof.Proof.Gen.KernelInProjIdeal.Skeleton
public import proofs.«01_k».proof.Proof.Gen.KernelInProjIdeal.Launch
public import proofs.«01_k».proof.Proof.Gen.KernelInProjIdeal.Points
public import proofs.«01_k».proof.Proof.Gen.KernelInProjIdeal.Frame
public import proofs.«01_k».proof.Proof.Gen.KernelInProjIdeal.Value
public import proofs.«01_k».proof.Proof.Gen.ReferenceInProjIdeal
public import proofs.«01_k».proof.Proof.Gen.ReferenceInProjIdeal.Run
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelOutProj
public import proofs.«01_k».proof.Proof.Gen.KernelOutProj.Skeleton
public import proofs.«01_k».proof.Proof.Gen.KernelOutProj.Launch
public import proofs.«01_k».proof.Proof.Gen.KernelOutProj.Points
public import proofs.«01_k».proof.Proof.Gen.KernelOutProj.Frame
public import proofs.«01_k».proof.Proof.Gen.KernelOutProjIdeal
public import proofs.«01_k».proof.Proof.Gen.KernelOutProjIdeal.Skeleton
public import proofs.«01_k».proof.Proof.Gen.KernelOutProjIdeal.Launch
public import proofs.«01_k».proof.Proof.Gen.KernelOutProjIdeal.Points
public import proofs.«01_k».proof.Proof.Gen.KernelOutProjIdeal.Frame
public import proofs.«01_k».proof.Proof.Gen.KernelOutProjIdeal.Value
public import proofs.«01_k».proof.Proof.Gen.ReferenceOutProjIdeal
public import proofs.«01_k».proof.Proof.Gen.ReferenceOutProjIdeal.Run
public import proofs.«01_k».proof.Proof.Gen.KernelNormP
public import proofs.«01_k».proof.Proof.Gen.KernelNormP.Skeleton
public import proofs.«01_k».proof.Proof.Gen.KernelNormP.Launch
public import proofs.«01_k».proof.Proof.Gen.KernelNormP.Points
public import proofs.«01_k».proof.Proof.Gen.KernelNormP.Frame
public import proofs.«01_k».proof.Proof.Gen.KernelNormPIdeal
public import proofs.«01_k».proof.Proof.Gen.KernelNormPIdeal.Skeleton
public import proofs.«01_k».proof.Proof.Gen.KernelNormPIdeal.Launch
public import proofs.«01_k».proof.Proof.Gen.KernelNormPIdeal.Points
public import proofs.«01_k».proof.Proof.Gen.KernelNormPIdeal.Frame
public import proofs.«01_k».proof.Proof.Gen.KernelNormPIdeal.Value
public import proofs.«01_k».proof.Proof.Gen.ReferenceNormPIdeal
public import proofs.«01_k».proof.Proof.Gen.ReferenceNormPIdeal.Run
public import proofs.«01_k».proof.Proof.Gen.KernelNormS
public import proofs.«01_k».proof.Proof.Gen.KernelNormS.Skeleton
public import proofs.«01_k».proof.Proof.Gen.KernelNormS.Launch
public import proofs.«01_k».proof.Proof.Gen.KernelNormS.Points
public import proofs.«01_k».proof.Proof.Gen.KernelNormS.Frame
public import proofs.«01_k».proof.Proof.Gen.KernelNormSIdeal
public import proofs.«01_k».proof.Proof.Gen.KernelNormSIdeal.Skeleton
public import proofs.«01_k».proof.Proof.Gen.KernelNormSIdeal.Launch
public import proofs.«01_k».proof.Proof.Gen.KernelNormSIdeal.Points
public import proofs.«01_k».proof.Proof.Gen.KernelNormSIdeal.Frame
public import proofs.«01_k».proof.Proof.Gen.KernelNormSIdeal.Value
public import proofs.«01_k».proof.Proof.Gen.ReferenceNormSIdeal
public import proofs.«01_k».proof.Proof.Gen.ReferenceNormSIdeal.Run
public import proofs.«01_k».proof.Proof.Gen.Pre_finite_query
public import proofs.«01_k».proof.Proof.Gen.KernelQuery
public import proofs.«01_k».proof.Proof.Gen.KernelQuery.Skeleton
public import proofs.«01_k».proof.Proof.Gen.KernelQuery.Launch
public import proofs.«01_k».proof.Proof.Gen.KernelQuery.Points
public import proofs.«01_k».proof.Proof.Gen.KernelQuery.Frame
public import proofs.«01_k».proof.Proof.Gen.KernelQueryIdeal
public import proofs.«01_k».proof.Proof.Gen.KernelQueryIdeal.Skeleton
public import proofs.«01_k».proof.Proof.Gen.KernelQueryIdeal.Launch
public import proofs.«01_k».proof.Proof.Gen.KernelQueryIdeal.Points
public import proofs.«01_k».proof.Proof.Gen.KernelQueryIdeal.Frame
public import proofs.«01_k».proof.Proof.Gen.KernelQueryIdeal.Value
public import proofs.«01_k».proof.Proof.Gen.ReferenceQueryIdeal
public import proofs.«01_k».proof.Proof.Gen.ReferenceQueryIdeal.Run
public import proofs.«01_k».proof.Proof.Gen.KernelModPeer
public import proofs.«01_k».proof.Proof.Gen.KernelModPeer.Skeleton
public import proofs.«01_k».proof.Proof.Gen.KernelModPeer.Launch
public import proofs.«01_k».proof.Proof.Gen.KernelModPeer.Points
public import proofs.«01_k».proof.Proof.Gen.KernelModPeer.Frame
public import proofs.«01_k».proof.Proof.Gen.KernelModPeerIdeal
public import proofs.«01_k».proof.Proof.Gen.KernelModPeerIdeal.Skeleton
public import proofs.«01_k».proof.Proof.Gen.KernelModPeerIdeal.Launch
public import proofs.«01_k».proof.Proof.Gen.KernelModPeerIdeal.Points
public import proofs.«01_k».proof.Proof.Gen.KernelModPeerIdeal.Frame
public import proofs.«01_k».proof.Proof.Gen.KernelModPeerIdeal.Value
public import proofs.«01_k».proof.Proof.Gen.ReferenceModPeerIdeal
public import proofs.«01_k».proof.Proof.Gen.ReferenceModPeerIdeal.Run
public import proofs.«01_k».proof.Proof.Gen.Pre_finite_gates
public import proofs.«01_k».proof.Proof.Gen.KernelModGates
public import proofs.«01_k».proof.Proof.Gen.KernelModGates.Skeleton
public import proofs.«01_k».proof.Proof.Gen.KernelModGates.Launch
public import proofs.«01_k».proof.Proof.Gen.KernelModGates.Points
public import proofs.«01_k».proof.Proof.Gen.KernelModGates.Frame
public import proofs.«01_k».proof.Proof.Gen.KernelModGatesIdeal
public import proofs.«01_k».proof.Proof.Gen.KernelModGatesIdeal.Skeleton
public import proofs.«01_k».proof.Proof.Gen.KernelModGatesIdeal.Launch
public import proofs.«01_k».proof.Proof.Gen.KernelModGatesIdeal.Points
public import proofs.«01_k».proof.Proof.Gen.KernelModGatesIdeal.Frame
public import proofs.«01_k».proof.Proof.Gen.KernelModGatesIdeal.Value
public import proofs.«01_k».proof.Proof.Gen.ReferenceModGatesIdeal
public import proofs.«01_k».proof.Proof.Gen.ReferenceModGatesIdeal.Run
public import proofs.«01_k».proof.Proof.Gen.Pre_finite_table
public import proofs.«01_k».proof.Proof.Gen.Pre_finite_spectrum
public import proofs.«01_k».proof.Proof.Gen.KernelTable
public import proofs.«01_k».proof.Proof.Gen.KernelTable.Skeleton
public import proofs.«01_k».proof.Proof.Gen.KernelTable.Launch
public import proofs.«01_k».proof.Proof.Gen.KernelTable.Points
public import proofs.«01_k».proof.Proof.Gen.KernelTable.Frame
public import proofs.«01_k».proof.Proof.Gen.KernelTableIdeal
public import proofs.«01_k».proof.Proof.Gen.KernelTableIdeal.Skeleton
public import proofs.«01_k».proof.Proof.Gen.KernelTableIdeal.Launch
public import proofs.«01_k».proof.Proof.Gen.KernelTableIdeal.Points
public import proofs.«01_k».proof.Proof.Gen.KernelTableIdeal.Frame
public import proofs.«01_k».proof.Proof.Gen.KernelTableIdeal.Value
public import proofs.«01_k».proof.Proof.Gen.ReferenceTableIdeal
public import proofs.«01_k».proof.Proof.Gen.ReferenceTableIdeal.Run
public import proofs.«01_k».proof.Proof.Gen.KernelSpectrum
public import proofs.«01_k».proof.Proof.Gen.KernelSpectrum.Skeleton
public import proofs.«01_k».proof.Proof.Gen.KernelSpectrum.Launch
public import proofs.«01_k».proof.Proof.Gen.KernelSpectrum.Points
public import proofs.«01_k».proof.Proof.Gen.KernelSpectrum.Frame
public import proofs.«01_k».proof.Proof.Gen.KernelSpectrumIdeal
public import proofs.«01_k».proof.Proof.Gen.KernelSpectrumIdeal.Skeleton
public import proofs.«01_k».proof.Proof.Gen.KernelSpectrumIdeal.Launch
public import proofs.«01_k».proof.Proof.Gen.KernelSpectrumIdeal.Points
public import proofs.«01_k».proof.Proof.Gen.KernelSpectrumIdeal.Frame
public import proofs.«01_k».proof.Proof.Gen.KernelSpectrumIdeal.Value
public import proofs.«01_k».proof.Proof.Gen.ReferenceSpectrumIdeal
public import proofs.«01_k».proof.Proof.Gen.ReferenceSpectrumIdeal.Run
public import proofs.«01_k».proof.Proof.Gen.KernelChunks
public import proofs.«01_k».proof.Proof.Gen.KernelChunks.Skeleton
public import proofs.«01_k».proof.Proof.Gen.KernelChunks.Launch
public import proofs.«01_k».proof.Proof.Gen.KernelChunks.Points
public import proofs.«01_k».proof.Proof.Gen.KernelChunks.Frame
public import proofs.«01_k».proof.Proof.Gen.KernelChunksIdeal
public import proofs.«01_k».proof.Proof.Gen.KernelChunksIdeal.Skeleton
public import proofs.«01_k».proof.Proof.Gen.KernelChunksIdeal.Launch
public import proofs.«01_k».proof.Proof.Gen.KernelChunksIdeal.Points
public import proofs.«01_k».proof.Proof.Gen.KernelChunksIdeal.Frame
public import proofs.«01_k».proof.Proof.Gen.KernelChunksIdeal.Value
public import proofs.«01_k».proof.Proof.Gen.ReferenceChunksIdeal
public import proofs.«01_k».proof.Proof.Gen.ReferenceChunksIdeal.Run
public import proofs.«01_k».proof.Proof.Gen.KernelFilterP
public import proofs.«01_k».proof.Proof.Gen.KernelFilterP.Skeleton
public import proofs.«01_k».proof.Proof.Gen.KernelFilterP.Launch
public import proofs.«01_k».proof.Proof.Gen.KernelFilterP.Points
public import proofs.«01_k».proof.Proof.Gen.KernelFilterP.Frame
public import proofs.«01_k».proof.Proof.Gen.KernelFilterPIdeal
public import proofs.«01_k».proof.Proof.Gen.KernelFilterPIdeal.Skeleton
public import proofs.«01_k».proof.Proof.Gen.KernelFilterPIdeal.Launch
public import proofs.«01_k».proof.Proof.Gen.KernelFilterPIdeal.Points
public import proofs.«01_k».proof.Proof.Gen.KernelFilterPIdeal.Frame
public import proofs.«01_k».proof.Proof.Gen.KernelFilterPIdeal.Value
public import proofs.«01_k».proof.Proof.Gen.ReferenceFilterPIdeal
public import proofs.«01_k».proof.Proof.Gen.ReferenceFilterPIdeal.Run
public import proofs.«01_k».proof.Proof.Gen.KernelHyenaP
public import proofs.«01_k».proof.Proof.Gen.KernelHyenaP.Skeleton
public import proofs.«01_k».proof.Proof.Gen.KernelHyenaP.Launch
public import proofs.«01_k».proof.Proof.Gen.KernelHyenaP.Points
public import proofs.«01_k».proof.Proof.Gen.KernelHyenaP.Frame
public import proofs.«01_k».proof.Proof.Gen.KernelHyenaPIdeal
public import proofs.«01_k».proof.Proof.Gen.KernelHyenaPIdeal.Skeleton
public import proofs.«01_k».proof.Proof.Gen.KernelHyenaPIdeal.Launch
public import proofs.«01_k».proof.Proof.Gen.KernelHyenaPIdeal.Points
public import proofs.«01_k».proof.Proof.Gen.KernelHyenaPIdeal.Frame
public import proofs.«01_k».proof.Proof.Gen.KernelHyenaPIdeal.Value
public import proofs.«01_k».proof.Proof.Gen.ReferenceHyenaPIdeal
public import proofs.«01_k».proof.Proof.Gen.ReferenceHyenaPIdeal.Run
public import proofs.«01_k».proof.Proof.Gen.Pre_finite_filters
public import proofs.«01_k».proof.Proof.Calls.InProjKernel
public import proofs.«01_k».proof.Proof.Calls.InProjRef
public import proofs.«01_k».proof.Proof.Calls.MergeKernel
public import proofs.«01_k».proof.Proof.Calls.MergeRef
public import proofs.«01_k».proof.Proof.Calls.OutProjKernel
public import proofs.«01_k».proof.Proof.Calls.OutProjRef
public import proofs.«01_k».proof.Proof.Calls.NormPKernel
public import proofs.«01_k».proof.Proof.Calls.NormPRef
public import proofs.«01_k».proof.Proof.Calls.NormSKernel
public import proofs.«01_k».proof.Proof.Calls.NormSRef
public import proofs.«01_k».proof.Proof.Calls.QueryKernel
public import proofs.«01_k».proof.Proof.Calls.QueryRef
public import proofs.«01_k».proof.Proof.Calls.QueryPre
public import proofs.«01_k».proof.Proof.Calls.ModPeerKernel
public import proofs.«01_k».proof.Proof.Calls.ModPeerRef
public import proofs.«01_k».proof.Proof.Calls.ModGatesKernel
public import proofs.«01_k».proof.Proof.Calls.ModGatesRef
public import proofs.«01_k».proof.Proof.Calls.ModGatesPre
public import proofs.«01_k».proof.Proof.Calls.TableKernel
public import proofs.«01_k».proof.Proof.Calls.TableRef
public import proofs.«01_k».proof.Proof.Calls.TablePre
public import proofs.«01_k».proof.Proof.Calls.SpectrumKernel
public import proofs.«01_k».proof.Proof.Calls.SpectrumRef
public import proofs.«01_k».proof.Proof.Calls.SpectrumPre
public import proofs.«01_k».proof.Proof.Calls.ChunksKernel
public import proofs.«01_k».proof.Proof.Calls.ChunksRef
public import proofs.«01_k».proof.Proof.Calls.FilterPKernel
public import proofs.«01_k».proof.Proof.Calls.FilterPRef
public import proofs.«01_k».proof.Proof.Calls.FilterPPre
public import proofs.«01_k».proof.Proof.Calls.HyenaPEquation
public import proofs.«01_k».proof.Proof.Calls.HyenaPArray
public import proofs.«01_k».proof.Proof.Calls.HyenaPRef
public import proofs.«01_k».proof.Proof.Hyena.Equation
public import proofs.«01_k».proof.Proof.Hyena.Array
public import proofs.«01_k».proof.Proof.Hyena.Ref
public import Idealize.ShloMosaic.Lib.Claim
public import Idealize.ShloMosaic.Adequacy
public import Idealize.ShloMosaic.Init

@[expose] public section

noncomputable section

open Idealize.ShloMosaic Idealize.ShloMosaic.TcCoe Idealize.SL.Sem

namespace Cert.Proof

/-- At equal arguments the Hyena kernel's result array is the reference's result. -/
theorem hyena_result (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hz : Cert.Hyena.refZ V0 = Cert.Hyena.argZ m c) (hw : Cert.Hyena.refW V0 = Cert.Hyena.argW m c)
    (hre : Cert.Hyena.refRe V0 = Cert.Hyena.argRe m c) (him : Cert.Hyena.refIm V0 = Cert.Hyena.argIm m c)
    (hb : Cert.Hyena.refB V0 = Cert.Hyena.argB m c) :
    Cert.Hyena.result m c = Cert.Hyena.refResult V0 := by
  funext j
  idx_vars j
  refine Eq.trans ?_ (Cert.Hyena.refResult_at V0 _ _).symm
  rw [hz, hw, hre, him, hb]
  exact Cert.Hyena.array_eq _ _ _ _ _ _ _

/-- The reference runs, leaves its arguments and every semaphore counter as they were. -/
theorem hyena_reference_frame : Cert.quiescent_ReferenceIdeal (hReferenceIdeal := Cert.ReferenceIdeal.Gen.facts) := by
  intro m g _
  exact Cert.Hyena.ref_frame m g

/-- The Hyena kernel and its reference end with equal results. -/
theorem hyena_algebraic : Cert.algebraic_KernelIdeal_ReferenceIdeal (hKernelIdeal := Cert.KernelIdeal.Gen.facts)
    (hReferenceIdeal := Cert.ReferenceIdeal.Gen.facts) := by
  intro m g m' g' hpre hagree
  refine ⟨fun c => Cert.Hyena.result m c, ?_, ?_⟩
  · exact Cert.Hyena.kernel_run m g
  · refine (θ_run _ _ _).mono (fun r h c => ?_) (Cert.Hyena.ref_run m' g')
    refine ⟨(h c).1.trans ?_, (h c).2⟩
    obtain ⟨h0, h1, h2, h3, h4⟩ := hagree c
    refine Eq.symm (hyena_result m (StableHlo.launchContents m' c) c ?_ ?_ ?_ ?_ ?_)
    · exact congrArg (fun (x : FVec Ideal Cert.KernelIdeal.S8192x16384 .f32) r q => x (ix2 r q)) h0
    · exact congrArg (fun (x : FVec Ideal Cert.KernelIdeal.S3x3x1024 .f32) a b q => x (ix3 a b q)) h1
    · exact congrArg (fun (x : FVec Ideal Cert.KernelIdeal.S2x1024x1024 .f32) a b q => x (ix3 a b q)) h2
    · exact congrArg (fun (x : FVec Ideal Cert.KernelIdeal.S2x1024x1024 .f32) a b q => x (ix3 a b q)) h3
    · exact congrArg (fun (x : FVec Ideal Cert.KernelIdeal.S2x1024 .f32) a q => x (ix2 a q)) h4

/-- The reference of the input projection runs, leaves its arguments and every semaphore counter as they were. -/
theorem inProj_reference_frame : Cert.quiescent_ReferenceInProjIdeal (hReferenceInProjIdeal := Cert.ReferenceInProjIdeal.Gen.facts) :=
  fun m ρ _ => (θ_run _ _ _).mono (fun r h => ⟨fun c => (h c).2, sem_eq_zero_of_no_sems (by decide) r.2⟩) (Cert.Calls.InProj.ref_run m ρ)

/-- The kernel of the input projection and its reference end with equal results. -/
theorem inProj_algebraic : Cert.algebraic_KernelInProjIdeal_ReferenceInProjIdeal (hKernelInProjIdeal := Cert.KernelInProjIdeal.Gen.facts)
    (hReferenceInProjIdeal := Cert.ReferenceInProjIdeal.Gen.facts) := by
  intro m g m' g' hpre hagree
  refine ⟨fun c => Cert.Calls.InProj.result m c, Cert.Calls.InProj.kernel_run m g,
    (θ_run _ _ _).mono (fun r h c => ⟨(h c).1.trans ?_, (h c).2⟩) (Cert.Calls.InProj.ref_run m' g')⟩
  obtain ⟨h0, h1, h2⟩ := hagree c
  unfold Cert.Calls.InProj.refResult
  rw [h0, h1, h2]
  rfl

/-- The reference of the gated merge runs, leaves its arguments and every semaphore counter as they were. -/
theorem merge_reference_frame : Cert.quiescent_ReferenceMergeIdeal (hReferenceMergeIdeal := Cert.ReferenceMergeIdeal.Gen.facts) :=
  fun m ρ _ => (θ_run _ _ _).mono (fun r h => ⟨fun c => (h c).2, sem_eq_zero_of_no_sems (by decide) r.2⟩) (Cert.Calls.Merge.ref_run m ρ)

/-- The kernel of the gated merge and its reference end with equal results. -/
theorem merge_algebraic : Cert.algebraic_KernelMergeIdeal_ReferenceMergeIdeal (hKernelMergeIdeal := Cert.KernelMergeIdeal.Gen.facts)
    (hReferenceMergeIdeal := Cert.ReferenceMergeIdeal.Gen.facts) := by
  intro m g m' g' hpre hagree
  refine ⟨fun c => Cert.Calls.Merge.result m c, Cert.Calls.Merge.kernel_run m g,
    (θ_run _ _ _).mono (fun r h c => ⟨(h c).1.trans ?_, (h c).2⟩) (Cert.Calls.Merge.ref_run m' g')⟩
  obtain ⟨h0, h1, h2, h3, h4, h5, h6, h7⟩ := hagree c
  unfold Cert.Calls.Merge.refResult
  rw [h0, h1, h2, h3, h4, h5, h6, h7]
  rfl

/-- The reference of the output projection runs, leaves its arguments and every semaphore counter as they were. -/
theorem outProj_reference_frame : Cert.quiescent_ReferenceOutProjIdeal (hReferenceOutProjIdeal := Cert.ReferenceOutProjIdeal.Gen.facts) :=
  fun m ρ _ => (θ_run _ _ _).mono (fun r h => ⟨fun c => (h c).2, sem_eq_zero_of_no_sems (by decide) r.2⟩) (Cert.Calls.OutProj.ref_run m ρ)

/-- The kernel of the output projection and its reference end with equal results. -/
theorem outProj_algebraic : Cert.algebraic_KernelOutProjIdeal_ReferenceOutProjIdeal (hKernelOutProjIdeal := Cert.KernelOutProjIdeal.Gen.facts)
    (hReferenceOutProjIdeal := Cert.ReferenceOutProjIdeal.Gen.facts) := by
  intro m g m' g' hpre hagree
  refine ⟨fun c => Cert.Calls.OutProj.result m c, Cert.Calls.OutProj.kernel_run m g,
    (θ_run _ _ _).mono (fun r h c => ⟨(h c).1.trans ?_, (h c).2⟩) (Cert.Calls.OutProj.ref_run m' g')⟩
  obtain ⟨h0, h1, h2, h3⟩ := hagree c
  unfold Cert.Calls.OutProj.refResult
  rw [h0, h1, h2, h3]
  rfl

/-- The reference of the final norm of the prompt runs, leaves its arguments and every semaphore counter as they were. -/
theorem normP_reference_frame : Cert.quiescent_ReferenceNormPIdeal (hReferenceNormPIdeal := Cert.ReferenceNormPIdeal.Gen.facts) :=
  fun m ρ _ => (θ_run _ _ _).mono (fun r h => ⟨fun c => (h c).2, sem_eq_zero_of_no_sems (by decide) r.2⟩) (Cert.Calls.NormP.ref_run m ρ)

/-- The kernel of the final norm of the prompt and its reference end with equal results. -/
theorem normP_algebraic : Cert.algebraic_KernelNormPIdeal_ReferenceNormPIdeal (hKernelNormPIdeal := Cert.KernelNormPIdeal.Gen.facts)
    (hReferenceNormPIdeal := Cert.ReferenceNormPIdeal.Gen.facts) := by
  intro m g m' g' hpre hagree
  refine ⟨fun c => Cert.Calls.NormP.result m c, Cert.Calls.NormP.kernel_run m g,
    (θ_run _ _ _).mono (fun r h c => ⟨(h c).1.trans ?_, (h c).2⟩) (Cert.Calls.NormP.ref_run m' g')⟩
  obtain ⟨h0, h1⟩ := hagree c
  unfold Cert.Calls.NormP.refResult
  rw [h0, h1]
  rfl

/-- The reference of the final norm of the grid runs, leaves its arguments and every semaphore counter as they were. -/
theorem normS_reference_frame : Cert.quiescent_ReferenceNormSIdeal (hReferenceNormSIdeal := Cert.ReferenceNormSIdeal.Gen.facts) :=
  fun m ρ _ => (θ_run _ _ _).mono (fun r h => ⟨fun c => (h c).2, sem_eq_zero_of_no_sems (by decide) r.2⟩) (Cert.Calls.NormS.ref_run m ρ)

/-- The kernel of the final norm of the grid and its reference end with equal results. -/
theorem normS_algebraic : Cert.algebraic_KernelNormSIdeal_ReferenceNormSIdeal (hKernelNormSIdeal := Cert.KernelNormSIdeal.Gen.facts)
    (hReferenceNormSIdeal := Cert.ReferenceNormSIdeal.Gen.facts) := by
  intro m g m' g' hpre hagree
  refine ⟨fun c => Cert.Calls.NormS.result m c, Cert.Calls.NormS.kernel_run m g,
    (θ_run _ _ _).mono (fun r h c => ⟨(h c).1.trans ?_, (h c).2⟩) (Cert.Calls.NormS.ref_run m' g')⟩
  obtain ⟨h0, h1⟩ := hagree c
  unfold Cert.Calls.NormS.refResult
  rw [h0, h1]
  rfl

/-- The reference of the expert queries runs, leaves its arguments and every semaphore counter as they were. -/
theorem query_reference_frame : Cert.quiescent_ReferenceQueryIdeal (hReferenceQueryIdeal := Cert.ReferenceQueryIdeal.Gen.facts) :=
  fun m ρ _ => (θ_run _ _ _).mono (fun r h => ⟨fun c => (h c).2, sem_eq_zero_of_no_sems (by decide) r.2⟩) (Cert.Calls.Query.ref_run m ρ)

/-- The kernel of the expert queries and its reference end with equal results, where the operands are finite. -/
theorem query_algebraic : Cert.algebraic_KernelQueryIdeal_ReferenceQueryIdeal_pre_finite_query (hKernelQueryIdeal := Cert.KernelQueryIdeal.Gen.facts)
    (hReferenceQueryIdeal := Cert.ReferenceQueryIdeal.Gen.facts) (hPre_finite_query := Cert.Pre_finite_query.Gen.facts) := by
  intro m g m' g' hpre hagree
  refine ⟨fun c => Cert.Calls.Query.result m c, Cert.Calls.Query.kernel_run m g,
    (θ_run _ _ _).mono (fun r h c => ⟨(h c).1.trans ?_, (h c).2⟩) (Cert.Calls.Query.ref_run m' g')⟩
  obtain ⟨h0, h1, h2⟩ := hagree c
  obtain ⟨f0, f1, f2⟩ := Cert.Calls.Query.finite_of_pre _ _ _ (hpre c)
  unfold Cert.Calls.Query.refResult
  rw [h0, h1, h2]
  exact funext fun j => (Cert.Calls.splitAt_eq f0 f1 f2 (j 0) (j 1)).symm

/-- The reference of the second modulated norm runs, leaves its arguments and every semaphore counter as they were. -/
theorem modPeer_reference_frame : Cert.quiescent_ReferenceModPeerIdeal (hReferenceModPeerIdeal := Cert.ReferenceModPeerIdeal.Gen.facts) :=
  fun m ρ _ => (θ_run _ _ _).mono (fun r h => ⟨fun c => (h c).2.2.2, sem_eq_zero_of_no_sems (by decide) r.2⟩) (Cert.Calls.ModPeer.ref_run m ρ)

/-- The kernel of the second modulated norm and its reference end with equal results. -/
theorem modPeer_algebraic : Cert.algebraic_KernelModPeerIdeal_ReferenceModPeerIdeal (hKernelModPeerIdeal := Cert.KernelModPeerIdeal.Gen.facts)
    (hReferenceModPeerIdeal := Cert.ReferenceModPeerIdeal.Gen.facts) := by
  intro m g m' g' hpre hagree
  refine ⟨fun c => Cert.Calls.ModPeer.result0 m c, fun c => Cert.Calls.ModPeer.result1 m c, fun c => Cert.Calls.ModPeer.result2 m c, Cert.Calls.ModPeer.kernel_run m g,
    (θ_run _ _ _).mono (fun r h c => ⟨(h c).1.trans ?_, (h c).2.1.trans ?_, (h c).2.2.1.trans ?_, (h c).2.2.2⟩) (Cert.Calls.ModPeer.ref_run m' g')⟩ <;>
    obtain ⟨h0, h1, h2⟩ := hagree c
  · unfold Cert.Calls.ModPeer.refResult0
    rw [h0, h1, h2]
    rfl
  · unfold Cert.Calls.ModPeer.refResult1
    rw [h0, h1, h2]
    rfl
  · unfold Cert.Calls.ModPeer.refResult2
    rw [h0, h1, h2]
    rfl

/-- The reference of the first modulated norm and the narrow columns runs, leaves its arguments and every semaphore counter as they were. -/
theorem modGates_reference_frame : Cert.quiescent_ReferenceModGatesIdeal (hReferenceModGatesIdeal := Cert.ReferenceModGatesIdeal.Gen.facts) :=
  fun m ρ _ => (θ_run _ _ _).mono (fun r h => ⟨fun c => (h c).2.2, sem_eq_zero_of_no_sems (by decide) r.2⟩) (Cert.Calls.ModGates.ref_run m ρ)

/-- The kernel of the first modulated norm and the narrow columns and its reference end with equal results, where the operands are finite. -/
theorem modGates_algebraic : Cert.algebraic_KernelModGatesIdeal_ReferenceModGatesIdeal_pre_finite_gates (hKernelModGatesIdeal := Cert.KernelModGatesIdeal.Gen.facts)
    (hReferenceModGatesIdeal := Cert.ReferenceModGatesIdeal.Gen.facts) (hPre_finite_gates := Cert.Pre_finite_gates.Gen.facts) := by
  intro m g m' g' hpre hagree
  refine ⟨fun c => Cert.Calls.ModGates.result0 m c, fun c => Cert.Calls.ModGates.result1 m c, Cert.Calls.ModGates.kernel_run m g,
    (θ_run _ _ _).mono (fun r h c => ⟨(h c).1.trans ?_, (h c).2.1.trans ?_, (h c).2.2⟩) (Cert.Calls.ModGates.ref_run m' g')⟩ <;>
    obtain ⟨h0, h1, h2, h3, h4⟩ := hagree c
  · unfold Cert.Calls.ModGates.refResult0
    rw [h0, h1, h2]
    rfl
  · obtain ⟨hx, hg, hd, hw⟩ := Cert.Calls.ModGates.finite_of_pre _ _ _ _ _ (hpre c)
    unfold Cert.Calls.ModGates.refResult1
    rw [h0, h1, h2, h3, h4]
    exact funext fun j => (Cert.Calls.splitGatesAt_eq (fun k => Cert.Calls.Finite.mod hx hg hd 1 0 (j 0) k) hw (j 1)).symm

/-- The reference of the modulation table runs, leaves its arguments and every semaphore counter as they were. -/
theorem table_reference_frame : Cert.quiescent_ReferenceTableIdeal (hReferenceTableIdeal := Cert.ReferenceTableIdeal.Gen.facts) :=
  fun m ρ _ => (θ_run _ _ _).mono (fun r h => ⟨fun c => (h c).2, sem_eq_zero_of_no_sems (by decide) r.2⟩) (Cert.Calls.Table.ref_run m ρ)

/-- The kernel of the modulation table and its reference end with equal results, where the operands are finite. -/
theorem table_algebraic : Cert.algebraic_KernelTableIdeal_ReferenceTableIdeal_pre_finite_table (hKernelTableIdeal := Cert.KernelTableIdeal.Gen.facts)
    (hReferenceTableIdeal := Cert.ReferenceTableIdeal.Gen.facts) (hPre_finite_table := Cert.Pre_finite_table.Gen.facts) := by
  intro m g m' g' hpre hagree
  refine ⟨fun c => Cert.Calls.Table.result m c, Cert.Calls.Table.kernel_run m g,
    (θ_run _ _ _).mono (fun r h c => ⟨(h c).1.trans ?_, (h c).2⟩) (Cert.Calls.Table.ref_run m' g')⟩
  obtain ⟨h0, h1, h2⟩ := hagree c
  obtain ⟨hc, hw⟩ := Cert.Calls.Table.finite_of_pre _ _ _ (hpre c)
  unfold Cert.Calls.Table.refResult
  rw [h0, h1, h2]
  exact funext fun j => (Cert.Calls.splitTableAt_eq hc hw (j 0) (j 1) (j 2)).symm

/-- The reference of the spectrum of the filters runs, leaves its arguments and every semaphore counter as they were. -/
theorem spectrum_reference_frame : Cert.quiescent_ReferenceSpectrumIdeal (hReferenceSpectrumIdeal := Cert.ReferenceSpectrumIdeal.Gen.facts) :=
  fun m ρ _ => (θ_run _ _ _).mono (fun r h => ⟨fun c => (h c).2.2, sem_eq_zero_of_no_sems (by decide) r.2⟩) (Cert.Calls.Spectrum.ref_run m ρ)

/-- The kernel of the spectrum of the filters and its reference end with equal results, where the operands are finite. -/
theorem spectrum_algebraic : Cert.algebraic_KernelSpectrumIdeal_ReferenceSpectrumIdeal_pre_finite_spectrum (hKernelSpectrumIdeal := Cert.KernelSpectrumIdeal.Gen.facts)
    (hReferenceSpectrumIdeal := Cert.ReferenceSpectrumIdeal.Gen.facts) (hPre_finite_spectrum := Cert.Pre_finite_spectrum.Gen.facts) := by
  intro m g m' g' hpre hagree
  refine ⟨fun c => Cert.Calls.Spectrum.result0 m c, fun c => Cert.Calls.Spectrum.result1 m c, Cert.Calls.Spectrum.kernel_run m g,
    (θ_run _ _ _).mono (fun r h c => ⟨(h c).1.trans ?_, (h c).2.1.trans ?_, (h c).2.2⟩) (Cert.Calls.Spectrum.ref_run m' g')⟩ <;>
    obtain ⟨h0, h1, h2, h3, h4, h5, h6, h7, h8⟩ := hagree c
  · have hA : Cert.Calls.Spectrum.Args.Fin (Cert.Calls.Spectrum.kargs m c) := Cert.Calls.Spectrum.finite_of_pre _ _ _ _ _ _ _ _ _ (hpre c)
    unfold Cert.Calls.Spectrum.refResult0
    rw [h0, h1, h2, h3, h4, h5, h6, h7, h8]
    exact funext fun j => (Cert.Calls.Spectrum.kreAt_eq hA (j 0) (j 1) (j 2)).symm
  · have hA : Cert.Calls.Spectrum.Args.Fin (Cert.Calls.Spectrum.kargs m c) := Cert.Calls.Spectrum.finite_of_pre _ _ _ _ _ _ _ _ _ (hpre c)
    unfold Cert.Calls.Spectrum.refResult1
    rw [h0, h1, h2, h3, h4, h5, h6, h7, h8]
    exact funext fun j => (Cert.Calls.Spectrum.kimAt_eq hA (j 0) (j 1) (j 2)).symm

/-- The reference of the transposing cast of the experts' output table runs, leaves its arguments and every semaphore counter as they were. -/
theorem chunks_reference_frame : Cert.quiescent_ReferenceChunksIdeal (hReferenceChunksIdeal := Cert.ReferenceChunksIdeal.Gen.facts) :=
  fun m ρ _ => (θ_run _ _ _).mono (fun r h => ⟨fun c => (h c).2, sem_eq_zero_of_no_sems (by decide) r.2⟩) (Cert.Calls.Chunks.ref_run m ρ)

/-- The kernel of the transposing cast of the experts' output table and its reference end with equal results. -/
theorem chunks_algebraic : Cert.algebraic_KernelChunksIdeal_ReferenceChunksIdeal (hKernelChunksIdeal := Cert.KernelChunksIdeal.Gen.facts)
    (hReferenceChunksIdeal := Cert.ReferenceChunksIdeal.Gen.facts) := by
  intro m g m' g' hpre hagree
  refine ⟨fun c => Cert.Calls.Chunks.result m c, Cert.Calls.Chunks.kernel_run m g,
    (θ_run _ _ _).mono (fun r h c => ⟨(h c).1.trans ?_, (h c).2⟩) (Cert.Calls.Chunks.ref_run m' g')⟩
  have h0 := hagree c
  unfold Cert.Calls.Chunks.refResult
  rw [h0]
  rfl

/-- The reference of the spectrum of the prompt's filters runs, leaves its arguments and every semaphore counter as they were. -/
theorem filterP_reference_frame : Cert.quiescent_ReferenceFilterPIdeal (hReferenceFilterPIdeal := Cert.ReferenceFilterPIdeal.Gen.facts) :=
  fun m ρ _ => (θ_run _ _ _).mono (fun r h => ⟨fun c => (h c).2.2, sem_eq_zero_of_no_sems (by decide) r.2⟩) (Cert.Calls.FilterP.ref_run m ρ)

/-- The kernel of the spectrum of the prompt's filters and its reference end with equal results, where the operands are finite. -/
theorem filterP_algebraic : Cert.algebraic_KernelFilterPIdeal_ReferenceFilterPIdeal_pre_finite_filters (hKernelFilterPIdeal := Cert.KernelFilterPIdeal.Gen.facts)
    (hReferenceFilterPIdeal := Cert.ReferenceFilterPIdeal.Gen.facts) (hPre_finite_filters := Cert.Pre_finite_filters.Gen.facts) := by
  intro m g m' g' hpre hagree
  refine ⟨fun c => Cert.Calls.FilterP.result0 m c, fun c => Cert.Calls.FilterP.result1 m c, Cert.Calls.FilterP.kernel_run m g,
    (θ_run _ _ _).mono (fun r h c => ⟨(h c).1.trans ?_, (h c).2.1.trans ?_, (h c).2.2⟩) (Cert.Calls.FilterP.ref_run m' g')⟩ <;>
    obtain ⟨h0, h1, h2, h3, h4, h5, h6, h7, h8⟩ := hagree c
  · have hA : Cert.Calls.FilterP.Args.Fin (Cert.Calls.FilterP.kargs m c) := Cert.Calls.FilterP.finite_of_pre _ _ _ _ _ _ _ _ _ (hpre c)
    unfold Cert.Calls.FilterP.refResult0
    rw [h0, h1, h2, h3, h4, h5, h6, h7, h8]
    exact funext fun j => (Cert.Calls.FilterP.kreAt_eq hA (j 0) (j 1) (j 2)).symm
  · have hA : Cert.Calls.FilterP.Args.Fin (Cert.Calls.FilterP.kargs m c) := Cert.Calls.FilterP.finite_of_pre _ _ _ _ _ _ _ _ _ (hpre c)
    unfold Cert.Calls.FilterP.refResult1
    rw [h0, h1, h2, h3, h4, h5, h6, h7, h8]
    exact funext fun j => (Cert.Calls.FilterP.kimAt_eq hA (j 0) (j 1) (j 2)).symm

/-- At equal arguments the Hyena kernel for the prompt's result array is the reference's result. -/
theorem hyenaP_result (m : (ℓ : Loc Cert.KernelHyenaPIdeal.nD Cert.KernelHyenaPIdeal.τ Cert.KernelHyenaPIdeal.sig) → Buf (Elt Ideal) ℓ)
    (V0 : Valuation Cert.ReferenceHyenaPIdeal.τ Cert.ReferenceHyenaPIdeal.sig (Elt Ideal)) (c : Dev Cert.KernelHyenaPIdeal.nD)
    (hz : Cert.Calls.HyenaP.refZ V0 = Cert.Calls.HyenaP.argZ m c) (hw : Cert.Calls.HyenaP.refW V0 = Cert.Calls.HyenaP.argW m c)
    (hre : Cert.Calls.HyenaP.refRe V0 = Cert.Calls.HyenaP.argRe m c) (him : Cert.Calls.HyenaP.refIm V0 = Cert.Calls.HyenaP.argIm m c)
    (hb : Cert.Calls.HyenaP.refB V0 = Cert.Calls.HyenaP.argB m c) :
    Cert.Calls.HyenaP.result m c = Cert.Calls.HyenaP.refResult V0 := by
  funext j
  idx_vars j
  refine Eq.trans ?_ (Cert.Calls.HyenaP.refResult_at V0 _ _).symm
  rw [hz, hw, hre, him, hb]
  exact Cert.Calls.HyenaP.array_eq _ _ _ _ _ _ _

/-- The reference of the Hyena mixer for the prompt runs, leaves its arguments and every semaphore counter as they were. -/
theorem hyenaP_reference_frame : Cert.quiescent_ReferenceHyenaPIdeal (hReferenceHyenaPIdeal := Cert.ReferenceHyenaPIdeal.Gen.facts) := by
  intro m g _
  exact Cert.Calls.HyenaP.ref_frame m g

/-- The Hyena kernel for the prompt and its reference end with equal results. -/
theorem hyenaP_algebraic : Cert.algebraic_KernelHyenaPIdeal_ReferenceHyenaPIdeal (hKernelHyenaPIdeal := Cert.KernelHyenaPIdeal.Gen.facts)
    (hReferenceHyenaPIdeal := Cert.ReferenceHyenaPIdeal.Gen.facts) := by
  intro m g m' g' hpre hagree
  refine ⟨fun c => Cert.Calls.HyenaP.result m c, ?_, ?_⟩
  · exact Cert.Calls.HyenaP.kernel_run m g
  · refine (θ_run _ _ _).mono (fun r h c => ?_) (Cert.Calls.HyenaP.ref_run m' g')
    refine ⟨(h c).1.trans ?_, (h c).2⟩
    obtain ⟨h0, h1, h2, h3, h4⟩ := hagree c
    refine Eq.symm (hyenaP_result m (StableHlo.launchContents m' c) c ?_ ?_ ?_ ?_ ?_)
    · exact congrArg (fun (x : FVec Ideal Cert.KernelHyenaPIdeal.S8192x16384 .f32) r q => x (ix2 r q)) h0
    · exact congrArg (fun (x : FVec Ideal Cert.KernelHyenaPIdeal.S3x3x1024 .f32) a b q => x (ix3 a b q)) h1
    · exact congrArg (fun (x : FVec Ideal Cert.KernelHyenaPIdeal.S2x256x1024 .f32) a b q => x (ix3 a b q)) h2
    · exact congrArg (fun (x : FVec Ideal Cert.KernelHyenaPIdeal.S2x256x1024 .f32) a b q => x (ix3 a b q)) h3
    · exact congrArg (fun (x : FVec Ideal Cert.KernelHyenaPIdeal.S2x1024 .f32) a q => x (ix2 a q)) h4

/-- Everything claimed. -/
theorem claim : Cert.Claim := ⟨Cert.Kernel.Gen.facts, Cert.KernelIdeal.Gen.facts, Cert.ReferenceIdeal.Gen.facts, Cert.KernelInProj.Gen.facts, Cert.KernelInProjIdeal.Gen.facts, Cert.ReferenceInProjIdeal.Gen.facts, Cert.KernelMerge.Gen.facts, Cert.KernelMergeIdeal.Gen.facts, Cert.ReferenceMergeIdeal.Gen.facts, Cert.KernelOutProj.Gen.facts, Cert.KernelOutProjIdeal.Gen.facts, Cert.ReferenceOutProjIdeal.Gen.facts, Cert.KernelNormP.Gen.facts, Cert.KernelNormPIdeal.Gen.facts, Cert.ReferenceNormPIdeal.Gen.facts, Cert.KernelNormS.Gen.facts, Cert.KernelNormSIdeal.Gen.facts, Cert.ReferenceNormSIdeal.Gen.facts, Cert.KernelQuery.Gen.facts, Cert.KernelQueryIdeal.Gen.facts, Cert.ReferenceQueryIdeal.Gen.facts, Cert.KernelModPeer.Gen.facts, Cert.KernelModPeerIdeal.Gen.facts, Cert.ReferenceModPeerIdeal.Gen.facts, Cert.KernelModGates.Gen.facts, Cert.KernelModGatesIdeal.Gen.facts, Cert.ReferenceModGatesIdeal.Gen.facts, Cert.KernelTable.Gen.facts, Cert.KernelTableIdeal.Gen.facts, Cert.ReferenceTableIdeal.Gen.facts, Cert.KernelSpectrum.Gen.facts, Cert.KernelSpectrumIdeal.Gen.facts, Cert.ReferenceSpectrumIdeal.Gen.facts, Cert.KernelChunks.Gen.facts, Cert.KernelChunksIdeal.Gen.facts, Cert.ReferenceChunksIdeal.Gen.facts, Cert.KernelFilterP.Gen.facts, Cert.KernelFilterPIdeal.Gen.facts, Cert.ReferenceFilterPIdeal.Gen.facts, Cert.KernelHyenaP.Gen.facts, Cert.KernelHyenaPIdeal.Gen.facts, Cert.ReferenceHyenaPIdeal.Gen.facts, Cert.Pre_finite_query.Gen.facts, Cert.Pre_finite_gates.Gen.facts, Cert.Pre_finite_table.Gen.facts, Cert.Pre_finite_spectrum.Gen.facts, Cert.Pre_finite_filters.Gen.facts,
  fun m ρ _ => Cert.Kernel.Gen.frame m ρ, fun m ρ _ => Cert.KernelIdeal.Gen.frame m ρ, hyena_reference_frame,
  fun m ρ _ => Cert.KernelInProj.Gen.frame m ρ, fun m ρ _ => Cert.KernelInProjIdeal.Gen.frame m ρ, inProj_reference_frame,
  fun m ρ _ => Cert.KernelMerge.Gen.frame m ρ, fun m ρ _ => Cert.KernelMergeIdeal.Gen.frame m ρ, merge_reference_frame,
  fun m ρ _ => Cert.KernelOutProj.Gen.frame m ρ, fun m ρ _ => Cert.KernelOutProjIdeal.Gen.frame m ρ, outProj_reference_frame,
  fun m ρ _ => Cert.KernelNormP.Gen.frame m ρ, fun m ρ _ => Cert.KernelNormPIdeal.Gen.frame m ρ, normP_reference_frame,
  fun m ρ _ => Cert.KernelNormS.Gen.frame m ρ, fun m ρ _ => Cert.KernelNormSIdeal.Gen.frame m ρ, normS_reference_frame,
  fun m ρ _ => Cert.KernelQuery.Gen.frame m ρ, fun m ρ _ => Cert.KernelQueryIdeal.Gen.frame m ρ, fun m ρ _ => Cert.KernelQueryIdeal.Gen.frame m ρ, query_reference_frame, fun m ρ _ => query_reference_frame m ρ trivial,
  fun m ρ _ => Cert.KernelModPeer.Gen.frame m ρ, fun m ρ _ => Cert.KernelModPeerIdeal.Gen.frame m ρ, modPeer_reference_frame,
  fun m ρ _ => Cert.KernelModGates.Gen.frame m ρ, fun m ρ _ => Cert.KernelModGatesIdeal.Gen.frame m ρ, fun m ρ _ => Cert.KernelModGatesIdeal.Gen.frame m ρ, modGates_reference_frame, fun m ρ _ => modGates_reference_frame m ρ trivial,
  fun m ρ _ => Cert.KernelTable.Gen.frame m ρ, fun m ρ _ => Cert.KernelTableIdeal.Gen.frame m ρ, fun m ρ _ => Cert.KernelTableIdeal.Gen.frame m ρ, table_reference_frame, fun m ρ _ => table_reference_frame m ρ trivial,
  fun m ρ _ => Cert.KernelSpectrum.Gen.frame m ρ, fun m ρ _ => Cert.KernelSpectrumIdeal.Gen.frame m ρ, fun m ρ _ => Cert.KernelSpectrumIdeal.Gen.frame m ρ, spectrum_reference_frame, fun m ρ _ => spectrum_reference_frame m ρ trivial,
  fun m ρ _ => Cert.KernelChunks.Gen.frame m ρ, fun m ρ _ => Cert.KernelChunksIdeal.Gen.frame m ρ, chunks_reference_frame,
  fun m ρ _ => Cert.KernelFilterP.Gen.frame m ρ, fun m ρ _ => Cert.KernelFilterPIdeal.Gen.frame m ρ, fun m ρ _ => Cert.KernelFilterPIdeal.Gen.frame m ρ, filterP_reference_frame, fun m ρ _ => filterP_reference_frame m ρ trivial,
  fun m ρ _ => Cert.KernelHyenaP.Gen.frame m ρ, fun m ρ _ => Cert.KernelHyenaPIdeal.Gen.frame m ρ, hyenaP_reference_frame,
  trivial, hyena_algebraic, trivial, inProj_algebraic, trivial, merge_algebraic, trivial, outProj_algebraic, trivial, normP_algebraic, trivial, normS_algebraic, trivial, query_algebraic, trivial, modPeer_algebraic, trivial, modGates_algebraic, trivial, table_algebraic, trivial, spectrum_algebraic, trivial, chunks_algebraic, trivial, filterP_algebraic, trivial, hyenaP_algebraic⟩

end Cert.Proof

end
